-- ==== Defs.lean ====
def Pre_HgrnBwd (m : (ℓ : Loc Cert.HgrnBwd.nD Cert.HgrnBwd.τ Cert.HgrnBwd.sig) → Buf (Elt Bits) ℓ) : Prop :=
  True

def Pre_HgrnBwdIdeal (m : (ℓ : Loc Cert.HgrnBwdIdeal.nD Cert.HgrnBwdIdeal.τ Cert.HgrnBwdIdeal.sig) → Buf (Elt Ideal) ℓ) : Prop :=
  True

def Pre_DZ (m : (ℓ : Loc Cert.DZ.nD Cert.DZ.τ Cert.DZ.sig) → Buf (Elt Bits) ℓ) : Prop :=
  True

def Pre_DZIdeal (m : (ℓ : Loc Cert.DZIdeal.nD Cert.DZIdeal.τ Cert.DZIdeal.sig) → Buf (Elt Ideal) ℓ) : Prop :=
  True

def Pre_DZReferenceIdeal (m : (ℓ : Loc Cert.DZReferenceIdeal.nD Cert.DZReferenceIdeal.τ Cert.DZReferenceIdeal.sig) → Buf (Elt Ideal) ℓ) : Prop :=
  True

def Pre_GWDown (m : (ℓ : Loc Cert.GWDown.nD Cert.GWDown.τ Cert.GWDown.sig) → Buf (Elt Bits) ℓ) : Prop :=
  True

def Pre_GWDownIdeal (m : (ℓ : Loc Cert.GWDownIdeal.nD Cert.GWDownIdeal.τ Cert.GWDownIdeal.sig) → Buf (Elt Ideal) ℓ) : Prop :=
  True

def Pre_GWDownReferenceIdeal (m : (ℓ : Loc Cert.GWDownReferenceIdeal.nD Cert.GWDownReferenceIdeal.τ Cert.GWDownReferenceIdeal.sig) → Buf (Elt Ideal) ℓ) : Prop :=
  True

def Pre_DH3Gate (m : (ℓ : Loc Cert.DH3Gate.nD Cert.DH3Gate.τ Cert.DH3Gate.sig) → Buf (Elt Bits) ℓ) : Prop :=
  True

def Pre_DH3GateIdeal (m : (ℓ : Loc Cert.DH3GateIdeal.nD Cert.DH3GateIdeal.τ Cert.DH3GateIdeal.sig) → Buf (Elt Ideal) ℓ) : Prop :=
  True

def Pre_DH3GateReferenceIdeal (m : (ℓ : Loc Cert.DH3GateReferenceIdeal.nD Cert.DH3GateReferenceIdeal.τ Cert.DH3GateReferenceIdeal.sig) → Buf (Elt Ideal) ℓ) : Prop :=
  True

def Pre_DH3Up (m : (ℓ : Loc Cert.DH3Up.nD Cert.DH3Up.τ Cert.DH3Up.sig) → Buf (Elt Bits) ℓ) : Prop :=
  True

def Pre_DH3UpIdeal (m : (ℓ : Loc Cert.DH3UpIdeal.nD Cert.DH3UpIdeal.τ Cert.DH3UpIdeal.sig) → Buf (Elt Ideal) ℓ) : Prop :=
  True

def Pre_DH3UpReferenceIdeal (m : (ℓ : Loc Cert.DH3UpReferenceIdeal.nD Cert.DH3UpReferenceIdeal.τ Cert.DH3UpReferenceIdeal.sig) → Buf (Elt Ideal) ℓ) : Prop :=
  True

def Pre_GWGate (m : (ℓ : Loc Cert.GWGate.nD Cert.GWGate.τ Cert.GWGate.sig) → Buf (Elt Bits) ℓ) : Prop :=
  True

def Pre_GWGateIdeal (m : (ℓ : Loc Cert.GWGateIdeal.nD Cert.GWGateIdeal.τ Cert.GWGateIdeal.sig) → Buf (Elt Ideal) ℓ) : Prop :=
  True

def Pre_GWGateReferenceIdeal (m : (ℓ : Loc Cert.GWGateReferenceIdeal.nD Cert.GWGateReferenceIdeal.τ Cert.GWGateReferenceIdeal.sig) → Buf (Elt Ideal) ℓ) : Prop :=
  True

def Pre_DAtt (m : (ℓ : Loc Cert.DAtt.nD Cert.DAtt.τ Cert.DAtt.sig) → Buf (Elt Bits) ℓ) : Prop :=
  True

def Pre_DAttIdeal (m : (ℓ : Loc Cert.DAttIdeal.nD Cert.DAttIdeal.τ Cert.DAttIdeal.sig) → Buf (Elt Ideal) ℓ) : Prop :=
  True

def Pre_DAttReferenceIdeal (m : (ℓ : Loc Cert.DAttReferenceIdeal.nD Cert.DAttReferenceIdeal.τ Cert.DAttReferenceIdeal.sig) → Buf (Elt Ideal) ℓ) : Prop :=
  True

def Pre_GWo (m : (ℓ : Loc Cert.GWo.nD Cert.GWo.τ Cert.GWo.sig) → Buf (Elt Bits) ℓ) : Prop :=
  True

def Pre_GWoIdeal (m : (ℓ : Loc Cert.GWoIdeal.nD Cert.GWoIdeal.τ Cert.GWoIdeal.sig) → Buf (Elt Ideal) ℓ) : Prop :=
  True

def Pre_GWoReferenceIdeal (m : (ℓ : Loc Cert.GWoReferenceIdeal.nD Cert.GWoReferenceIdeal.τ Cert.GWoReferenceIdeal.sig) → Buf (Elt Ideal) ℓ) : Prop :=
  True

def Pre_GWk (m : (ℓ : Loc Cert.GWk.nD Cert.GWk.τ Cert.GWk.sig) → Buf (Elt Bits) ℓ) : Prop :=
  True

def Pre_GWkIdeal (m : (ℓ : Loc Cert.GWkIdeal.nD Cert.GWkIdeal.τ Cert.GWkIdeal.sig) → Buf (Elt Ideal) ℓ) : Prop :=
  True

def Pre_GWkReferenceIdeal (m : (ℓ : Loc Cert.GWkReferenceIdeal.nD Cert.GWkReferenceIdeal.τ Cert.GWkReferenceIdeal.sig) → Buf (Elt Ideal) ℓ) : Prop :=
  True

def Pre_DMemK (m : (ℓ : Loc Cert.DMemK.nD Cert.DMemK.τ Cert.DMemK.sig) → Buf (Elt Bits) ℓ) : Prop :=
  True

def Pre_DMemKIdeal (m : (ℓ : Loc Cert.DMemKIdeal.nD Cert.DMemKIdeal.τ Cert.DMemKIdeal.sig) → Buf (Elt Ideal) ℓ) : Prop :=
  True

def Pre_DMemKReferenceIdeal (m : (ℓ : Loc Cert.DMemKReferenceIdeal.nD Cert.DMemKReferenceIdeal.τ Cert.DMemKReferenceIdeal.sig) → Buf (Elt Ideal) ℓ) : Prop :=
  True

def Pre_DMemV (m : (ℓ : Loc Cert.DMemV.nD Cert.DMemV.τ Cert.DMemV.sig) → Buf (Elt Bits) ℓ) : Prop :=
  True

def Pre_DMemVIdeal (m : (ℓ : Loc Cert.DMemVIdeal.nD Cert.DMemVIdeal.τ Cert.DMemVIdeal.sig) → Buf (Elt Ideal) ℓ) : Prop :=
  True

def Pre_DMemVReferenceIdeal (m : (ℓ : Loc Cert.DMemVReferenceIdeal.nD Cert.DMemVReferenceIdeal.τ Cert.DMemVReferenceIdeal.sig) → Buf (Elt Ideal) ℓ) : Prop :=
  True

def Pre_GWIn (m : (ℓ : Loc Cert.GWIn.nD Cert.GWIn.τ Cert.GWIn.sig) → Buf (Elt Bits) ℓ) : Prop :=
  True

def Pre_GWInIdeal (m : (ℓ : Loc Cert.GWInIdeal.nD Cert.GWInIdeal.τ Cert.GWInIdeal.sig) → Buf (Elt Ideal) ℓ) : Prop :=
  True

def Pre_GWInReferenceIdeal (m : (ℓ : Loc Cert.GWInReferenceIdeal.nD Cert.GWInReferenceIdeal.τ Cert.GWInReferenceIdeal.sig) → Buf (Elt Ideal) ℓ) : Prop :=
  True

def Pre_DH1 (m : (ℓ : Loc Cert.DH1.nD Cert.DH1.τ Cert.DH1.sig) → Buf (Elt Bits) ℓ) : Prop :=
  True

def Pre_DH1Ideal (m : (ℓ : Loc Cert.DH1Ideal.nD Cert.DH1Ideal.τ Cert.DH1Ideal.sig) → Buf (Elt Ideal) ℓ) : Prop :=
  True

def Pre_DH1ReferenceIdeal (m : (ℓ : Loc Cert.DH1ReferenceIdeal.nD Cert.DH1ReferenceIdeal.τ Cert.DH1ReferenceIdeal.sig) → Buf (Elt Ideal) ℓ) : Prop :=
  True

def Pre_FfnGate (m : (ℓ : Loc Cert.FfnGate.nD Cert.FfnGate.τ Cert.FfnGate.sig) → Buf (Elt Bits) ℓ) : Prop :=
  True

def Pre_FfnGateIdeal (m : (ℓ : Loc Cert.FfnGateIdeal.nD Cert.FfnGateIdeal.τ Cert.FfnGateIdeal.sig) → Buf (Elt Ideal) ℓ) : Prop :=
  True

def Pre_FfnGateReferenceIdeal (m : (ℓ : Loc Cert.FfnGateReferenceIdeal.nD Cert.FfnGateReferenceIdeal.τ Cert.FfnGateReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownReferenceIdeal (m : (ℓ : Loc Cert.FfnDownReferenceIdeal.nD Cert.FfnDownReferenceIdeal.τ Cert.FfnDownReferenceIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutReferenceIdeal (m : (ℓ : Loc Cert.ProjOutReferenceIdeal.nD Cert.ProjOutReferenceIdeal.τ Cert.ProjOutReferenceIdeal.sig) → Buf (Elt Ideal) ℓ) : Prop :=
  True

def Pre_AttnQ (m : (ℓ : Loc Cert.AttnQ.nD Cert.AttnQ.τ Cert.AttnQ.sig) → Buf (Elt Bits) ℓ) : Prop :=
  True

def Pre_AttnQIdeal (m : (ℓ : Loc Cert.AttnQIdeal.nD Cert.AttnQIdeal.τ Cert.AttnQIdeal.sig) → Buf (Elt Ideal) ℓ) : Prop :=
  True

def Pre_AttnQReferenceIdeal (m : (ℓ : Loc Cert.AttnQReferenceIdeal.nD Cert.AttnQReferenceIdeal.τ Cert.AttnQReferenceIdeal.sig) → Buf (Elt Ideal) ℓ) : Prop :=
  True

def Pre_AttnK (m : (ℓ : Loc Cert.AttnK.nD Cert.AttnK.τ Cert.AttnK.sig) → Buf (Elt Bits) ℓ) : Prop :=
  True

def Pre_AttnKIdeal (m : (ℓ : Loc Cert.AttnKIdeal.nD Cert.AttnKIdeal.τ Cert.AttnKIdeal.sig) → Buf (Elt Ideal) ℓ) : Prop :=
  True

def Pre_AttnKReferenceIdeal (m : (ℓ : Loc Cert.AttnKReferenceIdeal.nD Cert.AttnKReferenceIdeal.τ Cert.AttnKReferenceIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdReferenceIdeal (m : (ℓ : Loc Cert.NormFwdReferenceIdeal.nD Cert.NormFwdReferenceIdeal.τ Cert.NormFwdReferenceIdeal.sig) → Buf (Elt Ideal) ℓ) : Prop :=
  True

def Pre_NormMem (m : (ℓ : Loc Cert.NormMem.nD Cert.NormMem.τ Cert.NormMem.sig) → Buf (Elt Bits) ℓ) : Prop :=
  True

def Pre_NormMemIdeal (m : (ℓ : Loc Cert.NormMemIdeal.nD Cert.NormMemIdeal.τ Cert.NormMemIdeal.sig) → Buf (Elt Ideal) ℓ) : Prop :=
  True

def Pre_NormMemReferenceIdeal (m : (ℓ : Loc Cert.NormMemReferenceIdeal.nD Cert.NormMemReferenceIdeal.τ Cert.NormMemReferenceIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdReferenceIdeal (m : (ℓ : Loc Cert.NormBwdReferenceIdeal.nD Cert.NormBwdReferenceIdeal.τ Cert.NormBwdReferenceIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdReferenceIdeal (m : (ℓ : Loc Cert.NormMemBwdReferenceIdeal.nD Cert.NormMemBwdReferenceIdeal.τ Cert.NormMemBwdReferenceIdeal.sig) → Buf (Elt Ideal) ℓ) : Prop :=
  True

def Pre_LossBwd (m : (ℓ : Loc Cert.LossBwd.nD Cert.LossBwd.τ Cert.LossBwd.sig) → Buf (Elt Bits) ℓ) : Prop :=
  True

def Pre_LossBwdIdeal (m : (ℓ : Loc Cert.LossBwdIdeal.nD Cert.LossBwdIdeal.τ Cert.LossBwdIdeal.sig) → Buf (Elt Ideal) ℓ) : Prop :=
  True

def Pre_LossBwdReferenceIdeal (m : (ℓ : Loc Cert.LossBwdReferenceIdeal.nD Cert.LossBwdReferenceIdeal.τ Cert.LossBwdReferenceIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdReferenceIdeal (m : (ℓ : Loc Cert.FfnFwdReferenceIdeal.nD Cert.FfnFwdReferenceIdeal.τ Cert.FfnFwdReferenceIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_bwd_finite [hPre_ffn_bwd_finite : Cert.Pre_ffn_bwd_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).1 = (fun _ => 1#1)
    ∧ (Cert.Pre_ffn_bwd_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4))).2 = (fun _ => 1#1)

def Pre_FfnBwdReferenceIdeal (m : (ℓ : Loc Cert.FfnBwdReferenceIdeal.nD Cert.FfnBwdReferenceIdeal.τ Cert.FfnBwdReferenceIdeal.sig) → Buf (Elt Ideal) ℓ) : Prop :=
  True

def Pre_FfnBwdReferenceIdeal_ffn_bwd_finite [hPre_ffn_bwd_finite : Cert.Pre_ffn_bwd_finite.Facts] (m : (ℓ : Loc Cert.FfnBwdReferenceIdeal.nD Cert.FfnBwdReferenceIdeal.τ Cert.FfnBwdReferenceIdeal.sig) → Buf (Elt Ideal) ℓ) : Prop :=
  ∀ c : Dev Cert.FfnBwdReferenceIdeal.nD,
    (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).1 = (fun _ => 1#1)
    ∧ (Cert.Pre_ffn_bwd_finite.fn (F := Ideal) (m ((c.tc : Thread Cert.FfnBwdReferenceIdeal.nD Cert.FfnBwdReferenceIdeal.τ).loc Cert.FfnBwdReferenceIdeal.main_arg0)) (m ((c.tc : Thread Cert.FfnBwdReferenceIdeal.nD Cert.FfnBwdReferenceIdeal.τ).loc Cert.FfnBwdReferenceIdeal.main_arg1)) (m ((c.tc : Thread Cert.FfnBwdReferenceIdeal.nD Cert.FfnBwdReferenceIdeal.τ).loc Cert.FfnBwdReferenceIdeal.main_arg2)) (m ((c.tc : Thread Cert.FfnBwdReferenceIdeal.nD Cert.FfnBwdReferenceIdeal.τ).loc Cert.FfnBwdReferenceIdeal.main_arg3)) (m ((c.tc : Thread Cert.FfnBwdReferenceIdeal.nD Cert.FfnBwdReferenceIdeal.τ).loc Cert.FfnBwdReferenceIdeal.main_arg4))).2 = (fun _ => 1#1)

def Pre_SconvFwd (m : (ℓ : Loc Cert.SconvFwd.nD Cert.SconvFwd.τ Cert.SconvFwd.sig) → Buf (Elt Bits) ℓ) : Prop :=
  True

def Pre_SconvFwdIdeal (m : (ℓ : Loc Cert.SconvFwdIdeal.nD Cert.SconvFwdIdeal.τ Cert.SconvFwdIdeal.sig) → Buf (Elt Ideal) ℓ) : Prop :=
  True

def Pre_SconvFwdReferenceIdeal (m : (ℓ : Loc Cert.SconvFwdReferenceIdeal.nD Cert.SconvFwdReferenceIdeal.τ Cert.SconvFwdReferenceIdeal.sig) → Buf (Elt Ideal) ℓ) : Prop :=
  True

def Pre_SconvBwd (m : (ℓ : Loc Cert.SconvBwd.nD Cert.SconvBwd.τ Cert.SconvBwd.sig) → Buf (Elt Bits) ℓ) : Prop :=
  True

def Pre_SconvBwdIdeal (m : (ℓ : Loc Cert.SconvBwdIdeal.nD Cert.SconvBwdIdeal.τ Cert.SconvBwdIdeal.sig) → Buf (Elt Ideal) ℓ) : Prop :=
  True

def Pre_SconvBwdReferenceIdeal (m : (ℓ : Loc Cert.SconvBwdReferenceIdeal.nD Cert.SconvBwdReferenceIdeal.τ Cert.SconvBwdReferenceIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdReferenceIdeal (m : (ℓ : Loc Cert.AttnFwdReferenceIdeal.nD Cert.AttnFwdReferenceIdeal.τ Cert.AttnFwdReferenceIdeal.sig) → Buf (Elt Ideal) ℓ) : Prop :=
  True

def Pre_AdamLb (m : (ℓ : Loc Cert.AdamLb.nD Cert.AdamLb.τ Cert.AdamLb.sig) → Buf (Elt Bits) ℓ) : Prop :=
  True

def Pre_AdamLbIdeal (m : (ℓ : Loc Cert.AdamLbIdeal.nD Cert.AdamLbIdeal.τ Cert.AdamLbIdeal.sig) → Buf (Elt Ideal) ℓ) : Prop :=
  True

def Pre_AdamLbReferenceIdeal (m : (ℓ : Loc Cert.AdamLbReferenceIdeal.nD Cert.AdamLbReferenceIdeal.τ Cert.AdamLbReferenceIdeal.sig) → Buf (Elt Ideal) ℓ) : Prop :=
  True

def Pre_AdamNorm (m : (ℓ : Loc Cert.AdamNorm.nD Cert.AdamNorm.τ Cert.AdamNorm.sig) → Buf (Elt Bits) ℓ) : Prop :=
  True

def Pre_AdamNormIdeal (m : (ℓ : Loc Cert.AdamNormIdeal.nD Cert.AdamNormIdeal.τ Cert.AdamNormIdeal.sig) → Buf (Elt Ideal) ℓ) : Prop :=
  True

def Pre_AdamNormReferenceIdeal (m : (ℓ : Loc Cert.AdamNormReferenceIdeal.nD Cert.AdamNormReferenceIdeal.τ Cert.AdamNormReferenceIdeal.sig) → Buf (Elt Ideal) ℓ) : Prop :=
  True

def Pre_AdamHead (m : (ℓ : Loc Cert.AdamHead.nD Cert.AdamHead.τ Cert.AdamHead.sig) → Buf (Elt Bits) ℓ) : Prop :=
  True

def Pre_AdamHeadIdeal (m : (ℓ : Loc Cert.AdamHeadIdeal.nD Cert.AdamHeadIdeal.τ Cert.AdamHeadIdeal.sig) → Buf (Elt Ideal) ℓ) : Prop :=
  True

def Pre_AdamHeadReferenceIdeal (m : (ℓ : Loc Cert.AdamHeadReferenceIdeal.nD Cert.AdamHeadReferenceIdeal.τ Cert.AdamHeadReferenceIdeal.sig) → Buf (Elt Ideal) ℓ) : Prop :=
  True

def Pre_AdamSconv (m : (ℓ : Loc Cert.AdamSconv.nD Cert.AdamSconv.τ Cert.AdamSconv.sig) → Buf (Elt Bits) ℓ) : Prop :=
  True

def Pre_AdamSconvIdeal (m : (ℓ : Loc Cert.AdamSconvIdeal.nD Cert.AdamSconvIdeal.τ Cert.AdamSconvIdeal.sig) → Buf (Elt Ideal) ℓ) : Prop :=
  True

def Pre_AdamSconvReferenceIdeal (m : (ℓ : Loc Cert.AdamSconvReferenceIdeal.nD Cert.AdamSconvReferenceIdeal.τ Cert.AdamSconvReferenceIdeal.sig) → Buf (Elt Ideal) ℓ) : Prop :=
  True

def Pre_AdamFconv (m : (ℓ : Loc Cert.AdamFconv.nD Cert.AdamFconv.τ Cert.AdamFconv.sig) → Buf (Elt Bits) ℓ) : Prop :=
  True

def Pre_AdamFconvIdeal (m : (ℓ : Loc Cert.AdamFconvIdeal.nD Cert.AdamFconvIdeal.τ Cert.AdamFconvIdeal.sig) → Buf (Elt Ideal) ℓ) : Prop :=
  True

def Pre_AdamFconvReferenceIdeal (m : (ℓ : Loc Cert.AdamFconvReferenceIdeal.nD Cert.AdamFconvReferenceIdeal.τ Cert.AdamFconvReferenceIdeal.sig) → Buf (Elt Ideal) ℓ) : Prop :=
  True

def Pre_AdamFbias (m : (ℓ : Loc Cert.AdamFbias.nD Cert.AdamFbias.τ Cert.AdamFbias.sig) → Buf (Elt Bits) ℓ) : Prop :=
  True

def Pre_AdamFbiasIdeal (m : (ℓ : Loc Cert.AdamFbiasIdeal.nD Cert.AdamFbiasIdeal.τ Cert.AdamFbiasIdeal.sig) → Buf (Elt Ideal) ℓ) : Prop :=
  True

def Pre_AdamFbiasReferenceIdeal (m : (ℓ : Loc Cert.AdamFbiasReferenceIdeal.nD Cert.AdamFbiasReferenceIdeal.τ Cert.AdamFbiasReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareReferenceIdeal (m : (ℓ : Loc Cert.AdamSquareReferenceIdeal.nD Cert.AdamSquareReferenceIdeal.τ Cert.AdamSquareReferenceIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnReferenceIdeal (m : (ℓ : Loc Cert.AdamFfnReferenceIdeal.nD Cert.AdamFfnReferenceIdeal.τ Cert.AdamFfnReferenceIdeal.sig) → Buf (Elt Ideal) ℓ) : Prop :=
  True

def Pre_AdamDown (m : (ℓ : Loc Cert.AdamDown.nD Cert.AdamDown.τ Cert.AdamDown.sig) → Buf (Elt Bits) ℓ) : Prop :=
  True

def Pre_AdamDownIdeal (m : (ℓ : Loc Cert.AdamDownIdeal.nD Cert.AdamDownIdeal.τ Cert.AdamDownIdeal.sig) → Buf (Elt Ideal) ℓ) : Prop :=
  True

def Pre_AdamDownReferenceIdeal (m : (ℓ : Loc Cert.AdamDownReferenceIdeal.nD Cert.AdamDownReferenceIdeal.τ Cert.AdamDownReferenceIdeal.sig) → Buf (Elt Ideal) ℓ) : Prop :=
  True

def Pre_ProjIn [hPre_proj_in_windows : Cert.Pre_proj_in_windows.Facts] (m : (ℓ : Loc Cert.ProjIn.nD Cert.ProjIn.τ Cert.ProjIn.sig) → Buf (Elt Bits) ℓ) : Prop :=
  ∀ c : Dev Cert.ProjIn.nD,
    (Cert.Pre_proj_in_windows.fn (F := Bits) (m ((c.tc : Thread Cert.ProjIn.nD Cert.ProjIn.τ).loc Cert.ProjIn.main_arg0)) (m ((c.tc : Thread Cert.ProjIn.nD Cert.ProjIn.τ).loc Cert.ProjIn.main_arg1)) (m ((c.tc : Thread Cert.ProjIn.nD Cert.ProjIn.τ).loc Cert.ProjIn.main_arg2)) (m ((c.tc : Thread Cert.ProjIn.nD Cert.ProjIn.τ).loc Cert.ProjIn.main_arg3))).1 = (fun _ => 1#1)
    ∧ (Cert.Pre_proj_in_windows.fn (F := Bits) (m ((c.tc : Thread Cert.ProjIn.nD Cert.ProjIn.τ).loc Cert.ProjIn.main_arg0)) (m ((c.tc : Thread Cert.ProjIn.nD Cert.ProjIn.τ).loc Cert.ProjIn.main_arg1)) (m ((c.tc : Thread Cert.ProjIn.nD Cert.ProjIn.τ).loc Cert.ProjIn.main_arg2)) (m ((c.tc : Thread Cert.ProjIn.nD Cert.ProjIn.τ).loc Cert.ProjIn.main_arg3))).2 = (fun _ => 1#1)

def Pre_ProjInIdeal [hPre_proj_in_windows : Cert.Pre_proj_in_windows.Facts] (m : (ℓ : Loc Cert.ProjInIdeal.nD Cert.ProjInIdeal.τ Cert.ProjInIdeal.sig) → Buf (Elt Ideal) ℓ) : Prop :=
  ∀ c : Dev Cert.ProjInIdeal.nD,
    (Cert.Pre_proj_in_windows.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3))).1 = (fun _ => 1#1)
    ∧ (Cert.Pre_proj_in_windows.fn (F := Ideal) (m ((c.tc : Thread Cert.ProjInIdeal.nD Cert.ProjInIdeal.τ).loc Cert.ProjInIdeal.main_arg0)) (m ((c.tc : Thread Cert.ProjInIdeal.nD Cert.ProjInIdeal.τ).loc Cert.ProjInIdeal.main_arg1)) (m ((c.tc : Thread Cert.ProjInIdeal.nD Cert.ProjInIdeal.τ).loc Cert.ProjInIdeal.main_arg2)) (m ((c.tc : Thread Cert.ProjInIdeal.nD Cert.ProjInIdeal.τ).loc Cert.ProjInIdeal.main_arg3))).2 = (fun _ => 1#1)

def Pre_ProjInReferenceIdeal (m : (ℓ : Loc Cert.ProjInReferenceIdeal.nD Cert.ProjInReferenceIdeal.τ Cert.ProjInReferenceIdeal.sig) → Buf (Elt Ideal) ℓ) : Prop :=
  True

def Pre_ProjInReferenceIdeal_proj_in_windows [hPre_proj_in_windows : Cert.Pre_proj_in_windows.Facts] (m : (ℓ : Loc Cert.ProjInReferenceIdeal.nD Cert.ProjInReferenceIdeal.τ Cert.ProjInReferenceIdeal.sig) → Buf (Elt Ideal) ℓ) : Prop :=
  ∀ c : Dev Cert.ProjInReferenceIdeal.nD,
    (Cert.Pre_proj_in_windows.fn (F := Ideal) (m ((c.tc : Thread Cert.ProjInReferenceIdeal.nD Cert.ProjInReferenceIdeal.τ).loc Cert.ProjInReferenceIdeal.main_arg0)) (m ((c.tc : Thread Cert.ProjInReferenceIdeal.nD Cert.ProjInReferenceIdeal.τ).loc Cert.ProjInReferenceIdeal.main_arg1)) (m ((c.tc : Thread Cert.ProjInReferenceIdeal.nD Cert.ProjInReferenceIdeal.τ).loc Cert.ProjInReferenceIdeal.main_arg2)) (m ((c.tc : Thread Cert.ProjInReferenceIdeal.nD Cert.ProjInReferenceIdeal.τ).loc Cert.ProjInReferenceIdeal.main_arg3))).1 = (fun _ => 1#1)
    ∧ (Cert.Pre_proj_in_windows.fn (F := Ideal) (m ((c.tc : Thread Cert.ProjInReferenceIdeal.nD Cert.ProjInReferenceIdeal.τ).loc Cert.ProjInReferenceIdeal.main_arg0)) (m ((c.tc : Thread Cert.ProjInReferenceIdeal.nD Cert.ProjInReferenceIdeal.τ).loc Cert.ProjInReferenceIdeal.main_arg1)) (m ((c.tc : Thread Cert.ProjInReferenceIdeal.nD Cert.ProjInReferenceIdeal.τ).loc Cert.ProjInReferenceIdeal.main_arg2)) (m ((c.tc : Thread Cert.ProjInReferenceIdeal.nD Cert.ProjInReferenceIdeal.τ).loc Cert.ProjInReferenceIdeal.main_arg3))).2 = (fun _ => 1#1)

def quiescent_HgrnBwd [hHgrnBwd : Cert.HgrnBwd.Facts] : Prop :=
  ∀ (m : (ℓ : Loc Cert.HgrnBwd.nD Cert.HgrnBwd.τ Cert.HgrnBwd.sig) → Buf (Elt Bits) ℓ) (g : Dev Cert.HgrnBwd.nD → PrngReg), Pre_HgrnBwd m →
    θ_run (Cert.HgrnBwd.defs (F := Bits)) (onTc (τ := Cert.HgrnBwd.τ) (Cert.HgrnBwd.main (F := Bits))) ⟨m, fun _ => 0, g⟩ (fun r => (∀ c : Dev Cert.HgrnBwd.nD,
      r.2.mem ((c.tc : Thread Cert.HgrnBwd.nD Cert.HgrnBwd.τ).loc Cert.HgrnBwd.main_arg0) = m ((c.tc : Thread Cert.HgrnBwd.nD Cert.HgrnBwd.τ).loc Cert.HgrnBwd.main_arg0)
      ∧ r.2.mem ((c.tc : Thread Cert.HgrnBwd.nD Cert.HgrnBwd.τ).loc Cert.HgrnBwd.main_arg1) = m ((c.tc : Thread Cert.HgrnBwd.nD Cert.HgrnBwd.τ).loc Cert.HgrnBwd.main_arg1)
      ∧ r.2.mem ((c.tc : Thread Cert.HgrnBwd.nD Cert.HgrnBwd.τ).loc Cert.HgrnBwd.main_arg2) = m ((c.tc : Thread Cert.HgrnBwd.nD Cert.HgrnBwd.τ).loc Cert.HgrnBwd.main_arg2)
      ∧ r.2.mem ((c.tc : Thread Cert.HgrnBwd.nD Cert.HgrnBwd.τ).loc Cert.HgrnBwd.main_arg3) = m ((c.tc : Thread Cert.HgrnBwd.nD Cert.HgrnBwd.τ).loc Cert.HgrnBwd.main_arg3)
      ∧ r.2.mem ((c.tc : Thread Cert.HgrnBwd.nD Cert.HgrnBwd.τ).loc Cert.HgrnBwd.main_arg4) = m ((c.tc : Thread Cert.HgrnBwd.nD Cert.HgrnBwd.τ).loc Cert.HgrnBwd.main_arg4)
      ∧ r.2.mem ((c.tc : Thread Cert.HgrnBwd.nD Cert.HgrnBwd.τ).loc Cert.HgrnBwd.main_arg5) = m ((c.tc : Thread Cert.HgrnBwd.nD Cert.HgrnBwd.τ).loc Cert.HgrnBwd.main_arg5))
      ∧ r.2.sem = fun _ => 0)

def quiescent_HgrnBwdIdeal [hHgrnBwdIdeal : Cert.HgrnBwdIdeal.Facts] : Prop :=
  ∀ (m : (ℓ : Loc Cert.HgrnBwdIdeal.nD Cert.HgrnBwdIdeal.τ Cert.HgrnBwdIdeal.sig) → Buf (Elt Ideal) ℓ) (g : Dev Cert.HgrnBwdIdeal.nD → PrngReg), Pre_HgrnBwdIdeal m →
    θ_run (Cert.HgrnBwdIdeal.defs (F := Ideal)) (onTc (τ := Cert.HgrnBwdIdeal.τ) (Cert.HgrnBwdIdeal.main (F := Ideal))) ⟨m, fun _ => 0, g⟩ (fun r => (∀ c : Dev Cert.HgrnBwdIdeal.nD,
      r.2.mem ((c.tc : Thread Cert.HgrnBwdIdeal.nD Cert.HgrnBwdIdeal.τ).loc Cert.HgrnBwdIdeal.main_arg0) = m ((c.tc : Thread Cert.HgrnBwdIdeal.nD Cert.HgrnBwdIdeal.τ).loc Cert.HgrnBwdIdeal.main_arg0)
      ∧ r.2.mem ((c.tc : Thread Cert.HgrnBwdIdeal.nD Cert.HgrnBwdIdeal.τ).loc Cert.HgrnBwdIdeal.main_arg1) = m ((c.tc : Thread Cert.HgrnBwdIdeal.nD Cert.HgrnBwdIdeal.τ).loc Cert.HgrnBwdIdeal.main_arg1)
      ∧ r.2.mem ((c.tc : Thread Cert.HgrnBwdIdeal.nD Cert.HgrnBwdIdeal.τ).loc Cert.HgrnBwdIdeal.main_arg2) = m ((c.tc : Thread Cert.HgrnBwdIdeal.nD Cert.HgrnBwdIdeal.τ).loc Cert.HgrnBwdIdeal.main_arg2)
      ∧ r.2.mem ((c.tc : Thread Cert.HgrnBwdIdeal.nD Cert.HgrnBwdIdeal.τ).loc Cert.HgrnBwdIdeal.main_arg3) = m ((c.tc : Thread Cert.HgrnBwdIdeal.nD Cert.HgrnBwdIdeal.τ).loc Cert.HgrnBwdIdeal.main_arg3)
      ∧ r.2.mem ((c.tc : Thread Cert.HgrnBwdIdeal.nD Cert.HgrnBwdIdeal.τ).loc Cert.HgrnBwdIdeal.main_arg4) = m ((c.tc : Thread Cert.HgrnBwdIdeal.nD Cert.HgrnBwdIdeal.τ).loc Cert.HgrnBwdIdeal.main_arg4)
      ∧ r.2.mem ((c.tc : Thread Cert.HgrnBwdIdeal.nD Cert.HgrnBwdIdeal.τ).loc Cert.HgrnBwdIdeal.main_arg5) = m ((c.tc : Thread Cert.HgrnBwdIdeal.nD Cert.HgrnBwdIdeal.τ).loc Cert.HgrnBwdIdeal.main_arg5))
      ∧ r.2.sem = fun _ => 0)

def quiescent_DZ [hDZ : Cert.DZ.Facts] : Prop :=
  ∀ (m : (ℓ : Loc Cert.DZ.nD Cert.DZ.τ Cert.DZ.sig) → Buf (Elt Bits) ℓ) (g : Dev Cert.DZ.nD → PrngReg), Pre_DZ m →
    θ_run (Cert.DZ.defs (F := Bits)) (onTc (τ := Cert.DZ.τ) (Cert.DZ.main (F := Bits))) ⟨m, fun _ => 0, g⟩ (fun r => (∀ c : Dev Cert.DZ.nD,
      r.2.mem ((c.tc : Thread Cert.DZ.nD Cert.DZ.τ).loc Cert.DZ.main_arg0) = m ((c.tc : Thread Cert.DZ.nD Cert.DZ.τ).loc Cert.DZ.main_arg0)
      ∧ r.2.mem ((c.tc : Thread Cert.DZ.nD Cert.DZ.τ).loc Cert.DZ.main_arg1) = m ((c.tc : Thread Cert.DZ.nD Cert.DZ.τ).loc Cert.DZ.main_arg1))
      ∧ r.2.sem = fun _ => 0)

def quiescent_DZIdeal [hDZIdeal : Cert.DZIdeal.Facts] : Prop :=
  ∀ (m : (ℓ : Loc Cert.DZIdeal.nD Cert.DZIdeal.τ Cert.DZIdeal.sig) → Buf (Elt Ideal) ℓ) (g : Dev Cert.DZIdeal.nD → PrngReg), Pre_DZIdeal m →
    θ_run (Cert.DZIdeal.defs (F := Ideal)) (onTc (τ := Cert.DZIdeal.τ) (Cert.DZIdeal.main (F := Ideal))) ⟨m, fun _ => 0, g⟩ (fun r => (∀ c : Dev Cert.DZIdeal.nD,
      r.2.mem ((c.tc : Thread Cert.DZIdeal.nD Cert.DZIdeal.τ).loc Cert.DZIdeal.main_arg0) = m ((c.tc : Thread Cert.DZIdeal.nD Cert.DZIdeal.τ).loc Cert.DZIdeal.main_arg0)
      ∧ r.2.mem ((c.tc : Thread Cert.DZIdeal.nD Cert.DZIdeal.τ).loc Cert.DZIdeal.main_arg1) = m ((c.tc : Thread Cert.DZIdeal.nD Cert.DZIdeal.τ).loc Cert.DZIdeal.main_arg1))
      ∧ r.2.sem = fun _ => 0)

def quiescent_DZReferenceIdeal [hDZReferenceIdeal : Cert.DZReferenceIdeal.Facts] : Prop :=
  ∀ (m : (ℓ : Loc Cert.DZReferenceIdeal.nD Cert.DZReferenceIdeal.τ Cert.DZReferenceIdeal.sig) → Buf (Elt Ideal) ℓ) (g : Dev Cert.DZReferenceIdeal.nD → PrngReg), Pre_DZReferenceIdeal m →
    θ_run (Cert.DZReferenceIdeal.defs (F := Ideal)) (onTc (τ := Cert.DZReferenceIdeal.τ) (Cert.DZReferenceIdeal.main (F := Ideal))) ⟨m, fun _ => 0, g⟩ (fun r => (∀ c : Dev Cert.DZReferenceIdeal.nD,
      r.2.mem ((c.tc : Thread Cert.DZReferenceIdeal.nD Cert.DZReferenceIdeal.τ).loc Cert.DZReferenceIdeal.main_arg0) = m ((c.tc : Thread Cert.DZReferenceIdeal.nD Cert.DZReferenceIdeal.τ).loc Cert.DZReferenceIdeal.main_arg0)
      ∧ r.2.mem ((c.tc : Thread Cert.DZReferenceIdeal.nD Cert.DZReferenceIdeal.τ).loc Cert.DZReferenceIdeal.main_arg1) = m ((c.tc : Thread Cert.DZReferenceIdeal.nD Cert.DZReferenceIdeal.τ).loc Cert.DZReferenceIdeal.main_arg1))
      ∧ r.2.sem = fun _ => 0)

def quiescent_GWDown [hGWDown : Cert.GWDown.Facts] : Prop :=
  ∀ (m : (ℓ : Loc Cert.GWDown.nD Cert.GWDown.τ Cert.GWDown.sig) → Buf (Elt Bits) ℓ) (g : Dev Cert.GWDown.nD → PrngReg), Pre_GWDown m →
    θ_run (Cert.GWDown.defs (F := Bits)) (onTc (τ := Cert.GWDown.τ) (Cert.GWDown.main (F := Bits))) ⟨m, fun _ => 0, g⟩ (fun r => (∀ c : Dev Cert.GWDown.nD,
      r.2.mem ((c.tc : Thread Cert.GWDown.nD Cert.GWDown.τ).loc Cert.GWDown.main_arg0) = m ((c.tc : Thread Cert.GWDown.nD Cert.GWDown.τ).loc Cert.GWDown.main_arg0)
      ∧ r.2.mem ((c.tc : Thread Cert.GWDown.nD Cert.GWDown.τ).loc Cert.GWDown.main_arg1) = m ((c.tc : Thread Cert.GWDown.nD Cert.GWDown.τ).loc Cert.GWDown.main_arg1))
      ∧ r.2.sem = fun _ => 0)

def quiescent_GWDownIdeal [hGWDownIdeal : Cert.GWDownIdeal.Facts] : Prop :=
  ∀ (m : (ℓ : Loc Cert.GWDownIdeal.nD Cert.GWDownIdeal.τ Cert.GWDownIdeal.sig) → Buf (Elt Ideal) ℓ) (g : Dev Cert.GWDownIdeal.nD → PrngReg), Pre_GWDownIdeal m →
    θ_run (Cert.GWDownIdeal.defs (F := Ideal)) (onTc (τ := Cert.GWDownIdeal.τ) (Cert.GWDownIdeal.main (F := Ideal))) ⟨m, fun _ => 0, g⟩ (fun r => (∀ c : Dev Cert.GWDownIdeal.nD,
      r.2.mem ((c.tc : Thread Cert.GWDownIdeal.nD Cert.GWDownIdeal.τ).loc Cert.GWDownIdeal.main_arg0) = m ((c.tc : Thread Cert.GWDownIdeal.nD Cert.GWDownIdeal.τ).loc Cert.GWDownIdeal.main_arg0)
      ∧ r.2.mem ((c.tc : Thread Cert.GWDownIdeal.nD Cert.GWDownIdeal.τ).loc Cert.GWDownIdeal.main_arg1) = m ((c.tc : Thread Cert.GWDownIdeal.nD Cert.GWDownIdeal.τ).loc Cert.GWDownIdeal.main_arg1))
      ∧ r.2.sem = fun _ => 0)

def quiescent_GWDownReferenceIdeal [hGWDownReferenceIdeal : Cert.GWDownReferenceIdeal.Facts] : Prop :=
  ∀ (m : (ℓ : Loc Cert.GWDownReferenceIdeal.nD Cert.GWDownReferenceIdeal.τ Cert.GWDownReferenceIdeal.sig) → Buf (Elt Ideal) ℓ) (g : Dev Cert.GWDownReferenceIdeal.nD → PrngReg), Pre_GWDownReferenceIdeal m →
    θ_run (Cert.GWDownReferenceIdeal.defs (F := Ideal)) (onTc (τ := Cert.GWDownReferenceIdeal.τ) (Cert.GWDownReferenceIdeal.main (F := Ideal))) ⟨m, fun _ => 0, g⟩ (fun r => (∀ c : Dev Cert.GWDownReferenceIdeal.nD,
      r.2.mem ((c.tc : Thread Cert.GWDownReferenceIdeal.nD Cert.GWDownReferenceIdeal.τ).loc Cert.GWDownReferenceIdeal.main_arg0) = m ((c.tc : Thread Cert.GWDownReferenceIdeal.nD Cert.GWDownReferenceIdeal.τ).loc Cert.GWDownReferenceIdeal.main_arg0)
      ∧ r.2.mem ((c.tc : Thread Cert.GWDownReferenceIdeal.nD Cert.GWDownReferenceIdeal.τ).loc Cert.GWDownReferenceIdeal.main_arg1) = m ((c.tc : Thread Cert.GWDownReferenceIdeal.nD Cert.GWDownReferenceIdeal.τ).loc Cert.GWDownReferenceIdeal.main_arg1))
      ∧ r.2.sem = fun _ => 0)

def quiescent_DH3Gate [hDH3Gate : Cert.DH3Gate.Facts] : Prop :=
  ∀ (m : (ℓ : Loc Cert.DH3Gate.nD Cert.DH3Gate.τ Cert.DH3Gate.sig) → Buf (Elt Bits) ℓ) (g : Dev Cert.DH3Gate.nD → PrngReg), Pre_DH3Gate m →
    θ_run (Cert.DH3Gate.defs (F := Bits)) (onTc (τ := Cert.DH3Gate.τ) (Cert.DH3Gate.main (F := Bits))) ⟨m, fun _ => 0, g⟩ (fun r => (∀ c : Dev Cert.DH3Gate.nD,
      r.2.mem ((c.tc : Thread Cert.DH3Gate.nD Cert.DH3Gate.τ).loc Cert.DH3Gate.main_arg0) = m ((c.tc : Thread Cert.DH3Gate.nD Cert.DH3Gate.τ).loc Cert.DH3Gate.main_arg0)
      ∧ r.2.mem ((c.tc : Thread Cert.DH3Gate.nD Cert.DH3Gate.τ).loc Cert.DH3Gate.main_arg1) = m ((c.tc : Thread Cert.DH3Gate.nD Cert.DH3Gate.τ).loc Cert.DH3Gate.main_arg1))
      ∧ r.2.sem = fun _ => 0)

def quiescent_DH3GateIdeal [hDH3GateIdeal : Cert.DH3GateIdeal.Facts] : Prop :=
  ∀ (m : (ℓ : Loc Cert.DH3GateIdeal.nD Cert.DH3GateIdeal.τ Cert.DH3GateIdeal.sig) → Buf (Elt Ideal) ℓ) (g : Dev Cert.DH3GateIdeal.nD → PrngReg), Pre_DH3GateIdeal m →
    θ_run (Cert.DH3GateIdeal.defs (F := Ideal)) (onTc (τ := Cert.DH3GateIdeal.τ) (Cert.DH3GateIdeal.main (F := Ideal))) ⟨m, fun _ => 0, g⟩ (fun r => (∀ c : Dev Cert.DH3GateIdeal.nD,
      r.2.mem ((c.tc : Thread Cert.DH3GateIdeal.nD Cert.DH3GateIdeal.τ).loc Cert.DH3GateIdeal.main_arg0) = m ((c.tc : Thread Cert.DH3GateIdeal.nD Cert.DH3GateIdeal.τ).loc Cert.DH3GateIdeal.main_arg0)
      ∧ r.2.mem ((c.tc : Thread Cert.DH3GateIdeal.nD Cert.DH3GateIdeal.τ).loc Cert.DH3GateIdeal.main_arg1) = m ((c.tc : Thread Cert.DH3GateIdeal.nD Cert.DH3GateIdeal.τ).loc Cert.DH3GateIdeal.main_arg1))
      ∧ r.2.sem = fun _ => 0)

def quiescent_DH3GateReferenceIdeal [hDH3GateReferenceIdeal : Cert.DH3GateReferenceIdeal.Facts] : Prop :=
  ∀ (m : (ℓ : Loc Cert.DH3GateReferenceIdeal.nD Cert.DH3GateReferenceIdeal.τ Cert.DH3GateReferenceIdeal.sig) → Buf (Elt Ideal) ℓ) (g : Dev Cert.DH3GateReferenceIdeal.nD → PrngReg), Pre_DH3GateReferenceIdeal m →
    θ_run (Cert.DH3GateReferenceIdeal.defs (F := Ideal)) (onTc (τ := Cert.DH3GateReferenceIdeal.τ) (Cert.DH3GateReferenceIdeal.main (F := Ideal))) ⟨m, fun _ => 0, g⟩ (fun r => (∀ c : Dev Cert.DH3GateReferenceIdeal.nD,
      r.2.mem ((c.tc : Thread Cert.DH3GateReferenceIdeal.nD Cert.DH3GateReferenceIdeal.τ).loc Cert.DH3GateReferenceIdeal.main_arg0) = m ((c.tc : Thread Cert.DH3GateReferenceIdeal.nD Cert.DH3GateReferenceIdeal.τ).loc Cert.DH3GateReferenceIdeal.main_arg0)
      ∧ r.2.mem ((c.tc : Thread Cert.DH3GateReferenceIdeal.nD Cert.DH3GateReferenceIdeal.τ).loc Cert.DH3GateReferenceIdeal.main_arg1) = m ((c.tc : Thread Cert.DH3GateReferenceIdeal.nD Cert.DH3GateReferenceIdeal.τ).loc Cert.DH3GateReferenceIdeal.main_arg1))
      ∧ r.2.sem = fun _ => 0)

def quiescent_DH3Up [hDH3Up : Cert.DH3Up.Facts] : Prop :=
  ∀ (m : (ℓ : Loc Cert.DH3Up.nD Cert.DH3Up.τ Cert.DH3Up.sig) → Buf (Elt Bits) ℓ) (g : Dev Cert.DH3Up.nD → PrngReg), Pre_DH3Up m →
    θ_run (Cert.DH3Up.defs (F := Bits)) (onTc (τ := Cert.DH3Up.τ) (Cert.DH3Up.main (F := Bits))) ⟨m, fun _ => 0, g⟩ (fun r => (∀ c : Dev Cert.DH3Up.nD,
      r.2.mem ((c.tc : Thread Cert.DH3Up.nD Cert.DH3Up.τ).loc Cert.DH3Up.main_arg0) = m ((c.tc : Thread Cert.DH3Up.nD Cert.DH3Up.τ).loc Cert.DH3Up.main_arg0)
      ∧ r.2.mem ((c.tc : Thread Cert.DH3Up.nD Cert.DH3Up.τ).loc Cert.DH3Up.main_arg1) = m ((c.tc : Thread Cert.DH3Up.nD Cert.DH3Up.τ).loc Cert.DH3Up.main_arg1)
      ∧ r.2.mem ((c.tc : Thread Cert.DH3Up.nD Cert.DH3Up.τ).loc Cert.DH3Up.main_arg2) = m ((c.tc : Thread Cert.DH3Up.nD Cert.DH3Up.τ).loc Cert.DH3Up.main_arg2))
      ∧ r.2.sem = fun _ => 0)

def quiescent_DH3UpIdeal [hDH3UpIdeal : Cert.DH3UpIdeal.Facts] : Prop :=
  ∀ (m : (ℓ : Loc Cert.DH3UpIdeal.nD Cert.DH3UpIdeal.τ Cert.DH3UpIdeal.sig) → Buf (Elt Ideal) ℓ) (g : Dev Cert.DH3UpIdeal.nD → PrngReg), Pre_DH3UpIdeal m →
    θ_run (Cert.DH3UpIdeal.defs (F := Ideal)) (onTc (τ := Cert.DH3UpIdeal.τ) (Cert.DH3UpIdeal.main (F := Ideal))) ⟨m, fun _ => 0, g⟩ (fun r => (∀ c : Dev Cert.DH3UpIdeal.nD,
      r.2.mem ((c.tc : Thread Cert.DH3UpIdeal.nD Cert.DH3UpIdeal.τ).loc Cert.DH3UpIdeal.main_arg0) = m ((c.tc : Thread Cert.DH3UpIdeal.nD Cert.DH3UpIdeal.τ).loc Cert.DH3UpIdeal.main_arg0)
      ∧ r.2.mem ((c.tc : Thread Cert.DH3UpIdeal.nD Cert.DH3UpIdeal.τ).loc Cert.DH3UpIdeal.main_arg1) = m ((c.tc : Thread Cert.DH3UpIdeal.nD Cert.DH3UpIdeal.τ).loc Cert.DH3UpIdeal.main_arg1)
      ∧ r.2.mem ((c.tc : Thread Cert.DH3UpIdeal.nD Cert.DH3UpIdeal.τ).loc Cert.DH3UpIdeal.main_arg2) = m ((c.tc : Thread Cert.DH3UpIdeal.nD Cert.DH3UpIdeal.τ).loc Cert.DH3UpIdeal.main_arg2))
      ∧ r.2.sem = fun _ => 0)

def quiescent_DH3UpReferenceIdeal [hDH3UpReferenceIdeal : Cert.DH3UpReferenceIdeal.Facts] : Prop :=
  ∀ (m : (ℓ : Loc Cert.DH3UpReferenceIdeal.nD Cert.DH3UpReferenceIdeal.τ Cert.DH3UpReferenceIdeal.sig) → Buf (Elt Ideal) ℓ) (g : Dev Cert.DH3UpReferenceIdeal.nD → PrngReg), Pre_DH3UpReferenceIdeal m →
    θ_run (Cert.DH3UpReferenceIdeal.defs (F := Ideal)) (onTc (τ := Cert.DH3UpReferenceIdeal.τ) (Cert.DH3UpReferenceIdeal.main (F := Ideal))) ⟨m, fun _ => 0, g⟩ (fun r => (∀ c : Dev Cert.DH3UpReferenceIdeal.nD,
      r.2.mem ((c.tc : Thread Cert.DH3UpReferenceIdeal.nD Cert.DH3UpReferenceIdeal.τ).loc Cert.DH3UpReferenceIdeal.main_arg0) = m ((c.tc : Thread Cert.DH3UpReferenceIdeal.nD Cert.DH3UpReferenceIdeal.τ).loc Cert.DH3UpReferenceIdeal.main_arg0)
      ∧ r.2.mem ((c.tc : Thread Cert.DH3UpReferenceIdeal.nD Cert.DH3UpReferenceIdeal.τ).loc Cert.DH3UpReferenceIdeal.main_arg1) = m ((c.tc : Thread Cert.DH3UpReferenceIdeal.nD Cert.DH3UpReferenceIdeal.τ).loc Cert.DH3UpReferenceIdeal.main_arg1)
      ∧ r.2.mem ((c.tc : Thread Cert.DH3UpReferenceIdeal.nD Cert.DH3UpReferenceIdeal.τ).loc Cert.DH3UpReferenceIdeal.main_arg2) = m ((c.tc : Thread Cert.DH3UpReferenceIdeal.nD Cert.DH3UpReferenceIdeal.τ).loc Cert.DH3UpReferenceIdeal.main_arg2))
      ∧ r.2.sem = fun _ => 0)

def quiescent_GWGate [hGWGate : Cert.GWGate.Facts] : Prop :=
  ∀ (m : (ℓ : Loc Cert.GWGate.nD Cert.GWGate.τ Cert.GWGate.sig) → Buf (Elt Bits) ℓ) (g : Dev Cert.GWGate.nD → PrngReg), Pre_GWGate m →
    θ_run (Cert.GWGate.defs (F := Bits)) (onTc (τ := Cert.GWGate.τ) (Cert.GWGate.main (F := Bits))) ⟨m, fun _ => 0, g⟩ (fun r => (∀ c : Dev Cert.GWGate.nD,
      r.2.mem ((c.tc : Thread Cert.GWGate.nD Cert.GWGate.τ).loc Cert.GWGate.main_arg0) = m ((c.tc : Thread Cert.GWGate.nD Cert.GWGate.τ).loc Cert.GWGate.main_arg0)
      ∧ r.2.mem ((c.tc : Thread Cert.GWGate.nD Cert.GWGate.τ).loc Cert.GWGate.main_arg1) = m ((c.tc : Thread Cert.GWGate.nD Cert.GWGate.τ).loc Cert.GWGate.main_arg1))
      ∧ r.2.sem = fun _ => 0)

def quiescent_GWGateIdeal [hGWGateIdeal : Cert.GWGateIdeal.Facts] : Prop :=
  ∀ (m : (ℓ : Loc Cert.GWGateIdeal.nD Cert.GWGateIdeal.τ Cert.GWGateIdeal.sig) → Buf (Elt Ideal) ℓ) (g : Dev Cert.GWGateIdeal.nD → PrngReg), Pre_GWGateIdeal m →
    θ_run (Cert.GWGateIdeal.defs (F := Ideal)) (onTc (τ := Cert.GWGateIdeal.τ) (Cert.GWGateIdeal.main (F := Ideal))) ⟨m, fun _ => 0, g⟩ (fun r => (∀ c : Dev Cert.GWGateIdeal.nD,
      r.2.mem ((c.tc : Thread Cert.GWGateIdeal.nD Cert.GWGateIdeal.τ).loc Cert.GWGateIdeal.main_arg0) = m ((c.tc : Thread Cert.GWGateIdeal.nD Cert.GWGateIdeal.τ).loc Cert.GWGateIdeal.main_arg0)
      ∧ r.2.mem ((c.tc : Thread Cert.GWGateIdeal.nD Cert.GWGateIdeal.τ).loc Cert.GWGateIdeal.main_arg1) = m ((c.tc : Thread Cert.GWGateIdeal.nD Cert.GWGateIdeal.τ).loc Cert.GWGateIdeal.main_arg1))
      ∧ r.2.sem = fun _ => 0)

def quiescent_GWGateReferenceIdeal [hGWGateReferenceIdeal : Cert.GWGateReferenceIdeal.Facts] : Prop :=
  ∀ (m : (ℓ : Loc Cert.GWGateReferenceIdeal.nD Cert.GWGateReferenceIdeal.τ Cert.GWGateReferenceIdeal.sig) → Buf (Elt Ideal) ℓ) (g : Dev Cert.GWGateReferenceIdeal.nD → PrngReg), Pre_GWGateReferenceIdeal m →
    θ_run (Cert.GWGateReferenceIdeal.defs (F := Ideal)) (onTc (τ := Cert.GWGateReferenceIdeal.τ) (Cert.GWGateReferenceIdeal.main (F := Ideal))) ⟨m, fun _ => 0, g⟩ (fun r => (∀ c : Dev Cert.GWGateReferenceIdeal.nD,
      r.2.mem ((c.tc : Thread Cert.GWGateReferenceIdeal.nD Cert.GWGateReferenceIdeal.τ).loc Cert.GWGateReferenceIdeal.main_arg0) = m ((c.tc : Thread Cert.GWGateReferenceIdeal.nD Cert.GWGateReferenceIdeal.τ).loc Cert.GWGateReferenceIdeal.main_arg0)
      ∧ r.2.mem ((c.tc : Thread Cert.GWGateReferenceIdeal.nD Cert.GWGateReferenceIdeal.τ).loc Cert.GWGateReferenceIdeal.main_arg1) = m ((c.tc : Thread Cert.GWGateReferenceIdeal.nD Cert.GWGateReferenceIdeal.τ).loc Cert.GWGateReferenceIdeal.main_arg1))
      ∧ r.2.sem = fun _ => 0)

def quiescent_DAtt [hDAtt : Cert.DAtt.Facts] : Prop :=
  ∀ (m : (ℓ : Loc Cert.DAtt.nD Cert.DAtt.τ Cert.DAtt.sig) → Buf (Elt Bits) ℓ) (g : Dev Cert.DAtt.nD → PrngReg), Pre_DAtt m →
    θ_run (Cert.DAtt.defs (F := Bits)) (onTc (τ := Cert.DAtt.τ) (Cert.DAtt.main (F := Bits))) ⟨m, fun _ => 0, g⟩ (fun r => (∀ c : Dev Cert.DAtt.nD,
      r.2.mem ((c.tc : Thread Cert.DAtt.nD Cert.DAtt.τ).loc Cert.DAtt.main_arg0) = m ((c.tc : Thread Cert.DAtt.nD Cert.DAtt.τ).loc Cert.DAtt.main_arg0)
      ∧ r.2.mem ((c.tc : Thread Cert.DAtt.nD Cert.DAtt.τ).loc Cert.DAtt.main_arg1) = m ((c.tc : Thread Cert.DAtt.nD Cert.DAtt.τ).loc Cert.DAtt.main_arg1))
      ∧ r.2.sem = fun _ => 0)

def quiescent_DAttIdeal [hDAttIdeal : Cert.DAttIdeal.Facts] : Prop :=
  ∀ (m : (ℓ : Loc Cert.DAttIdeal.nD Cert.DAttIdeal.τ Cert.DAttIdeal.sig) → Buf (Elt Ideal) ℓ) (g : Dev Cert.DAttIdeal.nD → PrngReg), Pre_DAttIdeal m →
    θ_run (Cert.DAttIdeal.defs (F := Ideal)) (onTc (τ := Cert.DAttIdeal.τ) (Cert.DAttIdeal.main (F := Ideal))) ⟨m, fun _ => 0, g⟩ (fun r => (∀ c : Dev Cert.DAttIdeal.nD,
      r.2.mem ((c.tc : Thread Cert.DAttIdeal.nD Cert.DAttIdeal.τ).loc Cert.DAttIdeal.main_arg0) = m ((c.tc : Thread Cert.DAttIdeal.nD Cert.DAttIdeal.τ).loc Cert.DAttIdeal.main_arg0)
      ∧ r.2.mem ((c.tc : Thread Cert.DAttIdeal.nD Cert.DAttIdeal.τ).loc Cert.DAttIdeal.main_arg1) = m ((c.tc : Thread Cert.DAttIdeal.nD Cert.DAttIdeal.τ).loc Cert.DAttIdeal.main_arg1))
      ∧ r.2.sem = fun _ => 0)

def quiescent_DAttReferenceIdeal [hDAttReferenceIdeal : Cert.DAttReferenceIdeal.Facts] : Prop :=
  ∀ (m : (ℓ : Loc Cert.DAttReferenceIdeal.nD Cert.DAttReferenceIdeal.τ Cert.DAttReferenceIdeal.sig) → Buf (Elt Ideal) ℓ) (g : Dev Cert.DAttReferenceIdeal.nD → PrngReg), Pre_DAttReferenceIdeal m →
    θ_run (Cert.DAttReferenceIdeal.defs (F := Ideal)) (onTc (τ := Cert.DAttReferenceIdeal.τ) (Cert.DAttReferenceIdeal.main (F := Ideal))) ⟨m, fun _ => 0, g⟩ (fun r => (∀ c : Dev Cert.DAttReferenceIdeal.nD,
      r.2.mem ((c.tc : Thread Cert.DAttReferenceIdeal.nD Cert.DAttReferenceIdeal.τ).loc Cert.DAttReferenceIdeal.main_arg0) = m ((c.tc : Thread Cert.DAttReferenceIdeal.nD Cert.DAttReferenceIdeal.τ).loc Cert.DAttReferenceIdeal.main_arg0)
      ∧ r.2.mem ((c.tc : Thread Cert.DAttReferenceIdeal.nD Cert.DAttReferenceIdeal.τ).loc Cert.DAttReferenceIdeal.main_arg1) = m ((c.tc : Thread Cert.DAttReferenceIdeal.nD Cert.DAttReferenceIdeal.τ).loc Cert.DAttReferenceIdeal.main_arg1))
      ∧ r.2.sem = fun _ => 0)

def quiescent_GWo [hGWo : Cert.GWo.Facts] : Prop :=
  ∀ (m : (ℓ : Loc Cert.GWo.nD Cert.GWo.τ Cert.GWo.sig) → Buf (Elt Bits) ℓ) (g : Dev Cert.GWo.nD → PrngReg), Pre_GWo m →
    θ_run (Cert.GWo.defs (F := Bits)) (onTc (τ := Cert.GWo.τ) (Cert.GWo.main (F := Bits))) ⟨m, fun _ => 0, g⟩ (fun r => (∀ c : Dev Cert.GWo.nD,
      r.2.mem ((c.tc : Thread Cert.GWo.nD Cert.GWo.τ).loc Cert.GWo.main_arg0) = m ((c.tc : Thread Cert.GWo.nD Cert.GWo.τ).loc Cert.GWo.main_arg0)
      ∧ r.2.mem ((c.tc : Thread Cert.GWo.nD Cert.GWo.τ).loc Cert.GWo.main_arg1) = m ((c.tc : Thread Cert.GWo.nD Cert.GWo.τ).loc Cert.GWo.main_arg1))
      ∧ r.2.sem = fun _ => 0)

def quiescent_GWoIdeal [hGWoIdeal : Cert.GWoIdeal.Facts] : Prop :=
  ∀ (m : (ℓ : Loc Cert.GWoIdeal.nD Cert.GWoIdeal.τ Cert.GWoIdeal.sig) → Buf (Elt Ideal) ℓ) (g : Dev Cert.GWoIdeal.nD → PrngReg), Pre_GWoIdeal m →
    θ_run (Cert.GWoIdeal.defs (F := Ideal)) (onTc (τ := Cert.GWoIdeal.τ) (Cert.GWoIdeal.main (F := Ideal))) ⟨m, fun _ => 0, g⟩ (fun r => (∀ c : Dev Cert.GWoIdeal.nD,
      r.2.mem ((c.tc : Thread Cert.GWoIdeal.nD Cert.GWoIdeal.τ).loc Cert.GWoIdeal.main_arg0) = m ((c.tc : Thread Cert.GWoIdeal.nD Cert.GWoIdeal.τ).loc Cert.GWoIdeal.main_arg0)
      ∧ r.2.mem ((c.tc : Thread Cert.GWoIdeal.nD Cert.GWoIdeal.τ).loc Cert.GWoIdeal.main_arg1) = m ((c.tc : Thread Cert.GWoIdeal.nD Cert.GWoIdeal.τ).loc Cert.GWoIdeal.main_arg1))
      ∧ r.2.sem = fun _ => 0)

def quiescent_GWoReferenceIdeal [hGWoReferenceIdeal : Cert.GWoReferenceIdeal.Facts] : Prop :=
  ∀ (m : (ℓ : Loc Cert.GWoReferenceIdeal.nD Cert.GWoReferenceIdeal.τ Cert.GWoReferenceIdeal.sig) → Buf (Elt Ideal) ℓ) (g : Dev Cert.GWoReferenceIdeal.nD → PrngReg), Pre_GWoReferenceIdeal m →
    θ_run (Cert.GWoReferenceIdeal.defs (F := Ideal)) (onTc (τ := Cert.GWoReferenceIdeal.τ) (Cert.GWoReferenceIdeal.main (F := Ideal))) ⟨m, fun _ => 0, g⟩ (fun r => (∀ c : Dev Cert.GWoReferenceIdeal.nD,
      r.2.mem ((c.tc : Thread Cert.GWoReferenceIdeal.nD Cert.GWoReferenceIdeal.τ).loc Cert.GWoReferenceIdeal.main_arg0) = m ((c.tc : Thread Cert.GWoReferenceIdeal.nD Cert.GWoReferenceIdeal.τ).loc Cert.GWoReferenceIdeal.main_arg0)
      ∧ r.2.mem ((c.tc : Thread Cert.GWoReferenceIdeal.nD Cert.GWoReferenceIdeal.τ).loc Cert.GWoReferenceIdeal.main_arg1) = m ((c.tc : Thread Cert.GWoReferenceIdeal.nD Cert.GWoReferenceIdeal.τ).loc Cert.GWoReferenceIdeal.main_arg1))
      ∧ r.2.sem = fun _ => 0)

def quiescent_GWk [hGWk : Cert.GWk.Facts] : Prop :=
  ∀ (m : (ℓ : Loc Cert.GWk.nD Cert.GWk.τ Cert.GWk.sig) → Buf (Elt Bits) ℓ) (g : Dev Cert.GWk.nD → PrngReg), Pre_GWk m →
    θ_run (Cert.GWk.defs (F := Bits)) (onTc (τ := Cert.GWk.τ) (Cert.GWk.main (F := Bits))) ⟨m, fun _ => 0, g⟩ (fun r => (∀ c : Dev Cert.GWk.nD,
      r.2.mem ((c.tc : Thread Cert.GWk.nD Cert.GWk.τ).loc Cert.GWk.main_arg0) = m ((c.tc : Thread Cert.GWk.nD Cert.GWk.τ).loc Cert.GWk.main_arg0)
      ∧ r.2.mem ((c.tc : Thread Cert.GWk.nD Cert.GWk.τ).loc Cert.GWk.main_arg1) = m ((c.tc : Thread Cert.GWk.nD Cert.GWk.τ).loc Cert.GWk.main_arg1))
      ∧ r.2.sem = fun _ => 0)

def quiescent_GWkIdeal [hGWkIdeal : Cert.GWkIdeal.Facts] : Prop :=
  ∀ (m : (ℓ : Loc Cert.GWkIdeal.nD Cert.GWkIdeal.τ Cert.GWkIdeal.sig) → Buf (Elt Ideal) ℓ) (g : Dev Cert.GWkIdeal.nD → PrngReg), Pre_GWkIdeal m →
    θ_run (Cert.GWkIdeal.defs (F := Ideal)) (onTc (τ := Cert.GWkIdeal.τ) (Cert.GWkIdeal.main (F := Ideal))) ⟨m, fun _ => 0, g⟩ (fun r => (∀ c : Dev Cert.GWkIdeal.nD,
      r.2.mem ((c.tc : Thread Cert.GWkIdeal.nD Cert.GWkIdeal.τ).loc Cert.GWkIdeal.main_arg0) = m ((c.tc : Thread Cert.GWkIdeal.nD Cert.GWkIdeal.τ).loc Cert.GWkIdeal.main_arg0)
      ∧ r.2.mem ((c.tc : Thread Cert.GWkIdeal.nD Cert.GWkIdeal.τ).loc Cert.GWkIdeal.main_arg1) = m ((c.tc : Thread Cert.GWkIdeal.nD Cert.GWkIdeal.τ).loc Cert.GWkIdeal.main_arg1))
      ∧ r.2.sem = fun _ => 0)

def quiescent_GWkReferenceIdeal [hGWkReferenceIdeal : Cert.GWkReferenceIdeal.Facts] : Prop :=
  ∀ (m : (ℓ : Loc Cert.GWkReferenceIdeal.nD Cert.GWkReferenceIdeal.τ Cert.GWkReferenceIdeal.sig) → Buf (Elt Ideal) ℓ) (g : Dev Cert.GWkReferenceIdeal.nD → PrngReg), Pre_GWkReferenceIdeal m →
    θ_run (Cert.GWkReferenceIdeal.defs (F := Ideal)) (onTc (τ := Cert.GWkReferenceIdeal.τ) (Cert.GWkReferenceIdeal.main (F := Ideal))) ⟨m, fun _ => 0, g⟩ (fun r => (∀ c : Dev Cert.GWkReferenceIdeal.nD,
      r.2.mem ((c.tc : Thread Cert.GWkReferenceIdeal.nD Cert.GWkReferenceIdeal.τ).loc Cert.GWkReferenceIdeal.main_arg0) = m ((c.tc : Thread Cert.GWkReferenceIdeal.nD Cert.GWkReferenceIdeal.τ).loc Cert.GWkReferenceIdeal.main_arg0)
      ∧ r.2.mem ((c.tc : Thread Cert.GWkReferenceIdeal.nD Cert.GWkReferenceIdeal.τ).loc Cert.GWkReferenceIdeal.main_arg1) = m ((c.tc : Thread Cert.GWkReferenceIdeal.nD Cert.GWkReferenceIdeal.τ).loc Cert.GWkReferenceIdeal.main_arg1))
      ∧ r.2.sem = fun _ => 0)

def quiescent_DMemK [hDMemK : Cert.DMemK.Facts] : Prop :=
  ∀ (m : (ℓ : Loc Cert.DMemK.nD Cert.DMemK.τ Cert.DMemK.sig) → Buf (Elt Bits) ℓ) (g : Dev Cert.DMemK.nD → PrngReg), Pre_DMemK m →
    θ_run (Cert.DMemK.defs (F := Bits)) (onTc (τ := Cert.DMemK.τ) (Cert.DMemK.main (F := Bits))) ⟨m, fun _ => 0, g⟩ (fun r => (∀ c : Dev Cert.DMemK.nD,
      r.2.mem ((c.tc : Thread Cert.DMemK.nD Cert.DMemK.τ).loc Cert.DMemK.main_arg0) = m ((c.tc : Thread Cert.DMemK.nD Cert.DMemK.τ).loc Cert.DMemK.main_arg0)
      ∧ r.2.mem ((c.tc : Thread Cert.DMemK.nD Cert.DMemK.τ).loc Cert.DMemK.main_arg1) = m ((c.tc : Thread Cert.DMemK.nD Cert.DMemK.τ).loc Cert.DMemK.main_arg1))
      ∧ r.2.sem = fun _ => 0)

def quiescent_DMemKIdeal [hDMemKIdeal : Cert.DMemKIdeal.Facts] : Prop :=
  ∀ (m : (ℓ : Loc Cert.DMemKIdeal.nD Cert.DMemKIdeal.τ Cert.DMemKIdeal.sig) → Buf (Elt Ideal) ℓ) (g : Dev Cert.DMemKIdeal.nD → PrngReg), Pre_DMemKIdeal m →
    θ_run (Cert.DMemKIdeal.defs (F := Ideal)) (onTc (τ := Cert.DMemKIdeal.τ) (Cert.DMemKIdeal.main (F := Ideal))) ⟨m, fun _ => 0, g⟩ (fun r => (∀ c : Dev Cert.DMemKIdeal.nD,
      r.2.mem ((c.tc : Thread Cert.DMemKIdeal.nD Cert.DMemKIdeal.τ).loc Cert.DMemKIdeal.main_arg0) = m ((c.tc : Thread Cert.DMemKIdeal.nD Cert.DMemKIdeal.τ).loc Cert.DMemKIdeal.main_arg0)
      ∧ r.2.mem ((c.tc : Thread Cert.DMemKIdeal.nD Cert.DMemKIdeal.τ).loc Cert.DMemKIdeal.main_arg1) = m ((c.tc : Thread Cert.DMemKIdeal.nD Cert.DMemKIdeal.τ).loc Cert.DMemKIdeal.main_arg1))
      ∧ r.2.sem = fun _ => 0)

def quiescent_DMemKReferenceIdeal [hDMemKReferenceIdeal : Cert.DMemKReferenceIdeal.Facts] : Prop :=
  ∀ (m : (ℓ : Loc Cert.DMemKReferenceIdeal.nD Cert.DMemKReferenceIdeal.τ Cert.DMemKReferenceIdeal.sig) → Buf (Elt Ideal) ℓ) (g : Dev Cert.DMemKReferenceIdeal.nD → PrngReg), Pre_DMemKReferenceIdeal m →
    θ_run (Cert.DMemKReferenceIdeal.defs (F := Ideal)) (onTc (τ := Cert.DMemKReferenceIdeal.τ) (Cert.DMemKReferenceIdeal.main (F := Ideal))) ⟨m, fun _ => 0, g⟩ (fun r => (∀ c : Dev Cert.DMemKReferenceIdeal.nD,
      r.2.mem ((c.tc : Thread Cert.DMemKReferenceIdeal.nD Cert.DMemKReferenceIdeal.τ).loc Cert.DMemKReferenceIdeal.main_arg0) = m ((c.tc : Thread Cert.DMemKReferenceIdeal.nD Cert.DMemKReferenceIdeal.τ).loc Cert.DMemKReferenceIdeal.main_arg0)
      ∧ r.2.mem ((c.tc : Thread Cert.DMemKReferenceIdeal.nD Cert.DMemKReferenceIdeal.τ).loc Cert.DMemKReferenceIdeal.main_arg1) = m ((c.tc : Thread Cert.DMemKReferenceIdeal.nD Cert.DMemKReferenceIdeal.τ).loc Cert.DMemKReferenceIdeal.main_arg1))
      ∧ r.2.sem = fun _ => 0)

def quiescent_DMemV [hDMemV : Cert.DMemV.Facts] : Prop :=
  ∀ (m : (ℓ : Loc Cert.DMemV.nD Cert.DMemV.τ Cert.DMemV.sig) → Buf (Elt Bits) ℓ) (g : Dev Cert.DMemV.nD → PrngReg), Pre_DMemV m →
    θ_run (Cert.DMemV.defs (F := Bits)) (onTc (τ := Cert.DMemV.τ) (Cert.DMemV.main (F := Bits))) ⟨m, fun _ => 0, g⟩ (fun r => (∀ c : Dev Cert.DMemV.nD,
      r.2.mem ((c.tc : Thread Cert.DMemV.nD Cert.DMemV.τ).loc Cert.DMemV.main_arg0) = m ((c.tc : Thread Cert.DMemV.nD Cert.DMemV.τ).loc Cert.DMemV.main_arg0)
      ∧ r.2.mem ((c.tc : Thread Cert.DMemV.nD Cert.DMemV.τ).loc Cert.DMemV.main_arg1) = m ((c.tc : Thread Cert.DMemV.nD Cert.DMemV.τ).loc Cert.DMemV.main_arg1)
      ∧ r.2.mem ((c.tc : Thread Cert.DMemV.nD Cert.DMemV.τ).loc Cert.DMemV.main_arg2) = m ((c.tc : Thread Cert.DMemV.nD Cert.DMemV.τ).loc Cert.DMemV.main_arg2))
      ∧ r.2.sem = fun _ => 0)

def quiescent_DMemVIdeal [hDMemVIdeal : Cert.DMemVIdeal.Facts] : Prop :=
  ∀ (m : (ℓ : Loc Cert.DMemVIdeal.nD Cert.DMemVIdeal.τ Cert.DMemVIdeal.sig) → Buf (Elt Ideal) ℓ) (g : Dev Cert.DMemVIdeal.nD → PrngReg), Pre_DMemVIdeal m →
    θ_run (Cert.DMemVIdeal.defs (F := Ideal)) (onTc (τ := Cert.DMemVIdeal.τ) (Cert.DMemVIdeal.main (F := Ideal))) ⟨m, fun _ => 0, g⟩ (fun r => (∀ c : Dev Cert.DMemVIdeal.nD,
      r.2.mem ((c.tc : Thread Cert.DMemVIdeal.nD Cert.DMemVIdeal.τ).loc Cert.DMemVIdeal.main_arg0) = m ((c.tc : Thread Cert.DMemVIdeal.nD Cert.DMemVIdeal.τ).loc Cert.DMemVIdeal.main_arg0)
      ∧ r.2.mem ((c.tc : Thread Cert.DMemVIdeal.nD Cert.DMemVIdeal.τ).loc Cert.DMemVIdeal.main_arg1) = m ((c.tc : Thread Cert.DMemVIdeal.nD Cert.DMemVIdeal.τ).loc Cert.DMemVIdeal.main_arg1)
      ∧ r.2.mem ((c.tc : Thread Cert.DMemVIdeal.nD Cert.DMemVIdeal.τ).loc Cert.DMemVIdeal.main_arg2) = m ((c.tc : Thread Cert.DMemVIdeal.nD Cert.DMemVIdeal.τ).loc Cert.DMemVIdeal.main_arg2))
      ∧ r.2.sem = fun _ => 0)

def quiescent_DMemVReferenceIdeal [hDMemVReferenceIdeal : Cert.DMemVReferenceIdeal.Facts] : Prop :=
  ∀ (m : (ℓ : Loc Cert.DMemVReferenceIdeal.nD Cert.DMemVReferenceIdeal.τ Cert.DMemVReferenceIdeal.sig) → Buf (Elt Ideal) ℓ) (g : Dev Cert.DMemVReferenceIdeal.nD → PrngReg), Pre_DMemVReferenceIdeal m →
    θ_run (Cert.DMemVReferenceIdeal.defs (F := Ideal)) (onTc (τ := Cert.DMemVReferenceIdeal.τ) (Cert.DMemVReferenceIdeal.main (F := Ideal))) ⟨m, fun _ => 0, g⟩ (fun r => (∀ c : Dev Cert.DMemVReferenceIdeal.nD,
      r.2.mem ((c.tc : Thread Cert.DMemVReferenceIdeal.nD Cert.DMemVReferenceIdeal.τ).loc Cert.DMemVReferenceIdeal.main_arg0) = m ((c.tc : Thread Cert.DMemVReferenceIdeal.nD Cert.DMemVReferenceIdeal.τ).loc Cert.DMemVReferenceIdeal.main_arg0)
      ∧ r.2.mem ((c.tc : Thread Cert.DMemVReferenceIdeal.nD Cert.DMemVReferenceIdeal.τ).loc Cert.DMemVReferenceIdeal.main_arg1) = m ((c.tc : Thread Cert.DMemVReferenceIdeal.nD Cert.DMemVReferenceIdeal.τ).loc Cert.DMemVReferenceIdeal.main_arg1)
      ∧ r.2.mem ((c.tc : Thread Cert.DMemVReferenceIdeal.nD Cert.DMemVReferenceIdeal.τ).loc Cert.DMemVReferenceIdeal.main_arg2) = m ((c.tc : Thread Cert.DMemVReferenceIdeal.nD Cert.DMemVReferenceIdeal.τ).loc Cert.DMemVReferenceIdeal.main_arg2))
      ∧ r.2.sem = fun _ => 0)

def quiescent_GWIn [hGWIn : Cert.GWIn.Facts] : Prop :=
  ∀ (m : (ℓ : Loc Cert.GWIn.nD Cert.GWIn.τ Cert.GWIn.sig) → Buf (Elt Bits) ℓ) (g : Dev Cert.GWIn.nD → PrngReg), Pre_GWIn m →
    θ_run (Cert.GWIn.defs (F := Bits)) (onTc (τ := Cert.GWIn.τ) (Cert.GWIn.main (F := Bits))) ⟨m, fun _ => 0, g⟩ (fun r => (∀ c : Dev Cert.GWIn.nD,
      r.2.mem ((c.tc : Thread Cert.GWIn.nD Cert.GWIn.τ).loc Cert.GWIn.main_arg0) = m ((c.tc : Thread Cert.GWIn.nD Cert.GWIn.τ).loc Cert.GWIn.main_arg0)
      ∧ r.2.mem ((c.tc : Thread Cert.GWIn.nD Cert.GWIn.τ).loc Cert.GWIn.main_arg1) = m ((c.tc : Thread Cert.GWIn.nD Cert.GWIn.τ).loc Cert.GWIn.main_arg1))
      ∧ r.2.sem = fun _ => 0)

def quiescent_GWInIdeal [hGWInIdeal : Cert.GWInIdeal.Facts] : Prop :=
  ∀ (m : (ℓ : Loc Cert.GWInIdeal.nD Cert.GWInIdeal.τ Cert.GWInIdeal.sig) → Buf (Elt Ideal) ℓ) (g : Dev Cert.GWInIdeal.nD → PrngReg), Pre_GWInIdeal m →
    θ_run (Cert.GWInIdeal.defs (F := Ideal)) (onTc (τ := Cert.GWInIdeal.τ) (Cert.GWInIdeal.main (F := Ideal))) ⟨m, fun _ => 0, g⟩ (fun r => (∀ c : Dev Cert.GWInIdeal.nD,
      r.2.mem ((c.tc : Thread Cert.GWInIdeal.nD Cert.GWInIdeal.τ).loc Cert.GWInIdeal.main_arg0) = m ((c.tc : Thread Cert.GWInIdeal.nD Cert.GWInIdeal.τ).loc Cert.GWInIdeal.main_arg0)
      ∧ r.2.mem ((c.tc : Thread Cert.GWInIdeal.nD Cert.GWInIdeal.τ).loc Cert.GWInIdeal.main_arg1) = m ((c.tc : Thread Cert.GWInIdeal.nD Cert.GWInIdeal.τ).loc Cert.GWInIdeal.main_arg1))
      ∧ r.2.sem = fun _ => 0)

def quiescent_GWInReferenceIdeal [hGWInReferenceIdeal : Cert.GWInReferenceIdeal.Facts] : Prop :=
  ∀ (m : (ℓ : Loc Cert.GWInReferenceIdeal.nD Cert.GWInReferenceIdeal.τ Cert.GWInReferenceIdeal.sig) → Buf (Elt Ideal) ℓ) (g : Dev Cert.GWInReferenceIdeal.nD → PrngReg), Pre_GWInReferenceIdeal m →
    θ_run (Cert.GWInReferenceIdeal.defs (F := Ideal)) (onTc (τ := Cert.GWInReferenceIdeal.τ) (Cert.GWInReferenceIdeal.main (F := Ideal))) ⟨m, fun _ => 0, g⟩ (fun r => (∀ c : Dev Cert.GWInReferenceIdeal.nD,
      r.2.mem ((c.tc : Thread Cert.GWInReferenceIdeal.nD Cert.GWInReferenceIdeal.τ).loc Cert.GWInReferenceIdeal.main_arg0) = m ((c.tc : Thread Cert.GWInReferenceIdeal.nD Cert.GWInReferenceIdeal.τ).loc Cert.GWInReferenceIdeal.main_arg0)
      ∧ r.2.mem ((c.tc : Thread Cert.GWInReferenceIdeal.nD Cert.GWInReferenceIdeal.τ).loc Cert.GWInReferenceIdeal.main_arg1) = m ((c.tc : Thread Cert.GWInReferenceIdeal.nD Cert.GWInReferenceIdeal.τ).loc Cert.GWInReferenceIdeal.main_arg1))
      ∧ r.2.sem = fun _ => 0)

def quiescent_DH1 [hDH1 : Cert.DH1.Facts] : Prop :=
  ∀ (m : (ℓ : Loc Cert.DH1.nD Cert.DH1.τ Cert.DH1.sig) → Buf (Elt Bits) ℓ) (g : Dev Cert.DH1.nD → PrngReg), Pre_DH1 m →
    θ_run (Cert.DH1.defs (F := Bits)) (onTc (τ := Cert.DH1.τ) (Cert.DH1.main (F := Bits))) ⟨m, fun _ => 0, g⟩ (fun r => (∀ c : Dev Cert.DH1.nD,
      r.2.mem ((c.tc : Thread Cert.DH1.nD Cert.DH1.τ).loc Cert.DH1.main_arg0) = m ((c.tc : Thread Cert.DH1.nD Cert.DH1.τ).loc Cert.DH1.main_arg0)
      ∧ r.2.mem ((c.tc : Thread Cert.DH1.nD Cert.DH1.τ).loc Cert.DH1.main_arg1) = m ((c.tc : Thread Cert.DH1.nD Cert.DH1.τ).loc Cert.DH1.main_arg1))
      ∧ r.2.sem = fun _ => 0)

def quiescent_DH1Ideal [hDH1Ideal : Cert.DH1Ideal.Facts] : Prop :=
  ∀ (m : (ℓ : Loc Cert.DH1Ideal.nD Cert.DH1Ideal.τ Cert.DH1Ideal.sig) → Buf (Elt Ideal) ℓ) (g : Dev Cert.DH1Ideal.nD → PrngReg), Pre_DH1Ideal m →
    θ_run (Cert.DH1Ideal.defs (F := Ideal)) (onTc (τ := Cert.DH1Ideal.τ) (Cert.DH1Ideal.main (F := Ideal))) ⟨m, fun _ => 0, g⟩ (fun r => (∀ c : Dev Cert.DH1Ideal.nD,
      r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
      ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ r.2.sem = fun _ => 0)

def quiescent_DH1ReferenceIdeal [hDH1ReferenceIdeal : Cert.DH1ReferenceIdeal.Facts] : Prop :=
  ∀ (m : (ℓ : Loc Cert.DH1ReferenceIdeal.nD Cert.DH1ReferenceIdeal.τ Cert.DH1ReferenceIdeal.sig) → Buf (Elt Ideal) ℓ) (g : Dev Cert.DH1ReferenceIdeal.nD → PrngReg), Pre_DH1ReferenceIdeal m →
    θ_run (Cert.DH1ReferenceIdeal.defs (F := Ideal)) (onTc (τ := Cert.DH1ReferenceIdeal.τ) (Cert.DH1ReferenceIdeal.main (F := Ideal))) ⟨m, fun _ => 0, g⟩ (fun r => (∀ c : Dev Cert.DH1ReferenceIdeal.nD,
      r.2.mem ((c.tc : Thread Cert.DH1ReferenceIdeal.nD Cert.DH1ReferenceIdeal.τ).loc Cert.DH1ReferenceIdeal.main_arg0) = m ((c.tc : Thread Cert.DH1ReferenceIdeal.nD Cert.DH1ReferenceIdeal.τ).loc Cert.DH1ReferenceIdeal.main_arg0)
      ∧ r.2.mem ((c.tc : Thread Cert.DH1ReferenceIdeal.nD Cert.DH1ReferenceIdeal.τ).loc Cert.DH1ReferenceIdeal.main_arg1) = m ((c.tc : Thread Cert.DH1ReferenceIdeal.nD Cert.DH1ReferenceIdeal.τ).loc Cert.DH1ReferenceIdeal.main_arg1))
      ∧ r.2.sem = fun _ => 0)

def quiescent_FfnGate [hFfnGate : Cert.FfnGate.Facts] : Prop :=
  ∀ (m : (ℓ : Loc Cert.FfnGate.nD Cert.FfnGate.τ Cert.FfnGate.sig) → Buf (Elt Bits) ℓ) (g : Dev Cert.FfnGate.nD → PrngReg), Pre_FfnGate m →
    θ_run (Cert.FfnGate.defs (F := Bits)) (onTc (τ := Cert.FfnGate.τ) (Cert.FfnGate.main (F := Bits))) ⟨m, fun _ => 0, g⟩ (fun r => (∀ c : Dev Cert.FfnGate.nD,
      r.2.mem ((c.tc : Thread Cert.FfnGate.nD Cert.FfnGate.τ).loc Cert.FfnGate.main_arg0) = m ((c.tc : Thread Cert.FfnGate.nD Cert.FfnGate.τ).loc Cert.FfnGate.main_arg0)
      ∧ r.2.mem ((c.tc : Thread Cert.FfnGate.nD Cert.FfnGate.τ).loc Cert.FfnGate.main_arg1) = m ((c.tc : Thread Cert.FfnGate.nD Cert.FfnGate.τ).loc Cert.FfnGate.main_arg1))
      ∧ r.2.sem = fun _ => 0)

def quiescent_FfnGateIdeal [hFfnGateIdeal : Cert.FfnGateIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg), Pre_FfnGateIdeal m →
    θ_run (Cert.FfnGateIdeal.defs (F := Ideal)) (onTc (τ := Cert.FfnGateIdeal.τ) (Cert.FfnGateIdeal.main (F := Ideal))) ⟨m, fun _ => 0, g⟩ (fun r => (∀ c : Dev Cert.FfnGateIdeal.nD,
      r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
      ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ r.2.sem = fun _ => 0)

def quiescent_FfnGateReferenceIdeal [hFfnGateReferenceIdeal : Cert.FfnGateReferenceIdeal.Facts] : Prop :=
  ∀ (m : (ℓ : Loc Cert.FfnGateReferenceIdeal.nD Cert.FfnGateReferenceIdeal.τ Cert.FfnGateReferenceIdeal.sig) → Buf (Elt Ideal) ℓ) (g : Dev Cert.FfnGateReferenceIdeal.nD → PrngReg), Pre_FfnGateReferenceIdeal m →
    θ_run (Cert.FfnGateReferenceIdeal.defs (F := Ideal)) (onTc (τ := Cert.FfnGateReferenceIdeal.τ) (Cert.FfnGateReferenceIdeal.main (F := Ideal))) ⟨m, fun _ => 0, g⟩ (fun r => (∀ c : Dev Cert.FfnGateReferenceIdeal.nD,
      r.2.mem ((c.tc : Thread Cert.FfnGateReferenceIdeal.nD Cert.FfnGateReferenceIdeal.τ).loc Cert.FfnGateReferenceIdeal.main_arg0) = m ((c.tc : Thread Cert.FfnGateReferenceIdeal.nD Cert.FfnGateReferenceIdeal.τ).loc Cert.FfnGateReferenceIdeal.main_arg0)
      ∧ r.2.mem ((c.tc : Thread Cert.FfnGateReferenceIdeal.nD Cert.FfnGateReferenceIdeal.τ).loc Cert.FfnGateReferenceIdeal.main_arg1) = m ((c.tc : Thread Cert.FfnGateReferenceIdeal.nD Cert.FfnGateReferenceIdeal.τ).loc Cert.FfnGateReferenceIdeal.main_arg1))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ r.2.sem = fun _ => 0)

def quiescent_FfnDownReferenceIdeal [hFfnDownReferenceIdeal : Cert.FfnDownReferenceIdeal.Facts] : Prop :=
  ∀ (m : (ℓ : Loc Cert.FfnDownReferenceIdeal.nD Cert.FfnDownReferenceIdeal.τ Cert.FfnDownReferenceIdeal.sig) → Buf (Elt Ideal) ℓ) (g : Dev Cert.FfnDownReferenceIdeal.nD → PrngReg), Pre_FfnDownReferenceIdeal m →
    θ_run (Cert.FfnDownReferenceIdeal.defs (F := Ideal)) (onTc (τ := Cert.FfnDownReferenceIdeal.τ) (Cert.FfnDownReferenceIdeal.main (F := Ideal))) ⟨m, fun _ => 0, g⟩ (fun r => (∀ c : Dev Cert.FfnDownReferenceIdeal.nD,
      r.2.mem ((c.tc : Thread Cert.FfnDownReferenceIdeal.nD Cert.FfnDownReferenceIdeal.τ).loc Cert.FfnDownReferenceIdeal.main_arg0) = m ((c.tc : Thread Cert.FfnDownReferenceIdeal.nD Cert.FfnDownReferenceIdeal.τ).loc Cert.FfnDownReferenceIdeal.main_arg0)
      ∧ r.2.mem ((c.tc : Thread Cert.FfnDownReferenceIdeal.nD Cert.FfnDownReferenceIdeal.τ).loc Cert.FfnDownReferenceIdeal.main_arg1) = m ((c.tc : Thread Cert.FfnDownReferenceIdeal.nD Cert.FfnDownReferenceIdeal.τ).loc Cert.FfnDownReferenceIdeal.main_arg1)
      ∧ r.2.mem ((c.tc : Thread Cert.FfnDownReferenceIdeal.nD Cert.FfnDownReferenceIdeal.τ).loc Cert.FfnDownReferenceIdeal.main_arg2) = m ((c.tc : Thread Cert.FfnDownReferenceIdeal.nD Cert.FfnDownReferenceIdeal.τ).loc Cert.FfnDownReferenceIdeal.main_arg2))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ r.2.sem = fun _ => 0)

def quiescent_ProjOutReferenceIdeal [hProjOutReferenceIdeal : Cert.ProjOutReferenceIdeal.Facts] : Prop :=
  ∀ (m : (ℓ : Loc Cert.ProjOutReferenceIdeal.nD Cert.ProjOutReferenceIdeal.τ Cert.ProjOutReferenceIdeal.sig) → Buf (Elt Ideal) ℓ) (g : Dev Cert.ProjOutReferenceIdeal.nD → PrngReg), Pre_ProjOutReferenceIdeal m →
    θ_run (Cert.ProjOutReferenceIdeal.defs (F := Ideal)) (onTc (τ := Cert.ProjOutReferenceIdeal.τ) (Cert.ProjOutReferenceIdeal.main (F := Ideal))) ⟨m, fun _ => 0, g⟩ (fun r => (∀ c : Dev Cert.ProjOutReferenceIdeal.nD,
      r.2.mem ((c.tc : Thread Cert.ProjOutReferenceIdeal.nD Cert.ProjOutReferenceIdeal.τ).loc Cert.ProjOutReferenceIdeal.main_arg0) = m ((c.tc : Thread Cert.ProjOutReferenceIdeal.nD Cert.ProjOutReferenceIdeal.τ).loc Cert.ProjOutReferenceIdeal.main_arg0)
      ∧ r.2.mem ((c.tc : Thread Cert.ProjOutReferenceIdeal.nD Cert.ProjOutReferenceIdeal.τ).loc Cert.ProjOutReferenceIdeal.main_arg1) = m ((c.tc : Thread Cert.ProjOutReferenceIdeal.nD Cert.ProjOutReferenceIdeal.τ).loc Cert.ProjOutReferenceIdeal.main_arg1)
      ∧ r.2.mem ((c.tc : Thread Cert.ProjOutReferenceIdeal.nD Cert.ProjOutReferenceIdeal.τ).loc Cert.ProjOutReferenceIdeal.main_arg2) = m ((c.tc : Thread Cert.ProjOutReferenceIdeal.nD Cert.ProjOutReferenceIdeal.τ).loc Cert.ProjOutReferenceIdeal.main_arg2))
      ∧ r.2.sem = fun _ => 0)

def quiescent_AttnQ [hAttnQ : Cert.AttnQ.Facts] : Prop :=
  ∀ (m : (ℓ : Loc Cert.AttnQ.nD Cert.AttnQ.τ Cert.AttnQ.sig) → Buf (Elt Bits) ℓ) (g : Dev Cert.AttnQ.nD → PrngReg), Pre_AttnQ m →
    θ_run (Cert.AttnQ.defs (F := Bits)) (onTc (τ := Cert.AttnQ.τ) (Cert.AttnQ.main (F := Bits))) ⟨m, fun _ => 0, g⟩ (fun r => (∀ c : Dev Cert.AttnQ.nD,
      r.2.mem ((c.tc : Thread Cert.AttnQ.nD Cert.AttnQ.τ).loc Cert.AttnQ.main_arg0) = m ((c.tc : Thread Cert.AttnQ.nD Cert.AttnQ.τ).loc Cert.AttnQ.main_arg0)
      ∧ r.2.mem ((c.tc : Thread Cert.AttnQ.nD Cert.AttnQ.τ).loc Cert.AttnQ.main_arg1) = m ((c.tc : Thread Cert.AttnQ.nD Cert.AttnQ.τ).loc Cert.AttnQ.main_arg1))
      ∧ r.2.sem = fun _ => 0)

def quiescent_AttnQIdeal [hAttnQIdeal : Cert.AttnQIdeal.Facts] : Prop :=
  ∀ (m : (ℓ : Loc Cert.AttnQIdeal.nD Cert.AttnQIdeal.τ Cert.AttnQIdeal.sig) → Buf (Elt Ideal) ℓ) (g : Dev Cert.AttnQIdeal.nD → PrngReg), Pre_AttnQIdeal m →
    θ_run (Cert.AttnQIdeal.defs (F := Ideal)) (onTc (τ := Cert.AttnQIdeal.τ) (Cert.AttnQIdeal.main (F := Ideal))) ⟨m, fun _ => 0, g⟩ (fun r => (∀ c : Dev Cert.AttnQIdeal.nD,
      r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
      ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ r.2.sem = fun _ => 0)

def quiescent_AttnQReferenceIdeal [hAttnQReferenceIdeal : Cert.AttnQReferenceIdeal.Facts] : Prop :=
  ∀ (m : (ℓ : Loc Cert.AttnQReferenceIdeal.nD Cert.AttnQReferenceIdeal.τ Cert.AttnQReferenceIdeal.sig) → Buf (Elt Ideal) ℓ) (g : Dev Cert.AttnQReferenceIdeal.nD → PrngReg), Pre_AttnQReferenceIdeal m →
    θ_run (Cert.AttnQReferenceIdeal.defs (F := Ideal)) (onTc (τ := Cert.AttnQReferenceIdeal.τ) (Cert.AttnQReferenceIdeal.main (F := Ideal))) ⟨m, fun _ => 0, g⟩ (fun r => (∀ c : Dev Cert.AttnQReferenceIdeal.nD,
      r.2.mem ((c.tc : Thread Cert.AttnQReferenceIdeal.nD Cert.AttnQReferenceIdeal.τ).loc Cert.AttnQReferenceIdeal.main_arg0) = m ((c.tc : Thread Cert.AttnQReferenceIdeal.nD Cert.AttnQReferenceIdeal.τ).loc Cert.AttnQReferenceIdeal.main_arg0)
      ∧ r.2.mem ((c.tc : Thread Cert.AttnQReferenceIdeal.nD Cert.AttnQReferenceIdeal.τ).loc Cert.AttnQReferenceIdeal.main_arg1) = m ((c.tc : Thread Cert.AttnQReferenceIdeal.nD Cert.AttnQReferenceIdeal.τ).loc Cert.AttnQReferenceIdeal.main_arg1))
      ∧ r.2.sem = fun _ => 0)

def quiescent_AttnK [hAttnK : Cert.AttnK.Facts] : Prop :=
  ∀ (m : (ℓ : Loc Cert.AttnK.nD Cert.AttnK.τ Cert.AttnK.sig) → Buf (Elt Bits) ℓ) (g : Dev Cert.AttnK.nD → PrngReg), Pre_AttnK m →
    θ_run (Cert.AttnK.defs (F := Bits)) (onTc (τ := Cert.AttnK.τ) (Cert.AttnK.main (F := Bits))) ⟨m, fun _ => 0, g⟩ (fun r => (∀ c : Dev Cert.AttnK.nD,
      r.2.mem ((c.tc : Thread Cert.AttnK.nD Cert.AttnK.τ).loc Cert.AttnK.main_arg0) = m ((c.tc : Thread Cert.AttnK.nD Cert.AttnK.τ).loc Cert.AttnK.main_arg0)
      ∧ r.2.mem ((c.tc : Thread Cert.AttnK.nD Cert.AttnK.τ).loc Cert.AttnK.main_arg1) = m ((c.tc : Thread Cert.AttnK.nD Cert.AttnK.τ).loc Cert.AttnK.main_arg1))
      ∧ r.2.sem = fun _ => 0)

def quiescent_AttnKIdeal [hAttnKIdeal : Cert.AttnKIdeal.Facts] : Prop :=
  ∀ (m : (ℓ : Loc Cert.AttnKIdeal.nD Cert.AttnKIdeal.τ Cert.AttnKIdeal.sig) → Buf (Elt Ideal) ℓ) (g : Dev Cert.AttnKIdeal.nD → PrngReg), Pre_AttnKIdeal m →
    θ_run (Cert.AttnKIdeal.defs (F := Ideal)) (onTc (τ := Cert.AttnKIdeal.τ) (Cert.AttnKIdeal.main (F := Ideal))) ⟨m, fun _ => 0, g⟩ (fun r => (∀ c : Dev Cert.AttnKIdeal.nD,
      r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
      ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1))
      ∧ r.2.sem = fun _ => 0)

def quiescent_AttnKReferenceIdeal [hAttnKReferenceIdeal : Cert.AttnKReferenceIdeal.Facts] : Prop :=
  ∀ (m : (ℓ : Loc Cert.AttnKReferenceIdeal.nD Cert.AttnKReferenceIdeal.τ Cert.AttnKReferenceIdeal.sig) → Buf (Elt Ideal) ℓ) (g : Dev Cert.AttnKReferenceIdeal.nD → PrngReg), Pre_AttnKReferenceIdeal m →
    θ_run (Cert.AttnKReferenceIdeal.defs (F := Ideal)) (onTc (τ := Cert.AttnKReferenceIdeal.τ) (Cert.AttnKReferenceIdeal.main (F := Ideal))) ⟨m, fun _ => 0, g⟩ (fun r => (∀ c : Dev Cert.AttnKReferenceIdeal.nD,
      r.2.mem ((c.tc : Thread Cert.AttnKReferenceIdeal.nD Cert.AttnKReferenceIdeal.τ).loc Cert.AttnKReferenceIdeal.main_arg0) = m ((c.tc : Thread Cert.AttnKReferenceIdeal.nD Cert.AttnKReferenceIdeal.τ).loc Cert.AttnKReferenceIdeal.main_arg0)
      ∧ r.2.mem ((c.tc : Thread Cert.AttnKReferenceIdeal.nD Cert.AttnKReferenceIdeal.τ).loc Cert.AttnKReferenceIdeal.main_arg1) = m ((c.tc : Thread Cert.AttnKReferenceIdeal.nD Cert.AttnKReferenceIdeal.τ).loc Cert.AttnKReferenceIdeal.main_arg1))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdReferenceIdeal [hNormFwdReferenceIdeal : Cert.NormFwdReferenceIdeal.Facts] : Prop :=
  ∀ (m : (ℓ : Loc Cert.NormFwdReferenceIdeal.nD Cert.NormFwdReferenceIdeal.τ Cert.NormFwdReferenceIdeal.sig) → Buf (Elt Ideal) ℓ) (g : Dev Cert.NormFwdReferenceIdeal.nD → PrngReg), Pre_NormFwdReferenceIdeal m →
    θ_run (Cert.NormFwdReferenceIdeal.defs (F := Ideal)) (onTc (τ := Cert.NormFwdReferenceIdeal.τ) (Cert.NormFwdReferenceIdeal.main (F := Ideal))) ⟨m, fun _ => 0, g⟩ (fun r => (∀ c : Dev Cert.NormFwdReferenceIdeal.nD,
      r.2.mem ((c.tc : Thread Cert.NormFwdReferenceIdeal.nD Cert.NormFwdReferenceIdeal.τ).loc Cert.NormFwdReferenceIdeal.main_arg0) = m ((c.tc : Thread Cert.NormFwdReferenceIdeal.nD Cert.NormFwdReferenceIdeal.τ).loc Cert.NormFwdReferenceIdeal.main_arg0)
      ∧ r.2.mem ((c.tc : Thread Cert.NormFwdReferenceIdeal.nD Cert.NormFwdReferenceIdeal.τ).loc Cert.NormFwdReferenceIdeal.main_arg1) = m ((c.tc : Thread Cert.NormFwdReferenceIdeal.nD Cert.NormFwdReferenceIdeal.τ).loc Cert.NormFwdReferenceIdeal.main_arg1))
      ∧ r.2.sem = fun _ => 0)

def quiescent_NormMem [hNormMem : Cert.NormMem.Facts] : Prop :=
  ∀ (m : (ℓ : Loc Cert.NormMem.nD Cert.NormMem.τ Cert.NormMem.sig) → Buf (Elt Bits) ℓ) (g : Dev Cert.NormMem.nD → PrngReg), Pre_NormMem m →
    θ_run (Cert.NormMem.defs (F := Bits)) (onTc (τ := Cert.NormMem.τ) (Cert.NormMem.main (F := Bits))) ⟨m, fun _ => 0, g⟩ (fun r => (∀ c : Dev Cert.NormMem.nD,
      r.2.mem ((c.tc : Thread Cert.NormMem.nD Cert.NormMem.τ).loc Cert.NormMem.main_arg0) = m ((c.tc : Thread Cert.NormMem.nD Cert.NormMem.τ).loc Cert.NormMem.main_arg0)
      ∧ r.2.mem ((c.tc : Thread Cert.NormMem.nD Cert.NormMem.τ).loc Cert.NormMem.main_arg1) = m ((c.tc : Thread Cert.NormMem.nD Cert.NormMem.τ).loc Cert.NormMem.main_arg1))
      ∧ r.2.sem = fun _ => 0)

def quiescent_NormMemIdeal [hNormMemIdeal : Cert.NormMemIdeal.Facts] : Prop :=
  ∀ (m : (ℓ : Loc Cert.NormMemIdeal.nD Cert.NormMemIdeal.τ Cert.NormMemIdeal.sig) → Buf (Elt Ideal) ℓ) (g : Dev Cert.NormMemIdeal.nD → PrngReg), Pre_NormMemIdeal m →
    θ_run (Cert.NormMemIdeal.defs (F := Ideal)) (onTc (τ := Cert.NormMemIdeal.τ) (Cert.NormMemIdeal.main (F := Ideal))) ⟨m, fun _ => 0, g⟩ (fun r => (∀ c : Dev Cert.NormMemIdeal.nD,
      r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
      ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ r.2.sem = fun _ => 0)

def quiescent_NormMemReferenceIdeal [hNormMemReferenceIdeal : Cert.NormMemReferenceIdeal.Facts] : Prop :=
  ∀ (m : (ℓ : Loc Cert.NormMemReferenceIdeal.nD Cert.NormMemReferenceIdeal.τ Cert.NormMemReferenceIdeal.sig) → Buf (Elt Ideal) ℓ) (g : Dev Cert.NormMemReferenceIdeal.nD → PrngReg), Pre_NormMemReferenceIdeal m →
    θ_run (Cert.NormMemReferenceIdeal.defs (F := Ideal)) (onTc (τ := Cert.NormMemReferenceIdeal.τ) (Cert.NormMemReferenceIdeal.main (F := Ideal))) ⟨m, fun _ => 0, g⟩ (fun r => (∀ c : Dev Cert.NormMemReferenceIdeal.nD,
      r.2.mem ((c.tc : Thread Cert.NormMemReferenceIdeal.nD Cert.NormMemReferenceIdeal.τ).loc Cert.NormMemReferenceIdeal.main_arg0) = m ((c.tc : Thread Cert.NormMemReferenceIdeal.nD Cert.NormMemReferenceIdeal.τ).loc Cert.NormMemReferenceIdeal.main_arg0)
      ∧ r.2.mem ((c.tc : Thread Cert.NormMemReferenceIdeal.nD Cert.NormMemReferenceIdeal.τ).loc Cert.NormMemReferenceIdeal.main_arg1) = m ((c.tc : Thread Cert.NormMemReferenceIdeal.nD Cert.NormMemReferenceIdeal.τ).loc Cert.NormMemReferenceIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdReferenceIdeal [hNormBwdReferenceIdeal : Cert.NormBwdReferenceIdeal.Facts] : Prop :=
  ∀ (m : (ℓ : Loc Cert.NormBwdReferenceIdeal.nD Cert.NormBwdReferenceIdeal.τ Cert.NormBwdReferenceIdeal.sig) → Buf (Elt Ideal) ℓ) (g : Dev Cert.NormBwdReferenceIdeal.nD → PrngReg), Pre_NormBwdReferenceIdeal m →
    θ_run (Cert.NormBwdReferenceIdeal.defs (F := Ideal)) (onTc (τ := Cert.NormBwdReferenceIdeal.τ) (Cert.NormBwdReferenceIdeal.main (F := Ideal))) ⟨m, fun _ => 0, g⟩ (fun r => (∀ c : Dev Cert.NormBwdReferenceIdeal.nD,
      r.2.mem ((c.tc : Thread Cert.NormBwdReferenceIdeal.nD Cert.NormBwdReferenceIdeal.τ).loc Cert.NormBwdReferenceIdeal.main_arg0) = m ((c.tc : Thread Cert.NormBwdReferenceIdeal.nD Cert.NormBwdReferenceIdeal.τ).loc Cert.NormBwdReferenceIdeal.main_arg0)
      ∧ r.2.mem ((c.tc : Thread Cert.NormBwdReferenceIdeal.nD Cert.NormBwdReferenceIdeal.τ).loc Cert.NormBwdReferenceIdeal.main_arg1) = m ((c.tc : Thread Cert.NormBwdReferenceIdeal.nD Cert.NormBwdReferenceIdeal.τ).loc Cert.NormBwdReferenceIdeal.main_arg1)
      ∧ r.2.mem ((c.tc : Thread Cert.NormBwdReferenceIdeal.nD Cert.NormBwdReferenceIdeal.τ).loc Cert.NormBwdReferenceIdeal.main_arg2) = m ((c.tc : Thread Cert.NormBwdReferenceIdeal.nD Cert.NormBwdReferenceIdeal.τ).loc Cert.NormBwdReferenceIdeal.main_arg2)
      ∧ r.2.mem ((c.tc : Thread Cert.NormBwdReferenceIdeal.nD Cert.NormBwdReferenceIdeal.τ).loc Cert.NormBwdReferenceIdeal.main_arg3) = m ((c.tc : Thread Cert.NormBwdReferenceIdeal.nD Cert.NormBwdReferenceIdeal.τ).loc Cert.NormBwdReferenceIdeal.main_arg3))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ r.2.sem = fun _ => 0)

def quiescent_NormMemBwdReferenceIdeal [hNormMemBwdReferenceIdeal : Cert.NormMemBwdReferenceIdeal.Facts] : Prop :=
  ∀ (m : (ℓ : Loc Cert.NormMemBwdReferenceIdeal.nD Cert.NormMemBwdReferenceIdeal.τ Cert.NormMemBwdReferenceIdeal.sig) → Buf (Elt Ideal) ℓ) (g : Dev Cert.NormMemBwdReferenceIdeal.nD → PrngReg), Pre_NormMemBwdReferenceIdeal m →
    θ_run (Cert.NormMemBwdReferenceIdeal.defs (F := Ideal)) (onTc (τ := Cert.NormMemBwdReferenceIdeal.τ) (Cert.NormMemBwdReferenceIdeal.main (F := Ideal))) ⟨m, fun _ => 0, g⟩ (fun r => (∀ c : Dev Cert.NormMemBwdReferenceIdeal.nD,
      r.2.mem ((c.tc : Thread Cert.NormMemBwdReferenceIdeal.nD Cert.NormMemBwdReferenceIdeal.τ).loc Cert.NormMemBwdReferenceIdeal.main_arg0) = m ((c.tc : Thread Cert.NormMemBwdReferenceIdeal.nD Cert.NormMemBwdReferenceIdeal.τ).loc Cert.NormMemBwdReferenceIdeal.main_arg0)
      ∧ r.2.mem ((c.tc : Thread Cert.NormMemBwdReferenceIdeal.nD Cert.NormMemBwdReferenceIdeal.τ).loc Cert.NormMemBwdReferenceIdeal.main_arg1) = m ((c.tc : Thread Cert.NormMemBwdReferenceIdeal.nD Cert.NormMemBwdReferenceIdeal.τ).loc Cert.NormMemBwdReferenceIdeal.main_arg1)
      ∧ r.2.mem ((c.tc : Thread Cert.NormMemBwdReferenceIdeal.nD Cert.NormMemBwdReferenceIdeal.τ).loc Cert.NormMemBwdReferenceIdeal.main_arg2) = m ((c.tc : Thread Cert.NormMemBwdReferenceIdeal.nD Cert.NormMemBwdReferenceIdeal.τ).loc Cert.NormMemBwdReferenceIdeal.main_arg2))
      ∧ r.2.sem = fun _ => 0)

def quiescent_LossBwd [hLossBwd : Cert.LossBwd.Facts] : Prop :=
  ∀ (m : (ℓ : Loc Cert.LossBwd.nD Cert.LossBwd.τ Cert.LossBwd.sig) → Buf (Elt Bits) ℓ) (g : Dev Cert.LossBwd.nD → PrngReg), Pre_LossBwd m →
    θ_run (Cert.LossBwd.defs (F := Bits)) (onTc (τ := Cert.LossBwd.τ) (Cert.LossBwd.main (F := Bits))) ⟨m, fun _ => 0, g⟩ (fun r => (∀ c : Dev Cert.LossBwd.nD,
      r.2.mem ((c.tc : Thread Cert.LossBwd.nD Cert.LossBwd.τ).loc Cert.LossBwd.main_arg0) = m ((c.tc : Thread Cert.LossBwd.nD Cert.LossBwd.τ).loc Cert.LossBwd.main_arg0)
      ∧ r.2.mem ((c.tc : Thread Cert.LossBwd.nD Cert.LossBwd.τ).loc Cert.LossBwd.main_arg1) = m ((c.tc : Thread Cert.LossBwd.nD Cert.LossBwd.τ).loc Cert.LossBwd.main_arg1)
      ∧ r.2.mem ((c.tc : Thread Cert.LossBwd.nD Cert.LossBwd.τ).loc Cert.LossBwd.main_arg2) = m ((c.tc : Thread Cert.LossBwd.nD Cert.LossBwd.τ).loc Cert.LossBwd.main_arg2))
      ∧ r.2.sem = fun _ => 0)

def quiescent_LossBwdIdeal [hLossBwdIdeal : Cert.LossBwdIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg), Pre_LossBwdIdeal m →
    θ_run (Cert.LossBwdIdeal.defs (F := Ideal)) (onTc (τ := Cert.LossBwdIdeal.τ) (Cert.LossBwdIdeal.main (F := Ideal))) ⟨m, fun _ => 0, g⟩ (fun r => (∀ c : Dev Cert.LossBwdIdeal.nD,
      r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
      ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
      ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ r.2.sem = fun _ => 0)

def quiescent_LossBwdReferenceIdeal [hLossBwdReferenceIdeal : Cert.LossBwdReferenceIdeal.Facts] : Prop :=
  ∀ (m : (ℓ : Loc Cert.LossBwdReferenceIdeal.nD Cert.LossBwdReferenceIdeal.τ Cert.LossBwdReferenceIdeal.sig) → Buf (Elt Ideal) ℓ) (g : Dev Cert.LossBwdReferenceIdeal.nD → PrngReg), Pre_LossBwdReferenceIdeal m →
    θ_run (Cert.LossBwdReferenceIdeal.defs (F := Ideal)) (onTc (τ := Cert.LossBwdReferenceIdeal.τ) (Cert.LossBwdReferenceIdeal.main (F := Ideal))) ⟨m, fun _ => 0, g⟩ (fun r => (∀ c : Dev Cert.LossBwdReferenceIdeal.nD,
      r.2.mem ((c.tc : Thread Cert.LossBwdReferenceIdeal.nD Cert.LossBwdReferenceIdeal.τ).loc Cert.LossBwdReferenceIdeal.main_arg0) = m ((c.tc : Thread Cert.LossBwdReferenceIdeal.nD Cert.LossBwdReferenceIdeal.τ).loc Cert.LossBwdReferenceIdeal.main_arg0)
      ∧ r.2.mem ((c.tc : Thread Cert.LossBwdReferenceIdeal.nD Cert.LossBwdReferenceIdeal.τ).loc Cert.LossBwdReferenceIdeal.main_arg1) = m ((c.tc : Thread Cert.LossBwdReferenceIdeal.nD Cert.LossBwdReferenceIdeal.τ).loc Cert.LossBwdReferenceIdeal.main_arg1)
      ∧ r.2.mem ((c.tc : Thread Cert.LossBwdReferenceIdeal.nD Cert.LossBwdReferenceIdeal.τ).loc Cert.LossBwdReferenceIdeal.main_arg2) = m ((c.tc : Thread Cert.LossBwdReferenceIdeal.nD Cert.LossBwdReferenceIdeal.τ).loc Cert.LossBwdReferenceIdeal.main_arg2))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ r.2.sem = fun _ => 0)

def quiescent_FfnFwdReferenceIdeal [hFfnFwdReferenceIdeal : Cert.FfnFwdReferenceIdeal.Facts] : Prop :=
  ∀ (m : (ℓ : Loc Cert.FfnFwdReferenceIdeal.nD Cert.FfnFwdReferenceIdeal.τ Cert.FfnFwdReferenceIdeal.sig) → Buf (Elt Ideal) ℓ) (g : Dev Cert.FfnFwdReferenceIdeal.nD → PrngReg), Pre_FfnFwdReferenceIdeal m →
    θ_run (Cert.FfnFwdReferenceIdeal.defs (F := Ideal)) (onTc (τ := Cert.FfnFwdReferenceIdeal.τ) (Cert.FfnFwdReferenceIdeal.main (F := Ideal))) ⟨m, fun _ => 0, g⟩ (fun r => (∀ c : Dev Cert.FfnFwdReferenceIdeal.nD,
      r.2.mem ((c.tc : Thread Cert.FfnFwdReferenceIdeal.nD Cert.FfnFwdReferenceIdeal.τ).loc Cert.FfnFwdReferenceIdeal.main_arg0) = m ((c.tc : Thread Cert.FfnFwdReferenceIdeal.nD Cert.FfnFwdReferenceIdeal.τ).loc Cert.FfnFwdReferenceIdeal.main_arg0)
      ∧ r.2.mem ((c.tc : Thread Cert.FfnFwdReferenceIdeal.nD Cert.FfnFwdReferenceIdeal.τ).loc Cert.FfnFwdReferenceIdeal.main_arg1) = m ((c.tc : Thread Cert.FfnFwdReferenceIdeal.nD Cert.FfnFwdReferenceIdeal.τ).loc Cert.FfnFwdReferenceIdeal.main_arg1)
      ∧ r.2.mem ((c.tc : Thread Cert.FfnFwdReferenceIdeal.nD Cert.FfnFwdReferenceIdeal.τ).loc Cert.FfnFwdReferenceIdeal.main_arg2) = m ((c.tc : Thread Cert.FfnFwdReferenceIdeal.nD Cert.FfnFwdReferenceIdeal.τ).loc Cert.FfnFwdReferenceIdeal.main_arg2)
      ∧ r.2.mem ((c.tc : Thread Cert.FfnFwdReferenceIdeal.nD Cert.FfnFwdReferenceIdeal.τ).loc Cert.FfnFwdReferenceIdeal.main_arg3) = m ((c.tc : Thread Cert.FfnFwdReferenceIdeal.nD Cert.FfnFwdReferenceIdeal.τ).loc Cert.FfnFwdReferenceIdeal.main_arg3))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdIdeal_pre_ffn_bwd_finite [hFfnBwdIdeal : Cert.FfnBwdIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_bwd_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ r.2.sem = fun _ => 0)

def quiescent_FfnBwdReferenceIdeal [hFfnBwdReferenceIdeal : Cert.FfnBwdReferenceIdeal.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4))
      ∧ r.2.sem = fun _ => 0)

def quiescent_FfnBwdReferenceIdeal_pre_ffn_bwd_finite [hFfnBwdReferenceIdeal : Cert.FfnBwdReferenceIdeal.Facts] [hPre_ffn_bwd_finite : Cert.Pre_ffn_bwd_finite.Facts] : Prop :=
  ∀ (m : (ℓ : Loc Cert.FfnBwdReferenceIdeal.nD Cert.FfnBwdReferenceIdeal.τ Cert.FfnBwdReferenceIdeal.sig) → Buf (Elt Ideal) ℓ) (g : Dev Cert.FfnBwdReferenceIdeal.nD → PrngReg), Pre_FfnBwdReferenceIdeal_ffn_bwd_finite m →
    θ_run (Cert.FfnBwdReferenceIdeal.defs (F := Ideal)) (onTc (τ := Cert.FfnBwdReferenceIdeal.τ) (Cert.FfnBwdReferenceIdeal.main (F := Ideal))) ⟨m, fun _ => 0, g⟩ (fun r => (∀ c : Dev Cert.FfnBwdReferenceIdeal.nD,
      r.2.mem ((c.tc : Thread Cert.FfnBwdReferenceIdeal.nD Cert.FfnBwdReferenceIdeal.τ).loc Cert.FfnBwdReferenceIdeal.main_arg0) = m ((c.tc : Thread Cert.FfnBwdReferenceIdeal.nD Cert.FfnBwdReferenceIdeal.τ).loc Cert.FfnBwdReferenceIdeal.main_arg0)
      ∧ r.2.mem ((c.tc : Thread Cert.FfnBwdReferenceIdeal.nD Cert.FfnBwdReferenceIdeal.τ).loc Cert.FfnBwdReferenceIdeal.main_arg1) = m ((c.tc : Thread Cert.FfnBwdReferenceIdeal.nD Cert.FfnBwdReferenceIdeal.τ).loc Cert.FfnBwdReferenceIdeal.main_arg1)
      ∧ r.2.mem ((c.tc : Thread Cert.FfnBwdReferenceIdeal.nD Cert.FfnBwdReferenceIdeal.τ).loc Cert.FfnBwdReferenceIdeal.main_arg2) = m ((c.tc : Thread Cert.FfnBwdReferenceIdeal.nD Cert.FfnBwdReferenceIdeal.τ).loc Cert.FfnBwdReferenceIdeal.main_arg2)
      ∧ r.2.mem ((c.tc : Thread Cert.FfnBwdReferenceIdeal.nD Cert.FfnBwdReferenceIdeal.τ).loc Cert.FfnBwdReferenceIdeal.main_arg3) = m ((c.tc : Thread Cert.FfnBwdReferenceIdeal.nD Cert.FfnBwdReferenceIdeal.τ).loc Cert.FfnBwdReferenceIdeal.main_arg3)
      ∧ r.2.mem ((c.tc : Thread Cert.FfnBwdReferenceIdeal.nD Cert.FfnBwdReferenceIdeal.τ).loc Cert.FfnBwdReferenceIdeal.main_arg4) = m ((c.tc : Thread Cert.FfnBwdReferenceIdeal.nD Cert.FfnBwdReferenceIdeal.τ).loc Cert.FfnBwdReferenceIdeal.main_arg4))
      ∧ r.2.sem = fun _ => 0)

def quiescent_SconvFwd [hSconvFwd : Cert.SconvFwd.Facts] : Prop :=
  ∀ (m : (ℓ : Loc Cert.SconvFwd.nD Cert.SconvFwd.τ Cert.SconvFwd.sig) → Buf (Elt Bits) ℓ) (g : Dev Cert.SconvFwd.nD → PrngReg), Pre_SconvFwd m →
    θ_run (Cert.SconvFwd.defs (F := Bits)) (onTc (τ := Cert.SconvFwd.τ) (Cert.SconvFwd.main (F := Bits))) ⟨m, fun _ => 0, g⟩ (fun r => (∀ c : Dev Cert.SconvFwd.nD,
      r.2.mem ((c.tc : Thread Cert.SconvFwd.nD Cert.SconvFwd.τ).loc Cert.SconvFwd.main_arg0) = m ((c.tc : Thread Cert.SconvFwd.nD Cert.SconvFwd.τ).loc Cert.SconvFwd.main_arg0)
      ∧ r.2.mem ((c.tc : Thread Cert.SconvFwd.nD Cert.SconvFwd.τ).loc Cert.SconvFwd.main_arg1) = m ((c.tc : Thread Cert.SconvFwd.nD Cert.SconvFwd.τ).loc Cert.SconvFwd.main_arg1)
      ∧ r.2.mem ((c.tc : Thread Cert.SconvFwd.nD Cert.SconvFwd.τ).loc Cert.SconvFwd.main_arg2) = m ((c.tc : Thread Cert.SconvFwd.nD Cert.SconvFwd.τ).loc Cert.SconvFwd.main_arg2))
      ∧ r.2.sem = fun _ => 0)

def quiescent_SconvFwdIdeal [hSconvFwdIdeal : Cert.SconvFwdIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg), Pre_SconvFwdIdeal m →
    θ_run (Cert.SconvFwdIdeal.defs (F := Ideal)) (onTc (τ := Cert.SconvFwdIdeal.τ) (Cert.SconvFwdIdeal.main (F := Ideal))) ⟨m, fun _ => 0, g⟩ (fun r => (∀ c : Dev Cert.SconvFwdIdeal.nD,
      r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
      ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1)
      ∧ r.2.mem ((c.tc : Thread Cert.SconvFwdIdeal.nD Cert.SconvFwdIdeal.τ).loc Cert.SconvFwdIdeal.main_arg2) = m ((c.tc : Thread Cert.SconvFwdIdeal.nD Cert.SconvFwdIdeal.τ).loc Cert.SconvFwdIdeal.main_arg2))
      ∧ r.2.sem = fun _ => 0)

def quiescent_SconvFwdReferenceIdeal [hSconvFwdReferenceIdeal : Cert.SconvFwdReferenceIdeal.Facts] : Prop :=
  ∀ (m : (ℓ : Loc Cert.SconvFwdReferenceIdeal.nD Cert.SconvFwdReferenceIdeal.τ Cert.SconvFwdReferenceIdeal.sig) → Buf (Elt Ideal) ℓ) (g : Dev Cert.SconvFwdReferenceIdeal.nD → PrngReg), Pre_SconvFwdReferenceIdeal m →
    θ_run (Cert.SconvFwdReferenceIdeal.defs (F := Ideal)) (onTc (τ := Cert.SconvFwdReferenceIdeal.τ) (Cert.SconvFwdReferenceIdeal.main (F := Ideal))) ⟨m, fun _ => 0, g⟩ (fun r => (∀ c : Dev Cert.SconvFwdReferenceIdeal.nD,
      r.2.mem ((c.tc : Thread Cert.SconvFwdReferenceIdeal.nD Cert.SconvFwdReferenceIdeal.τ).loc Cert.SconvFwdReferenceIdeal.main_arg0) = m ((c.tc : Thread Cert.SconvFwdReferenceIdeal.nD Cert.SconvFwdReferenceIdeal.τ).loc Cert.SconvFwdReferenceIdeal.main_arg0)
      ∧ r.2.mem ((c.tc : Thread Cert.SconvFwdReferenceIdeal.nD Cert.SconvFwdReferenceIdeal.τ).loc Cert.SconvFwdReferenceIdeal.main_arg1) = m ((c.tc : Thread Cert.SconvFwdReferenceIdeal.nD Cert.SconvFwdReferenceIdeal.τ).loc Cert.SconvFwdReferenceIdeal.main_arg1)
      ∧ r.2.mem ((c.tc : Thread Cert.SconvFwdReferenceIdeal.nD Cert.SconvFwdReferenceIdeal.τ).loc Cert.SconvFwdReferenceIdeal.main_arg2) = m ((c.tc : Thread Cert.SconvFwdReferenceIdeal.nD Cert.SconvFwdReferenceIdeal.τ).loc Cert.SconvFwdReferenceIdeal.main_arg2))
      ∧ r.2.sem = fun _ => 0)

def quiescent_SconvBwd [hSconvBwd : Cert.SconvBwd.Facts] : Prop :=
  ∀ (m : (ℓ : Loc Cert.SconvBwd.nD Cert.SconvBwd.τ Cert.SconvBwd.sig) → Buf (Elt Bits) ℓ) (g : Dev Cert.SconvBwd.nD → PrngReg), Pre_SconvBwd m →
    θ_run (Cert.SconvBwd.defs (F := Bits)) (onTc (τ := Cert.SconvBwd.τ) (Cert.SconvBwd.main (F := Bits))) ⟨m, fun _ => 0, g⟩ (fun r => (∀ c : Dev Cert.SconvBwd.nD,
      r.2.mem ((c.tc : Thread Cert.SconvBwd.nD Cert.SconvBwd.τ).loc Cert.SconvBwd.main_arg0) = m ((c.tc : Thread Cert.SconvBwd.nD Cert.SconvBwd.τ).loc Cert.SconvBwd.main_arg0)
      ∧ r.2.mem ((c.tc : Thread Cert.SconvBwd.nD Cert.SconvBwd.τ).loc Cert.SconvBwd.main_arg1) = m ((c.tc : Thread Cert.SconvBwd.nD Cert.SconvBwd.τ).loc Cert.SconvBwd.main_arg1)
      ∧ r.2.mem ((c.tc : Thread Cert.SconvBwd.nD Cert.SconvBwd.τ).loc Cert.SconvBwd.main_arg2) = m ((c.tc : Thread Cert.SconvBwd.nD Cert.SconvBwd.τ).loc Cert.SconvBwd.main_arg2)
      ∧ r.2.mem ((c.tc : Thread Cert.SconvBwd.nD Cert.SconvBwd.τ).loc Cert.SconvBwd.main_arg3) = m ((c.tc : Thread Cert.SconvBwd.nD Cert.SconvBwd.τ).loc Cert.SconvBwd.main_arg3))
      ∧ r.2.sem = fun _ => 0)

def quiescent_SconvBwdIdeal [hSconvBwdIdeal : Cert.SconvBwdIdeal.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg), Pre_SconvBwdIdeal m →
    θ_run (Cert.SconvBwdIdeal.defs (F := Ideal)) (onTc (τ := Cert.SconvBwdIdeal.τ) (Cert.SconvBwdIdeal.main (F := Ideal))) ⟨m, fun _ => 0, g⟩ (fun r => (∀ c : Dev Cert.SconvBwdIdeal.nD,
      r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
      ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
      ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2)
      ∧ r.2.mem ((c.tc : Thread Cert.SconvBwdIdeal.nD Cert.SconvBwdIdeal.τ).loc Cert.SconvBwdIdeal.main_arg3) = m ((c.tc : Thread Cert.SconvBwdIdeal.nD Cert.SconvBwdIdeal.τ).loc Cert.SconvBwdIdeal.main_arg3))
      ∧ r.2.sem = fun _ => 0)

def quiescent_SconvBwdReferenceIdeal [hSconvBwdReferenceIdeal : Cert.SconvBwdReferenceIdeal.Facts] : Prop :=
  ∀ (m : (ℓ : Loc Cert.SconvBwdReferenceIdeal.nD Cert.SconvBwdReferenceIdeal.τ Cert.SconvBwdReferenceIdeal.sig) → Buf (Elt Ideal) ℓ) (g : Dev Cert.SconvBwdReferenceIdeal.nD → PrngReg), Pre_SconvBwdReferenceIdeal m →
    θ_run (Cert.SconvBwdReferenceIdeal.defs (F := Ideal)) (onTc (τ := Cert.SconvBwdReferenceIdeal.τ) (Cert.SconvBwdReferenceIdeal.main (F := Ideal))) ⟨m, fun _ => 0, g⟩ (fun r => (∀ c : Dev Cert.SconvBwdReferenceIdeal.nD,
      r.2.mem ((c.tc : Thread Cert.SconvBwdReferenceIdeal.nD Cert.SconvBwdReferenceIdeal.τ).loc Cert.SconvBwdReferenceIdeal.main_arg0) = m ((c.tc : Thread Cert.SconvBwdReferenceIdeal.nD Cert.SconvBwdReferenceIdeal.τ).loc Cert.SconvBwdReferenceIdeal.main_arg0)
      ∧ r.2.mem ((c.tc : Thread Cert.SconvBwdReferenceIdeal.nD Cert.SconvBwdReferenceIdeal.τ).loc Cert.SconvBwdReferenceIdeal.main_arg1) = m ((c.tc : Thread Cert.SconvBwdReferenceIdeal.nD Cert.SconvBwdReferenceIdeal.τ).loc Cert.SconvBwdReferenceIdeal.main_arg1)
      ∧ r.2.mem ((c.tc : Thread Cert.SconvBwdReferenceIdeal.nD Cert.SconvBwdReferenceIdeal.τ).loc Cert.SconvBwdReferenceIdeal.main_arg2) = m ((c.tc : Thread Cert.SconvBwdReferenceIdeal.nD Cert.SconvBwdReferenceIdeal.τ).loc Cert.SconvBwdReferenceIdeal.main_arg2)
      ∧ r.2.mem ((c.tc : Thread Cert.SconvBwdReferenceIdeal.nD Cert.SconvBwdReferenceIdeal.τ).loc Cert.SconvBwdReferenceIdeal.main_arg3) = m ((c.tc : Thread Cert.SconvBwdReferenceIdeal.nD Cert.SconvBwdReferenceIdeal.τ).loc Cert.SconvBwdReferenceIdeal.main_arg3))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdReferenceIdeal [hAttnFwdReferenceIdeal : Cert.AttnFwdReferenceIdeal.Facts] : Prop :=
  ∀ (m : (ℓ : Loc Cert.AttnFwdReferenceIdeal.nD Cert.AttnFwdReferenceIdeal.τ Cert.AttnFwdReferenceIdeal.sig) → Buf (Elt Ideal) ℓ) (g : Dev Cert.AttnFwdReferenceIdeal.nD → PrngReg), Pre_AttnFwdReferenceIdeal m →
    θ_run (Cert.AttnFwdReferenceIdeal.defs (F := Ideal)) (onTc (τ := Cert.AttnFwdReferenceIdeal.τ) (Cert.AttnFwdReferenceIdeal.main (F := Ideal))) ⟨m, fun _ => 0, g⟩ (fun r => (∀ c : Dev Cert.AttnFwdReferenceIdeal.nD,
      r.2.mem ((c.tc : Thread Cert.AttnFwdReferenceIdeal.nD Cert.AttnFwdReferenceIdeal.τ).loc Cert.AttnFwdReferenceIdeal.main_arg0) = m ((c.tc : Thread Cert.AttnFwdReferenceIdeal.nD Cert.AttnFwdReferenceIdeal.τ).loc Cert.AttnFwdReferenceIdeal.main_arg0)
      ∧ r.2.mem ((c.tc : Thread Cert.AttnFwdReferenceIdeal.nD Cert.AttnFwdReferenceIdeal.τ).loc Cert.AttnFwdReferenceIdeal.main_arg1) = m ((c.tc : Thread Cert.AttnFwdReferenceIdeal.nD Cert.AttnFwdReferenceIdeal.τ).loc Cert.AttnFwdReferenceIdeal.main_arg1)
      ∧ r.2.mem ((c.tc : Thread Cert.AttnFwdReferenceIdeal.nD Cert.AttnFwdReferenceIdeal.τ).loc Cert.AttnFwdReferenceIdeal.main_arg2) = m ((c.tc : Thread Cert.AttnFwdReferenceIdeal.nD Cert.AttnFwdReferenceIdeal.τ).loc Cert.AttnFwdReferenceIdeal.main_arg2))
      ∧ r.2.sem = fun _ => 0)

def quiescent_AdamLb [hAdamLb : Cert.AdamLb.Facts] : Prop :=
  ∀ (m : (ℓ : Loc Cert.AdamLb.nD Cert.AdamLb.τ Cert.AdamLb.sig) → Buf (Elt Bits) ℓ) (g : Dev Cert.AdamLb.nD → PrngReg), Pre_AdamLb m →
    θ_run (Cert.AdamLb.defs (F := Bits)) (onTc (τ := Cert.AdamLb.τ) (Cert.AdamLb.main (F := Bits))) ⟨m, fun _ => 0, g⟩ (fun r => (∀ c : Dev Cert.AdamLb.nD,
      r.2.mem ((c.tc : Thread Cert.AdamLb.nD Cert.AdamLb.τ).loc Cert.AdamLb.main_arg0) = m ((c.tc : Thread Cert.AdamLb.nD Cert.AdamLb.τ).loc Cert.AdamLb.main_arg0)
      ∧ r.2.mem ((c.tc : Thread Cert.AdamLb.nD Cert.AdamLb.τ).loc Cert.AdamLb.main_arg1) = m ((c.tc : Thread Cert.AdamLb.nD Cert.AdamLb.τ).loc Cert.AdamLb.main_arg1)
      ∧ r.2.mem ((c.tc : Thread Cert.AdamLb.nD Cert.AdamLb.τ).loc Cert.AdamLb.main_arg2) = m ((c.tc : Thread Cert.AdamLb.nD Cert.AdamLb.τ).loc Cert.AdamLb.main_arg2)
      ∧ r.2.mem ((c.tc : Thread Cert.AdamLb.nD Cert.AdamLb.τ).loc Cert.AdamLb.main_arg3) = m ((c.tc : Thread Cert.AdamLb.nD Cert.AdamLb.τ).loc Cert.AdamLb.main_arg3))
      ∧ r.2.sem = fun _ => 0)

def quiescent_AdamLbIdeal [hAdamLbIdeal : Cert.AdamLbIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg), Pre_AdamLbIdeal m →
    θ_run (Cert.AdamLbIdeal.defs (F := Ideal)) (onTc (τ := Cert.AdamLbIdeal.τ) (Cert.AdamLbIdeal.main (F := Ideal))) ⟨m, fun _ => 0, g⟩ (fun r => (∀ c : Dev Cert.AdamLbIdeal.nD,
      r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
      ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
      ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
      ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3))
      ∧ r.2.sem = fun _ => 0)

def quiescent_AdamLbReferenceIdeal [hAdamLbReferenceIdeal : Cert.AdamLbReferenceIdeal.Facts] : Prop :=
  ∀ (m : (ℓ : Loc Cert.AdamLbReferenceIdeal.nD Cert.AdamLbReferenceIdeal.τ Cert.AdamLbReferenceIdeal.sig) → Buf (Elt Ideal) ℓ) (g : Dev Cert.AdamLbReferenceIdeal.nD → PrngReg), Pre_AdamLbReferenceIdeal m →
    θ_run (Cert.AdamLbReferenceIdeal.defs (F := Ideal)) (onTc (τ := Cert.AdamLbReferenceIdeal.τ) (Cert.AdamLbReferenceIdeal.main (F := Ideal))) ⟨m, fun _ => 0, g⟩ (fun r => (∀ c : Dev Cert.AdamLbReferenceIdeal.nD,
      r.2.mem ((c.tc : Thread Cert.AdamLbReferenceIdeal.nD Cert.AdamLbReferenceIdeal.τ).loc Cert.AdamLbReferenceIdeal.main_arg0) = m ((c.tc : Thread Cert.AdamLbReferenceIdeal.nD Cert.AdamLbReferenceIdeal.τ).loc Cert.AdamLbReferenceIdeal.main_arg0)
      ∧ r.2.mem ((c.tc : Thread Cert.AdamLbReferenceIdeal.nD Cert.AdamLbReferenceIdeal.τ).loc Cert.AdamLbReferenceIdeal.main_arg1) = m ((c.tc : Thread Cert.AdamLbReferenceIdeal.nD Cert.AdamLbReferenceIdeal.τ).loc Cert.AdamLbReferenceIdeal.main_arg1)
      ∧ r.2.mem ((c.tc : Thread Cert.AdamLbReferenceIdeal.nD Cert.AdamLbReferenceIdeal.τ).loc Cert.AdamLbReferenceIdeal.main_arg2) = m ((c.tc : Thread Cert.AdamLbReferenceIdeal.nD Cert.AdamLbReferenceIdeal.τ).loc Cert.AdamLbReferenceIdeal.main_arg2)
      ∧ r.2.mem ((c.tc : Thread Cert.AdamLbReferenceIdeal.nD Cert.AdamLbReferenceIdeal.τ).loc Cert.AdamLbReferenceIdeal.main_arg3) = m ((c.tc : Thread Cert.AdamLbReferenceIdeal.nD Cert.AdamLbReferenceIdeal.τ).loc Cert.AdamLbReferenceIdeal.main_arg3))
      ∧ r.2.sem = fun _ => 0)

def quiescent_AdamNorm [hAdamNorm : Cert.AdamNorm.Facts] : Prop :=
  ∀ (m : (ℓ : Loc Cert.AdamNorm.nD Cert.AdamNorm.τ Cert.AdamNorm.sig) → Buf (Elt Bits) ℓ) (g : Dev Cert.AdamNorm.nD → PrngReg), Pre_AdamNorm m →
    θ_run (Cert.AdamNorm.defs (F := Bits)) (onTc (τ := Cert.AdamNorm.τ) (Cert.AdamNorm.main (F := Bits))) ⟨m, fun _ => 0, g⟩ (fun r => (∀ c : Dev Cert.AdamNorm.nD,
      r.2.mem ((c.tc : Thread Cert.AdamNorm.nD Cert.AdamNorm.τ).loc Cert.AdamNorm.main_arg0) = m ((c.tc : Thread Cert.AdamNorm.nD Cert.AdamNorm.τ).loc Cert.AdamNorm.main_arg0)
      ∧ r.2.mem ((c.tc : Thread Cert.AdamNorm.nD Cert.AdamNorm.τ).loc Cert.AdamNorm.main_arg1) = m ((c.tc : Thread Cert.AdamNorm.nD Cert.AdamNorm.τ).loc Cert.AdamNorm.main_arg1)
      ∧ r.2.mem ((c.tc : Thread Cert.AdamNorm.nD Cert.AdamNorm.τ).loc Cert.AdamNorm.main_arg2) = m ((c.tc : Thread Cert.AdamNorm.nD Cert.AdamNorm.τ).loc Cert.AdamNorm.main_arg2)
      ∧ r.2.mem ((c.tc : Thread Cert.AdamNorm.nD Cert.AdamNorm.τ).loc Cert.AdamNorm.main_arg3) = m ((c.tc : Thread Cert.AdamNorm.nD Cert.AdamNorm.τ).loc Cert.AdamNorm.main_arg3))
      ∧ r.2.sem = fun _ => 0)

def quiescent_AdamNormIdeal [hAdamNormIdeal : Cert.AdamNormIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg), Pre_AdamNormIdeal m →
    θ_run (Cert.AdamNormIdeal.defs (F := Ideal)) (onTc (τ := Cert.AdamNormIdeal.τ) (Cert.AdamNormIdeal.main (F := Ideal))) ⟨m, fun _ => 0, g⟩ (fun r => (∀ c : Dev Cert.AdamNormIdeal.nD,
      r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
      ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
      ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
      ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ r.2.sem = fun _ => 0)

def quiescent_AdamNormReferenceIdeal [hAdamNormReferenceIdeal : Cert.AdamNormReferenceIdeal.Facts] : Prop :=
  ∀ (m : (ℓ : Loc Cert.AdamNormReferenceIdeal.nD Cert.AdamNormReferenceIdeal.τ Cert.AdamNormReferenceIdeal.sig) → Buf (Elt Ideal) ℓ) (g : Dev Cert.AdamNormReferenceIdeal.nD → PrngReg), Pre_AdamNormReferenceIdeal m →
    θ_run (Cert.AdamNormReferenceIdeal.defs (F := Ideal)) (onTc (τ := Cert.AdamNormReferenceIdeal.τ) (Cert.AdamNormReferenceIdeal.main (F := Ideal))) ⟨m, fun _ => 0, g⟩ (fun r => (∀ c : Dev Cert.AdamNormReferenceIdeal.nD,
      r.2.mem ((c.tc : Thread Cert.AdamNormReferenceIdeal.nD Cert.AdamNormReferenceIdeal.τ).loc Cert.AdamNormReferenceIdeal.main_arg0) = m ((c.tc : Thread Cert.AdamNormReferenceIdeal.nD Cert.AdamNormReferenceIdeal.τ).loc Cert.AdamNormReferenceIdeal.main_arg0)
      ∧ r.2.mem ((c.tc : Thread Cert.AdamNormReferenceIdeal.nD Cert.AdamNormReferenceIdeal.τ).loc Cert.AdamNormReferenceIdeal.main_arg1) = m ((c.tc : Thread Cert.AdamNormReferenceIdeal.nD Cert.AdamNormReferenceIdeal.τ).loc Cert.AdamNormReferenceIdeal.main_arg1)
      ∧ r.2.mem ((c.tc : Thread Cert.AdamNormReferenceIdeal.nD Cert.AdamNormReferenceIdeal.τ).loc Cert.AdamNormReferenceIdeal.main_arg2) = m ((c.tc : Thread Cert.AdamNormReferenceIdeal.nD Cert.AdamNormReferenceIdeal.τ).loc Cert.AdamNormReferenceIdeal.main_arg2)
      ∧ r.2.mem ((c.tc : Thread Cert.AdamNormReferenceIdeal.nD Cert.AdamNormReferenceIdeal.τ).loc Cert.AdamNormReferenceIdeal.main_arg3) = m ((c.tc : Thread Cert.AdamNormReferenceIdeal.nD Cert.AdamNormReferenceIdeal.τ).loc Cert.AdamNormReferenceIdeal.main_arg3))
      ∧ r.2.sem = fun _ => 0)

def quiescent_AdamHead [hAdamHead : Cert.AdamHead.Facts] : Prop :=
  ∀ (m : (ℓ : Loc Cert.AdamHead.nD Cert.AdamHead.τ Cert.AdamHead.sig) → Buf (Elt Bits) ℓ) (g : Dev Cert.AdamHead.nD → PrngReg), Pre_AdamHead m →
    θ_run (Cert.AdamHead.defs (F := Bits)) (onTc (τ := Cert.AdamHead.τ) (Cert.AdamHead.main (F := Bits))) ⟨m, fun _ => 0, g⟩ (fun r => (∀ c : Dev Cert.AdamHead.nD,
      r.2.mem ((c.tc : Thread Cert.AdamHead.nD Cert.AdamHead.τ).loc Cert.AdamHead.main_arg0) = m ((c.tc : Thread Cert.AdamHead.nD Cert.AdamHead.τ).loc Cert.AdamHead.main_arg0)
      ∧ r.2.mem ((c.tc : Thread Cert.AdamHead.nD Cert.AdamHead.τ).loc Cert.AdamHead.main_arg1) = m ((c.tc : Thread Cert.AdamHead.nD Cert.AdamHead.τ).loc Cert.AdamHead.main_arg1)
      ∧ r.2.mem ((c.tc : Thread Cert.AdamHead.nD Cert.AdamHead.τ).loc Cert.AdamHead.main_arg2) = m ((c.tc : Thread Cert.AdamHead.nD Cert.AdamHead.τ).loc Cert.AdamHead.main_arg2)
      ∧ r.2.mem ((c.tc : Thread Cert.AdamHead.nD Cert.AdamHead.τ).loc Cert.AdamHead.main_arg3) = m ((c.tc : Thread Cert.AdamHead.nD Cert.AdamHead.τ).loc Cert.AdamHead.main_arg3))
      ∧ r.2.sem = fun _ => 0)

def quiescent_AdamHeadIdeal [hAdamHeadIdeal : Cert.AdamHeadIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg), Pre_AdamHeadIdeal m →
    θ_run (Cert.AdamHeadIdeal.defs (F := Ideal)) (onTc (τ := Cert.AdamHeadIdeal.τ) (Cert.AdamHeadIdeal.main (F := Ideal))) ⟨m, fun _ => 0, g⟩ (fun r => (∀ c : Dev Cert.AdamHeadIdeal.nD,
      r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
      ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
      ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
      ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ r.2.sem = fun _ => 0)

def quiescent_AdamHeadReferenceIdeal [hAdamHeadReferenceIdeal : Cert.AdamHeadReferenceIdeal.Facts] : Prop :=
  ∀ (m : (ℓ : Loc Cert.AdamHeadReferenceIdeal.nD Cert.AdamHeadReferenceIdeal.τ Cert.AdamHeadReferenceIdeal.sig) → Buf (Elt Ideal) ℓ) (g : Dev Cert.AdamHeadReferenceIdeal.nD → PrngReg), Pre_AdamHeadReferenceIdeal m →
    θ_run (Cert.AdamHeadReferenceIdeal.defs (F := Ideal)) (onTc (τ := Cert.AdamHeadReferenceIdeal.τ) (Cert.AdamHeadReferenceIdeal.main (F := Ideal))) ⟨m, fun _ => 0, g⟩ (fun r => (∀ c : Dev Cert.AdamHeadReferenceIdeal.nD,
      r.2.mem ((c.tc : Thread Cert.AdamHeadReferenceIdeal.nD Cert.AdamHeadReferenceIdeal.τ).loc Cert.AdamHeadReferenceIdeal.main_arg0) = m ((c.tc : Thread Cert.AdamHeadReferenceIdeal.nD Cert.AdamHeadReferenceIdeal.τ).loc Cert.AdamHeadReferenceIdeal.main_arg0)
      ∧ r.2.mem ((c.tc : Thread Cert.AdamHeadReferenceIdeal.nD Cert.AdamHeadReferenceIdeal.τ).loc Cert.AdamHeadReferenceIdeal.main_arg1) = m ((c.tc : Thread Cert.AdamHeadReferenceIdeal.nD Cert.AdamHeadReferenceIdeal.τ).loc Cert.AdamHeadReferenceIdeal.main_arg1)
      ∧ r.2.mem ((c.tc : Thread Cert.AdamHeadReferenceIdeal.nD Cert.AdamHeadReferenceIdeal.τ).loc Cert.AdamHeadReferenceIdeal.main_arg2) = m ((c.tc : Thread Cert.AdamHeadReferenceIdeal.nD Cert.AdamHeadReferenceIdeal.τ).loc Cert.AdamHeadReferenceIdeal.main_arg2)
      ∧ r.2.mem ((c.tc : Thread Cert.AdamHeadReferenceIdeal.nD Cert.AdamHeadReferenceIdeal.τ).loc Cert.AdamHeadReferenceIdeal.main_arg3) = m ((c.tc : Thread Cert.AdamHeadReferenceIdeal.nD Cert.AdamHeadReferenceIdeal.τ).loc Cert.AdamHeadReferenceIdeal.main_arg3))
      ∧ r.2.sem = fun _ => 0)

def quiescent_AdamSconv [hAdamSconv : Cert.AdamSconv.Facts] : Prop :=
  ∀ (m : (ℓ : Loc Cert.AdamSconv.nD Cert.AdamSconv.τ Cert.AdamSconv.sig) → Buf (Elt Bits) ℓ) (g : Dev Cert.AdamSconv.nD → PrngReg), Pre_AdamSconv m →
    θ_run (Cert.AdamSconv.defs (F := Bits)) (onTc (τ := Cert.AdamSconv.τ) (Cert.AdamSconv.main (F := Bits))) ⟨m, fun _ => 0, g⟩ (fun r => (∀ c : Dev Cert.AdamSconv.nD,
      r.2.mem ((c.tc : Thread Cert.AdamSconv.nD Cert.AdamSconv.τ).loc Cert.AdamSconv.main_arg0) = m ((c.tc : Thread Cert.AdamSconv.nD Cert.AdamSconv.τ).loc Cert.AdamSconv.main_arg0)
      ∧ r.2.mem ((c.tc : Thread Cert.AdamSconv.nD Cert.AdamSconv.τ).loc Cert.AdamSconv.main_arg1) = m ((c.tc : Thread Cert.AdamSconv.nD Cert.AdamSconv.τ).loc Cert.AdamSconv.main_arg1)
      ∧ r.2.mem ((c.tc : Thread Cert.AdamSconv.nD Cert.AdamSconv.τ).loc Cert.AdamSconv.main_arg2) = m ((c.tc : Thread Cert.AdamSconv.nD Cert.AdamSconv.τ).loc Cert.AdamSconv.main_arg2)
      ∧ r.2.mem ((c.tc : Thread Cert.AdamSconv.nD Cert.AdamSconv.τ).loc Cert.AdamSconv.main_arg3) = m ((c.tc : Thread Cert.AdamSconv.nD Cert.AdamSconv.τ).loc Cert.AdamSconv.main_arg3))
      ∧ r.2.sem = fun _ => 0)

def quiescent_AdamSconvIdeal [hAdamSconvIdeal : Cert.AdamSconvIdeal.Facts] : Prop :=
  ∀ (m : (ℓ : Loc Cert.AdamSconvIdeal.nD Cert.AdamSconvIdeal.τ Cert.AdamSconvIdeal.sig) → Buf (Elt Ideal) ℓ) (g : Dev Cert.AdamSconvIdeal.nD → PrngReg), Pre_AdamSconvIdeal m →
    θ_run (Cert.AdamSconvIdeal.defs (F := Ideal)) (onTc (τ := Cert.AdamSconvIdeal.τ) (Cert.AdamSconvIdeal.main (F := Ideal))) ⟨m, fun _ => 0, g⟩ (fun r => (∀ c : Dev Cert.AdamSconvIdeal.nD,
      r.2.mem ((c.tc : Thread Cert.AdamSconvIdeal.nD Cert.AdamSconvIdeal.τ).loc Cert.AdamSconvIdeal.main_arg0) = m ((c.tc : Thread Cert.AdamSconvIdeal.nD Cert.AdamSconvIdeal.τ).loc Cert.AdamSconvIdeal.main_arg0)
      ∧ r.2.mem ((c.tc : Thread Cert.AdamSconvIdeal.nD Cert.AdamSconvIdeal.τ).loc Cert.AdamSconvIdeal.main_arg1) = m ((c.tc : Thread Cert.AdamSconvIdeal.nD Cert.AdamSconvIdeal.τ).loc Cert.AdamSconvIdeal.main_arg1)
      ∧ r.2.mem ((c.tc : Thread Cert.AdamSconvIdeal.nD Cert.AdamSconvIdeal.τ).loc Cert.AdamSconvIdeal.main_arg2) = m ((c.tc : Thread Cert.AdamSconvIdeal.nD Cert.AdamSconvIdeal.τ).loc Cert.AdamSconvIdeal.main_arg2)
      ∧ r.2.mem ((c.tc : Thread Cert.AdamSconvIdeal.nD Cert.AdamSconvIdeal.τ).loc Cert.AdamSconvIdeal.main_arg3) = m ((c.tc : Thread Cert.AdamSconvIdeal.nD Cert.AdamSconvIdeal.τ).loc Cert.AdamSconvIdeal.main_arg3))
      ∧ r.2.sem = fun _ => 0)

def quiescent_AdamSconvReferenceIdeal [hAdamSconvReferenceIdeal : Cert.AdamSconvReferenceIdeal.Facts] : Prop :=
  ∀ (m : (ℓ : Loc Cert.AdamSconvReferenceIdeal.nD Cert.AdamSconvReferenceIdeal.τ Cert.AdamSconvReferenceIdeal.sig) → Buf (Elt Ideal) ℓ) (g : Dev Cert.AdamSconvReferenceIdeal.nD → PrngReg), Pre_AdamSconvReferenceIdeal m →
    θ_run (Cert.AdamSconvReferenceIdeal.defs (F := Ideal)) (onTc (τ := Cert.AdamSconvReferenceIdeal.τ) (Cert.AdamSconvReferenceIdeal.main (F := Ideal))) ⟨m, fun _ => 0, g⟩ (fun r => (∀ c : Dev Cert.AdamSconvReferenceIdeal.nD,
      r.2.mem ((c.tc : Thread Cert.AdamSconvReferenceIdeal.nD Cert.AdamSconvReferenceIdeal.τ).loc Cert.AdamSconvReferenceIdeal.main_arg0) = m ((c.tc : Thread Cert.AdamSconvReferenceIdeal.nD Cert.AdamSconvReferenceIdeal.τ).loc Cert.AdamSconvReferenceIdeal.main_arg0)
      ∧ r.2.mem ((c.tc : Thread Cert.AdamSconvReferenceIdeal.nD Cert.AdamSconvReferenceIdeal.τ).loc Cert.AdamSconvReferenceIdeal.main_arg1) = m ((c.tc : Thread Cert.AdamSconvReferenceIdeal.nD Cert.AdamSconvReferenceIdeal.τ).loc Cert.AdamSconvReferenceIdeal.main_arg1)
      ∧ r.2.mem ((c.tc : Thread Cert.AdamSconvReferenceIdeal.nD Cert.AdamSconvReferenceIdeal.τ).loc Cert.AdamSconvReferenceIdeal.main_arg2) = m ((c.tc : Thread Cert.AdamSconvReferenceIdeal.nD Cert.AdamSconvReferenceIdeal.τ).loc Cert.AdamSconvReferenceIdeal.main_arg2)
      ∧ r.2.mem ((c.tc : Thread Cert.AdamSconvReferenceIdeal.nD Cert.AdamSconvReferenceIdeal.τ).loc Cert.AdamSconvReferenceIdeal.main_arg3) = m ((c.tc : Thread Cert.AdamSconvReferenceIdeal.nD Cert.AdamSconvReferenceIdeal.τ).loc Cert.AdamSconvReferenceIdeal.main_arg3))
      ∧ r.2.sem = fun _ => 0)

def quiescent_AdamFconv [hAdamFconv : Cert.AdamFconv.Facts] : Prop :=
  ∀ (m : (ℓ : Loc Cert.AdamFconv.nD Cert.AdamFconv.τ Cert.AdamFconv.sig) → Buf (Elt Bits) ℓ) (g : Dev Cert.AdamFconv.nD → PrngReg), Pre_AdamFconv m →
    θ_run (Cert.AdamFconv.defs (F := Bits)) (onTc (τ := Cert.AdamFconv.τ) (Cert.AdamFconv.main (F := Bits))) ⟨m, fun _ => 0, g⟩ (fun r => (∀ c : Dev Cert.AdamFconv.nD,
      r.2.mem ((c.tc : Thread Cert.AdamFconv.nD Cert.AdamFconv.τ).loc Cert.AdamFconv.main_arg0) = m ((c.tc : Thread Cert.AdamFconv.nD Cert.AdamFconv.τ).loc Cert.AdamFconv.main_arg0)
      ∧ r.2.mem ((c.tc : Thread Cert.AdamFconv.nD Cert.AdamFconv.τ).loc Cert.AdamFconv.main_arg1) = m ((c.tc : Thread Cert.AdamFconv.nD Cert.AdamFconv.τ).loc Cert.AdamFconv.main_arg1)
      ∧ r.2.mem ((c.tc : Thread Cert.AdamFconv.nD Cert.AdamFconv.τ).loc Cert.AdamFconv.main_arg2) = m ((c.tc : Thread Cert.AdamFconv.nD Cert.AdamFconv.τ).loc Cert.AdamFconv.main_arg2)
      ∧ r.2.mem ((c.tc : Thread Cert.AdamFconv.nD Cert.AdamFconv.τ).loc Cert.AdamFconv.main_arg3) = m ((c.tc : Thread Cert.AdamFconv.nD Cert.AdamFconv.τ).loc Cert.AdamFconv.main_arg3))
      ∧ r.2.sem = fun _ => 0)

def quiescent_AdamFconvIdeal [hAdamFconvIdeal : Cert.AdamFconvIdeal.Facts] : Prop :=
  ∀ (m : (ℓ : Loc Cert.AdamFconvIdeal.nD Cert.AdamFconvIdeal.τ Cert.AdamFconvIdeal.sig) → Buf (Elt Ideal) ℓ) (g : Dev Cert.AdamFconvIdeal.nD → PrngReg), Pre_AdamFconvIdeal m →
    θ_run (Cert.AdamFconvIdeal.defs (F := Ideal)) (onTc (τ := Cert.AdamFconvIdeal.τ) (Cert.AdamFconvIdeal.main (F := Ideal))) ⟨m, fun _ => 0, g⟩ (fun r => (∀ c : Dev Cert.AdamFconvIdeal.nD,
      r.2.mem ((c.tc : Thread Cert.AdamFconvIdeal.nD Cert.AdamFconvIdeal.τ).loc Cert.AdamFconvIdeal.main_arg0) = m ((c.tc : Thread Cert.AdamFconvIdeal.nD Cert.AdamFconvIdeal.τ).loc Cert.AdamFconvIdeal.main_arg0)
      ∧ r.2.mem ((c.tc : Thread Cert.AdamFconvIdeal.nD Cert.AdamFconvIdeal.τ).loc Cert.AdamFconvIdeal.main_arg1) = m ((c.tc : Thread Cert.AdamFconvIdeal.nD Cert.AdamFconvIdeal.τ).loc Cert.AdamFconvIdeal.main_arg1)
      ∧ r.2.mem ((c.tc : Thread Cert.AdamFconvIdeal.nD Cert.AdamFconvIdeal.τ).loc Cert.AdamFconvIdeal.main_arg2) = m ((c.tc : Thread Cert.AdamFconvIdeal.nD Cert.AdamFconvIdeal.τ).loc Cert.AdamFconvIdeal.main_arg2)
      ∧ r.2.mem ((c.tc : Thread Cert.AdamFconvIdeal.nD Cert.AdamFconvIdeal.τ).loc Cert.AdamFconvIdeal.main_arg3) = m ((c.tc : Thread Cert.AdamFconvIdeal.nD Cert.AdamFconvIdeal.τ).loc Cert.AdamFconvIdeal.main_arg3))
      ∧ r.2.sem = fun _ => 0)

def quiescent_AdamFconvReferenceIdeal [hAdamFconvReferenceIdeal : Cert.AdamFconvReferenceIdeal.Facts] : Prop :=
  ∀ (m : (ℓ : Loc Cert.AdamFconvReferenceIdeal.nD Cert.AdamFconvReferenceIdeal.τ Cert.AdamFconvReferenceIdeal.sig) → Buf (Elt Ideal) ℓ) (g : Dev Cert.AdamFconvReferenceIdeal.nD → PrngReg), Pre_AdamFconvReferenceIdeal m →
    θ_run (Cert.AdamFconvReferenceIdeal.defs (F := Ideal)) (onTc (τ := Cert.AdamFconvReferenceIdeal.τ) (Cert.AdamFconvReferenceIdeal.main (F := Ideal))) ⟨m, fun _ => 0, g⟩ (fun r => (∀ c : Dev Cert.AdamFconvReferenceIdeal.nD,
      r.2.mem ((c.tc : Thread Cert.AdamFconvReferenceIdeal.nD Cert.AdamFconvReferenceIdeal.τ).loc Cert.AdamFconvReferenceIdeal.main_arg0) = m ((c.tc : Thread Cert.AdamFconvReferenceIdeal.nD Cert.AdamFconvReferenceIdeal.τ).loc Cert.AdamFconvReferenceIdeal.main_arg0)
      ∧ r.2.mem ((c.tc : Thread Cert.AdamFconvReferenceIdeal.nD Cert.AdamFconvReferenceIdeal.τ).loc Cert.AdamFconvReferenceIdeal.main_arg1) = m ((c.tc : Thread Cert.AdamFconvReferenceIdeal.nD Cert.AdamFconvReferenceIdeal.τ).loc Cert.AdamFconvReferenceIdeal.main_arg1)
      ∧ r.2.mem ((c.tc : Thread Cert.AdamFconvReferenceIdeal.nD Cert.AdamFconvReferenceIdeal.τ).loc Cert.AdamFconvReferenceIdeal.main_arg2) = m ((c.tc : Thread Cert.AdamFconvReferenceIdeal.nD Cert.AdamFconvReferenceIdeal.τ).loc Cert.AdamFconvReferenceIdeal.main_arg2)
      ∧ r.2.mem ((c.tc : Thread Cert.AdamFconvReferenceIdeal.nD Cert.AdamFconvReferenceIdeal.τ).loc Cert.AdamFconvReferenceIdeal.main_arg3) = m ((c.tc : Thread Cert.AdamFconvReferenceIdeal.nD Cert.AdamFconvReferenceIdeal.τ).loc Cert.AdamFconvReferenceIdeal.main_arg3))
      ∧ r.2.sem = fun _ => 0)

def quiescent_AdamFbias [hAdamFbias : Cert.AdamFbias.Facts] : Prop :=
  ∀ (m : (ℓ : Loc Cert.AdamFbias.nD Cert.AdamFbias.τ Cert.AdamFbias.sig) → Buf (Elt Bits) ℓ) (g : Dev Cert.AdamFbias.nD → PrngReg), Pre_AdamFbias m →
    θ_run (Cert.AdamFbias.defs (F := Bits)) (onTc (τ := Cert.AdamFbias.τ) (Cert.AdamFbias.main (F := Bits))) ⟨m, fun _ => 0, g⟩ (fun r => (∀ c : Dev Cert.AdamFbias.nD,
      r.2.mem ((c.tc : Thread Cert.AdamFbias.nD Cert.AdamFbias.τ).loc Cert.AdamFbias.main_arg0) = m ((c.tc : Thread Cert.AdamFbias.nD Cert.AdamFbias.τ).loc Cert.AdamFbias.main_arg0)
      ∧ r.2.mem ((c.tc : Thread Cert.AdamFbias.nD Cert.AdamFbias.τ).loc Cert.AdamFbias.main_arg1) = m ((c.tc : Thread Cert.AdamFbias.nD Cert.AdamFbias.τ).loc Cert.AdamFbias.main_arg1)
      ∧ r.2.mem ((c.tc : Thread Cert.AdamFbias.nD Cert.AdamFbias.τ).loc Cert.AdamFbias.main_arg2) = m ((c.tc : Thread Cert.AdamFbias.nD Cert.AdamFbias.τ).loc Cert.AdamFbias.main_arg2)
      ∧ r.2.mem ((c.tc : Thread Cert.AdamFbias.nD Cert.AdamFbias.τ).loc Cert.AdamFbias.main_arg3) = m ((c.tc : Thread Cert.AdamFbias.nD Cert.AdamFbias.τ).loc Cert.AdamFbias.main_arg3))
      ∧ r.2.sem = fun _ => 0)

def quiescent_AdamFbiasIdeal [hAdamFbiasIdeal : Cert.AdamFbiasIdeal.Facts] : Prop :=
  ∀ (m : (ℓ : Loc Cert.AdamFbiasIdeal.nD Cert.AdamFbiasIdeal.τ Cert.AdamFbiasIdeal.sig) → Buf (Elt Ideal) ℓ) (g : Dev Cert.AdamFbiasIdeal.nD → PrngReg), Pre_AdamFbiasIdeal m →
    θ_run (Cert.AdamFbiasIdeal.defs (F := Ideal)) (onTc (τ := Cert.AdamFbiasIdeal.τ) (Cert.AdamFbiasIdeal.main (F := Ideal))) ⟨m, fun _ => 0, g⟩ (fun r => (∀ c : Dev Cert.AdamFbiasIdeal.nD,
      r.2.mem ((c.tc : Thread Cert.AdamFbiasIdeal.nD Cert.AdamFbiasIdeal.τ).loc Cert.AdamFbiasIdeal.main_arg0) = m ((c.tc : Thread Cert.AdamFbiasIdeal.nD Cert.AdamFbiasIdeal.τ).loc Cert.AdamFbiasIdeal.main_arg0)
      ∧ r.2.mem ((c.tc : Thread Cert.AdamFbiasIdeal.nD Cert.AdamFbiasIdeal.τ).loc Cert.AdamFbiasIdeal.main_arg1) = m ((c.tc : Thread Cert.AdamFbiasIdeal.nD Cert.AdamFbiasIdeal.τ).loc Cert.AdamFbiasIdeal.main_arg1)
      ∧ r.2.mem ((c.tc : Thread Cert.AdamFbiasIdeal.nD Cert.AdamFbiasIdeal.τ).loc Cert.AdamFbiasIdeal.main_arg2) = m ((c.tc : Thread Cert.AdamFbiasIdeal.nD Cert.AdamFbiasIdeal.τ).loc Cert.AdamFbiasIdeal.main_arg2)
      ∧ r.2.mem ((c.tc : Thread Cert.AdamFbiasIdeal.nD Cert.AdamFbiasIdeal.τ).loc Cert.AdamFbiasIdeal.main_arg3) = m ((c.tc : Thread Cert.AdamFbiasIdeal.nD Cert.AdamFbiasIdeal.τ).loc Cert.AdamFbiasIdeal.main_arg3))
      ∧ r.2.sem = fun _ => 0)

def quiescent_AdamFbiasReferenceIdeal [hAdamFbiasReferenceIdeal : Cert.AdamFbiasReferenceIdeal.Facts] : Prop :=
  ∀ (m : (ℓ : Loc Cert.AdamFbiasReferenceIdeal.nD Cert.AdamFbiasReferenceIdeal.τ Cert.AdamFbiasReferenceIdeal.sig) → Buf (Elt Ideal) ℓ) (g : Dev Cert.AdamFbiasReferenceIdeal.nD → PrngReg), Pre_AdamFbiasReferenceIdeal m →
    θ_run (Cert.AdamFbiasReferenceIdeal.defs (F := Ideal)) (onTc (τ := Cert.AdamFbiasReferenceIdeal.τ) (Cert.AdamFbiasReferenceIdeal.main (F := Ideal))) ⟨m, fun _ => 0, g⟩ (fun r => (∀ c : Dev Cert.AdamFbiasReferenceIdeal.nD,
      r.2.mem ((c.tc : Thread Cert.AdamFbiasReferenceIdeal.nD Cert.AdamFbiasReferenceIdeal.τ).loc Cert.AdamFbiasReferenceIdeal.main_arg0) = m ((c.tc : Thread Cert.AdamFbiasReferenceIdeal.nD Cert.AdamFbiasReferenceIdeal.τ).loc Cert.AdamFbiasReferenceIdeal.main_arg0)
      ∧ r.2.mem ((c.tc : Thread Cert.AdamFbiasReferenceIdeal.nD Cert.AdamFbiasReferenceIdeal.τ).loc Cert.AdamFbiasReferenceIdeal.main_arg1) = m ((c.tc : Thread Cert.AdamFbiasReferenceIdeal.nD Cert.AdamFbiasReferenceIdeal.τ).loc Cert.AdamFbiasReferenceIdeal.main_arg1)
      ∧ r.2.mem ((c.tc : Thread Cert.AdamFbiasReferenceIdeal.nD Cert.AdamFbiasReferenceIdeal.τ).loc Cert.AdamFbiasReferenceIdeal.main_arg2) = m ((c.tc : Thread Cert.AdamFbiasReferenceIdeal.nD Cert.AdamFbiasReferenceIdeal.τ).loc Cert.AdamFbiasReferenceIdeal.main_arg2)
      ∧ r.2.mem ((c.tc : Thread Cert.AdamFbiasReferenceIdeal.nD Cert.AdamFbiasReferenceIdeal.τ).loc Cert.AdamFbiasReferenceIdeal.main_arg3) = m ((c.tc : Thread Cert.AdamFbiasReferenceIdeal.nD Cert.AdamFbiasReferenceIdeal.τ).loc Cert.AdamFbiasReferenceIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3)
      ∧ r.2.mem ((c.tc : Thread Cert.AdamInReferenceIdeal.nD Cert.AdamInReferenceIdeal.τ).loc Cert.AdamInReferenceIdeal.main_arg4) = m ((c.tc : Thread Cert.AdamInReferenceIdeal.nD Cert.AdamInReferenceIdeal.τ).loc Cert.AdamInReferenceIdeal.main_arg4))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3)
      ∧ r.2.mem ((c.tc : Thread Cert.AdamSquare.nD Cert.AdamSquare.τ).loc Cert.AdamSquare.main_arg4) = m ((c.tc : Thread Cert.AdamSquare.nD Cert.AdamSquare.τ).loc Cert.AdamSquare.main_arg4))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
      ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ r.2.sem = fun _ => 0)

def quiescent_AdamSquareReferenceIdeal [hAdamSquareReferenceIdeal : Cert.AdamSquareReferenceIdeal.Facts] : Prop :=
  ∀ (m : (ℓ : Loc Cert.AdamSquareReferenceIdeal.nD Cert.AdamSquareReferenceIdeal.τ Cert.AdamSquareReferenceIdeal.sig) → Buf (Elt Ideal) ℓ) (g : Dev Cert.AdamSquareReferenceIdeal.nD → PrngReg), Pre_AdamSquareReferenceIdeal m →
    θ_run (Cert.AdamSquareReferenceIdeal.defs (F := Ideal)) (onTc (τ := Cert.AdamSquareReferenceIdeal.τ) (Cert.AdamSquareReferenceIdeal.main (F := Ideal))) ⟨m, fun _ => 0, g⟩ (fun r => (∀ c : Dev Cert.AdamSquareReferenceIdeal.nD,
      r.2.mem ((c.tc : Thread Cert.AdamSquareReferenceIdeal.nD Cert.AdamSquareReferenceIdeal.τ).loc Cert.AdamSquareReferenceIdeal.main_arg0) = m ((c.tc : Thread Cert.AdamSquareReferenceIdeal.nD Cert.AdamSquareReferenceIdeal.τ).loc Cert.AdamSquareReferenceIdeal.main_arg0)
      ∧ r.2.mem ((c.tc : Thread Cert.AdamSquareReferenceIdeal.nD Cert.AdamSquareReferenceIdeal.τ).loc Cert.AdamSquareReferenceIdeal.main_arg1) = m ((c.tc : Thread Cert.AdamSquareReferenceIdeal.nD Cert.AdamSquareReferenceIdeal.τ).loc Cert.AdamSquareReferenceIdeal.main_arg1)
      ∧ r.2.mem ((c.tc : Thread Cert.AdamSquareReferenceIdeal.nD Cert.AdamSquareReferenceIdeal.τ).loc Cert.AdamSquareReferenceIdeal.main_arg2) = m ((c.tc : Thread Cert.AdamSquareReferenceIdeal.nD Cert.AdamSquareReferenceIdeal.τ).loc Cert.AdamSquareReferenceIdeal.main_arg2)
      ∧ r.2.mem ((c.tc : Thread Cert.AdamSquareReferenceIdeal.nD Cert.AdamSquareReferenceIdeal.τ).loc Cert.AdamSquareReferenceIdeal.main_arg3) = m ((c.tc : Thread Cert.AdamSquareReferenceIdeal.nD Cert.AdamSquareReferenceIdeal.τ).loc Cert.AdamSquareReferenceIdeal.main_arg3)
      ∧ r.2.mem ((c.tc : Thread Cert.AdamSquareReferenceIdeal.nD Cert.AdamSquareReferenceIdeal.τ).loc Cert.AdamSquareReferenceIdeal.main_arg4) = m ((c.tc : Thread Cert.AdamSquareReferenceIdeal.nD Cert.AdamSquareReferenceIdeal.τ).loc Cert.AdamSquareReferenceIdeal.main_arg4))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3)
      ∧ r.2.mem ((c.tc : Thread Cert.AdamFfn.nD Cert.AdamFfn.τ).loc Cert.AdamFfn.main_arg4) = m ((c.tc : Thread Cert.AdamFfn.nD Cert.AdamFfn.τ).loc Cert.AdamFfn.main_arg4))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
      ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ r.2.sem = fun _ => 0)

def quiescent_AdamFfnReferenceIdeal [hAdamFfnReferenceIdeal : Cert.AdamFfnReferenceIdeal.Facts] : Prop :=
  ∀ (m : (ℓ : Loc Cert.AdamFfnReferenceIdeal.nD Cert.AdamFfnReferenceIdeal.τ Cert.AdamFfnReferenceIdeal.sig) → Buf (Elt Ideal) ℓ) (g : Dev Cert.AdamFfnReferenceIdeal.nD → PrngReg), Pre_AdamFfnReferenceIdeal m →
    θ_run (Cert.AdamFfnReferenceIdeal.defs (F := Ideal)) (onTc (τ := Cert.AdamFfnReferenceIdeal.τ) (Cert.AdamFfnReferenceIdeal.main (F := Ideal))) ⟨m, fun _ => 0, g⟩ (fun r => (∀ c : Dev Cert.AdamFfnReferenceIdeal.nD,
      r.2.mem ((c.tc : Thread Cert.AdamFfnReferenceIdeal.nD Cert.AdamFfnReferenceIdeal.τ).loc Cert.AdamFfnReferenceIdeal.main_arg0) = m ((c.tc : Thread Cert.AdamFfnReferenceIdeal.nD Cert.AdamFfnReferenceIdeal.τ).loc Cert.AdamFfnReferenceIdeal.main_arg0)
      ∧ r.2.mem ((c.tc : Thread Cert.AdamFfnReferenceIdeal.nD Cert.AdamFfnReferenceIdeal.τ).loc Cert.AdamFfnReferenceIdeal.main_arg1) = m ((c.tc : Thread Cert.AdamFfnReferenceIdeal.nD Cert.AdamFfnReferenceIdeal.τ).loc Cert.AdamFfnReferenceIdeal.main_arg1)
      ∧ r.2.mem ((c.tc : Thread Cert.AdamFfnReferenceIdeal.nD Cert.AdamFfnReferenceIdeal.τ).loc Cert.AdamFfnReferenceIdeal.main_arg2) = m ((c.tc : Thread Cert.AdamFfnReferenceIdeal.nD Cert.AdamFfnReferenceIdeal.τ).loc Cert.AdamFfnReferenceIdeal.main_arg2)
      ∧ r.2.mem ((c.tc : Thread Cert.AdamFfnReferenceIdeal.nD Cert.AdamFfnReferenceIdeal.τ).loc Cert.AdamFfnReferenceIdeal.main_arg3) = m ((c.tc : Thread Cert.AdamFfnReferenceIdeal.nD Cert.AdamFfnReferenceIdeal.τ).loc Cert.AdamFfnReferenceIdeal.main_arg3)
      ∧ r.2.mem ((c.tc : Thread Cert.AdamFfnReferenceIdeal.nD Cert.AdamFfnReferenceIdeal.τ).loc Cert.AdamFfnReferenceIdeal.main_arg4) = m ((c.tc : Thread Cert.AdamFfnReferenceIdeal.nD Cert.AdamFfnReferenceIdeal.τ).loc Cert.AdamFfnReferenceIdeal.main_arg4))
      ∧ r.2.sem = fun _ => 0)

def quiescent_AdamDown [hAdamDown : Cert.AdamDown.Facts] : Prop :=
  ∀ (m : (ℓ : Loc Cert.AdamDown.nD Cert.AdamDown.τ Cert.AdamDown.sig) → Buf (Elt Bits) ℓ) (g : Dev Cert.AdamDown.nD → PrngReg), Pre_AdamDown m →
    θ_run (Cert.AdamDown.defs (F := Bits)) (onTc (τ := Cert.AdamDown.τ) (Cert.AdamDown.main (F := Bits))) ⟨m, fun _ => 0, g⟩ (fun r => (∀ c : Dev Cert.AdamDown.nD,
      r.2.mem ((c.tc : Thread Cert.AdamDown.nD Cert.AdamDown.τ).loc Cert.AdamDown.main_arg0) = m ((c.tc : Thread Cert.AdamDown.nD Cert.AdamDown.τ).loc Cert.AdamDown.main_arg0)
      ∧ r.2.mem ((c.tc : Thread Cert.AdamDown.nD Cert.AdamDown.τ).loc Cert.AdamDown.main_arg1) = m ((c.tc : Thread Cert.AdamDown.nD Cert.AdamDown.τ).loc Cert.AdamDown.main_arg1)
      ∧ r.2.mem ((c.tc : Thread Cert.AdamDown.nD Cert.AdamDown.τ).loc Cert.AdamDown.main_arg2) = m ((c.tc : Thread Cert.AdamDown.nD Cert.AdamDown.τ).loc Cert.AdamDown.main_arg2)
      ∧ r.2.mem ((c.tc : Thread Cert.AdamDown.nD Cert.AdamDown.τ).loc Cert.AdamDown.main_arg3) = m ((c.tc : Thread Cert.AdamDown.nD Cert.AdamDown.τ).loc Cert.AdamDown.main_arg3)
      ∧ r.2.mem ((c.tc : Thread Cert.AdamDown.nD Cert.AdamDown.τ).loc Cert.AdamDown.main_arg4) = m ((c.tc : Thread Cert.AdamDown.nD Cert.AdamDown.τ).loc Cert.AdamDown.main_arg4))
      ∧ r.2.sem = fun _ => 0)

def quiescent_AdamDownIdeal [hAdamDownIdeal : Cert.AdamDownIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg), Pre_AdamDownIdeal m →
    θ_run (Cert.AdamDownIdeal.defs (F := Ideal)) (onTc (τ := Cert.AdamDownIdeal.τ) (Cert.AdamDownIdeal.main (F := Ideal))) ⟨m, fun _ => 0, g⟩ (fun r => (∀ c : Dev Cert.AdamDownIdeal.nD,
      r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
      ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
      ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
      ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
      ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ r.2.sem = fun _ => 0)

def quiescent_AdamDownReferenceIdeal [hAdamDownReferenceIdeal : Cert.AdamDownReferenceIdeal.Facts] : Prop :=
  ∀ (m : (ℓ : Loc Cert.AdamDownReferenceIdeal.nD Cert.AdamDownReferenceIdeal.τ Cert.AdamDownReferenceIdeal.sig) → Buf (Elt Ideal) ℓ) (g : Dev Cert.AdamDownReferenceIdeal.nD → PrngReg), Pre_AdamDownReferenceIdeal m →
    θ_run (Cert.AdamDownReferenceIdeal.defs (F := Ideal)) (onTc (τ := Cert.AdamDownReferenceIdeal.τ) (Cert.AdamDownReferenceIdeal.main (F := Ideal))) ⟨m, fun _ => 0, g⟩ (fun r => (∀ c : Dev Cert.AdamDownReferenceIdeal.nD,
      r.2.mem ((c.tc : Thread Cert.AdamDownReferenceIdeal.nD Cert.AdamDownReferenceIdeal.τ).loc Cert.AdamDownReferenceIdeal.main_arg0) = m ((c.tc : Thread Cert.AdamDownReferenceIdeal.nD Cert.AdamDownReferenceIdeal.τ).loc Cert.AdamDownReferenceIdeal.main_arg0)
      ∧ r.2.mem ((c.tc : Thread Cert.AdamDownReferenceIdeal.nD Cert.AdamDownReferenceIdeal.τ).loc Cert.AdamDownReferenceIdeal.main_arg1) = m ((c.tc : Thread Cert.AdamDownReferenceIdeal.nD Cert.AdamDownReferenceIdeal.τ).loc Cert.AdamDownReferenceIdeal.main_arg1)
      ∧ r.2.mem ((c.tc : Thread Cert.AdamDownReferenceIdeal.nD Cert.AdamDownReferenceIdeal.τ).loc Cert.AdamDownReferenceIdeal.main_arg2) = m ((c.tc : Thread Cert.AdamDownReferenceIdeal.nD Cert.AdamDownReferenceIdeal.τ).loc Cert.AdamDownReferenceIdeal.main_arg2)
      ∧ r.2.mem ((c.tc : Thread Cert.AdamDownReferenceIdeal.nD Cert.AdamDownReferenceIdeal.τ).loc Cert.AdamDownReferenceIdeal.main_arg3) = m ((c.tc : Thread Cert.AdamDownReferenceIdeal.nD Cert.AdamDownReferenceIdeal.τ).loc Cert.AdamDownReferenceIdeal.main_arg3)
      ∧ r.2.mem ((c.tc : Thread Cert.AdamDownReferenceIdeal.nD Cert.AdamDownReferenceIdeal.τ).loc Cert.AdamDownReferenceIdeal.main_arg4) = m ((c.tc : Thread Cert.AdamDownReferenceIdeal.nD Cert.AdamDownReferenceIdeal.τ).loc Cert.AdamDownReferenceIdeal.main_arg4))
      ∧ r.2.sem = fun _ => 0)

def quiescent_ProjIn [hProjIn : Cert.ProjIn.Facts] [hPre_proj_in_windows : Cert.Pre_proj_in_windows.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1)
      ∧ r.2.mem ((c.tc : Thread Cert.ProjIn.nD Cert.ProjIn.τ).loc Cert.ProjIn.main_arg2) = m ((c.tc : Thread Cert.ProjIn.nD Cert.ProjIn.τ).loc Cert.ProjIn.main_arg2)
      ∧ r.2.mem ((c.tc : Thread Cert.ProjIn.nD Cert.ProjIn.τ).loc Cert.ProjIn.main_arg3) = m ((c.tc : Thread Cert.ProjIn.nD Cert.ProjIn.τ).loc Cert.ProjIn.main_arg3))
      ∧ r.2.sem = fun _ => 0)

def quiescent_ProjInIdeal [hProjInIdeal : Cert.ProjInIdeal.Facts] [hPre_proj_in_windows : Cert.Pre_proj_in_windows.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
      ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
      ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ r.2.sem = fun _ => 0)

def quiescent_ProjInReferenceIdeal [hProjInReferenceIdeal : Cert.ProjInReferenceIdeal.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3))
      ∧ r.2.sem = fun _ => 0)

def quiescent_ProjInReferenceIdeal_pre_proj_in_windows [hProjInReferenceIdeal : Cert.ProjInReferenceIdeal.Facts] [hPre_proj_in_windows : Cert.Pre_proj_in_windows.Facts] : Prop :=
  ∀ (m : (ℓ : Loc Cert.ProjInReferenceIdeal.nD Cert.ProjInReferenceIdeal.τ Cert.ProjInReferenceIdeal.sig) → Buf (Elt Ideal) ℓ) (g : Dev Cert.ProjInReferenceIdeal.nD → PrngReg), Pre_ProjInReferenceIdeal_proj_in_windows m →
    θ_run (Cert.ProjInReferenceIdeal.defs (F := Ideal)) (onTc (τ := Cert.ProjInReferenceIdeal.τ) (Cert.ProjInReferenceIdeal.main (F := Ideal))) ⟨m, fun _ => 0, g⟩ (fun r => (∀ c : Dev Cert.ProjInReferenceIdeal.nD,
      r.2.mem ((c.tc : Thread Cert.ProjInReferenceIdeal.nD Cert.ProjInReferenceIdeal.τ).loc Cert.ProjInReferenceIdeal.main_arg0) = m ((c.tc : Thread Cert.ProjInReferenceIdeal.nD Cert.ProjInReferenceIdeal.τ).loc Cert.ProjInReferenceIdeal.main_arg0)
      ∧ r.2.mem ((c.tc : Thread Cert.ProjInReferenceIdeal.nD Cert.ProjInReferenceIdeal.τ).loc Cert.ProjInReferenceIdeal.main_arg1) = m ((c.tc : Thread Cert.ProjInReferenceIdeal.nD Cert.ProjInReferenceIdeal.τ).loc Cert.ProjInReferenceIdeal.main_arg1)
      ∧ r.2.mem ((c.tc : Thread Cert.ProjInReferenceIdeal.nD Cert.ProjInReferenceIdeal.τ).loc Cert.ProjInReferenceIdeal.main_arg2) = m ((c.tc : Thread Cert.ProjInReferenceIdeal.nD Cert.ProjInReferenceIdeal.τ).loc Cert.ProjInReferenceIdeal.main_arg2)
      ∧ r.2.mem ((c.tc : Thread Cert.ProjInReferenceIdeal.nD Cert.ProjInReferenceIdeal.τ).loc Cert.ProjInReferenceIdeal.main_arg3) = m ((c.tc : Thread Cert.ProjInReferenceIdeal.nD Cert.ProjInReferenceIdeal.τ).loc Cert.ProjInReferenceIdeal.main_arg3))
      ∧ r.2.sem = fun _ => 0)

def preserves_HgrnBwd_HgrnBwdIdeal : Prop :=
  True

def preserves_DZ_DZIdeal : Prop :=
  True

def algebraic_DZIdeal_DZReferenceIdeal [hDZIdeal : Cert.DZIdeal.Facts] [hDZReferenceIdeal : Cert.DZReferenceIdeal.Facts] : Prop :=
  ∀ (m : (ℓ : Loc Cert.DZIdeal.nD Cert.DZIdeal.τ Cert.DZIdeal.sig) → Buf (Elt Ideal) ℓ) (g : Dev Cert.DZIdeal.nD → PrngReg)
    (m' : (ℓ : Loc Cert.DZReferenceIdeal.nD Cert.DZReferenceIdeal.τ Cert.DZReferenceIdeal.sig) → Buf (Elt Ideal) ℓ) (g' : Dev Cert.DZReferenceIdeal.nD → PrngReg), Pre_DZIdeal m →
    (∀ c : Dev Cert.DZIdeal.nD,
      m' ((c.tc : Thread Cert.DZReferenceIdeal.nD Cert.DZReferenceIdeal.τ).loc Cert.DZReferenceIdeal.main_arg0) = m ((c.tc : Thread Cert.DZIdeal.nD Cert.DZIdeal.τ).loc Cert.DZIdeal.main_arg0)
      ∧ m' ((c.tc : Thread Cert.DZReferenceIdeal.nD Cert.DZReferenceIdeal.τ).loc Cert.DZReferenceIdeal.main_arg1) = m ((c.tc : Thread Cert.DZIdeal.nD Cert.DZIdeal.τ).loc Cert.DZIdeal.main_arg1)) →
    ∃ (v0 : (c : Dev Cert.DZIdeal.nD) → Buf (Elt Ideal) ((c.tc : Thread Cert.DZIdeal.nD Cert.DZIdeal.τ).loc Cert.DZIdeal.main_v0)),
      θ_run (Cert.DZIdeal.defs (F := Ideal)) (onTc (τ := Cert.DZIdeal.τ) (Cert.DZIdeal.main (F := Ideal))) ⟨m, fun _ => 0, g⟩ (fun r => ∀ c : Dev Cert.DZIdeal.nD,
          r.2.mem ((c.tc : Thread Cert.DZIdeal.nD Cert.DZIdeal.τ).loc Cert.DZIdeal.main_v0) = v0 c
          ∧ r.2.mem ((c.tc : Thread Cert.DZIdeal.nD Cert.DZIdeal.τ).loc Cert.DZIdeal.main_arg0) = m ((c.tc : Thread Cert.DZIdeal.nD Cert.DZIdeal.τ).loc Cert.DZIdeal.main_arg0)
          ∧ r.2.mem ((c.tc : Thread Cert.DZIdeal.nD Cert.DZIdeal.τ).loc Cert.DZIdeal.main_arg1) = m ((c.tc : Thread Cert.DZIdeal.nD Cert.DZIdeal.τ).loc Cert.DZIdeal.main_arg1))
      ∧ θ_run (Cert.DZReferenceIdeal.defs (F := Ideal)) (onTc (τ := Cert.DZReferenceIdeal.τ) (Cert.DZReferenceIdeal.main (F := Ideal))) ⟨m', fun _ => 0, g'⟩ (fun r => ∀ c : Dev Cert.DZReferenceIdeal.nD,
          r.2.mem ((c.tc : Thread Cert.DZReferenceIdeal.nD Cert.DZReferenceIdeal.τ).loc Cert.DZReferenceIdeal.main_v5) = v0 c
          ∧ r.2.mem ((c.tc : Thread Cert.DZReferenceIdeal.nD Cert.DZReferenceIdeal.τ).loc Cert.DZReferenceIdeal.main_arg0) = m' ((c.tc : Thread Cert.DZReferenceIdeal.nD Cert.DZReferenceIdeal.τ).loc Cert.DZReferenceIdeal.main_arg0)
          ∧ r.2.mem ((c.tc : Thread Cert.DZReferenceIdeal.nD Cert.DZReferenceIdeal.τ).loc Cert.DZReferenceIdeal.main_arg1) = m' ((c.tc : Thread Cert.DZReferenceIdeal.nD Cert.DZReferenceIdeal.τ).loc Cert.DZReferenceIdeal.main_arg1))

def preserves_GWDown_GWDownIdeal : Prop :=
  True

def algebraic_GWDownIdeal_GWDownReferenceIdeal [hGWDownIdeal : Cert.GWDownIdeal.Facts] [hGWDownReferenceIdeal : Cert.GWDownReferenceIdeal.Facts] : Prop :=
  ∀ (m : (ℓ : Loc Cert.GWDownIdeal.nD Cert.GWDownIdeal.τ Cert.GWDownIdeal.sig) → Buf (Elt Ideal) ℓ) (g : Dev Cert.GWDownIdeal.nD → PrngReg)
    (m' : (ℓ : Loc Cert.GWDownReferenceIdeal.nD Cert.GWDownReferenceIdeal.τ Cert.GWDownReferenceIdeal.sig) → Buf (Elt Ideal) ℓ) (g' : Dev Cert.GWDownReferenceIdeal.nD → PrngReg), Pre_GWDownIdeal m →
    (∀ c : Dev Cert.GWDownIdeal.nD,
      m' ((c.tc : Thread Cert.GWDownReferenceIdeal.nD Cert.GWDownReferenceIdeal.τ).loc Cert.GWDownReferenceIdeal.main_arg0) = m ((c.tc : Thread Cert.GWDownIdeal.nD Cert.GWDownIdeal.τ).loc Cert.GWDownIdeal.main_arg0)
      ∧ m' ((c.tc : Thread Cert.GWDownReferenceIdeal.nD Cert.GWDownReferenceIdeal.τ).loc Cert.GWDownReferenceIdeal.main_arg1) = m ((c.tc : Thread Cert.GWDownIdeal.nD Cert.GWDownIdeal.τ).loc Cert.GWDownIdeal.main_arg1)) →
    ∃ (v0 : (c : Dev Cert.GWDownIdeal.nD) → Buf (Elt Ideal) ((c.tc : Thread Cert.GWDownIdeal.nD Cert.GWDownIdeal.τ).loc Cert.GWDownIdeal.main_v0_0)) (v1 : (c : Dev Cert.GWDownIdeal.nD) → Buf (Elt Ideal) ((c.tc : Thread Cert.GWDownIdeal.nD Cert.GWDownIdeal.τ).loc Cert.GWDownIdeal.main_v0_1)),
      θ_run (Cert.GWDownIdeal.defs (F := Ideal)) (onTc (τ := Cert.GWDownIdeal.τ) (Cert.GWDownIdeal.main (F := Ideal))) ⟨m, fun _ => 0, g⟩ (fun r => ∀ c : Dev Cert.GWDownIdeal.nD,
          r.2.mem ((c.tc : Thread Cert.GWDownIdeal.nD Cert.GWDownIdeal.τ).loc Cert.GWDownIdeal.main_v0_0) = v0 c
          ∧ r.2.mem ((c.tc : Thread Cert.GWDownIdeal.nD Cert.GWDownIdeal.τ).loc Cert.GWDownIdeal.main_v0_1) = v1 c
          ∧ r.2.mem ((c.tc : Thread Cert.GWDownIdeal.nD Cert.GWDownIdeal.τ).loc Cert.GWDownIdeal.main_arg0) = m ((c.tc : Thread Cert.GWDownIdeal.nD Cert.GWDownIdeal.τ).loc Cert.GWDownIdeal.main_arg0)
          ∧ r.2.mem ((c.tc : Thread Cert.GWDownIdeal.nD Cert.GWDownIdeal.τ).loc Cert.GWDownIdeal.main_arg1) = m ((c.tc : Thread Cert.GWDownIdeal.nD Cert.GWDownIdeal.τ).loc Cert.GWDownIdeal.main_arg1))
      ∧ θ_run (Cert.GWDownReferenceIdeal.defs (F := Ideal)) (onTc (τ := Cert.GWDownReferenceIdeal.τ) (Cert.GWDownReferenceIdeal.main (F := Ideal))) ⟨m', fun _ => 0, g'⟩ (fun r => ∀ c : Dev Cert.GWDownReferenceIdeal.nD,
          r.2.mem ((c.tc : Thread Cert.GWDownReferenceIdeal.nD Cert.GWDownReferenceIdeal.τ).loc Cert.GWDownReferenceIdeal.main_v5) = v0 c
          ∧ r.2.mem ((c.tc : Thread Cert.GWDownReferenceIdeal.nD Cert.GWDownReferenceIdeal.τ).loc Cert.GWDownReferenceIdeal.main_v6) = v1 c
          ∧ r.2.mem ((c.tc : Thread Cert.GWDownReferenceIdeal.nD Cert.GWDownReferenceIdeal.τ).loc Cert.GWDownReferenceIdeal.main_arg0) = m' ((c.tc : Thread Cert.GWDownReferenceIdeal.nD Cert.GWDownReferenceIdeal.τ).loc Cert.GWDownReferenceIdeal.main_arg0)
          ∧ r.2.mem ((c.tc : Thread Cert.GWDownReferenceIdeal.nD Cert.GWDownReferenceIdeal.τ).loc Cert.GWDownReferenceIdeal.main_arg1) = m' ((c.tc : Thread Cert.GWDownReferenceIdeal.nD Cert.GWDownReferenceIdeal.τ).loc Cert.GWDownReferenceIdeal.main_arg1))

def preserves_DH3Gate_DH3GateIdeal : Prop :=
  True

def algebraic_DH3GateIdeal_DH3GateReferenceIdeal [hDH3GateIdeal : Cert.DH3GateIdeal.Facts] [hDH3GateReferenceIdeal : Cert.DH3GateReferenceIdeal.Facts] : Prop :=
  ∀ (m : (ℓ : Loc Cert.DH3GateIdeal.nD Cert.DH3GateIdeal.τ Cert.DH3GateIdeal.sig) → Buf (Elt Ideal) ℓ) (g : Dev Cert.DH3GateIdeal.nD → PrngReg)
    (m' : (ℓ : Loc Cert.DH3GateReferenceIdeal.nD Cert.DH3GateReferenceIdeal.τ Cert.DH3GateReferenceIdeal.sig) → Buf (Elt Ideal) ℓ) (g' : Dev Cert.DH3GateReferenceIdeal.nD → PrngReg), Pre_DH3GateIdeal m →
    (∀ c : Dev Cert.DH3GateIdeal.nD,
      m' ((c.tc : Thread Cert.DH3GateReferenceIdeal.nD Cert.DH3GateReferenceIdeal.τ).loc Cert.DH3GateReferenceIdeal.main_arg0) = m ((c.tc : Thread Cert.DH3GateIdeal.nD Cert.DH3GateIdeal.τ).loc Cert.DH3GateIdeal.main_arg0)
      ∧ m' ((c.tc : Thread Cert.DH3GateReferenceIdeal.nD Cert.DH3GateReferenceIdeal.τ).loc Cert.DH3GateReferenceIdeal.main_arg1) = m ((c.tc : Thread Cert.DH3GateIdeal.nD Cert.DH3GateIdeal.τ).loc Cert.DH3GateIdeal.main_arg1)) →
    ∃ (v0 : (c : Dev Cert.DH3GateIdeal.nD) → Buf (Elt Ideal) ((c.tc : Thread Cert.DH3GateIdeal.nD Cert.DH3GateIdeal.τ).loc Cert.DH3GateIdeal.main_v0)),
      θ_run (Cert.DH3GateIdeal.defs (F := Ideal)) (onTc (τ := Cert.DH3GateIdeal.τ) (Cert.DH3GateIdeal.main (F := Ideal))) ⟨m, fun _ => 0, g⟩ (fun r => ∀ c : Dev Cert.DH3GateIdeal.nD,
          r.2.mem ((c.tc : Thread Cert.DH3GateIdeal.nD Cert.DH3GateIdeal.τ).loc Cert.DH3GateIdeal.main_v0) = v0 c
          ∧ r.2.mem ((c.tc : Thread Cert.DH3GateIdeal.nD Cert.DH3GateIdeal.τ).loc Cert.DH3GateIdeal.main_arg0) = m ((c.tc : Thread Cert.DH3GateIdeal.nD Cert.DH3GateIdeal.τ).loc Cert.DH3GateIdeal.main_arg0)
          ∧ r.2.mem ((c.tc : Thread Cert.DH3GateIdeal.nD Cert.DH3GateIdeal.τ).loc Cert.DH3GateIdeal.main_arg1) = m ((c.tc : Thread Cert.DH3GateIdeal.nD Cert.DH3GateIdeal.τ).loc Cert.DH3GateIdeal.main_arg1))
      ∧ θ_run (Cert.DH3GateReferenceIdeal.defs (F := Ideal)) (onTc (τ := Cert.DH3GateReferenceIdeal.τ) (Cert.DH3GateReferenceIdeal.main (F := Ideal))) ⟨m', fun _ => 0, g'⟩ (fun r => ∀ c : Dev Cert.DH3GateReferenceIdeal.nD,
          r.2.mem ((c.tc : Thread Cert.DH3GateReferenceIdeal.nD Cert.DH3GateReferenceIdeal.τ).loc Cert.DH3GateReferenceIdeal.main_v4) = v0 c
          ∧ r.2.mem ((c.tc : Thread Cert.DH3GateReferenceIdeal.nD Cert.DH3GateReferenceIdeal.τ).loc Cert.DH3GateReferenceIdeal.main_arg0) = m' ((c.tc : Thread Cert.DH3GateReferenceIdeal.nD Cert.DH3GateReferenceIdeal.τ).loc Cert.DH3GateReferenceIdeal.main_arg0)
          ∧ r.2.mem ((c.tc : Thread Cert.DH3GateReferenceIdeal.nD Cert.DH3GateReferenceIdeal.τ).loc Cert.DH3GateReferenceIdeal.main_arg1) = m' ((c.tc : Thread Cert.DH3GateReferenceIdeal.nD Cert.DH3GateReferenceIdeal.τ).loc Cert.DH3GateReferenceIdeal.main_arg1))

def preserves_DH3Up_DH3UpIdeal : Prop :=
  True

def algebraic_DH3UpIdeal_DH3UpReferenceIdeal [hDH3UpIdeal : Cert.DH3UpIdeal.Facts] [hDH3UpReferenceIdeal : Cert.DH3UpReferenceIdeal.Facts] : Prop :=
  ∀ (m : (ℓ : Loc Cert.DH3UpIdeal.nD Cert.DH3UpIdeal.τ Cert.DH3UpIdeal.sig) → Buf (Elt Ideal) ℓ) (g : Dev Cert.DH3UpIdeal.nD → PrngReg)
    (m' : (ℓ : Loc Cert.DH3UpReferenceIdeal.nD Cert.DH3UpReferenceIdeal.τ Cert.DH3UpReferenceIdeal.sig) → Buf (Elt Ideal) ℓ) (g' : Dev Cert.DH3UpReferenceIdeal.nD → PrngReg), Pre_DH3UpIdeal m →
    (∀ c : Dev Cert.DH3UpIdeal.nD,
      m' ((c.tc : Thread Cert.DH3UpReferenceIdeal.nD Cert.DH3UpReferenceIdeal.τ).loc Cert.DH3UpReferenceIdeal.main_arg0) = m ((c.tc : Thread Cert.DH3UpIdeal.nD Cert.DH3UpIdeal.τ).loc Cert.DH3UpIdeal.main_arg0)
      ∧ m' ((c.tc : Thread Cert.DH3UpReferenceIdeal.nD Cert.DH3UpReferenceIdeal.τ).loc Cert.DH3UpReferenceIdeal.main_arg1) = m ((c.tc : Thread Cert.DH3UpIdeal.nD Cert.DH3UpIdeal.τ).loc Cert.DH3UpIdeal.main_arg1)
      ∧ m' ((c.tc : Thread Cert.DH3UpReferenceIdeal.nD Cert.DH3UpReferenceIdeal.τ).loc Cert.DH3UpReferenceIdeal.main_arg2) = m ((c.tc : Thread Cert.DH3UpIdeal.nD Cert.DH3UpIdeal.τ).loc Cert.DH3UpIdeal.main_arg2)) →
    ∃ (v0 : (c : Dev Cert.DH3UpIdeal.nD) → Buf (Elt Ideal) ((c.tc : Thread Cert.DH3UpIdeal.nD Cert.DH3UpIdeal.τ).loc Cert.DH3UpIdeal.main_v0)),
      θ_run (Cert.DH3UpIdeal.defs (F := Ideal)) (onTc (τ := Cert.DH3UpIdeal.τ) (Cert.DH3UpIdeal.main (F := Ideal))) ⟨m, fun _ => 0, g⟩ (fun r => ∀ c : Dev Cert.DH3UpIdeal.nD,
          r.2.mem ((c.tc : Thread Cert.DH3UpIdeal.nD Cert.DH3UpIdeal.τ).loc Cert.DH3UpIdeal.main_v0) = v0 c
          ∧ r.2.mem ((c.tc : Thread Cert.DH3UpIdeal.nD Cert.DH3UpIdeal.τ).loc Cert.DH3UpIdeal.main_arg0) = m ((c.tc : Thread Cert.DH3UpIdeal.nD Cert.DH3UpIdeal.τ).loc Cert.DH3UpIdeal.main_arg0)
          ∧ r.2.mem ((c.tc : Thread Cert.DH3UpIdeal.nD Cert.DH3UpIdeal.τ).loc Cert.DH3UpIdeal.main_arg1) = m ((c.tc : Thread Cert.DH3UpIdeal.nD Cert.DH3UpIdeal.τ).loc Cert.DH3UpIdeal.main_arg1)
          ∧ r.2.mem ((c.tc : Thread Cert.DH3UpIdeal.nD Cert.DH3UpIdeal.τ).loc Cert.DH3UpIdeal.main_arg2) = m ((c.tc : Thread Cert.DH3UpIdeal.nD Cert.DH3UpIdeal.τ).loc Cert.DH3UpIdeal.main_arg2))
      ∧ θ_run (Cert.DH3UpReferenceIdeal.defs (F := Ideal)) (onTc (τ := Cert.DH3UpReferenceIdeal.τ) (Cert.DH3UpReferenceIdeal.main (F := Ideal))) ⟨m', fun _ => 0, g'⟩ (fun r => ∀ c : Dev Cert.DH3UpReferenceIdeal.nD,
          r.2.mem ((c.tc : Thread Cert.DH3UpReferenceIdeal.nD Cert.DH3UpReferenceIdeal.τ).loc Cert.DH3UpReferenceIdeal.main_v6) = v0 c
          ∧ r.2.mem ((c.tc : Thread Cert.DH3UpReferenceIdeal.nD Cert.DH3UpReferenceIdeal.τ).loc Cert.DH3UpReferenceIdeal.main_arg0) = m' ((c.tc : Thread Cert.DH3UpReferenceIdeal.nD Cert.DH3UpReferenceIdeal.τ).loc Cert.DH3UpReferenceIdeal.main_arg0)
          ∧ r.2.mem ((c.tc : Thread Cert.DH3UpReferenceIdeal.nD Cert.DH3UpReferenceIdeal.τ).loc Cert.DH3UpReferenceIdeal.main_arg1) = m' ((c.tc : Thread Cert.DH3UpReferenceIdeal.nD Cert.DH3UpReferenceIdeal.τ).loc Cert.DH3UpReferenceIdeal.main_arg1)
          ∧ r.2.mem ((c.tc : Thread Cert.DH3UpReferenceIdeal.nD Cert.DH3UpReferenceIdeal.τ).loc Cert.DH3UpReferenceIdeal.main_arg2) = m' ((c.tc : Thread Cert.DH3UpReferenceIdeal.nD Cert.DH3UpReferenceIdeal.τ).loc Cert.DH3UpReferenceIdeal.main_arg2))

def preserves_GWGate_GWGateIdeal : Prop :=
  True

def algebraic_GWGateIdeal_GWGateReferenceIdeal [hGWGateIdeal : Cert.GWGateIdeal.Facts] [hGWGateReferenceIdeal : Cert.GWGateReferenceIdeal.Facts] : Prop :=
  ∀ (m : (ℓ : Loc Cert.GWGateIdeal.nD Cert.GWGateIdeal.τ Cert.GWGateIdeal.sig) → Buf (Elt Ideal) ℓ) (g : Dev Cert.GWGateIdeal.nD → PrngReg)
    (m' : (ℓ : Loc Cert.GWGateReferenceIdeal.nD Cert.GWGateReferenceIdeal.τ Cert.GWGateReferenceIdeal.sig) → Buf (Elt Ideal) ℓ) (g' : Dev Cert.GWGateReferenceIdeal.nD → PrngReg), Pre_GWGateIdeal m →
    (∀ c : Dev Cert.GWGateIdeal.nD,
      m' ((c.tc : Thread Cert.GWGateReferenceIdeal.nD Cert.GWGateReferenceIdeal.τ).loc Cert.GWGateReferenceIdeal.main_arg0) = m ((c.tc : Thread Cert.GWGateIdeal.nD Cert.GWGateIdeal.τ).loc Cert.GWGateIdeal.main_arg0)
      ∧ m' ((c.tc : Thread Cert.GWGateReferenceIdeal.nD Cert.GWGateReferenceIdeal.τ).loc Cert.GWGateReferenceIdeal.main_arg1) = m ((c.tc : Thread Cert.GWGateIdeal.nD Cert.GWGateIdeal.τ).loc Cert.GWGateIdeal.main_arg1)) →
    ∃ (v0 : (c : Dev Cert.GWGateIdeal.nD) → Buf (Elt Ideal) ((c.tc : Thread Cert.GWGateIdeal.nD Cert.GWGateIdeal.τ).loc Cert.GWGateIdeal.main_v0_0)) (v1 : (c : Dev Cert.GWGateIdeal.nD) → Buf (Elt Ideal) ((c.tc : Thread Cert.GWGateIdeal.nD Cert.GWGateIdeal.τ).loc Cert.GWGateIdeal.main_v0_1)),
      θ_run (Cert.GWGateIdeal.defs (F := Ideal)) (onTc (τ := Cert.GWGateIdeal.τ) (Cert.GWGateIdeal.main (F := Ideal))) ⟨m, fun _ => 0, g⟩ (fun r => ∀ c : Dev Cert.GWGateIdeal.nD,
          r.2.mem ((c.tc : Thread Cert.GWGateIdeal.nD Cert.GWGateIdeal.τ).loc Cert.GWGateIdeal.main_v0_0) = v0 c
          ∧ r.2.mem ((c.tc : Thread Cert.GWGateIdeal.nD Cert.GWGateIdeal.τ).loc Cert.GWGateIdeal.main_v0_1) = v1 c
          ∧ r.2.mem ((c.tc : Thread Cert.GWGateIdeal.nD Cert.GWGateIdeal.τ).loc Cert.GWGateIdeal.main_arg0) = m ((c.tc : Thread Cert.GWGateIdeal.nD Cert.GWGateIdeal.τ).loc Cert.GWGateIdeal.main_arg0)
          ∧ r.2.mem ((c.tc : Thread Cert.GWGateIdeal.nD Cert.GWGateIdeal.τ).loc Cert.GWGateIdeal.main_arg1) = m ((c.tc : Thread Cert.GWGateIdeal.nD Cert.GWGateIdeal.τ).loc Cert.GWGateIdeal.main_arg1))
      ∧ θ_run (Cert.GWGateReferenceIdeal.defs (F := Ideal)) (onTc (τ := Cert.GWGateReferenceIdeal.τ) (Cert.GWGateReferenceIdeal.main (F := Ideal))) ⟨m', fun _ => 0, g'⟩ (fun r => ∀ c : Dev Cert.GWGateReferenceIdeal.nD,
          r.2.mem ((c.tc : Thread Cert.GWGateReferenceIdeal.nD Cert.GWGateReferenceIdeal.τ).loc Cert.GWGateReferenceIdeal.main_v5) = v0 c
          ∧ r.2.mem ((c.tc : Thread Cert.GWGateReferenceIdeal.nD Cert.GWGateReferenceIdeal.τ).loc Cert.GWGateReferenceIdeal.main_v6) = v1 c
          ∧ r.2.mem ((c.tc : Thread Cert.GWGateReferenceIdeal.nD Cert.GWGateReferenceIdeal.τ).loc Cert.GWGateReferenceIdeal.main_arg0) = m' ((c.tc : Thread Cert.GWGateReferenceIdeal.nD Cert.GWGateReferenceIdeal.τ).loc Cert.GWGateReferenceIdeal.main_arg0)
          ∧ r.2.mem ((c.tc : Thread Cert.GWGateReferenceIdeal.nD Cert.GWGateReferenceIdeal.τ).loc Cert.GWGateReferenceIdeal.main_arg1) = m' ((c.tc : Thread Cert.GWGateReferenceIdeal.nD Cert.GWGateReferenceIdeal.τ).loc Cert.GWGateReferenceIdeal.main_arg1))

def preserves_DAtt_DAttIdeal : Prop :=
  True

def algebraic_DAttIdeal_DAttReferenceIdeal [hDAttIdeal : Cert.DAttIdeal.Facts] [hDAttReferenceIdeal : Cert.DAttReferenceIdeal.Facts] : Prop :=
  ∀ (m : (ℓ : Loc Cert.DAttIdeal.nD Cert.DAttIdeal.τ Cert.DAttIdeal.sig) → Buf (Elt Ideal) ℓ) (g : Dev Cert.DAttIdeal.nD → PrngReg)
    (m' : (ℓ : Loc Cert.DAttReferenceIdeal.nD Cert.DAttReferenceIdeal.τ Cert.DAttReferenceIdeal.sig) → Buf (Elt Ideal) ℓ) (g' : Dev Cert.DAttReferenceIdeal.nD → PrngReg), Pre_DAttIdeal m →
    (∀ c : Dev Cert.DAttIdeal.nD,
      m' ((c.tc : Thread Cert.DAttReferenceIdeal.nD Cert.DAttReferenceIdeal.τ).loc Cert.DAttReferenceIdeal.main_arg0) = m ((c.tc : Thread Cert.DAttIdeal.nD Cert.DAttIdeal.τ).loc Cert.DAttIdeal.main_arg0)
      ∧ m' ((c.tc : Thread Cert.DAttReferenceIdeal.nD Cert.DAttReferenceIdeal.τ).loc Cert.DAttReferenceIdeal.main_arg1) = m ((c.tc : Thread Cert.DAttIdeal.nD Cert.DAttIdeal.τ).loc Cert.DAttIdeal.main_arg1)) →
    ∃ (v0 : (c : Dev Cert.DAttIdeal.nD) → Buf (Elt Ideal) ((c.tc : Thread Cert.DAttIdeal.nD Cert.DAttIdeal.τ).loc Cert.DAttIdeal.main_v0)),
      θ_run (Cert.DAttIdeal.defs (F := Ideal)) (onTc (τ := Cert.DAttIdeal.τ) (Cert.DAttIdeal.main (F := Ideal))) ⟨m, fun _ => 0, g⟩ (fun r => ∀ c : Dev Cert.DAttIdeal.nD,
          r.2.mem ((c.tc : Thread Cert.DAttIdeal.nD Cert.DAttIdeal.τ).loc Cert.DAttIdeal.main_v0) = v0 c
          ∧ r.2.mem ((c.tc : Thread Cert.DAttIdeal.nD Cert.DAttIdeal.τ).loc Cert.DAttIdeal.main_arg0) = m ((c.tc : Thread Cert.DAttIdeal.nD Cert.DAttIdeal.τ).loc Cert.DAttIdeal.main_arg0)
          ∧ r.2.mem ((c.tc : Thread Cert.DAttIdeal.nD Cert.DAttIdeal.τ).loc Cert.DAttIdeal.main_arg1) = m ((c.tc : Thread Cert.DAttIdeal.nD Cert.DAttIdeal.τ).loc Cert.DAttIdeal.main_arg1))
      ∧ θ_run (Cert.DAttReferenceIdeal.defs (F := Ideal)) (onTc (τ := Cert.DAttReferenceIdeal.τ) (Cert.DAttReferenceIdeal.main (F := Ideal))) ⟨m', fun _ => 0, g'⟩ (fun r => ∀ c : Dev Cert.DAttReferenceIdeal.nD,
          r.2.mem ((c.tc : Thread Cert.DAttReferenceIdeal.nD Cert.DAttReferenceIdeal.τ).loc Cert.DAttReferenceIdeal.main_v5) = v0 c
          ∧ r.2.mem ((c.tc : Thread Cert.DAttReferenceIdeal.nD Cert.DAttReferenceIdeal.τ).loc Cert.DAttReferenceIdeal.main_arg0) = m' ((c.tc : Thread Cert.DAttReferenceIdeal.nD Cert.DAttReferenceIdeal.τ).loc Cert.DAttReferenceIdeal.main_arg0)
          ∧ r.2.mem ((c.tc : Thread Cert.DAttReferenceIdeal.nD Cert.DAttReferenceIdeal.τ).loc Cert.DAttReferenceIdeal.main_arg1) = m' ((c.tc : Thread Cert.DAttReferenceIdeal.nD Cert.DAttReferenceIdeal.τ).loc Cert.DAttReferenceIdeal.main_arg1))

def preserves_GWo_GWoIdeal : Prop :=
  True

def algebraic_GWoIdeal_GWoReferenceIdeal [hGWoIdeal : Cert.GWoIdeal.Facts] [hGWoReferenceIdeal : Cert.GWoReferenceIdeal.Facts] : Prop :=
  ∀ (m : (ℓ : Loc Cert.GWoIdeal.nD Cert.GWoIdeal.τ Cert.GWoIdeal.sig) → Buf (Elt Ideal) ℓ) (g : Dev Cert.GWoIdeal.nD → PrngReg)
    (m' : (ℓ : Loc Cert.GWoReferenceIdeal.nD Cert.GWoReferenceIdeal.τ Cert.GWoReferenceIdeal.sig) → Buf (Elt Ideal) ℓ) (g' : Dev Cert.GWoReferenceIdeal.nD → PrngReg), Pre_GWoIdeal m →
    (∀ c : Dev Cert.GWoIdeal.nD,
      m' ((c.tc : Thread Cert.GWoReferenceIdeal.nD Cert.GWoReferenceIdeal.τ).loc Cert.GWoReferenceIdeal.main_arg0) = m ((c.tc : Thread Cert.GWoIdeal.nD Cert.GWoIdeal.τ).loc Cert.GWoIdeal.main_arg0)
      ∧ m' ((c.tc : Thread Cert.GWoReferenceIdeal.nD Cert.GWoReferenceIdeal.τ).loc Cert.GWoReferenceIdeal.main_arg1) = m ((c.tc : Thread Cert.GWoIdeal.nD Cert.GWoIdeal.τ).loc Cert.GWoIdeal.main_arg1)) →
    ∃ (v0 : (c : Dev Cert.GWoIdeal.nD) → Buf (Elt Ideal) ((c.tc : Thread Cert.GWoIdeal.nD Cert.GWoIdeal.τ).loc Cert.GWoIdeal.main_v0_0)) (v1 : (c : Dev Cert.GWoIdeal.nD) → Buf (Elt Ideal) ((c.tc : Thread Cert.GWoIdeal.nD Cert.GWoIdeal.τ).loc Cert.GWoIdeal.main_v0_1)),
      θ_run (Cert.GWoIdeal.defs (F := Ideal)) (onTc (τ := Cert.GWoIdeal.τ) (Cert.GWoIdeal.main (F := Ideal))) ⟨m, fun _ => 0, g⟩ (fun r => ∀ c : Dev Cert.GWoIdeal.nD,
          r.2.mem ((c.tc : Thread Cert.GWoIdeal.nD Cert.GWoIdeal.τ).loc Cert.GWoIdeal.main_v0_0) = v0 c
          ∧ r.2.mem ((c.tc : Thread Cert.GWoIdeal.nD Cert.GWoIdeal.τ).loc Cert.GWoIdeal.main_v0_1) = v1 c
          ∧ r.2.mem ((c.tc : Thread Cert.GWoIdeal.nD Cert.GWoIdeal.τ).loc Cert.GWoIdeal.main_arg0) = m ((c.tc : Thread Cert.GWoIdeal.nD Cert.GWoIdeal.τ).loc Cert.GWoIdeal.main_arg0)
          ∧ r.2.mem ((c.tc : Thread Cert.GWoIdeal.nD Cert.GWoIdeal.τ).loc Cert.GWoIdeal.main_arg1) = m ((c.tc : Thread Cert.GWoIdeal.nD Cert.GWoIdeal.τ).loc Cert.GWoIdeal.main_arg1))
      ∧ θ_run (Cert.GWoReferenceIdeal.defs (F := Ideal)) (onTc (τ := Cert.GWoReferenceIdeal.τ) (Cert.GWoReferenceIdeal.main (F := Ideal))) ⟨m', fun _ => 0, g'⟩ (fun r => ∀ c : Dev Cert.GWoReferenceIdeal.nD,
          r.2.mem ((c.tc : Thread Cert.GWoReferenceIdeal.nD Cert.GWoReferenceIdeal.τ).loc Cert.GWoReferenceIdeal.main_v5) = v0 c
          ∧ r.2.mem ((c.tc : Thread Cert.GWoReferenceIdeal.nD Cert.GWoReferenceIdeal.τ).loc Cert.GWoReferenceIdeal.main_v6) = v1 c
          ∧ r.2.mem ((c.tc : Thread Cert.GWoReferenceIdeal.nD Cert.GWoReferenceIdeal.τ).loc Cert.GWoReferenceIdeal.main_arg0) = m' ((c.tc : Thread Cert.GWoReferenceIdeal.nD Cert.GWoReferenceIdeal.τ).loc Cert.GWoReferenceIdeal.main_arg0)
          ∧ r.2.mem ((c.tc : Thread Cert.GWoReferenceIdeal.nD Cert.GWoReferenceIdeal.τ).loc Cert.GWoReferenceIdeal.main_arg1) = m' ((c.tc : Thread Cert.GWoReferenceIdeal.nD Cert.GWoReferenceIdeal.τ).loc Cert.GWoReferenceIdeal.main_arg1))

def preserves_GWk_GWkIdeal : Prop :=
  True

def algebraic_GWkIdeal_GWkReferenceIdeal [hGWkIdeal : Cert.GWkIdeal.Facts] [hGWkReferenceIdeal : Cert.GWkReferenceIdeal.Facts] : Prop :=
  ∀ (m : (ℓ : Loc Cert.GWkIdeal.nD Cert.GWkIdeal.τ Cert.GWkIdeal.sig) → Buf (Elt Ideal) ℓ) (g : Dev Cert.GWkIdeal.nD → PrngReg)
    (m' : (ℓ : Loc Cert.GWkReferenceIdeal.nD Cert.GWkReferenceIdeal.τ Cert.GWkReferenceIdeal.sig) → Buf (Elt Ideal) ℓ) (g' : Dev Cert.GWkReferenceIdeal.nD → PrngReg), Pre_GWkIdeal m →
    (∀ c : Dev Cert.GWkIdeal.nD,
      m' ((c.tc : Thread Cert.GWkReferenceIdeal.nD Cert.GWkReferenceIdeal.τ).loc Cert.GWkReferenceIdeal.main_arg0) = m ((c.tc : Thread Cert.GWkIdeal.nD Cert.GWkIdeal.τ).loc Cert.GWkIdeal.main_arg0)
      ∧ m' ((c.tc : Thread Cert.GWkReferenceIdeal.nD Cert.GWkReferenceIdeal.τ).loc Cert.GWkReferenceIdeal.main_arg1) = m ((c.tc : Thread Cert.GWkIdeal.nD Cert.GWkIdeal.τ).loc Cert.GWkIdeal.main_arg1)) →
    ∃ (v0 : (c : Dev Cert.GWkIdeal.nD) → Buf (Elt Ideal) ((c.tc : Thread Cert.GWkIdeal.nD Cert.GWkIdeal.τ).loc Cert.GWkIdeal.main_v0_0)) (v1 : (c : Dev Cert.GWkIdeal.nD) → Buf (Elt Ideal) ((c.tc : Thread Cert.GWkIdeal.nD Cert.GWkIdeal.τ).loc Cert.GWkIdeal.main_v0_1)),
      θ_run (Cert.GWkIdeal.defs (F := Ideal)) (onTc (τ := Cert.GWkIdeal.τ) (Cert.GWkIdeal.main (F := Ideal))) ⟨m, fun _ => 0, g⟩ (fun r => ∀ c : Dev Cert.GWkIdeal.nD,
          r.2.mem ((c.tc : Thread Cert.GWkIdeal.nD Cert.GWkIdeal.τ).loc Cert.GWkIdeal.main_v0_0) = v0 c
          ∧ r.2.mem ((c.tc : Thread Cert.GWkIdeal.nD Cert.GWkIdeal.τ).loc Cert.GWkIdeal.main_v0_1) = v1 c
          ∧ r.2.mem ((c.tc : Thread Cert.GWkIdeal.nD Cert.GWkIdeal.τ).loc Cert.GWkIdeal.main_arg0) = m ((c.tc : Thread Cert.GWkIdeal.nD Cert.GWkIdeal.τ).loc Cert.GWkIdeal.main_arg0)
          ∧ r.2.mem ((c.tc : Thread Cert.GWkIdeal.nD Cert.GWkIdeal.τ).loc Cert.GWkIdeal.main_arg1) = m ((c.tc : Thread Cert.GWkIdeal.nD Cert.GWkIdeal.τ).loc Cert.GWkIdeal.main_arg1))
      ∧ θ_run (Cert.GWkReferenceIdeal.defs (F := Ideal)) (onTc (τ := Cert.GWkReferenceIdeal.τ) (Cert.GWkReferenceIdeal.main (F := Ideal))) ⟨m', fun _ => 0, g'⟩ (fun r => ∀ c : Dev Cert.GWkReferenceIdeal.nD,
          r.2.mem ((c.tc : Thread Cert.GWkReferenceIdeal.nD Cert.GWkReferenceIdeal.τ).loc Cert.GWkReferenceIdeal.main_v4) = v0 c
          ∧ r.2.mem ((c.tc : Thread Cert.GWkReferenceIdeal.nD Cert.GWkReferenceIdeal.τ).loc Cert.GWkReferenceIdeal.main_v5) = v1 c
          ∧ r.2.mem ((c.tc : Thread Cert.GWkReferenceIdeal.nD Cert.GWkReferenceIdeal.τ).loc Cert.GWkReferenceIdeal.main_arg0) = m' ((c.tc : Thread Cert.GWkReferenceIdeal.nD Cert.GWkReferenceIdeal.τ).loc Cert.GWkReferenceIdeal.main_arg0)
          ∧ r.2.mem ((c.tc : Thread Cert.GWkReferenceIdeal.nD Cert.GWkReferenceIdeal.τ).loc Cert.GWkReferenceIdeal.main_arg1) = m' ((c.tc : Thread Cert.GWkReferenceIdeal.nD Cert.GWkReferenceIdeal.τ).loc Cert.GWkReferenceIdeal.main_arg1))

def preserves_DMemK_DMemKIdeal : Prop :=
  True

def algebraic_DMemKIdeal_DMemKReferenceIdeal [hDMemKIdeal : Cert.DMemKIdeal.Facts] [hDMemKReferenceIdeal : Cert.DMemKReferenceIdeal.Facts] : Prop :=
  ∀ (m : (ℓ : Loc Cert.DMemKIdeal.nD Cert.DMemKIdeal.τ Cert.DMemKIdeal.sig) → Buf (Elt Ideal) ℓ) (g : Dev Cert.DMemKIdeal.nD → PrngReg)
    (m' : (ℓ : Loc Cert.DMemKReferenceIdeal.nD Cert.DMemKReferenceIdeal.τ Cert.DMemKReferenceIdeal.sig) → Buf (Elt Ideal) ℓ) (g' : Dev Cert.DMemKReferenceIdeal.nD → PrngReg), Pre_DMemKIdeal m →
    (∀ c : Dev Cert.DMemKIdeal.nD,
      m' ((c.tc : Thread Cert.DMemKReferenceIdeal.nD Cert.DMemKReferenceIdeal.τ).loc Cert.DMemKReferenceIdeal.main_arg0) = m ((c.tc : Thread Cert.DMemKIdeal.nD Cert.DMemKIdeal.τ).loc Cert.DMemKIdeal.main_arg0)
      ∧ m' ((c.tc : Thread Cert.DMemKReferenceIdeal.nD Cert.DMemKReferenceIdeal.τ).loc Cert.DMemKReferenceIdeal.main_arg1) = m ((c.tc : Thread Cert.DMemKIdeal.nD Cert.DMemKIdeal.τ).loc Cert.DMemKIdeal.main_arg1)) →
    ∃ (v0 : (c : Dev Cert.DMemKIdeal.nD) → Buf (Elt Ideal) ((c.tc : Thread Cert.DMemKIdeal.nD Cert.DMemKIdeal.τ).loc Cert.DMemKIdeal.main_v0)),
      θ_run (Cert.DMemKIdeal.defs (F := Ideal)) (onTc (τ := Cert.DMemKIdeal.τ) (Cert.DMemKIdeal.main (F := Ideal))) ⟨m, fun _ => 0, g⟩ (fun r => ∀ c : Dev Cert.DMemKIdeal.nD,
          r.2.mem ((c.tc : Thread Cert.DMemKIdeal.nD Cert.DMemKIdeal.τ).loc Cert.DMemKIdeal.main_v0) = v0 c
          ∧ r.2.mem ((c.tc : Thread Cert.DMemKIdeal.nD Cert.DMemKIdeal.τ).loc Cert.DMemKIdeal.main_arg0) = m ((c.tc : Thread Cert.DMemKIdeal.nD Cert.DMemKIdeal.τ).loc Cert.DMemKIdeal.main_arg0)
          ∧ r.2.mem ((c.tc : Thread Cert.DMemKIdeal.nD Cert.DMemKIdeal.τ).loc Cert.DMemKIdeal.main_arg1) = m ((c.tc : Thread Cert.DMemKIdeal.nD Cert.DMemKIdeal.τ).loc Cert.DMemKIdeal.main_arg1))
      ∧ θ_run (Cert.DMemKReferenceIdeal.defs (F := Ideal)) (onTc (τ := Cert.DMemKReferenceIdeal.τ) (Cert.DMemKReferenceIdeal.main (F := Ideal))) ⟨m', fun _ => 0, g'⟩ (fun r => ∀ c : Dev Cert.DMemKReferenceIdeal.nD,
          r.2.mem ((c.tc : Thread Cert.DMemKReferenceIdeal.nD Cert.DMemKReferenceIdeal.τ).loc Cert.DMemKReferenceIdeal.main_v3) = v0 c
          ∧ r.2.mem ((c.tc : Thread Cert.DMemKReferenceIdeal.nD Cert.DMemKReferenceIdeal.τ).loc Cert.DMemKReferenceIdeal.main_arg0) = m' ((c.tc : Thread Cert.DMemKReferenceIdeal.nD Cert.DMemKReferenceIdeal.τ).loc Cert.DMemKReferenceIdeal.main_arg0)
          ∧ r.2.mem ((c.tc : Thread Cert.DMemKReferenceIdeal.nD Cert.DMemKReferenceIdeal.τ).loc Cert.DMemKReferenceIdeal.main_arg1) = m' ((c.tc : Thread Cert.DMemKReferenceIdeal.nD Cert.DMemKReferenceIdeal.τ).loc Cert.DMemKReferenceIdeal.main_arg1))

def preserves_DMemV_DMemVIdeal : Prop :=
  True

def algebraic_DMemVIdeal_DMemVReferenceIdeal [hDMemVIdeal : Cert.DMemVIdeal.Facts] [hDMemVReferenceIdeal : Cert.DMemVReferenceIdeal.Facts] : Prop :=
  ∀ (m : (ℓ : Loc Cert.DMemVIdeal.nD Cert.DMemVIdeal.τ Cert.DMemVIdeal.sig) → Buf (Elt Ideal) ℓ) (g : Dev Cert.DMemVIdeal.nD → PrngReg)
    (m' : (ℓ : Loc Cert.DMemVReferenceIdeal.nD Cert.DMemVReferenceIdeal.τ Cert.DMemVReferenceIdeal.sig) → Buf (Elt Ideal) ℓ) (g' : Dev Cert.DMemVReferenceIdeal.nD → PrngReg), Pre_DMemVIdeal m →
    (∀ c : Dev Cert.DMemVIdeal.nD,
      m' ((c.tc : Thread Cert.DMemVReferenceIdeal.nD Cert.DMemVReferenceIdeal.τ).loc Cert.DMemVReferenceIdeal.main_arg0) = m ((c.tc : Thread Cert.DMemVIdeal.nD Cert.DMemVIdeal.τ).loc Cert.DMemVIdeal.main_arg0)
      ∧ m' ((c.tc : Thread Cert.DMemVReferenceIdeal.nD Cert.DMemVReferenceIdeal.τ).loc Cert.DMemVReferenceIdeal.main_arg1) = m ((c.tc : Thread Cert.DMemVIdeal.nD Cert.DMemVIdeal.τ).loc Cert.DMemVIdeal.main_arg1)
      ∧ m' ((c.tc : Thread Cert.DMemVReferenceIdeal.nD Cert.DMemVReferenceIdeal.τ).loc Cert.DMemVReferenceIdeal.main_arg2) = m ((c.tc : Thread Cert.DMemVIdeal.nD Cert.DMemVIdeal.τ).loc Cert.DMemVIdeal.main_arg2)) →
    ∃ (v0 : (c : Dev Cert.DMemVIdeal.nD) → Buf (Elt Ideal) ((c.tc : Thread Cert.DMemVIdeal.nD Cert.DMemVIdeal.τ).loc Cert.DMemVIdeal.main_v0)),
      θ_run (Cert.DMemVIdeal.defs (F := Ideal)) (onTc (τ := Cert.DMemVIdeal.τ) (Cert.DMemVIdeal.main (F := Ideal))) ⟨m, fun _ => 0, g⟩ (fun r => ∀ c : Dev Cert.DMemVIdeal.nD,
          r.2.mem ((c.tc : Thread Cert.DMemVIdeal.nD Cert.DMemVIdeal.τ).loc Cert.DMemVIdeal.main_v0) = v0 c
          ∧ r.2.mem ((c.tc : Thread Cert.DMemVIdeal.nD Cert.DMemVIdeal.τ).loc Cert.DMemVIdeal.main_arg0) = m ((c.tc : Thread Cert.DMemVIdeal.nD Cert.DMemVIdeal.τ).loc Cert.DMemVIdeal.main_arg0)
          ∧ r.2.mem ((c.tc : Thread Cert.DMemVIdeal.nD Cert.DMemVIdeal.τ).loc Cert.DMemVIdeal.main_arg1) = m ((c.tc : Thread Cert.DMemVIdeal.nD Cert.DMemVIdeal.τ).loc Cert.DMemVIdeal.main_arg1)
          ∧ r.2.mem ((c.tc : Thread Cert.DMemVIdeal.nD Cert.DMemVIdeal.τ).loc Cert.DMemVIdeal.main_arg2) = m ((c.tc : Thread Cert.DMemVIdeal.nD Cert.DMemVIdeal.τ).loc Cert.DMemVIdeal.main_arg2))
      ∧ θ_run (Cert.DMemVReferenceIdeal.defs (F := Ideal)) (onTc (τ := Cert.DMemVReferenceIdeal.τ) (Cert.DMemVReferenceIdeal.main (F := Ideal))) ⟨m', fun _ => 0, g'⟩ (fun r => ∀ c : Dev Cert.DMemVReferenceIdeal.nD,
          r.2.mem ((c.tc : Thread Cert.DMemVReferenceIdeal.nD Cert.DMemVReferenceIdeal.τ).loc Cert.DMemVReferenceIdeal.main_v4) = v0 c
          ∧ r.2.mem ((c.tc : Thread Cert.DMemVReferenceIdeal.nD Cert.DMemVReferenceIdeal.τ).loc Cert.DMemVReferenceIdeal.main_arg0) = m' ((c.tc : Thread Cert.DMemVReferenceIdeal.nD Cert.DMemVReferenceIdeal.τ).loc Cert.DMemVReferenceIdeal.main_arg0)
          ∧ r.2.mem ((c.tc : Thread Cert.DMemVReferenceIdeal.nD Cert.DMemVReferenceIdeal.τ).loc Cert.DMemVReferenceIdeal.main_arg1) = m' ((c.tc : Thread Cert.DMemVReferenceIdeal.nD Cert.DMemVReferenceIdeal.τ).loc Cert.DMemVReferenceIdeal.main_arg1)
          ∧ r.2.mem ((c.tc : Thread Cert.DMemVReferenceIdeal.nD Cert.DMemVReferenceIdeal.τ).loc Cert.DMemVReferenceIdeal.main_arg2) = m' ((c.tc : Thread Cert.DMemVReferenceIdeal.nD Cert.DMemVReferenceIdeal.τ).loc Cert.DMemVReferenceIdeal.main_arg2))

def preserves_GWIn_GWInIdeal : Prop :=
  True

def algebraic_GWInIdeal_GWInReferenceIdeal [hGWInIdeal : Cert.GWInIdeal.Facts] [hGWInReferenceIdeal : Cert.GWInReferenceIdeal.Facts] : Prop :=
  ∀ (m : (ℓ : Loc Cert.GWInIdeal.nD Cert.GWInIdeal.τ Cert.GWInIdeal.sig) → Buf (Elt Ideal) ℓ) (g : Dev Cert.GWInIdeal.nD → PrngReg)
    (m' : (ℓ : Loc Cert.GWInReferenceIdeal.nD Cert.GWInReferenceIdeal.τ Cert.GWInReferenceIdeal.sig) → Buf (Elt Ideal) ℓ) (g' : Dev Cert.GWInReferenceIdeal.nD → PrngReg), Pre_GWInIdeal m →
    (∀ c : Dev Cert.GWInIdeal.nD,
      m' ((c.tc : Thread Cert.GWInReferenceIdeal.nD Cert.GWInReferenceIdeal.τ).loc Cert.GWInReferenceIdeal.main_arg0) = m ((c.tc : Thread Cert.GWInIdeal.nD Cert.GWInIdeal.τ).loc Cert.GWInIdeal.main_arg0)
      ∧ m' ((c.tc : Thread Cert.GWInReferenceIdeal.nD Cert.GWInReferenceIdeal.τ).loc Cert.GWInReferenceIdeal.main_arg1) = m ((c.tc : Thread Cert.GWInIdeal.nD Cert.GWInIdeal.τ).loc Cert.GWInIdeal.main_arg1)) →
    ∃ (v0 : (c : Dev Cert.GWInIdeal.nD) → Buf (Elt Ideal) ((c.tc : Thread Cert.GWInIdeal.nD Cert.GWInIdeal.τ).loc Cert.GWInIdeal.main_v0_0)) (v1 : (c : Dev Cert.GWInIdeal.nD) → Buf (Elt Ideal) ((c.tc : Thread Cert.GWInIdeal.nD Cert.GWInIdeal.τ).loc Cert.GWInIdeal.main_v0_1)),
      θ_run (Cert.GWInIdeal.defs (F := Ideal)) (onTc (τ := Cert.GWInIdeal.τ) (Cert.GWInIdeal.main (F := Ideal))) ⟨m, fun _ => 0, g⟩ (fun r => ∀ c : Dev Cert.GWInIdeal.nD,
          r.2.mem ((c.tc : Thread Cert.GWInIdeal.nD Cert.GWInIdeal.τ).loc Cert.GWInIdeal.main_v0_0) = v0 c
          ∧ r.2.mem ((c.tc : Thread Cert.GWInIdeal.nD Cert.GWInIdeal.τ).loc Cert.GWInIdeal.main_v0_1) = v1 c
          ∧ r.2.mem ((c.tc : Thread Cert.GWInIdeal.nD Cert.GWInIdeal.τ).loc Cert.GWInIdeal.main_arg0) = m ((c.tc : Thread Cert.GWInIdeal.nD Cert.GWInIdeal.τ).loc Cert.GWInIdeal.main_arg0)
          ∧ r.2.mem ((c.tc : Thread Cert.GWInIdeal.nD Cert.GWInIdeal.τ).loc Cert.GWInIdeal.main_arg1) = m ((c.tc : Thread Cert.GWInIdeal.nD Cert.GWInIdeal.τ).loc Cert.GWInIdeal.main_arg1))
      ∧ θ_run (Cert.GWInReferenceIdeal.defs (F := Ideal)) (onTc (τ := Cert.GWInReferenceIdeal.τ) (Cert.GWInReferenceIdeal.main (F := Ideal))) ⟨m', fun _ => 0, g'⟩ (fun r => ∀ c : Dev Cert.GWInReferenceIdeal.nD,
          r.2.mem ((c.tc : Thread Cert.GWInReferenceIdeal.nD Cert.GWInReferenceIdeal.τ).loc Cert.GWInReferenceIdeal.main_v8) = v0 c
          ∧ r.2.mem ((c.tc : Thread Cert.GWInReferenceIdeal.nD Cert.GWInReferenceIdeal.τ).loc Cert.GWInReferenceIdeal.main_v9) = v1 c
          ∧ r.2.mem ((c.tc : Thread Cert.GWInReferenceIdeal.nD Cert.GWInReferenceIdeal.τ).loc Cert.GWInReferenceIdeal.main_arg0) = m' ((c.tc : Thread Cert.GWInReferenceIdeal.nD Cert.GWInReferenceIdeal.τ).loc Cert.GWInReferenceIdeal.main_arg0)
          ∧ r.2.mem ((c.tc : Thread Cert.GWInReferenceIdeal.nD Cert.GWInReferenceIdeal.τ).loc Cert.GWInReferenceIdeal.main_arg1) = m' ((c.tc : Thread Cert.GWInReferenceIdeal.nD Cert.GWInReferenceIdeal.τ).loc Cert.GWInReferenceIdeal.main_arg1))

def preserves_DH1_DH1Ideal : Prop :=
  True

def algebraic_DH1Ideal_DH1ReferenceIdeal [hDH1Ideal : Cert.DH1Ideal.Facts] [hDH1ReferenceIdeal : Cert.DH1ReferenceIdeal.Facts] : Prop :=
  ∀ (m : (ℓ : Loc Cert.DH1Ideal.nD Cert.DH1Ideal.τ Cert.DH1Ideal.sig) → Buf (Elt Ideal) ℓ) (g : Dev Cert.DH1Ideal.nD → PrngReg)
    (m' : (ℓ : Loc Cert.DH1ReferenceIdeal.nD Cert.DH1ReferenceIdeal.τ Cert.DH1ReferenceIdeal.sig) → Buf (Elt Ideal) ℓ) (g' : Dev Cert.DH1ReferenceIdeal.nD → PrngReg), Pre_DH1Ideal m →
    (∀ c : Dev Cert.DH1Ideal.nD,
      m' ((c.tc : Thread Cert.DH1ReferenceIdeal.nD Cert.DH1ReferenceIdeal.τ).loc Cert.DH1ReferenceIdeal.main_arg0) = m ((c.tc : Thread Cert.DH1Ideal.nD Cert.DH1Ideal.τ).loc Cert.DH1Ideal.main_arg0)
      ∧ m' ((c.tc : Thread Cert.DH1ReferenceIdeal.nD Cert.DH1ReferenceIdeal.τ).loc Cert.DH1ReferenceIdeal.main_arg1) = m ((c.tc : Thread Cert.DH1Ideal.nD Cert.DH1Ideal.τ).loc Cert.DH1Ideal.main_arg1)) →
    ∃ (v0 : (c : Dev Cert.DH1Ideal.nD) → Buf (Elt Ideal) ((c.tc : Thread Cert.DH1Ideal.nD Cert.DH1Ideal.τ).loc Cert.DH1Ideal.main_v0)),
      θ_run (Cert.DH1Ideal.defs (F := Ideal)) (onTc (τ := Cert.DH1Ideal.τ) (Cert.DH1Ideal.main (F := Ideal))) ⟨m, fun _ => 0, g⟩ (fun r => ∀ c : Dev Cert.DH1Ideal.nD,
          r.2.mem ((c.tc : Thread Cert.DH1Ideal.nD Cert.DH1Ideal.τ).loc Cert.DH1Ideal.main_v0) = v0 c
          ∧ r.2.mem ((c.tc : Thread Cert.DH1Ideal.nD Cert.DH1Ideal.τ).loc Cert.DH1Ideal.main_arg0) = m ((c.tc : Thread Cert.DH1Ideal.nD Cert.DH1Ideal.τ).loc Cert.DH1Ideal.main_arg0)
          ∧ r.2.mem ((c.tc : Thread Cert.DH1Ideal.nD Cert.DH1Ideal.τ).loc Cert.DH1Ideal.main_arg1) = m ((c.tc : Thread Cert.DH1Ideal.nD Cert.DH1Ideal.τ).loc Cert.DH1Ideal.main_arg1))
      ∧ θ_run (Cert.DH1ReferenceIdeal.defs (F := Ideal)) (onTc (τ := Cert.DH1ReferenceIdeal.τ) (Cert.DH1ReferenceIdeal.main (F := Ideal))) ⟨m', fun _ => 0, g'⟩ (fun r => ∀ c : Dev Cert.DH1ReferenceIdeal.nD,
          r.2.mem ((c.tc : Thread Cert.DH1ReferenceIdeal.nD Cert.DH1ReferenceIdeal.τ).loc Cert.DH1ReferenceIdeal.main_v8) = v0 c
          ∧ r.2.mem ((c.tc : Thread Cert.DH1ReferenceIdeal.nD Cert.DH1ReferenceIdeal.τ).loc Cert.DH1ReferenceIdeal.main_arg0) = m' ((c.tc : Thread Cert.DH1ReferenceIdeal.nD Cert.DH1ReferenceIdeal.τ).loc Cert.DH1ReferenceIdeal.main_arg0)
          ∧ r.2.mem ((c.tc : Thread Cert.DH1ReferenceIdeal.nD Cert.DH1ReferenceIdeal.τ).loc Cert.DH1ReferenceIdeal.main_arg1) = m' ((c.tc : Thread Cert.DH1ReferenceIdeal.nD Cert.DH1ReferenceIdeal.τ).loc Cert.DH1ReferenceIdeal.main_arg1))

def preserves_FfnGate_FfnGateIdeal : Prop :=
  True

def algebraic_FfnGateIdeal_FfnGateReferenceIdeal [hFfnGateIdeal : Cert.FfnGateIdeal.Facts] [hFfnGateReferenceIdeal : Cert.FfnGateReferenceIdeal.Facts] : Prop :=
  ∀ (m : (ℓ : Loc Cert.FfnGateIdeal.nD Cert.FfnGateIdeal.τ Cert.FfnGateIdeal.sig) → Buf (Elt Ideal) ℓ) (g : Dev Cert.FfnGateIdeal.nD → PrngReg)
    (m' : (ℓ : Loc Cert.FfnGateReferenceIdeal.nD Cert.FfnGateReferenceIdeal.τ Cert.FfnGateReferenceIdeal.sig) → Buf (Elt Ideal) ℓ) (g' : Dev Cert.FfnGateReferenceIdeal.nD → PrngReg), Pre_FfnGateIdeal m →
    (∀ c : Dev Cert.FfnGateIdeal.nD,
      m' ((c.tc : Thread Cert.FfnGateReferenceIdeal.nD Cert.FfnGateReferenceIdeal.τ).loc Cert.FfnGateReferenceIdeal.main_arg0) = m ((c.tc : Thread Cert.FfnGateIdeal.nD Cert.FfnGateIdeal.τ).loc Cert.FfnGateIdeal.main_arg0)
      ∧ m' ((c.tc : Thread Cert.FfnGateReferenceIdeal.nD Cert.FfnGateReferenceIdeal.τ).loc Cert.FfnGateReferenceIdeal.main_arg1) = m ((c.tc : Thread Cert.FfnGateIdeal.nD Cert.FfnGateIdeal.τ).loc Cert.FfnGateIdeal.main_arg1)) →
    ∃ (v0 : (c : Dev Cert.FfnGateIdeal.nD) → Buf (Elt Ideal) ((c.tc : Thread Cert.FfnGateIdeal.nD Cert.FfnGateIdeal.τ).loc Cert.FfnGateIdeal.main_v0)),
      θ_run (Cert.FfnGateIdeal.defs (F := Ideal)) (onTc (τ := Cert.FfnGateIdeal.τ) (Cert.FfnGateIdeal.main (F := Ideal))) ⟨m, fun _ => 0, g⟩ (fun r => ∀ c : Dev Cert.FfnGateIdeal.nD,
          r.2.mem ((c.tc : Thread Cert.FfnGateIdeal.nD Cert.FfnGateIdeal.τ).loc Cert.FfnGateIdeal.main_v0) = v0 c
          ∧ r.2.mem ((c.tc : Thread Cert.FfnGateIdeal.nD Cert.FfnGateIdeal.τ).loc Cert.FfnGateIdeal.main_arg0) = m ((c.tc : Thread Cert.FfnGateIdeal.nD Cert.FfnGateIdeal.τ).loc Cert.FfnGateIdeal.main_arg0)
          ∧ r.2.mem ((c.tc : Thread Cert.FfnGateIdeal.nD Cert.FfnGateIdeal.τ).loc Cert.FfnGateIdeal.main_arg1) = m ((c.tc : Thread Cert.FfnGateIdeal.nD Cert.FfnGateIdeal.τ).loc Cert.FfnGateIdeal.main_arg1))
      ∧ θ_run (Cert.FfnGateReferenceIdeal.defs (F := Ideal)) (onTc (τ := Cert.FfnGateReferenceIdeal.τ) (Cert.FfnGateReferenceIdeal.main (F := Ideal))) ⟨m', fun _ => 0, g'⟩ (fun r => ∀ c : Dev Cert.FfnGateReferenceIdeal.nD,
          r.2.mem ((c.tc : Thread Cert.FfnGateReferenceIdeal.nD Cert.FfnGateReferenceIdeal.τ).loc Cert.FfnGateReferenceIdeal.main_v3) = v0 c
          ∧ r.2.mem ((c.tc : Thread Cert.FfnGateReferenceIdeal.nD Cert.FfnGateReferenceIdeal.τ).loc Cert.FfnGateReferenceIdeal.main_arg0) = m' ((c.tc : Thread Cert.FfnGateReferenceIdeal.nD Cert.FfnGateReferenceIdeal.τ).loc Cert.FfnGateReferenceIdeal.main_arg0)
          ∧ r.2.mem ((c.tc : Thread Cert.FfnGateReferenceIdeal.nD Cert.FfnGateReferenceIdeal.τ).loc Cert.FfnGateReferenceIdeal.main_arg1) = m' ((c.tc : Thread Cert.FfnGateReferenceIdeal.nD Cert.FfnGateReferenceIdeal.τ).loc Cert.FfnGateReferenceIdeal.main_arg1))

def preserves_FfnDown_FfnDownIdeal : Prop :=
  True

def algebraic_FfnDownIdeal_FfnDownReferenceIdeal [hFfnDownIdeal : Cert.FfnDownIdeal.Facts] [hFfnDownReferenceIdeal : Cert.FfnDownReferenceIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownReferenceIdeal.nD Cert.FfnDownReferenceIdeal.τ Cert.FfnDownReferenceIdeal.sig) → Buf (Elt Ideal) ℓ) (g' : Dev Cert.FfnDownReferenceIdeal.nD → PrngReg), Pre_FfnDownIdeal m →
    (∀ c : Dev Cert.FfnDownIdeal.nD,
      m' ((c.tc : Thread Cert.FfnDownReferenceIdeal.nD Cert.FfnDownReferenceIdeal.τ).loc Cert.FfnDownReferenceIdeal.main_arg0) = m ((c.tc : Thread Cert.FfnDownIdeal.nD Cert.FfnDownIdeal.τ).loc Cert.FfnDownIdeal.main_arg0)
      ∧ m' ((c.tc : Thread Cert.FfnDownReferenceIdeal.nD Cert.FfnDownReferenceIdeal.τ).loc Cert.FfnDownReferenceIdeal.main_arg1) = m ((c.tc : Thread Cert.FfnDownIdeal.nD Cert.FfnDownIdeal.τ).loc Cert.FfnDownIdeal.main_arg1)
      ∧ m' ((c.tc : Thread Cert.FfnDownReferenceIdeal.nD Cert.FfnDownReferenceIdeal.τ).loc Cert.FfnDownReferenceIdeal.main_arg2) = m ((c.tc : Thread Cert.FfnDownIdeal.nD Cert.FfnDownIdeal.τ).loc Cert.FfnDownIdeal.main_arg2)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2))
      ∧ θ_run (Cert.FfnDownReferenceIdeal.defs (F := Ideal)) (onTc (τ := Cert.FfnDownReferenceIdeal.τ) (Cert.FfnDownReferenceIdeal.main (F := Ideal))) ⟨m', fun _ => 0, g'⟩ (fun r => ∀ c : Dev Cert.FfnDownReferenceIdeal.nD,
          r.2.mem ((c.tc : Thread Cert.FfnDownReferenceIdeal.nD Cert.FfnDownReferenceIdeal.τ).loc Cert.FfnDownReferenceIdeal.main_v3) = v0 c
          ∧ r.2.mem ((c.tc : Thread Cert.FfnDownReferenceIdeal.nD Cert.FfnDownReferenceIdeal.τ).loc Cert.FfnDownReferenceIdeal.main_arg0) = m' ((c.tc : Thread Cert.FfnDownReferenceIdeal.nD Cert.FfnDownReferenceIdeal.τ).loc Cert.FfnDownReferenceIdeal.main_arg0)
          ∧ r.2.mem ((c.tc : Thread Cert.FfnDownReferenceIdeal.nD Cert.FfnDownReferenceIdeal.τ).loc Cert.FfnDownReferenceIdeal.main_arg1) = m' ((c.tc : Thread Cert.FfnDownReferenceIdeal.nD Cert.FfnDownReferenceIdeal.τ).loc Cert.FfnDownReferenceIdeal.main_arg1)
          ∧ r.2.mem ((c.tc : Thread Cert.FfnDownReferenceIdeal.nD Cert.FfnDownReferenceIdeal.τ).loc Cert.FfnDownReferenceIdeal.main_arg2) = m' ((c.tc : Thread Cert.FfnDownReferenceIdeal.nD Cert.FfnDownReferenceIdeal.τ).loc Cert.FfnDownReferenceIdeal.main_arg2))

def preserves_ProjOut_ProjOutIdeal : Prop :=
  True

def algebraic_ProjOutIdeal_ProjOutReferenceIdeal [hProjOutIdeal : Cert.ProjOutIdeal.Facts] [hProjOutReferenceIdeal : Cert.ProjOutReferenceIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutReferenceIdeal.nD Cert.ProjOutReferenceIdeal.τ Cert.ProjOutReferenceIdeal.sig) → Buf (Elt Ideal) ℓ) (g' : Dev Cert.ProjOutReferenceIdeal.nD → PrngReg), Pre_ProjOutIdeal m →
    (∀ c : Dev Cert.ProjOutIdeal.nD,
      m' ((c.tc : Thread Cert.ProjOutReferenceIdeal.nD Cert.ProjOutReferenceIdeal.τ).loc Cert.ProjOutReferenceIdeal.main_arg0) = m ((c.tc : Thread Cert.ProjOutIdeal.nD Cert.ProjOutIdeal.τ).loc Cert.ProjOutIdeal.main_arg0)
      ∧ m' ((c.tc : Thread Cert.ProjOutReferenceIdeal.nD Cert.ProjOutReferenceIdeal.τ).loc Cert.ProjOutReferenceIdeal.main_arg1) = m ((c.tc : Thread Cert.ProjOutIdeal.nD Cert.ProjOutIdeal.τ).loc Cert.ProjOutIdeal.main_arg1)
      ∧ m' ((c.tc : Thread Cert.ProjOutReferenceIdeal.nD Cert.ProjOutReferenceIdeal.τ).loc Cert.ProjOutReferenceIdeal.main_arg2) = m ((c.tc : Thread Cert.ProjOutIdeal.nD Cert.ProjOutIdeal.τ).loc Cert.ProjOutIdeal.main_arg2)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2))
      ∧ θ_run (Cert.ProjOutReferenceIdeal.defs (F := Ideal)) (onTc (τ := Cert.ProjOutReferenceIdeal.τ) (Cert.ProjOutReferenceIdeal.main (F := Ideal))) ⟨m', fun _ => 0, g'⟩ (fun r => ∀ c : Dev Cert.ProjOutReferenceIdeal.nD,
          r.2.mem ((c.tc : Thread Cert.ProjOutReferenceIdeal.nD Cert.ProjOutReferenceIdeal.τ).loc Cert.ProjOutReferenceIdeal.main_v3) = v0 c
          ∧ r.2.mem ((c.tc : Thread Cert.ProjOutReferenceIdeal.nD Cert.ProjOutReferenceIdeal.τ).loc Cert.ProjOutReferenceIdeal.main_arg0) = m' ((c.tc : Thread Cert.ProjOutReferenceIdeal.nD Cert.ProjOutReferenceIdeal.τ).loc Cert.ProjOutReferenceIdeal.main_arg0)
          ∧ r.2.mem ((c.tc : Thread Cert.ProjOutReferenceIdeal.nD Cert.ProjOutReferenceIdeal.τ).loc Cert.ProjOutReferenceIdeal.main_arg1) = m' ((c.tc : Thread Cert.ProjOutReferenceIdeal.nD Cert.ProjOutReferenceIdeal.τ).loc Cert.ProjOutReferenceIdeal.main_arg1)
          ∧ r.2.mem ((c.tc : Thread Cert.ProjOutReferenceIdeal.nD Cert.ProjOutReferenceIdeal.τ).loc Cert.ProjOutReferenceIdeal.main_arg2) = m' ((c.tc : Thread Cert.ProjOutReferenceIdeal.nD Cert.ProjOutReferenceIdeal.τ).loc Cert.ProjOutReferenceIdeal.main_arg2))

def preserves_AttnQ_AttnQIdeal : Prop :=
  True

def algebraic_AttnQIdeal_AttnQReferenceIdeal [hAttnQIdeal : Cert.AttnQIdeal.Facts] [hAttnQReferenceIdeal : Cert.AttnQReferenceIdeal.Facts] : Prop :=
  ∀ (m : (ℓ : Loc Cert.AttnQIdeal.nD Cert.AttnQIdeal.τ Cert.AttnQIdeal.sig) → Buf (Elt Ideal) ℓ) (g : Dev Cert.AttnQIdeal.nD → PrngReg)
    (m' : (ℓ : Loc Cert.AttnQReferenceIdeal.nD Cert.AttnQReferenceIdeal.τ Cert.AttnQReferenceIdeal.sig) → Buf (Elt Ideal) ℓ) (g' : Dev Cert.AttnQReferenceIdeal.nD → PrngReg), Pre_AttnQIdeal m →
    (∀ c : Dev Cert.AttnQIdeal.nD,
      m' ((c.tc : Thread Cert.AttnQReferenceIdeal.nD Cert.AttnQReferenceIdeal.τ).loc Cert.AttnQReferenceIdeal.main_arg0) = m ((c.tc : Thread Cert.AttnQIdeal.nD Cert.AttnQIdeal.τ).loc Cert.AttnQIdeal.main_arg0)
      ∧ m' ((c.tc : Thread Cert.AttnQReferenceIdeal.nD Cert.AttnQReferenceIdeal.τ).loc Cert.AttnQReferenceIdeal.main_arg1) = m ((c.tc : Thread Cert.AttnQIdeal.nD Cert.AttnQIdeal.τ).loc Cert.AttnQIdeal.main_arg1)) →
    ∃ (v0 : (c : Dev Cert.AttnQIdeal.nD) → Buf (Elt Ideal) ((c.tc : Thread Cert.AttnQIdeal.nD Cert.AttnQIdeal.τ).loc Cert.AttnQIdeal.main_v0)),
      θ_run (Cert.AttnQIdeal.defs (F := Ideal)) (onTc (τ := Cert.AttnQIdeal.τ) (Cert.AttnQIdeal.main (F := Ideal))) ⟨m, fun _ => 0, g⟩ (fun r => ∀ c : Dev Cert.AttnQIdeal.nD,
          r.2.mem ((c.tc : Thread Cert.AttnQIdeal.nD Cert.AttnQIdeal.τ).loc Cert.AttnQIdeal.main_v0) = v0 c
          ∧ r.2.mem ((c.tc : Thread Cert.AttnQIdeal.nD Cert.AttnQIdeal.τ).loc Cert.AttnQIdeal.main_arg0) = m ((c.tc : Thread Cert.AttnQIdeal.nD Cert.AttnQIdeal.τ).loc Cert.AttnQIdeal.main_arg0)
          ∧ r.2.mem ((c.tc : Thread Cert.AttnQIdeal.nD Cert.AttnQIdeal.τ).loc Cert.AttnQIdeal.main_arg1) = m ((c.tc : Thread Cert.AttnQIdeal.nD Cert.AttnQIdeal.τ).loc Cert.AttnQIdeal.main_arg1))
      ∧ θ_run (Cert.AttnQReferenceIdeal.defs (F := Ideal)) (onTc (τ := Cert.AttnQReferenceIdeal.τ) (Cert.AttnQReferenceIdeal.main (F := Ideal))) ⟨m', fun _ => 0, g'⟩ (fun r => ∀ c : Dev Cert.AttnQReferenceIdeal.nD,
          r.2.mem ((c.tc : Thread Cert.AttnQReferenceIdeal.nD Cert.AttnQReferenceIdeal.τ).loc Cert.AttnQReferenceIdeal.main_v3) = v0 c
          ∧ r.2.mem ((c.tc : Thread Cert.AttnQReferenceIdeal.nD Cert.AttnQReferenceIdeal.τ).loc Cert.AttnQReferenceIdeal.main_arg0) = m' ((c.tc : Thread Cert.AttnQReferenceIdeal.nD Cert.AttnQReferenceIdeal.τ).loc Cert.AttnQReferenceIdeal.main_arg0)
          ∧ r.2.mem ((c.tc : Thread Cert.AttnQReferenceIdeal.nD Cert.AttnQReferenceIdeal.τ).loc Cert.AttnQReferenceIdeal.main_arg1) = m' ((c.tc : Thread Cert.AttnQReferenceIdeal.nD Cert.AttnQReferenceIdeal.τ).loc Cert.AttnQReferenceIdeal.main_arg1))

def preserves_AttnK_AttnKIdeal : Prop :=
  True

def algebraic_AttnKIdeal_AttnKReferenceIdeal [hAttnKIdeal : Cert.AttnKIdeal.Facts] [hAttnKReferenceIdeal : Cert.AttnKReferenceIdeal.Facts] : Prop :=
  ∀ (m : (ℓ : Loc Cert.AttnKIdeal.nD Cert.AttnKIdeal.τ Cert.AttnKIdeal.sig) → Buf (Elt Ideal) ℓ) (g : Dev Cert.AttnKIdeal.nD → PrngReg)
    (m' : (ℓ : Loc Cert.AttnKReferenceIdeal.nD Cert.AttnKReferenceIdeal.τ Cert.AttnKReferenceIdeal.sig) → Buf (Elt Ideal) ℓ) (g' : Dev Cert.AttnKReferenceIdeal.nD → PrngReg), Pre_AttnKIdeal m →
    (∀ c : Dev Cert.AttnKIdeal.nD,
      m' ((c.tc : Thread Cert.AttnKReferenceIdeal.nD Cert.AttnKReferenceIdeal.τ).loc Cert.AttnKReferenceIdeal.main_arg0) = m ((c.tc : Thread Cert.AttnKIdeal.nD Cert.AttnKIdeal.τ).loc Cert.AttnKIdeal.main_arg0)
      ∧ m' ((c.tc : Thread Cert.AttnKReferenceIdeal.nD Cert.AttnKReferenceIdeal.τ).loc Cert.AttnKReferenceIdeal.main_arg1) = m ((c.tc : Thread Cert.AttnKIdeal.nD Cert.AttnKIdeal.τ).loc Cert.AttnKIdeal.main_arg1)) →
    ∃ (v0 : (c : Dev Cert.AttnKIdeal.nD) → Buf (Elt Ideal) ((c.tc : Thread Cert.AttnKIdeal.nD Cert.AttnKIdeal.τ).loc Cert.AttnKIdeal.main_v0)),
      θ_run (Cert.AttnKIdeal.defs (F := Ideal)) (onTc (τ := Cert.AttnKIdeal.τ) (Cert.AttnKIdeal.main (F := Ideal))) ⟨m, fun _ => 0, g⟩ (fun r => ∀ c : Dev Cert.AttnKIdeal.nD,
          r.2.mem ((c.tc : Thread Cert.AttnKIdeal.nD Cert.AttnKIdeal.τ).loc Cert.AttnKIdeal.main_v0) = v0 c
          ∧ r.2.mem ((c.tc : Thread Cert.AttnKIdeal.nD Cert.AttnKIdeal.τ).loc Cert.AttnKIdeal.main_arg0) = m ((c.tc : Thread Cert.AttnKIdeal.nD Cert.AttnKIdeal.τ).loc Cert.AttnKIdeal.main_arg0)
          ∧ r.2.mem ((c.tc : Thread Cert.AttnKIdeal.nD Cert.AttnKIdeal.τ).loc Cert.AttnKIdeal.main_arg1) = m ((c.tc : Thread Cert.AttnKIdeal.nD Cert.AttnKIdeal.τ).loc Cert.AttnKIdeal.main_arg1))
      ∧ θ_run (Cert.AttnKReferenceIdeal.defs (F := Ideal)) (onTc (τ := Cert.AttnKReferenceIdeal.τ) (Cert.AttnKReferenceIdeal.main (F := Ideal))) ⟨m', fun _ => 0, g'⟩ (fun r => ∀ c : Dev Cert.AttnKReferenceIdeal.nD,
          r.2.mem ((c.tc : Thread Cert.AttnKReferenceIdeal.nD Cert.AttnKReferenceIdeal.τ).loc Cert.AttnKReferenceIdeal.main_v3) = v0 c
          ∧ r.2.mem ((c.tc : Thread Cert.AttnKReferenceIdeal.nD Cert.AttnKReferenceIdeal.τ).loc Cert.AttnKReferenceIdeal.main_arg0) = m' ((c.tc : Thread Cert.AttnKReferenceIdeal.nD Cert.AttnKReferenceIdeal.τ).loc Cert.AttnKReferenceIdeal.main_arg0)
          ∧ r.2.mem ((c.tc : Thread Cert.AttnKReferenceIdeal.nD Cert.AttnKReferenceIdeal.τ).loc Cert.AttnKReferenceIdeal.main_arg1) = m' ((c.tc : Thread Cert.AttnKReferenceIdeal.nD Cert.AttnKReferenceIdeal.τ).loc Cert.AttnKReferenceIdeal.main_arg1))

def preserves_NormFwd_NormFwdIdeal : Prop :=
  True

def algebraic_NormFwdIdeal_NormFwdReferenceIdeal [hNormFwdIdeal : Cert.NormFwdIdeal.Facts] [hNormFwdReferenceIdeal : Cert.NormFwdReferenceIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdReferenceIdeal.nD Cert.NormFwdReferenceIdeal.τ Cert.NormFwdReferenceIdeal.sig) → Buf (Elt Ideal) ℓ) (g' : Dev Cert.NormFwdReferenceIdeal.nD → PrngReg), Pre_NormFwdIdeal m →
    (∀ c : Dev Cert.NormFwdIdeal.nD,
      m' ((c.tc : Thread Cert.NormFwdReferenceIdeal.nD Cert.NormFwdReferenceIdeal.τ).loc Cert.NormFwdReferenceIdeal.main_arg0) = m ((c.tc : Thread Cert.NormFwdIdeal.nD Cert.NormFwdIdeal.τ).loc Cert.NormFwdIdeal.main_arg0)
      ∧ m' ((c.tc : Thread Cert.NormFwdReferenceIdeal.nD Cert.NormFwdReferenceIdeal.τ).loc Cert.NormFwdReferenceIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdReferenceIdeal.defs (F := Ideal)) (onTc (τ := Cert.NormFwdReferenceIdeal.τ) (Cert.NormFwdReferenceIdeal.main (F := Ideal))) ⟨m', fun _ => 0, g'⟩ (fun r => ∀ c : Dev Cert.NormFwdReferenceIdeal.nD,
          r.2.mem ((c.tc : Thread Cert.NormFwdReferenceIdeal.nD Cert.NormFwdReferenceIdeal.τ).loc Cert.NormFwdReferenceIdeal.main_v15) = v0 c
          ∧ r.2.mem ((c.tc : Thread Cert.NormFwdReferenceIdeal.nD Cert.NormFwdReferenceIdeal.τ).loc Cert.NormFwdReferenceIdeal.main_arg0) = m' ((c.tc : Thread Cert.NormFwdReferenceIdeal.nD Cert.NormFwdReferenceIdeal.τ).loc Cert.NormFwdReferenceIdeal.main_arg0)
          ∧ r.2.mem ((c.tc : Thread Cert.NormFwdReferenceIdeal.nD Cert.NormFwdReferenceIdeal.τ).loc Cert.NormFwdReferenceIdeal.main_arg1) = m' ((c.tc : Thread Cert.NormFwdReferenceIdeal.nD Cert.NormFwdReferenceIdeal.τ).loc Cert.NormFwdReferenceIdeal.main_arg1))

def preserves_NormMem_NormMemIdeal : Prop :=
  True

def algebraic_NormMemIdeal_NormMemReferenceIdeal [hNormMemIdeal : Cert.NormMemIdeal.Facts] [hNormMemReferenceIdeal : Cert.NormMemReferenceIdeal.Facts] : Prop :=
  ∀ (m : (ℓ : Loc Cert.NormMemIdeal.nD Cert.NormMemIdeal.τ Cert.NormMemIdeal.sig) → Buf (Elt Ideal) ℓ) (g : Dev Cert.NormMemIdeal.nD → PrngReg)
    (m' : (ℓ : Loc Cert.NormMemReferenceIdeal.nD Cert.NormMemReferenceIdeal.τ Cert.NormMemReferenceIdeal.sig) → Buf (Elt Ideal) ℓ) (g' : Dev Cert.NormMemReferenceIdeal.nD → PrngReg), Pre_NormMemIdeal m →
    (∀ c : Dev Cert.NormMemIdeal.nD,
      m' ((c.tc : Thread Cert.NormMemReferenceIdeal.nD Cert.NormMemReferenceIdeal.τ).loc Cert.NormMemReferenceIdeal.main_arg0) = m ((c.tc : Thread Cert.NormMemIdeal.nD Cert.NormMemIdeal.τ).loc Cert.NormMemIdeal.main_arg0)
      ∧ m' ((c.tc : Thread Cert.NormMemReferenceIdeal.nD Cert.NormMemReferenceIdeal.τ).loc Cert.NormMemReferenceIdeal.main_arg1) = m ((c.tc : Thread Cert.NormMemIdeal.nD Cert.NormMemIdeal.τ).loc Cert.NormMemIdeal.main_arg1)) →
    ∃ (v0 : (c : Dev Cert.NormMemIdeal.nD) → Buf (Elt Ideal) ((c.tc : Thread Cert.NormMemIdeal.nD Cert.NormMemIdeal.τ).loc Cert.NormMemIdeal.main_v0)),
      θ_run (Cert.NormMemIdeal.defs (F := Ideal)) (onTc (τ := Cert.NormMemIdeal.τ) (Cert.NormMemIdeal.main (F := Ideal))) ⟨m, fun _ => 0, g⟩ (fun r => ∀ c : Dev Cert.NormMemIdeal.nD,
          r.2.mem ((c.tc : Thread Cert.NormMemIdeal.nD Cert.NormMemIdeal.τ).loc Cert.NormMemIdeal.main_v0) = v0 c
          ∧ r.2.mem ((c.tc : Thread Cert.NormMemIdeal.nD Cert.NormMemIdeal.τ).loc Cert.NormMemIdeal.main_arg0) = m ((c.tc : Thread Cert.NormMemIdeal.nD Cert.NormMemIdeal.τ).loc Cert.NormMemIdeal.main_arg0)
          ∧ r.2.mem ((c.tc : Thread Cert.NormMemIdeal.nD Cert.NormMemIdeal.τ).loc Cert.NormMemIdeal.main_arg1) = m ((c.tc : Thread Cert.NormMemIdeal.nD Cert.NormMemIdeal.τ).loc Cert.NormMemIdeal.main_arg1))
      ∧ θ_run (Cert.NormMemReferenceIdeal.defs (F := Ideal)) (onTc (τ := Cert.NormMemReferenceIdeal.τ) (Cert.NormMemReferenceIdeal.main (F := Ideal))) ⟨m', fun _ => 0, g'⟩ (fun r => ∀ c : Dev Cert.NormMemReferenceIdeal.nD,
          r.2.mem ((c.tc : Thread Cert.NormMemReferenceIdeal.nD Cert.NormMemReferenceIdeal.τ).loc Cert.NormMemReferenceIdeal.main_v15) = v0 c
          ∧ r.2.mem ((c.tc : Thread Cert.NormMemReferenceIdeal.nD Cert.NormMemReferenceIdeal.τ).loc Cert.NormMemReferenceIdeal.main_arg0) = m' ((c.tc : Thread Cert.NormMemReferenceIdeal.nD Cert.NormMemReferenceIdeal.τ).loc Cert.NormMemReferenceIdeal.main_arg0)
          ∧ r.2.mem ((c.tc : Thread Cert.NormMemReferenceIdeal.nD Cert.NormMemReferenceIdeal.τ).loc Cert.NormMemReferenceIdeal.main_arg1) = m' ((c.tc : Thread Cert.NormMemReferenceIdeal.nD Cert.NormMemReferenceIdeal.τ).loc Cert.NormMemReferenceIdeal.main_arg1))

def preserves_NormBwd_NormBwdIdeal : Prop :=
  True

def algebraic_NormBwdIdeal_NormBwdReferenceIdeal [hNormBwdIdeal : Cert.NormBwdIdeal.Facts] [hNormBwdReferenceIdeal : Cert.NormBwdReferenceIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdReferenceIdeal.nD Cert.NormBwdReferenceIdeal.τ Cert.NormBwdReferenceIdeal.sig) → Buf (Elt Ideal) ℓ) (g' : Dev Cert.NormBwdReferenceIdeal.nD → PrngReg), Pre_NormBwdIdeal m →
    (∀ c : Dev Cert.NormBwdIdeal.nD,
      m' ((c.tc : Thread Cert.NormBwdReferenceIdeal.nD Cert.NormBwdReferenceIdeal.τ).loc Cert.NormBwdReferenceIdeal.main_arg0) = m ((c.tc : Thread Cert.NormBwdIdeal.nD Cert.NormBwdIdeal.τ).loc Cert.NormBwdIdeal.main_arg0)
      ∧ m' ((c.tc : Thread Cert.NormBwdReferenceIdeal.nD Cert.NormBwdReferenceIdeal.τ).loc Cert.NormBwdReferenceIdeal.main_arg1) = m ((c.tc : Thread Cert.NormBwdIdeal.nD Cert.NormBwdIdeal.τ).loc Cert.NormBwdIdeal.main_arg1)
      ∧ m' ((c.tc : Thread Cert.NormBwdReferenceIdeal.nD Cert.NormBwdReferenceIdeal.τ).loc Cert.NormBwdReferenceIdeal.main_arg2) = m ((c.tc : Thread Cert.NormBwdIdeal.nD Cert.NormBwdIdeal.τ).loc Cert.NormBwdIdeal.main_arg2)
      ∧ m' ((c.tc : Thread Cert.NormBwdReferenceIdeal.nD Cert.NormBwdReferenceIdeal.τ).loc Cert.NormBwdReferenceIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdReferenceIdeal.defs (F := Ideal)) (onTc (τ := Cert.NormBwdReferenceIdeal.τ) (Cert.NormBwdReferenceIdeal.main (F := Ideal))) ⟨m', fun _ => 0, g'⟩ (fun r => ∀ c : Dev Cert.NormBwdReferenceIdeal.nD,
          r.2.mem ((c.tc : Thread Cert.NormBwdReferenceIdeal.nD Cert.NormBwdReferenceIdeal.τ).loc Cert.NormBwdReferenceIdeal.main_v44) = v0 c
          ∧ r.2.mem ((c.tc : Thread Cert.NormBwdReferenceIdeal.nD Cert.NormBwdReferenceIdeal.τ).loc Cert.NormBwdReferenceIdeal.main_v46) = v1 c
          ∧ r.2.mem ((c.tc : Thread Cert.NormBwdReferenceIdeal.nD Cert.NormBwdReferenceIdeal.τ).loc Cert.NormBwdReferenceIdeal.main_v28) = v2 c
          ∧ r.2.mem ((c.tc : Thread Cert.NormBwdReferenceIdeal.nD Cert.NormBwdReferenceIdeal.τ).loc Cert.NormBwdReferenceIdeal.main_arg0) = m' ((c.tc : Thread Cert.NormBwdReferenceIdeal.nD Cert.NormBwdReferenceIdeal.τ).loc Cert.NormBwdReferenceIdeal.main_arg0)
          ∧ r.2.mem ((c.tc : Thread Cert.NormBwdReferenceIdeal.nD Cert.NormBwdReferenceIdeal.τ).loc Cert.NormBwdReferenceIdeal.main_arg1) = m' ((c.tc : Thread Cert.NormBwdReferenceIdeal.nD Cert.NormBwdReferenceIdeal.τ).loc Cert.NormBwdReferenceIdeal.main_arg1)
          ∧ r.2.mem ((c.tc : Thread Cert.NormBwdReferenceIdeal.nD Cert.NormBwdReferenceIdeal.τ).loc Cert.NormBwdReferenceIdeal.main_arg2) = m' ((c.tc : Thread Cert.NormBwdReferenceIdeal.nD Cert.NormBwdReferenceIdeal.τ).loc Cert.NormBwdReferenceIdeal.main_arg2)
          ∧ r.2.mem ((c.tc : Thread Cert.NormBwdReferenceIdeal.nD Cert.NormBwdReferenceIdeal.τ).loc Cert.NormBwdReferenceIdeal.main_arg3) = m' ((c.tc : Thread Cert.NormBwdReferenceIdeal.nD Cert.NormBwdReferenceIdeal.τ).loc Cert.NormBwdReferenceIdeal.main_arg3))

def preserves_NormMemBwd_NormMemBwdIdeal : Prop :=
  True

def algebraic_NormMemBwdIdeal_NormMemBwdReferenceIdeal [hNormMemBwdIdeal : Cert.NormMemBwdIdeal.Facts] [hNormMemBwdReferenceIdeal : Cert.NormMemBwdReferenceIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdReferenceIdeal.nD Cert.NormMemBwdReferenceIdeal.τ Cert.NormMemBwdReferenceIdeal.sig) → Buf (Elt Ideal) ℓ) (g' : Dev Cert.NormMemBwdReferenceIdeal.nD → PrngReg), Pre_NormMemBwdIdeal m →
    (∀ c : Dev Cert.NormMemBwdIdeal.nD,
      m' ((c.tc : Thread Cert.NormMemBwdReferenceIdeal.nD Cert.NormMemBwdReferenceIdeal.τ).loc Cert.NormMemBwdReferenceIdeal.main_arg0) = m ((c.tc : Thread Cert.NormMemBwdIdeal.nD Cert.NormMemBwdIdeal.τ).loc Cert.NormMemBwdIdeal.main_arg0)
      ∧ m' ((c.tc : Thread Cert.NormMemBwdReferenceIdeal.nD Cert.NormMemBwdReferenceIdeal.τ).loc Cert.NormMemBwdReferenceIdeal.main_arg1) = m ((c.tc : Thread Cert.NormMemBwdIdeal.nD Cert.NormMemBwdIdeal.τ).loc Cert.NormMemBwdIdeal.main_arg1)
      ∧ m' ((c.tc : Thread Cert.NormMemBwdReferenceIdeal.nD Cert.NormMemBwdReferenceIdeal.τ).loc Cert.NormMemBwdReferenceIdeal.main_arg2) = m ((c.tc : Thread Cert.NormMemBwdIdeal.nD Cert.NormMemBwdIdeal.τ).loc Cert.NormMemBwdIdeal.main_arg2)) →
    ∃ (v0 : (c : Dev Cert.NormMemBwdIdeal.nD) → Buf (Elt Ideal) ((c.tc : Thread Cert.NormMemBwdIdeal.nD Cert.NormMemBwdIdeal.τ).loc Cert.NormMemBwdIdeal.main_v0_0)) (v1 : (c : Dev Cert.NormMemBwdIdeal.nD) → Buf (Elt Ideal) ((c.tc : Thread Cert.NormMemBwdIdeal.nD Cert.NormMemBwdIdeal.τ).loc Cert.NormMemBwdIdeal.main_v0_1)) (v2 : (c : Dev Cert.NormMemBwdIdeal.nD) → Buf (Elt Ideal) ((c.tc : Thread Cert.NormMemBwdIdeal.nD Cert.NormMemBwdIdeal.τ).loc Cert.NormMemBwdIdeal.main_v0_2)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0_0) = v0 c
          ∧ r.2.mem ((c.tc : Thread Cert.NormMemBwdIdeal.nD Cert.NormMemBwdIdeal.τ).loc Cert.NormMemBwdIdeal.main_v0_1) = v1 c
          ∧ r.2.mem ((c.tc : Thread Cert.NormMemBwdIdeal.nD Cert.NormMemBwdIdeal.τ).loc Cert.NormMemBwdIdeal.main_v0_2) = v2 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ θ_run (Cert.NormMemBwdReferenceIdeal.defs (F := Ideal)) (onTc (τ := Cert.NormMemBwdReferenceIdeal.τ) (Cert.NormMemBwdReferenceIdeal.main (F := Ideal))) ⟨m', fun _ => 0, g'⟩ (fun r => ∀ c : Dev Cert.NormMemBwdReferenceIdeal.nD,
          r.2.mem ((c.tc : Thread Cert.NormMemBwdReferenceIdeal.nD Cert.NormMemBwdReferenceIdeal.τ).loc Cert.NormMemBwdReferenceIdeal.main_v42) = v0 c
          ∧ r.2.mem ((c.tc : Thread Cert.NormMemBwdReferenceIdeal.nD Cert.NormMemBwdReferenceIdeal.τ).loc Cert.NormMemBwdReferenceIdeal.main_v43) = v1 c
          ∧ r.2.mem ((c.tc : Thread Cert.NormMemBwdReferenceIdeal.nD Cert.NormMemBwdReferenceIdeal.τ).loc Cert.NormMemBwdReferenceIdeal.main_v27) = v2 c
          ∧ r.2.mem ((c.tc : Thread Cert.NormMemBwdReferenceIdeal.nD Cert.NormMemBwdReferenceIdeal.τ).loc Cert.NormMemBwdReferenceIdeal.main_arg0) = m' ((c.tc : Thread Cert.NormMemBwdReferenceIdeal.nD Cert.NormMemBwdReferenceIdeal.τ).loc Cert.NormMemBwdReferenceIdeal.main_arg0)
          ∧ r.2.mem ((c.tc : Thread Cert.NormMemBwdReferenceIdeal.nD Cert.NormMemBwdReferenceIdeal.τ).loc Cert.NormMemBwdReferenceIdeal.main_arg1) = m' ((c.tc : Thread Cert.NormMemBwdReferenceIdeal.nD Cert.NormMemBwdReferenceIdeal.τ).loc Cert.NormMemBwdReferenceIdeal.main_arg1)
          ∧ r.2.mem ((c.tc : Thread Cert.NormMemBwdReferenceIdeal.nD Cert.NormMemBwdReferenceIdeal.τ).loc Cert.NormMemBwdReferenceIdeal.main_arg2) = m' ((c.tc : Thread Cert.NormMemBwdReferenceIdeal.nD Cert.NormMemBwdReferenceIdeal.τ).loc Cert.NormMemBwdReferenceIdeal.main_arg2))

def preserves_LossBwd_LossBwdIdeal : Prop :=
  True

def algebraic_LossBwdIdeal_LossBwdReferenceIdeal [hLossBwdIdeal : Cert.LossBwdIdeal.Facts] [hLossBwdReferenceIdeal : Cert.LossBwdReferenceIdeal.Facts] : Prop :=
  ∀ (m : (ℓ : Loc Cert.LossBwdIdeal.nD Cert.LossBwdIdeal.τ Cert.LossBwdIdeal.sig) → Buf (Elt Ideal) ℓ) (g : Dev Cert.LossBwdIdeal.nD → PrngReg)
    (m' : (ℓ : Loc Cert.LossBwdReferenceIdeal.nD Cert.LossBwdReferenceIdeal.τ Cert.LossBwdReferenceIdeal.sig) → Buf (Elt Ideal) ℓ) (g' : Dev Cert.LossBwdReferenceIdeal.nD → PrngReg), Pre_LossBwdIdeal m →
    (∀ c : Dev Cert.LossBwdIdeal.nD,
      m' ((c.tc : Thread Cert.LossBwdReferenceIdeal.nD Cert.LossBwdReferenceIdeal.τ).loc Cert.LossBwdReferenceIdeal.main_arg0) = m ((c.tc : Thread Cert.LossBwdIdeal.nD Cert.LossBwdIdeal.τ).loc Cert.LossBwdIdeal.main_arg0)
      ∧ m' ((c.tc : Thread Cert.LossBwdReferenceIdeal.nD Cert.LossBwdReferenceIdeal.τ).loc Cert.LossBwdReferenceIdeal.main_arg1) = m ((c.tc : Thread Cert.LossBwdIdeal.nD Cert.LossBwdIdeal.τ).loc Cert.LossBwdIdeal.main_arg1)
      ∧ m' ((c.tc : Thread Cert.LossBwdReferenceIdeal.nD Cert.LossBwdReferenceIdeal.τ).loc Cert.LossBwdReferenceIdeal.main_arg2) = m ((c.tc : Thread Cert.LossBwdIdeal.nD Cert.LossBwdIdeal.τ).loc Cert.LossBwdIdeal.main_arg2)) →
    ∃ (v0 : (c : Dev Cert.LossBwdIdeal.nD) → Buf (Elt Ideal) ((c.tc : Thread Cert.LossBwdIdeal.nD Cert.LossBwdIdeal.τ).loc Cert.LossBwdIdeal.main_v0_0)) (v1 : (c : Dev Cert.LossBwdIdeal.nD) → Buf (Elt Ideal) ((c.tc : Thread Cert.LossBwdIdeal.nD Cert.LossBwdIdeal.τ).loc Cert.LossBwdIdeal.main_v0_1)) (v2 : (c : Dev Cert.LossBwdIdeal.nD) → Buf (Elt Ideal) ((c.tc : Thread Cert.LossBwdIdeal.nD Cert.LossBwdIdeal.τ).loc Cert.LossBwdIdeal.main_v0_2)) (v3 : (c : Dev Cert.LossBwdIdeal.nD) → Buf (Elt Ideal) ((c.tc : Thread Cert.LossBwdIdeal.nD Cert.LossBwdIdeal.τ).loc Cert.LossBwdIdeal.main_v0_3)),
      θ_run (Cert.LossBwdIdeal.defs (F := Ideal)) (onTc (τ := Cert.LossBwdIdeal.τ) (Cert.LossBwdIdeal.main (F := Ideal))) ⟨m, fun _ => 0, g⟩ (fun r => ∀ c : Dev Cert.LossBwdIdeal.nD,
          r.2.mem ((c.tc : Thread Cert.LossBwdIdeal.nD Cert.LossBwdIdeal.τ).loc Cert.LossBwdIdeal.main_v0_0) = v0 c
          ∧ r.2.mem ((c.tc : Thread Cert.LossBwdIdeal.nD Cert.LossBwdIdeal.τ).loc Cert.LossBwdIdeal.main_v0_1) = v1 c
          ∧ r.2.mem ((c.tc : Thread Cert.LossBwdIdeal.nD Cert.LossBwdIdeal.τ).loc Cert.LossBwdIdeal.main_v0_2) = v2 c
          ∧ r.2.mem ((c.tc : Thread Cert.LossBwdIdeal.nD Cert.LossBwdIdeal.τ).loc Cert.LossBwdIdeal.main_v0_3) = v3 c
          ∧ r.2.mem ((c.tc : Thread Cert.LossBwdIdeal.nD Cert.LossBwdIdeal.τ).loc Cert.LossBwdIdeal.main_arg0) = m ((c.tc : Thread Cert.LossBwdIdeal.nD Cert.LossBwdIdeal.τ).loc Cert.LossBwdIdeal.main_arg0)
          ∧ r.2.mem ((c.tc : Thread Cert.LossBwdIdeal.nD Cert.LossBwdIdeal.τ).loc Cert.LossBwdIdeal.main_arg1) = m ((c.tc : Thread Cert.LossBwdIdeal.nD Cert.LossBwdIdeal.τ).loc Cert.LossBwdIdeal.main_arg1)
          ∧ r.2.mem ((c.tc : Thread Cert.LossBwdIdeal.nD Cert.LossBwdIdeal.τ).loc Cert.LossBwdIdeal.main_arg2) = m ((c.tc : Thread Cert.LossBwdIdeal.nD Cert.LossBwdIdeal.τ).loc Cert.LossBwdIdeal.main_arg2))
      ∧ θ_run (Cert.LossBwdReferenceIdeal.defs (F := Ideal)) (onTc (τ := Cert.LossBwdReferenceIdeal.τ) (Cert.LossBwdReferenceIdeal.main (F := Ideal))) ⟨m', fun _ => 0, g'⟩ (fun r => ∀ c : Dev Cert.LossBwdReferenceIdeal.nD,
          r.2.mem ((c.tc : Thread Cert.LossBwdReferenceIdeal.nD Cert.LossBwdReferenceIdeal.τ).loc Cert.LossBwdReferenceIdeal.main_v57) = v0 c
          ∧ r.2.mem ((c.tc : Thread Cert.LossBwdReferenceIdeal.nD Cert.LossBwdReferenceIdeal.τ).loc Cert.LossBwdReferenceIdeal.main_v58) = v1 c
          ∧ r.2.mem ((c.tc : Thread Cert.LossBwdReferenceIdeal.nD Cert.LossBwdReferenceIdeal.τ).loc Cert.LossBwdReferenceIdeal.main_v42) = v2 c
          ∧ r.2.mem ((c.tc : Thread Cert.LossBwdReferenceIdeal.nD Cert.LossBwdReferenceIdeal.τ).loc Cert.LossBwdReferenceIdeal.main_v60) = v3 c
          ∧ r.2.mem ((c.tc : Thread Cert.LossBwdReferenceIdeal.nD Cert.LossBwdReferenceIdeal.τ).loc Cert.LossBwdReferenceIdeal.main_arg0) = m' ((c.tc : Thread Cert.LossBwdReferenceIdeal.nD Cert.LossBwdReferenceIdeal.τ).loc Cert.LossBwdReferenceIdeal.main_arg0)
          ∧ r.2.mem ((c.tc : Thread Cert.LossBwdReferenceIdeal.nD Cert.LossBwdReferenceIdeal.τ).loc Cert.LossBwdReferenceIdeal.main_arg1) = m' ((c.tc : Thread Cert.LossBwdReferenceIdeal.nD Cert.LossBwdReferenceIdeal.τ).loc Cert.LossBwdReferenceIdeal.main_arg1)
          ∧ r.2.mem ((c.tc : Thread Cert.LossBwdReferenceIdeal.nD Cert.LossBwdReferenceIdeal.τ).loc Cert.LossBwdReferenceIdeal.main_arg2) = m' ((c.tc : Thread Cert.LossBwdReferenceIdeal.nD Cert.LossBwdReferenceIdeal.τ).loc Cert.LossBwdReferenceIdeal.main_arg2))

def preserves_FfnFwd_FfnFwdIdeal : Prop :=
  True

def algebraic_FfnFwdIdeal_FfnFwdReferenceIdeal [hFfnFwdIdeal : Cert.FfnFwdIdeal.Facts] [hFfnFwdReferenceIdeal : Cert.FfnFwdReferenceIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdReferenceIdeal.nD Cert.FfnFwdReferenceIdeal.τ Cert.FfnFwdReferenceIdeal.sig) → Buf (Elt Ideal) ℓ) (g' : Dev Cert.FfnFwdReferenceIdeal.nD → PrngReg), Pre_FfnFwdIdeal m →
    (∀ c : Dev Cert.FfnFwdIdeal.nD,
      m' ((c.tc : Thread Cert.FfnFwdReferenceIdeal.nD Cert.FfnFwdReferenceIdeal.τ).loc Cert.FfnFwdReferenceIdeal.main_arg0) = m ((c.tc : Thread Cert.FfnFwdIdeal.nD Cert.FfnFwdIdeal.τ).loc Cert.FfnFwdIdeal.main_arg0)
      ∧ m' ((c.tc : Thread Cert.FfnFwdReferenceIdeal.nD Cert.FfnFwdReferenceIdeal.τ).loc Cert.FfnFwdReferenceIdeal.main_arg1) = m ((c.tc : Thread Cert.FfnFwdIdeal.nD Cert.FfnFwdIdeal.τ).loc Cert.FfnFwdIdeal.main_arg1)
      ∧ m' ((c.tc : Thread Cert.FfnFwdReferenceIdeal.nD Cert.FfnFwdReferenceIdeal.τ).loc Cert.FfnFwdReferenceIdeal.main_arg2) = m ((c.tc : Thread Cert.FfnFwdIdeal.nD Cert.FfnFwdIdeal.τ).loc Cert.FfnFwdIdeal.main_arg2)
      ∧ m' ((c.tc : Thread Cert.FfnFwdReferenceIdeal.nD Cert.FfnFwdReferenceIdeal.τ).loc Cert.FfnFwdReferenceIdeal.main_arg3) = m ((c.tc : Thread Cert.FfnFwdIdeal.nD Cert.FfnFwdIdeal.τ).loc Cert.FfnFwdIdeal.main_arg3)) →
    ∃ (v0 : (c : Dev Cert.FfnFwdIdeal.nD) → Buf (Elt Ideal) ((c.tc : Thread Cert.FfnFwdIdeal.nD Cert.FfnFwdIdeal.τ).loc Cert.FfnFwdIdeal.main_v0_0)) (v1 : (c : Dev Cert.FfnFwdIdeal.nD) → Buf (Elt Ideal) ((c.tc : Thread Cert.FfnFwdIdeal.nD Cert.FfnFwdIdeal.τ).loc Cert.FfnFwdIdeal.main_v0_1)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v0_0) = v0 c
          ∧ r.2.mem ((c.tc : Thread Cert.FfnFwdIdeal.nD Cert.FfnFwdIdeal.τ).loc Cert.FfnFwdIdeal.main_v0_1) = v1 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3))
      ∧ θ_run (Cert.FfnFwdReferenceIdeal.defs (F := Ideal)) (onTc (τ := Cert.FfnFwdReferenceIdeal.τ) (Cert.FfnFwdReferenceIdeal.main (F := Ideal))) ⟨m', fun _ => 0, g'⟩ (fun r => ∀ c : Dev Cert.FfnFwdReferenceIdeal.nD,
          r.2.mem ((c.tc : Thread Cert.FfnFwdReferenceIdeal.nD Cert.FfnFwdReferenceIdeal.τ).loc Cert.FfnFwdReferenceIdeal.main_v29) = v0 c
          ∧ r.2.mem ((c.tc : Thread Cert.FfnFwdReferenceIdeal.nD Cert.FfnFwdReferenceIdeal.τ).loc Cert.FfnFwdReferenceIdeal.main_v30) = v1 c
          ∧ r.2.mem ((c.tc : Thread Cert.FfnFwdReferenceIdeal.nD Cert.FfnFwdReferenceIdeal.τ).loc Cert.FfnFwdReferenceIdeal.main_arg0) = m' ((c.tc : Thread Cert.FfnFwdReferenceIdeal.nD Cert.FfnFwdReferenceIdeal.τ).loc Cert.FfnFwdReferenceIdeal.main_arg0)
          ∧ r.2.mem ((c.tc : Thread Cert.FfnFwdReferenceIdeal.nD Cert.FfnFwdReferenceIdeal.τ).loc Cert.FfnFwdReferenceIdeal.main_arg1) = m' ((c.tc : Thread Cert.FfnFwdReferenceIdeal.nD Cert.FfnFwdReferenceIdeal.τ).loc Cert.FfnFwdReferenceIdeal.main_arg1)
          ∧ r.2.mem ((c.tc : Thread Cert.FfnFwdReferenceIdeal.nD Cert.FfnFwdReferenceIdeal.τ).loc Cert.FfnFwdReferenceIdeal.main_arg2) = m' ((c.tc : Thread Cert.FfnFwdReferenceIdeal.nD Cert.FfnFwdReferenceIdeal.τ).loc Cert.FfnFwdReferenceIdeal.main_arg2)
          ∧ r.2.mem ((c.tc : Thread Cert.FfnFwdReferenceIdeal.nD Cert.FfnFwdReferenceIdeal.τ).loc Cert.FfnFwdReferenceIdeal.main_arg3) = m' ((c.tc : Thread Cert.FfnFwdReferenceIdeal.nD Cert.FfnFwdReferenceIdeal.τ).loc Cert.FfnFwdReferenceIdeal.main_arg3))

def preserves_FfnBwd_FfnBwdIdeal : Prop :=
  True

def algebraic_FfnBwdIdeal_FfnBwdReferenceIdeal_pre_ffn_bwd_finite [hFfnBwdIdeal : Cert.FfnBwdIdeal.Facts] [hFfnBwdReferenceIdeal : Cert.FfnBwdReferenceIdeal.Facts] [hPre_ffn_bwd_finite : Cert.Pre_ffn_bwd_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnBwdReferenceIdeal.nD Cert.FfnBwdReferenceIdeal.τ Cert.FfnBwdReferenceIdeal.sig) → Buf (Elt Ideal) ℓ) (g' : Dev Cert.FfnBwdReferenceIdeal.nD → PrngReg), Pre_FfnBwdIdeal_ffn_bwd_finite m →
    (∀ c : Dev Cert.FfnBwdIdeal.nD,
      m' ((c.tc : Thread Cert.FfnBwdReferenceIdeal.nD Cert.FfnBwdReferenceIdeal.τ).loc Cert.FfnBwdReferenceIdeal.main_arg0) = m ((c.tc : Thread Cert.FfnBwdIdeal.nD Cert.FfnBwdIdeal.τ).loc Cert.FfnBwdIdeal.main_arg0)
      ∧ m' ((c.tc : Thread Cert.FfnBwdReferenceIdeal.nD Cert.FfnBwdReferenceIdeal.τ).loc Cert.FfnBwdReferenceIdeal.main_arg1) = m ((c.tc : Thread Cert.FfnBwdIdeal.nD Cert.FfnBwdIdeal.τ).loc Cert.FfnBwdIdeal.main_arg1)
      ∧ m' ((c.tc : Thread Cert.FfnBwdReferenceIdeal.nD Cert.FfnBwdReferenceIdeal.τ).loc Cert.FfnBwdReferenceIdeal.main_arg2) = m ((c.tc : Thread Cert.FfnBwdIdeal.nD Cert.FfnBwdIdeal.τ).loc Cert.FfnBwdIdeal.main_arg2)
      ∧ m' ((c.tc : Thread Cert.FfnBwdReferenceIdeal.nD Cert.FfnBwdReferenceIdeal.τ).loc Cert.FfnBwdReferenceIdeal.main_arg3) = m ((c.tc : Thread Cert.FfnBwdIdeal.nD Cert.FfnBwdIdeal.τ).loc Cert.FfnBwdIdeal.main_arg3)
      ∧ m' ((c.tc : Thread Cert.FfnBwdReferenceIdeal.nD Cert.FfnBwdReferenceIdeal.τ).loc Cert.FfnBwdReferenceIdeal.main_arg4) = m ((c.tc : Thread Cert.FfnBwdIdeal.nD Cert.FfnBwdIdeal.τ).loc Cert.FfnBwdIdeal.main_arg4)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4))
      ∧ θ_run (Cert.FfnBwdReferenceIdeal.defs (F := Ideal)) (onTc (τ := Cert.FfnBwdReferenceIdeal.τ) (Cert.FfnBwdReferenceIdeal.main (F := Ideal))) ⟨m', fun _ => 0, g'⟩ (fun r => ∀ c : Dev Cert.FfnBwdReferenceIdeal.nD,
          r.2.mem ((c.tc : Thread Cert.FfnBwdReferenceIdeal.nD Cert.FfnBwdReferenceIdeal.τ).loc Cert.FfnBwdReferenceIdeal.main_v101) = v0 c
          ∧ r.2.mem ((c.tc : Thread Cert.FfnBwdReferenceIdeal.nD Cert.FfnBwdReferenceIdeal.τ).loc Cert.FfnBwdReferenceIdeal.main_v102) = v1 c
          ∧ r.2.mem ((c.tc : Thread Cert.FfnBwdReferenceIdeal.nD Cert.FfnBwdReferenceIdeal.τ).loc Cert.FfnBwdReferenceIdeal.main_v67) = v2 c
          ∧ r.2.mem ((c.tc : Thread Cert.FfnBwdReferenceIdeal.nD Cert.FfnBwdReferenceIdeal.τ).loc Cert.FfnBwdReferenceIdeal.main_v103) = v3 c
          ∧ r.2.mem ((c.tc : Thread Cert.FfnBwdReferenceIdeal.nD Cert.FfnBwdReferenceIdeal.τ).loc Cert.FfnBwdReferenceIdeal.main_arg0) = m' ((c.tc : Thread Cert.FfnBwdReferenceIdeal.nD Cert.FfnBwdReferenceIdeal.τ).loc Cert.FfnBwdReferenceIdeal.main_arg0)
          ∧ r.2.mem ((c.tc : Thread Cert.FfnBwdReferenceIdeal.nD Cert.FfnBwdReferenceIdeal.τ).loc Cert.FfnBwdReferenceIdeal.main_arg1) = m' ((c.tc : Thread Cert.FfnBwdReferenceIdeal.nD Cert.FfnBwdReferenceIdeal.τ).loc Cert.FfnBwdReferenceIdeal.main_arg1)
          ∧ r.2.mem ((c.tc : Thread Cert.FfnBwdReferenceIdeal.nD Cert.FfnBwdReferenceIdeal.τ).loc Cert.FfnBwdReferenceIdeal.main_arg2) = m' ((c.tc : Thread Cert.FfnBwdReferenceIdeal.nD Cert.FfnBwdReferenceIdeal.τ).loc Cert.FfnBwdReferenceIdeal.main_arg2)
          ∧ r.2.mem ((c.tc : Thread Cert.FfnBwdReferenceIdeal.nD Cert.FfnBwdReferenceIdeal.τ).loc Cert.FfnBwdReferenceIdeal.main_arg3) = m' ((c.tc : Thread Cert.FfnBwdReferenceIdeal.nD Cert.FfnBwdReferenceIdeal.τ).loc Cert.FfnBwdReferenceIdeal.main_arg3)
          ∧ r.2.mem ((c.tc : Thread Cert.FfnBwdReferenceIdeal.nD Cert.FfnBwdReferenceIdeal.τ).loc Cert.FfnBwdReferenceIdeal.main_arg4) = m' ((c.tc : Thread Cert.FfnBwdReferenceIdeal.nD Cert.FfnBwdReferenceIdeal.τ).loc Cert.FfnBwdReferenceIdeal.main_arg4))

def preserves_SconvFwd_SconvFwdIdeal : Prop :=
  True

def algebraic_SconvFwdIdeal_SconvFwdReferenceIdeal [hSconvFwdIdeal : Cert.SconvFwdIdeal.Facts] [hSconvFwdReferenceIdeal : Cert.SconvFwdReferenceIdeal.Facts] : Prop :=
  ∀ (m : (ℓ : Loc Cert.SconvFwdIdeal.nD Cert.SconvFwdIdeal.τ Cert.SconvFwdIdeal.sig) → Buf (Elt Ideal) ℓ) (g : Dev Cert.SconvFwdIdeal.nD → PrngReg)
    (m' : (ℓ : Loc Cert.SconvFwdReferenceIdeal.nD Cert.SconvFwdReferenceIdeal.τ Cert.SconvFwdReferenceIdeal.sig) → Buf (Elt Ideal) ℓ) (g' : Dev Cert.SconvFwdReferenceIdeal.nD → PrngReg), Pre_SconvFwdIdeal m →
    (∀ c : Dev Cert.SconvFwdIdeal.nD,
      m' ((c.tc : Thread Cert.SconvFwdReferenceIdeal.nD Cert.SconvFwdReferenceIdeal.τ).loc Cert.SconvFwdReferenceIdeal.main_arg0) = m ((c.tc : Thread Cert.SconvFwdIdeal.nD Cert.SconvFwdIdeal.τ).loc Cert.SconvFwdIdeal.main_arg0)
      ∧ m' ((c.tc : Thread Cert.SconvFwdReferenceIdeal.nD Cert.SconvFwdReferenceIdeal.τ).loc Cert.SconvFwdReferenceIdeal.main_arg1) = m ((c.tc : Thread Cert.SconvFwdIdeal.nD Cert.SconvFwdIdeal.τ).loc Cert.SconvFwdIdeal.main_arg1)
      ∧ m' ((c.tc : Thread Cert.SconvFwdReferenceIdeal.nD Cert.SconvFwdReferenceIdeal.τ).loc Cert.SconvFwdReferenceIdeal.main_arg2) = m ((c.tc : Thread Cert.SconvFwdIdeal.nD Cert.SconvFwdIdeal.τ).loc Cert.SconvFwdIdeal.main_arg2)) →
    ∃ (v0 : (c : Dev Cert.SconvFwdIdeal.nD) → Buf (Elt Ideal) ((c.tc : Thread Cert.SconvFwdIdeal.nD Cert.SconvFwdIdeal.τ).loc Cert.SconvFwdIdeal.main_v0)),
      θ_run (Cert.SconvFwdIdeal.defs (F := Ideal)) (onTc (τ := Cert.SconvFwdIdeal.τ) (Cert.SconvFwdIdeal.main (F := Ideal))) ⟨m, fun _ => 0, g⟩ (fun r => ∀ c : Dev Cert.SconvFwdIdeal.nD,
          r.2.mem ((c.tc : Thread Cert.SconvFwdIdeal.nD Cert.SconvFwdIdeal.τ).loc Cert.SconvFwdIdeal.main_v0) = v0 c
          ∧ r.2.mem ((c.tc : Thread Cert.SconvFwdIdeal.nD Cert.SconvFwdIdeal.τ).loc Cert.SconvFwdIdeal.main_arg0) = m ((c.tc : Thread Cert.SconvFwdIdeal.nD Cert.SconvFwdIdeal.τ).loc Cert.SconvFwdIdeal.main_arg0)
          ∧ r.2.mem ((c.tc : Thread Cert.SconvFwdIdeal.nD Cert.SconvFwdIdeal.τ).loc Cert.SconvFwdIdeal.main_arg1) = m ((c.tc : Thread Cert.SconvFwdIdeal.nD Cert.SconvFwdIdeal.τ).loc Cert.SconvFwdIdeal.main_arg1)
          ∧ r.2.mem ((c.tc : Thread Cert.SconvFwdIdeal.nD Cert.SconvFwdIdeal.τ).loc Cert.SconvFwdIdeal.main_arg2) = m ((c.tc : Thread Cert.SconvFwdIdeal.nD Cert.SconvFwdIdeal.τ).loc Cert.SconvFwdIdeal.main_arg2))
      ∧ θ_run (Cert.SconvFwdReferenceIdeal.defs (F := Ideal)) (onTc (τ := Cert.SconvFwdReferenceIdeal.τ) (Cert.SconvFwdReferenceIdeal.main (F := Ideal))) ⟨m', fun _ => 0, g'⟩ (fun r => ∀ c : Dev Cert.SconvFwdReferenceIdeal.nD,
          r.2.mem ((c.tc : Thread Cert.SconvFwdReferenceIdeal.nD Cert.SconvFwdReferenceIdeal.τ).loc Cert.SconvFwdReferenceIdeal.main_v27) = v0 c
          ∧ r.2.mem ((c.tc : Thread Cert.SconvFwdReferenceIdeal.nD Cert.SconvFwdReferenceIdeal.τ).loc Cert.SconvFwdReferenceIdeal.main_arg0) = m' ((c.tc : Thread Cert.SconvFwdReferenceIdeal.nD Cert.SconvFwdReferenceIdeal.τ).loc Cert.SconvFwdReferenceIdeal.main_arg0)
          ∧ r.2.mem ((c.tc : Thread Cert.SconvFwdReferenceIdeal.nD Cert.SconvFwdReferenceIdeal.τ).loc Cert.SconvFwdReferenceIdeal.main_arg1) = m' ((c.tc : Thread Cert.SconvFwdReferenceIdeal.nD Cert.SconvFwdReferenceIdeal.τ).loc Cert.SconvFwdReferenceIdeal.main_arg1)
          ∧ r.2.mem ((c.tc : Thread Cert.SconvFwdReferenceIdeal.nD Cert.SconvFwdReferenceIdeal.τ).loc Cert.SconvFwdReferenceIdeal.main_arg2) = m' ((c.tc : Thread Cert.SconvFwdReferenceIdeal.nD Cert.SconvFwdReferenceIdeal.τ).loc Cert.SconvFwdReferenceIdeal.main_arg2))

def preserves_SconvBwd_SconvBwdIdeal : Prop :=
  True

def algebraic_SconvBwdIdeal_SconvBwdReferenceIdeal [hSconvBwdIdeal : Cert.SconvBwdIdeal.Facts] [hSconvBwdReferenceIdeal : Cert.SconvBwdReferenceIdeal.Facts] : Prop :=
  ∀ (m : (ℓ : Loc Cert.SconvBwdIdeal.nD Cert.SconvBwdIdeal.τ Cert.SconvBwdIdeal.sig) → Buf (Elt Ideal) ℓ) (g : Dev Cert.SconvBwdIdeal.nD → PrngReg)
    (m' : (ℓ : Loc Cert.SconvBwdReferenceIdeal.nD Cert.SconvBwdReferenceIdeal.τ Cert.SconvBwdReferenceIdeal.sig) → Buf (Elt Ideal) ℓ) (g' : Dev Cert.SconvBwdReferenceIdeal.nD → PrngReg), Pre_SconvBwdIdeal m →
    (∀ c : Dev Cert.SconvBwdIdeal.nD,
      m' ((c.tc : Thread Cert.SconvBwdReferenceIdeal.nD Cert.SconvBwdReferenceIdeal.τ).loc Cert.SconvBwdReferenceIdeal.main_arg0) = m ((c.tc : Thread Cert.SconvBwdIdeal.nD Cert.SconvBwdIdeal.τ).loc Cert.SconvBwdIdeal.main_arg0)
      ∧ m' ((c.tc : Thread Cert.SconvBwdReferenceIdeal.nD Cert.SconvBwdReferenceIdeal.τ).loc Cert.SconvBwdReferenceIdeal.main_arg1) = m ((c.tc : Thread Cert.SconvBwdIdeal.nD Cert.SconvBwdIdeal.τ).loc Cert.SconvBwdIdeal.main_arg1)
      ∧ m' ((c.tc : Thread Cert.SconvBwdReferenceIdeal.nD Cert.SconvBwdReferenceIdeal.τ).loc Cert.SconvBwdReferenceIdeal.main_arg2) = m ((c.tc : Thread Cert.SconvBwdIdeal.nD Cert.SconvBwdIdeal.τ).loc Cert.SconvBwdIdeal.main_arg2)
      ∧ m' ((c.tc : Thread Cert.SconvBwdReferenceIdeal.nD Cert.SconvBwdReferenceIdeal.τ).loc Cert.SconvBwdReferenceIdeal.main_arg3) = m ((c.tc : Thread Cert.SconvBwdIdeal.nD Cert.SconvBwdIdeal.τ).loc Cert.SconvBwdIdeal.main_arg3)) →
    ∃ (v0 : (c : Dev Cert.SconvBwdIdeal.nD) → Buf (Elt Ideal) ((c.tc : Thread Cert.SconvBwdIdeal.nD Cert.SconvBwdIdeal.τ).loc Cert.SconvBwdIdeal.main_v0_0)) (v1 : (c : Dev Cert.SconvBwdIdeal.nD) → Buf (Elt Ideal) ((c.tc : Thread Cert.SconvBwdIdeal.nD Cert.SconvBwdIdeal.τ).loc Cert.SconvBwdIdeal.main_v0_1)),
      θ_run (Cert.SconvBwdIdeal.defs (F := Ideal)) (onTc (τ := Cert.SconvBwdIdeal.τ) (Cert.SconvBwdIdeal.main (F := Ideal))) ⟨m, fun _ => 0, g⟩ (fun r => ∀ c : Dev Cert.SconvBwdIdeal.nD,
          r.2.mem ((c.tc : Thread Cert.SconvBwdIdeal.nD Cert.SconvBwdIdeal.τ).loc Cert.SconvBwdIdeal.main_v0_0) = v0 c
          ∧ r.2.mem ((c.tc : Thread Cert.SconvBwdIdeal.nD Cert.SconvBwdIdeal.τ).loc Cert.SconvBwdIdeal.main_v0_1) = v1 c
          ∧ r.2.mem ((c.tc : Thread Cert.SconvBwdIdeal.nD Cert.SconvBwdIdeal.τ).loc Cert.SconvBwdIdeal.main_arg0) = m ((c.tc : Thread Cert.SconvBwdIdeal.nD Cert.SconvBwdIdeal.τ).loc Cert.SconvBwdIdeal.main_arg0)
          ∧ r.2.mem ((c.tc : Thread Cert.SconvBwdIdeal.nD Cert.SconvBwdIdeal.τ).loc Cert.SconvBwdIdeal.main_arg1) = m ((c.tc : Thread Cert.SconvBwdIdeal.nD Cert.SconvBwdIdeal.τ).loc Cert.SconvBwdIdeal.main_arg1)
          ∧ r.2.mem ((c.tc : Thread Cert.SconvBwdIdeal.nD Cert.SconvBwdIdeal.τ).loc Cert.SconvBwdIdeal.main_arg2) = m ((c.tc : Thread Cert.SconvBwdIdeal.nD Cert.SconvBwdIdeal.τ).loc Cert.SconvBwdIdeal.main_arg2)
          ∧ r.2.mem ((c.tc : Thread Cert.SconvBwdIdeal.nD Cert.SconvBwdIdeal.τ).loc Cert.SconvBwdIdeal.main_arg3) = m ((c.tc : Thread Cert.SconvBwdIdeal.nD Cert.SconvBwdIdeal.τ).loc Cert.SconvBwdIdeal.main_arg3))
      ∧ θ_run (Cert.SconvBwdReferenceIdeal.defs (F := Ideal)) (onTc (τ := Cert.SconvBwdReferenceIdeal.τ) (Cert.SconvBwdReferenceIdeal.main (F := Ideal))) ⟨m', fun _ => 0, g'⟩ (fun r => ∀ c : Dev Cert.SconvBwdReferenceIdeal.nD,
          r.2.mem ((c.tc : Thread Cert.SconvBwdReferenceIdeal.nD Cert.SconvBwdReferenceIdeal.τ).loc Cert.SconvBwdReferenceIdeal.main_v93) = v0 c
          ∧ r.2.mem ((c.tc : Thread Cert.SconvBwdReferenceIdeal.nD Cert.SconvBwdReferenceIdeal.τ).loc Cert.SconvBwdReferenceIdeal.main_v94) = v1 c
          ∧ r.2.mem ((c.tc : Thread Cert.SconvBwdReferenceIdeal.nD Cert.SconvBwdReferenceIdeal.τ).loc Cert.SconvBwdReferenceIdeal.main_arg0) = m' ((c.tc : Thread Cert.SconvBwdReferenceIdeal.nD Cert.SconvBwdReferenceIdeal.τ).loc Cert.SconvBwdReferenceIdeal.main_arg0)
          ∧ r.2.mem ((c.tc : Thread Cert.SconvBwdReferenceIdeal.nD Cert.SconvBwdReferenceIdeal.τ).loc Cert.SconvBwdReferenceIdeal.main_arg1) = m' ((c.tc : Thread Cert.SconvBwdReferenceIdeal.nD Cert.SconvBwdReferenceIdeal.τ).loc Cert.SconvBwdReferenceIdeal.main_arg1)
          ∧ r.2.mem ((c.tc : Thread Cert.SconvBwdReferenceIdeal.nD Cert.SconvBwdReferenceIdeal.τ).loc Cert.SconvBwdReferenceIdeal.main_arg2) = m' ((c.tc : Thread Cert.SconvBwdReferenceIdeal.nD Cert.SconvBwdReferenceIdeal.τ).loc Cert.SconvBwdReferenceIdeal.main_arg2)
          ∧ r.2.mem ((c.tc : Thread Cert.SconvBwdReferenceIdeal.nD Cert.SconvBwdReferenceIdeal.τ).loc Cert.SconvBwdReferenceIdeal.main_arg3) = m' ((c.tc : Thread Cert.SconvBwdReferenceIdeal.nD Cert.SconvBwdReferenceIdeal.τ).loc Cert.SconvBwdReferenceIdeal.main_arg3))

def preserves_AttnFwd_AttnFwdIdeal : Prop :=
  IdealRules.named_const.Statement Cert.AttnFwdIdeal.κ "s" .f32 0x3D3504F3#32 (((Real.sqrt 512)⁻¹ : ℝ) : EReal)

def algebraic_AttnFwdIdeal_AttnFwdReferenceIdeal [hAttnFwdIdeal : Cert.AttnFwdIdeal.Facts] [hAttnFwdReferenceIdeal : Cert.AttnFwdReferenceIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdReferenceIdeal.nD Cert.AttnFwdReferenceIdeal.τ Cert.AttnFwdReferenceIdeal.sig) → Buf (Elt Ideal) ℓ) (g' : Dev Cert.AttnFwdReferenceIdeal.nD → PrngReg), Pre_AttnFwdIdeal m →
    (∀ c : Dev Cert.AttnFwdIdeal.nD,
      m' ((c.tc : Thread Cert.AttnFwdReferenceIdeal.nD Cert.AttnFwdReferenceIdeal.τ).loc Cert.AttnFwdReferenceIdeal.main_arg0) = m ((c.tc : Thread Cert.AttnFwdIdeal.nD Cert.AttnFwdIdeal.τ).loc Cert.AttnFwdIdeal.main_arg0)
      ∧ m' ((c.tc : Thread Cert.AttnFwdReferenceIdeal.nD Cert.AttnFwdReferenceIdeal.τ).loc Cert.AttnFwdReferenceIdeal.main_arg1) = m ((c.tc : Thread Cert.AttnFwdIdeal.nD Cert.AttnFwdIdeal.τ).loc Cert.AttnFwdIdeal.main_arg1)
      ∧ m' ((c.tc : Thread Cert.AttnFwdReferenceIdeal.nD Cert.AttnFwdReferenceIdeal.τ).loc Cert.AttnFwdReferenceIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdReferenceIdeal.defs (F := Ideal)) (onTc (τ := Cert.AttnFwdReferenceIdeal.τ) (Cert.AttnFwdReferenceIdeal.main (F := Ideal))) ⟨m', fun _ => 0, g'⟩ (fun r => ∀ c : Dev Cert.AttnFwdReferenceIdeal.nD,
          r.2.mem ((c.tc : Thread Cert.AttnFwdReferenceIdeal.nD Cert.AttnFwdReferenceIdeal.τ).loc Cert.AttnFwdReferenceIdeal.main_v24) = v0 c
          ∧ r.2.mem ((c.tc : Thread Cert.AttnFwdReferenceIdeal.nD Cert.AttnFwdReferenceIdeal.τ).loc Cert.AttnFwdReferenceIdeal.main_arg0) = m' ((c.tc : Thread Cert.AttnFwdReferenceIdeal.nD Cert.AttnFwdReferenceIdeal.τ).loc Cert.AttnFwdReferenceIdeal.main_arg0)
          ∧ r.2.mem ((c.tc : Thread Cert.AttnFwdReferenceIdeal.nD Cert.AttnFwdReferenceIdeal.τ).loc Cert.AttnFwdReferenceIdeal.main_arg1) = m' ((c.tc : Thread Cert.AttnFwdReferenceIdeal.nD Cert.AttnFwdReferenceIdeal.τ).loc Cert.AttnFwdReferenceIdeal.main_arg1)
          ∧ r.2.mem ((c.tc : Thread Cert.AttnFwdReferenceIdeal.nD Cert.AttnFwdReferenceIdeal.τ).loc Cert.AttnFwdReferenceIdeal.main_arg2) = m' ((c.tc : Thread Cert.AttnFwdReferenceIdeal.nD Cert.AttnFwdReferenceIdeal.τ).loc Cert.AttnFwdReferenceIdeal.main_arg2))

def preserves_AdamLb_AdamLbIdeal : Prop :=
  True

def algebraic_AdamLbIdeal_AdamLbReferenceIdeal [hAdamLbIdeal : Cert.AdamLbIdeal.Facts] [hAdamLbReferenceIdeal : Cert.AdamLbReferenceIdeal.Facts] : Prop :=
  ∀ (m : (ℓ : Loc Cert.AdamLbIdeal.nD Cert.AdamLbIdeal.τ Cert.AdamLbIdeal.sig) → Buf (Elt Ideal) ℓ) (g : Dev Cert.AdamLbIdeal.nD → PrngReg)
    (m' : (ℓ : Loc Cert.AdamLbReferenceIdeal.nD Cert.AdamLbReferenceIdeal.τ Cert.AdamLbReferenceIdeal.sig) → Buf (Elt Ideal) ℓ) (g' : Dev Cert.AdamLbReferenceIdeal.nD → PrngReg), Pre_AdamLbIdeal m →
    (∀ c : Dev Cert.AdamLbIdeal.nD,
      m' ((c.tc : Thread Cert.AdamLbReferenceIdeal.nD Cert.AdamLbReferenceIdeal.τ).loc Cert.AdamLbReferenceIdeal.main_arg0) = m ((c.tc : Thread Cert.AdamLbIdeal.nD Cert.AdamLbIdeal.τ).loc Cert.AdamLbIdeal.main_arg0)
      ∧ m' ((c.tc : Thread Cert.AdamLbReferenceIdeal.nD Cert.AdamLbReferenceIdeal.τ).loc Cert.AdamLbReferenceIdeal.main_arg1) = m ((c.tc : Thread Cert.AdamLbIdeal.nD Cert.AdamLbIdeal.τ).loc Cert.AdamLbIdeal.main_arg1)
      ∧ m' ((c.tc : Thread Cert.AdamLbReferenceIdeal.nD Cert.AdamLbReferenceIdeal.τ).loc Cert.AdamLbReferenceIdeal.main_arg2) = m ((c.tc : Thread Cert.AdamLbIdeal.nD Cert.AdamLbIdeal.τ).loc Cert.AdamLbIdeal.main_arg2)
      ∧ m' ((c.tc : Thread Cert.AdamLbReferenceIdeal.nD Cert.AdamLbReferenceIdeal.τ).loc Cert.AdamLbReferenceIdeal.main_arg3) = m ((c.tc : Thread Cert.AdamLbIdeal.nD Cert.AdamLbIdeal.τ).loc Cert.AdamLbIdeal.main_arg3)) →
    ∃ (v0 : (c : Dev Cert.AdamLbIdeal.nD) → Buf (Elt Ideal) ((c.tc : Thread Cert.AdamLbIdeal.nD Cert.AdamLbIdeal.τ).loc Cert.AdamLbIdeal.main_v0_0)) (v1 : (c : Dev Cert.AdamLbIdeal.nD) → Buf (Elt Ideal) ((c.tc : Thread Cert.AdamLbIdeal.nD Cert.AdamLbIdeal.τ).loc Cert.AdamLbIdeal.main_v0_1)) (v2 : (c : Dev Cert.AdamLbIdeal.nD) → Buf (Elt Ideal) ((c.tc : Thread Cert.AdamLbIdeal.nD Cert.AdamLbIdeal.τ).loc Cert.AdamLbIdeal.main_v0_2)) (v3 : (c : Dev Cert.AdamLbIdeal.nD) → Buf (Elt Ideal) ((c.tc : Thread Cert.AdamLbIdeal.nD Cert.AdamLbIdeal.τ).loc Cert.AdamLbIdeal.main_v0_3)),
      θ_run (Cert.AdamLbIdeal.defs (F := Ideal)) (onTc (τ := Cert.AdamLbIdeal.τ) (Cert.AdamLbIdeal.main (F := Ideal))) ⟨m, fun _ => 0, g⟩ (fun r => ∀ c : Dev Cert.AdamLbIdeal.nD,
          r.2.mem ((c.tc : Thread Cert.AdamLbIdeal.nD Cert.AdamLbIdeal.τ).loc Cert.AdamLbIdeal.main_v0_0) = v0 c
          ∧ r.2.mem ((c.tc : Thread Cert.AdamLbIdeal.nD Cert.AdamLbIdeal.τ).loc Cert.AdamLbIdeal.main_v0_1) = v1 c
          ∧ r.2.mem ((c.tc : Thread Cert.AdamLbIdeal.nD Cert.AdamLbIdeal.τ).loc Cert.AdamLbIdeal.main_v0_2) = v2 c
          ∧ r.2.mem ((c.tc : Thread Cert.AdamLbIdeal.nD Cert.AdamLbIdeal.τ).loc Cert.AdamLbIdeal.main_v0_3) = v3 c
          ∧ r.2.mem ((c.tc : Thread Cert.AdamLbIdeal.nD Cert.AdamLbIdeal.τ).loc Cert.AdamLbIdeal.main_arg0) = m ((c.tc : Thread Cert.AdamLbIdeal.nD Cert.AdamLbIdeal.τ).loc Cert.AdamLbIdeal.main_arg0)
          ∧ r.2.mem ((c.tc : Thread Cert.AdamLbIdeal.nD Cert.AdamLbIdeal.τ).loc Cert.AdamLbIdeal.main_arg1) = m ((c.tc : Thread Cert.AdamLbIdeal.nD Cert.AdamLbIdeal.τ).loc Cert.AdamLbIdeal.main_arg1)
          ∧ r.2.mem ((c.tc : Thread Cert.AdamLbIdeal.nD Cert.AdamLbIdeal.τ).loc Cert.AdamLbIdeal.main_arg2) = m ((c.tc : Thread Cert.AdamLbIdeal.nD Cert.AdamLbIdeal.τ).loc Cert.AdamLbIdeal.main_arg2)
          ∧ r.2.mem ((c.tc : Thread Cert.AdamLbIdeal.nD Cert.AdamLbIdeal.τ).loc Cert.AdamLbIdeal.main_arg3) = m ((c.tc : Thread Cert.AdamLbIdeal.nD Cert.AdamLbIdeal.τ).loc Cert.AdamLbIdeal.main_arg3))
      ∧ θ_run (Cert.AdamLbReferenceIdeal.defs (F := Ideal)) (onTc (τ := Cert.AdamLbReferenceIdeal.τ) (Cert.AdamLbReferenceIdeal.main (F := Ideal))) ⟨m', fun _ => 0, g'⟩ (fun r => ∀ c : Dev Cert.AdamLbReferenceIdeal.nD,
          r.2.mem ((c.tc : Thread Cert.AdamLbReferenceIdeal.nD Cert.AdamLbReferenceIdeal.τ).loc Cert.AdamLbReferenceIdeal.main_arg1) = v0 c
          ∧ r.2.mem ((c.tc : Thread Cert.AdamLbReferenceIdeal.nD Cert.AdamLbReferenceIdeal.τ).loc Cert.AdamLbReferenceIdeal.main_v23) = v1 c
          ∧ r.2.mem ((c.tc : Thread Cert.AdamLbReferenceIdeal.nD Cert.AdamLbReferenceIdeal.τ).loc Cert.AdamLbReferenceIdeal.main_v4) = v2 c
          ∧ r.2.mem ((c.tc : Thread Cert.AdamLbReferenceIdeal.nD Cert.AdamLbReferenceIdeal.τ).loc Cert.AdamLbReferenceIdeal.main_v10) = v3 c
          ∧ r.2.mem ((c.tc : Thread Cert.AdamLbReferenceIdeal.nD Cert.AdamLbReferenceIdeal.τ).loc Cert.AdamLbReferenceIdeal.main_arg0) = m' ((c.tc : Thread Cert.AdamLbReferenceIdeal.nD Cert.AdamLbReferenceIdeal.τ).loc Cert.AdamLbReferenceIdeal.main_arg0)
          ∧ r.2.mem ((c.tc : Thread Cert.AdamLbReferenceIdeal.nD Cert.AdamLbReferenceIdeal.τ).loc Cert.AdamLbReferenceIdeal.main_arg1) = m' ((c.tc : Thread Cert.AdamLbReferenceIdeal.nD Cert.AdamLbReferenceIdeal.τ).loc Cert.AdamLbReferenceIdeal.main_arg1)
          ∧ r.2.mem ((c.tc : Thread Cert.AdamLbReferenceIdeal.nD Cert.AdamLbReferenceIdeal.τ).loc Cert.AdamLbReferenceIdeal.main_arg2) = m' ((c.tc : Thread Cert.AdamLbReferenceIdeal.nD Cert.AdamLbReferenceIdeal.τ).loc Cert.AdamLbReferenceIdeal.main_arg2)
          ∧ r.2.mem ((c.tc : Thread Cert.AdamLbReferenceIdeal.nD Cert.AdamLbReferenceIdeal.τ).loc Cert.AdamLbReferenceIdeal.main_arg3) = m' ((c.tc : Thread Cert.AdamLbReferenceIdeal.nD Cert.AdamLbReferenceIdeal.τ).loc Cert.AdamLbReferenceIdeal.main_arg3))

def preserves_AdamNorm_AdamNormIdeal : Prop :=
  True

def algebraic_AdamNormIdeal_AdamNormReferenceIdeal [hAdamNormIdeal : Cert.AdamNormIdeal.Facts] [hAdamNormReferenceIdeal : Cert.AdamNormReferenceIdeal.Facts] : Prop :=
  ∀ (m : (ℓ : Loc Cert.AdamNormIdeal.nD Cert.AdamNormIdeal.τ Cert.AdamNormIdeal.sig) → Buf (Elt Ideal) ℓ) (g : Dev Cert.AdamNormIdeal.nD → PrngReg)
    (m' : (ℓ : Loc Cert.AdamNormReferenceIdeal.nD Cert.AdamNormReferenceIdeal.τ Cert.AdamNormReferenceIdeal.sig) → Buf (Elt Ideal) ℓ) (g' : Dev Cert.AdamNormReferenceIdeal.nD → PrngReg), Pre_AdamNormIdeal m →
    (∀ c : Dev Cert.AdamNormIdeal.nD,
      m' ((c.tc : Thread Cert.AdamNormReferenceIdeal.nD Cert.AdamNormReferenceIdeal.τ).loc Cert.AdamNormReferenceIdeal.main_arg0) = m ((c.tc : Thread Cert.AdamNormIdeal.nD Cert.AdamNormIdeal.τ).loc Cert.AdamNormIdeal.main_arg0)
      ∧ m' ((c.tc : Thread Cert.AdamNormReferenceIdeal.nD Cert.AdamNormReferenceIdeal.τ).loc Cert.AdamNormReferenceIdeal.main_arg1) = m ((c.tc : Thread Cert.AdamNormIdeal.nD Cert.AdamNormIdeal.τ).loc Cert.AdamNormIdeal.main_arg1)
      ∧ m' ((c.tc : Thread Cert.AdamNormReferenceIdeal.nD Cert.AdamNormReferenceIdeal.τ).loc Cert.AdamNormReferenceIdeal.main_arg2) = m ((c.tc : Thread Cert.AdamNormIdeal.nD Cert.AdamNormIdeal.τ).loc Cert.AdamNormIdeal.main_arg2)
      ∧ m' ((c.tc : Thread Cert.AdamNormReferenceIdeal.nD Cert.AdamNormReferenceIdeal.τ).loc Cert.AdamNormReferenceIdeal.main_arg3) = m ((c.tc : Thread Cert.AdamNormIdeal.nD Cert.AdamNormIdeal.τ).loc Cert.AdamNormIdeal.main_arg3)) →
    ∃ (v0 : (c : Dev Cert.AdamNormIdeal.nD) → Buf (Elt Ideal) ((c.tc : Thread Cert.AdamNormIdeal.nD Cert.AdamNormIdeal.τ).loc Cert.AdamNormIdeal.main_v0_0)) (v1 : (c : Dev Cert.AdamNormIdeal.nD) → Buf (Elt Ideal) ((c.tc : Thread Cert.AdamNormIdeal.nD Cert.AdamNormIdeal.τ).loc Cert.AdamNormIdeal.main_v0_1)) (v2 : (c : Dev Cert.AdamNormIdeal.nD) → Buf (Elt Ideal) ((c.tc : Thread Cert.AdamNormIdeal.nD Cert.AdamNormIdeal.τ).loc Cert.AdamNormIdeal.main_v0_2)) (v3 : (c : Dev Cert.AdamNormIdeal.nD) → Buf (Elt Ideal) ((c.tc : Thread Cert.AdamNormIdeal.nD Cert.AdamNormIdeal.τ).loc Cert.AdamNormIdeal.main_v0_3)),
      θ_run (Cert.AdamNormIdeal.defs (F := Ideal)) (onTc (τ := Cert.AdamNormIdeal.τ) (Cert.AdamNormIdeal.main (F := Ideal))) ⟨m, fun _ => 0, g⟩ (fun r => ∀ c : Dev Cert.AdamNormIdeal.nD,
          r.2.mem ((c.tc : Thread Cert.AdamNormIdeal.nD Cert.AdamNormIdeal.τ).loc Cert.AdamNormIdeal.main_v0_0) = v0 c
          ∧ r.2.mem ((c.tc : Thread Cert.AdamNormIdeal.nD Cert.AdamNormIdeal.τ).loc Cert.AdamNormIdeal.main_v0_1) = v1 c
          ∧ r.2.mem ((c.tc : Thread Cert.AdamNormIdeal.nD Cert.AdamNormIdeal.τ).loc Cert.AdamNormIdeal.main_v0_2) = v2 c
          ∧ r.2.mem ((c.tc : Thread Cert.AdamNormIdeal.nD Cert.AdamNormIdeal.τ).loc Cert.AdamNormIdeal.main_v0_3) = v3 c
          ∧ r.2.mem ((c.tc : Thread Cert.AdamNormIdeal.nD Cert.AdamNormIdeal.τ).loc Cert.AdamNormIdeal.main_arg0) = m ((c.tc : Thread Cert.AdamNormIdeal.nD Cert.AdamNormIdeal.τ).loc Cert.AdamNormIdeal.main_arg0)
          ∧ r.2.mem ((c.tc : Thread Cert.AdamNormIdeal.nD Cert.AdamNormIdeal.τ).loc Cert.AdamNormIdeal.main_arg1) = m ((c.tc : Thread Cert.AdamNormIdeal.nD Cert.AdamNormIdeal.τ).loc Cert.AdamNormIdeal.main_arg1)
          ∧ r.2.mem ((c.tc : Thread Cert.AdamNormIdeal.nD Cert.AdamNormIdeal.τ).loc Cert.AdamNormIdeal.main_arg2) = m ((c.tc : Thread Cert.AdamNormIdeal.nD Cert.AdamNormIdeal.τ).loc Cert.AdamNormIdeal.main_arg2)
          ∧ r.2.mem ((c.tc : Thread Cert.AdamNormIdeal.nD Cert.AdamNormIdeal.τ).loc Cert.AdamNormIdeal.main_arg3) = m ((c.tc : Thread Cert.AdamNormIdeal.nD Cert.AdamNormIdeal.τ).loc Cert.AdamNormIdeal.main_arg3))
      ∧ θ_run (Cert.AdamNormReferenceIdeal.defs (F := Ideal)) (onTc (τ := Cert.AdamNormReferenceIdeal.τ) (Cert.AdamNormReferenceIdeal.main (F := Ideal))) ⟨m', fun _ => 0, g'⟩ (fun r => ∀ c : Dev Cert.AdamNormReferenceIdeal.nD,
          r.2.mem ((c.tc : Thread Cert.AdamNormReferenceIdeal.nD Cert.AdamNormReferenceIdeal.τ).loc Cert.AdamNormReferenceIdeal.main_arg1) = v0 c
          ∧ r.2.mem ((c.tc : Thread Cert.AdamNormReferenceIdeal.nD Cert.AdamNormReferenceIdeal.τ).loc Cert.AdamNormReferenceIdeal.main_v23) = v1 c
          ∧ r.2.mem ((c.tc : Thread Cert.AdamNormReferenceIdeal.nD Cert.AdamNormReferenceIdeal.τ).loc Cert.AdamNormReferenceIdeal.main_v4) = v2 c
          ∧ r.2.mem ((c.tc : Thread Cert.AdamNormReferenceIdeal.nD Cert.AdamNormReferenceIdeal.τ).loc Cert.AdamNormReferenceIdeal.main_v10) = v3 c
          ∧ r.2.mem ((c.tc : Thread Cert.AdamNormReferenceIdeal.nD Cert.AdamNormReferenceIdeal.τ).loc Cert.AdamNormReferenceIdeal.main_arg0) = m' ((c.tc : Thread Cert.AdamNormReferenceIdeal.nD Cert.AdamNormReferenceIdeal.τ).loc Cert.AdamNormReferenceIdeal.main_arg0)
          ∧ r.2.mem ((c.tc : Thread Cert.AdamNormReferenceIdeal.nD Cert.AdamNormReferenceIdeal.τ).loc Cert.AdamNormReferenceIdeal.main_arg1) = m' ((c.tc : Thread Cert.AdamNormReferenceIdeal.nD Cert.AdamNormReferenceIdeal.τ).loc Cert.AdamNormReferenceIdeal.main_arg1)
          ∧ r.2.mem ((c.tc : Thread Cert.AdamNormReferenceIdeal.nD Cert.AdamNormReferenceIdeal.τ).loc Cert.AdamNormReferenceIdeal.main_arg2) = m' ((c.tc : Thread Cert.AdamNormReferenceIdeal.nD Cert.AdamNormReferenceIdeal.τ).loc Cert.AdamNormReferenceIdeal.main_arg2)
          ∧ r.2.mem ((c.tc : Thread Cert.AdamNormReferenceIdeal.nD Cert.AdamNormReferenceIdeal.τ).loc Cert.AdamNormReferenceIdeal.main_arg3) = m' ((c.tc : Thread Cert.AdamNormReferenceIdeal.nD Cert.AdamNormReferenceIdeal.τ).loc Cert.AdamNormReferenceIdeal.main_arg3))

def preserves_AdamHead_AdamHeadIdeal : Prop :=
  True

def algebraic_AdamHeadIdeal_AdamHeadReferenceIdeal [hAdamHeadIdeal : Cert.AdamHeadIdeal.Facts] [hAdamHeadReferenceIdeal : Cert.AdamHeadReferenceIdeal.Facts] : Prop :=
  ∀ (m : (ℓ : Loc Cert.AdamHeadIdeal.nD Cert.AdamHeadIdeal.τ Cert.AdamHeadIdeal.sig) → Buf (Elt Ideal) ℓ) (g : Dev Cert.AdamHeadIdeal.nD → PrngReg)
    (m' : (ℓ : Loc Cert.AdamHeadReferenceIdeal.nD Cert.AdamHeadReferenceIdeal.τ Cert.AdamHeadReferenceIdeal.sig) → Buf (Elt Ideal) ℓ) (g' : Dev Cert.AdamHeadReferenceIdeal.nD → PrngReg), Pre_AdamHeadIdeal m →
    (∀ c : Dev Cert.AdamHeadIdeal.nD,
      m' ((c.tc : Thread Cert.AdamHeadReferenceIdeal.nD Cert.AdamHeadReferenceIdeal.τ).loc Cert.AdamHeadReferenceIdeal.main_arg0) = m ((c.tc : Thread Cert.AdamHeadIdeal.nD Cert.AdamHeadIdeal.τ).loc Cert.AdamHeadIdeal.main_arg0)
      ∧ m' ((c.tc : Thread Cert.AdamHeadReferenceIdeal.nD Cert.AdamHeadReferenceIdeal.τ).loc Cert.AdamHeadReferenceIdeal.main_arg1) = m ((c.tc : Thread Cert.AdamHeadIdeal.nD Cert.AdamHeadIdeal.τ).loc Cert.AdamHeadIdeal.main_arg1)
      ∧ m' ((c.tc : Thread Cert.AdamHeadReferenceIdeal.nD Cert.AdamHeadReferenceIdeal.τ).loc Cert.AdamHeadReferenceIdeal.main_arg2) = m ((c.tc : Thread Cert.AdamHeadIdeal.nD Cert.AdamHeadIdeal.τ).loc Cert.AdamHeadIdeal.main_arg2)
      ∧ m' ((c.tc : Thread Cert.AdamHeadReferenceIdeal.nD Cert.AdamHeadReferenceIdeal.τ).loc Cert.AdamHeadReferenceIdeal.main_arg3) = m ((c.tc : Thread Cert.AdamHeadIdeal.nD Cert.AdamHeadIdeal.τ).loc Cert.AdamHeadIdeal.main_arg3)) →
    ∃ (v0 : (c : Dev Cert.AdamHeadIdeal.nD) → Buf (Elt Ideal) ((c.tc : Thread Cert.AdamHeadIdeal.nD Cert.AdamHeadIdeal.τ).loc Cert.AdamHeadIdeal.main_v0_0)) (v1 : (c : Dev Cert.AdamHeadIdeal.nD) → Buf (Elt Ideal) ((c.tc : Thread Cert.AdamHeadIdeal.nD Cert.AdamHeadIdeal.τ).loc Cert.AdamHeadIdeal.main_v0_1)) (v2 : (c : Dev Cert.AdamHeadIdeal.nD) → Buf (Elt Ideal) ((c.tc : Thread Cert.AdamHeadIdeal.nD Cert.AdamHeadIdeal.τ).loc Cert.AdamHeadIdeal.main_v0_2)) (v3 : (c : Dev Cert.AdamHeadIdeal.nD) → Buf (Elt Ideal) ((c.tc : Thread Cert.AdamHeadIdeal.nD Cert.AdamHeadIdeal.τ).loc Cert.AdamHeadIdeal.main_v0_3)),
      θ_run (Cert.AdamHeadIdeal.defs (F := Ideal)) (onTc (τ := Cert.AdamHeadIdeal.τ) (Cert.AdamHeadIdeal.main (F := Ideal))) ⟨m, fun _ => 0, g⟩ (fun r => ∀ c : Dev Cert.AdamHeadIdeal.nD,
          r.2.mem ((c.tc : Thread Cert.AdamHeadIdeal.nD Cert.AdamHeadIdeal.τ).loc Cert.AdamHeadIdeal.main_v0_0) = v0 c
          ∧ r.2.mem ((c.tc : Thread Cert.AdamHeadIdeal.nD Cert.AdamHeadIdeal.τ).loc Cert.AdamHeadIdeal.main_v0_1) = v1 c
          ∧ r.2.mem ((c.tc : Thread Cert.AdamHeadIdeal.nD Cert.AdamHeadIdeal.τ).loc Cert.AdamHeadIdeal.main_v0_2) = v2 c
          ∧ r.2.mem ((c.tc : Thread Cert.AdamHeadIdeal.nD Cert.AdamHeadIdeal.τ).loc Cert.AdamHeadIdeal.main_v0_3) = v3 c
          ∧ r.2.mem ((c.tc : Thread Cert.AdamHeadIdeal.nD Cert.AdamHeadIdeal.τ).loc Cert.AdamHeadIdeal.main_arg0) = m ((c.tc : Thread Cert.AdamHeadIdeal.nD Cert.AdamHeadIdeal.τ).loc Cert.AdamHeadIdeal.main_arg0)
          ∧ r.2.mem ((c.tc : Thread Cert.AdamHeadIdeal.nD Cert.AdamHeadIdeal.τ).loc Cert.AdamHeadIdeal.main_arg1) = m ((c.tc : Thread Cert.AdamHeadIdeal.nD Cert.AdamHeadIdeal.τ).loc Cert.AdamHeadIdeal.main_arg1)
          ∧ r.2.mem ((c.tc : Thread Cert.AdamHeadIdeal.nD Cert.AdamHeadIdeal.τ).loc Cert.AdamHeadIdeal.main_arg2) = m ((c.tc : Thread Cert.AdamHeadIdeal.nD Cert.AdamHeadIdeal.τ).loc Cert.AdamHeadIdeal.main_arg2)
          ∧ r.2.mem ((c.tc : Thread Cert.AdamHeadIdeal.nD Cert.AdamHeadIdeal.τ).loc Cert.AdamHeadIdeal.main_arg3) = m ((c.tc : Thread Cert.AdamHeadIdeal.nD Cert.AdamHeadIdeal.τ).loc Cert.AdamHeadIdeal.main_arg3))
      ∧ θ_run (Cert.AdamHeadReferenceIdeal.defs (F := Ideal)) (onTc (τ := Cert.AdamHeadReferenceIdeal.τ) (Cert.AdamHeadReferenceIdeal.main (F := Ideal))) ⟨m', fun _ => 0, g'⟩ (fun r => ∀ c : Dev Cert.AdamHeadReferenceIdeal.nD,
          r.2.mem ((c.tc : Thread Cert.AdamHeadReferenceIdeal.nD Cert.AdamHeadReferenceIdeal.τ).loc Cert.AdamHeadReferenceIdeal.main_arg1) = v0 c
          ∧ r.2.mem ((c.tc : Thread Cert.AdamHeadReferenceIdeal.nD Cert.AdamHeadReferenceIdeal.τ).loc Cert.AdamHeadReferenceIdeal.main_v23) = v1 c
          ∧ r.2.mem ((c.tc : Thread Cert.AdamHeadReferenceIdeal.nD Cert.AdamHeadReferenceIdeal.τ).loc Cert.AdamHeadReferenceIdeal.main_v4) = v2 c
          ∧ r.2.mem ((c.tc : Thread Cert.AdamHeadReferenceIdeal.nD Cert.AdamHeadReferenceIdeal.τ).loc Cert.AdamHeadReferenceIdeal.main_v10) = v3 c
          ∧ r.2.mem ((c.tc : Thread Cert.AdamHeadReferenceIdeal.nD Cert.AdamHeadReferenceIdeal.τ).loc Cert.AdamHeadReferenceIdeal.main_arg0) = m' ((c.tc : Thread Cert.AdamHeadReferenceIdeal.nD Cert.AdamHeadReferenceIdeal.τ).loc Cert.AdamHeadReferenceIdeal.main_arg0)
          ∧ r.2.mem ((c.tc : Thread Cert.AdamHeadReferenceIdeal.nD Cert.AdamHeadReferenceIdeal.τ).loc Cert.AdamHeadReferenceIdeal.main_arg1) = m' ((c.tc : Thread Cert.AdamHeadReferenceIdeal.nD Cert.AdamHeadReferenceIdeal.τ).loc Cert.AdamHeadReferenceIdeal.main_arg1)
          ∧ r.2.mem ((c.tc : Thread Cert.AdamHeadReferenceIdeal.nD Cert.AdamHeadReferenceIdeal.τ).loc Cert.AdamHeadReferenceIdeal.main_arg2) = m' ((c.tc : Thread Cert.AdamHeadReferenceIdeal.nD Cert.AdamHeadReferenceIdeal.τ).loc Cert.AdamHeadReferenceIdeal.main_arg2)
          ∧ r.2.mem ((c.tc : Thread Cert.AdamHeadReferenceIdeal.nD Cert.AdamHeadReferenceIdeal.τ).loc Cert.AdamHeadReferenceIdeal.main_arg3) = m' ((c.tc : Thread Cert.AdamHeadReferenceIdeal.nD Cert.AdamHeadReferenceIdeal.τ).loc Cert.AdamHeadReferenceIdeal.main_arg3))

def preserves_AdamSconv_AdamSconvIdeal : Prop :=
  True

def algebraic_AdamSconvIdeal_AdamSconvReferenceIdeal [hAdamSconvIdeal : Cert.AdamSconvIdeal.Facts] [hAdamSconvReferenceIdeal : Cert.AdamSconvReferenceIdeal.Facts] : Prop :=
  ∀ (m : (ℓ : Loc Cert.AdamSconvIdeal.nD Cert.AdamSconvIdeal.τ Cert.AdamSconvIdeal.sig) → Buf (Elt Ideal) ℓ) (g : Dev Cert.AdamSconvIdeal.nD → PrngReg)
    (m' : (ℓ : Loc Cert.AdamSconvReferenceIdeal.nD Cert.AdamSconvReferenceIdeal.τ Cert.AdamSconvReferenceIdeal.sig) → Buf (Elt Ideal) ℓ) (g' : Dev Cert.AdamSconvReferenceIdeal.nD → PrngReg), Pre_AdamSconvIdeal m →
    (∀ c : Dev Cert.AdamSconvIdeal.nD,
      m' ((c.tc : Thread Cert.AdamSconvReferenceIdeal.nD Cert.AdamSconvReferenceIdeal.τ).loc Cert.AdamSconvReferenceIdeal.main_arg0) = m ((c.tc : Thread Cert.AdamSconvIdeal.nD Cert.AdamSconvIdeal.τ).loc Cert.AdamSconvIdeal.main_arg0)
      ∧ m' ((c.tc : Thread Cert.AdamSconvReferenceIdeal.nD Cert.AdamSconvReferenceIdeal.τ).loc Cert.AdamSconvReferenceIdeal.main_arg1) = m ((c.tc : Thread Cert.AdamSconvIdeal.nD Cert.AdamSconvIdeal.τ).loc Cert.AdamSconvIdeal.main_arg1)
      ∧ m' ((c.tc : Thread Cert.AdamSconvReferenceIdeal.nD Cert.AdamSconvReferenceIdeal.τ).loc Cert.AdamSconvReferenceIdeal.main_arg2) = m ((c.tc : Thread Cert.AdamSconvIdeal.nD Cert.AdamSconvIdeal.τ).loc Cert.AdamSconvIdeal.main_arg2)
      ∧ m' ((c.tc : Thread Cert.AdamSconvReferenceIdeal.nD Cert.AdamSconvReferenceIdeal.τ).loc Cert.AdamSconvReferenceIdeal.main_arg3) = m ((c.tc : Thread Cert.AdamSconvIdeal.nD Cert.AdamSconvIdeal.τ).loc Cert.AdamSconvIdeal.main_arg3)) →
    ∃ (v0 : (c : Dev Cert.AdamSconvIdeal.nD) → Buf (Elt Ideal) ((c.tc : Thread Cert.AdamSconvIdeal.nD Cert.AdamSconvIdeal.τ).loc Cert.AdamSconvIdeal.main_v0_0)) (v1 : (c : Dev Cert.AdamSconvIdeal.nD) → Buf (Elt Ideal) ((c.tc : Thread Cert.AdamSconvIdeal.nD Cert.AdamSconvIdeal.τ).loc Cert.AdamSconvIdeal.main_v0_1)) (v2 : (c : Dev Cert.AdamSconvIdeal.nD) → Buf (Elt Ideal) ((c.tc : Thread Cert.AdamSconvIdeal.nD Cert.AdamSconvIdeal.τ).loc Cert.AdamSconvIdeal.main_v0_2)) (v3 : (c : Dev Cert.AdamSconvIdeal.nD) → Buf (Elt Ideal) ((c.tc : Thread Cert.AdamSconvIdeal.nD Cert.AdamSconvIdeal.τ).loc Cert.AdamSconvIdeal.main_v0_3)),
      θ_run (Cert.AdamSconvIdeal.defs (F := Ideal)) (onTc (τ := Cert.AdamSconvIdeal.τ) (Cert.AdamSconvIdeal.main (F := Ideal))) ⟨m, fun _ => 0, g⟩ (fun r => ∀ c : Dev Cert.AdamSconvIdeal.nD,
          r.2.mem ((c.tc : Thread Cert.AdamSconvIdeal.nD Cert.AdamSconvIdeal.τ).loc Cert.AdamSconvIdeal.main_v0_0) = v0 c
          ∧ r.2.mem ((c.tc : Thread Cert.AdamSconvIdeal.nD Cert.AdamSconvIdeal.τ).loc Cert.AdamSconvIdeal.main_v0_1) = v1 c
          ∧ r.2.mem ((c.tc : Thread Cert.AdamSconvIdeal.nD Cert.AdamSconvIdeal.τ).loc Cert.AdamSconvIdeal.main_v0_2) = v2 c
          ∧ r.2.mem ((c.tc : Thread Cert.AdamSconvIdeal.nD Cert.AdamSconvIdeal.τ).loc Cert.AdamSconvIdeal.main_v0_3) = v3 c
          ∧ r.2.mem ((c.tc : Thread Cert.AdamSconvIdeal.nD Cert.AdamSconvIdeal.τ).loc Cert.AdamSconvIdeal.main_arg0) = m ((c.tc : Thread Cert.AdamSconvIdeal.nD Cert.AdamSconvIdeal.τ).loc Cert.AdamSconvIdeal.main_arg0)
          ∧ r.2.mem ((c.tc : Thread Cert.AdamSconvIdeal.nD Cert.AdamSconvIdeal.τ).loc Cert.AdamSconvIdeal.main_arg1) = m ((c.tc : Thread Cert.AdamSconvIdeal.nD Cert.AdamSconvIdeal.τ).loc Cert.AdamSconvIdeal.main_arg1)
          ∧ r.2.mem ((c.tc : Thread Cert.AdamSconvIdeal.nD Cert.AdamSconvIdeal.τ).loc Cert.AdamSconvIdeal.main_arg2) = m ((c.tc : Thread Cert.AdamSconvIdeal.nD Cert.AdamSconvIdeal.τ).loc Cert.AdamSconvIdeal.main_arg2)
          ∧ r.2.mem ((c.tc : Thread Cert.AdamSconvIdeal.nD Cert.AdamSconvIdeal.τ).loc Cert.AdamSconvIdeal.main_arg3) = m ((c.tc : Thread Cert.AdamSconvIdeal.nD Cert.AdamSconvIdeal.τ).loc Cert.AdamSconvIdeal.main_arg3))
      ∧ θ_run (Cert.AdamSconvReferenceIdeal.defs (F := Ideal)) (onTc (τ := Cert.AdamSconvReferenceIdeal.τ) (Cert.AdamSconvReferenceIdeal.main (F := Ideal))) ⟨m', fun _ => 0, g'⟩ (fun r => ∀ c : Dev Cert.AdamSconvReferenceIdeal.nD,
          r.2.mem ((c.tc : Thread Cert.AdamSconvReferenceIdeal.nD Cert.AdamSconvReferenceIdeal.τ).loc Cert.AdamSconvReferenceIdeal.main_arg1) = v0 c
          ∧ r.2.mem ((c.tc : Thread Cert.AdamSconvReferenceIdeal.nD Cert.AdamSconvReferenceIdeal.τ).loc Cert.AdamSconvReferenceIdeal.main_v23) = v1 c
          ∧ r.2.mem ((c.tc : Thread Cert.AdamSconvReferenceIdeal.nD Cert.AdamSconvReferenceIdeal.τ).loc Cert.AdamSconvReferenceIdeal.main_v4) = v2 c
          ∧ r.2.mem ((c.tc : Thread Cert.AdamSconvReferenceIdeal.nD Cert.AdamSconvReferenceIdeal.τ).loc Cert.AdamSconvReferenceIdeal.main_v10) = v3 c
          ∧ r.2.mem ((c.tc : Thread Cert.AdamSconvReferenceIdeal.nD Cert.AdamSconvReferenceIdeal.τ).loc Cert.AdamSconvReferenceIdeal.main_arg0) = m' ((c.tc : Thread Cert.AdamSconvReferenceIdeal.nD Cert.AdamSconvReferenceIdeal.τ).loc Cert.AdamSconvReferenceIdeal.main_arg0)
          ∧ r.2.mem ((c.tc : Thread Cert.AdamSconvReferenceIdeal.nD Cert.AdamSconvReferenceIdeal.τ).loc Cert.AdamSconvReferenceIdeal.main_arg1) = m' ((c.tc : Thread Cert.AdamSconvReferenceIdeal.nD Cert.AdamSconvReferenceIdeal.τ).loc Cert.AdamSconvReferenceIdeal.main_arg1)
          ∧ r.2.mem ((c.tc : Thread Cert.AdamSconvReferenceIdeal.nD Cert.AdamSconvReferenceIdeal.τ).loc Cert.AdamSconvReferenceIdeal.main_arg2) = m' ((c.tc : Thread Cert.AdamSconvReferenceIdeal.nD Cert.AdamSconvReferenceIdeal.τ).loc Cert.AdamSconvReferenceIdeal.main_arg2)
          ∧ r.2.mem ((c.tc : Thread Cert.AdamSconvReferenceIdeal.nD Cert.AdamSconvReferenceIdeal.τ).loc Cert.AdamSconvReferenceIdeal.main_arg3) = m' ((c.tc : Thread Cert.AdamSconvReferenceIdeal.nD Cert.AdamSconvReferenceIdeal.τ).loc Cert.AdamSconvReferenceIdeal.main_arg3))

def preserves_AdamFconv_AdamFconvIdeal : Prop :=
  True

def algebraic_AdamFconvIdeal_AdamFconvReferenceIdeal [hAdamFconvIdeal : Cert.AdamFconvIdeal.Facts] [hAdamFconvReferenceIdeal : Cert.AdamFconvReferenceIdeal.Facts] : Prop :=
  ∀ (m : (ℓ : Loc Cert.AdamFconvIdeal.nD Cert.AdamFconvIdeal.τ Cert.AdamFconvIdeal.sig) → Buf (Elt Ideal) ℓ) (g : Dev Cert.AdamFconvIdeal.nD → PrngReg)
    (m' : (ℓ : Loc Cert.AdamFconvReferenceIdeal.nD Cert.AdamFconvReferenceIdeal.τ Cert.AdamFconvReferenceIdeal.sig) → Buf (Elt Ideal) ℓ) (g' : Dev Cert.AdamFconvReferenceIdeal.nD → PrngReg), Pre_AdamFconvIdeal m →
    (∀ c : Dev Cert.AdamFconvIdeal.nD,
      m' ((c.tc : Thread Cert.AdamFconvReferenceIdeal.nD Cert.AdamFconvReferenceIdeal.τ).loc Cert.AdamFconvReferenceIdeal.main_arg0) = m ((c.tc : Thread Cert.AdamFconvIdeal.nD Cert.AdamFconvIdeal.τ).loc Cert.AdamFconvIdeal.main_arg0)
      ∧ m' ((c.tc : Thread Cert.AdamFconvReferenceIdeal.nD Cert.AdamFconvReferenceIdeal.τ).loc Cert.AdamFconvReferenceIdeal.main_arg1) = m ((c.tc : Thread Cert.AdamFconvIdeal.nD Cert.AdamFconvIdeal.τ).loc Cert.AdamFconvIdeal.main_arg1)
      ∧ m' ((c.tc : Thread Cert.AdamFconvReferenceIdeal.nD Cert.AdamFconvReferenceIdeal.τ).loc Cert.AdamFconvReferenceIdeal.main_arg2) = m ((c.tc : Thread Cert.AdamFconvIdeal.nD Cert.AdamFconvIdeal.τ).loc Cert.AdamFconvIdeal.main_arg2)
      ∧ m' ((c.tc : Thread Cert.AdamFconvReferenceIdeal.nD Cert.AdamFconvReferenceIdeal.τ).loc Cert.AdamFconvReferenceIdeal.main_arg3) = m ((c.tc : Thread Cert.AdamFconvIdeal.nD Cert.AdamFconvIdeal.τ).loc Cert.AdamFconvIdeal.main_arg3)) →
    ∃ (v0 : (c : Dev Cert.AdamFconvIdeal.nD) → Buf (Elt Ideal) ((c.tc : Thread Cert.AdamFconvIdeal.nD Cert.AdamFconvIdeal.τ).loc Cert.AdamFconvIdeal.main_v0_0)) (v1 : (c : Dev Cert.AdamFconvIdeal.nD) → Buf (Elt Ideal) ((c.tc : Thread Cert.AdamFconvIdeal.nD Cert.AdamFconvIdeal.τ).loc Cert.AdamFconvIdeal.main_v0_1)) (v2 : (c : Dev Cert.AdamFconvIdeal.nD) → Buf (Elt Ideal) ((c.tc : Thread Cert.AdamFconvIdeal.nD Cert.AdamFconvIdeal.τ).loc Cert.AdamFconvIdeal.main_v0_2)) (v3 : (c : Dev Cert.AdamFconvIdeal.nD) → Buf (Elt Ideal) ((c.tc : Thread Cert.AdamFconvIdeal.nD Cert.AdamFconvIdeal.τ).loc Cert.AdamFconvIdeal.main_v0_3)),
      θ_run (Cert.AdamFconvIdeal.defs (F := Ideal)) (onTc (τ := Cert.AdamFconvIdeal.τ) (Cert.AdamFconvIdeal.main (F := Ideal))) ⟨m, fun _ => 0, g⟩ (fun r => ∀ c : Dev Cert.AdamFconvIdeal.nD,
          r.2.mem ((c.tc : Thread Cert.AdamFconvIdeal.nD Cert.AdamFconvIdeal.τ).loc Cert.AdamFconvIdeal.main_v0_0) = v0 c
          ∧ r.2.mem ((c.tc : Thread Cert.AdamFconvIdeal.nD Cert.AdamFconvIdeal.τ).loc Cert.AdamFconvIdeal.main_v0_1) = v1 c
          ∧ r.2.mem ((c.tc : Thread Cert.AdamFconvIdeal.nD Cert.AdamFconvIdeal.τ).loc Cert.AdamFconvIdeal.main_v0_2) = v2 c
          ∧ r.2.mem ((c.tc : Thread Cert.AdamFconvIdeal.nD Cert.AdamFconvIdeal.τ).loc Cert.AdamFconvIdeal.main_v0_3) = v3 c
          ∧ r.2.mem ((c.tc : Thread Cert.AdamFconvIdeal.nD Cert.AdamFconvIdeal.τ).loc Cert.AdamFconvIdeal.main_arg0) = m ((c.tc : Thread Cert.AdamFconvIdeal.nD Cert.AdamFconvIdeal.τ).loc Cert.AdamFconvIdeal.main_arg0)
          ∧ r.2.mem ((c.tc : Thread Cert.AdamFconvIdeal.nD Cert.AdamFconvIdeal.τ).loc Cert.AdamFconvIdeal.main_arg1) = m ((c.tc : Thread Cert.AdamFconvIdeal.nD Cert.AdamFconvIdeal.τ).loc Cert.AdamFconvIdeal.main_arg1)
          ∧ r.2.mem ((c.tc : Thread Cert.AdamFconvIdeal.nD Cert.AdamFconvIdeal.τ).loc Cert.AdamFconvIdeal.main_arg2) = m ((c.tc : Thread Cert.AdamFconvIdeal.nD Cert.AdamFconvIdeal.τ).loc Cert.AdamFconvIdeal.main_arg2)
          ∧ r.2.mem ((c.tc : Thread Cert.AdamFconvIdeal.nD Cert.AdamFconvIdeal.τ).loc Cert.AdamFconvIdeal.main_arg3) = m ((c.tc : Thread Cert.AdamFconvIdeal.nD Cert.AdamFconvIdeal.τ).loc Cert.AdamFconvIdeal.main_arg3))
      ∧ θ_run (Cert.AdamFconvReferenceIdeal.defs (F := Ideal)) (onTc (τ := Cert.AdamFconvReferenceIdeal.τ) (Cert.AdamFconvReferenceIdeal.main (F := Ideal))) ⟨m', fun _ => 0, g'⟩ (fun r => ∀ c : Dev Cert.AdamFconvReferenceIdeal.nD,
          r.2.mem ((c.tc : Thread Cert.AdamFconvReferenceIdeal.nD Cert.AdamFconvReferenceIdeal.τ).loc Cert.AdamFconvReferenceIdeal.main_arg1) = v0 c
          ∧ r.2.mem ((c.tc : Thread Cert.AdamFconvReferenceIdeal.nD Cert.AdamFconvReferenceIdeal.τ).loc Cert.AdamFconvReferenceIdeal.main_v23) = v1 c
          ∧ r.2.mem ((c.tc : Thread Cert.AdamFconvReferenceIdeal.nD Cert.AdamFconvReferenceIdeal.τ).loc Cert.AdamFconvReferenceIdeal.main_v4) = v2 c
          ∧ r.2.mem ((c.tc : Thread Cert.AdamFconvReferenceIdeal.nD Cert.AdamFconvReferenceIdeal.τ).loc Cert.AdamFconvReferenceIdeal.main_v10) = v3 c
          ∧ r.2.mem ((c.tc : Thread Cert.AdamFconvReferenceIdeal.nD Cert.AdamFconvReferenceIdeal.τ).loc Cert.AdamFconvReferenceIdeal.main_arg0) = m' ((c.tc : Thread Cert.AdamFconvReferenceIdeal.nD Cert.AdamFconvReferenceIdeal.τ).loc Cert.AdamFconvReferenceIdeal.main_arg0)
          ∧ r.2.mem ((c.tc : Thread Cert.AdamFconvReferenceIdeal.nD Cert.AdamFconvReferenceIdeal.τ).loc Cert.AdamFconvReferenceIdeal.main_arg1) = m' ((c.tc : Thread Cert.AdamFconvReferenceIdeal.nD Cert.AdamFconvReferenceIdeal.τ).loc Cert.AdamFconvReferenceIdeal.main_arg1)
          ∧ r.2.mem ((c.tc : Thread Cert.AdamFconvReferenceIdeal.nD Cert.AdamFconvReferenceIdeal.τ).loc Cert.AdamFconvReferenceIdeal.main_arg2) = m' ((c.tc : Thread Cert.AdamFconvReferenceIdeal.nD Cert.AdamFconvReferenceIdeal.τ).loc Cert.AdamFconvReferenceIdeal.main_arg2)
          ∧ r.2.mem ((c.tc : Thread Cert.AdamFconvReferenceIdeal.nD Cert.AdamFconvReferenceIdeal.τ).loc Cert.AdamFconvReferenceIdeal.main_arg3) = m' ((c.tc : Thread Cert.AdamFconvReferenceIdeal.nD Cert.AdamFconvReferenceIdeal.τ).loc Cert.AdamFconvReferenceIdeal.main_arg3))

def preserves_AdamFbias_AdamFbiasIdeal : Prop :=
  True

def algebraic_AdamFbiasIdeal_AdamFbiasReferenceIdeal [hAdamFbiasIdeal : Cert.AdamFbiasIdeal.Facts] [hAdamFbiasReferenceIdeal : Cert.AdamFbiasReferenceIdeal.Facts] : Prop :=
  ∀ (m : (ℓ : Loc Cert.AdamFbiasIdeal.nD Cert.AdamFbiasIdeal.τ Cert.AdamFbiasIdeal.sig) → Buf (Elt Ideal) ℓ) (g : Dev Cert.AdamFbiasIdeal.nD → PrngReg)
    (m' : (ℓ : Loc Cert.AdamFbiasReferenceIdeal.nD Cert.AdamFbiasReferenceIdeal.τ Cert.AdamFbiasReferenceIdeal.sig) → Buf (Elt Ideal) ℓ) (g' : Dev Cert.AdamFbiasReferenceIdeal.nD → PrngReg), Pre_AdamFbiasIdeal m →
    (∀ c : Dev Cert.AdamFbiasIdeal.nD,
      m' ((c.tc : Thread Cert.AdamFbiasReferenceIdeal.nD Cert.AdamFbiasReferenceIdeal.τ).loc Cert.AdamFbiasReferenceIdeal.main_arg0) = m ((c.tc : Thread Cert.AdamFbiasIdeal.nD Cert.AdamFbiasIdeal.τ).loc Cert.AdamFbiasIdeal.main_arg0)
      ∧ m' ((c.tc : Thread Cert.AdamFbiasReferenceIdeal.nD Cert.AdamFbiasReferenceIdeal.τ).loc Cert.AdamFbiasReferenceIdeal.main_arg1) = m ((c.tc : Thread Cert.AdamFbiasIdeal.nD Cert.AdamFbiasIdeal.τ).loc Cert.AdamFbiasIdeal.main_arg1)
      ∧ m' ((c.tc : Thread Cert.AdamFbiasReferenceIdeal.nD Cert.AdamFbiasReferenceIdeal.τ).loc Cert.AdamFbiasReferenceIdeal.main_arg2) = m ((c.tc : Thread Cert.AdamFbiasIdeal.nD Cert.AdamFbiasIdeal.τ).loc Cert.AdamFbiasIdeal.main_arg2)
      ∧ m' ((c.tc : Thread Cert.AdamFbiasReferenceIdeal.nD Cert.AdamFbiasReferenceIdeal.τ).loc Cert.AdamFbiasReferenceIdeal.main_arg3) = m ((c.tc : Thread Cert.AdamFbiasIdeal.nD Cert.AdamFbiasIdeal.τ).loc Cert.AdamFbiasIdeal.main_arg3)) →
    ∃ (v0 : (c : Dev Cert.AdamFbiasIdeal.nD) → Buf (Elt Ideal) ((c.tc : Thread Cert.AdamFbiasIdeal.nD Cert.AdamFbiasIdeal.τ).loc Cert.AdamFbiasIdeal.main_v0_0)) (v1 : (c : Dev Cert.AdamFbiasIdeal.nD) → Buf (Elt Ideal) ((c.tc : Thread Cert.AdamFbiasIdeal.nD Cert.AdamFbiasIdeal.τ).loc Cert.AdamFbiasIdeal.main_v0_1)) (v2 : (c : Dev Cert.AdamFbiasIdeal.nD) → Buf (Elt Ideal) ((c.tc : Thread Cert.AdamFbiasIdeal.nD Cert.AdamFbiasIdeal.τ).loc Cert.AdamFbiasIdeal.main_v0_2)) (v3 : (c : Dev Cert.AdamFbiasIdeal.nD) → Buf (Elt Ideal) ((c.tc : Thread Cert.AdamFbiasIdeal.nD Cert.AdamFbiasIdeal.τ).loc Cert.AdamFbiasIdeal.main_v0_3)),
      θ_run (Cert.AdamFbiasIdeal.defs (F := Ideal)) (onTc (τ := Cert.AdamFbiasIdeal.τ) (Cert.AdamFbiasIdeal.main (F := Ideal))) ⟨m, fun _ => 0, g⟩ (fun r => ∀ c : Dev Cert.AdamFbiasIdeal.nD,
          r.2.mem ((c.tc : Thread Cert.AdamFbiasIdeal.nD Cert.AdamFbiasIdeal.τ).loc Cert.AdamFbiasIdeal.main_v0_0) = v0 c
          ∧ r.2.mem ((c.tc : Thread Cert.AdamFbiasIdeal.nD Cert.AdamFbiasIdeal.τ).loc Cert.AdamFbiasIdeal.main_v0_1) = v1 c
          ∧ r.2.mem ((c.tc : Thread Cert.AdamFbiasIdeal.nD Cert.AdamFbiasIdeal.τ).loc Cert.AdamFbiasIdeal.main_v0_2) = v2 c
          ∧ r.2.mem ((c.tc : Thread Cert.AdamFbiasIdeal.nD Cert.AdamFbiasIdeal.τ).loc Cert.AdamFbiasIdeal.main_v0_3) = v3 c
          ∧ r.2.mem ((c.tc : Thread Cert.AdamFbiasIdeal.nD Cert.AdamFbiasIdeal.τ).loc Cert.AdamFbiasIdeal.main_arg0) = m ((c.tc : Thread Cert.AdamFbiasIdeal.nD Cert.AdamFbiasIdeal.τ).loc Cert.AdamFbiasIdeal.main_arg0)
          ∧ r.2.mem ((c.tc : Thread Cert.AdamFbiasIdeal.nD Cert.AdamFbiasIdeal.τ).loc Cert.AdamFbiasIdeal.main_arg1) = m ((c.tc : Thread Cert.AdamFbiasIdeal.nD Cert.AdamFbiasIdeal.τ).loc Cert.AdamFbiasIdeal.main_arg1)
          ∧ r.2.mem ((c.tc : Thread Cert.AdamFbiasIdeal.nD Cert.AdamFbiasIdeal.τ).loc Cert.AdamFbiasIdeal.main_arg2) = m ((c.tc : Thread Cert.AdamFbiasIdeal.nD Cert.AdamFbiasIdeal.τ).loc Cert.AdamFbiasIdeal.main_arg2)
          ∧ r.2.mem ((c.tc : Thread Cert.AdamFbiasIdeal.nD Cert.AdamFbiasIdeal.τ).loc Cert.AdamFbiasIdeal.main_arg3) = m ((c.tc : Thread Cert.AdamFbiasIdeal.nD Cert.AdamFbiasIdeal.τ).loc Cert.AdamFbiasIdeal.main_arg3))
      ∧ θ_run (Cert.AdamFbiasReferenceIdeal.defs (F := Ideal)) (onTc (τ := Cert.AdamFbiasReferenceIdeal.τ) (Cert.AdamFbiasReferenceIdeal.main (F := Ideal))) ⟨m', fun _ => 0, g'⟩ (fun r => ∀ c : Dev Cert.AdamFbiasReferenceIdeal.nD,
          r.2.mem ((c.tc : Thread Cert.AdamFbiasReferenceIdeal.nD Cert.AdamFbiasReferenceIdeal.τ).loc Cert.AdamFbiasReferenceIdeal.main_arg1) = v0 c
          ∧ r.2.mem ((c.tc : Thread Cert.AdamFbiasReferenceIdeal.nD Cert.AdamFbiasReferenceIdeal.τ).loc Cert.AdamFbiasReferenceIdeal.main_v23) = v1 c
          ∧ r.2.mem ((c.tc : Thread Cert.AdamFbiasReferenceIdeal.nD Cert.AdamFbiasReferenceIdeal.τ).loc Cert.AdamFbiasReferenceIdeal.main_v4) = v2 c
          ∧ r.2.mem ((c.tc : Thread Cert.AdamFbiasReferenceIdeal.nD Cert.AdamFbiasReferenceIdeal.τ).loc Cert.AdamFbiasReferenceIdeal.main_v10) = v3 c
          ∧ r.2.mem ((c.tc : Thread Cert.AdamFbiasReferenceIdeal.nD Cert.AdamFbiasReferenceIdeal.τ).loc Cert.AdamFbiasReferenceIdeal.main_arg0) = m' ((c.tc : Thread Cert.AdamFbiasReferenceIdeal.nD Cert.AdamFbiasReferenceIdeal.τ).loc Cert.AdamFbiasReferenceIdeal.main_arg0)
          ∧ r.2.mem ((c.tc : Thread Cert.AdamFbiasReferenceIdeal.nD Cert.AdamFbiasReferenceIdeal.τ).loc Cert.AdamFbiasReferenceIdeal.main_arg1) = m' ((c.tc : Thread Cert.AdamFbiasReferenceIdeal.nD Cert.AdamFbiasReferenceIdeal.τ).loc Cert.AdamFbiasReferenceIdeal.main_arg1)
          ∧ r.2.mem ((c.tc : Thread Cert.AdamFbiasReferenceIdeal.nD Cert.AdamFbiasReferenceIdeal.τ).loc Cert.AdamFbiasReferenceIdeal.main_arg2) = m' ((c.tc : Thread Cert.AdamFbiasReferenceIdeal.nD Cert.AdamFbiasReferenceIdeal.τ).loc Cert.AdamFbiasReferenceIdeal.main_arg2)
          ∧ r.2.mem ((c.tc : Thread Cert.AdamFbiasReferenceIdeal.nD Cert.AdamFbiasReferenceIdeal.τ).loc Cert.AdamFbiasReferenceIdeal.main_arg3) = m' ((c.tc : Thread Cert.AdamFbiasReferenceIdeal.nD Cert.AdamFbiasReferenceIdeal.τ).loc Cert.AdamFbiasReferenceIdeal.main_arg3))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)
      ∧ m' ((c.tc : Thread Cert.AdamInReferenceIdeal.nD Cert.AdamInReferenceIdeal.τ).loc Cert.AdamInReferenceIdeal.main_arg4) = m ((c.tc : Thread Cert.AdamInIdeal.nD Cert.AdamInIdeal.τ).loc Cert.AdamInIdeal.main_arg4)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v0) = v0 c
          ∧ r.2.mem ((c.tc : Thread Cert.AdamInReferenceIdeal.nD Cert.AdamInReferenceIdeal.τ).loc Cert.AdamInReferenceIdeal.main_v24) = v1 c
          ∧ r.2.mem ((c.tc : Thread Cert.AdamInReferenceIdeal.nD Cert.AdamInReferenceIdeal.τ).loc Cert.AdamInReferenceIdeal.main_v5) = v2 c
          ∧ r.2.mem ((c.tc : Thread Cert.AdamInReferenceIdeal.nD Cert.AdamInReferenceIdeal.τ).loc Cert.AdamInReferenceIdeal.main_v11) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3)
          ∧ r.2.mem ((c.tc : Thread Cert.AdamInReferenceIdeal.nD Cert.AdamInReferenceIdeal.τ).loc Cert.AdamInReferenceIdeal.main_arg4) = m' ((c.tc : Thread Cert.AdamInReferenceIdeal.nD Cert.AdamInReferenceIdeal.τ).loc Cert.AdamInReferenceIdeal.main_arg4))

def preserves_AdamSquare_AdamSquareIdeal : Prop :=
  True

def algebraic_AdamSquareIdeal_AdamSquareReferenceIdeal [hAdamSquareIdeal : Cert.AdamSquareIdeal.Facts] [hAdamSquareReferenceIdeal : Cert.AdamSquareReferenceIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareReferenceIdeal.nD Cert.AdamSquareReferenceIdeal.τ Cert.AdamSquareReferenceIdeal.sig) → Buf (Elt Ideal) ℓ) (g' : Dev Cert.AdamSquareReferenceIdeal.nD → PrngReg), Pre_AdamSquareIdeal m →
    (∀ c : Dev Cert.AdamSquareIdeal.nD,
      m' ((c.tc : Thread Cert.AdamSquareReferenceIdeal.nD Cert.AdamSquareReferenceIdeal.τ).loc Cert.AdamSquareReferenceIdeal.main_arg0) = m ((c.tc : Thread Cert.AdamSquareIdeal.nD Cert.AdamSquareIdeal.τ).loc Cert.AdamSquareIdeal.main_arg0)
      ∧ m' ((c.tc : Thread Cert.AdamSquareReferenceIdeal.nD Cert.AdamSquareReferenceIdeal.τ).loc Cert.AdamSquareReferenceIdeal.main_arg1) = m ((c.tc : Thread Cert.AdamSquareIdeal.nD Cert.AdamSquareIdeal.τ).loc Cert.AdamSquareIdeal.main_arg1)
      ∧ m' ((c.tc : Thread Cert.AdamSquareReferenceIdeal.nD Cert.AdamSquareReferenceIdeal.τ).loc Cert.AdamSquareReferenceIdeal.main_arg2) = m ((c.tc : Thread Cert.AdamSquareIdeal.nD Cert.AdamSquareIdeal.τ).loc Cert.AdamSquareIdeal.main_arg2)
      ∧ m' ((c.tc : Thread Cert.AdamSquareReferenceIdeal.nD Cert.AdamSquareReferenceIdeal.τ).loc Cert.AdamSquareReferenceIdeal.main_arg3) = m ((c.tc : Thread Cert.AdamSquareIdeal.nD Cert.AdamSquareIdeal.τ).loc Cert.AdamSquareIdeal.main_arg3)
      ∧ m' ((c.tc : Thread Cert.AdamSquareReferenceIdeal.nD Cert.AdamSquareReferenceIdeal.τ).loc Cert.AdamSquareReferenceIdeal.main_arg4) = m ((c.tc : Thread Cert.AdamSquareIdeal.nD Cert.AdamSquareIdeal.τ).loc Cert.AdamSquareIdeal.main_arg4)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3)
          ∧ r.2.mem ((c.tc : Thread Cert.AdamSquareIdeal.nD Cert.AdamSquareIdeal.τ).loc Cert.AdamSquareIdeal.main_arg4) = m ((c.tc : Thread Cert.AdamSquareIdeal.nD Cert.AdamSquareIdeal.τ).loc Cert.AdamSquareIdeal.main_arg4))
      ∧ θ_run (Cert.AdamSquareReferenceIdeal.defs (F := Ideal)) (onTc (τ := Cert.AdamSquareReferenceIdeal.τ) (Cert.AdamSquareReferenceIdeal.main (F := Ideal))) ⟨m', fun _ => 0, g'⟩ (fun r => ∀ c : Dev Cert.AdamSquareReferenceIdeal.nD,
          r.2.mem ((c.tc : Thread Cert.AdamSquareReferenceIdeal.nD Cert.AdamSquareReferenceIdeal.τ).loc Cert.AdamSquareReferenceIdeal.main_v0) = v0 c
          ∧ r.2.mem ((c.tc : Thread Cert.AdamSquareReferenceIdeal.nD Cert.AdamSquareReferenceIdeal.τ).loc Cert.AdamSquareReferenceIdeal.main_v24) = v1 c
          ∧ r.2.mem ((c.tc : Thread Cert.AdamSquareReferenceIdeal.nD Cert.AdamSquareReferenceIdeal.τ).loc Cert.AdamSquareReferenceIdeal.main_v5) = v2 c
          ∧ r.2.mem ((c.tc : Thread Cert.AdamSquareReferenceIdeal.nD Cert.AdamSquareReferenceIdeal.τ).loc Cert.AdamSquareReferenceIdeal.main_v11) = v3 c
          ∧ r.2.mem ((c.tc : Thread Cert.AdamSquareReferenceIdeal.nD Cert.AdamSquareReferenceIdeal.τ).loc Cert.AdamSquareReferenceIdeal.main_arg0) = m' ((c.tc : Thread Cert.AdamSquareReferenceIdeal.nD Cert.AdamSquareReferenceIdeal.τ).loc Cert.AdamSquareReferenceIdeal.main_arg0)
          ∧ r.2.mem ((c.tc : Thread Cert.AdamSquareReferenceIdeal.nD Cert.AdamSquareReferenceIdeal.τ).loc Cert.AdamSquareReferenceIdeal.main_arg1) = m' ((c.tc : Thread Cert.AdamSquareReferenceIdeal.nD Cert.AdamSquareReferenceIdeal.τ).loc Cert.AdamSquareReferenceIdeal.main_arg1)
          ∧ r.2.mem ((c.tc : Thread Cert.AdamSquareReferenceIdeal.nD Cert.AdamSquareReferenceIdeal.τ).loc Cert.AdamSquareReferenceIdeal.main_arg2) = m' ((c.tc : Thread Cert.AdamSquareReferenceIdeal.nD Cert.AdamSquareReferenceIdeal.τ).loc Cert.AdamSquareReferenceIdeal.main_arg2)
          ∧ r.2.mem ((c.tc : Thread Cert.AdamSquareReferenceIdeal.nD Cert.AdamSquareReferenceIdeal.τ).loc Cert.AdamSquareReferenceIdeal.main_arg3) = m' ((c.tc : Thread Cert.AdamSquareReferenceIdeal.nD Cert.AdamSquareReferenceIdeal.τ).loc Cert.AdamSquareReferenceIdeal.main_arg3)
          ∧ r.2.mem ((c.tc : Thread Cert.AdamSquareReferenceIdeal.nD Cert.AdamSquareReferenceIdeal.τ).loc Cert.AdamSquareReferenceIdeal.main_arg4) = m' ((c.tc : Thread Cert.AdamSquareReferenceIdeal.nD Cert.AdamSquareReferenceIdeal.τ).loc Cert.AdamSquareReferenceIdeal.main_arg4))

def preserves_AdamFfn_AdamFfnIdeal : Prop :=
  True

def algebraic_AdamFfnIdeal_AdamFfnReferenceIdeal [hAdamFfnIdeal : Cert.AdamFfnIdeal.Facts] [hAdamFfnReferenceIdeal : Cert.AdamFfnReferenceIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnReferenceIdeal.nD Cert.AdamFfnReferenceIdeal.τ Cert.AdamFfnReferenceIdeal.sig) → Buf (Elt Ideal) ℓ) (g' : Dev Cert.AdamFfnReferenceIdeal.nD → PrngReg), Pre_AdamFfnIdeal m →
    (∀ c : Dev Cert.AdamFfnIdeal.nD,
      m' ((c.tc : Thread Cert.AdamFfnReferenceIdeal.nD Cert.AdamFfnReferenceIdeal.τ).loc Cert.AdamFfnReferenceIdeal.main_arg0) = m ((c.tc : Thread Cert.AdamFfnIdeal.nD Cert.AdamFfnIdeal.τ).loc Cert.AdamFfnIdeal.main_arg0)
      ∧ m' ((c.tc : Thread Cert.AdamFfnReferenceIdeal.nD Cert.AdamFfnReferenceIdeal.τ).loc Cert.AdamFfnReferenceIdeal.main_arg1) = m ((c.tc : Thread Cert.AdamFfnIdeal.nD Cert.AdamFfnIdeal.τ).loc Cert.AdamFfnIdeal.main_arg1)
      ∧ m' ((c.tc : Thread Cert.AdamFfnReferenceIdeal.nD Cert.AdamFfnReferenceIdeal.τ).loc Cert.AdamFfnReferenceIdeal.main_arg2) = m ((c.tc : Thread Cert.AdamFfnIdeal.nD Cert.AdamFfnIdeal.τ).loc Cert.AdamFfnIdeal.main_arg2)
      ∧ m' ((c.tc : Thread Cert.AdamFfnReferenceIdeal.nD Cert.AdamFfnReferenceIdeal.τ).loc Cert.AdamFfnReferenceIdeal.main_arg3) = m ((c.tc : Thread Cert.AdamFfnIdeal.nD Cert.AdamFfnIdeal.τ).loc Cert.AdamFfnIdeal.main_arg3)
      ∧ m' ((c.tc : Thread Cert.AdamFfnReferenceIdeal.nD Cert.AdamFfnReferenceIdeal.τ).loc Cert.AdamFfnReferenceIdeal.main_arg4) = m ((c.tc : Thread Cert.AdamFfnIdeal.nD Cert.AdamFfnIdeal.τ).loc Cert.AdamFfnIdeal.main_arg4)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3)
          ∧ r.2.mem ((c.tc : Thread Cert.AdamFfnIdeal.nD Cert.AdamFfnIdeal.τ).loc Cert.AdamFfnIdeal.main_arg4) = m ((c.tc : Thread Cert.AdamFfnIdeal.nD Cert.AdamFfnIdeal.τ).loc Cert.AdamFfnIdeal.main_arg4))
      ∧ θ_run (Cert.AdamFfnReferenceIdeal.defs (F := Ideal)) (onTc (τ := Cert.AdamFfnReferenceIdeal.τ) (Cert.AdamFfnReferenceIdeal.main (F := Ideal))) ⟨m', fun _ => 0, g'⟩ (fun r => ∀ c : Dev Cert.AdamFfnReferenceIdeal.nD,
          r.2.mem ((c.tc : Thread Cert.AdamFfnReferenceIdeal.nD Cert.AdamFfnReferenceIdeal.τ).loc Cert.AdamFfnReferenceIdeal.main_v0) = v0 c
          ∧ r.2.mem ((c.tc : Thread Cert.AdamFfnReferenceIdeal.nD Cert.AdamFfnReferenceIdeal.τ).loc Cert.AdamFfnReferenceIdeal.main_v24) = v1 c
          ∧ r.2.mem ((c.tc : Thread Cert.AdamFfnReferenceIdeal.nD Cert.AdamFfnReferenceIdeal.τ).loc Cert.AdamFfnReferenceIdeal.main_v5) = v2 c
          ∧ r.2.mem ((c.tc : Thread Cert.AdamFfnReferenceIdeal.nD Cert.AdamFfnReferenceIdeal.τ).loc Cert.AdamFfnReferenceIdeal.main_v11) = v3 c
          ∧ r.2.mem ((c.tc : Thread Cert.AdamFfnReferenceIdeal.nD Cert.AdamFfnReferenceIdeal.τ).loc Cert.AdamFfnReferenceIdeal.main_arg0) = m' ((c.tc : Thread Cert.AdamFfnReferenceIdeal.nD Cert.AdamFfnReferenceIdeal.τ).loc Cert.AdamFfnReferenceIdeal.main_arg0)
          ∧ r.2.mem ((c.tc : Thread Cert.AdamFfnReferenceIdeal.nD Cert.AdamFfnReferenceIdeal.τ).loc Cert.AdamFfnReferenceIdeal.main_arg1) = m' ((c.tc : Thread Cert.AdamFfnReferenceIdeal.nD Cert.AdamFfnReferenceIdeal.τ).loc Cert.AdamFfnReferenceIdeal.main_arg1)
          ∧ r.2.mem ((c.tc : Thread Cert.AdamFfnReferenceIdeal.nD Cert.AdamFfnReferenceIdeal.τ).loc Cert.AdamFfnReferenceIdeal.main_arg2) = m' ((c.tc : Thread Cert.AdamFfnReferenceIdeal.nD Cert.AdamFfnReferenceIdeal.τ).loc Cert.AdamFfnReferenceIdeal.main_arg2)
          ∧ r.2.mem ((c.tc : Thread Cert.AdamFfnReferenceIdeal.nD Cert.AdamFfnReferenceIdeal.τ).loc Cert.AdamFfnReferenceIdeal.main_arg3) = m' ((c.tc : Thread Cert.AdamFfnReferenceIdeal.nD Cert.AdamFfnReferenceIdeal.τ).loc Cert.AdamFfnReferenceIdeal.main_arg3)
          ∧ r.2.mem ((c.tc : Thread Cert.AdamFfnReferenceIdeal.nD Cert.AdamFfnReferenceIdeal.τ).loc Cert.AdamFfnReferenceIdeal.main_arg4) = m' ((c.tc : Thread Cert.AdamFfnReferenceIdeal.nD Cert.AdamFfnReferenceIdeal.τ).loc Cert.AdamFfnReferenceIdeal.main_arg4))

def preserves_AdamDown_AdamDownIdeal : Prop :=
  True

def algebraic_AdamDownIdeal_AdamDownReferenceIdeal [hAdamDownIdeal : Cert.AdamDownIdeal.Facts] [hAdamDownReferenceIdeal : Cert.AdamDownReferenceIdeal.Facts] : Prop :=
  ∀ (m : (ℓ : Loc Cert.AdamDownIdeal.nD Cert.AdamDownIdeal.τ Cert.AdamDownIdeal.sig) → Buf (Elt Ideal) ℓ) (g : Dev Cert.AdamDownIdeal.nD → PrngReg)
    (m' : (ℓ : Loc Cert.AdamDownReferenceIdeal.nD Cert.AdamDownReferenceIdeal.τ Cert.AdamDownReferenceIdeal.sig) → Buf (Elt Ideal) ℓ) (g' : Dev Cert.AdamDownReferenceIdeal.nD → PrngReg), Pre_AdamDownIdeal m →
    (∀ c : Dev Cert.AdamDownIdeal.nD,
      m' ((c.tc : Thread Cert.AdamDownReferenceIdeal.nD Cert.AdamDownReferenceIdeal.τ).loc Cert.AdamDownReferenceIdeal.main_arg0) = m ((c.tc : Thread Cert.AdamDownIdeal.nD Cert.AdamDownIdeal.τ).loc Cert.AdamDownIdeal.main_arg0)
      ∧ m' ((c.tc : Thread Cert.AdamDownReferenceIdeal.nD Cert.AdamDownReferenceIdeal.τ).loc Cert.AdamDownReferenceIdeal.main_arg1) = m ((c.tc : Thread Cert.AdamDownIdeal.nD Cert.AdamDownIdeal.τ).loc Cert.AdamDownIdeal.main_arg1)
      ∧ m' ((c.tc : Thread Cert.AdamDownReferenceIdeal.nD Cert.AdamDownReferenceIdeal.τ).loc Cert.AdamDownReferenceIdeal.main_arg2) = m ((c.tc : Thread Cert.AdamDownIdeal.nD Cert.AdamDownIdeal.τ).loc Cert.AdamDownIdeal.main_arg2)
      ∧ m' ((c.tc : Thread Cert.AdamDownReferenceIdeal.nD Cert.AdamDownReferenceIdeal.τ).loc Cert.AdamDownReferenceIdeal.main_arg3) = m ((c.tc : Thread Cert.AdamDownIdeal.nD Cert.AdamDownIdeal.τ).loc Cert.AdamDownIdeal.main_arg3)
      ∧ m' ((c.tc : Thread Cert.AdamDownReferenceIdeal.nD Cert.AdamDownReferenceIdeal.τ).loc Cert.AdamDownReferenceIdeal.main_arg4) = m ((c.tc : Thread Cert.AdamDownIdeal.nD Cert.AdamDownIdeal.τ).loc Cert.AdamDownIdeal.main_arg4)) →
    ∃ (v0 : (c : Dev Cert.AdamDownIdeal.nD) → Buf (Elt Ideal) ((c.tc : Thread Cert.AdamDownIdeal.nD Cert.AdamDownIdeal.τ).loc Cert.AdamDownIdeal.main_v0_0)) (v1 : (c : Dev Cert.AdamDownIdeal.nD) → Buf (Elt Ideal) ((c.tc : Thread Cert.AdamDownIdeal.nD Cert.AdamDownIdeal.τ).loc Cert.AdamDownIdeal.main_v0_1)) (v2 : (c : Dev Cert.AdamDownIdeal.nD) → Buf (Elt Ideal) ((c.tc : Thread Cert.AdamDownIdeal.nD Cert.AdamDownIdeal.τ).loc Cert.AdamDownIdeal.main_v0_2)) (v3 : (c : Dev Cert.AdamDownIdeal.nD) → Buf (Elt Ideal) ((c.tc : Thread Cert.AdamDownIdeal.nD Cert.AdamDownIdeal.τ).loc Cert.AdamDownIdeal.main_v0_3)),
      θ_run (Cert.AdamDownIdeal.defs (F := Ideal)) (onTc (τ := Cert.AdamDownIdeal.τ) (Cert.AdamDownIdeal.main (F := Ideal))) ⟨m, fun _ => 0, g⟩ (fun r => ∀ c : Dev Cert.AdamDownIdeal.nD,
          r.2.mem ((c.tc : Thread Cert.AdamDownIdeal.nD Cert.AdamDownIdeal.τ).loc Cert.AdamDownIdeal.main_v0_0) = v0 c
          ∧ r.2.mem ((c.tc : Thread Cert.AdamDownIdeal.nD Cert.AdamDownIdeal.τ).loc Cert.AdamDownIdeal.main_v0_1) = v1 c
          ∧ r.2.mem ((c.tc : Thread Cert.AdamDownIdeal.nD Cert.AdamDownIdeal.τ).loc Cert.AdamDownIdeal.main_v0_2) = v2 c
          ∧ r.2.mem ((c.tc : Thread Cert.AdamDownIdeal.nD Cert.AdamDownIdeal.τ).loc Cert.AdamDownIdeal.main_v0_3) = v3 c
          ∧ r.2.mem ((c.tc : Thread Cert.AdamDownIdeal.nD Cert.AdamDownIdeal.τ).loc Cert.AdamDownIdeal.main_arg0) = m ((c.tc : Thread Cert.AdamDownIdeal.nD Cert.AdamDownIdeal.τ).loc Cert.AdamDownIdeal.main_arg0)
          ∧ r.2.mem ((c.tc : Thread Cert.AdamDownIdeal.nD Cert.AdamDownIdeal.τ).loc Cert.AdamDownIdeal.main_arg1) = m ((c.tc : Thread Cert.AdamDownIdeal.nD Cert.AdamDownIdeal.τ).loc Cert.AdamDownIdeal.main_arg1)
          ∧ r.2.mem ((c.tc : Thread Cert.AdamDownIdeal.nD Cert.AdamDownIdeal.τ).loc Cert.AdamDownIdeal.main_arg2) = m ((c.tc : Thread Cert.AdamDownIdeal.nD Cert.AdamDownIdeal.τ).loc Cert.AdamDownIdeal.main_arg2)
          ∧ r.2.mem ((c.tc : Thread Cert.AdamDownIdeal.nD Cert.AdamDownIdeal.τ).loc Cert.AdamDownIdeal.main_arg3) = m ((c.tc : Thread Cert.AdamDownIdeal.nD Cert.AdamDownIdeal.τ).loc Cert.AdamDownIdeal.main_arg3)
          ∧ r.2.mem ((c.tc : Thread Cert.AdamDownIdeal.nD Cert.AdamDownIdeal.τ).loc Cert.AdamDownIdeal.main_arg4) = m ((c.tc : Thread Cert.AdamDownIdeal.nD Cert.AdamDownIdeal.τ).loc Cert.AdamDownIdeal.main_arg4))
      ∧ θ_run (Cert.AdamDownReferenceIdeal.defs (F := Ideal)) (onTc (τ := Cert.AdamDownReferenceIdeal.τ) (Cert.AdamDownReferenceIdeal.main (F := Ideal))) ⟨m', fun _ => 0, g'⟩ (fun r => ∀ c : Dev Cert.AdamDownReferenceIdeal.nD,
          r.2.mem ((c.tc : Thread Cert.AdamDownReferenceIdeal.nD Cert.AdamDownReferenceIdeal.τ).loc Cert.AdamDownReferenceIdeal.main_v0) = v0 c
          ∧ r.2.mem ((c.tc : Thread Cert.AdamDownReferenceIdeal.nD Cert.AdamDownReferenceIdeal.τ).loc Cert.AdamDownReferenceIdeal.main_v24) = v1 c
          ∧ r.2.mem ((c.tc : Thread Cert.AdamDownReferenceIdeal.nD Cert.AdamDownReferenceIdeal.τ).loc Cert.AdamDownReferenceIdeal.main_v5) = v2 c
          ∧ r.2.mem ((c.tc : Thread Cert.AdamDownReferenceIdeal.nD Cert.AdamDownReferenceIdeal.τ).loc Cert.AdamDownReferenceIdeal.main_v11) = v3 c
          ∧ r.2.mem ((c.tc : Thread Cert.AdamDownReferenceIdeal.nD Cert.AdamDownReferenceIdeal.τ).loc Cert.AdamDownReferenceIdeal.main_arg0) = m' ((c.tc : Thread Cert.AdamDownReferenceIdeal.nD Cert.AdamDownReferenceIdeal.τ).loc Cert.AdamDownReferenceIdeal.main_arg0)
          ∧ r.2.mem ((c.tc : Thread Cert.AdamDownReferenceIdeal.nD Cert.AdamDownReferenceIdeal.τ).loc Cert.AdamDownReferenceIdeal.main_arg1) = m' ((c.tc : Thread Cert.AdamDownReferenceIdeal.nD Cert.AdamDownReferenceIdeal.τ).loc Cert.AdamDownReferenceIdeal.main_arg1)
          ∧ r.2.mem ((c.tc : Thread Cert.AdamDownReferenceIdeal.nD Cert.AdamDownReferenceIdeal.τ).loc Cert.AdamDownReferenceIdeal.main_arg2) = m' ((c.tc : Thread Cert.AdamDownReferenceIdeal.nD Cert.AdamDownReferenceIdeal.τ).loc Cert.AdamDownReferenceIdeal.main_arg2)
          ∧ r.2.mem ((c.tc : Thread Cert.AdamDownReferenceIdeal.nD Cert.AdamDownReferenceIdeal.τ).loc Cert.AdamDownReferenceIdeal.main_arg3) = m' ((c.tc : Thread Cert.AdamDownReferenceIdeal.nD Cert.AdamDownReferenceIdeal.τ).loc Cert.AdamDownReferenceIdeal.main_arg3)
          ∧ r.2.mem ((c.tc : Thread Cert.AdamDownReferenceIdeal.nD Cert.AdamDownReferenceIdeal.τ).loc Cert.AdamDownReferenceIdeal.main_arg4) = m' ((c.tc : Thread Cert.AdamDownReferenceIdeal.nD Cert.AdamDownReferenceIdeal.τ).loc Cert.AdamDownReferenceIdeal.main_arg4))

def preserves_ProjIn_ProjInIdeal : Prop :=
  True

def algebraic_ProjInIdeal_ProjInReferenceIdeal [hProjInIdeal : Cert.ProjInIdeal.Facts] [hProjInReferenceIdeal : Cert.ProjInReferenceIdeal.Facts] [hPre_proj_in_windows : Cert.Pre_proj_in_windows.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInReferenceIdeal.nD Cert.ProjInReferenceIdeal.τ Cert.ProjInReferenceIdeal.sig) → Buf (Elt Ideal) ℓ) (g' : Dev Cert.ProjInReferenceIdeal.nD → PrngReg), Pre_ProjInIdeal m →
    (∀ c : Dev Cert.ProjInIdeal.nD,
      m' ((c.tc : Thread Cert.ProjInReferenceIdeal.nD Cert.ProjInReferenceIdeal.τ).loc Cert.ProjInReferenceIdeal.main_arg0) = m ((c.tc : Thread Cert.ProjInIdeal.nD Cert.ProjInIdeal.τ).loc Cert.ProjInIdeal.main_arg0)
      ∧ m' ((c.tc : Thread Cert.ProjInReferenceIdeal.nD Cert.ProjInReferenceIdeal.τ).loc Cert.ProjInReferenceIdeal.main_arg1) = m ((c.tc : Thread Cert.ProjInIdeal.nD Cert.ProjInIdeal.τ).loc Cert.ProjInIdeal.main_arg1)
      ∧ m' ((c.tc : Thread Cert.ProjInReferenceIdeal.nD Cert.ProjInReferenceIdeal.τ).loc Cert.ProjInReferenceIdeal.main_arg2) = m ((c.tc : Thread Cert.ProjInIdeal.nD Cert.ProjInIdeal.τ).loc Cert.ProjInIdeal.main_arg2)
      ∧ m' ((c.tc : Thread Cert.ProjInReferenceIdeal.nD Cert.ProjInReferenceIdeal.τ).loc Cert.ProjInReferenceIdeal.main_arg3) = m ((c.tc : Thread Cert.ProjInIdeal.nD Cert.ProjInIdeal.τ).loc Cert.ProjInIdeal.main_arg3)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1)
          ∧ r.2.mem ((c.tc : Thread Cert.ProjInIdeal.nD Cert.ProjInIdeal.τ).loc Cert.ProjInIdeal.main_arg2) = m ((c.tc : Thread Cert.ProjInIdeal.nD Cert.ProjInIdeal.τ).loc Cert.ProjInIdeal.main_arg2)
          ∧ r.2.mem ((c.tc : Thread Cert.ProjInIdeal.nD Cert.ProjInIdeal.τ).loc Cert.ProjInIdeal.main_arg3) = m ((c.tc : Thread Cert.ProjInIdeal.nD Cert.ProjInIdeal.τ).loc Cert.ProjInIdeal.main_arg3))
      ∧ θ_run (Cert.ProjInReferenceIdeal.defs (F := Ideal)) (onTc (τ := Cert.ProjInReferenceIdeal.τ) (Cert.ProjInReferenceIdeal.main (F := Ideal))) ⟨m', fun _ => 0, g'⟩ (fun r => ∀ c : Dev Cert.ProjInReferenceIdeal.nD,
          r.2.mem ((c.tc : Thread Cert.ProjInReferenceIdeal.nD Cert.ProjInReferenceIdeal.τ).loc Cert.ProjInReferenceIdeal.main_v60) = v0 c
          ∧ r.2.mem ((c.tc : Thread Cert.ProjInReferenceIdeal.nD Cert.ProjInReferenceIdeal.τ).loc Cert.ProjInReferenceIdeal.main_arg0) = m' ((c.tc : Thread Cert.ProjInReferenceIdeal.nD Cert.ProjInReferenceIdeal.τ).loc Cert.ProjInReferenceIdeal.main_arg0)
          ∧ r.2.mem ((c.tc : Thread Cert.ProjInReferenceIdeal.nD Cert.ProjInReferenceIdeal.τ).loc Cert.ProjInReferenceIdeal.main_arg1) = m' ((c.tc : Thread Cert.ProjInReferenceIdeal.nD Cert.ProjInReferenceIdeal.τ).loc Cert.ProjInReferenceIdeal.main_arg1)
          ∧ r.2.mem ((c.tc : Thread Cert.ProjInReferenceIdeal.nD Cert.ProjInReferenceIdeal.τ).loc Cert.ProjInReferenceIdeal.main_arg2) = m' ((c.tc : Thread Cert.ProjInReferenceIdeal.nD Cert.ProjInReferenceIdeal.τ).loc Cert.ProjInReferenceIdeal.main_arg2)
          ∧ r.2.mem ((c.tc : Thread Cert.ProjInReferenceIdeal.nD Cert.ProjInReferenceIdeal.τ).loc Cert.ProjInReferenceIdeal.main_arg3) = m' ((c.tc : Thread Cert.ProjInReferenceIdeal.nD Cert.ProjInReferenceIdeal.τ).loc Cert.ProjInReferenceIdeal.main_arg3))

def Claim : Prop :=
  ∃ (hHgrnBwd : Cert.HgrnBwd.Facts) (hHgrnBwdIdeal : Cert.HgrnBwdIdeal.Facts) (hDZ : Cert.DZ.Facts) (hDZIdeal : Cert.DZIdeal.Facts) (hDZReferenceIdeal : Cert.DZReferenceIdeal.Facts) (hGWDown : Cert.GWDown.Facts) (hGWDownIdeal : Cert.GWDownIdeal.Facts) (hGWDownReferenceIdeal : Cert.GWDownReferenceIdeal.Facts) (hDH3Gate : Cert.DH3Gate.Facts) (hDH3GateIdeal : Cert.DH3GateIdeal.Facts) (hDH3GateReferenceIdeal : Cert.DH3GateReferenceIdeal.Facts) (hDH3Up : Cert.DH3Up.Facts) (hDH3UpIdeal : Cert.DH3UpIdeal.Facts) (hDH3UpReferenceIdeal : Cert.DH3UpReferenceIdeal.Facts) (hGWGate : Cert.GWGate.Facts) (hGWGateIdeal : Cert.GWGateIdeal.Facts) (hGWGateReferenceIdeal : Cert.GWGateReferenceIdeal.Facts) (hDAtt : Cert.DAtt.Facts) (hDAttIdeal : Cert.DAttIdeal.Facts) (hDAttReferenceIdeal : Cert.DAttReferenceIdeal.Facts) (hGWo : Cert.GWo.Facts) (hGWoIdeal : Cert.GWoIdeal.Facts) (hGWoReferenceIdeal : Cert.GWoReferenceIdeal.Facts) (hGWk : Cert.GWk.Facts) (hGWkIdeal : Cert.GWkIdeal.Facts) (hGWkReferenceIdeal : Cert.GWkReferenceIdeal.Facts) (hDMemK : Cert.DMemK.Facts) (hDMemKIdeal : Cert.DMemKIdeal.Facts) (hDMemKReferenceIdeal : Cert.DMemKReferenceIdeal.Facts) (hDMemV : Cert.DMemV.Facts) (hDMemVIdeal : Cert.DMemVIdeal.Facts) (hDMemVReferenceIdeal : Cert.DMemVReferenceIdeal.Facts) (hGWIn : Cert.GWIn.Facts) (hGWInIdeal : Cert.GWInIdeal.Facts) (hGWInReferenceIdeal : Cert.GWInReferenceIdeal.Facts) (hDH1 : Cert.DH1.Facts) (hDH1Ideal : Cert.DH1Ideal.Facts) (hDH1ReferenceIdeal : Cert.DH1ReferenceIdeal.Facts) (hFfnGate : Cert.FfnGate.Facts) (hFfnGateIdeal : Cert.FfnGateIdeal.Facts) (hFfnGateReferenceIdeal : Cert.FfnGateReferenceIdeal.Facts) (hFfnDown : Cert.FfnDown.Facts) (hFfnDownIdeal : Cert.FfnDownIdeal.Facts) (hFfnDownReferenceIdeal : Cert.FfnDownReferenceIdeal.Facts) (hProjOut : Cert.ProjOut.Facts) (hProjOutIdeal : Cert.ProjOutIdeal.Facts) (hProjOutReferenceIdeal : Cert.ProjOutReferenceIdeal.Facts) (hAttnQ : Cert.AttnQ.Facts) (hAttnQIdeal : Cert.AttnQIdeal.Facts) (hAttnQReferenceIdeal : Cert.AttnQReferenceIdeal.Facts) (hAttnK : Cert.AttnK.Facts) (hAttnKIdeal : Cert.AttnKIdeal.Facts) (hAttnKReferenceIdeal : Cert.AttnKReferenceIdeal.Facts) (hNormFwd : Cert.NormFwd.Facts) (hNormFwdIdeal : Cert.NormFwdIdeal.Facts) (hNormFwdReferenceIdeal : Cert.NormFwdReferenceIdeal.Facts) (hNormMem : Cert.NormMem.Facts) (hNormMemIdeal : Cert.NormMemIdeal.Facts) (hNormMemReferenceIdeal : Cert.NormMemReferenceIdeal.Facts) (hNormBwd : Cert.NormBwd.Facts) (hNormBwdIdeal : Cert.NormBwdIdeal.Facts) (hNormBwdReferenceIdeal : Cert.NormBwdReferenceIdeal.Facts) (hNormMemBwd : Cert.NormMemBwd.Facts) (hNormMemBwdIdeal : Cert.NormMemBwdIdeal.Facts) (hNormMemBwdReferenceIdeal : Cert.NormMemBwdReferenceIdeal.Facts) (hLossBwd : Cert.LossBwd.Facts) (hLossBwdIdeal : Cert.LossBwdIdeal.Facts) (hLossBwdReferenceIdeal : Cert.LossBwdReferenceIdeal.Facts) (hFfnFwd : Cert.FfnFwd.Facts) (hFfnFwdIdeal : Cert.FfnFwdIdeal.Facts) (hFfnFwdReferenceIdeal : Cert.FfnFwdReferenceIdeal.Facts) (hFfnBwd : Cert.FfnBwd.Facts) (hFfnBwdIdeal : Cert.FfnBwdIdeal.Facts) (hFfnBwdReferenceIdeal : Cert.FfnBwdReferenceIdeal.Facts) (hSconvFwd : Cert.SconvFwd.Facts) (hSconvFwdIdeal : Cert.SconvFwdIdeal.Facts) (hSconvFwdReferenceIdeal : Cert.SconvFwdReferenceIdeal.Facts) (hSconvBwd : Cert.SconvBwd.Facts) (hSconvBwdIdeal : Cert.SconvBwdIdeal.Facts) (hSconvBwdReferenceIdeal : Cert.SconvBwdReferenceIdeal.Facts) (hAttnFwd : Cert.AttnFwd.Facts) (hAttnFwdIdeal : Cert.AttnFwdIdeal.Facts) (hAttnFwdReferenceIdeal : Cert.AttnFwdReferenceIdeal.Facts) (hAdamLb : Cert.AdamLb.Facts) (hAdamLbIdeal : Cert.AdamLbIdeal.Facts) (hAdamLbReferenceIdeal : Cert.AdamLbReferenceIdeal.Facts) (hAdamNorm : Cert.AdamNorm.Facts) (hAdamNormIdeal : Cert.AdamNormIdeal.Facts) (hAdamNormReferenceIdeal : Cert.AdamNormReferenceIdeal.Facts) (hAdamHead : Cert.AdamHead.Facts) (hAdamHeadIdeal : Cert.AdamHeadIdeal.Facts) (hAdamHeadReferenceIdeal : Cert.AdamHeadReferenceIdeal.Facts) (hAdamSconv : Cert.AdamSconv.Facts) (hAdamSconvIdeal : Cert.AdamSconvIdeal.Facts) (hAdamSconvReferenceIdeal : Cert.AdamSconvReferenceIdeal.Facts) (hAdamFconv : Cert.AdamFconv.Facts) (hAdamFconvIdeal : Cert.AdamFconvIdeal.Facts) (hAdamFconvReferenceIdeal : Cert.AdamFconvReferenceIdeal.Facts) (hAdamFbias : Cert.AdamFbias.Facts) (hAdamFbiasIdeal : Cert.AdamFbiasIdeal.Facts) (hAdamFbiasReferenceIdeal : Cert.AdamFbiasReferenceIdeal.Facts) (hAdamIn : Cert.AdamIn.Facts) (hAdamInIdeal : Cert.AdamInIdeal.Facts) (hAdamInReferenceIdeal : Cert.AdamInReferenceIdeal.Facts) (hAdamSquare : Cert.AdamSquare.Facts) (hAdamSquareIdeal : Cert.AdamSquareIdeal.Facts) (hAdamSquareReferenceIdeal : Cert.AdamSquareReferenceIdeal.Facts) (hAdamFfn : Cert.AdamFfn.Facts) (hAdamFfnIdeal : Cert.AdamFfnIdeal.Facts) (hAdamFfnReferenceIdeal : Cert.AdamFfnReferenceIdeal.Facts) (hAdamDown : Cert.AdamDown.Facts) (hAdamDownIdeal : Cert.AdamDownIdeal.Facts) (hAdamDownReferenceIdeal : Cert.AdamDownReferenceIdeal.Facts) (hProjIn : Cert.ProjIn.Facts) (hProjInIdeal : Cert.ProjInIdeal.Facts) (hProjInReferenceIdeal : Cert.ProjInReferenceIdeal.Facts) (hPre_ffn_bwd_finite : Cert.Pre_ffn_bwd_finite.Facts) (hPre_proj_in_windows : Cert.Pre_proj_in_windows.Facts),
    quiescent_HgrnBwd (hHgrnBwd := hHgrnBwd)
    ∧ quiescent_HgrnBwdIdeal (hHgrnBwdIdeal := hHgrnBwdIdeal)
    ∧ quiescent_DZ (hDZ := hDZ)
    ∧ quiescent_DZIdeal (hDZIdeal := hDZIdeal)
    ∧ quiescent_DZReferenceIdeal (hDZReferenceIdeal := hDZReferenceIdeal)
    ∧ quiescent_GWDown (hGWDown := hGWDown)
    ∧ quiescent_GWDownIdeal (hGWDownIdeal := hGWDownIdeal)
    ∧ quiescent_GWDownReferenceIdeal (hGWDownReferenceIdeal := hGWDownReferenceIdeal)
    ∧ quiescent_DH3Gate (hDH3Gate := hDH3Gate)
    ∧ quiescent_DH3GateIdeal (hDH3GateIdeal := hDH3GateIdeal)
    ∧ quiescent_DH3GateReferenceIdeal (hDH3GateReferenceIdeal := hDH3GateReferenceIdeal)
    ∧ quiescent_DH3Up (hDH3Up := hDH3Up)
    ∧ quiescent_DH3UpIdeal (hDH3UpIdeal := hDH3UpIdeal)
    ∧ quiescent_DH3UpReferenceIdeal (hDH3UpReferenceIdeal := hDH3UpReferenceIdeal)
    ∧ quiescent_GWGate (hGWGate := hGWGate)
    ∧ quiescent_GWGateIdeal (hGWGateIdeal := hGWGateIdeal)
    ∧ quiescent_GWGateReferenceIdeal (hGWGateReferenceIdeal := hGWGateReferenceIdeal)
    ∧ quiescent_DAtt (hDAtt := hDAtt)
    ∧ quiescent_DAttIdeal (hDAttIdeal := hDAttIdeal)
    ∧ quiescent_DAttReferenceIdeal (hDAttReferenceIdeal := hDAttReferenceIdeal)
    ∧ quiescent_GWo (hGWo := hGWo)
    ∧ quiescent_GWoIdeal (hGWoIdeal := hGWoIdeal)
    ∧ quiescent_GWoReferenceIdeal (hGWoReferenceIdeal := hGWoReferenceIdeal)
    ∧ quiescent_GWk (hGWk := hGWk)
    ∧ quiescent_GWkIdeal (hGWkIdeal := hGWkIdeal)
    ∧ quiescent_GWkReferenceIdeal (hGWkReferenceIdeal := hGWkReferenceIdeal)
    ∧ quiescent_DMemK (hDMemK := hDMemK)
    ∧ quiescent_DMemKIdeal (hDMemKIdeal := hDMemKIdeal)
    ∧ quiescent_DMemKReferenceIdeal (hDMemKReferenceIdeal := hDMemKReferenceIdeal)
    ∧ quiescent_DMemV (hDMemV := hDMemV)
    ∧ quiescent_DMemVIdeal (hDMemVIdeal := hDMemVIdeal)
    ∧ quiescent_DMemVReferenceIdeal (hDMemVReferenceIdeal := hDMemVReferenceIdeal)
    ∧ quiescent_GWIn (hGWIn := hGWIn)
    ∧ quiescent_GWInIdeal (hGWInIdeal := hGWInIdeal)
    ∧ quiescent_GWInReferenceIdeal (hGWInReferenceIdeal := hGWInReferenceIdeal)
    ∧ quiescent_DH1 (hDH1 := hDH1)
    ∧ quiescent_DH1Ideal (hDH1Ideal := hDH1Ideal)
    ∧ quiescent_DH1ReferenceIdeal (hDH1ReferenceIdeal := hDH1ReferenceIdeal)
    ∧ quiescent_FfnGate (hFfnGate := hFfnGate)
    ∧ quiescent_FfnGateIdeal (hFfnGateIdeal := hFfnGateIdeal)
    ∧ quiescent_FfnGateReferenceIdeal (hFfnGateReferenceIdeal := hFfnGateReferenceIdeal)
    ∧ quiescent_FfnDown (hFfnDown := hFfnDown)
    ∧ quiescent_FfnDownIdeal (hFfnDownIdeal := hFfnDownIdeal)
    ∧ quiescent_FfnDownReferenceIdeal (hFfnDownReferenceIdeal := hFfnDownReferenceIdeal)
    ∧ quiescent_ProjOut (hProjOut := hProjOut)
    ∧ quiescent_ProjOutIdeal (hProjOutIdeal := hProjOutIdeal)
    ∧ quiescent_ProjOutReferenceIdeal (hProjOutReferenceIdeal := hProjOutReferenceIdeal)
    ∧ quiescent_AttnQ (hAttnQ := hAttnQ)
    ∧ quiescent_AttnQIdeal (hAttnQIdeal := hAttnQIdeal)
    ∧ quiescent_AttnQReferenceIdeal (hAttnQReferenceIdeal := hAttnQReferenceIdeal)
    ∧ quiescent_AttnK (hAttnK := hAttnK)
    ∧ quiescent_AttnKIdeal (hAttnKIdeal := hAttnKIdeal)
    ∧ quiescent_AttnKReferenceIdeal (hAttnKReferenceIdeal := hAttnKReferenceIdeal)
    ∧ quiescent_NormFwd (hNormFwd := hNormFwd)
    ∧ quiescent_NormFwdIdeal (hNormFwdIdeal := hNormFwdIdeal)
    ∧ quiescent_NormFwdReferenceIdeal (hNormFwdReferenceIdeal := hNormFwdReferenceIdeal)
    ∧ quiescent_NormMem (hNormMem := hNormMem)
    ∧ quiescent_NormMemIdeal (hNormMemIdeal := hNormMemIdeal)
    ∧ quiescent_NormMemReferenceIdeal (hNormMemReferenceIdeal := hNormMemReferenceIdeal)
    ∧ quiescent_NormBwd (hNormBwd := hNormBwd)
    ∧ quiescent_NormBwdIdeal (hNormBwdIdeal := hNormBwdIdeal)
    ∧ quiescent_NormBwdReferenceIdeal (hNormBwdReferenceIdeal := hNormBwdReferenceIdeal)
    ∧ quiescent_NormMemBwd (hNormMemBwd := hNormMemBwd)
    ∧ quiescent_NormMemBwdIdeal (hNormMemBwdIdeal := hNormMemBwdIdeal)
    ∧ quiescent_NormMemBwdReferenceIdeal (hNormMemBwdReferenceIdeal := hNormMemBwdReferenceIdeal)
    ∧ quiescent_LossBwd (hLossBwd := hLossBwd)
    ∧ quiescent_LossBwdIdeal (hLossBwdIdeal := hLossBwdIdeal)
    ∧ quiescent_LossBwdReferenceIdeal (hLossBwdReferenceIdeal := hLossBwdReferenceIdeal)
    ∧ quiescent_FfnFwd (hFfnFwd := hFfnFwd)
    ∧ quiescent_FfnFwdIdeal (hFfnFwdIdeal := hFfnFwdIdeal)
    ∧ quiescent_FfnFwdReferenceIdeal (hFfnFwdReferenceIdeal := hFfnFwdReferenceIdeal)
    ∧ quiescent_FfnBwd (hFfnBwd := hFfnBwd)
    ∧ quiescent_FfnBwdIdeal (hFfnBwdIdeal := hFfnBwdIdeal)
    ∧ quiescent_FfnBwdIdeal_pre_ffn_bwd_finite (hFfnBwdIdeal := hFfnBwdIdeal) (hPre_ffn_bwd_finite := hPre_ffn_bwd_finite)
    ∧ quiescent_FfnBwdReferenceIdeal (hFfnBwdReferenceIdeal := hFfnBwdReferenceIdeal)
    ∧ quiescent_FfnBwdReferenceIdeal_pre_ffn_bwd_finite (hFfnBwdReferenceIdeal := hFfnBwdReferenceIdeal) (hPre_ffn_bwd_finite := hPre_ffn_bwd_finite)
    ∧ quiescent_SconvFwd (hSconvFwd := hSconvFwd)
    ∧ quiescent_SconvFwdIdeal (hSconvFwdIdeal := hSconvFwdIdeal)
    ∧ quiescent_SconvFwdReferenceIdeal (hSconvFwdReferenceIdeal := hSconvFwdReferenceIdeal)
    ∧ quiescent_SconvBwd (hSconvBwd := hSconvBwd)
    ∧ quiescent_SconvBwdIdeal (hSconvBwdIdeal := hSconvBwdIdeal)
    ∧ quiescent_SconvBwdReferenceIdeal (hSconvBwdReferenceIdeal := hSconvBwdReferenceIdeal)
    ∧ quiescent_AttnFwd (hAttnFwd := hAttnFwd)
    ∧ quiescent_AttnFwdIdeal (hAttnFwdIdeal := hAttnFwdIdeal)
    ∧ quiescent_AttnFwdReferenceIdeal (hAttnFwdReferenceIdeal := hAttnFwdReferenceIdeal)
    ∧ quiescent_AdamLb (hAdamLb := hAdamLb)
    ∧ quiescent_AdamLbIdeal (hAdamLbIdeal := hAdamLbIdeal)
    ∧ quiescent_AdamLbReferenceIdeal (hAdamLbReferenceIdeal := hAdamLbReferenceIdeal)
    ∧ quiescent_AdamNorm (hAdamNorm := hAdamNorm)
    ∧ quiescent_AdamNormIdeal (hAdamNormIdeal := hAdamNormIdeal)
    ∧ quiescent_AdamNormReferenceIdeal (hAdamNormReferenceIdeal := hAdamNormReferenceIdeal)
    ∧ quiescent_AdamHead (hAdamHead := hAdamHead)
    ∧ quiescent_AdamHeadIdeal (hAdamHeadIdeal := hAdamHeadIdeal)
    ∧ quiescent_AdamHeadReferenceIdeal (hAdamHeadReferenceIdeal := hAdamHeadReferenceIdeal)
    ∧ quiescent_AdamSconv (hAdamSconv := hAdamSconv)
    ∧ quiescent_AdamSconvIdeal (hAdamSconvIdeal := hAdamSconvIdeal)
    ∧ quiescent_AdamSconvReferenceIdeal (hAdamSconvReferenceIdeal := hAdamSconvReferenceIdeal)
    ∧ quiescent_AdamFconv (hAdamFconv := hAdamFconv)
    ∧ quiescent_AdamFconvIdeal (hAdamFconvIdeal := hAdamFconvIdeal)
    ∧ quiescent_AdamFconvReferenceIdeal (hAdamFconvReferenceIdeal := hAdamFconvReferenceIdeal)
    ∧ quiescent_AdamFbias (hAdamFbias := hAdamFbias)
    ∧ quiescent_AdamFbiasIdeal (hAdamFbiasIdeal := hAdamFbiasIdeal)
    ∧ quiescent_AdamFbiasReferenceIdeal (hAdamFbiasReferenceIdeal := hAdamFbiasReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamSquare (hAdamSquare := hAdamSquare)
    ∧ quiescent_AdamSquareIdeal (hAdamSquareIdeal := hAdamSquareIdeal)
    ∧ quiescent_AdamSquareReferenceIdeal (hAdamSquareReferenceIdeal := hAdamSquareReferenceIdeal)
    ∧ quiescent_AdamFfn (hAdamFfn := hAdamFfn)
    ∧ quiescent_AdamFfnIdeal (hAdamFfnIdeal := hAdamFfnIdeal)
    ∧ quiescent_AdamFfnReferenceIdeal (hAdamFfnReferenceIdeal := hAdamFfnReferenceIdeal)
    ∧ quiescent_AdamDown (hAdamDown := hAdamDown)
    ∧ quiescent_AdamDownIdeal (hAdamDownIdeal := hAdamDownIdeal)
    ∧ quiescent_AdamDownReferenceIdeal (hAdamDownReferenceIdeal := hAdamDownReferenceIdeal)
    ∧ quiescent_ProjIn (hProjIn := hProjIn) (hPre_proj_in_windows := hPre_proj_in_windows)
    ∧ quiescent_ProjInIdeal (hProjInIdeal := hProjInIdeal) (hPre_proj_in_windows := hPre_proj_in_windows)
    ∧ quiescent_ProjInReferenceIdeal (hProjInReferenceIdeal := hProjInReferenceIdeal)
    ∧ quiescent_ProjInReferenceIdeal_pre_proj_in_windows (hProjInReferenceIdeal := hProjInReferenceIdeal) (hPre_proj_in_windows := hPre_proj_in_windows)
    ∧ preserves_HgrnBwd_HgrnBwdIdeal
    ∧ preserves_DZ_DZIdeal
    ∧ algebraic_DZIdeal_DZReferenceIdeal (hDZIdeal := hDZIdeal) (hDZReferenceIdeal := hDZReferenceIdeal)
    ∧ preserves_GWDown_GWDownIdeal
    ∧ algebraic_GWDownIdeal_GWDownReferenceIdeal (hGWDownIdeal := hGWDownIdeal) (hGWDownReferenceIdeal := hGWDownReferenceIdeal)
    ∧ preserves_DH3Gate_DH3GateIdeal
    ∧ algebraic_DH3GateIdeal_DH3GateReferenceIdeal (hDH3GateIdeal := hDH3GateIdeal) (hDH3GateReferenceIdeal := hDH3GateReferenceIdeal)
    ∧ preserves_DH3Up_DH3UpIdeal
    ∧ algebraic_DH3UpIdeal_DH3UpReferenceIdeal (hDH3UpIdeal := hDH3UpIdeal) (hDH3UpReferenceIdeal := hDH3UpReferenceIdeal)
    ∧ preserves_GWGate_GWGateIdeal
    ∧ algebraic_GWGateIdeal_GWGateReferenceIdeal (hGWGateIdeal := hGWGateIdeal) (hGWGateReferenceIdeal := hGWGateReferenceIdeal)
    ∧ preserves_DAtt_DAttIdeal
    ∧ algebraic_DAttIdeal_DAttReferenceIdeal (hDAttIdeal := hDAttIdeal) (hDAttReferenceIdeal := hDAttReferenceIdeal)
    ∧ preserves_GWo_GWoIdeal
    ∧ algebraic_GWoIdeal_GWoReferenceIdeal (hGWoIdeal := hGWoIdeal) (hGWoReferenceIdeal := hGWoReferenceIdeal)
    ∧ preserves_GWk_GWkIdeal
    ∧ algebraic_GWkIdeal_GWkReferenceIdeal (hGWkIdeal := hGWkIdeal) (hGWkReferenceIdeal := hGWkReferenceIdeal)
    ∧ preserves_DMemK_DMemKIdeal
    ∧ algebraic_DMemKIdeal_DMemKReferenceIdeal (hDMemKIdeal := hDMemKIdeal) (hDMemKReferenceIdeal := hDMemKReferenceIdeal)
    ∧ preserves_DMemV_DMemVIdeal
    ∧ algebraic_DMemVIdeal_DMemVReferenceIdeal (hDMemVIdeal := hDMemVIdeal) (hDMemVReferenceIdeal := hDMemVReferenceIdeal)
    ∧ preserves_GWIn_GWInIdeal
    ∧ algebraic_GWInIdeal_GWInReferenceIdeal (hGWInIdeal := hGWInIdeal) (hGWInReferenceIdeal := hGWInReferenceIdeal)
    ∧ preserves_DH1_DH1Ideal
    ∧ algebraic_DH1Ideal_DH1ReferenceIdeal (hDH1Ideal := hDH1Ideal) (hDH1ReferenceIdeal := hDH1ReferenceIdeal)
    ∧ preserves_FfnGate_FfnGateIdeal
    ∧ algebraic_FfnGateIdeal_FfnGateReferenceIdeal (hFfnGateIdeal := hFfnGateIdeal) (hFfnGateReferenceIdeal := hFfnGateReferenceIdeal)
    ∧ preserves_FfnDown_FfnDownIdeal
    ∧ algebraic_FfnDownIdeal_FfnDownReferenceIdeal (hFfnDownIdeal := hFfnDownIdeal) (hFfnDownReferenceIdeal := hFfnDownReferenceIdeal)
    ∧ preserves_ProjOut_ProjOutIdeal
    ∧ algebraic_ProjOutIdeal_ProjOutReferenceIdeal (hProjOutIdeal := hProjOutIdeal) (hProjOutReferenceIdeal := hProjOutReferenceIdeal)
    ∧ preserves_AttnQ_AttnQIdeal
    ∧ algebraic_AttnQIdeal_AttnQReferenceIdeal (hAttnQIdeal := hAttnQIdeal) (hAttnQReferenceIdeal := hAttnQReferenceIdeal)
    ∧ preserves_AttnK_AttnKIdeal
    ∧ algebraic_AttnKIdeal_AttnKReferenceIdeal (hAttnKIdeal := hAttnKIdeal) (hAttnKReferenceIdeal := hAttnKReferenceIdeal)
    ∧ preserves_NormFwd_NormFwdIdeal
    ∧ algebraic_NormFwdIdeal_NormFwdReferenceIdeal (hNormFwdIdeal := hNormFwdIdeal) (hNormFwdReferenceIdeal := hNormFwdReferenceIdeal)
    ∧ preserves_NormMem_NormMemIdeal
    ∧ algebraic_NormMemIdeal_NormMemReferenceIdeal (hNormMemIdeal := hNormMemIdeal) (hNormMemReferenceIdeal := hNormMemReferenceIdeal)
    ∧ preserves_NormBwd_NormBwdIdeal
    ∧ algebraic_NormBwdIdeal_NormBwdReferenceIdeal (hNormBwdIdeal := hNormBwdIdeal) (hNormBwdReferenceIdeal := hNormBwdReferenceIdeal)
    ∧ preserves_NormMemBwd_NormMemBwdIdeal
    ∧ algebraic_NormMemBwdIdeal_NormMemBwdReferenceIdeal (hNormMemBwdIdeal := hNormMemBwdIdeal) (hNormMemBwdReferenceIdeal := hNormMemBwdReferenceIdeal)
    ∧ preserves_LossBwd_LossBwdIdeal
    ∧ algebraic_LossBwdIdeal_LossBwdReferenceIdeal (hLossBwdIdeal := hLossBwdIdeal) (hLossBwdReferenceIdeal := hLossBwdReferenceIdeal)
    ∧ preserves_FfnFwd_FfnFwdIdeal
    ∧ algebraic_FfnFwdIdeal_FfnFwdReferenceIdeal (hFfnFwdIdeal := hFfnFwdIdeal) (hFfnFwdReferenceIdeal := hFfnFwdReferenceIdeal)
    ∧ preserves_FfnBwd_FfnBwdIdeal
    ∧ algebraic_FfnBwdIdeal_FfnBwdReferenceIdeal_pre_ffn_bwd_finite (hFfnBwdIdeal := hFfnBwdIdeal) (hFfnBwdReferenceIdeal := hFfnBwdReferenceIdeal) (hPre_ffn_bwd_finite := hPre_ffn_bwd_finite)
    ∧ preserves_SconvFwd_SconvFwdIdeal
    ∧ algebraic_SconvFwdIdeal_SconvFwdReferenceIdeal (hSconvFwdIdeal := hSconvFwdIdeal) (hSconvFwdReferenceIdeal := hSconvFwdReferenceIdeal)
    ∧ preserves_SconvBwd_SconvBwdIdeal
    ∧ algebraic_SconvBwdIdeal_SconvBwdReferenceIdeal (hSconvBwdIdeal := hSconvBwdIdeal) (hSconvBwdReferenceIdeal := hSconvBwdReferenceIdeal)
    ∧ preserves_AttnFwd_AttnFwdIdeal
    ∧ algebraic_AttnFwdIdeal_AttnFwdReferenceIdeal (hAttnFwdIdeal := hAttnFwdIdeal) (hAttnFwdReferenceIdeal := hAttnFwdReferenceIdeal)
    ∧ preserves_AdamLb_AdamLbIdeal
    ∧ algebraic_AdamLbIdeal_AdamLbReferenceIdeal (hAdamLbIdeal := hAdamLbIdeal) (hAdamLbReferenceIdeal := hAdamLbReferenceIdeal)
    ∧ preserves_AdamNorm_AdamNormIdeal
    ∧ algebraic_AdamNormIdeal_AdamNormReferenceIdeal (hAdamNormIdeal := hAdamNormIdeal) (hAdamNormReferenceIdeal := hAdamNormReferenceIdeal)
    ∧ preserves_AdamHead_AdamHeadIdeal
    ∧ algebraic_AdamHeadIdeal_AdamHeadReferenceIdeal (hAdamHeadIdeal := hAdamHeadIdeal) (hAdamHeadReferenceIdeal := hAdamHeadReferenceIdeal)
    ∧ preserves_AdamSconv_AdamSconvIdeal
    ∧ algebraic_AdamSconvIdeal_AdamSconvReferenceIdeal (hAdamSconvIdeal := hAdamSconvIdeal) (hAdamSconvReferenceIdeal := hAdamSconvReferenceIdeal)
    ∧ preserves_AdamFconv_AdamFconvIdeal
    ∧ algebraic_AdamFconvIdeal_AdamFconvReferenceIdeal (hAdamFconvIdeal := hAdamFconvIdeal) (hAdamFconvReferenceIdeal := hAdamFconvReferenceIdeal)
    ∧ preserves_AdamFbias_AdamFbiasIdeal
    ∧ algebraic_AdamFbiasIdeal_AdamFbiasReferenceIdeal (hAdamFbiasIdeal := hAdamFbiasIdeal) (hAdamFbiasReferenceIdeal := hAdamFbiasReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamSquare_AdamSquareIdeal
    ∧ algebraic_AdamSquareIdeal_AdamSquareReferenceIdeal (hAdamSquareIdeal := hAdamSquareIdeal) (hAdamSquareReferenceIdeal := hAdamSquareReferenceIdeal)
    ∧ preserves_AdamFfn_AdamFfnIdeal
    ∧ algebraic_AdamFfnIdeal_AdamFfnReferenceIdeal (hAdamFfnIdeal := hAdamFfnIdeal) (hAdamFfnReferenceIdeal := hAdamFfnReferenceIdeal)
    ∧ preserves_AdamDown_AdamDownIdeal
    ∧ algebraic_AdamDownIdeal_AdamDownReferenceIdeal (hAdamDownIdeal := hAdamDownIdeal) (hAdamDownReferenceIdeal := hAdamDownReferenceIdeal)
    ∧ preserves_ProjIn_ProjInIdeal
    ∧ algebraic_ProjInIdeal_ProjInReferenceIdeal (hProjInIdeal := hProjInIdeal) (hProjInReferenceIdeal := hProjInReferenceIdeal) (hPre_proj_in_windows := hPre_proj_in_windows)
-- ==== Pre_ffn_bwd_finite.lean ====
abbrev S8192x5632 : Shape := ⟨2, ![8192, 5632]⟩
abbrev S8x5632 : Shape := ⟨2, ![8, 5632]⟩
abbrev S_ : Shape := ⟨0, ![]⟩

class Facts : Prop where
  bcast_S_S8192x5632 : S_.BroadcastsInDim S8192x5632 (![] : Fin 0 → Fin S8192x5632.rank)

variable [Facts]

def fn {F : FTy → Type} [FloatOps F] (main_arg0 : FVec F S8192x5632 .bf16) (main_arg1 : FVec F S8192x5632 .bf16) (main_arg2 : FVec F S8192x5632 .bf16) (main_arg3 : FVec F S8192x5632 .bf16) (main_arg4 : FVec F S8x5632 .f32) : IVec S8192x5632 1 × IVec S8192x5632 1 :=
  let main_v0 : FVec F S8192x5632 .bf16 := Host.absf main_arg2
  let main_cst : FVec F S_ .bf16 := constant S_ .bf16 0x7F80#16
  let main_v1 : FVec F S8192x5632 .bf16 := broadcastInDim S8192x5632 ![] bcast_S_S8192x5632 main_cst
  let main_v2 : IVec S8192x5632 1 := cmpf .olt main_v0 main_v1
  let main_v3 : FVec F S8192x5632 .bf16 := Host.absf main_arg3
  let main_cst_0 : FVec F S_ .bf16 := constant S_ .bf16 0x7F80#16
  let main_v4 : FVec F S8192x5632 .bf16 := broadcastInDim S8192x5632 ![] bcast_S_S8192x5632 main_cst_0
  let main_v5 : IVec S8192x5632 1 := cmpf .olt main_v3 main_v4
  (main_v2, main_v5)
-- ==== Pre_proj_in_windows.lean ====
abbrev S8192x2048 : Shape := ⟨2, ![8192, 2048]⟩
abbrev S2048x7168 : Shape := ⟨2, ![2048, 7168]⟩
abbrev S3 : Shape := ⟨1, ![3]⟩
abbrev S8192x7168 : Shape := ⟨2, ![8192, 7168]⟩
abbrev S_ : Shape := ⟨0, ![]⟩

class Facts : Prop where
  bcast_S_S3 : S_.BroadcastsInDim S3 (![] : Fin 0 → Fin S3.rank)

variable [Facts]

def fn {F : FTy → Type} [FloatOps F] (main_arg0 : FVec F S8192x2048 .bf16) (main_arg1 : FVec F S2048x7168 .bf16) (main_arg2 : IVec S3 32) (main_arg3 : FVec F S8192x7168 .bf16) : IVec S3 1 × IVec S3 1 :=
  let main_c : IVec S_ 32 := constantI S_ 32 0#32
  let main_v0 : IVec S3 32 := broadcastInDim S3 ![] bcast_S_S3 main_c
  let main_v1 : IVec S3 1 := cmpi .sge main_arg2 main_v0
  let main_c_0 : IVec S_ 32 := constantI S_ 32 4#32
  let main_v2 : IVec S3 32 := broadcastInDim S3 ![] bcast_S_S3 main_c_0
  let main_v3 : IVec S3 1 := cmpi .slt main_arg2 main_v2
  (main_v1, main_v3)
-- ==== HgrnBwd.lean ====
abbrev S8192x7168 : Shape := ⟨2, ![8192, 7168]⟩
abbrev S2x1024 : Shape := ⟨2, ![2, 1024]⟩
abbrev S1x128 : Shape := ⟨2, ![1, 128]⟩
abbrev S8192x1024 : Shape := ⟨2, ![8192, 1024]⟩
abbrev S8x64x128x128 : Shape := ⟨4, ![8, 64, 128, 128]⟩
abbrev S8192x2048 : Shape := ⟨2, ![8192, 2048]⟩
abbrev S1x1024 : Shape := ⟨2, ![1, 1024]⟩
abbrev S8x8192x1024 : Shape := ⟨3, ![8, 8192, 1024]⟩
abbrev S8x1024 : Shape := ⟨2, ![8, 1024]⟩
abbrev S8x128 : Shape := ⟨2, ![8, 128]⟩
abbrev S1024x512 : Shape := ⟨2, ![1024, 512]⟩
abbrev S1x512 : Shape := ⟨2, ![1, 512]⟩
abbrev S4x8x128x128 : Shape := ⟨4, ![4, 8, 128, 128]⟩
abbrev S4x1024x512 : Shape := ⟨3, ![4, 1024, 512]⟩
abbrev S8x512 : Shape := ⟨2, ![8, 512]⟩
abbrev S4x128x128 : Shape := ⟨3, ![4, 128, 128]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩
abbrev S16x8x128 : Shape := ⟨3, ![16, 8, 128]⟩
abbrev S1x1x128x128 : Shape := ⟨4, ![1, 1, 128, 128]⟩

abbrev nBuf : Space → Nat
  | .hbm => 11
  | .vmem => 25
  | .smem => 0
  | _ => 0

abbrev bufTy : (tb : Table) → Fin (tcTables nBuf tb) → BufTy
  | .hbm, ⟨0, _⟩ => ⟨S8192x7168, .bf16⟩
  | .hbm, ⟨1, _⟩ => ⟨S2x1024, .f32⟩
  | .hbm, ⟨2, _⟩ => ⟨S1x128, .f32⟩
  | .hbm, ⟨3, _⟩ => ⟨S8192x1024, .f32⟩
  | .hbm, ⟨4, _⟩ => ⟨S8x64x128x128, .f32⟩
  | .hbm, ⟨5, _⟩ => ⟨S8192x2048, .bf16⟩
  | .hbm, ⟨6, _⟩ => ⟨S1x1024, .f32⟩
  | .hbm, ⟨7, _⟩ => ⟨S1x1024, .f32⟩
  | .hbm, ⟨8, _⟩ => ⟨S8x8192x1024, .bf16⟩
  | .hbm, ⟨9, _⟩ => ⟨S8x1024, .f32⟩
  | .hbm, ⟨10, _⟩ => ⟨S8x128, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x128, .f32⟩
  | .local _ .vmem, ⟨13, _⟩ => ⟨S1024x512, .f32⟩
  | .local _ .vmem, ⟨14, _⟩ => ⟨S1024x512, .f32⟩
  | .local _ .vmem, ⟨15, _⟩ => ⟨S4x8x128x128, .f32⟩
  | .local _ .vmem, ⟨16, _⟩ => ⟨S4x8x128x128, .f32⟩
  | .local _ .vmem, ⟨17, _⟩ => ⟨S1024x512, .bf16⟩
  | .local _ .vmem, ⟨18, _⟩ => ⟨S1024x512, .bf16⟩
  | .local _ .vmem, ⟨19, _⟩ => ⟨S4x1024x512, .bf16⟩
  | .local _ .vmem, ⟨20, _⟩ => ⟨S4x1024x512, .bf16⟩
  | .local _ .vmem, ⟨21, _⟩ => ⟨S8x512, .f32⟩
  | .local _ .vmem, ⟨22, _⟩ => ⟨S8x512, .f32⟩
  | .local _ .vmem, ⟨23, _⟩ => ⟨S8x128, .f32⟩
  | .local _ .vmem, ⟨24, _⟩ => ⟨S4x128x128, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23

abbrev nD : Nat := 1
abbrev τ : Topo := Topo.v7x

variable {F : FTy → Type} [FloatOps F]

abbrev grid0 : Pipeline.Grid := ⟨2, ![2, 8], ![false, false]⟩

def k0_mult1 : BitVec 32 :=
  let c7_i32 : BitVec 32 := 7#32
  let c0_i32_11 : BitVec 32 := 0#32
  let v31 : BitVec 32 := Scalar.subi c7_i32 c0_i32_11
  let c128_i32 : BitVec 32 := 128#32
  let v32 : BitVec 32 := Scalar.muli v31 c128_i32
  v32
def k0_off1 (c0_i32_11 : BitVec 32) : Fin 2 → Nat :=
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v35 : Index := Scalar.indexCast v33
  let c0_12 : Index := 0#32
  ![v35.toNat, 0]
def k0_off2 (c0_i32_11 : BitVec 32) : Fin 3 → Nat :=
  let c3 : Index := 3#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v105 : Index := Scalar.indexCast v33
  let c0_34 : Index := 0#32
  ![3, v105.toNat, 0]
def k0_off3 (c0_i32_11 : BitVec 32) : Fin 4 → Nat :=
  let c0_47 : Index := 0#32
  let c7_i32 : BitVec 32 := 7#32
  let v31 : BitVec 32 := Scalar.subi c7_i32 c0_i32_11
  let v159 : Index := Scalar.indexCast v31
  let c0_48 : Index := 0#32
  let c0_49 : Index := 0#32
  ![0, v159.toNat, 0, 0]
def k0_off4 (c0_i32_11 : BitVec 32) : Fin 3 → Nat :=
  let c1 : Index := 1#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v241 : Index := Scalar.indexCast v33
  let c0_74 : Index := 0#32
  ![1, v241.toNat, 0]
def k0_off5 (c0_i32_11 : BitVec 32) : Fin 3 → Nat :=
  let c0_84 : Index := 0#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v267 : Index := Scalar.indexCast v33
  let c0_85 : Index := 0#32
  ![0, v267.toNat, 0]
def k0_off6 (c0_i32_11 : BitVec 32) : Fin 3 → Nat :=
  let c2 : Index := 2#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v272 : Index := Scalar.indexCast v33
  let c0_86 : Index := 0#32
  ![2, v272.toNat, 0]
def k0_off7 (c0_i32_11 : BitVec 32) : Fin 2 → Nat :=
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v277 : Index := Scalar.indexCast v33
  let c128 : Index := 128#32
  ![v277.toNat, 128]
def k0_off8 (c0_i32_11 : BitVec 32) : Fin 3 → Nat :=
  let c3_108 : Index := 3#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v347 : Index := Scalar.indexCast v33
  let c128_109 : Index := 128#32
  ![3, v347.toNat, 128]
def k0_off9 (c0_i32_11 : BitVec 32) : Fin 4 → Nat :=
  let c1_122 : Index := 1#32
  let c7_i32 : BitVec 32 := 7#32
  let v31 : BitVec 32 := Scalar.subi c7_i32 c0_i32_11
  let v401 : Index := Scalar.indexCast v31
  let c0_123 : Index := 0#32
  let c0_124 : Index := 0#32
  ![1, v401.toNat, 0, 0]
def k0_off10 (c0_i32_11 : BitVec 32) : Fin 3 → Nat :=
  let c1_149 : Index := 1#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v483 : Index := Scalar.indexCast v33
  let c128_150 : Index := 128#32
  ![1, v483.toNat, 128]
def k0_off11 (c0_i32_11 : BitVec 32) : Fin 3 → Nat :=
  let c0_160 : Index := 0#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v509 : Index := Scalar.indexCast v33
  let c128_161 : Index := 128#32
  ![0, v509.toNat, 128]
def k0_off12 (c0_i32_11 : BitVec 32) : Fin 3 → Nat :=
  let c2_162 : Index := 2#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v514 : Index := Scalar.indexCast v33
  let c128_163 : Index := 128#32
  ![2, v514.toNat, 128]
def k0_off13 (c0_i32_11 : BitVec 32) : Fin 2 → Nat :=
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v519 : Index := Scalar.indexCast v33
  let c256 : Index := 256#32
  ![v519.toNat, 256]
def k0_off14 (c0_i32_11 : BitVec 32) : Fin 3 → Nat :=
  let c3_185 : Index := 3#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v589 : Index := Scalar.indexCast v33
  let c256_186 : Index := 256#32
  ![3, v589.toNat, 256]
def k0_off15 (c0_i32_11 : BitVec 32) : Fin 4 → Nat :=
  let c2_199 : Index := 2#32
  let c7_i32 : BitVec 32 := 7#32
  let v31 : BitVec 32 := Scalar.subi c7_i32 c0_i32_11
  let v643 : Index := Scalar.indexCast v31
  let c0_200 : Index := 0#32
  let c0_201 : Index := 0#32
  ![2, v643.toNat, 0, 0]
def k0_off16 (c0_i32_11 : BitVec 32) : Fin 3 → Nat :=
  let c1_226 : Index := 1#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v725 : Index := Scalar.indexCast v33
  let c256_227 : Index := 256#32
  ![1, v725.toNat, 256]
def k0_off17 (c0_i32_11 : BitVec 32) : Fin 3 → Nat :=
  let c0_237 : Index := 0#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v751 : Index := Scalar.indexCast v33
  let c256_238 : Index := 256#32
  ![0, v751.toNat, 256]
def k0_off18 (c0_i32_11 : BitVec 32) : Fin 3 → Nat :=
  let c2_239 : Index := 2#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v756 : Index := Scalar.indexCast v33
  let c256_240 : Index := 256#32
  ![2, v756.toNat, 256]
def k0_off19 (c0_i32_11 : BitVec 32) : Fin 2 → Nat :=
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v761 : Index := Scalar.indexCast v33
  let c384 : Index := 384#32
  ![v761.toNat, 384]
def k0_off20 (c0_i32_11 : BitVec 32) : Fin 3 → Nat :=
  let c3_262 : Index := 3#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v831 : Index := Scalar.indexCast v33
  let c384_263 : Index := 384#32
  ![3, v831.toNat, 384]
def k0_off21 (c0_i32_11 : BitVec 32) : Fin 4 → Nat :=
  let c3_276 : Index := 3#32
  let c7_i32 : BitVec 32 := 7#32
  let v31 : BitVec 32 := Scalar.subi c7_i32 c0_i32_11
  let v885 : Index := Scalar.indexCast v31
  let c0_277 : Index := 0#32
  let c0_278 : Index := 0#32
  ![3, v885.toNat, 0, 0]
def k0_off22 (c0_i32_11 : BitVec 32) : Fin 3 → Nat :=
  let c1_303 : Index := 1#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v967 : Index := Scalar.indexCast v33
  let c384_304 : Index := 384#32
  ![1, v967.toNat, 384]
def k0_off23 (c0_i32_11 : BitVec 32) : Fin 3 → Nat :=
  let c0_314 : Index := 0#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v993 : Index := Scalar.indexCast v33
  let c384_315 : Index := 384#32
  ![0, v993.toNat, 384]
def k0_off24 (c0_i32_11 : BitVec 32) : Fin 3 → Nat :=
  let c2_316 : Index := 2#32
  let c7_i32 : BitVec 32 := 7#32
  let v31 : BitVec 32 := Scalar.subi c7_i32 c0_i32_11
  let c128_i32 : BitVec 32 := 128#32
  let v32 : BitVec 32 := Scalar.muli v31 c128_i32
  let v33 : BitVec 32 := v32
  let v998 : Index := Scalar.indexCast v33
  let c384_317 : Index := 384#32
  ![2, v998.toNat, 384]
def k0_mult2 : BitVec 32 :=
  let c7_i32_318 : BitVec 32 := 7#32
  let c1_i32 : BitVec 32 := 1#32
  let v1002 : BitVec 32 := Scalar.subi c7_i32_318 c1_i32
  let c128_i32_319 : BitVec 32 := 128#32
  let v1003 : BitVec 32 := Scalar.muli v1002 c128_i32_319
  v1003
def k0_mult3 : BitVec 32 :=
  let c7_i32_632 : BitVec 32 := 7#32
  let c2_i32 : BitVec 32 := 2#32
  let v1973 : BitVec 32 := Scalar.subi c7_i32_632 c2_i32
  let c128_i32_633 : BitVec 32 := 128#32
  let v1974 : BitVec 32 := Scalar.muli v1973 c128_i32_633
  v1974
def k0_mult4 : BitVec 32 :=
  let c7_i32_946 : BitVec 32 := 7#32
  let c3_i32 : BitVec 32 := 3#32
  let v2944 : BitVec 32 := Scalar.subi c7_i32_946 c3_i32
  let c128_i32_947 : BitVec 32 := 128#32
  let v2945 : BitVec 32 := Scalar.muli v2944 c128_i32_947
  v2945
def k0_mult5 : BitVec 32 :=
  let c7_i32_1260 : BitVec 32 := 7#32
  let c4_i32 : BitVec 32 := 4#32
  let v3915 : BitVec 32 := Scalar.subi c7_i32_1260 c4_i32
  let c128_i32_1261 : BitVec 32 := 128#32
  let v3916 : BitVec 32 := Scalar.muli v3915 c128_i32_1261
  v3916
def k0_mult6 : BitVec 32 :=
  let c7_i32_1574 : BitVec 32 := 7#32
  let c5_i32 : BitVec 32 := 5#32
  let v4886 : BitVec 32 := Scalar.subi c7_i32_1574 c5_i32
  let c128_i32_1575 : BitVec 32 := 128#32
  let v4887 : BitVec 32 := Scalar.muli v4886 c128_i32_1575
  v4887
def k0_mult7 : BitVec 32 :=
  let c7_i32_1888 : BitVec 32 := 7#32
  let c6_i32 : BitVec 32 := 6#32
  let v5857 : BitVec 32 := Scalar.subi c7_i32_1888 c6_i32
  let c128_i32_1889 : BitVec 32 := 128#32
  let v5858 : BitVec 32 := Scalar.muli v5857 c128_i32_1889
  v5858
def k0_mult8 : BitVec 32 :=
  let c7_i32_2203 : BitVec 32 := 7#32
  let c7_i32_2202 : BitVec 32 := 7#32
  let v6828 : BitVec 32 := Scalar.subi c7_i32_2203 c7_i32_2202
  let c128_i32_2204 : BitVec 32 := 128#32
  let v6829 : BitVec 32 := Scalar.muli v6828 c128_i32_2204
  v6829
def cc0_transform_0 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c2_i32 : BitVec 32 := 2#32
  let v1 : BitVec 32 := Scalar.addi c2_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c4_i32 : BitVec 32 := 4#32
  let v1 : BitVec 32 := Scalar.addi c4_i32 arg0
  let c0_i32 : BitVec 32 := 0#32
  ![v0.toNat, v1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c6_i32 : BitVec 32 := 6#32
  let v1 : BitVec 32 := Scalar.addi c6_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_8 (i : grid0.Coords) : Fin 4 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  let c0_i32_1 : BitVec 32 := 0#32
  ![arg0.toNat, v0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  ![v0.toNat, arg0.toNat]

def cc0_transform_10 (i : grid0.Coords) : Fin 3 → Nat :=
  let arg0 : BitVec 32 := BitVec.ofNat 32 (i 0).val
  let arg1 : BitVec 32 := BitVec.ofNat 32 (i 1).val
  let c7_i32 : BitVec 32 := 7#32
  let v0 : BitVec 32 := Scalar.subi c7_i32 arg1
  let c0_i32 : BitVec 32 := 0#32
  let c0_i32_0 : BitVec 32 := 0#32
  ![c0_i32.toNat, v0.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S4x1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S8x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== DZ.lean ====
abbrev S8192x2048 : Shape := ⟨2, ![8192, 2048]⟩
abbrev S5632x2048 : Shape := ⟨2, ![5632, 2048]⟩
abbrev S8192x5632 : Shape := ⟨2, ![8192, 5632]⟩
abbrev S1024x2048 : Shape := ⟨2, ![1024, 2048]⟩
abbrev S1408x2048 : Shape := ⟨2, ![1408, 2048]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DZReferenceIdeal.lean ====
abbrev S8192x2048 : Shape := ⟨2, ![8192, 2048]⟩
abbrev S5632x2048 : Shape := ⟨2, ![5632, 2048]⟩
abbrev S_ : Shape := ⟨0, ![]⟩
abbrev S8192x5632 : Shape := ⟨2, ![8192, 5632]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S5632x2048, .bf16⟩
  | .hbm, ⟨2, _⟩ => ⟨S_, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | .hbm, ⟨7, _⟩ => ⟨S8192x5632, .f32⟩
  | .hbm, ⟨8, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GWDown.lean ====
abbrev S8192x5632 : Shape := ⟨2, ![8192, 5632]⟩
abbrev S8192x2048 : Shape := ⟨2, ![8192, 2048]⟩
abbrev S5632x2048 : Shape := ⟨2, ![5632, 2048]⟩
abbrev S2048x1408 : Shape := ⟨2, ![2048, 1408]⟩
abbrev S2048x1024 : Shape := ⟨2, ![2048, 1024]⟩
abbrev S1408x1024 : Shape := ⟨2, ![1408, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S5632x2048, .f32⟩
  | .hbm, ⟨3, _⟩ => ⟨S5632x2048, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .bf16⟩
  | .local _ .vmem, ⟨7, _⟩ => ⟨S1408x1024, .bf16⟩
  | .local _ .vmem, ⟨8, _⟩ => ⟨S1408x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1408x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GWDownReferenceIdeal.lean ====
abbrev S8192x5632 : Shape := ⟨2, ![8192, 5632]⟩
abbrev S8192x2048 : Shape := ⟨2, ![8192, 2048]⟩
abbrev S_ : Shape := ⟨0, ![]⟩
abbrev S5632x2048 : Shape := ⟨2, ![5632, 2048]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x2048, .bf16⟩
  | .hbm, ⟨2, _⟩ => ⟨S_, .f32⟩
  | .hbm, ⟨3, _⟩ => ⟨S5632x2048, .f32⟩
  | .hbm, ⟨4, _⟩ => ⟨S8192x5632, .f32⟩
  | .hbm, ⟨5, _⟩ => ⟨S8192x2048, .f32⟩
  | .hbm, ⟨6, _⟩ => ⟨S8192x2048, .f32⟩
  | .hbm, ⟨7, _⟩ => ⟨S2048x5632, .f32⟩
  | .hbm, ⟨8, _⟩ => ⟨S5632x2048, .f32⟩
  | .hbm, ⟨9, _⟩ => ⟨S5632x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DH3Gate.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH3GateReferenceIdeal.lean ====
abbrev S8192x5632 : Shape := ⟨2, ![8192, 5632]⟩
abbrev S2048x5632 : Shape := ⟨2, ![2048, 5632]⟩
abbrev S_ : Shape := ⟨0, ![]⟩
abbrev S8192x2048 : Shape := ⟨2, ![8192, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S_, .f32⟩
  | .hbm, ⟨3, _⟩ => ⟨S8192x2048, .f32⟩
  | .hbm, ⟨4, _⟩ => ⟨S2048x5632, .f32⟩
  | .hbm, ⟨5, _⟩ => ⟨S8192x5632, .f32⟩
  | .hbm, ⟨6, _⟩ => ⟨S8192x5632, .f32⟩
  | .hbm, ⟨7, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DH3Up.lean ====
abbrev S8192x5632 : Shape := ⟨2, ![8192, 5632]⟩
abbrev S2048x5632 : Shape := ⟨2, ![2048, 5632]⟩
abbrev S8192x2048 : Shape := ⟨2, ![8192, 2048]⟩
abbrev S1024x2816 : Shape := ⟨2, ![1024, 2816]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S8192x2048, .bf16⟩
  | .local _ .vmem, ⟨0, _⟩ => ⟨S1024x2816, .bf16⟩
  | .local _ .vmem, ⟨1, _⟩ => ⟨S1024x2816, .bf16⟩
  | .local _ .vmem, ⟨2, _⟩ => ⟨S1024x2816, .bf16⟩
  | .local _ .vmem, ⟨3, _⟩ => ⟨S1024x2816, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DH3UpReferenceIdeal.lean ====
abbrev S8192x5632 : Shape := ⟨2, ![8192, 5632]⟩
abbrev S2048x5632 : Shape := ⟨2, ![2048, 5632]⟩
abbrev S8192x2048 : Shape := ⟨2, ![8192, 2048]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S2048x5632, .bf16⟩
  | .hbm, ⟨2, _⟩ => ⟨S8192x2048, .f32⟩
  | .hbm, ⟨3, _⟩ => ⟨S_, .f32⟩
  | .hbm, ⟨4, _⟩ => ⟨S8192x2048, .f32⟩
  | .hbm, ⟨5, _⟩ => ⟨S2048x5632, .f32⟩
  | .hbm, ⟨6, _⟩ => ⟨S8192x5632, .f32⟩
  | .hbm, ⟨7, _⟩ => ⟨S8192x5632, .f32⟩
  | .hbm, ⟨8, _⟩ => ⟨S8192x2048, .f32⟩
  | .hbm, ⟨9, _⟩ => ⟨S8192x2048, .f32⟩
  | .hbm, ⟨10, _⟩ => ⟨S8192x2048, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== GWGate.lean ====
abbrev S8192x2048 : Shape := ⟨2, ![8192, 2048]⟩
abbrev S8192x5632 : Shape := ⟨2, ![8192, 5632]⟩
abbrev S2048x5632 : Shape := ⟨2, ![2048, 5632]⟩
abbrev S2048x1024 : Shape := ⟨2, ![2048, 1024]⟩
abbrev S2048x1408 : Shape := ⟨2, ![2048, 1408]⟩
abbrev S1024x1408 : Shape := ⟨2, ![1024, 1408]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S2048x5632, .f32⟩
  | .hbm, ⟨3, _⟩ => ⟨S2048x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .bf16⟩
  | .local _ .vmem, ⟨7, _⟩ => ⟨S1024x1408, .bf16⟩
  | .local _ .vmem, ⟨8, _⟩ => ⟨S1024x1408, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GWGateReferenceIdeal.lean ====
abbrev S8192x2048 : Shape := ⟨2, ![8192, 2048]⟩
abbrev S8192x5632 : Shape := ⟨2, ![8192, 5632]⟩
abbrev S_ : Shape := ⟨0, ![]⟩
abbrev S2048x5632 : Shape := ⟨2, ![2048, 5632]⟩
abbrev S5632x2048 : Shape := ⟨2, ![5632, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x5632, .bf16⟩
  | .hbm, ⟨2, _⟩ => ⟨S_, .f32⟩
  | .hbm, ⟨3, _⟩ => ⟨S2048x5632, .f32⟩
  | .hbm, ⟨4, _⟩ => ⟨S8192x2048, .f32⟩
  | .hbm, ⟨5, _⟩ => ⟨S8192x5632, .f32⟩
  | .hbm, ⟨6, _⟩ => ⟨S8192x5632, .f32⟩
  | .hbm, ⟨7, _⟩ => ⟨S5632x2048, .f32⟩
  | .hbm, ⟨8, _⟩ => ⟨S2048x5632, .f32⟩
  | .hbm, ⟨9, _⟩ => ⟨S2048x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DAtt.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DAttReferenceIdeal.lean ====
abbrev S8192x2048 : Shape := ⟨2, ![8192, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S_, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GWo.lean ====
abbrev S8192x2048 : Shape := ⟨2, ![8192, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GWoReferenceIdeal.lean ====
abbrev S8192x2048 : Shape := ⟨2, ![8192, 2048]⟩
abbrev S_ : Shape := ⟨0, ![]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S_, .f32⟩
  | .hbm, ⟨3, _⟩ => ⟨S2048x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GWk.lean ====
abbrev S256x2048 : Shape := ⟨2, ![256, 2048]⟩
abbrev S2048x2048 : Shape := ⟨2, ![2048, 2048]⟩
abbrev S256x1024 : Shape := ⟨2, ![256, 1024]⟩
abbrev S2048x1024 : Shape := ⟨2, ![2048, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S2048x2048, .f32⟩
  | .hbm, ⟨3, _⟩ => ⟨S2048x2048, .bf16⟩
  | .local _ .vmem, ⟨0, _⟩ => ⟨S256x2048, .bf16⟩
  | .local _ .vmem, ⟨1, _⟩ => ⟨S256x1024, .f32⟩
  | .local _ .vmem, ⟨2, _⟩ => ⟨S256x1024, .f32⟩
  | .local _ .vmem, ⟨3, _⟩ => ⟨S2048x1024, .f32⟩
  | .local _ .vmem, ⟨4, _⟩ => ⟨S2048x1024, .f32⟩
  | .local _ .vmem, ⟨5, _⟩ => ⟨S2048x1024, .bf16⟩
  | .local _ .vmem, ⟨6, _⟩ => ⟨S2048x1024, .bf16⟩
  | .local _ .vmem, ⟨7, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GWkReferenceIdeal.lean ====
abbrev S256x2048 : Shape := ⟨2, ![256, 2048]⟩
abbrev S_ : Shape := ⟨0, ![]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S256x2048, .f32⟩
  | .hbm, ⟨2, _⟩ => ⟨S_, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== DMemK.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DMemKReferenceIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S_, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== DMemV.lean ====
abbrev S256x2048 : Shape := ⟨2, ![256, 2048]⟩
abbrev S2048x2048 : Shape := ⟨2, ![2048, 2048]⟩
abbrev S1024x2048 : Shape := ⟨2, ![1024, 2048]⟩
abbrev S256x1024 : Shape := ⟨2, ![256, 1024]⟩
abbrev S8x128 : Shape := ⟨2, ![8, 128]⟩

abbrev nBuf : Space → Nat
  | .hbm => 4
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .hbm, ⟨3, _⟩ => ⟨S256x2048, .f32⟩
  | .local _ .vmem, ⟨0, _⟩ => ⟨S256x2048, .f32⟩
  | .local _ .vmem, ⟨1, _⟩ => ⟨S1024x2048, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S8x128, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== DMemVReferenceIdeal.lean ====
abbrev S256x2048 : Shape := ⟨2, ![256, 2048]⟩
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S2048x2048, .bf16⟩
  | .hbm, ⟨2, _⟩ => ⟨S256x2048, .f32⟩
  | .hbm, ⟨3, _⟩ => ⟨S_, .f32⟩
  | .hbm, ⟨4, _⟩ => ⟨S256x2048, .f32⟩
  | .hbm, ⟨5, _⟩ => ⟨S2048x2048, .f32⟩
  | .hbm, ⟨6, _⟩ => ⟨S256x2048, .f32⟩
  | .hbm, ⟨7, _⟩ => ⟨S256x2048, .f32⟩
  | .hbm, ⟨8, _⟩ => ⟨S256x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== GWIn.lean ====
abbrev S8192x2048 : Shape := ⟨2, ![8192, 2048]⟩
abbrev S8x8192x1024 : Shape := ⟨3, ![8, 8192, 1024]⟩
abbrev S2048x7168 : Shape := ⟨2, ![2048, 7168]⟩
abbrev S2048x1024 : Shape := ⟨2, ![2048, 1024]⟩
abbrev S1x2048x1024 : Shape := ⟨3, ![1, 2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S8x8192x1024, .bf16⟩
  | .hbm, ⟨2, _⟩ => ⟨S2048x7168, .f32⟩
  | .hbm, ⟨3, _⟩ => ⟨S2048x7168, .bf16⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 7, 4], ![false, false, false]⟩

def k0_cond3 (i : grid0.Coords) : BitVec 1 :=
  let arg2 : BitVec 32 := BitVec.ofNat 32 (i 2).val
  let c3_i32_3 : BitVec 32 := 3#32
  let v8 : BitVec 1 := Scalar.cmpi .eq arg2 c3_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== GWInReferenceIdeal.lean ====
abbrev S8192x2048 : Shape := ⟨2, ![8192, 2048]⟩
abbrev S8x8192x1024 : Shape := ⟨3, ![8, 8192, 1024]⟩
abbrev S7x8192x1024 : Shape := ⟨3, ![7, 8192, 1024]⟩
abbrev S8192x7x1024 : Shape := ⟨3, ![8192, 7, 1024]⟩
abbrev S8192x7168 : Shape := ⟨2, ![8192, 7168]⟩
abbrev S_ : Shape := ⟨0, ![]⟩
abbrev S2048x7168 : Shape := ⟨2, ![2048, 7168]⟩
abbrev S7168x2048 : Shape := ⟨2, ![7168, 2048]⟩

abbrev nBuf : Space → Nat
  | .hbm => 13
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8x8192x1024, .bf16⟩
  | .hbm, ⟨2, _⟩ => ⟨S7x8192x1024, .bf16⟩
  | .hbm, ⟨3, _⟩ => ⟨S8192x7x1024, .bf16⟩
  | .hbm, ⟨4, _⟩ => ⟨S8192x7168, .bf16⟩
  | .hbm, ⟨5, _⟩ => ⟨S_, .f32⟩
  | .hbm, ⟨6, _⟩ => ⟨S2048x7168, .f32⟩
  | .hbm, ⟨7, _⟩ => ⟨S8192x2048, .f32⟩
  | .hbm, ⟨8, _⟩ => ⟨S8192x7168, .f32⟩
  | .hbm, ⟨9, _⟩ => ⟨S8192x7168, .f32⟩
  | .hbm, ⟨10, _⟩ => ⟨S7168x2048, .f32⟩
  | .hbm, ⟨11, _⟩ => ⟨S2048x7168, .f32⟩
  | .hbm, ⟨12, _⟩ => ⟨S2048x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== DH1.lean ====
abbrev S8x8192x1024 : Shape := ⟨3, ![8, 8192, 1024]⟩
abbrev S2048x7168 : Shape := ⟨2, ![2048, 7168]⟩
abbrev S8192x2048 : Shape := ⟨2, ![8192, 2048]⟩
abbrev S1x1024x1024 : Shape := ⟨3, ![1, 1024, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8x8192x1024, .bf16⟩
  | .hbm, ⟨1, _⟩ => ⟨S2048x7168, .bf16⟩
  | .hbm, ⟨2, _⟩ => ⟨S8192x2048, .bf16⟩
  | .local _ .vmem, ⟨0, _⟩ => ⟨S1x1024x1024, .bf16⟩
  | .local _ .vmem, ⟨1, _⟩ => ⟨S1x1024x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 7], ![false, false, false]⟩

def k0_cond3 (i : grid0.Coords) : BitVec 1 :=
  let arg2 : BitVec 32 := BitVec.ofNat 32 (i 2).val
  let c6_i32_3 : BitVec 32 := 6#32
  let v8 : BitVec 1 := Scalar.cmpi .eq arg2 c6_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DH1ReferenceIdeal.lean ====
abbrev S8x8192x1024 : Shape := ⟨3, ![8, 8192, 1024]⟩
abbrev S2048x7168 : Shape := ⟨2, ![2048, 7168]⟩
abbrev S7x8192x1024 : Shape := ⟨3, ![7, 8192, 1024]⟩
abbrev S8192x7x1024 : Shape := ⟨3, ![8192, 7, 1024]⟩
abbrev S8192x7168 : Shape := ⟨2, ![8192, 7168]⟩
abbrev S_ : Shape := ⟨0, ![]⟩
abbrev S8192x2048 : Shape := ⟨2, ![8192, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x8192x1024, .bf16⟩
  | .hbm, ⟨1, _⟩ => ⟨S2048x7168, .bf16⟩
  | .hbm, ⟨2, _⟩ => ⟨S7x8192x1024, .bf16⟩
  | .hbm, ⟨3, _⟩ => ⟨S8192x7x1024, .bf16⟩
  | .hbm, ⟨4, _⟩ => ⟨S8192x7168, .bf16⟩
  | .hbm, ⟨5, _⟩ => ⟨S_, .f32⟩
  | .hbm, ⟨6, _⟩ => ⟨S8192x2048, .f32⟩
  | .hbm, ⟨7, _⟩ => ⟨S2048x7168, .f32⟩
  | .hbm, ⟨8, _⟩ => ⟨S8192x7168, .f32⟩
  | .hbm, ⟨9, _⟩ => ⟨S8192x7168, .f32⟩
  | .hbm, ⟨10, _⟩ => ⟨S8192x2048, .f32⟩
  | .hbm, ⟨11, _⟩ => ⟨S8192x2048, .bf16⟩
  | _, _ => ⟨S8x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== FfnGate.lean ====
abbrev S8192x2048 : Shape := ⟨2, ![8192, 2048]⟩
abbrev S2048x5632 : Shape := ⟨2, ![2048, 5632]⟩
abbrev S8192x5632 : Shape := ⟨2, ![8192, 5632]⟩
abbrev S1024x2048 : Shape := ⟨2, ![1024, 2048]⟩
abbrev S2048x1408 : Shape := ⟨2, ![2048, 1408]⟩
abbrev S1024x1408 : Shape := ⟨2, ![1024, 1408]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x5632, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1024x1408, .bf16⟩
  | .local _ .vmem, ⟨5, _⟩ => ⟨S1024x1408, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== FfnGateReferenceIdeal.lean ====
abbrev S8192x2048 : Shape := ⟨2, ![8192, 2048]⟩
abbrev S2048x5632 : Shape := ⟨2, ![2048, 5632]⟩
abbrev S8192x5632 : Shape := ⟨2, ![8192, 5632]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x5632, .bf16⟩
  | .hbm, ⟨2, _⟩ => ⟨S8192x2048, .f32⟩
  | .hbm, ⟨3, _⟩ => ⟨S2048x5632, .f32⟩
  | .hbm, ⟨4, _⟩ => ⟨S8192x5632, .f32⟩
  | .hbm, ⟨5, _⟩ => ⟨S8192x5632, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnDown.lean ====
abbrev S8192x5632 : Shape := ⟨2, ![8192, 5632]⟩
abbrev S5632x2048 : Shape := ⟨2, ![5632, 2048]⟩
abbrev S8192x2048 : Shape := ⟨2, ![8192, 2048]⟩
abbrev S1024x2816 : Shape := ⟨2, ![1024, 2816]⟩
abbrev S2816x1024 : Shape := ⟨2, ![2816, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x2048, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S2816x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 2], ![false, false, false]⟩

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2816x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== FfnDownReferenceIdeal.lean ====
abbrev S8192x5632 : Shape := ⟨2, ![8192, 5632]⟩
abbrev S5632x2048 : Shape := ⟨2, ![5632, 2048]⟩
abbrev S8192x2048 : Shape := ⟨2, ![8192, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S5632x2048, .bf16⟩
  | .hbm, ⟨2, _⟩ => ⟨S8192x2048, .f32⟩
  | .hbm, ⟨3, _⟩ => ⟨S8192x5632, .f32⟩
  | .hbm, ⟨4, _⟩ => ⟨S5632x2048, .f32⟩
  | .hbm, ⟨5, _⟩ => ⟨S8192x2048, .f32⟩
  | .hbm, ⟨6, _⟩ => ⟨S8192x2048, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjOut.lean ====
abbrev S8192x2048 : Shape := ⟨2, ![8192, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩
abbrev S8x128 : Shape := ⟨2, ![8, 128]⟩

abbrev nBuf : Space → Nat
  | .hbm => 4
  | .vmem => 9
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== ProjOutReferenceIdeal.lean ====
abbrev S8192x2048 : Shape := ⟨2, ![8192, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S8192x2048, .f32⟩
  | .hbm, ⟨6, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== AttnQ.lean ====
abbrev S8192x2048 : Shape := ⟨2, ![8192, 2048]⟩
abbrev S2048x2048 : Shape := ⟨2, ![2048, 2048]⟩
abbrev S2048x1024 : Shape := ⟨2, ![2048, 1024]⟩
abbrev S8x128 : Shape := ⟨2, ![8, 128]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .bf16⟩
  | .local _ .vmem, ⟨0, _⟩ => ⟨S2048x2048, .bf16⟩
  | .local _ .vmem, ⟨1, _⟩ => ⟨S2048x2048, .bf16⟩
  | .local _ .vmem, ⟨2, _⟩ => ⟨S2048x1024, .bf16⟩
  | .local _ .vmem, ⟨3, _⟩ => ⟨S2048x1024, .bf16⟩
  | .local _ .vmem, ⟨4, _⟩ => ⟨S2048x1024, .bf16⟩
  | .local _ .vmem, ⟨5, _⟩ => ⟨S2048x1024, .bf16⟩
  | .local _ .vmem, ⟨6, _⟩ => ⟨S8x128, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnQReferenceIdeal.lean ====
abbrev S8192x2048 : Shape := ⟨2, ![8192, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S2048x2048, .f32⟩
  | .hbm, ⟨4, _⟩ => ⟨S8192x2048, .f32⟩
  | .hbm, ⟨5, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== AttnK.lean ====
abbrev S256x2048 : Shape := ⟨2, ![256, 2048]⟩
abbrev S2048x2048 : Shape := ⟨2, ![2048, 2048]⟩
abbrev S2048x1024 : Shape := ⟨2, ![2048, 1024]⟩
abbrev S256x1024 : Shape := ⟨2, ![256, 1024]⟩
abbrev S8x128 : Shape := ⟨2, ![8, 128]⟩

abbrev nBuf : Space → Nat
  | .hbm => 3
  | .vmem => 6
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .bf16⟩
  | .local _ .vmem, ⟨0, _⟩ => ⟨S256x2048, .bf16⟩
  | .local _ .vmem, ⟨1, _⟩ => ⟨S2048x1024, .bf16⟩
  | .local _ .vmem, ⟨2, _⟩ => ⟨S2048x1024, .bf16⟩
  | .local _ .vmem, ⟨3, _⟩ => ⟨S256x1024, .bf16⟩
  | .local _ .vmem, ⟨4, _⟩ => ⟨S256x1024, .bf16⟩
  | .local _ .vmem, ⟨5, _⟩ => ⟨S8x128, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== AttnKReferenceIdeal.lean ====
abbrev S256x2048 : Shape := ⟨2, ![256, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdIdeal.lean ====
abbrev S8192x2048 : Shape := ⟨2, ![8192, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdReferenceIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S8192x1x2048 : Shape := ⟨3, ![8192, 1, 2048]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S8192x2048, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x2048, .f32⟩
  | .hbm, ⟨14, _⟩ => ⟨S8192x2048, .f32⟩
  | .hbm, ⟨15, _⟩ => ⟨S8192x1x2048, .f32⟩
  | .hbm, ⟨16, _⟩ => ⟨S1x1x2048, .f32⟩
  | .hbm, ⟨17, _⟩ => ⟨S8192x1x2048, .f32⟩
  | .hbm, ⟨18, _⟩ => ⟨S8192x1x2048, .f32⟩
  | .hbm, ⟨19, _⟩ => ⟨S8192x2048, .f32⟩
  | .hbm, ⟨20, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormMem.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemReferenceIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S256x1x2048 : Shape := ⟨3, ![256, 1, 2048]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x2048, .f32⟩
  | .hbm, ⟨14, _⟩ => ⟨S256x2048, .f32⟩
  | .hbm, ⟨15, _⟩ => ⟨S256x1x2048, .f32⟩
  | .hbm, ⟨16, _⟩ => ⟨S1x1x2048, .f32⟩
  | .hbm, ⟨17, _⟩ => ⟨S256x1x2048, .f32⟩
  | .hbm, ⟨18, _⟩ => ⟨S256x1x2048, .f32⟩
  | .hbm, ⟨19, _⟩ => ⟨S256x2048, .f32⟩
  | .hbm, ⟨20, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== NormBwd.lean ====
abbrev S8192x2048 : Shape := ⟨2, ![8192, 2048]⟩
abbrev S1x2048 : Shape := ⟨2, ![1, 2048]⟩
abbrev S8x2048 : Shape := ⟨2, ![8, 2048]⟩
abbrev S512x2048 : Shape := ⟨2, ![512, 2048]⟩
abbrev S512 : Shape := ⟨1, ![512]⟩
abbrev S512x1 : Shape := ⟨2, ![512, 1]⟩
abbrev S64x8x2048 : Shape := ⟨3, ![64, 8, 2048]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .f32⟩
  | .hbm, ⟨5, _⟩ => ⟨S8192x2048, .bf16⟩
  | .hbm, ⟨6, _⟩ => ⟨S8x2048, .f32⟩
  | .local _ .vmem, ⟨0, _⟩ => ⟨S512x2048, .bf16⟩
  | .local _ .vmem, ⟨1, _⟩ => ⟨S512x2048, .bf16⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .bf16⟩
  | .local _ .vmem, ⟨10, _⟩ => ⟨S512x2048, .bf16⟩
  | .local _ .vmem, ⟨11, _⟩ => ⟨S8x2048, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormBwdReferenceIdeal.lean ====
abbrev S8192x2048 : Shape := ⟨2, ![8192, 2048]⟩
abbrev S1x2048 : Shape := ⟨2, ![1, 2048]⟩
abbrev S1x1x1x2048 : Shape := ⟨4, ![1, 1, 1, 2048]⟩
abbrev S8x1x1x2048 : Shape := ⟨4, ![8, 1, 1, 2048]⟩
abbrev S8x2048 : Shape := ⟨2, ![8, 2048]⟩
abbrev S_ : Shape := ⟨0, ![]⟩
abbrev S8192 : Shape := ⟨1, ![8192]⟩
abbrev S8192x1 : Shape := ⟨2, ![8192, 1]⟩
abbrev S1024x8x2048 : Shape := ⟨3, ![1024, 8, 2048]⟩
abbrev S1x8x2048 : Shape := ⟨3, ![1, 8, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S1x1x1x2048, .f32⟩
  | .hbm, ⟨5, _⟩ => ⟨S8x1x1x2048, .f32⟩
  | .hbm, ⟨6, _⟩ => ⟨S8x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x2048, .f32⟩
  | .hbm, ⟨23, _⟩ => ⟨S8192x2048, .f32⟩
  | .hbm, ⟨24, _⟩ => ⟨S1024x8x2048, .f32⟩
  | .hbm, ⟨25, _⟩ => ⟨S1x8x2048, .f32⟩
  | .hbm, ⟨26, _⟩ => ⟨S1024x8x2048, .f32⟩
  | .hbm, ⟨27, _⟩ => ⟨S1024x8x2048, .f32⟩
  | .hbm, ⟨28, _⟩ => ⟨S8192x2048, .f32⟩
  | .hbm, ⟨29, _⟩ => ⟨S8192x2048, .f32⟩
  | .hbm, ⟨30, _⟩ => ⟨S1024x8x2048, .f32⟩
  | .hbm, ⟨31, _⟩ => ⟨S1024x8x2048, .f32⟩
  | .hbm, ⟨32, _⟩ => ⟨S_, .f32⟩
  | .hbm, ⟨33, _⟩ => ⟨S8x2048, .f32⟩
  | .hbm, ⟨34, _⟩ => ⟨S1x8x2048, .f32⟩
  | .hbm, ⟨35, _⟩ => ⟨S1024x8x2048, .f32⟩
  | .hbm, ⟨36, _⟩ => ⟨S1024x8x2048, .f32⟩
  | .hbm, ⟨37, _⟩ => ⟨S_, .f32⟩
  | .hbm, ⟨38, _⟩ => ⟨S8x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192, .f32⟩
  | .hbm, ⟨43, _⟩ => ⟨S8192x1, .f32⟩
  | .hbm, ⟨44, _⟩ => ⟨S8192x2048, .f32⟩
  | .hbm, ⟨45, _⟩ => ⟨S8192x2048, .f32⟩
  | .hbm, ⟨46, _⟩ => ⟨S8192x1, .f32⟩
  | .hbm, ⟨47, _⟩ => ⟨S_, .f32⟩
  | .hbm, ⟨48, _⟩ => ⟨S8192x1, .f32⟩
  | .hbm, ⟨49, _⟩ => ⟨S8192x1, .f32⟩
  | .hbm, ⟨50, _⟩ => ⟨S_, .f32⟩
  | .hbm, ⟨51, _⟩ => ⟨S8192, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S8192x2048, .f32⟩
  | .hbm, ⟨59, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_5 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_cst_6 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩

abbrev nD : Nat := 1
abbrev τ : Topo := Topo.v7x

variable {F : FTy → Type} [FloatOps F]
-- ==== NormMemBwd.lean ====
abbrev S256x2048 : Shape := ⟨2, ![256, 2048]⟩
abbrev S1x2048 : Shape := ⟨2, ![1, 2048]⟩
abbrev S8x2048 : Shape := ⟨2, ![8, 2048]⟩
abbrev S256 : Shape := ⟨1, ![256]⟩
abbrev S256x1 : Shape := ⟨2, ![256, 1]⟩
abbrev S32x8x2048 : Shape := ⟨3, ![32, 8, 2048]⟩

abbrev nBuf : Space → Nat
  | .hbm => 6
  | .vmem => 6
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S256x2048, .f32⟩
  | .hbm, ⟨4, _⟩ => ⟨S256x2048, .bf16⟩
  | .hbm, ⟨5, _⟩ => ⟨S8x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S256x2048, .f32⟩
  | .local _ .vmem, ⟨4, _⟩ => ⟨S256x2048, .bf16⟩
  | .local _ .vmem, ⟨5, _⟩ => ⟨S8x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMemBwdReferenceIdeal.lean ====
abbrev S256x2048 : Shape := ⟨2, ![256, 2048]⟩
abbrev S1x2048 : Shape := ⟨2, ![1, 2048]⟩
abbrev S1x1x1x2048 : Shape := ⟨4, ![1, 1, 1, 2048]⟩
abbrev S8x1x1x2048 : Shape := ⟨4, ![8, 1, 1, 2048]⟩
abbrev S8x2048 : Shape := ⟨2, ![8, 2048]⟩
abbrev S_ : Shape := ⟨0, ![]⟩
abbrev S256 : Shape := ⟨1, ![256]⟩
abbrev S256x1 : Shape := ⟨2, ![256, 1]⟩
abbrev S32x8x2048 : Shape := ⟨3, ![32, 8, 2048]⟩
abbrev S1x8x2048 : Shape := ⟨3, ![1, 8, 2048]⟩

abbrev nBuf : Space → Nat
  | .hbm => 56
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S256x2048, .f32⟩
  | .hbm, ⟨2, _⟩ => ⟨S1x2048, .f32⟩
  | .hbm, ⟨3, _⟩ => ⟨S1x1x1x2048, .f32⟩
  | .hbm, ⟨4, _⟩ => ⟨S8x1x1x2048, .f32⟩
  | .hbm, ⟨5, _⟩ => ⟨S8x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1, .f32⟩
  | .hbm, ⟨18, _⟩ => ⟨S_, .f32⟩
  | .hbm, ⟨19, _⟩ => ⟨S256x1, .f32⟩
  | .hbm, ⟨20, _⟩ => ⟨S256x1, .f32⟩
  | .hbm, ⟨21, _⟩ => ⟨S256x2048, .f32⟩
  | .hbm, ⟨22, _⟩ => ⟨S256x2048, .f32⟩
  | .hbm, ⟨23, _⟩ => ⟨S32x8x2048, .f32⟩
  | .hbm, ⟨24, _⟩ => ⟨S1x8x2048, .f32⟩
  | .hbm, ⟨25, _⟩ => ⟨S32x8x2048, .f32⟩
  | .hbm, ⟨26, _⟩ => ⟨S32x8x2048, .f32⟩
  | .hbm, ⟨27, _⟩ => ⟨S256x2048, .f32⟩
  | .hbm, ⟨28, _⟩ => ⟨S32x8x2048, .f32⟩
  | .hbm, ⟨29, _⟩ => ⟨S32x8x2048, .f32⟩
  | .hbm, ⟨30, _⟩ => ⟨S_, .f32⟩
  | .hbm, ⟨31, _⟩ => ⟨S8x2048, .f32⟩
  | .hbm, ⟨32, _⟩ => ⟨S1x8x2048, .f32⟩
  | .hbm, ⟨33, _⟩ => ⟨S32x8x2048, .f32⟩
  | .hbm, ⟨34, _⟩ => ⟨S32x8x2048, .f32⟩
  | .hbm, ⟨35, _⟩ => ⟨S_, .f32⟩
  | .hbm, ⟨36, _⟩ => ⟨S8x2048, .f32⟩
  | .hbm, ⟨37, _⟩ => ⟨S256x2048, .f32⟩
  | .hbm, ⟨38, _⟩ => ⟨S256x2048, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S256x2048, .f32⟩
  | .hbm, ⟨43, _⟩ => ⟨S256x2048, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256, .f32⟩
  | .hbm, ⟨50, _⟩ => ⟨S256x2048, .f32⟩
  | .hbm, ⟨51, _⟩ => ⟨S256x2048, .f32⟩
  | .hbm, ⟨52, _⟩ => ⟨S256x2048, .f32⟩
  | .hbm, ⟨53, _⟩ => ⟨S256x2048, .f32⟩
  | .hbm, ⟨54, _⟩ => ⟨S256x2048, .f32⟩
  | .hbm, ⟨55, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_4 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_5 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_6 : Ref sig .tc := ⟨.hbm, 45, rfl⟩
abbrev main_v35 : Ref sig .tc := ⟨.hbm, 46, rfl⟩
abbrev main_v36 : Ref sig .tc := ⟨.hbm, 47, rfl⟩
abbrev main_cst_7 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩

abbrev nD : Nat := 1
abbrev τ : Topo := Topo.v7x

variable {F : FTy → Type} [FloatOps F]
-- ==== LossBwd.lean ====
abbrev S8192x2048 : Shape := ⟨2, ![8192, 2048]⟩
abbrev S1x2048 : Shape := ⟨2, ![1, 2048]⟩
abbrev S8x2048 : Shape := ⟨2, ![8, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S64x8x2048 : Shape := ⟨3, ![64, 8, 2048]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S8192x2048, .bf16⟩
  | .hbm, ⟨5, _⟩ => ⟨S8x2048, .f32⟩
  | .hbm, ⟨6, _⟩ => ⟨S8x128, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .bf16⟩
  | .local _ .vmem, ⟨8, _⟩ => ⟨S512x2048, .bf16⟩
  | .local _ .vmem, ⟨9, _⟩ => ⟨S8x2048, .f32⟩
  | .local _ .vmem, ⟨10, _⟩ => ⟨S8x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossBwdReferenceIdeal.lean ====
abbrev S8192x2048 : Shape := ⟨2, ![8192, 2048]⟩
abbrev S1x2048 : Shape := ⟨2, ![1, 2048]⟩
abbrev S1x1x1x2048 : Shape := ⟨4, ![1, 1, 1, 2048]⟩
abbrev S8x1x1x2048 : Shape := ⟨4, ![8, 1, 1, 2048]⟩
abbrev S8x2048 : Shape := ⟨2, ![8, 2048]⟩
abbrev S_ : Shape := ⟨0, ![]⟩
abbrev S8192 : Shape := ⟨1, ![8192]⟩
abbrev S8192x1 : Shape := ⟨2, ![8192, 1]⟩
abbrev S1024x8x2048 : Shape := ⟨3, ![1024, 8, 2048]⟩
abbrev S1x8x2048 : Shape := ⟨3, ![1, 8, 2048]⟩
abbrev S1x1 : Shape := ⟨2, ![1, 1]⟩
abbrev S8x128 : Shape := ⟨2, ![8, 128]⟩

abbrev nBuf : Space → Nat
  | .hbm => 83
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x1x1x2048, .f32⟩
  | .hbm, ⟨4, _⟩ => ⟨S8x1x1x2048, .f32⟩
  | .hbm, ⟨5, _⟩ => ⟨S8x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x2048, .f32⟩
  | .hbm, ⟨22, _⟩ => ⟨S8192x2048, .f32⟩
  | .hbm, ⟨23, _⟩ => ⟨S1024x8x2048, .f32⟩
  | .hbm, ⟨24, _⟩ => ⟨S1x8x2048, .f32⟩
  | .hbm, ⟨25, _⟩ => ⟨S1024x8x2048, .f32⟩
  | .hbm, ⟨26, _⟩ => ⟨S1024x8x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S1024x8x2048, .f32⟩
  | .hbm, ⟨52, _⟩ => ⟨S1024x8x2048, .f32⟩
  | .hbm, ⟨53, _⟩ => ⟨S_, .f32⟩
  | .hbm, ⟨54, _⟩ => ⟨S8x2048, .f32⟩
  | .hbm, ⟨55, _⟩ => ⟨S1x8x2048, .f32⟩
  | .hbm, ⟨56, _⟩ => ⟨S1024x8x2048, .f32⟩
  | .hbm, ⟨57, _⟩ => ⟨S1024x8x2048, .f32⟩
  | .hbm, ⟨58, _⟩ => ⟨S_, .f32⟩
  | .hbm, ⟨59, _⟩ => ⟨S8x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x2048, .f32⟩
  | .hbm, ⟨66, _⟩ => ⟨S8192x2048, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x2048, .f32⟩
  | .hbm, ⟨74, _⟩ => ⟨S8192x2048, .f32⟩
  | .hbm, ⟨75, _⟩ => ⟨S8192x2048, .f32⟩
  | .hbm, ⟨76, _⟩ => ⟨S8192x2048, .f32⟩
  | .hbm, ⟨77, _⟩ => ⟨S8192x2048, .f32⟩
  | .hbm, ⟨78, _⟩ => ⟨S8192x2048, .bf16⟩
  | .hbm, ⟨79, _⟩ => ⟨S1x1, .f32⟩
  | .hbm, ⟨80, _⟩ => ⟨S_, .i32⟩
  | .hbm, ⟨81, _⟩ => ⟨S_, .f32⟩
  | .hbm, ⟨82, _⟩ => ⟨S8x128, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_v24 : Ref sig .tc := ⟨.hbm, 32, rfl⟩
abbrev main_cst_4 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_cst_7 : Ref sig .tc := ⟨.hbm, 40, rfl⟩
abbrev main_v29 : Ref sig .tc := ⟨.hbm, 41, rfl⟩
abbrev main_cst_8 : Ref sig .tc := ⟨.hbm, 42, rfl⟩
abbrev main_cst_9 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_11 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_12 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_13 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_14 : Ref sig .tc := ⟨.hbm, 68, rfl⟩
abbrev main_v50 : Ref sig .tc := ⟨.hbm, 69, rfl⟩
abbrev main_v51 : Ref sig .tc := ⟨.hbm, 70, rfl⟩
abbrev main_cst_15 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_c : Ref sig .tc := ⟨.hbm, 80, rfl⟩
abbrev main_call0_v0 : Ref sig .tc := ⟨.hbm, 81, rfl⟩
abbrev main_v60 : Ref sig .tc := ⟨.hbm, 82, rfl⟩

abbrev nD : Nat := 1
abbrev τ : Topo := Topo.v7x

variable {F : FTy → Type} [FloatOps F]
-- ==== FfnFwd.lean ====
abbrev S8192x5632 : Shape := ⟨2, ![8192, 5632]⟩
abbrev S8x5632 : Shape := ⟨2, ![8, 5632]⟩
abbrev S1x5632 : Shape := ⟨2, ![1, 5632]⟩
abbrev S512x1408 : Shape := ⟨2, ![512, 1408]⟩
abbrev S16x1408 : Shape := ⟨2, ![16, 1408]⟩
abbrev S8x1408 : Shape := ⟨2, ![8, 1408]⟩
abbrev S1x1408 : Shape := ⟨2, ![1, 1408]⟩
abbrev S504x1408 : Shape := ⟨2, ![504, 1408]⟩

abbrev nBuf : Space → Nat
  | .hbm => 6
  | .vmem => 14
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8x5632, .f32⟩
  | .hbm, ⟨3, _⟩ => ⟨S1x5632, .f32⟩
  | .hbm, ⟨4, _⟩ => ⟨S8192x5632, .bf16⟩
  | .hbm, ⟨5, _⟩ => ⟨S8192x5632, .bf16⟩
  | .local _ .vmem, ⟨0, _⟩ => ⟨S512x1408, .bf16⟩
  | .local _ .vmem, ⟨1, _⟩ => ⟨S512x1408, .bf16⟩
  | .local _ .vmem, ⟨2, _⟩ => ⟨S16x1408, .bf16⟩
  | .local _ .vmem, ⟨3, _⟩ => ⟨S16x1408, .bf16⟩
  | .local _ .vmem, ⟨4, _⟩ => ⟨S512x1408, .bf16⟩
  | .local _ .vmem, ⟨5, _⟩ => ⟨S512x1408, .bf16⟩
  | .local _ .vmem, ⟨6, _⟩ => ⟨S8x1408, .f32⟩
  | .local _ .vmem, ⟨7, _⟩ => ⟨S8x1408, .f32⟩
  | .local _ .vmem, ⟨8, _⟩ => ⟨S1x1408, .f32⟩
  | .local _ .vmem, ⟨9, _⟩ => ⟨S1x1408, .f32⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg1 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnFwdReferenceIdeal.lean ====
abbrev S8192x5632 : Shape := ⟨2, ![8192, 5632]⟩
abbrev S8x5632 : Shape := ⟨2, ![8, 5632]⟩
abbrev S1x5632 : Shape := ⟨2, ![1, 5632]⟩
abbrev S_ : Shape := ⟨0, ![]⟩
abbrev S2x5632 : Shape := ⟨2, ![2, 5632]⟩
abbrev S8190x5632 : Shape := ⟨2, ![8190, 5632]⟩
abbrev S8191x5632 : Shape := ⟨2, ![8191, 5632]⟩

abbrev nBuf : Space → Nat
  | .hbm => 39
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8x5632, .f32⟩
  | .hbm, ⟨3, _⟩ => ⟨S1x5632, .f32⟩
  | .hbm, ⟨4, _⟩ => ⟨S8192x5632, .f32⟩
  | .hbm, ⟨5, _⟩ => ⟨S_, .f32⟩
  | .hbm, ⟨6, _⟩ => ⟨S2x5632, .f32⟩
  | .hbm, ⟨7, _⟩ => ⟨S8190x5632, .f32⟩
  | .hbm, ⟨8, _⟩ => ⟨S8192x5632, .f32⟩
  | .hbm, ⟨9, _⟩ => ⟨S1x5632, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S1x5632, .f32⟩
  | .hbm, ⟨14, _⟩ => ⟨S8191x5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S_, .f32⟩
  | .hbm, ⟨30, _⟩ => ⟨S8192x5632, .f32⟩
  | .hbm, ⟨31, _⟩ => ⟨S8192x5632, .f32⟩
  | .hbm, ⟨32, _⟩ => ⟨S_, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x5632, .f32⟩
  | .hbm, ⟨37, _⟩ => ⟨S8192x5632, .bf16⟩
  | .hbm, ⟨38, _⟩ => ⟨S8192x5632, .bf16⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_cst_2 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩

abbrev nD : Nat := 1
abbrev τ : Topo := Topo.v7x

variable {F : FTy → Type} [FloatOps F]
-- ==== FfnBwd.lean ====
abbrev S8192x5632 : Shape := ⟨2, ![8192, 5632]⟩
abbrev S8x5632 : Shape := ⟨2, ![8, 5632]⟩
abbrev S24x5632 : Shape := ⟨2, ![24, 5632]⟩
abbrev S512x1408 : Shape := ⟨2, ![512, 1408]⟩
abbrev S8x1408 : Shape := ⟨2, ![8, 1408]⟩
abbrev S24x1408 : Shape := ⟨2, ![24, 1408]⟩
abbrev S64x8x1408 : Shape := ⟨3, ![64, 8, 1408]⟩
abbrev S504x1408 : Shape := ⟨2, ![504, 1408]⟩
abbrev S1x1408 : Shape := ⟨2, ![1, 1408]⟩

abbrev nBuf : Space → Nat
  | .hbm => 9
  | .vmem => 19
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .bf16⟩
  | .hbm, ⟨4, _⟩ => ⟨S8x5632, .f32⟩
  | .hbm, ⟨5, _⟩ => ⟨S8192x5632, .bf16⟩
  | .hbm, ⟨6, _⟩ => ⟨S8192x5632, .bf16⟩
  | .hbm, ⟨7, _⟩ => ⟨S8x5632, .f32⟩
  | .hbm, ⟨8, _⟩ => ⟨S24x5632, .f32⟩
  | .local _ .vmem, ⟨0, _⟩ => ⟨S512x1408, .bf16⟩
  | .local _ .vmem, ⟨1, _⟩ => ⟨S512x1408, .bf16⟩
  | .local _ .vmem, ⟨2, _⟩ => ⟨S512x1408, .bf16⟩
  | .local _ .vmem, ⟨3, _⟩ => ⟨S512x1408, .bf16⟩
  | .local _ .vmem, ⟨4, _⟩ => ⟨S512x1408, .bf16⟩
  | .local _ .vmem, ⟨5, _⟩ => ⟨S512x1408, .bf16⟩
  | .local _ .vmem, ⟨6, _⟩ => ⟨S512x1408, .bf16⟩
  | .local _ .vmem, ⟨7, _⟩ => ⟨S512x1408, .bf16⟩
  | .local _ .vmem, ⟨8, _⟩ => ⟨S8x1408, .f32⟩
  | .local _ .vmem, ⟨9, _⟩ => ⟨S8x1408, .f32⟩
  | .local _ .vmem, ⟨10, _⟩ => ⟨S512x1408, .bf16⟩
  | .local _ .vmem, ⟨11, _⟩ => ⟨S512x1408, .bf16⟩
  | .local _ .vmem, ⟨12, _⟩ => ⟨S512x1408, .bf16⟩
  | .local _ .vmem, ⟨13, _⟩ => ⟨S512x1408, .bf16⟩
  | .local _ .vmem, ⟨14, _⟩ => ⟨S8x1408, .f32⟩
  | .local _ .vmem, ⟨15, _⟩ => ⟨S8x1408, .f32⟩
  | .local _ .vmem, ⟨16, _⟩ => ⟨S24x1408, .f32⟩
  | .local _ .vmem, ⟨17, _⟩ => ⟨S24x1408, .f32⟩
  | .local _ .vmem, ⟨18, _⟩ => ⟨S8x1408, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_1 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_2 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_6 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S24x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnBwdReferenceIdeal.lean ====
abbrev S8192x5632 : Shape := ⟨2, ![8192, 5632]⟩
abbrev S8x5632 : Shape := ⟨2, ![8, 5632]⟩
abbrev S_ : Shape := ⟨0, ![]⟩
abbrev S1x5632 : Shape := ⟨2, ![1, 5632]⟩
abbrev S1x1x1x5632 : Shape := ⟨4, ![1, 1, 1, 5632]⟩
abbrev S8x1x1x5632 : Shape := ⟨4, ![8, 1, 1, 5632]⟩
abbrev S1024x8x5632 : Shape := ⟨3, ![1024, 8, 5632]⟩
abbrev S1x8x5632 : Shape := ⟨3, ![1, 8, 5632]⟩
abbrev S2x5632 : Shape := ⟨2, ![2, 5632]⟩
abbrev S8190x5632 : Shape := ⟨2, ![8190, 5632]⟩
abbrev S8191x5632 : Shape := ⟨2, ![8191, 5632]⟩
abbrev S24x5632 : Shape := ⟨2, ![24, 5632]⟩

abbrev nBuf : Space → Nat
  | .hbm => 127
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S8192x5632, .bf16⟩
  | .hbm, ⟨2, _⟩ => ⟨S8192x5632, .bf16⟩
  | .hbm, ⟨3, _⟩ => ⟨S8192x5632, .bf16⟩
  | .hbm, ⟨4, _⟩ => ⟨S8x5632, .f32⟩
  | .hbm, ⟨5, _⟩ => ⟨S8192x5632, .f32⟩
  | .hbm, ⟨6, _⟩ => ⟨S8192x5632, .f32⟩
  | .hbm, ⟨7, _⟩ => ⟨S8192x5632, .f32⟩
  | .hbm, ⟨8, _⟩ => ⟨S8192x5632, .f32⟩
  | .hbm, ⟨9, _⟩ => ⟨S_, .f32⟩
  | .hbm, ⟨10, _⟩ => ⟨S8192x5632, .f32⟩
  | .hbm, ⟨11, _⟩ => ⟨S8192x5632, .f32⟩
  | .hbm, ⟨12, _⟩ => ⟨S_, .f32⟩
  | .hbm, ⟨13, _⟩ => ⟨S8192x5632, .f32⟩
  | .hbm, ⟨14, _⟩ => ⟨S8192x5632, .f32⟩
  | .hbm, ⟨15, _⟩ => ⟨S_, .f32⟩
  | .hbm, ⟨16, _⟩ => ⟨S8192x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S8192x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S1x1x1x5632, .f32⟩
  | .hbm, ⟨30, _⟩ => ⟨S8x1x1x5632, .f32⟩
  | .hbm, ⟨31, _⟩ => ⟨S8x5632, .f32⟩
  | .hbm, ⟨32, _⟩ => ⟨S1x5632, .f32⟩
  | .hbm, ⟨33, _⟩ => ⟨S1x1x1x5632, .f32⟩
  | .hbm, ⟨34, _⟩ => ⟨S8x1x1x5632, .f32⟩
  | .hbm, ⟨35, _⟩ => ⟨S8x5632, .f32⟩
  | .hbm, ⟨36, _⟩ => ⟨S1x5632, .f32⟩
  | .hbm, ⟨37, _⟩ => ⟨S1x1x1x5632, .f32⟩
  | .hbm, ⟨38, _⟩ => ⟨S8x1x1x5632, .f32⟩
  | .hbm, ⟨39, _⟩ => ⟨S8x5632, .f32⟩
  | .hbm, ⟨40, _⟩ => ⟨S8192x5632, .f32⟩
  | .hbm, ⟨41, _⟩ => ⟨S_, .f32⟩
  | .hbm, ⟨42, _⟩ => ⟨S8x5632, .f32⟩
  | .hbm, ⟨43, _⟩ => ⟨S1024x8x5632, .f32⟩
  | .hbm, ⟨44, _⟩ => ⟨S1x8x5632, .f32⟩
  | .hbm, ⟨45, _⟩ => ⟨S1024x8x5632, .f32⟩
  | .hbm, ⟨46, _⟩ => ⟨S1024x8x5632, .f32⟩
  | .hbm, ⟨47, _⟩ => ⟨S8192x5632, .f32⟩
  | .hbm, ⟨48, _⟩ => ⟨S_, .f32⟩
  | .hbm, ⟨49, _⟩ => ⟨S2x5632, .f32⟩
  | .hbm, ⟨50, _⟩ => ⟨S8190x5632, .f32⟩
  | .hbm, ⟨51, _⟩ => ⟨S8192x5632, .f32⟩
  | .hbm, ⟨52, _⟩ => ⟨S_, .f32⟩
  | .hbm, ⟨53, _⟩ => ⟨S2x5632, .f32⟩
  | .hbm, ⟨54, _⟩ => ⟨S1024x8x5632, .f32⟩
  | .hbm, ⟨55, _⟩ => ⟨S1x8x5632, .f32⟩
  | .hbm, ⟨56, _⟩ => ⟨S1024x8x5632, .f32⟩
  | .hbm, ⟨57, _⟩ => ⟨S1024x8x5632, .f32⟩
  | .hbm, ⟨58, _⟩ => ⟨S8192x5632, .f32⟩
  | .hbm, ⟨59, _⟩ => ⟨S_, .f32⟩
  | .hbm, ⟨60, _⟩ => ⟨S1x5632, .f32⟩
  | .hbm, ⟨61, _⟩ => ⟨S8191x5632, .f32⟩
  | .hbm, ⟨62, _⟩ => ⟨S8192x5632, .f32⟩
  | .hbm, ⟨63, _⟩ => ⟨S_, .f32⟩
  | .hbm, ⟨64, _⟩ => ⟨S1x5632, .f32⟩
  | .hbm, ⟨65, _⟩ => ⟨S8192x5632, .f32⟩
  | .hbm, ⟨66, _⟩ => ⟨S1024x8x5632, .f32⟩
  | .hbm, ⟨67, _⟩ => ⟨S1x8x5632, .f32⟩
  | .hbm, ⟨68, _⟩ => ⟨S1024x8x5632, .f32⟩
  | .hbm, ⟨69, _⟩ => ⟨S1024x8x5632, .f32⟩
  | .hbm, ⟨70, _⟩ => ⟨S8192x5632, .f32⟩
  | .hbm, ⟨71, _⟩ => ⟨S8192x5632, .f32⟩
  | .hbm, ⟨72, _⟩ => ⟨S1024x8x5632, .f32⟩
  | .hbm, ⟨73, _⟩ => ⟨S1x8x5632, .f32⟩
  | .hbm, ⟨74, _⟩ => ⟨S1024x8x5632, .f32⟩
  | .hbm, ⟨75, _⟩ => ⟨S1024x8x5632, .f32⟩
  | .hbm, ⟨76, _⟩ => ⟨S8192x5632, .f32⟩
  | .hbm, ⟨77, _⟩ => ⟨S1024x8x5632, .f32⟩
  | .hbm, ⟨78, _⟩ => ⟨S_, .f32⟩
  | .hbm, ⟨79, _⟩ => ⟨S8x5632, .f32⟩
  | .hbm, ⟨80, _⟩ => ⟨S1x8x5632, .f32⟩
  | .hbm, ⟨81, _⟩ => ⟨S_, .f32⟩
  | .hbm, ⟨82, _⟩ => ⟨S8x5632, .f32⟩
  | .hbm, ⟨83, _⟩ => ⟨S8192x5632, .f32⟩
  | .hbm, ⟨84, _⟩ => ⟨S1024x8x5632, .f32⟩
  | .hbm, ⟨85, _⟩ => ⟨S1024x8x5632, .f32⟩
  | .hbm, ⟨86, _⟩ => ⟨S_, .f32⟩
  | .hbm, ⟨87, _⟩ => ⟨S8x5632, .f32⟩
  | .hbm, ⟨88, _⟩ => ⟨S1x8x5632, .f32⟩
  | .hbm, ⟨89, _⟩ => ⟨S1024x8x5632, .f32⟩
  | .hbm, ⟨90, _⟩ => ⟨S1024x8x5632, .f32⟩
  | .hbm, ⟨91, _⟩ => ⟨S_, .f32⟩
  | .hbm, ⟨92, _⟩ => ⟨S8x5632, .f32⟩
  | .hbm, ⟨93, _⟩ => ⟨S8192x5632, .f32⟩
  | .hbm, ⟨94, _⟩ => ⟨S1x5632, .f32⟩
  | .hbm, ⟨95, _⟩ => ⟨S8191x5632, .f32⟩
  | .hbm, ⟨96, _⟩ => ⟨S_, .f32⟩
  | .hbm, ⟨97, _⟩ => ⟨S8192x5632, .f32⟩
  | .hbm, ⟨98, _⟩ => ⟨S1024x8x5632, .f32⟩
  | .hbm, ⟨99, _⟩ => ⟨S1024x8x5632, .f32⟩
  | .hbm, ⟨100, _⟩ => ⟨S_, .f32⟩
  | .hbm, ⟨101, _⟩ => ⟨S8x5632, .f32⟩
  | .hbm, ⟨102, _⟩ => ⟨S1x8x5632, .f32⟩
  | .hbm, ⟨103, _⟩ => ⟨S1024x8x5632, .f32⟩
  | .hbm, ⟨104, _⟩ => ⟨S1024x8x5632, .f32⟩
  | .hbm, ⟨105, _⟩ => ⟨S_, .f32⟩
  | .hbm, ⟨106, _⟩ => ⟨S8x5632, .f32⟩
  | .hbm, ⟨107, _⟩ => ⟨S8192x5632, .f32⟩
  | .hbm, ⟨108, _⟩ => ⟨S8192x5632, .f32⟩
  | .hbm, ⟨109, _⟩ => ⟨S2x5632, .f32⟩
  | .hbm, ⟨110, _⟩ => ⟨S8190x5632, .f32⟩
  | .hbm, ⟨111, _⟩ => ⟨S_, .f32⟩
  | .hbm, ⟨112, _⟩ => ⟨S8192x5632, .f32⟩
  | .hbm, ⟨113, _⟩ => ⟨S1024x8x5632, .f32⟩
  | .hbm, ⟨114, _⟩ => ⟨S1024x8x5632, .f32⟩
  | .hbm, ⟨115, _⟩ => ⟨S_, .f32⟩
  | .hbm, ⟨116, _⟩ => ⟨S8x5632, .f32⟩
  | .hbm, ⟨117, _⟩ => ⟨S1x8x5632, .f32⟩
  | .hbm, ⟨118, _⟩ => ⟨S1024x8x5632, .f32⟩
  | .hbm, ⟨119, _⟩ => ⟨S1024x8x5632, .f32⟩
  | .hbm, ⟨120, _⟩ => ⟨S_, .f32⟩
  | .hbm, ⟨121, _⟩ => ⟨S8x5632, .f32⟩
  | .hbm, ⟨122, _⟩ => ⟨S8192x5632, .f32⟩
  | .hbm, ⟨123, _⟩ => ⟨S8192x5632, .f32⟩
  | .hbm, ⟨124, _⟩ => ⟨S8192x5632, .bf16⟩
  | .hbm, ⟨125, _⟩ => ⟨S8192x5632, .bf16⟩
  | .hbm, ⟨126, _⟩ => ⟨S24x5632, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_2 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_cst_3 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_4 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_cst_6 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_cst_7 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_cst_9 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_cst_10 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_cst_11 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_cst_12 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_cst_13 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_cst_14 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_cst_15 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_cst_16 : Ref sig .tc := ⟨.hbm, 120, rfl⟩
abbrev main_v98 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩

abbrev nD : Nat := 1
abbrev τ : Topo := Topo.v7x

variable {F : FTy → Type} [FloatOps F]
-- ==== SconvFwd.lean ====
abbrev S8192x7168 : Shape := ⟨2, ![8192, 7168]⟩
abbrev S8x1024 : Shape := ⟨2, ![8, 1024]⟩
abbrev S8192x2048 : Shape := ⟨2, ![8192, 2048]⟩
abbrev S512x1024 : Shape := ⟨2, ![512, 1024]⟩
abbrev S16x1024 : Shape := ⟨2, ![16, 1024]⟩
abbrev S504x1024 : Shape := ⟨2, ![504, 1024]⟩
abbrev S1x1024 : Shape := ⟨2, ![1, 1024]⟩

abbrev nBuf : Space → Nat
  | .hbm => 4
  | .vmem => 13
  | .smem => 0
  | _ => 0

abbrev bufTy : (tb : Table) → Fin (tcTables nBuf tb) → BufTy
  | .hbm, ⟨0, _⟩ => ⟨S8192x7168, .bf16⟩
  | .hbm, ⟨1, _⟩ => ⟨S8x1024, .f32⟩
  | .hbm, ⟨2, _⟩ => ⟨S8192x2048, .bf16⟩
  | .hbm, ⟨3, _⟩ => ⟨S8192x2048, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S8x1024, .f32⟩
  | .local _ .vmem, ⟨11, _⟩ => ⟨S512x1024, .bf16⟩
  | .local _ .vmem, ⟨12, _⟩ => ⟨S512x1024, .bf16⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== SconvFwdReferenceIdeal.lean ====
abbrev S8192x7168 : Shape := ⟨2, ![8192, 7168]⟩
abbrev S8x1024 : Shape := ⟨2, ![8, 1024]⟩
abbrev S8192x2048 : Shape := ⟨2, ![8192, 2048]⟩
abbrev S8192x1024 : Shape := ⟨2, ![8192, 1024]⟩
abbrev S_ : Shape := ⟨0, ![]⟩
abbrev S2x1024 : Shape := ⟨2, ![2, 1024]⟩
abbrev S8190x1024 : Shape := ⟨2, ![8190, 1024]⟩
abbrev S1x1024 : Shape := ⟨2, ![1, 1024]⟩
abbrev S8191x1024 : Shape := ⟨2, ![8191, 1024]⟩

abbrev nBuf : Space → Nat
  | .hbm => 33
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8x1024, .f32⟩
  | .hbm, ⟨2, _⟩ => ⟨S8192x2048, .bf16⟩
  | .hbm, ⟨3, _⟩ => ⟨S8192x1024, .bf16⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S2x1024, .f32⟩
  | .hbm, ⟨12, _⟩ => ⟨S8190x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S1x1024, .f32⟩
  | .hbm, ⟨19, _⟩ => ⟨S8191x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .bf16⟩
  | .hbm, ⟨31, _⟩ => ⟨S8192x1024, .bf16⟩
  | .hbm, ⟨32, _⟩ => ⟨S8192x2048, .bf16⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩

abbrev nD : Nat := 1
abbrev τ : Topo := Topo.v7x

variable {F : FTy → Type} [FloatOps F]
-- ==== SconvBwd.lean ====
abbrev S8192x7168 : Shape := ⟨2, ![8192, 7168]⟩
abbrev S8x1024 : Shape := ⟨2, ![8, 1024]⟩
abbrev S8192x2048 : Shape := ⟨2, ![8192, 2048]⟩
abbrev S8x8192x1024 : Shape := ⟨3, ![8, 8192, 1024]⟩
abbrev S24x1024 : Shape := ⟨2, ![24, 1024]⟩
abbrev S512x1024 : Shape := ⟨2, ![512, 1024]⟩
abbrev S16x1024 : Shape := ⟨2, ![16, 1024]⟩
abbrev S4x512x1024 : Shape := ⟨3, ![4, 512, 1024]⟩
abbrev S504x1024 : Shape := ⟨2, ![504, 1024]⟩
abbrev S1x1024 : Shape := ⟨2, ![1, 1024]⟩
abbrev S1x512x1024 : Shape := ⟨3, ![1, 512, 1024]⟩
abbrev S64x8x1024 : Shape := ⟨3, ![64, 8, 1024]⟩

abbrev nBuf : Space → Nat
  | .hbm => 6
  | .vmem => 20
  | .smem => 0
  | _ => 0

abbrev bufTy : (tb : Table) → Fin (tcTables nBuf tb) → BufTy
  | .hbm, ⟨0, _⟩ => ⟨S8192x7168, .bf16⟩
  | .hbm, ⟨1, _⟩ => ⟨S8x1024, .f32⟩
  | .hbm, ⟨2, _⟩ => ⟨S8192x2048, .bf16⟩
  | .hbm, ⟨3, _⟩ => ⟨S8x8192x1024, .bf16⟩
  | .hbm, ⟨4, _⟩ => ⟨S8x8192x1024, .bf16⟩
  | .hbm, ⟨5, _⟩ => ⟨S24x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S16x1024, .bf16⟩
  | .local _ .vmem, ⟨7, _⟩ => ⟨S16x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S8x1024, .f32⟩
  | .local _ .vmem, ⟨17, _⟩ => ⟨S4x512x1024, .bf16⟩
  | .local _ .vmem, ⟨18, _⟩ => ⟨S4x512x1024, .bf16⟩
  | .local _ .vmem, ⟨19, _⟩ => ⟨S24x1024, .f32⟩
  | _, _ => ⟨S8192x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_1 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let c0_i32 : BitVec 32 := 0#32
  ![v2.toNat, c4_i32.toNat]

def cc0_transform_6 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_7 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c1_i32_0 : BitVec 32 := 1#32
  let c0_i32 : BitVec 32 := 0#32
  ![v2.toNat, c1_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S4x512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S24x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== SconvBwdReferenceIdeal.lean ====
abbrev S8192x7168 : Shape := ⟨2, ![8192, 7168]⟩
abbrev S8x1024 : Shape := ⟨2, ![8, 1024]⟩
abbrev S8192x2048 : Shape := ⟨2, ![8192, 2048]⟩
abbrev S8x8192x1024 : Shape := ⟨3, ![8, 8192, 1024]⟩
abbrev S8192x1024 : Shape := ⟨2, ![8192, 1024]⟩
abbrev S1x1024 : Shape := ⟨2, ![1, 1024]⟩
abbrev S1x1x1x1024 : Shape := ⟨4, ![1, 1, 1, 1024]⟩
abbrev S8x1x1x1024 : Shape := ⟨4, ![8, 1, 1, 1024]⟩
abbrev S_ : Shape := ⟨0, ![]⟩
abbrev S2x1024 : Shape := ⟨2, ![2, 1024]⟩
abbrev S8190x1024 : Shape := ⟨2, ![8190, 1024]⟩
abbrev S1024x8x1024 : Shape := ⟨3, ![1024, 8, 1024]⟩
abbrev S1x8x1024 : Shape := ⟨3, ![1, 8, 1024]⟩
abbrev S8191x1024 : Shape := ⟨2, ![8191, 1024]⟩
abbrev S4x8192x1024 : Shape := ⟨3, ![4, 8192, 1024]⟩
abbrev S1x8192x1024 : Shape := ⟨3, ![1, 8192, 1024]⟩
abbrev S24x1024 : Shape := ⟨2, ![24, 1024]⟩

abbrev nBuf : Space → Nat
  | .hbm => 112
  | .vmem => 0
  | .smem => 0
  | _ => 0

abbrev bufTy : (tb : Table) → Fin (tcTables nBuf tb) → BufTy
  | .hbm, ⟨0, _⟩ => ⟨S8192x7168, .bf16⟩
  | .hbm, ⟨1, _⟩ => ⟨S8x1024, .f32⟩
  | .hbm, ⟨2, _⟩ => ⟨S8192x2048, .bf16⟩
  | .hbm, ⟨3, _⟩ => ⟨S8x8192x1024, .bf16⟩
  | .hbm, ⟨4, _⟩ => ⟨S8192x1024, .bf16⟩
  | .hbm, ⟨5, _⟩ => ⟨S8192x1024, .f32⟩
  | .hbm, ⟨6, _⟩ => ⟨S8192x1024, .bf16⟩
  | .hbm, ⟨7, _⟩ => ⟨S8192x1024, .f32⟩
  | .hbm, ⟨8, _⟩ => ⟨S8192x1024, .bf16⟩
  | .hbm, ⟨9, _⟩ => ⟨S8192x1024, .f32⟩
  | .hbm, ⟨10, _⟩ => ⟨S1x1024, .f32⟩
  | .hbm, ⟨11, _⟩ => ⟨S1x1x1x1024, .f32⟩
  | .hbm, ⟨12, _⟩ => ⟨S8x1x1x1024, .f32⟩
  | .hbm, ⟨13, _⟩ => ⟨S8x1024, .f32⟩
  | .hbm, ⟨14, _⟩ => ⟨S1x1024, .f32⟩
  | .hbm, ⟨15, _⟩ => ⟨S1x1x1x1024, .f32⟩
  | .hbm, ⟨16, _⟩ => ⟨S8x1x1x1024, .f32⟩
  | .hbm, ⟨17, _⟩ => ⟨S8x1024, .f32⟩
  | .hbm, ⟨18, _⟩ => ⟨S1x1024, .f32⟩
  | .hbm, ⟨19, _⟩ => ⟨S1x1x1x1024, .f32⟩
  | .hbm, ⟨20, _⟩ => ⟨S8x1x1x1024, .f32⟩
  | .hbm, ⟨21, _⟩ => ⟨S8x1024, .f32⟩
  | .hbm, ⟨22, _⟩ => ⟨S8192x1024, .f32⟩
  | .hbm, ⟨23, _⟩ => ⟨S_, .f32⟩
  | .hbm, ⟨24, _⟩ => ⟨S2x1024, .f32⟩
  | .hbm, ⟨25, _⟩ => ⟨S8190x1024, .f32⟩
  | .hbm, ⟨26, _⟩ => ⟨S8192x1024, .f32⟩
  | .hbm, ⟨27, _⟩ => ⟨S_, .f32⟩
  | .hbm, ⟨28, _⟩ => ⟨S2x1024, .f32⟩
  | .hbm, ⟨29, _⟩ => ⟨S1024x8x1024, .f32⟩
  | .hbm, ⟨30, _⟩ => ⟨S1x8x1024, .f32⟩
  | .hbm, ⟨31, _⟩ => ⟨S1024x8x1024, .f32⟩
  | .hbm, ⟨32, _⟩ => ⟨S1024x8x1024, .f32⟩
  | .hbm, ⟨33, _⟩ => ⟨S8192x1024, .f32⟩
  | .hbm, ⟨34, _⟩ => ⟨S_, .f32⟩
  | .hbm, ⟨35, _⟩ => ⟨S1x1024, .f32⟩
  | .hbm, ⟨36, _⟩ => ⟨S8191x1024, .f32⟩
  | .hbm, ⟨37, _⟩ => ⟨S8192x1024, .f32⟩
  | .hbm, ⟨38, _⟩ => ⟨S_, .f32⟩
  | .hbm, ⟨39, _⟩ => ⟨S1x1024, .f32⟩
  | .hbm, ⟨40, _⟩ => ⟨S1024x8x1024, .f32⟩
  | .hbm, ⟨41, _⟩ => ⟨S1x8x1024, .f32⟩
  | .hbm, ⟨42, _⟩ => ⟨S1024x8x1024, .f32⟩
  | .hbm, ⟨43, _⟩ => ⟨S1024x8x1024, .f32⟩
  | .hbm, ⟨44, _⟩ => ⟨S8192x1024, .f32⟩
  | .hbm, ⟨45, _⟩ => ⟨S8192x1024, .f32⟩
  | .hbm, ⟨46, _⟩ => ⟨S1024x8x1024, .f32⟩
  | .hbm, ⟨47, _⟩ => ⟨S1x8x1024, .f32⟩
  | .hbm, ⟨48, _⟩ => ⟨S1024x8x1024, .f32⟩
  | .hbm, ⟨49, _⟩ => ⟨S1024x8x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .bf16⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S1024x8x1024, .f32⟩
  | .hbm, ⟨58, _⟩ => ⟨S1024x8x1024, .f32⟩
  | .hbm, ⟨59, _⟩ => ⟨S_, .f32⟩
  | .hbm, ⟨60, _⟩ => ⟨S8x1024, .f32⟩
  | .hbm, ⟨61, _⟩ => ⟨S1x8x1024, .f32⟩
  | .hbm, ⟨62, _⟩ => ⟨S1024x8x1024, .f32⟩
  | .hbm, ⟨63, _⟩ => ⟨S1024x8x1024, .f32⟩
  | .hbm, ⟨64, _⟩ => ⟨S_, .f32⟩
  | .hbm, ⟨65, _⟩ => ⟨S8x1024, .f32⟩
  | .hbm, ⟨66, _⟩ => ⟨S8192x1024, .f32⟩
  | .hbm, ⟨67, _⟩ => ⟨S1024x8x1024, .f32⟩
  | .hbm, ⟨68, _⟩ => ⟨S1024x8x1024, .f32⟩
  | .hbm, ⟨69, _⟩ => ⟨S_, .f32⟩
  | .hbm, ⟨70, _⟩ => ⟨S8x1024, .f32⟩
  | .hbm, ⟨71, _⟩ => ⟨S1x8x1024, .f32⟩
  | .hbm, ⟨72, _⟩ => ⟨S1024x8x1024, .f32⟩
  | .hbm, ⟨73, _⟩ => ⟨S1024x8x1024, .f32⟩
  | .hbm, ⟨74, _⟩ => ⟨S_, .f32⟩
  | .hbm, ⟨75, _⟩ => ⟨S8x1024, .f32⟩
  | .hbm, ⟨76, _⟩ => ⟨S8192x1024, .f32⟩
  | .hbm, ⟨77, _⟩ => ⟨S1x1024, .f32⟩
  | .hbm, ⟨78, _⟩ => ⟨S8191x1024, .f32⟩
  | .hbm, ⟨79, _⟩ => ⟨S_, .f32⟩
  | .hbm, ⟨80, _⟩ => ⟨S8192x1024, .f32⟩
  | .hbm, ⟨81, _⟩ => ⟨S8192x1024, .f32⟩
  | .hbm, ⟨82, _⟩ => ⟨S1024x8x1024, .f32⟩
  | .hbm, ⟨83, _⟩ => ⟨S1024x8x1024, .f32⟩
  | .hbm, ⟨84, _⟩ => ⟨S_, .f32⟩
  | .hbm, ⟨85, _⟩ => ⟨S8x1024, .f32⟩
  | .hbm, ⟨86, _⟩ => ⟨S1x8x1024, .f32⟩
  | .hbm, ⟨87, _⟩ => ⟨S1024x8x1024, .f32⟩
  | .hbm, ⟨88, _⟩ => ⟨S1024x8x1024, .f32⟩
  | .hbm, ⟨89, _⟩ => ⟨S_, .f32⟩
  | .hbm, ⟨90, _⟩ => ⟨S8x1024, .f32⟩
  | .hbm, ⟨91, _⟩ => ⟨S8192x1024, .f32⟩
  | .hbm, ⟨92, _⟩ => ⟨S2x1024, .f32⟩
  | .hbm, ⟨93, _⟩ => ⟨S8190x1024, .f32⟩
  | .hbm, ⟨94, _⟩ => ⟨S_, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1024, .bf16⟩
  | .hbm, ⟨100, _⟩ => ⟨S8192x1024, .bf16⟩
  | .hbm, ⟨101, _⟩ => ⟨S8192x1024, .bf16⟩
  | .hbm, ⟨102, _⟩ => ⟨S_, .bf16⟩
  | .hbm, ⟨103, _⟩ => ⟨S8192x1024, .bf16⟩
  | .hbm, ⟨104, _⟩ => ⟨S4x8192x1024, .bf16⟩
  | .hbm, ⟨105, _⟩ => ⟨S1x8192x1024, .bf16⟩
  | .hbm, ⟨106, _⟩ => ⟨S1x8192x1024, .bf16⟩
  | .hbm, ⟨107, _⟩ => ⟨S1x8192x1024, .bf16⟩
  | .hbm, ⟨108, _⟩ => ⟨S1x8192x1024, .bf16⟩
  | .hbm, ⟨109, _⟩ => ⟨S4x8192x1024, .bf16⟩
  | .hbm, ⟨110, _⟩ => ⟨S8x8192x1024, .bf16⟩
  | .hbm, ⟨111, _⟩ => ⟨S24x1024, .f32⟩
  | _, _ => ⟨S8192x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_cst_0 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_cst_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_cst_3 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_cst_4 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_5 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_cst_6 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_cst_7 : Ref sig .tc := ⟨.hbm, 79, rfl⟩
abbrev main_v67 : Ref sig .tc := ⟨.hbm, 80, rfl⟩
abbrev main_v68 : Ref sig .tc := ⟨.hbm, 81, rfl⟩
abbrev main_v69 : Ref sig .tc := ⟨.hbm, 82, rfl⟩
abbrev main_v70 : Ref sig .tc := ⟨.hbm, 83, rfl⟩
abbrev main_cst_8 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_cst_9 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_cst_10 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_cst_11 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩

abbrev nD : Nat := 1
abbrev τ : Topo := Topo.v7x

variable {F : FTy → Type} [FloatOps F]
-- ==== AttnFwd.lean ====
abbrev S8192x2048 : Shape := ⟨2, ![8192, 2048]⟩
abbrev S256x2048 : Shape := ⟨2, ![256, 2048]⟩
abbrev S1024x2048 : Shape := ⟨2, ![1024, 2048]⟩
abbrev S1024x512 : Shape := ⟨2, ![1024, 512]⟩
abbrev S256x512 : Shape := ⟨2, ![256, 512]⟩
abbrev S1024x256 : Shape := ⟨2, ![1024, 256]⟩
abbrev S1024 : Shape := ⟨1, ![1024]⟩
abbrev S1024x1 : Shape := ⟨2, ![1024, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .bf16⟩
  | .local _ .vmem, ⟨0, _⟩ => ⟨S1024x2048, .bf16⟩
  | .local _ .vmem, ⟨1, _⟩ => ⟨S1024x2048, .bf16⟩
  | .local _ .vmem, ⟨2, _⟩ => ⟨S256x2048, .bf16⟩
  | .local _ .vmem, ⟨3, _⟩ => ⟨S256x2048, .bf16⟩
  | .local _ .vmem, ⟨4, _⟩ => ⟨S1024x2048, .bf16⟩
  | .local _ .vmem, ⟨5, _⟩ => ⟨S1024x2048, .bf16⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdIdeal.lean ====
variable {F : FTy → Type} [FloatOps F] [Named F]
def κ : String → Option EReal := fun
  | "s" => some (((Real.sqrt 512)⁻¹ : ℝ) : EReal)
  | _ => none
-- ==== AttnFwdReferenceIdeal.lean ====
abbrev S8192x2048 : Shape := ⟨2, ![8192, 2048]⟩
abbrev S256x2048 : Shape := ⟨2, ![256, 2048]⟩
abbrev S8192x4x512 : Shape := ⟨3, ![8192, 4, 512]⟩
abbrev S256x4x512 : Shape := ⟨3, ![256, 4, 512]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x512x8192 : Shape := ⟨3, ![4, 512, 8192]⟩

abbrev nBuf : Space → Nat
  | .hbm => 32
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S256x2048, .bf16⟩
  | .hbm, ⟨2, _⟩ => ⟨S256x2048, .bf16⟩
  | .hbm, ⟨3, _⟩ => ⟨S8192x2048, .f32⟩
  | .hbm, ⟨4, _⟩ => ⟨S256x2048, .f32⟩
  | .hbm, ⟨5, _⟩ => ⟨S256x2048, .f32⟩
  | .hbm, ⟨6, _⟩ => ⟨S8192x4x512, .f32⟩
  | .hbm, ⟨7, _⟩ => ⟨S256x4x512, .f32⟩
  | .hbm, ⟨8, _⟩ => ⟨S256x4x512, .f32⟩
  | .hbm, ⟨9, _⟩ => ⟨S4x8192x256, .f32⟩
  | .hbm, ⟨10, _⟩ => ⟨S_, .f32⟩
  | .hbm, ⟨11, _⟩ => ⟨S_, .f32⟩
  | .hbm, ⟨12, _⟩ => ⟨S4x8192x256, .f32⟩
  | .hbm, ⟨13, _⟩ => ⟨S4x8192x256, .f32⟩
  | .hbm, ⟨14, _⟩ => ⟨S_, .f32⟩
  | .hbm, ⟨15, _⟩ => ⟨S4x8192, .f32⟩
  | .hbm, ⟨16, _⟩ => ⟨S_, .f32⟩
  | .hbm, ⟨17, _⟩ => ⟨S4x8192, .f32⟩
  | .hbm, ⟨18, _⟩ => ⟨S4x8192, .f32⟩
  | .hbm, ⟨19, _⟩ => ⟨S4x8192x1, .f32⟩
  | .hbm, ⟨20, _⟩ => ⟨S4x8192x256, .f32⟩
  | .hbm, ⟨21, _⟩ => ⟨S4x8192x256, .f32⟩
  | .hbm, ⟨22, _⟩ => ⟨S4x8192x256, .f32⟩
  | .hbm, ⟨23, _⟩ => ⟨S_, .f32⟩
  | .hbm, ⟨24, _⟩ => ⟨S4x8192, .f32⟩
  | .hbm, ⟨25, _⟩ => ⟨S4x8192x1, .f32⟩
  | .hbm, ⟨26, _⟩ => ⟨S4x8192x256, .f32⟩
  | .hbm, ⟨27, _⟩ => ⟨S4x8192x256, .f32⟩
  | .hbm, ⟨28, _⟩ => ⟨S4x512x8192, .f32⟩
  | .hbm, ⟨29, _⟩ => ⟨S8192x4x512, .f32⟩
  | .hbm, ⟨30, _⟩ => ⟨S8192x2048, .f32⟩
  | .hbm, ⟨31, _⟩ => ⟨S8192x2048, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩

abbrev nD : Nat := 1
abbrev τ : Topo := Topo.v7x

variable {F : FTy → Type} [FloatOps F]
-- ==== AdamLb.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLbIdeal.lean ====
abbrev S2x1024 : Shape := ⟨2, ![2, 1024]⟩

abbrev nBuf : Space → Nat
  | .hbm => 8
  | .vmem => 8
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamLbReferenceIdeal.lean ====
abbrev S2x1024 : Shape := ⟨2, ![2, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S_, .f32⟩
  | .hbm, ⟨5, _⟩ => ⟨S2x1024, .f32⟩
  | .hbm, ⟨6, _⟩ => ⟨S2x1024, .f32⟩
  | .hbm, ⟨7, _⟩ => ⟨S_, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S_, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S_, .f32⟩
  | .hbm, ⟨23, _⟩ => ⟨S2x1024, .f32⟩
  | .hbm, ⟨24, _⟩ => ⟨S2x1024, .f32⟩
  | .hbm, ⟨25, _⟩ => ⟨S2x1024, .f32⟩
  | .hbm, ⟨26, _⟩ => ⟨S_, .f32⟩
  | .hbm, ⟨27, _⟩ => ⟨S2x1024, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamNorm.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormIdeal.lean ====
abbrev S1x2048 : Shape := ⟨2, ![1, 2048]⟩

abbrev nBuf : Space → Nat
  | .hbm => 8
  | .vmem => 8
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S1x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamNormReferenceIdeal.lean ====
abbrev S1x2048 : Shape := ⟨2, ![1, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S_, .f32⟩
  | .hbm, ⟨5, _⟩ => ⟨S1x2048, .f32⟩
  | .hbm, ⟨6, _⟩ => ⟨S1x2048, .f32⟩
  | .hbm, ⟨7, _⟩ => ⟨S_, .f32⟩
  | .hbm, ⟨8, _⟩ => ⟨S1x2048, .f32⟩
  | .hbm, ⟨9, _⟩ => ⟨S1x2048, .f32⟩
  | .hbm, ⟨10, _⟩ => ⟨S1x2048, .f32⟩
  | .hbm, ⟨11, _⟩ => ⟨S_, .f32⟩
  | .hbm, ⟨12, _⟩ => ⟨S1x2048, .f32⟩
  | .hbm, ⟨13, _⟩ => ⟨S1x2048, .f32⟩
  | .hbm, ⟨14, _⟩ => ⟨S1x2048, .f32⟩
  | .hbm, ⟨15, _⟩ => ⟨S_, .f32⟩
  | .hbm, ⟨16, _⟩ => ⟨S1x2048, .f32⟩
  | .hbm, ⟨17, _⟩ => ⟨S1x2048, .f32⟩
  | .hbm, ⟨18, _⟩ => ⟨S1x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S_, .f32⟩
  | .hbm, ⟨23, _⟩ => ⟨S1x2048, .f32⟩
  | .hbm, ⟨24, _⟩ => ⟨S1x2048, .f32⟩
  | .hbm, ⟨25, _⟩ => ⟨S1x2048, .f32⟩
  | .hbm, ⟨26, _⟩ => ⟨S_, .f32⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S_, .f32⟩
  | .hbm, ⟨31, _⟩ => ⟨S1x2048, .f32⟩
  | .hbm, ⟨32, _⟩ => ⟨S1x2048, .f32⟩
  | .hbm, ⟨33, _⟩ => ⟨S1x2048, .f32⟩
  | .hbm, ⟨34, _⟩ => ⟨S_, .f32⟩
  | .hbm, ⟨35, _⟩ => ⟨S1x2048, .f32⟩
  | .hbm, ⟨36, _⟩ => ⟨S1x2048, .f32⟩
  | _, _ => ⟨S1x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamHead.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadIdeal.lean ====
abbrev S1x128 : Shape := ⟨2, ![1, 128]⟩

abbrev nBuf : Space → Nat
  | .hbm => 8
  | .vmem => 8
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S1x128, .f32⟩
  | .hbm, ⟨5, _⟩ => ⟨S1x128, .f32⟩
  | .hbm, ⟨6, _⟩ => ⟨S1x128, .f32⟩
  | .hbm, ⟨7, _⟩ => ⟨S1x128, .f32⟩
  | .local _ .vmem, ⟨0, _⟩ => ⟨S1x128, .f32⟩
  | .local _ .vmem, ⟨1, _⟩ => ⟨S1x128, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | _, _ => ⟨S1x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamHeadReferenceIdeal.lean ====
abbrev S1x128 : Shape := ⟨2, ![1, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x128, .f32⟩
  | .hbm, ⟨1, _⟩ => ⟨S1x128, .f32⟩
  | .hbm, ⟨2, _⟩ => ⟨S1x128, .f32⟩
  | .hbm, ⟨3, _⟩ => ⟨S1x128, .f32⟩
  | .hbm, ⟨4, _⟩ => ⟨S_, .f32⟩
  | .hbm, ⟨5, _⟩ => ⟨S1x128, .f32⟩
  | .hbm, ⟨6, _⟩ => ⟨S1x128, .f32⟩
  | .hbm, ⟨7, _⟩ => ⟨S_, .f32⟩
  | .hbm, ⟨8, _⟩ => ⟨S1x128, .f32⟩
  | .hbm, ⟨9, _⟩ => ⟨S1x128, .f32⟩
  | .hbm, ⟨10, _⟩ => ⟨S1x128, .f32⟩
  | .hbm, ⟨11, _⟩ => ⟨S_, .f32⟩
  | .hbm, ⟨12, _⟩ => ⟨S1x128, .f32⟩
  | .hbm, ⟨13, _⟩ => ⟨S1x128, .f32⟩
  | .hbm, ⟨14, _⟩ => ⟨S1x128, .f32⟩
  | .hbm, ⟨15, _⟩ => ⟨S_, .f32⟩
  | .hbm, ⟨16, _⟩ => ⟨S1x128, .f32⟩
  | .hbm, ⟨17, _⟩ => ⟨S1x128, .f32⟩
  | .hbm, ⟨18, _⟩ => ⟨S1x128, .f32⟩
  | .hbm, ⟨19, _⟩ => ⟨S_, .f32⟩
  | .hbm, ⟨20, _⟩ => ⟨S1x128, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S_, .f32⟩
  | .hbm, ⟨27, _⟩ => ⟨S1x128, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x128, .f32⟩
  | .hbm, ⟨34, _⟩ => ⟨S_, .f32⟩
  | .hbm, ⟨35, _⟩ => ⟨S1x128, .f32⟩
  | .hbm, ⟨36, _⟩ => ⟨S1x128, .f32⟩
  | _, _ => ⟨S1x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamSconv.lean ====
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSconvIdeal.lean ====
abbrev S3x256 : Shape := ⟨2, ![3, 256]⟩

abbrev nBuf : Space → Nat
  | .hbm => 8
  | .vmem => 8
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S3x256, .f32⟩
  | .hbm, ⟨5, _⟩ => ⟨S3x256, .f32⟩
  | .hbm, ⟨6, _⟩ => ⟨S3x256, .f32⟩
  | .hbm, ⟨7, _⟩ => ⟨S3x256, .f32⟩
  | .local _ .vmem, ⟨0, _⟩ => ⟨S3x256, .f32⟩
  | .local _ .vmem, ⟨1, _⟩ => ⟨S3x256, .f32⟩
  | .local _ .vmem, ⟨2, _⟩ => ⟨S3x256, .f32⟩
  | .local _ .vmem, ⟨3, _⟩ => ⟨S3x256, .f32⟩
  | .local _ .vmem, ⟨4, _⟩ => ⟨S3x256, .f32⟩
  | .local _ .vmem, ⟨5, _⟩ => ⟨S3x256, .f32⟩
  | .local _ .vmem, ⟨6, _⟩ => ⟨S3x256, .f32⟩
  | .local _ .vmem, ⟨7, _⟩ => ⟨S3x256, .f32⟩
  | _, _ => ⟨S3x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSconvReferenceIdeal.lean ====
abbrev S3x256 : Shape := ⟨2, ![3, 256]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x256, .f32⟩
  | .hbm, ⟨1, _⟩ => ⟨S3x256, .f32⟩
  | .hbm, ⟨2, _⟩ => ⟨S3x256, .f32⟩
  | .hbm, ⟨3, _⟩ => ⟨S3x256, .f32⟩
  | .hbm, ⟨4, _⟩ => ⟨S_, .f32⟩
  | .hbm, ⟨5, _⟩ => ⟨S3x256, .f32⟩
  | .hbm, ⟨6, _⟩ => ⟨S3x256, .f32⟩
  | .hbm, ⟨7, _⟩ => ⟨S_, .f32⟩
  | .hbm, ⟨8, _⟩ => ⟨S3x256, .f32⟩
  | .hbm, ⟨9, _⟩ => ⟨S3x256, .f32⟩
  | .hbm, ⟨10, _⟩ => ⟨S3x256, .f32⟩
  | .hbm, ⟨11, _⟩ => ⟨S_, .f32⟩
  | .hbm, ⟨12, _⟩ => ⟨S3x256, .f32⟩
  | .hbm, ⟨13, _⟩ => ⟨S3x256, .f32⟩
  | .hbm, ⟨14, _⟩ => ⟨S3x256, .f32⟩
  | .hbm, ⟨15, _⟩ => ⟨S_, .f32⟩
  | .hbm, ⟨16, _⟩ => ⟨S3x256, .f32⟩
  | .hbm, ⟨17, _⟩ => ⟨S3x256, .f32⟩
  | .hbm, ⟨18, _⟩ => ⟨S3x256, .f32⟩
  | .hbm, ⟨19, _⟩ => ⟨S_, .f32⟩
  | .hbm, ⟨20, _⟩ => ⟨S3x256, .f32⟩
  | .hbm, ⟨21, _⟩ => ⟨S3x256, .f32⟩
  | .hbm, ⟨22, _⟩ => ⟨S_, .f32⟩
  | .hbm, ⟨23, _⟩ => ⟨S3x256, .f32⟩
  | .hbm, ⟨24, _⟩ => ⟨S3x256, .f32⟩
  | .hbm, ⟨25, _⟩ => ⟨S3x256, .f32⟩
  | .hbm, ⟨26, _⟩ => ⟨S_, .f32⟩
  | .hbm, ⟨27, _⟩ => ⟨S3x256, .f32⟩
  | .hbm, ⟨28, _⟩ => ⟨S3x256, .f32⟩
  | .hbm, ⟨29, _⟩ => ⟨S3x256, .f32⟩
  | .hbm, ⟨30, _⟩ => ⟨S_, .f32⟩
  | .hbm, ⟨31, _⟩ => ⟨S3x256, .f32⟩
  | .hbm, ⟨32, _⟩ => ⟨S3x256, .f32⟩
  | .hbm, ⟨33, _⟩ => ⟨S3x256, .f32⟩
  | .hbm, ⟨34, _⟩ => ⟨S_, .f32⟩
  | .hbm, ⟨35, _⟩ => ⟨S3x256, .f32⟩
  | .hbm, ⟨36, _⟩ => ⟨S3x256, .f32⟩
  | _, _ => ⟨S3x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFconv.lean ====
abbrev S3x1408 : Shape := ⟨2, ![3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFconvIdeal.lean ====
abbrev S3x1408 : Shape := ⟨2, ![3, 1408]⟩

abbrev nBuf : Space → Nat
  | .hbm => 8
  | .vmem => 8
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S3x1408, .f32⟩
  | .hbm, ⟨5, _⟩ => ⟨S3x1408, .f32⟩
  | .hbm, ⟨6, _⟩ => ⟨S3x1408, .f32⟩
  | .hbm, ⟨7, _⟩ => ⟨S3x1408, .f32⟩
  | .local _ .vmem, ⟨0, _⟩ => ⟨S3x1408, .f32⟩
  | .local _ .vmem, ⟨1, _⟩ => ⟨S3x1408, .f32⟩
  | .local _ .vmem, ⟨2, _⟩ => ⟨S3x1408, .f32⟩
  | .local _ .vmem, ⟨3, _⟩ => ⟨S3x1408, .f32⟩
  | .local _ .vmem, ⟨4, _⟩ => ⟨S3x1408, .f32⟩
  | .local _ .vmem, ⟨5, _⟩ => ⟨S3x1408, .f32⟩
  | .local _ .vmem, ⟨6, _⟩ => ⟨S3x1408, .f32⟩
  | .local _ .vmem, ⟨7, _⟩ => ⟨S3x1408, .f32⟩
  | _, _ => ⟨S3x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S3x1408 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x1408 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1408 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x1408 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S3x1408 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S3x1408 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S3x1408 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S3x1408 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFconvReferenceIdeal.lean ====
abbrev S3x1408 : Shape := ⟨2, ![3, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3x1408, .f32⟩
  | .hbm, ⟨1, _⟩ => ⟨S3x1408, .f32⟩
  | .hbm, ⟨2, _⟩ => ⟨S3x1408, .f32⟩
  | .hbm, ⟨3, _⟩ => ⟨S3x1408, .f32⟩
  | .hbm, ⟨4, _⟩ => ⟨S_, .f32⟩
  | .hbm, ⟨5, _⟩ => ⟨S3x1408, .f32⟩
  | .hbm, ⟨6, _⟩ => ⟨S3x1408, .f32⟩
  | .hbm, ⟨7, _⟩ => ⟨S_, .f32⟩
  | .hbm, ⟨8, _⟩ => ⟨S3x1408, .f32⟩
  | .hbm, ⟨9, _⟩ => ⟨S3x1408, .f32⟩
  | .hbm, ⟨10, _⟩ => ⟨S3x1408, .f32⟩
  | .hbm, ⟨11, _⟩ => ⟨S_, .f32⟩
  | .hbm, ⟨12, _⟩ => ⟨S3x1408, .f32⟩
  | .hbm, ⟨13, _⟩ => ⟨S3x1408, .f32⟩
  | .hbm, ⟨14, _⟩ => ⟨S3x1408, .f32⟩
  | .hbm, ⟨15, _⟩ => ⟨S_, .f32⟩
  | .hbm, ⟨16, _⟩ => ⟨S3x1408, .f32⟩
  | .hbm, ⟨17, _⟩ => ⟨S3x1408, .f32⟩
  | .hbm, ⟨18, _⟩ => ⟨S3x1408, .f32⟩
  | .hbm, ⟨19, _⟩ => ⟨S_, .f32⟩
  | .hbm, ⟨20, _⟩ => ⟨S3x1408, .f32⟩
  | .hbm, ⟨21, _⟩ => ⟨S3x1408, .f32⟩
  | .hbm, ⟨22, _⟩ => ⟨S_, .f32⟩
  | .hbm, ⟨23, _⟩ => ⟨S3x1408, .f32⟩
  | .hbm, ⟨24, _⟩ => ⟨S3x1408, .f32⟩
  | .hbm, ⟨25, _⟩ => ⟨S3x1408, .f32⟩
  | .hbm, ⟨26, _⟩ => ⟨S_, .f32⟩
  | .hbm, ⟨27, _⟩ => ⟨S3x1408, .f32⟩
  | .hbm, ⟨28, _⟩ => ⟨S3x1408, .f32⟩
  | .hbm, ⟨29, _⟩ => ⟨S3x1408, .f32⟩
  | .hbm, ⟨30, _⟩ => ⟨S_, .f32⟩
  | .hbm, ⟨31, _⟩ => ⟨S3x1408, .f32⟩
  | .hbm, ⟨32, _⟩ => ⟨S3x1408, .f32⟩
  | .hbm, ⟨33, _⟩ => ⟨S3x1408, .f32⟩
  | .hbm, ⟨34, _⟩ => ⟨S_, .f32⟩
  | .hbm, ⟨35, _⟩ => ⟨S3x1408, .f32⟩
  | .hbm, ⟨36, _⟩ => ⟨S3x1408, .f32⟩
  | _, _ => ⟨S3x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamFbias.lean ====
abbrev S1x5632 : Shape := ⟨2, ![1, 5632]⟩

abbrev nBuf : Space → Nat
  | .hbm => 8
  | .vmem => 8
  | .smem => 0
  | _ => 0

abbrev bufTy : (tb : Table) → Fin (tcTables nBuf tb) → BufTy
  | .hbm, ⟨0, _⟩ => ⟨S1x5632, .f32⟩
  | .hbm, ⟨1, _⟩ => ⟨S1x5632, .f32⟩
  | .hbm, ⟨2, _⟩ => ⟨S1x5632, .f32⟩
  | .hbm, ⟨3, _⟩ => ⟨S1x5632, .f32⟩
  | .hbm, ⟨4, _⟩ => ⟨S1x5632, .f32⟩
  | .hbm, ⟨5, _⟩ => ⟨S1x5632, .f32⟩
  | .hbm, ⟨6, _⟩ => ⟨S1x5632, .f32⟩
  | .hbm, ⟨7, _⟩ => ⟨S1x5632, .f32⟩
  | .local _ .vmem, ⟨0, _⟩ => ⟨S1x5632, .f32⟩
  | .local _ .vmem, ⟨1, _⟩ => ⟨S1x5632, .f32⟩
  | .local _ .vmem, ⟨2, _⟩ => ⟨S1x5632, .f32⟩
  | .local _ .vmem, ⟨3, _⟩ => ⟨S1x5632, .f32⟩
  | .local _ .vmem, ⟨4, _⟩ => ⟨S1x5632, .f32⟩
  | .local _ .vmem, ⟨5, _⟩ => ⟨S1x5632, .f32⟩
  | .local _ .vmem, ⟨6, _⟩ => ⟨S1x5632, .f32⟩
  | .local _ .vmem, ⟨7, _⟩ => ⟨S1x5632, .f32⟩
  | _, _ => ⟨S1x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x5632 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x5632 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x5632 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x5632 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x5632 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x5632 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamFbiasReferenceIdeal.lean ====
abbrev S1x5632 : Shape := ⟨2, ![1, 5632]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1x5632, .f32⟩
  | .hbm, ⟨1, _⟩ => ⟨S1x5632, .f32⟩
  | .hbm, ⟨2, _⟩ => ⟨S1x5632, .f32⟩
  | .hbm, ⟨3, _⟩ => ⟨S1x5632, .f32⟩
  | .hbm, ⟨4, _⟩ => ⟨S_, .f32⟩
  | .hbm, ⟨5, _⟩ => ⟨S1x5632, .f32⟩
  | .hbm, ⟨6, _⟩ => ⟨S1x5632, .f32⟩
  | .hbm, ⟨7, _⟩ => ⟨S_, .f32⟩
  | .hbm, ⟨8, _⟩ => ⟨S1x5632, .f32⟩
  | .hbm, ⟨9, _⟩ => ⟨S1x5632, .f32⟩
  | .hbm, ⟨10, _⟩ => ⟨S1x5632, .f32⟩
  | .hbm, ⟨11, _⟩ => ⟨S_, .f32⟩
  | .hbm, ⟨12, _⟩ => ⟨S1x5632, .f32⟩
  | .hbm, ⟨13, _⟩ => ⟨S1x5632, .f32⟩
  | .hbm, ⟨14, _⟩ => ⟨S1x5632, .f32⟩
  | .hbm, ⟨15, _⟩ => ⟨S_, .f32⟩
  | .hbm, ⟨16, _⟩ => ⟨S1x5632, .f32⟩
  | .hbm, ⟨17, _⟩ => ⟨S1x5632, .f32⟩
  | .hbm, ⟨18, _⟩ => ⟨S1x5632, .f32⟩
  | .hbm, ⟨19, _⟩ => ⟨S_, .f32⟩
  | .hbm, ⟨20, _⟩ => ⟨S1x5632, .f32⟩
  | .hbm, ⟨21, _⟩ => ⟨S1x5632, .f32⟩
  | .hbm, ⟨22, _⟩ => ⟨S_, .f32⟩
  | .hbm, ⟨23, _⟩ => ⟨S1x5632, .f32⟩
  | .hbm, ⟨24, _⟩ => ⟨S1x5632, .f32⟩
  | .hbm, ⟨25, _⟩ => ⟨S1x5632, .f32⟩
  | .hbm, ⟨26, _⟩ => ⟨S_, .f32⟩
  | .hbm, ⟨27, _⟩ => ⟨S1x5632, .f32⟩
  | .hbm, ⟨28, _⟩ => ⟨S1x5632, .f32⟩
  | .hbm, ⟨29, _⟩ => ⟨S1x5632, .f32⟩
  | .hbm, ⟨30, _⟩ => ⟨S_, .f32⟩
  | .hbm, ⟨31, _⟩ => ⟨S1x5632, .f32⟩
  | .hbm, ⟨32, _⟩ => ⟨S1x5632, .f32⟩
  | .hbm, ⟨33, _⟩ => ⟨S1x5632, .f32⟩
  | .hbm, ⟨34, _⟩ => ⟨S_, .f32⟩
  | .hbm, ⟨35, _⟩ => ⟨S1x5632, .f32⟩
  | .hbm, ⟨36, _⟩ => ⟨S1x5632, .f32⟩
  | _, _ => ⟨S1x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S2048x1792 : Shape := ⟨2, ![2048, 1792]⟩
abbrev S256x1792 : Shape := ⟨2, ![256, 1792]⟩

abbrev nBuf : Space → Nat
  | .hbm => 9
  | .vmem => 18
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .hbm, ⟨8, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x1792, .f32⟩
  | .local _ .vmem, ⟨17, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInIdeal.lean ====
abbrev S2048x1792 : Shape := ⟨2, ![2048, 1792]⟩
abbrev S256x1792 : Shape := ⟨2, ![256, 1792]⟩

abbrev nBuf : Space → Nat
  | .hbm => 9
  | .vmem => 18
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S2048x1792, .f32⟩
  | .hbm, ⟨7, _⟩ => ⟨S2048x1792, .f32⟩
  | .hbm, ⟨8, _⟩ => ⟨S2048x1792, .f32⟩
  | .local _ .vmem, ⟨0, _⟩ => ⟨S256x1792, .f32⟩
  | .local _ .vmem, ⟨1, _⟩ => ⟨S256x1792, .f32⟩
  | .local _ .vmem, ⟨2, _⟩ => ⟨S256x1792, .f32⟩
  | .local _ .vmem, ⟨3, _⟩ => ⟨S256x1792, .f32⟩
  | .local _ .vmem, ⟨4, _⟩ => ⟨S256x1792, .f32⟩
  | .local _ .vmem, ⟨5, _⟩ => ⟨S256x1792, .f32⟩
  | .local _ .vmem, ⟨6, _⟩ => ⟨S256x1792, .f32⟩
  | .local _ .vmem, ⟨7, _⟩ => ⟨S256x1792, .f32⟩
  | .local _ .vmem, ⟨8, _⟩ => ⟨S256x1792, .f32⟩
  | .local _ .vmem, ⟨9, _⟩ => ⟨S256x1792, .f32⟩
  | .local _ .vmem, ⟨10, _⟩ => ⟨S256x1792, .f32⟩
  | .local _ .vmem, ⟨11, _⟩ => ⟨S256x1792, .f32⟩
  | .local _ .vmem, ⟨12, _⟩ => ⟨S256x1792, .f32⟩
  | .local _ .vmem, ⟨13, _⟩ => ⟨S256x1792, .f32⟩
  | .local _ .vmem, ⟨14, _⟩ => ⟨S256x1792, .f32⟩
  | .local _ .vmem, ⟨15, _⟩ => ⟨S256x1792, .f32⟩
  | .local _ .vmem, ⟨16, _⟩ => ⟨S256x1792, .f32⟩
  | .local _ .vmem, ⟨17, _⟩ => ⟨S256x1792, .f32⟩
  | _, _ => ⟨S2048x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1792 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1792 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1792 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1792 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1792 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1792 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1792 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1792 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamInReferenceIdeal.lean ====
abbrev S2048x1792 : Shape := ⟨2, ![2048, 1792]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1792, .f32⟩
  | .hbm, ⟨1, _⟩ => ⟨S2048x1792, .f32⟩
  | .hbm, ⟨2, _⟩ => ⟨S2048x1792, .f32⟩
  | .hbm, ⟨3, _⟩ => ⟨S2048x1792, .f32⟩
  | .hbm, ⟨4, _⟩ => ⟨S2048x1792, .f32⟩
  | .hbm, ⟨5, _⟩ => ⟨S2048x1792, .f32⟩
  | .hbm, ⟨6, _⟩ => ⟨S_, .f32⟩
  | .hbm, ⟨7, _⟩ => ⟨S2048x1792, .f32⟩
  | .hbm, ⟨8, _⟩ => ⟨S2048x1792, .f32⟩
  | .hbm, ⟨9, _⟩ => ⟨S_, .f32⟩
  | .hbm, ⟨10, _⟩ => ⟨S2048x1792, .f32⟩
  | .hbm, ⟨11, _⟩ => ⟨S2048x1792, .f32⟩
  | .hbm, ⟨12, _⟩ => ⟨S2048x1792, .f32⟩
  | .hbm, ⟨13, _⟩ => ⟨S_, .f32⟩
  | .hbm, ⟨14, _⟩ => ⟨S2048x1792, .f32⟩
  | .hbm, ⟨15, _⟩ => ⟨S2048x1792, .f32⟩
  | .hbm, ⟨16, _⟩ => ⟨S2048x1792, .f32⟩
  | .hbm, ⟨17, _⟩ => ⟨S_, .f32⟩
  | .hbm, ⟨18, _⟩ => ⟨S2048x1792, .f32⟩
  | .hbm, ⟨19, _⟩ => ⟨S2048x1792, .f32⟩
  | .hbm, ⟨20, _⟩ => ⟨S2048x1792, .f32⟩
  | .hbm, ⟨21, _⟩ => ⟨S_, .f32⟩
  | .hbm, ⟨22, _⟩ => ⟨S2048x1792, .f32⟩
  | .hbm, ⟨23, _⟩ => ⟨S2048x1792, .f32⟩
  | .hbm, ⟨24, _⟩ => ⟨S_, .f32⟩
  | .hbm, ⟨25, _⟩ => ⟨S2048x1792, .f32⟩
  | .hbm, ⟨26, _⟩ => ⟨S2048x1792, .f32⟩
  | .hbm, ⟨27, _⟩ => ⟨S2048x1792, .f32⟩
  | .hbm, ⟨28, _⟩ => ⟨S_, .f32⟩
  | .hbm, ⟨29, _⟩ => ⟨S2048x1792, .f32⟩
  | .hbm, ⟨30, _⟩ => ⟨S2048x1792, .f32⟩
  | .hbm, ⟨31, _⟩ => ⟨S2048x1792, .f32⟩
  | .hbm, ⟨32, _⟩ => ⟨S_, .f32⟩
  | .hbm, ⟨33, _⟩ => ⟨S2048x1792, .f32⟩
  | .hbm, ⟨34, _⟩ => ⟨S2048x1792, .f32⟩
  | .hbm, ⟨35, _⟩ => ⟨S2048x1792, .f32⟩
  | .hbm, ⟨36, _⟩ => ⟨S_, .f32⟩
  | .hbm, ⟨37, _⟩ => ⟨S2048x1792, .f32⟩
  | .hbm, ⟨38, _⟩ => ⟨S2048x1792, .f32⟩
  | _, _ => ⟨S2048x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamSquare.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSquareIdeal.lean ====
abbrev S512x2048 : Shape := ⟨2, ![512, 2048]⟩
abbrev S256x2048 : Shape := ⟨2, ![256, 2048]⟩

abbrev nBuf : Space → Nat
  | .hbm => 9
  | .vmem => 18
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .hbm, ⟨8, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | .local _ .vmem, ⟨16, _⟩ => ⟨S256x2048, .f32⟩
  | .local _ .vmem, ⟨17, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamSquareReferenceIdeal.lean ====
abbrev S512x2048 : Shape := ⟨2, ![512, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S_, .f32⟩
  | .hbm, ⟨7, _⟩ => ⟨S512x2048, .f32⟩
  | .hbm, ⟨8, _⟩ => ⟨S512x2048, .f32⟩
  | .hbm, ⟨9, _⟩ => ⟨S_, .f32⟩
  | .hbm, ⟨10, _⟩ => ⟨S512x2048, .f32⟩
  | .hbm, ⟨11, _⟩ => ⟨S512x2048, .f32⟩
  | .hbm, ⟨12, _⟩ => ⟨S512x2048, .f32⟩
  | .hbm, ⟨13, _⟩ => ⟨S_, .f32⟩
  | .hbm, ⟨14, _⟩ => ⟨S512x2048, .f32⟩
  | .hbm, ⟨15, _⟩ => ⟨S512x2048, .f32⟩
  | .hbm, ⟨16, _⟩ => ⟨S512x2048, .f32⟩
  | .hbm, ⟨17, _⟩ => ⟨S_, .f32⟩
  | .hbm, ⟨18, _⟩ => ⟨S512x2048, .f32⟩
  | .hbm, ⟨19, _⟩ => ⟨S512x2048, .f32⟩
  | .hbm, ⟨20, _⟩ => ⟨S512x2048, .f32⟩
  | .hbm, ⟨21, _⟩ => ⟨S_, .f32⟩
  | .hbm, ⟨22, _⟩ => ⟨S512x2048, .f32⟩
  | .hbm, ⟨23, _⟩ => ⟨S512x2048, .f32⟩
  | .hbm, ⟨24, _⟩ => ⟨S_, .f32⟩
  | .hbm, ⟨25, _⟩ => ⟨S512x2048, .f32⟩
  | .hbm, ⟨26, _⟩ => ⟨S512x2048, .f32⟩
  | .hbm, ⟨27, _⟩ => ⟨S512x2048, .f32⟩
  | .hbm, ⟨28, _⟩ => ⟨S_, .f32⟩
  | .hbm, ⟨29, _⟩ => ⟨S512x2048, .f32⟩
  | .hbm, ⟨30, _⟩ => ⟨S512x2048, .f32⟩
  | .hbm, ⟨31, _⟩ => ⟨S512x2048, .f32⟩
  | .hbm, ⟨32, _⟩ => ⟨S_, .f32⟩
  | .hbm, ⟨33, _⟩ => ⟨S512x2048, .f32⟩
  | .hbm, ⟨34, _⟩ => ⟨S512x2048, .f32⟩
  | .hbm, ⟨35, _⟩ => ⟨S512x2048, .f32⟩
  | .hbm, ⟨36, _⟩ => ⟨S_, .f32⟩
  | .hbm, ⟨37, _⟩ => ⟨S512x2048, .f32⟩
  | .hbm, ⟨38, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamFfn.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnIdeal.lean ====
abbrev S2048x1408 : Shape := ⟨2, ![2048, 1408]⟩
abbrev S256x1408 : Shape := ⟨2, ![256, 1408]⟩

abbrev nBuf : Space → Nat
  | .hbm => 9
  | .vmem => 18
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .hbm, ⟨7, _⟩ => ⟨S2048x1408, .f32⟩
  | .hbm, ⟨8, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamFfnReferenceIdeal.lean ====
abbrev S2048x1408 : Shape := ⟨2, ![2048, 1408]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S_, .f32⟩
  | .hbm, ⟨7, _⟩ => ⟨S2048x1408, .f32⟩
  | .hbm, ⟨8, _⟩ => ⟨S2048x1408, .f32⟩
  | .hbm, ⟨9, _⟩ => ⟨S_, .f32⟩
  | .hbm, ⟨10, _⟩ => ⟨S2048x1408, .f32⟩
  | .hbm, ⟨11, _⟩ => ⟨S2048x1408, .f32⟩
  | .hbm, ⟨12, _⟩ => ⟨S2048x1408, .f32⟩
  | .hbm, ⟨13, _⟩ => ⟨S_, .f32⟩
  | .hbm, ⟨14, _⟩ => ⟨S2048x1408, .f32⟩
  | .hbm, ⟨15, _⟩ => ⟨S2048x1408, .f32⟩
  | .hbm, ⟨16, _⟩ => ⟨S2048x1408, .f32⟩
  | .hbm, ⟨17, _⟩ => ⟨S_, .f32⟩
  | .hbm, ⟨18, _⟩ => ⟨S2048x1408, .f32⟩
  | .hbm, ⟨19, _⟩ => ⟨S2048x1408, .f32⟩
  | .hbm, ⟨20, _⟩ => ⟨S2048x1408, .f32⟩
  | .hbm, ⟨21, _⟩ => ⟨S_, .f32⟩
  | .hbm, ⟨22, _⟩ => ⟨S2048x1408, .f32⟩
  | .hbm, ⟨23, _⟩ => ⟨S2048x1408, .f32⟩
  | .hbm, ⟨24, _⟩ => ⟨S_, .f32⟩
  | .hbm, ⟨25, _⟩ => ⟨S2048x1408, .f32⟩
  | .hbm, ⟨26, _⟩ => ⟨S2048x1408, .f32⟩
  | .hbm, ⟨27, _⟩ => ⟨S2048x1408, .f32⟩
  | .hbm, ⟨28, _⟩ => ⟨S_, .f32⟩
  | .hbm, ⟨29, _⟩ => ⟨S2048x1408, .f32⟩
  | .hbm, ⟨30, _⟩ => ⟨S2048x1408, .f32⟩
  | .hbm, ⟨31, _⟩ => ⟨S2048x1408, .f32⟩
  | .hbm, ⟨32, _⟩ => ⟨S_, .f32⟩
  | .hbm, ⟨33, _⟩ => ⟨S2048x1408, .f32⟩
  | .hbm, ⟨34, _⟩ => ⟨S2048x1408, .f32⟩
  | .hbm, ⟨35, _⟩ => ⟨S2048x1408, .f32⟩
  | .hbm, ⟨36, _⟩ => ⟨S_, .f32⟩
  | .hbm, ⟨37, _⟩ => ⟨S2048x1408, .f32⟩
  | .hbm, ⟨38, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamDown.lean ====
abbrev S1408x2048 : Shape := ⟨2, ![1408, 2048]⟩
abbrev S128x2048 : Shape := ⟨2, ![128, 2048]⟩

abbrev nBuf : Space → Nat
  | .hbm => 9
  | .vmem => 18
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S1408x2048, .f32⟩
  | .hbm, ⟨7, _⟩ => ⟨S1408x2048, .f32⟩
  | .hbm, ⟨8, _⟩ => ⟨S1408x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | _, _ => ⟨S1408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== AdamDownReferenceIdeal.lean ====
abbrev S1408x2048 : Shape := ⟨2, ![1408, 2048]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S1408x2048, .f32⟩
  | .hbm, ⟨1, _⟩ => ⟨S1408x2048, .f32⟩
  | .hbm, ⟨2, _⟩ => ⟨S1408x2048, .f32⟩
  | .hbm, ⟨3, _⟩ => ⟨S1408x2048, .f32⟩
  | .hbm, ⟨4, _⟩ => ⟨S1408x2048, .f32⟩
  | .hbm, ⟨5, _⟩ => ⟨S1408x2048, .f32⟩
  | .hbm, ⟨6, _⟩ => ⟨S_, .f32⟩
  | .hbm, ⟨7, _⟩ => ⟨S1408x2048, .f32⟩
  | .hbm, ⟨8, _⟩ => ⟨S1408x2048, .f32⟩
  | .hbm, ⟨9, _⟩ => ⟨S_, .f32⟩
  | .hbm, ⟨10, _⟩ => ⟨S1408x2048, .f32⟩
  | .hbm, ⟨11, _⟩ => ⟨S1408x2048, .f32⟩
  | .hbm, ⟨12, _⟩ => ⟨S1408x2048, .f32⟩
  | .hbm, ⟨13, _⟩ => ⟨S_, .f32⟩
  | .hbm, ⟨14, _⟩ => ⟨S1408x2048, .f32⟩
  | .hbm, ⟨15, _⟩ => ⟨S1408x2048, .f32⟩
  | .hbm, ⟨16, _⟩ => ⟨S1408x2048, .f32⟩
  | .hbm, ⟨17, _⟩ => ⟨S_, .f32⟩
  | .hbm, ⟨18, _⟩ => ⟨S1408x2048, .f32⟩
  | .hbm, ⟨19, _⟩ => ⟨S1408x2048, .f32⟩
  | .hbm, ⟨20, _⟩ => ⟨S1408x2048, .f32⟩
  | .hbm, ⟨21, _⟩ => ⟨S_, .f32⟩
  | .hbm, ⟨22, _⟩ => ⟨S1408x2048, .f32⟩
  | .hbm, ⟨23, _⟩ => ⟨S1408x2048, .f32⟩
  | .hbm, ⟨24, _⟩ => ⟨S_, .f32⟩
  | .hbm, ⟨25, _⟩ => ⟨S1408x2048, .f32⟩
  | .hbm, ⟨26, _⟩ => ⟨S1408x2048, .f32⟩
  | .hbm, ⟨27, _⟩ => ⟨S1408x2048, .f32⟩
  | .hbm, ⟨28, _⟩ => ⟨S_, .f32⟩
  | .hbm, ⟨29, _⟩ => ⟨S1408x2048, .f32⟩
  | .hbm, ⟨30, _⟩ => ⟨S1408x2048, .f32⟩
  | .hbm, ⟨31, _⟩ => ⟨S1408x2048, .f32⟩
  | .hbm, ⟨32, _⟩ => ⟨S_, .f32⟩
  | .hbm, ⟨33, _⟩ => ⟨S1408x2048, .f32⟩
  | .hbm, ⟨34, _⟩ => ⟨S1408x2048, .f32⟩
  | .hbm, ⟨35, _⟩ => ⟨S1408x2048, .f32⟩
  | .hbm, ⟨36, _⟩ => ⟨S_, .f32⟩
  | .hbm, ⟨37, _⟩ => ⟨S1408x2048, .f32⟩
  | .hbm, ⟨38, _⟩ => ⟨S1408x2048, .f32⟩
  | _, _ => ⟨S1408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== ProjIn.lean ====
abbrev S8192x2048 : Shape := ⟨2, ![8192, 2048]⟩
abbrev S2048x7168 : Shape := ⟨2, ![2048, 7168]⟩
abbrev S3 : Shape := ⟨1, ![3]⟩
abbrev S8192x7168 : Shape := ⟨2, ![8192, 7168]⟩
abbrev S1024x2048 : Shape := ⟨2, ![1024, 2048]⟩
abbrev S2048x1792 : Shape := ⟨2, ![2048, 1792]⟩
abbrev S1 : Shape := ⟨1, ![1]⟩
abbrev S1024x1792 : Shape := ⟨2, ![1024, 1792]⟩

abbrev nBuf : Space → Nat
  | .hbm => 4
  | .vmem => 6
  | .smem => 1
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S8192x7168, .bf16⟩
  | .hbm, ⟨3, _⟩ => ⟨S8192x7168, .bf16⟩
  | .local _ .vmem, ⟨0, _⟩ => ⟨S1024x2048, .bf16⟩
  | .local _ .vmem, ⟨1, _⟩ => ⟨S1024x2048, .bf16⟩
  | .local _ .vmem, ⟨2, _⟩ => ⟨S2048x1792, .bf16⟩
  | .local _ .vmem, ⟨3, _⟩ => ⟨S2048x1792, .bf16⟩
  | .local _ .vmem, ⟨4, _⟩ => ⟨S1024x1792, .bf16⟩
  | .local _ .vmem, ⟨5, _⟩ => ⟨S1024x1792, .bf16⟩
  | .local _ .smem, ⟨0, _⟩ => ⟨S3, .i32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_v0 : Ref sig .tc := ⟨.hbm, 3, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 3], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  let c0_i32_0 : BitVec 32 := 0#32
  ![c0_i32.toNat, v1.toNat]

def cc0_transform_3 (k0_off1_inb : ∀ i : grid0.Coords, ∀ a, (k0_off1 i) a + S1.size a ≤ S3.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S3) ![v0.toNat] S1.size (k0_off1_inb i)) numel1_S1
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInReferenceIdeal.lean ====
abbrev S8192x2048 : Shape := ⟨2, ![8192, 2048]⟩
abbrev S2048x7168 : Shape := ⟨2, ![2048, 7168]⟩
abbrev S3 : Shape := ⟨1, ![3]⟩
abbrev S8192x7168 : Shape := ⟨2, ![8192, 7168]⟩
abbrev S1 : Shape := ⟨1, ![1]⟩
abbrev S_ : Shape := ⟨0, ![]⟩
abbrev S8192x1792 : Shape := ⟨2, ![8192, 1792]⟩

abbrev nBuf : Space → Nat
  | .hbm => 77
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x7168, .bf16⟩
  | .hbm, ⟨2, _⟩ => ⟨S3, .i32⟩
  | .hbm, ⟨3, _⟩ => ⟨S8192x7168, .bf16⟩
  | .hbm, ⟨4, _⟩ => ⟨S8192x2048, .f32⟩
  | .hbm, ⟨5, _⟩ => ⟨S2048x7168, .f32⟩
  | .hbm, ⟨6, _⟩ => ⟨S8192x7168, .f32⟩
  | .hbm, ⟨7, _⟩ => ⟨S8192x7168, .bf16⟩
  | .hbm, ⟨8, _⟩ => ⟨S1, .i32⟩
  | .hbm, ⟨9, _⟩ => ⟨S_, .i32⟩
  | .hbm, ⟨10, _⟩ => ⟨S_, .i32⟩
  | .hbm, ⟨11, _⟩ => ⟨S_, .i1⟩
  | .hbm, ⟨12, _⟩ => ⟨S1, .i32⟩
  | .hbm, ⟨13, _⟩ => ⟨S_, .i32⟩
  | .hbm, ⟨14, _⟩ => ⟨S_, .i32⟩
  | .hbm, ⟨15, _⟩ => ⟨S_, .i1⟩
  | .hbm, ⟨16, _⟩ => ⟨S_, .i1⟩
  | .hbm, ⟨17, _⟩ => ⟨S1, .i32⟩
  | .hbm, ⟨18, _⟩ => ⟨S_, .i32⟩
  | .hbm, ⟨19, _⟩ => ⟨S_, .i32⟩
  | .hbm, ⟨20, _⟩ => ⟨S_, .i1⟩
  | .hbm, ⟨21, _⟩ => ⟨S_, .i1⟩
  | .hbm, ⟨22, _⟩ => ⟨S8192x1792, .bf16⟩
  | .hbm, ⟨23, _⟩ => ⟨S8192x1792, .bf16⟩
  | .hbm, ⟨24, _⟩ => ⟨S8192x1792, .bf16⟩
  | .hbm, ⟨25, _⟩ => ⟨S1, .i32⟩
  | .hbm, ⟨26, _⟩ => ⟨S_, .i32⟩
  | .hbm, ⟨27, _⟩ => ⟨S_, .i32⟩
  | .hbm, ⟨28, _⟩ => ⟨S_, .i1⟩
  | .hbm, ⟨29, _⟩ => ⟨S1, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i1⟩
  | .hbm, ⟨34, _⟩ => ⟨S1, .i32⟩
  | .hbm, ⟨35, _⟩ => ⟨S_, .i32⟩
  | .hbm, ⟨36, _⟩ => ⟨S_, .i32⟩
  | .hbm, ⟨37, _⟩ => ⟨S_, .i1⟩
  | .hbm, ⟨38, _⟩ => ⟨S_, .i1⟩
  | .hbm, ⟨39, _⟩ => ⟨S8192x1792, .bf16⟩
  | .hbm, ⟨40, _⟩ => ⟨S8192x1792, .bf16⟩
  | .hbm, ⟨41, _⟩ => ⟨S8192x1792, .bf16⟩
  | .hbm, ⟨42, _⟩ => ⟨S1, .i32⟩
  | .hbm, ⟨43, _⟩ => ⟨S_, .i32⟩
  | .hbm, ⟨44, _⟩ => ⟨S_, .i32⟩
  | .hbm, ⟨45, _⟩ => ⟨S_, .i1⟩
  | .hbm, ⟨46, _⟩ => ⟨S1, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i1⟩
  | .hbm, ⟨51, _⟩ => ⟨S1, .i32⟩
  | .hbm, ⟨52, _⟩ => ⟨S_, .i32⟩
  | .hbm, ⟨53, _⟩ => ⟨S_, .i32⟩
  | .hbm, ⟨54, _⟩ => ⟨S_, .i1⟩
  | .hbm, ⟨55, _⟩ => ⟨S_, .i1⟩
  | .hbm, ⟨56, _⟩ => ⟨S8192x1792, .bf16⟩
  | .hbm, ⟨57, _⟩ => ⟨S8192x1792, .bf16⟩
  | .hbm, ⟨58, _⟩ => ⟨S8192x1792, .bf16⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i1⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i1⟩
  | .hbm, ⟨68, _⟩ => ⟨S1, .i32⟩
  | .hbm, ⟨69, _⟩ => ⟨S_, .i32⟩
  | .hbm, ⟨70, _⟩ => ⟨S_, .i32⟩
  | .hbm, ⟨71, _⟩ => ⟨S_, .i1⟩
  | .hbm, ⟨72, _⟩ => ⟨S_, .i1⟩
  | .hbm, ⟨73, _⟩ => ⟨S8192x1792, .bf16⟩
  | .hbm, ⟨74, _⟩ => ⟨S8192x1792, .bf16⟩
  | .hbm, ⟨75, _⟩ => ⟨S8192x1792, .bf16⟩
  | .hbm, ⟨76, _⟩ => ⟨S8192x7168, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_3 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_c_5 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_c_6 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_7 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_c_8 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c_9 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_10 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩

abbrev nD : Nat := 1
abbrev τ : Topo := Topo.v7x

variable {F : FTy → Type} [FloatOps F]
-- ==== Proof.Norms.Common.lean ====
module

public import Idealize.ShloMosaic.Lib.Pointwise
public import Idealize.ShloMosaic.Lib.Pipeline.Value
public import Idealize.ShloMosaic.Lib.Tactic

@[expose] public section

noncomputable section

/-! One row of the norm and of its gradient over the extended reals. -/

namespace Cert.Norms

open Idealize.ShloMosaic

abbrev Mat (M N : ℕ) : Type := (⟨2, ![M, N]⟩ : Shape).Idx → EReal
abbrev Row : Type := Fin 2048 → EReal

/-- The mean of the squares plus the small constant. -/
def var (x : Row) : EReal := Ideal.div (∑ k, x k * x k) (Ideal.ofBits .f32 0x45000000#32) + Ideal.ofBits .f32 0x358637BD#32
def inv (x : Row) : EReal := Ideal.rsqrt (var x)
/-- The row divided by its root mean square. -/
def hat (x : Row) : Row := fun i => x i * inv x
/-- The gradient of `hat` at `x` applied to `g`. -/
def grad (g x : Row) : Row := fun i =>
  inv x * (g i - hat x i * Ideal.div (∑ k, g k * hat x k) (Ideal.ofBits .f32 0x45000000#32))

def row {M : ℕ} (x : Mat M 2048) (r : Fin M) : Row := fun k => x (ix2 r k)
/-- Every row times the weight. -/
def scaled {M : ℕ} (g : Mat M 2048) (w : Mat 1 2048) : Mat M 2048 := fun i => g i * w (ix2 0 (i 1))
/-- Every row's norm. -/
def hats {M : ℕ} (x : Mat M 2048) : Mat M 2048 := fun i => hat (row x (i 0)) (i 1)
/-- Every row's gradient. -/
def grads {M : ℕ} (g x : Mat M 2048) : Mat M 2048 := fun i => grad (row g (i 0)) (row x (i 0)) (i 1)
def plus {M N : ℕ} (a b : Mat M N) : Mat M N := fun i => a i + b i
def vars {M : ℕ} (x : Mat M 2048) : Mat M 1 := fun i => var (row x (i 0))
/-- The rows of each residue modulo 8 added up. -/
def rows8 {M : ℕ} (K : ℕ) (h : K * 8 = M) (y : Mat M 2048) : Mat 8 2048 := fun i =>
  ∑ q : Fin K, y (ix2 ⟨q.val * 8 + (i 0).val, by have h0 : (i 0).val < 8 := (i 0).isLt; have := q.isLt; omega⟩ (i 1))
/-- The elements' products. -/
def times {M N : ℕ} (a b : Mat M N) : Mat M N := fun i => a i * b i

def minus {M N : ℕ} (a b : Mat M N) : Mat M N := fun i => a i - b i
def byConst {M N : ℕ} (c : EReal) (a : Mat M N) : Mat M N := fun i => a i * c
/-- Half the mean square of every row, added up, in the first element of an eight by 128 block. -/
def losses {M : ℕ} (e : Mat M 2048) : Mat 8 128 := fun i =>
  if (i 0).val = 0 ∧ (i 1).val = 0 then
    ∑ r : Fin M, Ideal.ofBits .f32 0x3F000000#32 * Ideal.div (∑ k, row e r k * row e r k) (Ideal.ofBits .f32 0x45000000#32)
  else 0

/-- Zero offsets, as the bodies print them. -/
theorem hz : (![0, 0] : Fin 2 → Nat) = fun _ => 0 := funext fun a => by fin_cases a <;> rfl

/-- `b` is the block of rows `t * m` to `t * m + m - 1` of `a`. -/
def IsBlock {m M N : ℕ} (t : ℕ) (b : Mat m N) (a : Mat M N) : Prop :=
  ∀ y j, (j 0).val = t * m + (y 0).val → (j 1).val = (y 1).val → b y = a j

section block
variable {m M N t : ℕ}

theorem IsBlock.plus {b b' : Mat m N} {a a' : Mat M N} (h : IsBlock t b a) (h' : IsBlock t b' a') :
    IsBlock t (plus b b') (plus a a') := fun y j h0 h1 => congrArg₂ (· + ·) (h y j h0 h1) (h' y j h0 h1)
theorem IsBlock.times {b b' : Mat m N} {a a' : Mat M N} (h : IsBlock t b a) (h' : IsBlock t b' a') :
    IsBlock t (times b b') (times a a') := fun y j h0 h1 => congrArg₂ (· * ·) (h y j h0 h1) (h' y j h0 h1)
theorem IsBlock.minus {b b' : Mat m N} {a a' : Mat M N} (h : IsBlock t b a) (h' : IsBlock t b' a') :
    IsBlock t (minus b b') (minus a a') := fun y j h0 h1 => congrArg₂ (· - ·) (h y j h0 h1) (h' y j h0 h1)
theorem IsBlock.byConst {b : Mat m N} {a : Mat M N} (c : EReal) (h : IsBlock t b a) :
    IsBlock t (byConst c b) (byConst c a) := fun y j h0 h1 => congrArg (· * c) (h y j h0 h1)
theorem IsBlock.scaled {b : Mat m 2048} {a : Mat M 2048} (w : Mat 1 2048) (h : IsBlock t b a) :
    IsBlock t (scaled b w) (scaled a w) := fun y j h0 h1 => by
  show b y * w (ix2 0 (y 1)) = a j * w (ix2 0 (j 1))
  rw [h y j h0 h1, show (j 1 : Fin 2048) = y 1 from Fin.ext h1]
theorem IsBlock.row {b : Mat m 2048} {a : Mat M 2048} (h : IsBlock t b a) (r : Fin m) (s : Fin M) (hr : s.val = t * m + r.val) :
    row b r = row a s := funext fun _ => h _ _ hr rfl
theorem IsBlock.hats {b : Mat m 2048} {a : Mat M 2048} (h : IsBlock t b a) : IsBlock t (hats b) (hats a) := fun y j h0 h1 => by
  show hat (Norms.row b (y 0)) (y 1) = hat (Norms.row a (j 0)) (j 1)
  rw [h.row (y 0) (j 0) h0, show (j 1 : Fin 2048) = y 1 from Fin.ext h1]
theorem IsBlock.grads {b g : Mat m 2048} {a f : Mat M 2048} (hg : IsBlock t g f) (h : IsBlock t b a) :
    IsBlock t (grads g b) (grads f a) := fun y j h0 h1 => by
  show grad (Norms.row g (y 0)) (Norms.row b (y 0)) (y 1) = grad (Norms.row f (j 0)) (Norms.row a (j 0)) (j 1)
  rw [h.row (y 0) (j 0) h0, hg.row (y 0) (j 0) h0, show (j 1 : Fin 2048) = y 1 from Fin.ext h1]

/-- The rows added up block by block. -/
theorem rows8_blocks {k K : ℕ} (T : ℕ) (hk : k * 8 = m) (hK : K * 8 = M) (hT : T * k = K) (a : Mat M 2048) (b : ℕ → Mat m 2048)
    (h : ∀ t < T, IsBlock t (b t) a) (i : (⟨2, ![8, 2048]⟩ : Shape).Idx) :
    rows8 K hK a i = ∑ t ∈ Finset.range T, rows8 k hk (b t) i := by
  rw [rows8, Fin.sum_univ_tiles T k hT, Finset.sum_range]
  refine Finset.sum_congr rfl fun t _ => Finset.sum_congr rfl fun q _ => ?_
  refine (h t.val t.isLt _ _ ?_ rfl).symm
  show (t.val * k + q.val) * 8 + (i 0).val = t.val * m + (q.val * 8 + (i 0).val)
  subst hk
  ring

theorem losses_blocks (T : ℕ) (hT : T * m = M) (a : Mat M 2048) (b : ℕ → Mat m 2048)
    (h : ∀ t < T, IsBlock t (b t) a) (i : (⟨2, ![8, 128]⟩ : Shape).Idx) :
    losses a i = ∑ t ∈ Finset.range T, losses (b t) i := by
  unfold losses
  by_cases h0 : (i 0).val = 0 ∧ (i 1).val = 0
  · simp only [if_pos h0]
    rw [Fin.sum_univ_tiles T m hT, Finset.sum_range]
    refine Finset.sum_congr rfl fun t _ => Finset.sum_congr rfl fun q _ => ?_
    exact congrArg (fun z : Row => Ideal.ofBits .f32 0x3F000000#32 * Ideal.div (∑ k, z k * z k) (Ideal.ofBits .f32 0x45000000#32))
      ((h t.val t.isLt).row q _ rfl).symm
  · simp only [if_neg h0, Finset.sum_const_zero]
end block

/-- What a chain of points that add to what the point before left has left after point `n`. -/
theorem acc_sum {N a b : ℕ} (o : (n : ℕ) → n < N → Mat a b) (G : ℕ → Mat a b) (h0 : ∀ h, o 0 h = G 0)
    (hs : ∀ n h, o (n + 1) h = plus (o n (Nat.lt_of_succ_lt h)) (G (n + 1))) :
    ∀ n h i, o n h i = ∑ t ∈ Finset.range (n + 1), G t i := by
  intro n
  induction n with
  | zero => intro h i; rw [h0 h, Finset.sum_range_one]
  | succ n ih => intro h i; rw [hs n h, Finset.sum_range_succ, ← ih (Nat.lt_of_succ_lt h) i]; rfl

theorem n2048 : Ideal.ofBits .f32 0x45000000#32 = ((2048 : ℝ) : EReal) := by
  simp [Ideal.ofBits, Ideal.ieee, -EReal.coe_mul]
  norm_num

theorem neg_half : Ideal.ofBits .f32 0xBF000000#32 = ((-(1 / 2) : ℝ) : EReal) := by
  simp [Ideal.ofBits, Ideal.ieee, -EReal.coe_mul]
  norm_num

theorem eps_pos : ∃ e : ℝ, 0 < e ∧ Ideal.ofBits .f32 0x358637BD#32 = (e : EReal) := by
  refine ⟨8796093 * (2 : ℝ) ^ (-43 : ℤ), by positivity, ?_⟩
  simp [Ideal.ofBits, Ideal.ieee]

theorem sq_nonneg (x : EReal) : 0 ≤ x * x := by
  rcases le_total 0 x with h | h
  · exact mul_nonneg h h
  · exact EReal.mul_nonneg_iff.mpr (Or.inr ⟨h, h⟩)

theorem var_cases (x : Row) : var x = ⊤ ∨ ∃ v : ℝ, 0 < v ∧ var x = (v : EReal) := by
  obtain ⟨e, he, h⟩ := eps_pos
  have hs : 0 ≤ ∑ k, x k * x k := Finset.sum_nonneg fun k _ => sq_nonneg (x k)
  have hd : 0 ≤ Ideal.div (∑ k, x k * x k) (Ideal.ofBits .f32 0x45000000#32) := by
    rw [n2048, Ideal.div_coe (by norm_num)]
    exact mul_nonneg hs (by exact_mod_cast (by norm_num : (0 : ℝ) ≤ 1 / 2048))
  unfold var
  generalize Ideal.div (∑ k, x k * x k) (Ideal.ofBits .f32 0x45000000#32) = d at hd
  rw [h]
  induction d with
  | bot => exact absurd hd (by simp)
  | top => exact Or.inl (EReal.top_add_coe e)
  | coe r =>
    have hr : 0 ≤ r := by exact_mod_cast hd
    exact Or.inr ⟨r + e, by positivity, by norm_cast⟩

theorem sum_mul_coe {n : ℕ} (f : Fin n → EReal) (r : ℝ) (hr : 0 ≤ r) : ∑ k, f k * (r : EReal) = (∑ k, f k) * (r : EReal) := by
  have h : ∀ s : Finset (Fin n), ∑ k ∈ s, f k * (r : EReal) = (∑ k ∈ s, f k) * (r : EReal) := by
    intro s
    induction s using Finset.induction_on with
    | empty => simp
    | insert a s ha ih =>
      rw [Finset.sum_insert ha, Finset.sum_insert ha, ih,
        EReal.right_distrib_of_nonneg_of_ne_top (by exact_mod_cast hr) (EReal.coe_ne_top r)]
  exact h _

theorem mul_coe_twice (a : EReal) (r : ℝ) : a * (r : EReal) + a * (r : EReal) = a * ((2 * r : ℝ) : EReal) := by
  induction a with
  | coe a => norm_cast; ring
  | top =>
    rcases lt_trichotomy r 0 with h | h | h
    · rw [EReal.top_mul_coe_of_neg h, EReal.top_mul_coe_of_neg (by linarith)]; rfl
    · subst h; simp
    · rw [EReal.top_mul_coe_of_pos h, EReal.top_mul_coe_of_pos (by linarith)]; rfl
  | bot =>
    rcases lt_trichotomy r 0 with h | h | h
    · rw [EReal.bot_mul_coe_of_neg h, EReal.bot_mul_coe_of_neg (by linarith)]; rfl
    · subst h; simp
    · rw [EReal.bot_mul_coe_of_pos h, EReal.bot_mul_coe_of_pos (by linarith)]; rfl

/-- The gradient of `hat` as differentiating the mean of the squares gives it. -/
theorem grad_eq (g x : Row) (i : Fin 2048) :
    g i * inv x
        + x i * Ideal.div ((∑ k, x k * g k) * (Ideal.ofBits .f32 0xBF000000#32 * Ideal.div (inv x) (var x))) (Ideal.ofBits .f32 0x45000000#32)
        + Ideal.div ((∑ k, x k * g k) * (Ideal.ofBits .f32 0xBF000000#32 * Ideal.div (inv x) (var x))) (Ideal.ofBits .f32 0x45000000#32) * x i
      = grad g x i := by
  unfold grad hat
  rw [n2048, neg_half, Ideal.div_coe (by norm_num), Ideal.div_coe (by norm_num)]
  rcases var_cases x with h | ⟨v, hv, h⟩
  · have hi : inv x = 0 := by unfold inv; rw [h]; rfl
    rw [hi, h, show Ideal.div 0 ⊤ = 0 by unfold Ideal.div; rw [if_neg (by simp)]; simp]
    simp
  · have hi : inv x = (((Real.sqrt v)⁻¹ : ℝ) : EReal) := by
      unfold inv; rw [h, Ideal.rsqrt_coe, if_neg (by linarith), if_neg (by positivity)]
    rw [hi, h]
    have hs : 0 < Real.sqrt v := Real.sqrt_pos.mpr hv
    have hρ : 0 < (Real.sqrt v)⁻¹ := inv_pos.mpr hs
    have hq : (Real.sqrt v)⁻¹ * (1 / v) = (Real.sqrt v)⁻¹ * (Real.sqrt v)⁻¹ * (Real.sqrt v)⁻¹ := by
      rw [mul_assoc, ← mul_inv, Real.mul_self_sqrt hv.le, one_div]
    rw [Ideal.div_coe hv.ne', ← EReal.coe_mul, hq]
    generalize (Real.sqrt v)⁻¹ = ρ at hρ
    have hT : ∑ k, g k * (x k * (ρ : EReal)) = (∑ k, x k * g k) * (ρ : EReal) := by
      rw [← sum_mul_coe _ ρ hρ.le]
      exact Finset.sum_congr rfl fun k _ => by rw [← mul_assoc, mul_comm (g k)]
    rw [hT]
    generalize (∑ k, x k * g k) = T
    generalize g i = a
    generalize x i = b
    rw [sub_eq_add_neg, EReal.left_distrib_of_nonneg_of_ne_top (by exact_mod_cast hρ.le) (EReal.coe_ne_top ρ), add_assoc]
    congr 1
    · exact mul_comm _ _
    · have e1 : b * (T * ((((-(1 / 2) : ℝ)) : EReal) * ((ρ * ρ * ρ : ℝ) : EReal)) * (((1 / 2048 : ℝ)) : EReal))
          = b * T * ((-(1 / 2) * (ρ * ρ * ρ) * (1 / 2048) : ℝ) : EReal) := by
        push_cast; simp only [mul_assoc]
      rw [mul_comm _ b, e1, mul_coe_twice, ← mul_neg, ← mul_neg]
      rw [show (-((1 / 2048 : ℝ) : EReal)) = ((-(1 / 2048) : ℝ) : EReal) by norm_cast]
      have e2 : (ρ : EReal) * (b * (ρ : EReal) * (T * (ρ : EReal) * ((-(1 / 2048) : ℝ) : EReal)))
          = b * T * ((ρ * ρ * ρ * (-(1 / 2048)) : ℝ) : EReal) := by
        push_cast
        ac_rfl
      rw [e2]
      congr 2
      ring

/-- The first element of an eight by 128 block. -/
theorem select_first (p : Fin 8) (q : Fin 128) (x y : EReal) :
    Scalar.select (IntOp.andi (IntOp.cmpi CmpIPredicate.eq (BitVec.ofNat 32 p.val) 0#32) (IntOp.cmpi CmpIPredicate.eq (BitVec.ofNat 32 q.val) 0#32)) x y
      = if p.val = 0 ∧ q.val = 0 then x else y := by
  have h : ∀ (p : Fin 8) (q : Fin 128), IntOp.andi (IntOp.cmpi CmpIPredicate.eq (BitVec.ofNat 32 p.val) 0#32) (IntOp.cmpi CmpIPredicate.eq (BitVec.ofNat 32 q.val) 0#32)
      = if p.val = 0 ∧ q.val = 0 then 1#1 else 0#1 := by decide +kernel
  rw [h]
  by_cases hc : p.val = 0 ∧ q.val = 0
  · rw [if_pos hc, if_pos hc]; rfl
  · rw [if_neg hc, if_neg hc]; rfl

theorem half : Ideal.ofBits .f32 0x3F000000#32 = ((1 / 2 : ℝ) : EReal) := by
  simp [Ideal.ofBits, Ideal.ieee, -EReal.coe_mul]
  norm_num

/-- Differentiating the mean of the squares, with the half in front of it. -/
theorem diff_eq (e : EReal) :
    Ideal.div (Ideal.ofBits .f32 0x3F000000#32) (Ideal.ofBits .f32 0x45000000#32)
        * (Ideal.ofBits .f32 0x40000000#32 * e)
      = e * Ideal.ofBits .f32 0x3A000000#32 := by
  have h2 : Ideal.ofBits .f32 0x40000000#32 = ((2 : ℝ) : EReal) := by
    simp [Ideal.ofBits, Ideal.ieee, -EReal.coe_mul]
    norm_num
  have h3 : Ideal.ofBits .f32 0x3A000000#32 = ((1 / 2048 : ℝ) : EReal) := by
    simp [Ideal.ofBits, Ideal.ieee, -EReal.coe_mul]
    norm_num
  rw [n2048, half, h2, h3, Ideal.div_coe (by norm_num), ← mul_assoc, mul_comm e]
  congr 1
  rw [← EReal.coe_mul, ← EReal.coe_mul]
  norm_num

/-- What differentiating the mean of the squares gives at one element. -/
def vjp (g x v T : EReal) : EReal :=
  g * Ideal.rsqrt v + x * Ideal.div (T * (Ideal.ofBits .f32 0xBF000000#32 * Ideal.div (Ideal.rsqrt v) v)) (Ideal.ofBits .f32 0x45000000#32)
    + Ideal.div (T * (Ideal.ofBits .f32 0xBF000000#32 * Ideal.div (Ideal.rsqrt v) v)) (Ideal.ofBits .f32 0x45000000#32) * x

theorem vjp_eq {M : ℕ} (g x : Mat M 2048) (j : (⟨2, ![M, 2048]⟩ : Shape).Idx) :
    vjp (g j) (x j) (vars x (ix2 (j 0) 0)) (∑ k, x (ix2 (j 0) k) * g (ix2 (j 0) k)) = grads g x j := by
  have e := eq_ix2 j
  generalize j 0 = r at e
  generalize j 1 = d at e
  subst e
  exact grad_eq (row g r) (row x r) d

end Cert.Norms

end
-- ==== Proof.Convs.Common.lean ====
module

public import proofs.«01_k».proof.Proof.Norms.Common

@[expose] public section

noncomputable section

/-! Blocks of an array, and rows moved down or up with the rows of a neighbouring block coming in. -/

namespace Cert.Convs

open Idealize.ShloMosaic
open Cert.Norms (Mat plus times)

/-- `b` is the block of `a` whose first element is at row `r` and column `c`. -/
def IsBlk {m n M N : ℕ} (r c : ℕ) (b : Mat m n) (a : Mat M N) : Prop :=
  ∀ y j, (j 0).val = r + (y 0).val → (j 1).val = c + (y 1).val → b y = a j

/-- The rows moved down by `s`, the first `s` from the end of the block `h` before, or zero at the top. -/
def down {m n : ℕ} (s : ℕ) (hs : s ≤ 8) (top : Prop) [Decidable top] (h : Mat 16 n) (x : Mat m n) : Mat m n := fun i =>
  if hi : (i 0).val < s then (if top then 0 else h (ix2 ⟨16 - s + (i 0).val, by omega⟩ (i 1)))
  else x (ix2 ⟨(i 0).val - s, by have := (i 0).isLt; change _ < m at this; omega⟩ (i 1))
/-- The rows of a whole array moved down by `s`, zeros first. -/
def downs {m n : ℕ} (s : ℕ) (x : Mat m n) : Mat m n := fun i =>
  if (i 0).val < s then 0
  else x (ix2 ⟨(i 0).val - s, by have := (i 0).isLt; change _ < m at this; omega⟩ (i 1))
/-- The rows moved up by `s`, the last `s` from the start of the block `h` after, or zero at the bottom. -/
def up {m n k : ℕ} (s : ℕ) (hs : s ≤ k) (bot : Prop) [Decidable bot] (h : Mat k n) (x : Mat m n) : Mat m n := fun i =>
  if hi : (i 0).val + s < m then x (ix2 ⟨(i 0).val + s, hi⟩ (i 1))
  else if bot then 0 else h (ix2 ⟨(i 0).val + s - m, by have := (i 0).isLt; change _ < m at this; omega⟩ (i 1))
/-- The rows of a whole array moved up by `s`, zeros last. -/
def ups {m n : ℕ} (s : ℕ) (x : Mat m n) : Mat m n := fun i =>
  if hi : (i 0).val + s < m then x (ix2 ⟨(i 0).val + s, hi⟩ (i 1)) else 0

section block
variable {m n M N r c : ℕ}

theorem IsBlk.plus {b b' : Mat m n} {a a' : Mat M N} (h : IsBlk r c b a) (h' : IsBlk r c b' a') :
    IsBlk r c (plus b b') (plus a a') := fun y j h0 h1 => congrArg₂ (· + ·) (h y j h0 h1) (h' y j h0 h1)
theorem IsBlk.times {b b' : Mat m n} {a a' : Mat M N} (h : IsBlk r c b a) (h' : IsBlk r c b' a') :
    IsBlk r c (times b b') (times a a') := fun y j h0 h1 => congrArg₂ (· * ·) (h y j h0 h1) (h' y j h0 h1)
theorem IsBlk.map {b : Mat m n} {a : Mat M N} (f : EReal → EReal) (h : IsBlk r c b a) :
    IsBlk r c (fun i => f (b i)) (fun i => f (a i)) := fun y j h0 h1 => congrArg f (h y j h0 h1)

theorem IsBlk.down {b : Mat m n} {h : Mat 16 n} {a : Mat M N} (s : ℕ) (hs : s ≤ 8) (top : Prop) [Decidable top]
    (ht : top ↔ r = 0) (hr : r = 0 ∨ 16 ≤ r) (hb : IsBlk r c b a) (hh : IsBlk (r - 16) c h a) :
    IsBlk r c (down s hs top h b) (downs s a) := by
  intro y j h0 h1
  unfold Convs.down downs
  by_cases hi : (y 0).val < s
  · rw [dif_pos hi]
    by_cases h' : top
    · rw [if_pos h', if_pos (by rw [h0, ht.mp h']; omega)]
    · have hr' : 16 ≤ r := hr.resolve_left fun e => h' (ht.mpr e)
      rw [if_neg h', if_neg (by omega)]
      refine hh _ _ ?_ h1
      show (j 0).val - s = r - 16 + (16 - s + (y 0).val)
      omega
  · rw [dif_neg hi, if_neg (by omega)]
    refine hb _ _ ?_ h1
    show (j 0).val - s = r + ((y 0).val - s)
    omega

theorem IsBlk.up {k : ℕ} {b : Mat m n} {h : Mat k n} {a : Mat M N} (s : ℕ) (hs : s ≤ k) (bot : Prop) [Decidable bot]
    (ht : bot ↔ r + m = M) (hr : r + m = M ∨ r + m + k ≤ M) (hb : IsBlk r c b a) (hh : ¬bot → IsBlk (r + m) c h a) :
    IsBlk r c (up s hs bot h b) (ups s a) := by
  intro y j h0 h1
  have hy : (y 0).val < m := (y 0).isLt
  unfold Convs.up ups
  by_cases hi : (y 0).val + s < m
  · rw [dif_pos hi, dif_pos (by omega)]
    refine hb _ _ ?_ h1
    show (j 0).val + s = r + ((y 0).val + s)
    omega
  · rw [dif_neg hi]
    by_cases h' : bot
    · rw [if_pos h', dif_neg (by have := ht.mp h'; omega)]
    · have hr' := hr.resolve_left fun e => h' (ht.mpr e)
      rw [if_neg h', dif_pos (by omega)]
      refine hh h' _ _ ?_ h1
      show (j 0).val + s = r + m + ((y 0).val + s - m)
      omega
end block

/-- Three rows of taps. -/
def conv3 {m n : ℕ} (a b d : Mat m n) (w : Mat 8 n) : Mat m n := fun i =>
  a i * w (ix2 0 (i 1)) + b i * w (ix2 1 (i 1)) + d i * w (ix2 2 (i 1))
/-- A row added to every row. -/
def addRow {m n : ℕ} (a : Mat m n) (w : Mat 1 n) : Mat m n := fun i => a i + w (ix2 0 (i 1))

theorem IsBlk.conv3 {m n M N r c : ℕ} {a b d : Mat m n} {a' b' d' : Mat M N} {w : Mat 8 n} {w' : Mat 8 N} (ha : IsBlk r c a a') (hb : IsBlk r c b b')
    (hd : IsBlk r c d d') (hw : IsBlk 0 c w w') : IsBlk r c (conv3 a b d w) (conv3 a' b' d' w') := by
  intro y j h0 h1
  have e : ∀ k : Fin 8, w (ix2 k (y 1)) = w' (ix2 k (j 1)) := fun k => hw _ _ (Nat.zero_add _).symm h1
  unfold Convs.conv3
  rw [ha y j h0 h1, hb y j h0 h1, hd y j h0 h1, e, e, e]
theorem IsBlk.addRow {m n M N r c : ℕ} {a : Mat m n} {a' : Mat M N} {w : Mat 1 n} {w' : Mat 1 N} (ha : IsBlk r c a a')
    (hw : IsBlk 0 c w w') : IsBlk r c (addRow a w) (addRow a' w') := by
  intro y j h0 h1
  unfold Convs.addRow
  rw [ha y j h0 h1, hw (ix2 0 (y 1)) (ix2 0 (j 1)) (Nat.zero_add _).symm h1]

theorem slt_select {α : Type} (s : ℕ) (hs : s = 1 ∨ s = 2) (j : Fin 512) (h : j.val < 8) (x y : α) :
    Scalar.select (IntOp.cmpi CmpIPredicate.slt (BitVec.ofNat 32 j.val) (BitVec.ofNat 32 s)) x y = if j.val < s then x else y := by
  have e : ∀ j : Fin 8, ∀ s : Fin 3, s.val = 1 ∨ s.val = 2 → IntOp.cmpi CmpIPredicate.slt (BitVec.ofNat 32 j.val) (BitVec.ofNat 32 s.val)
      = if j.val < s.val then 1#1 else 0#1 := by decide +kernel
  rw [show IntOp.cmpi CmpIPredicate.slt (BitVec.ofNat 32 j.val) (BitVec.ofNat 32 s) = if j.val < s then 1#1 else 0#1 from
    e ⟨j.val, h⟩ ⟨s, by omega⟩ hs]
  by_cases hc : j.val < s
  · rw [if_pos hc, if_pos hc]; rfl
  · rw [if_neg hc, if_neg hc]; rfl
theorem eq_select {α : Type} (b k : ℕ) (hb : b < 16) (hk : k < 16) (x y : α) :
    Scalar.select (Scalar.cmpi CmpIPredicate.eq (BitVec.ofNat 32 b) (BitVec.ofNat 32 k)) x y = if b = k then x else y := by
  have e : ∀ b k : Fin 16, Scalar.cmpi CmpIPredicate.eq (BitVec.ofNat 32 b.val) (BitVec.ofNat 32 k.val) = if b.val = k.val then 1#1 else 0#1 := by
    decide +kernel
  rw [show Scalar.cmpi CmpIPredicate.eq (BitVec.ofNat 32 b) (BitVec.ofNat 32 k) = if b = k then 1#1 else 0#1 from e ⟨b, hb⟩ ⟨k, hk⟩]
  by_cases hc : b = k
  · rw [if_pos hc, if_pos hc]; rfl
  · rw [if_neg hc, if_neg hc]; rfl

/-- The logistic function, as `1 / (1 + exp (0 - x))`. -/
def sigm (x : EReal) : EReal := Ideal.div 1 (1 + Ideal.exp (0 - x))

/-- The rotated rows with the rotated halo selected in, read at a row. -/
theorem select_down (s : ℕ) (hs : s = 1 ∨ s = 2) (b : ℕ) (hb : b < 16) (H : Fin 16 → EReal) (X : Fin 512 → EReal) (j : Fin 512)
    (p : j.val < 8 → 8 + (j.val + 8 - s) % 8 < 16) (q : j.val < 8 → (j.val + 512 - s) % 512 < 512)
    (q' : ¬j.val < 8 → (8 + (j.val - 8) + 512 - s) % 512 < 512) :
    (if h : j.val < 8 then
      Scalar.select (IntOp.cmpi CmpIPredicate.slt (BitVec.ofNat 32 j.val) (BitVec.ofNat 32 s))
        (Scalar.select (Scalar.cmpi CmpIPredicate.eq (BitVec.ofNat 32 b) 0#32) 0 (H ⟨8 + (j.val + 8 - s) % 8, p h⟩)) (X ⟨(j.val + 512 - s) % 512, q h⟩)
      else X ⟨(8 + (j.val - 8) + 512 - s) % 512, q' h⟩)
      = if h : j.val < s then (if b = 0 then 0 else H ⟨16 - s + j.val, by omega⟩) else X ⟨j.val - s, by omega⟩ := by
  have hj := j.isLt
  by_cases h8 : j.val < 8
  · rw [dif_pos h8, slt_select s hs j h8, eq_select b 0 hb (by omega)]
    by_cases h : j.val < s
    · rw [if_pos h, dif_pos h]
      congr 3
      omega
    · rw [if_neg h, dif_neg h]
      congr 2
      omega
  · rw [dif_neg h8, dif_neg (by omega)]
    congr 2
    omega

/-- The 1024 columns of `a` from column `p`. -/
def group {M N : ℕ} (a : Mat M N) (p : ℕ) (h : p + 1024 ≤ N) : Mat M 1024 := fun i =>
  a (ix2 (i 0) ⟨p + (i 1).val, by have := (i 1).isLt; change _ < 1024 at this; omega⟩)
/-- The first 1024 columns of `a`, and `b` in the other columns. -/
def joined {M : ℕ} (a : Mat M 2048) (b : Mat M 1024) : Mat M 2048 := fun i =>
  if h : (i 1).val < 1024 then a i
  else b (ix2 (i 0) ⟨(i 1).val - 1024, by have := (i 1).isLt; change _ < 2048 at this; omega⟩)

theorem IsBlk.group {m M N r c p : ℕ} {h : p + 1024 ≤ N} {b : Mat m 1024} {a : Mat M N} (hb : IsBlk r c b a) (hc : c = p) :
    IsBlk r 0 b (group a p h) := by
  intro y j h0 h1
  refine hb _ _ h0 ?_
  show p + (j 1).val = c + (y 1).val
  omega
theorem IsBlk.joined {m M r : ℕ} {b : Mat m 1024} {a : Mat M 2048} {d : Mat M 1024} (hb : IsBlk r 0 b d) :
    IsBlk r 1024 b (joined a d) := by
  intro y j h0 h1
  unfold Convs.joined
  rw [dif_neg (by omega)]
  refine hb _ _ h0 ?_
  show (j 1).val - 1024 = 0 + (y 1).val
  omega

end Cert.Convs

end
-- ==== Proof.Convs.AttnFwd.lean ====
module

public import proofs.«01_k».proof.Proof.Gen.AttnFwdIdeal.Value
public import proofs.«01_k».proof.Proof.Gen.AttnFwdReferenceIdeal.Run
public import proofs.«01_k».proof.Defs
public import proofs.«01_k».proof.Proof.Convs.Common

@[expose] public section

noncomputable section

/-! The attention over the memory: four heads of 512 columns, 256 memory rows. -/

namespace Cert.Convs.AttnFwd

open Cert.Norms (Mat plus times hz acc_sum)

section
open Idealize.ShloMosaic
/-- The 512 columns of one head. -/
def head {R : ℕ} (h : Fin 4) (q : Mat R 2048) : Mat R 512 := fun i =>
  q (ix2 (i 0) ⟨h.val * 512 + (i 1).val, by have := (i 1).isLt; change _ < 512 at this; omega⟩)
/-- The scores of one head. -/
def score {R : ℕ} (q : Mat R 512) (k : Mat 256 512) : Mat R 256 := fun i =>
  (∑ l : Fin 512, q (ix2 (i 0) l) * k (ix2 (i 1) l)) * (((Real.sqrt 512)⁻¹ : ℝ) : EReal)
/-- The exponentials of the scores, the row's largest taken away. -/
def soft {R : ℕ} (s : Mat R 256) : Mat R 256 := fun i =>
  Ideal.exp (s i - Finset.univ.fold max ⊥ fun l : Fin 256 => s (ix2 (i 0) l))
/-- The values, weighted by the exponentials over their row's sum. -/
def attend {R : ℕ} (e : Mat R 256) (v : Mat 256 512) : Mat R 512 := fun i =>
  ∑ l : Fin 256, Ideal.div (e (ix2 (i 0) l)) (∑ k : Fin 256, e (ix2 (i 0) k)) * v (ix2 l (i 1))
/-- The four heads side by side. -/
def attn {R : ℕ} (q : Mat R 2048) (k v : Mat 256 2048) : Mat R 2048 := fun i =>
  have hi : (i 1).val < 2048 := (i 1).isLt
  attend (soft (score (head ⟨(i 1).val / 512, by omega⟩ q) (head ⟨(i 1).val / 512, by omega⟩ k))) (head ⟨(i 1).val / 512, by omega⟩ v)
    (ix2 (i 0) ⟨(i 1).val % 512, by omega⟩)

theorem attn_at {R : ℕ} (q : Mat R 2048) (k v : Mat 256 2048) (h : Fin 4) (y : Shape.Idx ⟨2, ![R, 512]⟩) (j : Shape.Idx ⟨2, ![R, 2048]⟩)
    (h0 : (j 0).val = (y 0).val) (h1 : (j 1).val = h.val * 512 + (y 1).val) :
    attend (soft (score (head h q) (head h k))) (head h v) y = attn q k v j := by
  have hy : (y 1).val < 512 := (y 1).isLt
  have e0 : (j 0 : Fin R) = y 0 := Fin.ext h0
  have e1 : (⟨(j 1).val / 512, by omega⟩ : Fin 4) = h := Fin.ext (by show (j 1).val / 512 = h.val; omega)
  have e2 : (⟨(j 1).val % 512, by omega⟩ : Fin 512) = y 1 := Fin.ext (by show (j 1).val % 512 = (y 1).val; omega)
  have e3 : (ix2 (y 0) (y 1) : Shape.Idx ⟨2, ![R, 512]⟩) = y := by
    funext a
    match a with
    | ⟨0, _⟩ => rfl
    | ⟨1, _⟩ => rfl
  simp only [attn]
  rw [e1, e2, e0, e3]

theorem isBlk_whole {M N : ℕ} {b a : Mat M N} (h : IsBlk 0 0 b a) : b = a := by
  funext y
  exact h y y (by omega) (by omega)

theorem isBlk_attn {R Q r : ℕ} {b : Mat R 2048} {q : Mat Q 2048} (k v : Mat 256 2048) (hb : IsBlk r 0 b q) : IsBlk r 0 (attn b k v) (attn q k v) := by
  intro y j h0 h1
  have key : ∀ (y0 : Fin R) (j0 : Fin Q) (l : Fin 2048), j0.val = r + y0.val → attn b k v (ix2 y0 l) = attn q k v (ix2 j0 l) := by
    intro y0 j0 l h
    have e : ∀ l : Fin 2048, b (ix2 y0 l) = q (ix2 j0 l) := fun l => hb (ix2 y0 l) (ix2 j0 l) h (Nat.zero_add _).symm
    simp only [attn, attend, soft, score, head, ix2_0, ix2_1, e]
  have e1 : (j 1 : Fin 2048) = y 1 := Fin.ext (by omega)
  exact (key (y 0) (j 0) (y 1) h0).trans (congrArg (fun z : Fin 2048 => attn q k v (ix2 (j 0) z)) e1.symm)

theorem ofBits_512 : Ideal.ofBits .f32 0x44000000#32 = ((512 : ℝ) : EReal) := by
  simp [Ideal.ofBits, Ideal.ieee, -EReal.coe_mul]; norm_num
theorem ofBits_bot : Ideal.ofBits .f32 0xFF800000#32 = ⊥ := by
  simp [Ideal.ofBits, Ideal.ieee]

theorem div_root (x : EReal) : Ideal.div x (Ideal.sqrt ((512 : ℝ) : EReal)) = x * (((Real.sqrt 512)⁻¹ : ℝ) : EReal) := by
  simp only [Ideal.sqrt_coe, show ¬(512 : ℝ) < 0 from by norm_num, ↓reduceIte,
    Ideal.div_coe (show Real.sqrt 512 ≠ 0 from (Real.sqrt_pos.mpr (by norm_num)).ne'), one_div]
end

namespace Reference
open Idealize.ShloMosaic Idealize.ShloMosaic.TcCoe Idealize.SL.Sem
open Cert.AttnFwdReferenceIdeal Cert.AttnFwdReferenceIdeal.Gen Cert.AttnFwdReferenceIdeal.Value

abbrev scores (a : Mat 8192 2048) (b : Mat 256 2048) : FVec Ideal S4x8192x256 .f32 := fun i =>
  score (head (i 0) a) (head (i 0) b) (ix2 (i 1) (i 2))
abbrev softs (a : Mat 8192 2048) (b : Mat 256 2048) : FVec Ideal S4x8192x256 .f32 := fun i =>
  soft (score (head (i 0) a) (head (i 0) b)) (ix2 (i 1) (i 2))

theorem sc (a : FVec Ideal S8192x2048 .bf16) (b : FVec Ideal S256x2048 .bf16) :
    (Host.divf (Host.dotGeneral dot_S8192x4x512_S256x4x512_S4x8192x256_2_2_0_0_1_1 none (shapeCast _ (extf .f32 a bitsLt_bf16_f32) shapeCasts_S8192x2048_S8192x4x512) (shapeCast _ (extf .f32 b bitsLt_bf16_f32) shapeCasts_S256x2048_S256x4x512)) (broadcastInDim S4x8192x256 ![] bcast_S_S4x8192x256 (Host.sqrt (constant S_ .f32 0x44000000#32)))) = scores a b := by
  funext j
  idx_vars j
  pointwise [scores, score, head]
  rw [ofBits_512, div_root]

theorem largest (x : FVec Ideal S4x8192x256 .f32) (j : S4x8192.Idx) :
    (Host.reduce FloatOps.maximumf x (constant S_ .f32 0xFF800000#32) reducesTo_S4x8192x256_S4x8192_d2 h_S_) j = Finset.univ.fold max ⊥ fun k : Fin 256 => x (ix3 (j 0) (j 1) k) := by
  simp only [pointwise, Ideal.ofBits_def, ofBits_bot]

theorem shifted (x : FVec Ideal S4x8192x256 .f32) (y : FVec Ideal S4x8192 .f32) (j0 : Fin 4) (j1 : Fin 8192) (j2 : Fin 256) :
    (Host.exp (subf x (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) y))))) (ix3 j0 j1 j2) = Ideal.exp (x (ix3 j0 j1 j2) - y (ix2 j0 j1)) := by
  pointwise []
  rw [ofBits_bot, max_bot_left]

theorem so (x : FVec Ideal S4x8192x256 .f32) (y : FVec Ideal S4x8192 .f32) (a : Mat 8192 2048) (b : Mat 256 2048)
    (hx : x = scores a b) (hy : y = (Host.reduce FloatOps.maximumf x (constant S_ .f32 0xFF800000#32) reducesTo_S4x8192x256_S4x8192_d2 h_S_)) :
    Host.exp (subf x (broadcastInDim S4x8192x256 ![0, 1, 2] bcast_S4x8192x1_S4x8192x256_0_1_2 (broadcastInDim S4x8192x1 ![0, 1] bcast_S4x8192_S4x8192x1_0_1 (maximumf (broadcastInDim S4x8192 ![] bcast_S_S4x8192 (constant S_ .f32 0xFF800000#32)) y)))) = softs a b := by
  funext j
  idx_vars j
  rw [shifted, hy, largest, hx]
  rfl

theorem ou (x : FVec Ideal S4x8192x256 .f32) (a : Mat 8192 2048) (b : Mat 256 2048) (c : FVec Ideal S256x2048 .bf16)
    (hx : x = softs a b) :
    truncf .bf16 (shapeCast _ (transpose S8192x4x512 [2, 0, 1] (Host.dotGeneral dot_S256x4x512_S4x8192x256_S4x512x8192_0_2_2_1_1_0 none (shapeCast _ (extf .f32 c bitsLt_bf16_f32) shapeCasts_S256x2048_S256x4x512) (Host.divf x (broadcastInDim S4x8192x256 ![0, 1, 2] bcast_S4x8192x1_S4x8192x256_0_1_2 (broadcastInDim S4x8192x1 ![0, 1] bcast_S4x8192_S4x8192x1_0_1 (Host.reduceAdd x (constant S_ .f32 0x00000000#32) reducesTo_S4x8192x256_S4x8192_d2 h_S_))))) transposes_S4x512x8192_S8192x4x512_2_0_1) shapeCasts_S8192x4x512_S8192x2048) bitsLt_bf16_f32 = (attn a b c : FVec Ideal S8192x2048 .bf16) := by
  subst hx
  funext j
  idx_vars j
  pointwise [attn, attend, softs, head]
  refine Finset.sum_congr rfl fun l _ => ?_
  rw [mul_comm]
  refine congrArg (_ * ·) (congrArg (fun z => c (ix2 l z)) (Fin.ext ?_))
  show j1.val = j1.val / 512 * 512 + j1.val % 512
  omega

variable (m : (ℓ : Loc nD τ sig) → Buf (Elt Ideal) ℓ) (c : Dev nD)
abbrev A : Mat 8192 2048 := m (c.tc.loc main_arg0)
abbrev B : Mat 256 2048 := m (c.tc.loc main_arg1)
abbrev C : Mat 256 2048 := m (c.tc.loc main_arg2)

end Reference

open Cert.AttnFwdIdeal Cert.AttnFwdIdeal.Gen Idealize.ShloMosaic Idealize.ShloMosaic.TcCoe Idealize.SL.Sem
open Idealize.ShloMosaic.Pipeline (Dat)

theorem named : Named.named (F := Ideal) κ "s" (φ := .f32) 0x3D3504F3#32 = (((Real.sqrt 512)⁻¹ : ℝ) : EReal) :=
  IdealRules.named_const.ideal_named_scalar _ _ _ _ rfl

section payloads
variable (q : Mat 1024 512) (k v : Mat 256 512)
theorem pay2 : k0_pay2 (F := Ideal) q k v = attend (soft (score q k)) v := by
  funext j
  idx_vars j
  unfold_payloads
  pointwise [attend, soft, score, named, ofBits_bot]

theorem pay34 : k0_pay4 (F := Ideal) v (k0_pay3 (F := Ideal) q k) = attend (soft (score q k)) v := by
  funext j
  idx_vars j
  unfold_payloads
  pointwise [attend, soft, score, named, ofBits_bot]

theorem pay5 : k0_pay5 (F := Ideal) q k v = attend (soft (score q k)) v := by
  funext j
  idx_vars j
  unfold_payloads
  pointwise [attend, soft, score, named, ofBits_bot]

theorem pay167 : k0_pay1 (F := Ideal) (k0_pay6 (F := Ideal) q k) (k0_pay7 (F := Ideal) q k) v = attend (soft (score q k)) v := by
  funext j
  idx_vars j
  unfold_payloads
  pointwise [attend, soft, score, named, ofBits_bot]
end payloads

section body
variable (x0 : Vec Ideal S1024x2048 .bf16) (x1 x2 : Vec Ideal S256x2048 .bf16)
theorem ldq0 (x : Vec Ideal S1024x2048 .bf16) : View.ld x r0_0 = (head 0 x : Mat 1024 512) := by
  funext y
  show x _ = x _
  congr 1
  funext a
  apply Fin.ext
  match a with
  | ⟨0, _⟩ => show 0 + 1 * (y 0).val = (y 0).val; omega
  | ⟨1, _⟩ => show 0 + 1 * (y 1).val = 0 * 512 + (y 1).val; omega
theorem ldk0 (x : Vec Ideal S256x2048 .bf16) : View.ld x r0_1 = (head 0 x : Mat 256 512) := by
  funext y
  show x _ = x _
  congr 1
  funext a
  apply Fin.ext
  match a with
  | ⟨0, _⟩ => show 0 + 1 * (y 0).val = (y 0).val; omega
  | ⟨1, _⟩ => show 0 + 1 * (y 1).val = 0 * 512 + (y 1).val; omega
theorem ldq1 (x : Vec Ideal S1024x2048 .bf16) : View.ld x r0_2 = (head 1 x : Mat 1024 512) := by
  funext y
  show x _ = x _
  congr 1
  funext a
  apply Fin.ext
  match a with
  | ⟨0, _⟩ => show 0 + 1 * (y 0).val = (y 0).val; omega
  | ⟨1, _⟩ => show 512 + 1 * (y 1).val = 1 * 512 + (y 1).val; omega
theorem ldk1 (x : Vec Ideal S256x2048 .bf16) : View.ld x r0_3 = (head 1 x : Mat 256 512) := by
  funext y
  show x _ = x _
  congr 1
  funext a
  apply Fin.ext
  match a with
  | ⟨0, _⟩ => show 0 + 1 * (y 0).val = (y 0).val; omega
  | ⟨1, _⟩ => show 512 + 1 * (y 1).val = 1 * 512 + (y 1).val; omega
theorem ldq2 (x : Vec Ideal S1024x2048 .bf16) : View.ld x r0_4 = (head 2 x : Mat 1024 512) := by
  funext y
  show x _ = x _
  congr 1
  funext a
  apply Fin.ext
  match a with
  | ⟨0, _⟩ => show 0 + 1 * (y 0).val = (y 0).val; omega
  | ⟨1, _⟩ => show 1024 + 1 * (y 1).val = 2 * 512 + (y 1).val; omega
theorem ldk2 (x : Vec Ideal S256x2048 .bf16) : View.ld x r0_5 = (head 2 x : Mat 256 512) := by
  funext y
  show x _ = x _
  congr 1
  funext a
  apply Fin.ext
  match a with
  | ⟨0, _⟩ => show 0 + 1 * (y 0).val = (y 0).val; omega
  | ⟨1, _⟩ => show 1024 + 1 * (y 1).val = 2 * 512 + (y 1).val; omega
theorem ldq3 (x : Vec Ideal S1024x2048 .bf16) : View.ld x r0_6 = (head 3 x : Mat 1024 512) := by
  funext y
  show x _ = x _
  congr 1
  funext a
  apply Fin.ext
  match a with
  | ⟨0, _⟩ => show 0 + 1 * (y 0).val = (y 0).val; omega
  | ⟨1, _⟩ => show 1536 + 1 * (y 1).val = 3 * 512 + (y 1).val; omega
theorem ldk3 (x : Vec Ideal S256x2048 .bf16) : View.ld x r0_7 = (head 3 x : Mat 256 512) := by
  funext y
  show x _ = x _
  congr 1
  funext a
  apply Fin.ext
  match a with
  | ⟨0, _⟩ => show 0 + 1 * (y 0).val = (y 0).val; omega
  | ⟨1, _⟩ => show 1536 + 1 * (y 1).val = 3 * 512 + (y 1).val; omega

theorem out3 : out0_3 x0 x1 x2 = attn (R := 1024) x0 x1 x2 := by
  unfold out0_3
  funext j
  refine View.canon_apply_of_pieces (Val := Elt Ideal) (attn (R := 1024) x0 x1 x2 : Vec Ideal S1024x2048 .bf16) _ ?_ j (cover0_3 _ _ _ _ j)
  intro p hp
  simp only [List.mem_cons, List.not_mem_nil, or_false] at hp
  rcases hp with rfl | rfl | rfl | rfl
  · intro y
    dsimp only
    rw [ldq3, ldk3, ldk3, pay167]
    refine attn_at x0 x1 x2 3 y _ ?_ ?_
    · show 0 + 1 * (y 0).val = (y 0).val; omega
    · show 1536 + 1 * (y 1).val = 3 * 512 + (y 1).val; omega
  · intro y
    dsimp only
    rw [ldq2, ldk2, ldk2, pay5]
    refine attn_at x0 x1 x2 2 y _ ?_ ?_
    · show 0 + 1 * (y 0).val = (y 0).val; omega
    · show 1024 + 1 * (y 1).val = 2 * 512 + (y 1).val; omega
  · intro y
    dsimp only
    rw [ldq1, ldk1, ldk1, pay34]
    refine attn_at x0 x1 x2 1 y _ ?_ ?_
    · show 0 + 1 * (y 0).val = (y 0).val; omega
    · show 512 + 1 * (y 1).val = 1 * 512 + (y 1).val; omega
  · intro y
    dsimp only
    rw [ldq0, ldk0, ldk0, pay2]
    refine attn_at x0 x1 x2 0 y _ ?_ ?_
    · show 0 + 1 * (y 0).val = (y 0).val; omega
    · show 0 + 1 * (y 1).val = 0 * 512 + (y 1).val; omega
end body

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 0)
    ∧ (win0_1.index t 0 = 0 ∧ win0_1.index t 1 = 0)
    ∧ (win0_2.index t 0 = 0 ∧ win0_2.index t 1 = 0)
    ∧ (win0_3.index t 0 = t.val ∧ win0_3.index t 1 = 0) :=
  (by decide +kernel : ∀ t : Fin grid0.N, _)

abbrev A (c : Dev nD) : Mat 8192 2048 := m ((c : Thread nD τ).loc main_arg0)
abbrev B (c : Dev nD) : Mat 256 2048 := m ((c : Thread nD τ).loc main_arg1)
abbrev C (c : Dev nD) : Mat 256 2048 := m ((c : Thread nD τ).loc main_arg2)

abbrev b0 (c : Dev nD) (t : Fin cfg0.N) : Mat 1024 2048 := iblk m c 0 t
theorem blk0 (c : Dev nD) (t : Fin cfg0.N) : IsBlk (t.val * 1024) (0) (b0 m c t) (A m c) := by
  intro y j h0 h1
  unfold b0 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_0.index t 0 * 1024 + 1 * (y 0).val = (j 0).val; rw [(idx t).1.1]; omega
  | ⟨1, _⟩ => show win0_0.index t 1 * 2048 + 1 * (y 1).val = (j 1).val; rw [(idx t).1.2]; omega

abbrev b1 (c : Dev nD) (t : Fin cfg0.N) : Mat 256 2048 := iblk m c 1 t
theorem blk1 (c : Dev nD) (t : Fin cfg0.N) : IsBlk (0) (0) (b1 m c t) (B m c) := by
  intro y j h0 h1
  unfold b1 iblk
  rw [View.read_apply]
  show V m c main_arg1 _ = m (c.tc.loc main_arg1) _
  refine (congrFun (show V m c main_arg1 = m (c.tc.loc main_arg1) from rfl) _).trans ?_
  congr 1
  funext a
  apply Fin.ext
  match a with
  | ⟨0, _⟩ => show win0_1.index t 0 * 256 + 1 * (y 0).val = (j 0).val; rw [(idx t).2.1.1]; omega
  | ⟨1, _⟩ => show win0_1.index t 1 * 2048 + 1 * (y 1).val = (j 1).val; rw [(idx t).2.1.2]; omega

abbrev b2 (c : Dev nD) (t : Fin cfg0.N) : Mat 256 2048 := iblk m c 2 t
theorem blk2 (c : Dev nD) (t : Fin cfg0.N) : IsBlk (0) (0) (b2 m c t) (C m c) := by
  intro y j h0 h1
  unfold b2 iblk
  rw [View.read_apply]
  show V m c main_arg2 _ = m (c.tc.loc main_arg2) _
  refine (congrFun (show V m c main_arg2 = m (c.tc.loc main_arg2) from rfl) _).trans ?_
  congr 1
  funext a
  apply Fin.ext
  match a with
  | ⟨0, _⟩ => show win0_2.index t 0 * 256 + 1 * (y 0).val = (j 0).val; rw [(idx t).2.2.1.1]; omega
  | ⟨1, _⟩ => show win0_2.index t 1 * 2048 + 1 * (y 1).val = (j 1).val; rw [(idx t).2.2.1.2]; omega

def G3 (c : Dev nD) : Buf (Elt Ideal) ((c : Thread nD τ).loc main_v0) := (attn (A m c) (B m c) (C m c) : Mat 8192 2048)

set_option maxRecDepth 100000 in
theorem flushed3_eq (c : Dev nD) (t : Fin cfg0.N) :
    (dats m 0 c).flushed 3 t = ((cfg0.win 3).blk t).view.read (Elt Ideal) (G3 m c) := by
  have e : IsBlk (t.val * 1024) (0) (attn (R := 1024) (b0 m c t) (b1 m c t) (b2 m c t) : Mat 1024 2048) (G3 m c : Mat 8192 2048) := by
    rw [isBlk_whole (blk1 m c t), isBlk_whole (blk2 m c t)]
    exact isBlk_attn _ _ (blk0 m c t)
  have hf : (dats m 0 c).flushed 3 t = (cfg0.win 3).cut (grid0.coords t) (attn (R := 1024) (b0 m c t) (b1 m c t) (b2 m c t) : Mat 1024 2048) := by
    rw [Value.flushed3, out3]
  rw [hf]
  funext y
  rw [View.read_apply]
  refine e y ((win0_3.rect t).emb y) ?_ ?_
  · rw [win0_3.rect_emb_val, (idx t).2.2.2.1]; show t.val * 1024 + (y 0).val = _; omega
  · rw [win0_3.rect_emb_val, (idx t).2.2.2.2]; show 0 * 2048 + (y 1).val = _; omega

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 8 := N_0
  let t : Fin cfg0.N := ⟨(i 0).val / 1024, by omega⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 2048 ≤ (i 1 : Nat) ∧ (i 1 : Nat) < win0_3.index t 1 * 2048 + 2048
    rw [(idx t).2.2.2.2]; dsimp only [t]; omega

theorem final3 (c : Dev nD) : (dats m 0 c).arrAt 3 cfg0.N = G3 m c :=
  (dats m 0 c).arrAt_eq_of_cover 3 (G3 m c) (fun t _ => flushed3_eq m c t) cover3

theorem reference_frame : Cert.quiescent_AttnFwdReferenceIdeal := fun m ρ _ =>
  (θ_run (Cert.AttnFwdReferenceIdeal.defs (F := Ideal)) _ _).mono
    (fun r h => ⟨fun c => (h c).2, Idealize.ShloMosaic.sem_eq_zero_of_no_sems (by decide) r.2⟩) (Cert.AttnFwdReferenceIdeal.Value.run m ρ)

theorem claim : Cert.algebraic_AttnFwdIdeal_AttnFwdReferenceIdeal := by
  intro m ρ m' ρ' _ hagree
  refine ⟨fun c => G3 m c, (θ_run defs _ _).mono (fun _ h c => ⟨(h c).1.trans (final3 m c), (h c).2⟩) (Value.run_blocks m ρ),
    (θ_run Cert.AttnFwdReferenceIdeal.defs _ _).mono (fun _ h c => ⟨(h c).1.trans ?_, (h c).2⟩) (Cert.AttnFwdReferenceIdeal.Value.run m' ρ')⟩
  · refine (Reference.ou _ (Reference.A m' c) (Reference.B m' c) (Reference.C m' c) (Reference.so _ _ _ _ (Reference.sc _ _) rfl)).trans ?_
    dsimp only [Reference.A, Reference.B, Reference.C]
    rw [(hagree c).1, (hagree c).2.1, (hagree c).2.2]
    rfl

end Cert.Convs.AttnFwd

end
-- ==== Proof.Convs.Grads.lean ====
module

public import proofs.«01_k».proof.Defs
public import proofs.«01_k».proof.Proof.Convs.Common
public import Idealize.ShloMosaic.Lib.Pipeline.ReadBack

@[expose] public section

noncomputable section

/-! Rows moved up with a block's next rows coming in, sums over the rows of each residue modulo 8, and three such sums under each other. -/

namespace Cert.Convs

open Idealize.ShloMosaic
open Cert.Norms (Mat plus times)

theorem IsBlk.upz {m n M N r c k : ℕ} {b : Mat m n} {h : Mat k n} {a : Mat M N} (s : ℕ) (hs : s ≤ k) (hr : r + m = M ∨ r + m + k ≤ M)
    (hb : IsBlk r c b a) (hh : IsBlk (r + m) c h a) (hz : r + m = M → ∀ y, h y = 0) : IsBlk r c (Convs.up s hs False h b) (Convs.ups s a) := by
  intro y j h0 h1
  have hy : (y 0).val < m := (y 0).isLt
  unfold Convs.up Convs.ups
  by_cases hi : (y 0).val + s < m
  · rw [dif_pos hi, dif_pos (by omega)]
    refine hb _ _ ?_ h1
    show (j 0).val + s = r + ((y 0).val + s)
    omega
  · rw [dif_neg hi, if_neg not_false]
    by_cases h' : r + m = M
    · rw [dif_neg (by omega), hz h']
    · have hr' := hr.resolve_left h'
      rw [dif_pos (by omega)]
      refine hh _ _ ?_ h1
      show (j 0).val + s = r + m + ((y 0).val + s - m)
      omega

/-- The rows of each residue modulo 8 added up. -/
def sums8 {M N : ℕ} (K : ℕ) (h : K * 8 = M) (y : Mat M N) : Mat 8 N := fun i =>
  ∑ q : Fin K, y (ix2 ⟨q.val * 8 + (i 0).val, by have h0 : (i 0).val < 8 := (i 0).isLt; have := q.isLt; omega⟩ (i 1))
/-- The rows from row `p`. -/
def rowsFrom {M N : ℕ} (p : ℕ) (h : p + 8 ≤ M) (y : Mat M N) : Mat 8 N := fun i =>
  y (ix2 ⟨p + (i 0).val, by have h0 : (i 0).val < 8 := (i 0).isLt; omega⟩ (i 1))
/-- Three times eight rows. -/
def stack {N : ℕ} (a b d : Mat 8 N) : Mat 24 N := fun i =>
  if h : (i 0).val < 8 then a (ix2 ⟨(i 0).val, h⟩ (i 1))
  else if h' : (i 0).val < 16 then b (ix2 ⟨(i 0).val - 8, by omega⟩ (i 1))
  else d (ix2 ⟨(i 0).val - 16, by have h0 : (i 0).val < 24 := (i 0).isLt; omega⟩ (i 1))

theorem plus_stack {N : ℕ} (x : Mat 24 N) (a b d : Mat 8 N) :
    stack (plus (rowsFrom 0 (by omega) x) a) (plus (rowsFrom 8 (by omega) x) b) (plus (rowsFrom 16 (by omega) x) d) = plus x (stack a b d) := by
  have e : ∀ (i : (⟨2, ![24, N]⟩ : Shape).Idx) (p q : ℕ) (h : p + q < 24), p + q = (i 0).val → x (ix2 ⟨p + q, h⟩ (i 1)) = x i := fun i p q h hp =>
    congrArg x (funext fun a => Fin.ext (by match a with | ⟨0, _⟩ => exact hp | ⟨1, _⟩ => rfl))
  funext i
  have h0 : (i 0).val < 24 := (i 0).isLt
  unfold stack plus rowsFrom
  by_cases h : (i 0).val < 8
  · simp only [dif_pos h]
    exact congrArg₂ (· + ·) (e i 0 _ _ (Nat.zero_add _)) rfl
  · by_cases h' : (i 0).val < 16
    · simp only [dif_neg h, dif_pos h']
      exact congrArg₂ (· + ·) (e i 8 _ _ (by show 8 + ((i 0).val - 8) = (i 0).val; omega)) rfl
    · simp only [dif_neg h, dif_neg h']
      exact congrArg₂ (· + ·) (e i 16 _ _ (by show 16 + ((i 0).val - 16) = (i 0).val; omega)) rfl

/-- The sums block by block, the blocks taken from the last. -/
theorem sums8_blocks {m n M N k K c : ℕ} (T : ℕ) (hk : k * 8 = m) (hK : K * 8 = M) (hT : T * k = K) (a : Mat M N) (b : ℕ → Mat m n)
    (h : ∀ t < T, IsBlk ((T - 1 - t) * m) c (b t) a) (y : (⟨2, ![8, n]⟩ : Shape).Idx) (j : (⟨2, ![8, N]⟩ : Shape).Idx)
    (h0 : (j 0).val = (y 0).val) (h1 : (j 1).val = c + (y 1).val) :
    sums8 K hK a j = ∑ t ∈ Finset.range T, sums8 k hk (b t) y := by
  rw [← Finset.sum_range_reflect, sums8, Fin.sum_univ_tiles T k hT, Finset.sum_range]
  refine Finset.sum_congr rfl fun t _ => Finset.sum_congr rfl fun q _ => ?_
  have ht := t.isLt
  refine (h (T - 1 - t.val) (by omega) _ _ ?_ h1).symm
  show (t.val * k + q.val) * 8 + (j 0).val = (T - 1 - (T - 1 - t.val)) * m + (q.val * 8 + (y 0).val)
  rw [show T - 1 - (T - 1 - t.val) = t.val by omega, h0]
  subst hk
  ring

theorem stack_blocks {n N c : ℕ} (T : ℕ) (a a' a'' : Mat 8 N) (b b' b'' : ℕ → Mat 8 n)
    (h : ∀ y j, (j 0).val = (y 0).val → (j 1).val = c + (y 1).val → a j = ∑ t ∈ Finset.range T, b t y)
    (h' : ∀ y j, (j 0).val = (y 0).val → (j 1).val = c + (y 1).val → a' j = ∑ t ∈ Finset.range T, b' t y)
    (h'' : ∀ y j, (j 0).val = (y 0).val → (j 1).val = c + (y 1).val → a'' j = ∑ t ∈ Finset.range T, b'' t y)
    (y : (⟨2, ![24, n]⟩ : Shape).Idx) (j : (⟨2, ![24, N]⟩ : Shape).Idx)
    (h0 : (j 0).val = (y 0).val) (h1 : (j 1).val = c + (y 1).val) :
    stack a a' a'' j = ∑ t ∈ Finset.range T, stack (b t) (b' t) (b'' t) y := by
  unfold stack
  by_cases e : (y 0).val < 8
  · simp only [dif_pos e, dif_pos (show (j 0).val < 8 by omega)]
    exact h _ _ h0 h1
  · by_cases e' : (y 0).val < 16
    · simp only [dif_neg e, dif_pos e', dif_neg (show ¬(j 0).val < 8 by omega), dif_pos (show (j 0).val < 16 by omega)]
      exact h' _ _ (by show (j 0).val - 8 = (y 0).val - 8; omega) h1
    · simp only [dif_neg e, dif_neg e', dif_neg (show ¬(j 0).val < 8 by omega), dif_neg (show ¬(j 0).val < 16 by omega)]
      exact h'' _ _ (by show (j 0).val - 16 = (y 0).val - 16; omega) h1

/-- Three stores of eight rows over anything. -/
theorem canon_stack {n : ℕ} (p q r) (a b d : Mat 8 n) (L : List (View.Piece (Elt Ideal) (⟨2, ![24, n]⟩ : Shape) .f32)) :
    View.canon (⟨Rect.unit ![16, 0] ![8, n] p, d⟩ :: ⟨Rect.unit ![8, 0] ![8, n] q, b⟩ :: ⟨Rect.unit ![0, 0] ![8, n] r, a⟩ :: L)
      = (stack a b d : Vec Ideal (⟨2, ![24, n]⟩ : Shape) .f32) := by
  funext y
  refine View.canon_append_of_piecesOf (Val := Elt Ideal) (stack a b d : Vec Ideal (⟨2, ![24, n]⟩ : Shape) .f32) L
    [⟨Rect.unit ![16, 0] ![8, n] p, d⟩, ⟨Rect.unit ![8, 0] ![8, n] q, b⟩, ⟨Rect.unit ![0, 0] ![8, n] r, a⟩] ⟨?_, ?_, ?_, trivial⟩ y ?_
  · intro x
    have hx : (x 0).val < 8 := (x 0).isLt
    have key : ∀ z : (⟨2, ![24, n]⟩ : Shape).Idx, (z 0).val = 16 + 1 * (x 0).val → (z 1).val = 0 + 1 * (x 1).val → d x = stack a b d z := by
      intro z h0 h1
      unfold stack
      rw [dif_neg (by omega), dif_neg (by omega)]
      refine congrArg d (funext fun k => Fin.ext ?_)
      match k with
      | ⟨0, _⟩ => show (x 0).val = (z 0).val - 16; omega
      | ⟨1, _⟩ => show (x 1).val = (z 1).val; omega
    exact key _ rfl rfl
  · intro x
    have hx : (x 0).val < 8 := (x 0).isLt
    have key : ∀ z : (⟨2, ![24, n]⟩ : Shape).Idx, (z 0).val = 8 + 1 * (x 0).val → (z 1).val = 0 + 1 * (x 1).val → b x = stack a b d z := by
      intro z h0 h1
      unfold stack
      rw [dif_neg (by omega), dif_pos (by omega)]
      refine congrArg b (funext fun k => Fin.ext ?_)
      match k with
      | ⟨0, _⟩ => show (x 0).val = (z 0).val - 8; omega
      | ⟨1, _⟩ => show (x 1).val = (z 1).val; omega
    exact key _ rfl rfl
  · intro x
    have hx : (x 0).val < 8 := (x 0).isLt
    have key : ∀ z : (⟨2, ![24, n]⟩ : Shape).Idx, (z 0).val = 0 + 1 * (x 0).val → (z 1).val = 0 + 1 * (x 1).val → a x = stack a b d z := by
      intro z h0 h1
      unfold stack
      rw [dif_pos (by omega)]
      refine congrArg a (funext fun k => Fin.ext ?_)
      match k with
      | ⟨0, _⟩ => show (x 0).val = (z 0).val; omega
      | ⟨1, _⟩ => show (x 1).val = (z 1).val; omega
    exact key _ rfl rfl
  · have h0 : (y 0).val < 24 := (y 0).isLt
    have h1 : (y 1).val < n := (y 1).isLt
    by_cases e : (y 0).val < 8
    · refine ⟨_, List.mem_cons_of_mem _ (List.mem_cons_of_mem _ List.mem_cons_self), ?_⟩
      rw [Rect.mem_set_unit]
      intro k
      match k with
      | ⟨0, _⟩ => show 0 ≤ (y 0).val ∧ (y 0).val < 0 + 8; omega
      | ⟨1, _⟩ => show 0 ≤ (y 1).val ∧ (y 1).val < 0 + n; omega
    · by_cases e' : (y 0).val < 16
      · refine ⟨_, List.mem_cons_of_mem _ List.mem_cons_self, ?_⟩
        rw [Rect.mem_set_unit]
        intro k
        match k with
        | ⟨0, _⟩ => show 8 ≤ (y 0).val ∧ (y 0).val < 8 + 8; omega
        | ⟨1, _⟩ => show 0 ≤ (y 1).val ∧ (y 1).val < 0 + n; omega
      · refine ⟨_, List.mem_cons_self, ?_⟩
        rw [Rect.mem_set_unit]
        intro k
        match k with
        | ⟨0, _⟩ => show 16 ≤ (y 0).val ∧ (y 0).val < 16 + 8; omega
        | ⟨1, _⟩ => show 0 ≤ (y 1).val ∧ (y 1).val < 0 + n; omega

/-- Eight rows read out of a buffer. -/
theorem ld_rows {M n : ℕ} (p : ℕ) (hp : p + 8 ≤ M) (inb) (x : Mat M n) :
    View.ld (Val := Elt Ideal) (e' := .f32) (x : Vec Ideal (⟨2, ![M, n]⟩ : Shape) .f32) (Rect.unit (s := (⟨2, ![M, n]⟩ : Shape)) ![p, 0] ![8, n] inb) = (rowsFrom p hp x : Mat 8 n) := by
  funext j
  refine congrArg x (funext fun k => Fin.ext ?_)
  match k with
  | ⟨0, _⟩ => show p + 1 * (j 0).val = p + (j 0).val; omega
  | ⟨1, _⟩ => show 0 + 1 * (j 1).val = (j 1).val; omega

/-- One row read out of a buffer. -/
theorem ld_row {M n : ℕ} (p : ℕ) (hp : p < M) (inb) (x : Mat M n) :
    View.ld (Val := Elt Ideal) (e' := .f32) (x : Vec Ideal (⟨2, ![M, n]⟩ : Shape) .f32) (Rect.unit (s := (⟨2, ![M, n]⟩ : Shape)) ![p, 0] ![1, n] inb)
      = ((fun i => x (ix2 ⟨p, hp⟩ (i 1))) : Mat 1 n) := by
  funext j
  have hj : (j 0).val < 1 := (j 0).isLt
  refine congrArg x (funext fun k => Fin.ext ?_)
  match k with
  | ⟨0, _⟩ => show p + 1 * (j 0).val = p; omega
  | ⟨1, _⟩ => show 0 + 1 * (j 1).val = (j 1).val; omega

theorem IsBlk.first {m n M N r c : ℕ} {h : 0 + 8 ≤ m} {b : Mat m n} {a : Mat M N} (hb : IsBlk r c b a) : IsBlk r c (rowsFrom 0 h b) a := by
  intro y j h0 h1
  refine hb _ _ ?_ h1
  show (j 0).val = r + (0 + (y 0).val)
  omega

/-- Three rows of taps, the last first. -/
def conv3r {m n : ℕ} (a b d : Mat m n) (w : Mat 8 n) : Mat m n := fun i =>
  a i * w (ix2 2 (i 1)) + b i * w (ix2 1 (i 1)) + d i * w (ix2 0 (i 1))
theorem IsBlk.conv3r {m n M N r c : ℕ} {a b d : Mat m n} {a' b' d' : Mat M N} {w : Mat 8 n} {w' : Mat 8 N} (ha : IsBlk r c a a') (hb : IsBlk r c b b')
    (hd : IsBlk r c d d') (hw : IsBlk 0 c w w') : IsBlk r c (conv3r a b d w) (conv3r a' b' d' w') := by
  intro y j h0 h1
  have e : ∀ k : Fin 8, w (ix2 k (y 1)) = w' (ix2 k (j 1)) := fun k => hw _ _ (Nat.zero_add _).symm h1
  unfold Convs.conv3r
  rw [ha y j h0 h1, hb y j h0 h1, hd y j h0 h1, e, e, e]

theorem zero_plus {m n : ℕ} (x : Mat m n) : plus (fun _ => 0) x = x := funext fun i => zero_add (x i)

/-- An element that passes the test for being finite. -/
theorem finite_of (x : EReal) (h : Ideal.cmp .olt (max x (-x)) (Ideal.ofBits .bf16 0x7F80#16) = 1#1) : ∃ r : ℝ, x = r := by
  rw [show Ideal.ofBits .bf16 0x7F80#16 = ⊤ from by simp [Ideal.ofBits, Ideal.ieee]] at h
  induction x with
  | bot => simp [Ideal.cmp] at h
  | top => simp [Ideal.cmp] at h
  | coe x => exact ⟨x, rfl⟩

theorem sge_select {α : Type} (s : ℕ) (hs : s = 6 ∨ s = 7) (j : ℕ) (h : j < 8) (x y : α) :
    Scalar.select (IntOp.cmpi CmpIPredicate.sge (BitVec.ofNat 32 j) (BitVec.ofNat 32 s)) x y = if s ≤ j then x else y := by
  have e : ∀ j : Fin 8, ∀ s : Fin 8, s.val = 6 ∨ s.val = 7 → IntOp.cmpi CmpIPredicate.sge (BitVec.ofNat 32 j.val) (BitVec.ofNat 32 s.val)
      = if s.val ≤ j.val then 1#1 else 0#1 := by decide +kernel
  rw [show IntOp.cmpi CmpIPredicate.sge (BitVec.ofNat 32 j) (BitVec.ofNat 32 s) = if s ≤ j then 1#1 else 0#1 from
    e ⟨j, h⟩ ⟨s, by omega⟩ hs]
  by_cases hc : s ≤ j
  · rw [if_pos hc, if_pos hc]; rfl
  · rw [if_neg hc, if_neg hc]; rfl

/-- The rotated rows with the rotated halo selected in, read at a row. -/
theorem select_up (s q r : ℕ) (hs : s = 1 ∧ q = 7 ∧ r = 511 ∨ s = 2 ∧ q = 6 ∧ r = 510) (H : Fin 8 → EReal) (X : Fin 512 → EReal) (j : Fin 512)
    (p : j.val < 504 → (j.val + 512 - r) % 512 < 512) (p' : ¬j.val < 504 → (j.val - 504 + 8 - q) % 8 < 8)
    (p'' : ¬j.val < 504 → (504 + (j.val - 504) + 512 - r) % 512 < 512) :
    (if h : j.val < 504 then X ⟨(j.val + 512 - r) % 512, p h⟩
      else Scalar.select (IntOp.cmpi CmpIPredicate.sge (BitVec.ofNat 32 (j.val - 504)) (BitVec.ofNat 32 q))
        (H ⟨(j.val - 504 + 8 - q) % 8, p' h⟩) (X ⟨(504 + (j.val - 504) + 512 - r) % 512, p'' h⟩))
      = if h : j.val + s < 512 then X ⟨j.val + s, h⟩ else H ⟨j.val + s - 512, by omega⟩ := by
  have hj := j.isLt
  by_cases h8 : j.val < 504
  · rw [dif_pos h8, dif_pos (by omega)]
    congr 2
    omega
  · rw [dif_neg h8, sge_select q (by omega) _ (by omega)]
    by_cases h : j.val + s < 512
    · rw [dif_pos h, if_neg (by omega)]
      congr 2
      omega
    · rw [dif_neg h, if_pos (by omega)]
      congr 2
      omega

theorem sigm_bot : sigm ⊥ = 0 := by
  unfold sigm
  rw [zero_sub, EReal.neg_bot, Ideal.exp_top, show (1 : EReal) + ⊤ = ⊤ from rfl]
  unfold Ideal.div
  rw [if_neg EReal.top_ne_zero, EReal.inv_top, mul_zero]
theorem sigm_top : sigm ⊤ = 1 := by
  unfold sigm
  rw [zero_sub, EReal.neg_top, Ideal.exp_bot, add_zero, show (1 : EReal) = ((1 : ℝ) : EReal) from rfl, Ideal.div_coe one_ne_zero, ← EReal.coe_mul]
  norm_num
theorem one_sub_one : (1 : EReal) - 1 = 0 := by
  rw [← EReal.coe_one, ← EReal.coe_sub, sub_self, EReal.coe_zero]
/-- A gradient through `x * logistic x`, the product taken after the sum and before it. -/
theorem silu_grad (a s v : EReal) (r : ℝ) (hv : v = r) (hs : s = sigm a) : v * s + a * v * (s * (1 - s)) = v * (s * (1 + a * (1 - s))) := by
  subst hv hs
  induction a with
  | bot => simp only [sigm_bot, mul_zero, zero_mul, add_zero]
  | top => simp only [sigm_top, one_sub_one, mul_zero, add_zero, mul_one]
  | coe a =>
    unfold sigm
    have h : (1 : ℝ) + Real.exp (0 - a) ≠ 0 := by positivity
    rw [show Ideal.exp (0 - (a : EReal)) = ((Real.exp (0 - a) : ℝ) : EReal) from by rw [← EReal.coe_zero, ← EReal.coe_sub]; rfl,
      ← EReal.coe_one, ← EReal.coe_add, Ideal.div_coe h]
    simp only [← EReal.coe_mul, ← EReal.coe_sub, ← EReal.coe_add]
    congr 1
    ring

end Cert.Convs

end
-- ==== Proof.Convs.FfnBwd.lean ====
module

public import proofs.«01_k».proof.Proof.Gen.FfnBwdIdeal.Value
public import proofs.«01_k».proof.Proof.Gen.FfnBwdReferenceIdeal.Run
public import proofs.«01_k».proof.Proof.Gen.Pre_ffn_bwd_finite
public import proofs.«01_k».proof.Defs
public import proofs.«01_k».proof.Proof.Convs.Grads

@[expose] public section

noncomputable section

/-! The gradient of the gated branch: through the activation and through the convolution. -/

namespace Cert.Convs.FfnBwd

open Cert.Norms (Mat plus times hz acc_sum)

/-- The gradient of `x * logistic x` at `a`, of the product with `u`, applied to `z`. -/
def dact (a u z : EReal) : EReal := z * u * (sigm a * (1 + a * (1 - sigm a)))
def dacts {M N : ℕ} (a u z : Mat M N) : Mat M N := fun i => dact (a i) (u i) (z i)
/-- The gradient of the same product in its other factor. -/
def dups {M N : ℕ} (a z : Mat M N) : Mat M N := fun i => z i * (a i * sigm (a i))

theorem blk_dacts {m n M N r c : ℕ} {a u z : Mat m n} {a' u' z' : Mat M N} (ha : IsBlk r c a a') (hu : IsBlk r c u u') (hz : IsBlk r c z z') :
    IsBlk r c (dacts a u z) (dacts a' u' z') := by
  intro y j h0 h1
  unfold dacts
  rw [ha y j h0 h1, hu y j h0 h1, hz y j h0 h1]
theorem blk_dups {m n M N r c : ℕ} {a z : Mat m n} {a' z' : Mat M N} (ha : IsBlk r c a a') (hz : IsBlk r c z z') :
    IsBlk r c (dups a z) (dups a' z') := by
  intro y j h0 h1
  unfold dups
  rw [ha y j h0 h1, hz y j h0 h1]

namespace Reference
open Idealize.ShloMosaic Idealize.ShloMosaic.TcCoe Idealize.SL.Sem
open Cert.FfnBwdReferenceIdeal Cert.FfnBwdReferenceIdeal.Gen Cert.FfnBwdReferenceIdeal.Value

theorem sgm (a : FVec Ideal S8192x5632 .f32) :
    Host.divf (broadcastInDim S8192x5632 ![] bcast_S_S8192x5632 (constant S_ .f32 0x3F800000#32)) (addf (broadcastInDim S8192x5632 ![] bcast_S_S8192x5632 (constant S_ .f32 0x3F800000#32)) (Host.exp (Host.negf a))) = ((fun j => sigm (a j)) : FVec Ideal S8192x5632 .f32) := by
  funext j
  idx_vars j
  pointwise [sigm]
  simp only [zero_sub]

theorem inner (a u z s : FVec Ideal S8192x5632 .f32) (hs : s = ((fun j => sigm (a j)) : FVec Ideal S8192x5632 .f32)) (hu : ∀ j, ∃ r : ℝ, u j = (r : EReal)) (hz : ∀ j, ∃ r : ℝ, z j = (r : EReal)) :
    addf (mulf (mulf z u) s) (mulf (mulf a (mulf z u)) (mulf s (subf (broadcastInDim S8192x5632 ![] bcast_S_S8192x5632 (constant S_ .f32 0x3F800000#32)) s))) = (dacts (M := 8192) (N := 5632) a u z : FVec Ideal S8192x5632 .f32) := by
  subst hs
  funext j
  obtain ⟨p, hp⟩ := hu j
  obtain ⟨q, hq⟩ := hz j
  have e : z j * u j = ((q * p : ℝ) : EReal) := by rw [hp, hq, EReal.coe_mul]
  refine Eq.trans ?_ (silu_grad (a j) (sigm (a j)) (z j * u j) _ e rfl)
  clear hp hq e
  idx_vars j
  pointwise [sigm]

theorem outer (a z s : FVec Ideal S8192x5632 .f32) (hs : s = ((fun j => sigm (a j)) : FVec Ideal S8192x5632 .f32)) :
    mulf (mulf a s) z = (dups (M := 8192) (N := 5632) a z : FVec Ideal S8192x5632 .f32) := by
  subst hs
  funext j
  exact mul_comm (_ : EReal) _

theorem ref6 (a z : FVec Ideal S8192x5632 .bf16) :
    truncf .bf16 (mulf (mulf (extf .f32 a bitsLt_bf16_f32) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 a bitsLt_bf16_f32)))))) (extf .f32 z bitsLt_bf16_f32)) bitsLt_bf16_f32
      = (dups (M := 8192) (N := 5632) a z : FVec Ideal S8192x5632 .bf16) :=
  congrArg (fun z : FVec Ideal S8192x5632 .f32 => truncf .bf16 z bitsLt_bf16_f32) (outer _ _ _ (sgm _))

theorem twice (x y : FVec Ideal S8192x5632 .f32) (h : x = y) : (shapeCast _ (shapeCast _ x shapeCasts_S8192x5632_S1024x8x5632) shapeCasts_S1024x8x5632_S8192x5632) = y := by
  subst h
  funext j
  idx_vars j
  pointwise []

theorem two (x y : FVec Ideal S8192x5632 .f32) (h : x = y) : pad S8192x5632 ![0, 0] ![2, 0] ![0, 0] (extractStridedSlice S8190x5632 ![2, 0] x slices_S8192x5632_S8190x5632_2_0) (constant S_ .f32 0x00000000#32) pads_S8190x5632_S8192x5632_020_000 h_S_
    = (ups (m := 8192) (n := 5632) 2 y : FVec Ideal S8192x5632 .f32) := by
  subst h
  funext j
  idx_vars j
  pointwise [ups]
  by_cases hj : j0.val + 2 < 8192
  · rw [dif_pos hj, dif_pos (show j0.val < 8192 - 2 by omega)]
    exact congrArg (fun r => x (ix2 r j1)) (Fin.ext (Nat.add_comm _ _))
  · rw [dif_neg hj, dif_neg (show ¬j0.val < 8192 - 2 by omega)]

theorem one (x y : FVec Ideal S8192x5632 .f32) (h : x = y) : pad S8192x5632 ![0, 0] ![1, 0] ![0, 0] (extractStridedSlice S8191x5632 ![1, 0] x slices_S8192x5632_S8191x5632_1_0) (constant S_ .f32 0x00000000#32) pads_S8191x5632_S8192x5632_010_000 h_S_
    = (ups (m := 8192) (n := 5632) 1 y : FVec Ideal S8192x5632 .f32) := by
  subst h
  funext j
  idx_vars j
  pointwise [ups]
  by_cases hj : j0.val + 1 < 8192
  · rw [dif_pos hj, dif_pos (show j0.val < 8192 - 1 by omega)]
    exact congrArg (fun r => x (ix2 r j1)) (Fin.ext (Nat.add_comm _ _))
  · rw [dif_neg hj, dif_neg (show ¬j0.val < 8192 - 1 by omega)]

theorem eighths (x : FVec Ideal S8192x5632 .f32) (y : Mat 8192 5632) (h : x = (y : FVec Ideal S8192x5632 .f32)) :
    Host.reduceAdd (shapeCast _ (Host.reduceAdd (shapeCast _ x shapeCasts_S8192x5632_S1024x8x5632) (constant S_ .f32 0x00000000#32) reducesTo_S1024x8x5632_S8x5632_d0 h_S_) shapeCasts_S8x5632_S1x8x5632) (constant S_ .f32 0x00000000#32) reducesTo_S1x8x5632_S8x5632_d0 h_S_ = (sums8 (M := 8192) (N := 5632) 1024 rfl y : FVec Ideal S8x5632 .f32) := by
  subst h
  funext j
  idx_vars j
  pointwise [sums8]
  simp only [Fin.sum_univ_one]

theorem products (g x : FVec Ideal S8192x5632 .f32) (y : Mat 8192 5632) (h : x = (y : FVec Ideal S8192x5632 .f32)) :
    Host.reduceAdd (shapeCast _ (Host.reduceAdd (mulf (shapeCast _ g shapeCasts_S8192x5632_S1024x8x5632) (shapeCast _ x shapeCasts_S8192x5632_S1024x8x5632)) (constant S_ .f32 0x00000000#32) reducesTo_S1024x8x5632_S8x5632_d0 h_S_) shapeCasts_S8x5632_S1x8x5632) (constant S_ .f32 0x00000000#32) reducesTo_S1x8x5632_S8x5632_d0 h_S_ = (sums8 (M := 8192) (N := 5632) 1024 rfl (times y g) : FVec Ideal S8x5632 .f32) := by
  subst h
  funext j
  idx_vars j
  pointwise [sums8, times]
  simp only [Fin.sum_univ_one]
  exact Finset.sum_congr rfl fun k _ => mul_comm (_ : EReal) _

theorem three (x y z : FVec Ideal S8x5632 .f32) (a b d : Mat 8 5632) (ha : x = (a : FVec Ideal S8x5632 .f32)) (hb : y = (b : FVec Ideal S8x5632 .f32))
    (hd : z = (d : FVec Ideal S8x5632 .f32)) :
    concatenate S24x5632 0 [⟨S8x5632, x⟩, ⟨S8x5632, y⟩, ⟨S8x5632, z⟩] concatenates_S8x5632_S8x5632_S8x5632_S24x5632_d0 = (stack a b d : FVec Ideal S24x5632 .f32) := by
  subst ha hb hd
  funext j
  idx_vars j
  pointwise [stack]
  by_cases h0 : j0.val < 8
  · rw [dif_pos h0, dif_pos h0]
  · rw [dif_neg h0, dif_neg h0]
    by_cases h1 : j0.val < 16
    · rw [dif_pos h1, dif_pos (show j0.val - 8 < 8 by omega)]
    · rw [dif_neg h1, dif_neg (show ¬j0.val - 8 < 8 by omega)]
      exact congrArg (fun r => z (ix2 r j1)) (Fin.ext (Nat.sub_sub _ _ _))

theorem taps (x y z : FVec Ideal S8192x5632 .f32) (w : FVec Ideal S8x5632 .f32) (a b d : Mat 8192 5632) (ha : x = (a : FVec Ideal S8192x5632 .f32)) (hb : y = (b : FVec Ideal S8192x5632 .f32)) (hd : z = (d : FVec Ideal S8192x5632 .f32)) :
    addf (addf (shapeCast _ (mulf (shapeCast _ x shapeCasts_S8192x5632_S1024x8x5632) (broadcastInDim S1024x8x5632 ![0, 1, 2] bcast_S1x8x5632_S1024x8x5632_0_1_2 (broadcastInDim S1x8x5632 ![1, 2] bcast_S8x5632_S1x8x5632_1_2 (shapeCast _ (broadcastInDim S8x1x1x5632 ![0, 1, 2, 3] bcast_S1x1x1x5632_S8x1x1x5632_0_1_2_3 (shapeCast _ (extractStridedSlice S1x5632 ![2, 0] w slices_S8x5632_S1x5632_2_0) shapeCasts_S1x5632_S1x1x1x5632)) shapeCasts_S8x1x1x5632_S8x5632)))) shapeCasts_S1024x8x5632_S8192x5632) (shapeCast _ (mulf (shapeCast _ y shapeCasts_S8192x5632_S1024x8x5632) (broadcastInDim S1024x8x5632 ![0, 1, 2] bcast_S1x8x5632_S1024x8x5632_0_1_2 (broadcastInDim S1x8x5632 ![1, 2] bcast_S8x5632_S1x8x5632_1_2 (shapeCast _ (broadcastInDim S8x1x1x5632 ![0, 1, 2, 3] bcast_S1x1x1x5632_S8x1x1x5632_0_1_2_3 (shapeCast _ (extractStridedSlice S1x5632 ![1, 0] w slices_S8x5632_S1x5632_1_0) shapeCasts_S1x5632_S1x1x1x5632)) shapeCasts_S8x1x1x5632_S8x5632)))) shapeCasts_S1024x8x5632_S8192x5632)) (shapeCast _ (mulf (shapeCast _ z shapeCasts_S8192x5632_S1024x8x5632) (broadcastInDim S1024x8x5632 ![0, 1, 2] bcast_S1x8x5632_S1024x8x5632_0_1_2 (broadcastInDim S1x8x5632 ![1, 2] bcast_S8x5632_S1x8x5632_1_2 (shapeCast _ (broadcastInDim S8x1x1x5632 ![0, 1, 2, 3] bcast_S1x1x1x5632_S8x1x1x5632_0_1_2_3 (shapeCast _ (extractStridedSlice S1x5632 ![0, 0] w slices_S8x5632_S1x5632_0_0) shapeCasts_S1x5632_S1x1x1x5632)) shapeCasts_S8x1x1x5632_S8x5632)))) shapeCasts_S1024x8x5632_S8192x5632) = (conv3r a b d w : FVec Ideal S8192x5632 .f32) := by
  subst ha hb hd
  funext j
  idx_vars j
  pointwise [conv3r]

variable (m : (ℓ : Loc nD τ sig) → Buf (Elt Ideal) ℓ) (c : Dev nD)
abbrev A : Mat 8192 5632 := m (c.tc.loc main_arg0)
abbrev B : Mat 8192 5632 := m (c.tc.loc main_arg1)
abbrev C : Mat 8192 5632 := m (c.tc.loc main_arg2)
abbrev D : Mat 8192 5632 := m (c.tc.loc main_arg3)
abbrev E : Mat 8 5632 := m (c.tc.loc main_arg4)

theorem ref7 (hu : ∀ j, ∃ r : ℝ, C m c j = (r : EReal)) (hz : ∀ j, ∃ r : ℝ, D m c j = (r : EReal)) : (Host.reduceAdd (shapeCast _ (Host.reduceAdd (shapeCast _ (addf (mulf (mulf (extf .f32 (m ((c.tc : Thread nD τ).loc main_arg3)) bitsLt_bf16_f32) (extf .f32 (m ((c.tc : Thread nD τ).loc main_arg2)) bitsLt_bf16_f32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 (m ((c.tc : Thread nD τ).loc main_arg0)) bitsLt_bf16_f32)))))) (mulf (mulf (extf .f32 (m ((c.tc : Thread nD τ).loc main_arg0)) bitsLt_bf16_f32) (mulf (extf .f32 (m ((c.tc : Thread nD τ).loc main_arg3)) bitsLt_bf16_f32) (extf .f32 (m ((c.tc : Thread nD τ).loc main_arg2)) bitsLt_bf16_f32))) (mulf (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 (m ((c.tc : Thread nD τ).loc main_arg0)) bitsLt_bf16_f32))))) (subf (broadcastInDim S8192x5632 ![] bcast_S_S8192x5632 (constant S_ .f32 0x3F800000#32)) (Host.divf (broadcastInDim S8192x5632 ![] bcast_S_S8192x5632 (constant S_ .f32 0x3F800000#32)) (addf (broadcastInDim S8192x5632 ![] bcast_S_S8192x5632 (constant S_ .f32 0x3F800000#32)) (Host.exp (Host.negf (extf .f32 (m ((c.tc : Thread nD τ).loc main_arg0)) bitsLt_bf16_f32))))))))) shapeCasts_S8192x5632_S1024x8x5632) (constant S_ .f32 0x00000000#32) reducesTo_S1024x8x5632_S8x5632_d0 h_S_) shapeCasts_S8x5632_S1x8x5632) (constant S_ .f32 0x00000000#32) reducesTo_S1x8x5632_S8x5632_d0 h_S_ : FVec Ideal S8x5632 .f32)
    = (sums8 (M := 8192) (N := 5632) 1024 rfl (dacts (A m c) (C m c) (D m c)) : FVec Ideal S8x5632 .f32) :=
  eighths _ _ (inner _ _ _ _ (sgm _) hu hz)

theorem ref8 (hu : ∀ j, ∃ r : ℝ, C m c j = (r : EReal)) (hz : ∀ j, ∃ r : ℝ, D m c j = (r : EReal)) : res_main_v103 m c = (stack (sums8 1024 rfl (times (ups 2 (dacts (A m c) (C m c) (D m c))) (B m c))) (sums8 1024 rfl (times (ups 1 (dacts (A m c) (C m c) (D m c))) (B m c))) (sums8 1024 rfl (times (dacts (A m c) (C m c) (D m c)) (B m c))) : FVec Ideal S24x5632 .f32) :=
  three _ _ _ _ _ _ (products _ _ _ (two _ _ (twice _ _ (inner _ _ _ _ (sgm _) hu hz)))) (products _ _ _ (one _ _ (twice _ _ (inner _ _ _ _ (sgm _) hu hz))))
    (products _ _ _ (twice _ _ (inner _ _ _ _ (sgm _) hu hz)))

theorem ref5 (hu : ∀ j, ∃ r : ℝ, C m c j = (r : EReal)) (hz : ∀ j, ∃ r : ℝ, D m c j = (r : EReal)) : res_main_v101 m c = (conv3r (dacts (A m c) (C m c) (D m c)) (ups 1 (dacts (A m c) (C m c) (D m c))) (ups 2 (dacts (A m c) (C m c) (D m c))) (E m c) : FVec Ideal S8192x5632 .bf16) :=
  congrArg (fun z : FVec Ideal S8192x5632 .f32 => truncf .bf16 z bitsLt_bf16_f32) (taps _ _ _ _ _ _ _ (twice _ _ (inner _ _ _ _ (sgm _) hu hz))
    (one _ _ (twice _ _ (inner _ _ _ _ (sgm _) hu hz))) (two _ _ (twice _ _ (inner _ _ _ _ (sgm _) hu hz))))

end Reference

open Cert.FfnBwdIdeal Cert.FfnBwdIdeal.Gen Idealize.ShloMosaic Idealize.ShloMosaic.TcCoe Idealize.SL.Sem
open Idealize.ShloMosaic.Pipeline (Dat)

section payloads
/-- The gradient by the gate's convolution input, of a block. -/
abbrev dgs (d : Mat 512 1408) (h : Mat 8 1408) (w : Mat 8 1408) : Mat 512 1408 := conv3r d (up 1 (by omega) False h d) (up 2 (by omega) False h d) w
/-- What a block adds to the taps' gradients. -/
abbrev dws (d : Mat 512 1408) (h : Mat 8 1408) (g : Mat 512 1408) : Mat 24 1408 :=
  stack (sums8 64 rfl (times (up 2 (by omega) False h d) g)) (sums8 64 rfl (times (up 1 (by omega) False h d) g)) (sums8 64 rfl (times d g))

theorem pay13 (x : Vec Ideal S512x1408 .f32) (h : Vec Ideal S8x1408 .f32) : k0_pay13 x h = (up (m := 512) (n := 1408) (k := 8) 1 (by omega) False h x : FVec Ideal S512x1408 .f32) := by
  funext j
  idx_vars j
  unfold_payloads
  pointwise [up]
  exact select_up 1 7 511 (Or.inl ⟨rfl, rfl, rfl⟩) (fun r => h (ix2 r j1)) (fun r => x (ix2 r j1)) j0 _ _ _
theorem pay14 (x : Vec Ideal S512x1408 .f32) (h : Vec Ideal S8x1408 .f32) : k0_pay14 x h = (up (m := 512) (n := 1408) (k := 8) 2 (by omega) False h x : FVec Ideal S512x1408 .f32) := by
  funext j
  idx_vars j
  unfold_payloads
  pointwise [up]
  exact select_up 2 6 510 (Or.inr ⟨rfl, rfl, rfl⟩) (fun r => h (ix2 r j1)) (fun r => x (ix2 r j1)) j0 _ _ _
theorem pay11 (a z u : Vec Ideal S512x1408 .bf16) : k0_pay11 a z u = (dacts (M := 512) (N := 1408) a u z : FVec Ideal S512x1408 .f32) := by
  funext j
  idx_vars j
  unfold_payloads
  pointwise [dacts, dact, sigm]
theorem pay10 (a z : Vec Ideal S512x1408 .bf16) : k0_pay10 a z = (dups (M := 512) (N := 1408) a z : FVec Ideal S512x1408 .bf16) := by
  funext j
  idx_vars j
  unfold_payloads
  pointwise [dups, sigm]
theorem pay12 (a z u : Vec Ideal S512x1408 .bf16) (o : Vec Ideal S8x1408 .f32) :
    k0_pay12 a z u o = (plus (M := 8) (N := 1408) o (sums8 64 rfl (dacts (M := 512) (N := 1408) a u z)) : FVec Ideal S8x1408 .f32) := by
  unfold k0_pay12
  rw [pay11]
  generalize dacts (M := 512) (N := 1408) a u z = y
  funext j
  idx_vars j
  pointwise [plus, sums8]
theorem pay16 (x : Vec Ideal S512x1408 .f32) (h : Vec Ideal S8x1408 .f32) (g : Vec Ideal S512x1408 .bf16) (o : Vec Ideal S8x1408 .f32) :
    k0_pay16 x h g o = (plus (M := 8) (N := 1408) o (sums8 64 rfl (times (up (m := 512) (n := 1408) (k := 8) 2 (by omega) False h x) g)) : FVec Ideal S8x1408 .f32) := by
  unfold k0_pay16
  rw [pay14]
  generalize up (m := 512) (n := 1408) (k := 8) 2 (by omega) False h x = y
  funext j
  idx_vars j
  unfold_payloads
  pointwise [plus, sums8, times]
theorem pay17 (x : Vec Ideal S512x1408 .f32) (h : Vec Ideal S8x1408 .f32) (g : Vec Ideal S512x1408 .bf16) (o : Vec Ideal S8x1408 .f32) :
    k0_pay17 x h g o = (plus (M := 8) (N := 1408) o (sums8 64 rfl (times (up (m := 512) (n := 1408) (k := 8) 1 (by omega) False h x) g)) : FVec Ideal S8x1408 .f32) := by
  unfold k0_pay17
  rw [pay13]
  generalize up (m := 512) (n := 1408) (k := 8) 1 (by omega) False h x = y
  funext j
  idx_vars j
  unfold_payloads
  pointwise [plus, sums8, times]
theorem pay1 (x : Vec Ideal S512x1408 .f32) (g : Vec Ideal S512x1408 .bf16) (o : Vec Ideal S8x1408 .f32) :
    k0_pay1 x (k0_pay15 g) (k0_pay18 o) = (plus (M := 8) (N := 1408) o (sums8 64 rfl (times (M := 512) (N := 1408) x g)) : FVec Ideal S8x1408 .f32) := by
  funext j
  idx_vars j
  unfold_payloads
  pointwise [plus, sums8, times]
theorem pay3 (x : Vec Ideal S512x1408 .f32) : k0_pay3 (F := Ideal) x = (rowsFrom (M := 512) (N := 1408) 0 (by omega) x : FVec Ideal S8x1408 .f32) := by
  funext j
  idx_vars j
  unfold_payloads
  pointwise [rowsFrom]
theorem pay4 : k0_pay4 (F := Ideal) = ((fun _ => 0) : FVec Ideal S8x1408 .f32) := by
  funext j
  idx_vars j
  unfold_payloads
  pointwise []
theorem pay5 : k0_pay5 (F := Ideal) = ((fun _ => 0) : FVec Ideal S24x1408 .f32) := by
  funext j
  idx_vars j
  unfold_payloads
  pointwise []
theorem pay6 : k0_pay6 (F := Ideal) = ((fun _ => 0) : FVec Ideal S8x1408 .f32) := by
  funext j
  idx_vars j
  unfold_payloads
  pointwise []
theorem pay2 (x y z : Vec Ideal S512x1408 .f32) (w : Vec Ideal S8x1408 .f32) (p q r) :
    k0_pay2 x y z (View.ld w (Rect.unit ![2, 0] ![1, 1408] p)) (View.ld w (Rect.unit ![1, 0] ![1, 1408] q)) (View.ld w (Rect.unit ![0, 0] ![1, 1408] r))
      = (conv3r (m := 512) (n := 1408) x y z w : FVec Ideal S512x1408 .bf16) := by
  rw [ld_row (M := 8) (n := 1408) 2 (by omega), ld_row (M := 8) (n := 1408) 1 (by omega), ld_row (M := 8) (n := 1408) 0 (by omega)]
  funext j
  idx_vars j
  unfold_payloads
  pointwise [conv3r]
theorem apart0_8 (p q) : LoadRect.disj (s := S24x1408) (Rect.unit ![0, 0] ![8, 1408] p) (Rect.unit ![8, 0] ![8, 1408] q).toLoadRect = true := by
  unfold LoadRect.disj
  refine decide_eq_true ⟨(0 : Fin 2), Or.inr (Or.inr (Or.inl ?_))⟩
  show 0 + 1 * (8 - 1) < 8
  omega
theorem apart8_16 (p q) : LoadRect.disj (s := S24x1408) (Rect.unit ![8, 0] ![8, 1408] p) (Rect.unit ![16, 0] ![8, 1408] q).toLoadRect = true := by
  unfold LoadRect.disj
  refine decide_eq_true ⟨(0 : Fin 2), Or.inr (Or.inr (Or.inl ?_))⟩
  show 8 + 1 * (8 - 1) < 16
  omega
theorem apart0_16 (p q) : LoadRect.disj (s := S24x1408) (Rect.unit ![0, 0] ![8, 1408] p) (Rect.unit ![16, 0] ![8, 1408] q).toLoadRect = true := by
  unfold LoadRect.disj
  refine decide_eq_true ⟨(0 : Fin 2), Or.inr (Or.inr (Or.inl ?_))⟩
  show 0 + 1 * (8 - 1) < 16
  omega
end payloads

section body
variable (c : Dev nD) (i : grid0.Coords) (a0 : Memref sig .tc .vmem S512x1408 .bf16) (h0 : a0.IsWhole) (a1 : Memref sig .tc .vmem S512x1408 .bf16) (h1 : a1.IsWhole) (a2 : Memref sig .tc .vmem S512x1408 .bf16) (h2 : a2.IsWhole) (a3 : Memref sig .tc .vmem S512x1408 .bf16) (h3 : a3.IsWhole) (a4 : Memref sig .tc .vmem S8x1408 .f32) (h4 : a4.IsWhole) (a5 : Memref sig .tc .vmem S512x1408 .bf16) (h5 : a5.IsWhole) (a6 : Memref sig .tc .vmem S512x1408 .bf16) (h6 : a6.IsWhole) (a7 : Memref sig .tc .vmem S8x1408 .f32) (h7 : a7.IsWhole) (a8 : Memref sig .tc .vmem S24x1408 .f32) (h8 : a8.IsWhole) (a9 : Memref sig .tc .vmem S8x1408 .f32) (h9 : a9.IsWhole)
  (x0 : Vec Ideal S512x1408 .bf16) (x1 : Vec Ideal S512x1408 .bf16) (x2 : Vec Ideal S512x1408 .bf16) (x3 : Vec Ideal S512x1408 .bf16) (x4 : Vec Ideal S8x1408 .f32)
/-- What a point leaves in window 5. -/
theorem out5A (hc : cond0_0 i) : out0_A_5 c i a0 h0 a1 h1 a2 h2 a3 h3 a4 h4 a5 h5 a6 h6 a7 h7 a8 h8 a9 h9 hc x0 x1 x2 x3 x4 = dgs (dacts (M := 512) (N := 1408) x0 x2 x3) ((fun _ => 0) : Mat 8 1408) x4 := by
  unfold out0_A_5
  rw [View.read_writes_eq_canon _ _ _ (cover0_A_5 c i a0 h0 a1 h1 a2 h2 a3 h3 a4 h4 a5 h5 a6 h6 a7 h7 a8 h8 a9 h9 hc x0 x1 x2 x3 x4)]
  unfold kernelRun0_A
  dsimp only
  simp only [kernelRun0_A.sl.r_1, kernelRun0_A.sl.r_2, kernelRun0_A.sl.r, kernelRun0_A.sl.v34, kernelRun0_A.sl.HS0_1]
  rw [View.canon_cons_unit_zero hz]
  simp only [View.readCov_unit_zero (S := S8x1408) _ hz, pay6, View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay11, pay13, pay14, pay2]
/-- What a point leaves in window 5. -/
theorem out5B (hc : ¬cond0_0 i) (o7 : Vec Ideal S8x1408 .f32) (o8 : Vec Ideal S24x1408 .f32) (s0 : Vec Ideal S8x1408 .f32) : out0_B_5 c i a0 h0 a1 h1 a2 h2 a3 h3 a4 h4 a5 h5 a6 h6 a7 h7 a8 h8 a9 h9 hc x0 x1 x2 x3 x4 o7 o8 s0 = dgs (dacts (M := 512) (N := 1408) x0 x2 x3) s0 x4 := by
  unfold out0_B_5
  rw [View.read_writes_eq_canon _ _ _ (cover0_B_5 c i a0 h0 a1 h1 a2 h2 a3 h3 a4 h4 a5 h5 a6 h6 a7 h7 a8 h8 a9 h9 hc x0 x1 x2 x3 x4 o7 o8 s0)]
  unfold kernelRun0_B
  dsimp only
  simp only [kernelRun0_B.sl.r_1, kernelRun0_B.sl.r_2, kernelRun0_B.sl.r]
  rw [View.canon_cons_unit_zero hz]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay11, pay13, pay14, pay2]
/-- What a point leaves in window 6. -/
theorem out6A (hc : cond0_0 i) : out0_A_6 c i a0 h0 a1 h1 a2 h2 a3 h3 a4 h4 a5 h5 a6 h6 a7 h7 a8 h8 a9 h9 hc x0 x1 x2 x3 x4 = dups (M := 512) (N := 1408) x0 x3 := by
  unfold out0_A_6
  rw [View.read_writes_eq_canon _ _ _ (cover0_A_6 c i a0 h0 a1 h1 a2 h2 a3 h3 a4 h4 a5 h5 a6 h6 a7 h7 a8 h8 a9 h9 hc x0 x1 x2 x3 x4)]
  unfold kernelRun0_A
  dsimp only
  rw [View.canon_cons_unit_zero hz]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay10]
/-- What a point leaves in window 6. -/
theorem out6B (hc : ¬cond0_0 i) (o7 : Vec Ideal S8x1408 .f32) (o8 : Vec Ideal S24x1408 .f32) (s0 : Vec Ideal S8x1408 .f32) : out0_B_6 c i a0 h0 a1 h1 a2 h2 a3 h3 a4 h4 a5 h5 a6 h6 a7 h7 a8 h8 a9 h9 hc x0 x1 x2 x3 x4 o7 o8 s0 = dups (M := 512) (N := 1408) x0 x3 := by
  unfold out0_B_6
  rw [View.read_writes_eq_canon _ _ _ (cover0_B_6 c i a0 h0 a1 h1 a2 h2 a3 h3 a4 h4 a5 h5 a6 h6 a7 h7 a8 h8 a9 h9 hc x0 x1 x2 x3 x4 o7 o8 s0)]
  unfold kernelRun0_B
  dsimp only
  rw [View.canon_cons_unit_zero hz]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay10]
/-- What a first point leaves in window 7. -/
theorem out7A (hc : cond0_0 i) : out0_A_7 c i a0 h0 a1 h1 a2 h2 a3 h3 a4 h4 a5 h5 a6 h6 a7 h7 a8 h8 a9 h9 hc x0 x1 x2 x3 x4 = plus ((fun _ => 0) : Mat 8 1408) (sums8 64 rfl (dacts (M := 512) (N := 1408) x0 x2 x3)) := by
  unfold out0_A_7
  rw [View.read_writes_eq_canon _ _ _ (cover0_A_7 c i a0 h0 a1 h1 a2 h2 a3 h3 a4 h4 a5 h5 a6 h6 a7 h7 a8 h8 a9 h9 hc x0 x1 x2 x3 x4)]
  unfold kernelRun0_A
  dsimp only
  simp only [kernelRun0_A.sl.v28, kernelRun0_A.sl.H7_1]
  rw [View.canon_cons_unit_zero hz]
  simp only [View.readCov_unit_zero (S := S8x1408) _ hz, pay4, View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay12]
/-- What a point leaves in window 7. -/
theorem out7B (hc : ¬cond0_0 i) (o7 : Vec Ideal S8x1408 .f32) (o8 : Vec Ideal S24x1408 .f32) (s0 : Vec Ideal S8x1408 .f32) : out0_B_7 c i a0 h0 a1 h1 a2 h2 a3 h3 a4 h4 a5 h5 a6 h6 a7 h7 a8 h8 a9 h9 hc x0 x1 x2 x3 x4 o7 o8 s0 = plus (M := 8) (N := 1408) o7 (sums8 64 rfl (dacts (M := 512) (N := 1408) x0 x2 x3)) := by
  unfold out0_B_7
  rw [View.read_writes_eq_canon _ _ _ (cover0_B_7 c i a0 h0 a1 h1 a2 h2 a3 h3 a4 h4 a5 h5 a6 h6 a7 h7 a8 h8 a9 h9 hc x0 x1 x2 x3 x4 o7 o8 s0)]
  unfold kernelRun0_B
  dsimp only
  rw [View.canon_cons_unit_zero hz]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay12]
/-- What a first point carries on. -/
theorem sout0A (hc : cond0_0 i) : sout0_A_0 c i a0 h0 a1 h1 a2 h2 a3 h3 a4 h4 a5 h5 a6 h6 a7 h7 a8 h8 a9 h9 hc x0 x1 x2 x3 x4 = rowsFrom (M := 512) (N := 1408) 0 (by omega) (dacts (M := 512) (N := 1408) x0 x2 x3) := by
  unfold sout0_A_0
  rw [View.read_writes_eq_canon _ _ _ (scover0_A_0 c i a0 h0 a1 h1 a2 h2 a3 h3 a4 h4 a5 h5 a6 h6 a7 h7 a8 h8 a9 h9 hc x0 x1 x2 x3 x4)]
  unfold kernelRun0_A
  dsimp only
  simp only [kernelRun0_A.sl.r, kernelRun0_A.sl.HS0_1]
  rw [View.canon_cons_unit_zero hz]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay11, pay3]
/-- What a point carries on. -/
theorem sout0B (hc : ¬cond0_0 i) (o7 : Vec Ideal S8x1408 .f32) (o8 : Vec Ideal S24x1408 .f32) (s0 : Vec Ideal S8x1408 .f32) : sout0_B_0 c i a0 h0 a1 h1 a2 h2 a3 h3 a4 h4 a5 h5 a6 h6 a7 h7 a8 h8 a9 h9 hc x0 x1 x2 x3 x4 o7 o8 s0 = rowsFrom (M := 512) (N := 1408) 0 (by omega) (dacts (M := 512) (N := 1408) x0 x2 x3) := by
  unfold sout0_B_0
  rw [View.read_writes_eq_canon _ _ _ (scover0_B_0 c i a0 h0 a1 h1 a2 h2 a3 h3 a4 h4 a5 h5 a6 h6 a7 h7 a8 h8 a9 h9 hc x0 x1 x2 x3 x4 o7 o8 s0)]
  unfold kernelRun0_B
  dsimp only
  simp only [kernelRun0_B.sl.r]
  rw [View.canon_cons_unit_zero hz]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay11, pay3]
/-- What a first point leaves in window 8. -/
theorem out8A (hc : cond0_0 i) : out0_A_8 c i a0 h0 a1 h1 a2 h2 a3 h3 a4 h4 a5 h5 a6 h6 a7 h7 a8 h8 a9 h9 hc x0 x1 x2 x3 x4 = plus ((fun _ => 0) : Mat 24 1408) (dws (dacts (M := 512) (N := 1408) x0 x2 x3) ((fun _ => 0) : Mat 8 1408) x1) := by
  unfold out0_A_8
  rw [View.read_writes_eq_canon _ _ _ (cover0_A_8 c i a0 h0 a1 h1 a2 h2 a3 h3 a4 h4 a5 h5 a6 h6 a7 h7 a8 h8 a9 h9 hc x0 x1 x2 x3 x4)]
  unfold kernelRun0_A
  dsimp only
  simp only [kernelRun0_A.sl.H8_3, kernelRun0_A.sl.H8_2, kernelRun0_A.sl.H8_1, kernelRun0_A.sl.r_4, kernelRun0_A.sl.r_3, kernelRun0_A.sl.v69, kernelRun0_A.sl.v62, kernelRun0_A.sl.v55, kernelRun0_A.sl.v34, kernelRun0_A.sl.HS0_1, kernelRun0_A.sl.r]
  simp only [View.readCov_unit_zero (S := S8x1408) _ hz, pay6, View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay11, pay1, pay16, pay17]
  rw [canon_stack]
  rw [View.readCov_skip a8.view _ _ _ _ (apart8_16 _ _), View.readCov_skip a8.view _ _ _ _ (apart0_16 _ _), View.readCov_skip a8.view _ _ _ _ (apart0_8 _ _)]
  simp only [View.readCov_fill (s := S24x1408) _ _ _ _ _ (congrFun hz), pay5, ld_rows (M := 24) (n := 1408) 0 (by omega), ld_rows (M := 24) (n := 1408) 8 (by omega), ld_rows (M := 24) (n := 1408) 16 (by omega)]
  exact plus_stack (N := 1408) (fun _ => 0) _ _ _
/-- What a point leaves in window 8. -/
theorem out8B (hc : ¬cond0_0 i) (o7 : Vec Ideal S8x1408 .f32) (o8 : Vec Ideal S24x1408 .f32) (s0 : Vec Ideal S8x1408 .f32) : out0_B_8 c i a0 h0 a1 h1 a2 h2 a3 h3 a4 h4 a5 h5 a6 h6 a7 h7 a8 h8 a9 h9 hc x0 x1 x2 x3 x4 o7 o8 s0 = plus (M := 24) (N := 1408) o8 (dws (dacts (M := 512) (N := 1408) x0 x2 x3) s0 x1) := by
  unfold out0_B_8
  rw [View.read_writes_eq_canon _ _ _ (cover0_B_8 c i a0 h0 a1 h1 a2 h2 a3 h3 a4 h4 a5 h5 a6 h6 a7 h7 a8 h8 a9 h9 hc x0 x1 x2 x3 x4 o7 o8 s0)]
  unfold kernelRun0_B
  dsimp only
  simp only [kernelRun0_B.sl.r_4, kernelRun0_B.sl.r_3, kernelRun0_B.sl.v69, kernelRun0_B.sl.v62, kernelRun0_B.sl.r]
  simp only [View.readAt_eq_ld, h0.read_unread, h1.read_unread, h2.read_unread, h3.read_unread, h4.read_unread, h7.read_unread, h8.read_unread, h9.read_unread, View.ld_unit_zero (S := S512x1408) hz, View.ld_unit_zero (S := S8x1408) hz, shapeCast_self, pay11, pay1, pay16, pay17]
  rw [canon_stack, ld_rows (M := 24) (n := 1408) 0 (by omega), ld_rows (M := 24) (n := 1408) 8 (by omega), ld_rows (M := 24) (n := 1408) 16 (by omega)]
  exact plus_stack (N := 1408) o8 _ _ _
end body

variable (m : (ℓ : Loc nD τ sig) → Buf (Elt Ideal) ℓ) (ρ : Dev nD → PrngReg)

/-- The block index of each window at a point. -/
theorem idx : ∀ t : Fin cfg0.N, (win0_0.index t 0 = (15 - t.val % 16) ∧ win0_0.index t 1 = t.val / 16)
    ∧ (win0_1.index t 0 = (15 - t.val % 16) ∧ win0_1.index t 1 = t.val / 16)
    ∧ (win0_2.index t 0 = (15 - t.val % 16) ∧ win0_2.index t 1 = t.val / 16)
    ∧ (win0_3.index t 0 = (15 - t.val % 16) ∧ win0_3.index t 1 = t.val / 16)
    ∧ (win0_4.index t 0 = 0 ∧ win0_4.index t 1 = t.val / 16)
    ∧ (win0_5.index t 0 = (15 - t.val % 16) ∧ win0_5.index t 1 = t.val / 16)
    ∧ (win0_6.index t 0 = (15 - t.val % 16) ∧ win0_6.index t 1 = t.val / 16)
    ∧ (win0_7.index t 0 = 0 ∧ win0_7.index t 1 = t.val / 16)
    ∧ (win0_8.index t 0 = 0 ∧ win0_8.index t 1 = t.val / 16) :=
  (by decide +kernel : ∀ t : Fin grid0.N, _)

abbrev A (c : Dev nD) : Mat 8192 5632 := m ((c : Thread nD τ).loc main_arg0)
abbrev B (c : Dev nD) : Mat 8192 5632 := m ((c : Thread nD τ).loc main_arg1)
abbrev C (c : Dev nD) : Mat 8192 5632 := m ((c : Thread nD τ).loc main_arg2)
abbrev D (c : Dev nD) : Mat 8192 5632 := m ((c : Thread nD τ).loc main_arg3)
abbrev E (c : Dev nD) : Mat 8 5632 := m ((c : Thread nD τ).loc main_arg4)

abbrev b0 (c : Dev nD) (t : Fin cfg0.N) : Mat 512 1408 := iblk m c 0 t
theorem blk0 (c : Dev nD) (t : Fin cfg0.N) : IsBlk ((15 - t.val % 16) * 512) (t.val / 16 * 1408) (b0 m c t) (A m c) := by
  intro y j h0 h1
  unfold b0 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_0.index t 0 * 512 + 1 * (y 0).val = (j 0).val; rw [(idx t).1.1]; omega
  | ⟨1, _⟩ => show win0_0.index t 1 * 1408 + 1 * (y 1).val = (j 1).val; rw [(idx t).1.2]; omega

abbrev b1 (c : Dev nD) (t : Fin cfg0.N) : Mat 512 1408 := iblk m c 1 t
theorem blk1 (c : Dev nD) (t : Fin cfg0.N) : IsBlk ((15 - t.val % 16) * 512) (t.val / 16 * 1408) (b1 m c t) (B m c) := by
  intro y j h0 h1
  unfold b1 iblk
  rw [View.read_apply]
  show V m c main_arg1 _ = m (c.tc.loc main_arg1) _
  refine (congrFun (show V m c main_arg1 = m (c.tc.loc main_arg1) from rfl) _).trans ?_
  congr 1
  funext a
  apply Fin.ext
  match a with
  | ⟨0, _⟩ => show win0_1.index t 0 * 512 + 1 * (y 0).val = (j 0).val; rw [(idx t).2.1.1]; omega
  | ⟨1, _⟩ => show win0_1.index t 1 * 1408 + 1 * (y 1).val = (j 1).val; rw [(idx t).2.1.2]; omega

abbrev b2 (c : Dev nD) (t : Fin cfg0.N) : Mat 512 1408 := iblk m c 2 t
theorem blk2 (c : Dev nD) (t : Fin cfg0.N) : IsBlk ((15 - t.val % 16) * 512) (t.val / 16 * 1408) (b2 m c t) (C m c) := by
  intro y j h0 h1
  unfold b2 iblk
  rw [View.read_apply]
  show V m c main_arg2 _ = m (c.tc.loc main_arg2) _
  refine (congrFun (show V m c main_arg2 = m (c.tc.loc main_arg2) from rfl) _).trans ?_
  congr 1
  funext a
  apply Fin.ext
  match a with
  | ⟨0, _⟩ => show win0_2.index t 0 * 512 + 1 * (y 0).val = (j 0).val; rw [(idx t).2.2.1.1]; omega
  | ⟨1, _⟩ => show win0_2.index t 1 * 1408 + 1 * (y 1).val = (j 1).val; rw [(idx t).2.2.1.2]; omega

abbrev b3 (c : Dev nD) (t : Fin cfg0.N) : Mat 512 1408 := iblk m c 3 t
theorem blk3 (c : Dev nD) (t : Fin cfg0.N) : IsBlk ((15 - t.val % 16) * 512) (t.val / 16 * 1408) (b3 m c t) (D m c) := by
  intro y j h0 h1
  unfold b3 iblk
  rw [View.read_apply]
  show V m c main_arg3 _ = m (c.tc.loc main_arg3) _
  refine (congrFun (show V m c main_arg3 = m (c.tc.loc main_arg3) from rfl) _).trans ?_
  congr 1
  funext a
  apply Fin.ext
  match a with
  | ⟨0, _⟩ => show win0_3.index t 0 * 512 + 1 * (y 0).val = (j 0).val; rw [(idx t).2.2.2.1.1]; omega
  | ⟨1, _⟩ => show win0_3.index t 1 * 1408 + 1 * (y 1).val = (j 1).val; rw [(idx t).2.2.2.1.2]; omega

abbrev b4 (c : Dev nD) (t : Fin cfg0.N) : Mat 8 1408 := iblk m c 4 t
theorem blk4 (c : Dev nD) (t : Fin cfg0.N) : IsBlk (0) (t.val / 16 * 1408) (b4 m c t) (E m c) := by
  intro y j h0 h1
  unfold b4 iblk
  rw [View.read_apply]
  show V m c main_arg4 _ = m (c.tc.loc main_arg4) _
  refine (congrFun (show V m c main_arg4 = m (c.tc.loc main_arg4) from rfl) _).trans ?_
  congr 1
  funext a
  apply Fin.ext
  match a with
  | ⟨0, _⟩ => show win0_4.index t 0 * 8 + 1 * (y 0).val = (j 0).val; rw [(idx t).2.2.2.2.1.1]; omega
  | ⟨1, _⟩ => show win0_4.index t 1 * 1408 + 1 * (y 1).val = (j 1).val; rw [(idx t).2.2.2.2.1.2]; omega

/-- The activation's gradient in a point's block. -/
abbrev das (c : Dev nD) (t : Fin cfg0.N) : Mat 512 1408 := dacts (b0 m c t) (b2 m c t) (b3 m c t)
theorem blkDa (c : Dev nD) (t : Fin cfg0.N) : IsBlk ((15 - t.val % 16) * 512) (t.val / 16 * 1408) (das m c t) (dacts (A m c) (C m c) (D m c)) :=
  blk_dacts (blk0 m c t) (blk2 m c t) (blk3 m c t)

theorem carried (c : Dev nD) (t : Fin cfg0.N) : (outsAt0 m c t.val t.isLt).2.2.2.2 = (rowsFrom 0 (by omega) (das m c t) : Mat 8 1408) := by
  by_cases h0 : t.val % 16 = 0
  · rw [outsAt0_A m c t h0]
    dsimp only
    exact sout0A ..
  · rw [outsAt0_B m c t h0]
    dsimp only
    exact sout0B ..

/-- The rows that come into a point's block: none in the last, the next block's first rows in the others. -/
def halo (c : Dev nD) (t : Fin cfg0.N) : Mat 8 1408 :=
  if t.val % 16 = 0 then fun _ => 0 else (outsAt0 m c (t.val - 1) (Nat.lt_of_le_of_lt (Nat.sub_le _ _) t.isLt)).2.2.2.2
theorem blkHalo (c : Dev nD) (t : Fin cfg0.N) : IsBlk ((15 - t.val % 16) * 512 + 512) (t.val / 16 * 1408) (halo m c t) (dacts (A m c) (C m c) (D m c)) := by
  have hN : t.val < 64 := lt_of_lt_of_eq t.isLt (show cfg0.N = 64 from N_0)
  by_cases h0 : t.val % 16 = 0
  · intro y j hy
    have : (j 0).val < 8192 := (j 0).isLt
    omega
  · have e := (blkDa m c ⟨t.val - 1, Nat.lt_of_le_of_lt (Nat.sub_le _ _) t.isLt⟩).first (h := by omega)
    dsimp only at e
    rw [show (15 - (t.val - 1) % 16) * 512 = (15 - t.val % 16) * 512 + 512 by omega, show (t.val - 1) / 16 = t.val / 16 by omega] at e
    rw [halo, if_neg h0]
    rw [carried m c ⟨t.val - 1, Nat.lt_of_le_of_lt (Nat.sub_le _ _) t.isLt⟩]
    exact e
theorem halo_last (c : Dev nD) (t : Fin cfg0.N) (h : (15 - t.val % 16) * 512 + 512 = 8192) (y) : halo m c t y = 0 := by
  rw [halo, if_pos (by omega)]
abbrev up1 (c : Dev nD) (t : Fin cfg0.N) : Mat 512 1408 := up 1 (by omega) False (halo m c t) (das m c t)
abbrev up2 (c : Dev nD) (t : Fin cfg0.N) : Mat 512 1408 := up 2 (by omega) False (halo m c t) (das m c t)
theorem blkU1 (c : Dev nD) (t : Fin cfg0.N) : IsBlk ((15 - t.val % 16) * 512) (t.val / 16 * 1408) (up1 m c t) (ups 1 (dacts (A m c) (C m c) (D m c))) :=
  (blkDa m c t).upz 1 _ (by omega) (blkHalo m c t) (halo_last m c t)
theorem blkU2 (c : Dev nD) (t : Fin cfg0.N) : IsBlk ((15 - t.val % 16) * 512) (t.val / 16 * 1408) (up2 m c t) (ups 2 (dacts (A m c) (C m c) (D m c))) :=
  (blkDa m c t).upz 2 _ (by omega) (blkHalo m c t) (halo_last m c t)

theorem step5 (c : Dev nD) (t : Fin cfg0.N) : (outsAt0 m c t.val t.isLt).1 = dgs (das m c t) (halo m c t) (b4 m c t) := by
  by_cases h0 : t.val % 16 = 0
  · rw [outsAt0_A m c t h0, halo, if_pos h0]
    dsimp only
    exact out5A ..
  · rw [outsAt0_B m c t h0, halo, if_neg h0]
    dsimp only
    exact out5B ..
theorem step6 (c : Dev nD) (t : Fin cfg0.N) : (outsAt0 m c t.val t.isLt).2.1 = (dups (b0 m c t) (b3 m c t) : Mat 512 1408) := by
  by_cases h0 : t.val % 16 = 0
  · rw [outsAt0_A m c t h0]
    dsimp only
    exact out6A ..
  · rw [outsAt0_B m c t h0]
    dsimp only
    exact out6B ..

/-- The block of the point `n` of column `q`. -/
def nth (q : ℕ) (f : Fin cfg0.N → Mat 512 1408) (n : ℕ) : Mat 512 1408 := if h : 16 * q + n < cfg0.N then f ⟨16 * q + n, h⟩ else fun _ => 0
theorem blkNth {a : Mat 8192 5632} {f : Fin cfg0.N → Mat 512 1408} (q : ℕ) (hq : q < 4) (hf : ∀ t : Fin cfg0.N, IsBlk ((15 - t.val % 16) * 512) (t.val / 16 * 1408) (f t) a) :
    ∀ n < 16, IsBlk ((16 - 1 - n) * 512) (q * 1408) (nth q f n) a := by
  intro n hn
  have h : 16 * q + n < cfg0.N := by rw [show cfg0.N = 64 from N_0]; omega
  have e := hf ⟨16 * q + n, h⟩
  dsimp only at e
  rw [show (15 - (16 * q + n) % 16) = 16 - 1 - n by omega, show (16 * q + n) / 16 = q by omega] at e
  rw [nth, dif_pos h]
  exact e

def part7 (c : Dev nD) (q n : ℕ) : Mat 8 1408 := sums8 64 rfl (nth q (das m c) n)
def part8 (c : Dev nD) (q n : ℕ) : Mat 24 1408 :=
  stack (sums8 64 rfl (nth q (fun t => times (up2 m c t) (b1 m c t)) n)) (sums8 64 rfl (nth q (fun t => times (up1 m c t) (b1 m c t)) n))
    (sums8 64 rfl (nth q (fun t => times (das m c t) (b1 m c t)) n))

/-- What the first points of a column leave in the sums. -/
theorem acc7 (c : Dev nD) (q : ℕ) (hq : q < 4) : ∀ n h i,
    ((outsAt0 m c (16 * q + n) (by rw [show cfg0.N = 64 from N_0]; have : n < 16 := h; omega)).2.2.1 : Mat 8 1408) i = ∑ t ∈ Finset.range (n + 1), part7 m c q t i := by
  have hN : cfg0.N = 64 := N_0
  refine acc_sum (N := 16) (fun n h => ((outsAt0 m c (16 * q + n) (by omega)).2.2.1 : Mat 8 1408)) (part7 m c q) ?_ ?_
  · intro h
    have h' : 16 * q + 0 < cfg0.N := by omega
    rw [outsAt0_A m c ⟨16 * q + 0, h'⟩ (by show (16 * q + 0) % 16 = 0; omega)]
    dsimp only
    rw [part7, nth, dif_pos h']
    exact (out7A ..).trans (zero_plus _)
  · intro n h
    have h' : 16 * q + (n + 1) < cfg0.N := by omega
    rw [outsAt0_B m c ⟨16 * q + (n + 1), h'⟩ (by show ¬(16 * q + (n + 1)) % 16 = 0; omega)]
    dsimp only
    rw [part7, nth, dif_pos h']
    exact out7B ..
theorem acc8 (c : Dev nD) (q : ℕ) (hq : q < 4) : ∀ n h i,
    ((outsAt0 m c (16 * q + n) (by rw [show cfg0.N = 64 from N_0]; have : n < 16 := h; omega)).2.2.2.1 : Mat 24 1408) i = ∑ t ∈ Finset.range (n + 1), part8 m c q t i := by
  have hN : cfg0.N = 64 := N_0
  refine acc_sum (N := 16) (fun n h => ((outsAt0 m c (16 * q + n) (by omega)).2.2.2.1 : Mat 24 1408)) (part8 m c q) ?_ ?_
  · intro h
    have h' : 16 * q + 0 < cfg0.N := by omega
    have e0 : halo m c ⟨16 * q + 0, h'⟩ = fun _ => 0 := by rw [halo, if_pos (by show (16 * q + 0) % 16 = 0; omega)]
    rw [outsAt0_A m c ⟨16 * q + 0, h'⟩ (by show (16 * q + 0) % 16 = 0; omega)]
    dsimp only
    rw [part8, nth, nth, nth, dif_pos h', dif_pos h', dif_pos h']
    dsimp only [up1, up2]
    rw [e0]
    exact (out8A ..).trans (zero_plus _)
  · intro n h
    have h' : 16 * q + (n + 1) < cfg0.N := by omega
    have e0 : halo m c ⟨16 * q + (n + 1), h'⟩ = (outsAt0 m c (16 * q + n) (by omega)).2.2.2.2 := by
      rw [halo, if_neg (by show ¬(16 * q + (n + 1)) % 16 = 0; omega)]
      rfl
    rw [outsAt0_B m c ⟨16 * q + (n + 1), h'⟩ (by show ¬(16 * q + (n + 1)) % 16 = 0; omega)]
    dsimp only
    rw [part8, nth, nth, nth, dif_pos h', dif_pos h', dif_pos h']
    dsimp only [up1, up2]
    rw [e0]
    exact out8B ..

def G5 (c : Dev nD) : Buf (Elt Ideal) ((c : Thread nD τ).loc main_v0_0) := (conv3r (dacts (A m c) (C m c) (D m c)) (ups 1 (dacts (A m c) (C m c) (D m c))) (ups 2 (dacts (A m c) (C m c) (D m c))) (E m c) : Mat 8192 5632)

set_option maxRecDepth 100000 in
theorem flushed5_eq (c : Dev nD) (t : Fin cfg0.N) :
    (dats m 0 c).flushed 5 t = ((cfg0.win 5).blk t).view.read (Elt Ideal) (G5 m c) := by
  have e : IsBlk ((15 - t.val % 16) * 512) (t.val / 16 * 1408) (dgs (das m c t) (halo m c t) (b4 m c t) : Mat 512 1408) (G5 m c : Mat 8192 5632) := by
    exact (blkDa m c t).conv3r (blkU1 m c t) (blkU2 m c t) (blk4 m c t)
  have hf : (dats m 0 c).flushed 5 t = (cfg0.win 5).cut (grid0.coords t) (dgs (das m c t) (halo m c t) (b4 m c t) : Mat 512 1408) := by
    rw [Value.flushed5 m c t, step5]
  rw [hf]
  funext y
  rw [View.read_apply]
  refine e y ((win0_5.rect t).emb y) ?_ ?_
  · rw [win0_5.rect_emb_val, (idx t).2.2.2.2.2.1.1]; show (15 - t.val % 16) * 512 + (y 0).val = _; omega
  · rw [win0_5.rect_emb_val, (idx t).2.2.2.2.2.1.2]; show t.val / 16 * 1408 + (y 1).val = _; omega

theorem cover5 (i : S8192x5632.Idx) : ∃ t : Fin cfg0.N, (cfg0.win 5).flush t = true ∧ i ∈ ((cfg0.win 5).blk t).view.set := by
  have h0 : (i 0).val < 8192 := (i 0).isLt
  have h1 : (i 1).val < 5632 := (i 1).isLt
  have hN : cfg0.N = 64 := N_0
  let t : Fin cfg0.N := ⟨(i 1).val / 1408 * 16 + (15 - (i 0).val / 512), by omega⟩
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(idx t).2.2.2.2.2.1.1]; dsimp only [t]; omega
  | ⟨1, _⟩ =>
    show win0_5.index t 1 * 1408 ≤ (i 1 : Nat) ∧ (i 1 : Nat) < win0_5.index t 1 * 1408 + 1408
    rw [(idx t).2.2.2.2.2.1.2]; dsimp only [t]; omega

theorem final5 (c : Dev nD) : (dats m 0 c).arrAt 5 cfg0.N = G5 m c :=
  (dats m 0 c).arrAt_eq_of_cover 5 (G5 m c) (fun t _ => flushed5_eq m c t) cover5

def G6 (c : Dev nD) : Buf (Elt Ideal) ((c : Thread nD τ).loc main_v0_1) := (dups (A m c) (D m c) : Mat 8192 5632)

set_option maxRecDepth 100000 in
theorem flushed6_eq (c : Dev nD) (t : Fin cfg0.N) :
    (dats m 0 c).flushed 6 t = ((cfg0.win 6).blk t).view.read (Elt Ideal) (G6 m c) := by
  have e : IsBlk ((15 - t.val % 16) * 512) (t.val / 16 * 1408) (dups (b0 m c t) (b3 m c t) : Mat 512 1408) (G6 m c : Mat 8192 5632) := by
    exact blk_dups (blk0 m c t) (blk3 m c t)
  have hf : (dats m 0 c).flushed 6 t = (cfg0.win 6).cut (grid0.coords t) (dups (b0 m c t) (b3 m c t) : Mat 512 1408) := by
    rw [Value.flushed6 m c t, step6]
  rw [hf]
  funext y
  rw [View.read_apply]
  refine e y ((win0_6.rect t).emb y) ?_ ?_
  · rw [win0_6.rect_emb_val, (idx t).2.2.2.2.2.2.1.1]; show (15 - t.val % 16) * 512 + (y 0).val = _; omega
  · rw [win0_6.rect_emb_val, (idx t).2.2.2.2.2.2.1.2]; show t.val / 16 * 1408 + (y 1).val = _; omega

theorem cover6 (i : S8192x5632.Idx) : ∃ t : Fin cfg0.N, (cfg0.win 6).flush t = true ∧ i ∈ ((cfg0.win 6).blk t).view.set := by
  have h0 : (i 0).val < 8192 := (i 0).isLt
  have h1 : (i 1).val < 5632 := (i 1).isLt
  have hN : cfg0.N = 64 := N_0
  let t : Fin cfg0.N := ⟨(i 1).val / 1408 * 16 + (15 - (i 0).val / 512), by omega⟩
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(idx t).2.2.2.2.2.2.1.1]; dsimp only [t]; omega
  | ⟨1, _⟩ =>
    show win0_6.index t 1 * 1408 ≤ (i 1 : Nat) ∧ (i 1 : Nat) < win0_6.index t 1 * 1408 + 1408
    rw [(idx t).2.2.2.2.2.2.1.2]; dsimp only [t]; omega

theorem final6 (c : Dev nD) : (dats m 0 c).arrAt 6 cfg0.N = G6 m c :=
  (dats m 0 c).arrAt_eq_of_cover 6 (G6 m c) (fun t _ => flushed6_eq m c t) cover6

def G7 (c : Dev nD) : Buf (Elt Ideal) ((c : Thread nD τ).loc main_v0_2) := (sums8 1024 rfl (dacts (A m c) (C m c) (D m c)) : Mat 8 5632)

set_option maxRecDepth 100000 in
theorem flushed7_eq (c : Dev nD) (t : Fin cfg0.N) (ht : t.val % 16 = 15) :
    (dats m 0 c).flushed 7 t = ((cfg0.win 7).blk t).view.read (Elt Ideal) (G7 m c) := by
  have e : IsBlk (0) (t.val / 16 * 1408) ((outsAt0 m c t.val t.isLt).2.2.1 : Mat 8 1408) (G7 m c : Mat 8 5632) := by
    have hN : t.val < 64 := lt_of_lt_of_eq t.isLt (show cfg0.N = 64 from N_0)
    have hq : t.val / 16 < 4 := by omega
    intro y j h0 h1
    have hv : t.val = 16 * (t.val / 16) + 15 := by omega
    have ho : ∀ (n : ℕ) (h : n < cfg0.N), t.val = n → (outsAt0 m c t.val t.isLt) = outsAt0 m c n h := fun n h e => by subst e; rfl
    rw [ho _ (lt_of_eq_of_lt hv.symm t.isLt) hv]
    rw [acc7 m c (t.val / 16) hq 15 (by omega) y]
    exact ((fun y j h0 h1 => sums8_blocks 16 rfl rfl rfl _ _ (blkNth (t.val / 16) hq (blkDa m c)) y j h0 h1) y j (by omega) h1).symm
  have hf : (dats m 0 c).flushed 7 t = (cfg0.win 7).cut (grid0.coords t) ((outsAt0 m c t.val t.isLt).2.2.1 : Mat 8 1408) := by
    rw [Value.flushed7 m c t]
  rw [hf]
  funext y
  rw [View.read_apply]
  refine e y ((win0_7.rect t).emb y) ?_ ?_
  · rw [win0_7.rect_emb_val, (idx t).2.2.2.2.2.2.2.1.1]; show 0 * 8 + (y 0).val = _; omega
  · rw [win0_7.rect_emb_val, (idx t).2.2.2.2.2.2.2.1.2]; show t.val / 16 * 1408 + (y 1).val = _; omega

theorem cover7 (i : S8x5632.Idx) : ∃ t : Fin cfg0.N, (cfg0.win 7).flush t = true ∧ i ∈ ((cfg0.win 7).blk t).view.set := by
  have h0 : (i 0).val < 8 := (i 0).isLt
  have h1 : (i 1).val < 5632 := (i 1).isLt
  have hN : cfg0.N = 64 := N_0
  let t : Fin cfg0.N := ⟨(i 1).val / 1408 * 16 + 15, by omega⟩
  refine ⟨t, (flush0_7 t).mpr (by dsimp only [t]; omega), ?_⟩
  show i ∈ ((View.whole main_v0_2).slice (win0_7.rect t)).set
  rw [View.set_slice_whole, Rect.mem_set_unit]
  intro a
  match a with
  | ⟨0, _⟩ =>
    show win0_7.index t 0 * 8 ≤ (i 0 : Nat) ∧ (i 0 : Nat) < win0_7.index t 0 * 8 + 8
    rw [(idx t).2.2.2.2.2.2.2.1.1]; dsimp only [t]; omega
  | ⟨1, _⟩ =>
    show win0_7.index t 1 * 1408 ≤ (i 1 : Nat) ∧ (i 1 : Nat) < win0_7.index t 1 * 1408 + 1408
    rw [(idx t).2.2.2.2.2.2.2.1.2]; dsimp only [t]; omega

theorem final7 (c : Dev nD) : (dats m 0 c).arrAt 7 cfg0.N = G7 m c :=
  (dats m 0 c).arrAt_eq_of_cover 7 (G7 m c) (fun t hf => flushed7_eq m c t ((flush0_7 t).mp hf)) cover7

def G8 (c : Dev nD) : Buf (Elt Ideal) ((c : Thread nD τ).loc main_v0_3) := (stack (sums8 1024 rfl (times (ups 2 (dacts (A m c) (C m c) (D m c))) (B m c))) (sums8 1024 rfl (times (ups 1 (dacts (A m c) (C m c) (D m c))) (B m c))) (sums8 1024 rfl (times (dacts (A m c) (C m c) (D m c)) (B m c))) : Mat 24 5632)

set_option maxRecDepth 100000 in
theorem flushed8_eq (c : Dev nD) (t : Fin cfg0.N) (ht : t.val % 16 = 15) :
    (dats m 0 c).flushed 8 t = ((cfg0.win 8).blk t).view.read (Elt Ideal) (G8 m c) := by
  have e : IsBlk (0) (t.val / 16 * 1408) ((outsAt0 m c t.val t.isLt).2.2.2.1 : Mat 24 1408) (G8 m c : Mat 24 5632) := by
    have hN : t.val < 64 := lt_of_lt_of_eq t.isLt (show cfg0.N = 64 from N_0)
    have hq : t.val / 16 < 4 := by omega
    intro y j h0 h1
    have hv : t.val = 16 * (t.val / 16) + 15 := by omega
    have ho : ∀ (n : ℕ) (h : n < cfg0.N), t.val = n → (outsAt0 m c t.val t.isLt) = outsAt0 m c n h := fun n h e => by subst e; rfl
    rw [ho _ (lt_of_eq_of_lt hv.symm t.isLt) hv]
    rw [acc8 m c (t.val / 16) hq 15 (by omega) y]
    exact (stack_blocks 16 _ _ _ _ _ _ (fun y j h0 h1 => sums8_blocks 16 rfl rfl rfl _ _ (blkNth (t.val / 16) hq (fun t => (blkU2 m c t).times (blk1 m c t))) y j h0 h1) (fun y j h0 h1 => sums8_blocks 16 rfl rfl rfl _ _ (blkNth (t.val / 16) hq (fun t => (blkU1 m c t).times (blk1 m c t))) y j h0 h1) (fun y j h0 h1 => sums8_blocks 16 rfl rfl rfl _ _ (blkNth (t.val / 16) hq (fun t => (blkDa m c t).times (blk1 m c t))) y j h0 h1) y j (by omega) h1).symm
  have hf : (dats m 0 c).flushed 8 t = (cfg0.win 8).cut (grid0.coords t) ((outsAt0 m c t.val t.isLt).2.2.2.1 : Mat 24 1408) := by
    rw [Value.flushed8 m c t]
  rw [hf]
  funext y
  rw [View.read_apply]
  refine e y ((win0_8.rect t).emb y) ?_ ?_
  · rw [win0_8.rect_emb_val, (idx t).2.2.2.2.2.2.2.2.1]; show 0 * 24 + (y 0).val = _; omega
  · rw [win0_8.rect_emb_val, (idx t).2.2.2.2.2.2.2.2.2]; show t.val / 16 * 1408 + (y 1).val = _; omega

theorem cover8 (i : S24x5632.Idx) : ∃ t : Fin cfg0.N, (cfg0.win 8).flush t = true ∧ i ∈ ((cfg0.win 8).blk t).view.set := by
  have h0 : (i 0).val < 24 := (i 0).isLt
  have h1 : (i 1).val < 5632 := (i 1).isLt
  have hN : cfg0.N = 64 := N_0
  let t : Fin cfg0.N := ⟨(i 1).val / 1408 * 16 + 15, by omega⟩
  refine ⟨t, (flush0_8 t).mpr (by dsimp only [t]; omega), ?_⟩
  show i ∈ ((View.whole main_v0_3).slice (win0_8.rect t)).set
  rw [View.set_slice_whole, Rect.mem_set_unit]
  intro a
  match a with
  | ⟨0, _⟩ =>
    show win0_8.index t 0 * 24 ≤ (i 0 : Nat) ∧ (i 0 : Nat) < win0_8.index t 0 * 24 + 24
    rw [(idx t).2.2.2.2.2.2.2.2.1]; dsimp only [t]; omega
  | ⟨1, _⟩ =>
    show win0_8.index t 1 * 1408 ≤ (i 1 : Nat) ∧ (i 1 : Nat) < win0_8.index t 1 * 1408 + 1408
    rw [(idx t).2.2.2.2.2.2.2.2.2]; dsimp only [t]; omega

theorem final8 (c : Dev nD) : (dats m 0 c).arrAt 8 cfg0.N = G8 m c :=
  (dats m 0 c).arrAt_eq_of_cover 8 (G8 m c) (fun t hf => flushed8_eq m c t ((flush0_8 t).mp hf)) cover8

theorem finite_u (hpre : Cert.Pre_FfnBwdIdeal_ffn_bwd_finite m) (c : Dev nD) : ∀ j, ∃ r : ℝ, C m c j = (r : EReal) := fun j =>
  finite_of _ (congrFun (hpre c).1 j)
theorem finite_z (hpre : Cert.Pre_FfnBwdIdeal_ffn_bwd_finite m) (c : Dev nD) : ∀ j, ∃ r : ℝ, D m c j = (r : EReal) := fun j =>
  finite_of _ (congrFun (hpre c).2 j)

theorem reference_frame : Cert.quiescent_FfnBwdReferenceIdeal := fun m ρ _ =>
  (θ_run (Cert.FfnBwdReferenceIdeal.defs (F := Ideal)) _ _).mono
    (fun r h => ⟨fun c => (h c).2.2.2.2, Idealize.ShloMosaic.sem_eq_zero_of_no_sems (by decide) r.2⟩) (Cert.FfnBwdReferenceIdeal.Value.run m ρ)

theorem reference_frame_pre : Cert.quiescent_FfnBwdReferenceIdeal_pre_ffn_bwd_finite := fun m ρ _ => reference_frame m ρ trivial

theorem claim : Cert.algebraic_FfnBwdIdeal_FfnBwdReferenceIdeal_pre_ffn_bwd_finite := by
  intro m ρ m' ρ' hpre hagree
  have hu : ∀ c, ∀ j, ∃ r : ℝ, Reference.C m' c j = (r : EReal) := fun c => by
    dsimp only [Reference.C]
    rw [(hagree c).2.2.1]
    exact finite_u m hpre c
  have hz : ∀ c, ∀ j, ∃ r : ℝ, Reference.D m' c j = (r : EReal) := fun c => by
    dsimp only [Reference.D]
    rw [(hagree c).2.2.2.1]
    exact finite_z m hpre c
  refine ⟨fun c => G5 m c, fun c => G6 m c, fun c => G7 m c, fun c => G8 m c, (θ_run defs _ _).mono (fun _ h c => ⟨(h c).1.trans (final5 m c), (h c).2.1.trans (final6 m c), (h c).2.2.1.trans (final7 m c), (h c).2.2.2.1.trans (final8 m c), (h c).2.2.2.2⟩) (Value.run_blocks m ρ),
    (θ_run Cert.FfnBwdReferenceIdeal.defs _ _).mono (fun _ h c => ⟨(h c).1.trans ?_, (h c).2.1.trans ?_, (h c).2.2.1.trans ?_, (h c).2.2.2.1.trans ?_, (h c).2.2.2.2⟩) (Cert.FfnBwdReferenceIdeal.Value.run m' ρ')⟩
  · refine (Reference.ref5 m' c (hu c) (hz c)).trans ?_
    dsimp only [Reference.A, Reference.B, Reference.C, Reference.D, Reference.E]
    rw [(hagree c).1, (hagree c).2.2.1, (hagree c).2.2.2.1, (hagree c).2.2.2.2]
    rfl
  · refine (Reference.ref6 _ _).trans ?_
    dsimp only [Reference.A, Reference.B, Reference.C, Reference.D, Reference.E]
    rw [(hagree c).1, (hagree c).2.2.2.1]
    rfl
  · refine (Reference.ref7 m' c (hu c) (hz c)).trans ?_
    dsimp only [Reference.A, Reference.B, Reference.C, Reference.D, Reference.E]
    rw [(hagree c).1, (hagree c).2.2.1, (hagree c).2.2.2.1]
    rfl
  · refine (Reference.ref8 m' c (hu c) (hz c)).trans ?_
    dsimp only [Reference.A, Reference.B, Reference.C, Reference.D, Reference.E]
    rw [(hagree c).1, (hagree c).2.1, (hagree c).2.2.1, (hagree c).2.2.2.1]
    rfl

end Cert.Convs.FfnBwd

end
-- ==== Proof.Convs.FfnFwd.lean ====
module

public import proofs.«01_k».proof.Proof.Gen.FfnFwdIdeal.Value
public import proofs.«01_k».proof.Proof.Gen.FfnFwdReferenceIdeal.Run
public import proofs.«01_k».proof.Defs
public import proofs.«01_k».proof.Proof.Convs.Common

@[expose] public section

noncomputable section

/-! The convolution of the gate, its activation and the product with the other branch. -/

namespace Cert.Convs.FfnFwd

open Cert.Norms (Mat plus times hz acc_sum)

/-- The convolution with its bias, of a whole array. -/
abbrev acts (g : Mat 8192 5632) (w : Mat 8 5632) (b : Mat 1 5632) : Mat 8192 5632 := addRow (conv3 (downs 2 g) (downs 1 g) g w) b

namespace Reference
open Idealize.ShloMosaic Idealize.ShloMosaic.TcCoe Idealize.SL.Sem
open Cert.FfnFwdReferenceIdeal Cert.FfnFwdReferenceIdeal.Gen Cert.FfnFwdReferenceIdeal.Value

theorem two (x : FVec Ideal S8192x5632 .f32) :
    concatenate S8192x5632 0 [⟨S2x5632, (broadcastInDim S2x5632 ![] bcast_S_S2x5632 (constant S_ .f32 0x00000000#32))⟩, ⟨S8190x5632, (extractStridedSlice S8190x5632 ![0, 0] x slices_S8192x5632_S8190x5632_0_0)⟩] concatenates_S2x5632_S8190x5632_S8192x5632_d0
      = (downs (m := 8192) 2 x : FVec Ideal S8192x5632 .f32) := by
  funext j
  idx_vars j
  pointwise [downs]
  rfl

theorem one (x : FVec Ideal S8192x5632 .f32) :
    concatenate S8192x5632 0 [⟨S1x5632, (broadcastInDim S1x5632 ![] bcast_S_S1x5632 (constant S_ .f32 0x00000000#32))⟩, ⟨S8191x5632, (extractStridedSlice S8191x5632 ![0, 0] x slices_S8192x5632_S8191x5632_0_0)⟩] concatenates_S1x5632_S8191x5632_S8192x5632_d0
      = (downs (m := 8192) 1 x : FVec Ideal S8192x5632 .f32) := by
  funext j
  idx_vars j
  pointwise [downs]
  rfl

theorem act (x y z : FVec Ideal S8192x5632 .f32) (w : FVec Ideal S8x5632 .f32) (b : FVec Ideal S1x5632 .f32)
    (hy : y = (downs (m := 8192) 2 x : FVec Ideal S8192x5632 .f32)) (hz : z = (downs (m := 8192) 1 x : FVec Ideal S8192x5632 .f32)) :
    addf (addf (addf (mulf y (broadcastInDim S8192x5632 ![0, 1] bcast_S1x5632_S8192x5632_0_1 (extractStridedSlice S1x5632 ![0, 0] w slices_S8x5632_S1x5632_0_0))) (mulf z (broadcastInDim S8192x5632 ![0, 1] bcast_S1x5632_S8192x5632_0_1 (extractStridedSlice S1x5632 ![1, 0] w slices_S8x5632_S1x5632_1_0)))) (mulf x (broadcastInDim S8192x5632 ![0, 1] bcast_S1x5632_S8192x5632_0_1 (extractStridedSlice S1x5632 ![2, 0] w slices_S8x5632_S1x5632_2_0)))) (broadcastInDim S8192x5632 ![0, 1] bcast_S1x5632_S8192x5632_0_1 b)
      = (acts x w b : FVec Ideal S8192x5632 .f32) := by
  subst hy hz
  funext j
  idx_vars j
  pointwise [addRow, conv3]

theorem gated (a u : FVec Ideal S8192x5632 .f32) (g : Mat 8192 5632) (hg : a = (g : FVec Ideal S8192x5632 .f32)) :
    mulf (mulf a (Host.divf (broadcastInDim S8192x5632 ![] bcast_S_S8192x5632 (constant S_ .f32 0x3F800000#32)) (addf (broadcastInDim S8192x5632 ![] bcast_S_S8192x5632 (constant S_ .f32 0x3F800000#32)) (Host.exp (Host.negf a))))) u
      = (times (M := 8192) (N := 5632) (times (M := 8192) (N := 5632) g fun j => sigm (g j)) u : FVec Ideal S8192x5632 .f32) := by
  subst hg
  funext j
  idx_vars j
  pointwise [times, sigm]
  simp only [zero_sub]

variable (m : (ℓ : Loc nD τ sig) → Buf (Elt Ideal) ℓ) (c : Dev nD)
abbrev A : Mat 8192 5632 := m (c.tc.loc main_arg0)
abbrev B : Mat 8192 5632 := m (c.tc.loc main_arg1)
abbrev C : Mat 8 5632 := m (c.tc.loc main_arg2)
abbrev D : Mat 1 5632 := m (c.tc.loc main_arg3)

end Reference

open Cert.FfnFwdIdeal Cert.FfnFwdIdeal.Gen Idealize.ShloMosaic Idealize.ShloMosaic.TcCoe Idealize.SL.Sem
open Idealize.ShloMosaic.Pipeline (Dat)

section body
variable (i : grid0.Coords) (x0 : Vec Ideal S512x1408 .bf16) (x1 : Vec Ideal S16x1408 .bf16) (x2 : Vec Ideal S512x1408 .bf16) (x3 : Vec Ideal S8x1408 .f32) (x4 : Vec Ideal S1x1408 .f32)

abbrev act (i : grid0.Coords) (x0 : Mat 512 1408) (x1 : Mat 16 1408) (x3 : Mat 8 1408) (x4 : Mat 1 1408) : Mat 512 1408 :=
  addRow (conv3 (down 2 (by omega) ((i 1).val = 0) x1 x0) (down 1 (by omega) ((i 1).val = 0) x1 x0) x0 x3) x4

theorem pay5 : k0_pay5 i x0 x1 x2 x3 x4 = conv3 (m := 512) (n := 1408) (down 2 (by omega) ((i 1).val = 0) x1 x0) (down 1 (by omega) ((i 1).val = 0) x1 x0) x0 x3 := by
  unfold k0_pay5
  simp only [View.ld_unit_zero (S := S512x1408) hz, View.ld_unit_zero (S := S16x1408) hz]
  funext j
  idx_vars j
  unfold_payloads
  pointwise [conv3, down]
  have hb : (i 1).val < 16 := (i 1).isLt
  exact congrArg₂ (· + ·) (congrArg₂ (· + ·)
    (congrArg (· * _) (select_down 2 (Or.inr rfl) _ hb (fun r => x1 (ix2 r j1)) (fun r => x0 (ix2 r j1)) j0 _ _ _))
    (congrArg (· * _) (select_down 1 (Or.inl rfl) _ hb (fun r => x1 (ix2 r j1)) (fun r => x0 (ix2 r j1)) j0 _ _ _))) rfl

theorem out6 : out0_6 i x0 x1 x2 x3 x4 = act i x0 x1 x3 x4 := by
  unfold out0_6
  rw [View.canon_unit_zero (S := S512x1408) hz, pay5]
  simp only [View.ld_unit_zero (S := S512x1408) hz, View.ld_unit_zero (S := S1x1408) hz]
  funext j
  idx_vars j
  unfold_payloads
  pointwise [addRow]

theorem out5 : out0_5 i x0 x1 x2 x3 x4 = times (M := 512) (N := 1408) (times (M := 512) (N := 1408) (act i x0 x1 x3 x4) fun j => sigm (act i x0 x1 x3 x4 j)) x2 := by
  unfold out0_5
  rw [View.canon_unit_zero (S := S512x1408) hz, pay5]
  simp only [View.ld_unit_zero (S := S512x1408) hz, View.ld_unit_zero (S := S1x1408) hz]
  funext j
  idx_vars j
  unfold_payloads
  pointwise [addRow, times, sigm]
end body

variable (m : (ℓ : Loc nD τ sig) → Buf (Elt Ideal) ℓ) (ρ : Dev nD → PrngReg)

/-- The block index of each window at a point. -/
theorem idx : ∀ t : Fin cfg0.N, (win0_0.index t 0 = t.val % 16 ∧ win0_0.index t 1 = t.val / 16)
    ∧ (win0_1.index t 0 = t.val % 16 * 32 - 1 ∧ win0_1.index t 1 = t.val / 16)
    ∧ (win0_2.index t 0 = t.val % 16 ∧ win0_2.index t 1 = t.val / 16)
    ∧ (win0_3.index t 0 = 0 ∧ win0_3.index t 1 = t.val / 16)
    ∧ (win0_4.index t 0 = 0 ∧ win0_4.index t 1 = t.val / 16)
    ∧ (win0_5.index t 0 = t.val % 16 ∧ win0_5.index t 1 = t.val / 16)
    ∧ (win0_6.index t 0 = t.val % 16 ∧ win0_6.index t 1 = t.val / 16)
    ∧ (grid0.coords t 1).val = t.val % 16 :=
  (by decide +kernel : ∀ t : Fin grid0.N, _)

abbrev A (c : Dev nD) : Mat 8192 5632 := m ((c : Thread nD τ).loc main_arg0)
abbrev B (c : Dev nD) : Mat 8192 5632 := m ((c : Thread nD τ).loc main_arg1)
abbrev C (c : Dev nD) : Mat 8 5632 := m ((c : Thread nD τ).loc main_arg2)
abbrev D (c : Dev nD) : Mat 1 5632 := m ((c : Thread nD τ).loc main_arg3)

abbrev b0 (c : Dev nD) (t : Fin cfg0.N) : Mat 512 1408 := iblk m c 0 t
theorem blk0 (c : Dev nD) (t : Fin cfg0.N) : IsBlk (t.val % 16 * 512) (t.val / 16 * 1408) (b0 m c t) (A m c) := by
  intro y j h0 h1
  unfold b0 iblk
  rw [View.read_apply]
  show V m c main_arg0 _ = m (c.tc.loc main_arg0) _
  unfold V
  congr 1
  funext a
  apply Fin.ext
  match a with
  | ⟨0, _⟩ => show win0_0.index t 0 * 512 + 1 * (y 0).val = (j 0).val; rw [(idx t).1.1]; omega
  | ⟨1, _⟩ => show win0_0.index t 1 * 1408 + 1 * (y 1).val = (j 1).val; rw [(idx t).1.2]; omega

abbrev b1 (c : Dev nD) (t : Fin cfg0.N) : Mat 16 1408 := iblk m c 1 t
theorem blk1 (c : Dev nD) (t : Fin cfg0.N) : IsBlk (t.val % 16 * 512 - 16) (t.val / 16 * 1408) (b1 m c t) (A m c) := by
  intro y j h0 h1
  unfold b1 iblk
  rw [View.read_apply]
  show V m c main_arg0 _ = m (c.tc.loc main_arg0) _
  unfold V
  congr 1
  funext a
  apply Fin.ext
  match a with
  | ⟨0, _⟩ => show win0_1.index t 0 * 16 + 1 * (y 0).val = (j 0).val; rw [(idx t).2.1.1]; omega
  | ⟨1, _⟩ => show win0_1.index t 1 * 1408 + 1 * (y 1).val = (j 1).val; rw [(idx t).2.1.2]; omega

abbrev b2 (c : Dev nD) (t : Fin cfg0.N) : Mat 512 1408 := iblk m c 2 t
theorem blk2 (c : Dev nD) (t : Fin cfg0.N) : IsBlk (t.val % 16 * 512) (t.val / 16 * 1408) (b2 m c t) (B m c) := by
  intro y j h0 h1
  unfold b2 iblk
  rw [View.read_apply]
  show V m c main_arg1 _ = m (c.tc.loc main_arg1) _
  unfold V
  congr 1
  funext a
  apply Fin.ext
  match a with
  | ⟨0, _⟩ => show win0_2.index t 0 * 512 + 1 * (y 0).val = (j 0).val; rw [(idx t).2.2.1.1]; omega
  | ⟨1, _⟩ => show win0_2.index t 1 * 1408 + 1 * (y 1).val = (j 1).val; rw [(idx t).2.2.1.2]; omega

abbrev b3 (c : Dev nD) (t : Fin cfg0.N) : Mat 8 1408 := iblk m c 3 t
theorem blk3 (c : Dev nD) (t : Fin cfg0.N) : IsBlk (0) (t.val / 16 * 1408) (b3 m c t) (C m c) := by
  intro y j h0 h1
  unfold b3 iblk
  rw [View.read_apply]
  show V m c main_arg2 _ = m (c.tc.loc main_arg2) _
  unfold V
  congr 1
  funext a
  apply Fin.ext
  match a with
  | ⟨0, _⟩ => show win0_3.index t 0 * 8 + 1 * (y 0).val = (j 0).val; rw [(idx t).2.2.2.1.1]; omega
  | ⟨1, _⟩ => show win0_3.index t 1 * 1408 + 1 * (y 1).val = (j 1).val; rw [(idx t).2.2.2.1.2]; omega

abbrev b4 (c : Dev nD) (t : Fin cfg0.N) : Mat 1 1408 := iblk m c 4 t
theorem blk4 (c : Dev nD) (t : Fin cfg0.N) : IsBlk (0) (t.val / 16 * 1408) (b4 m c t) (D m c) := by
  intro y j h0 h1
  unfold b4 iblk
  rw [View.read_apply]
  show V m c main_arg3 _ = m (c.tc.loc main_arg3) _
  unfold V
  congr 1
  funext a
  apply Fin.ext
  match a with
  | ⟨0, _⟩ => show win0_4.index t 0 * 1 + 1 * (y 0).val = (j 0).val; rw [(idx t).2.2.2.2.1.1]; omega
  | ⟨1, _⟩ => show win0_4.index t 1 * 1408 + 1 * (y 1).val = (j 1).val; rw [(idx t).2.2.2.2.1.2]; omega

theorem blkAct (c : Dev nD) (t : Fin cfg0.N) :
    IsBlk (t.val % 16 * 512) (t.val / 16 * 1408) (act (grid0.coords t) (b0 m c t) (b1 m c t) (b3 m c t) (b4 m c t)) (acts (A m c) (C m c) (D m c)) := by
  have ht : (grid0.coords t 1).val = 0 ↔ t.val % 16 * 512 = 0 := by rw [(idx t).2.2.2.2.2.2.2]; omega
  exact (((blk0 m c t).down 2 _ _ ht (by omega) (blk1 m c t)).conv3 ((blk0 m c t).down 1 _ _ ht (by omega) (blk1 m c t))
    (blk0 m c t) (blk3 m c t)).addRow (blk4 m c t)

def G5 (c : Dev nD) : Buf (Elt Ideal) ((c : Thread nD τ).loc main_v0_0) := (times (times (acts (A m c) (C m c) (D m c)) fun j => sigm (acts (A m c) (C m c) (D m c) j)) (B m c) : Mat 8192 5632)

set_option maxRecDepth 100000 in
theorem flushed5_eq (c : Dev nD) (t : Fin cfg0.N) :
    (dats m 0 c).flushed 5 t = ((cfg0.win 5).blk t).view.read (Elt Ideal) (G5 m c) := by
  have e : IsBlk (t.val % 16 * 512) (t.val / 16 * 1408) (times (M := 512) (N := 1408) (times (M := 512) (N := 1408) (act (grid0.coords t) (b0 m c t) (b1 m c t) (b3 m c t) (b4 m c t)) fun j => sigm (act (grid0.coords t) (b0 m c t) (b1 m c t) (b3 m c t) (b4 m c t) j)) (b2 m c t) : Mat 512 1408) (G5 m c : Mat 8192 5632) := by
    exact ((blkAct m c t).times ((blkAct m c t).map sigm)).times (blk2 m c t)
  have hf : (dats m 0 c).flushed 5 t = (cfg0.win 5).cut (grid0.coords t) (times (M := 512) (N := 1408) (times (M := 512) (N := 1408) (act (grid0.coords t) (b0 m c t) (b1 m c t) (b3 m c t) (b4 m c t)) fun j => sigm (act (grid0.coords t) (b0 m c t) (b1 m c t) (b3 m c t) (b4 m c t) j)) (b2 m c t) : Mat 512 1408) := by
    rw [Value.flushed5 m c t, out5]
  rw [hf]
  funext y
  rw [View.read_apply]
  refine e y ((win0_5.rect t).emb y) ?_ ?_
  · rw [win0_5.rect_emb_val, (idx t).2.2.2.2.2.1.1]; show t.val % 16 * 512 + (y 0).val = _; omega
  · rw [win0_5.rect_emb_val, (idx t).2.2.2.2.2.1.2]; show t.val / 16 * 1408 + (y 1).val = _; omega

theorem cover5 (i : S8192x5632.Idx) : ∃ t : Fin cfg0.N, (cfg0.win 5).flush t = true ∧ i ∈ ((cfg0.win 5).blk t).view.set := by
  have h0 : (i 0).val < 8192 := (i 0).isLt
  have h1 : (i 1).val < 5632 := (i 1).isLt
  have hN : cfg0.N = 64 := N_0
  let t : Fin cfg0.N := ⟨(i 1).val / 1408 * 16 + (i 0).val / 512, by omega⟩
  refine ⟨t, flush0_5 t, ?_⟩
  show i ∈ ((View.whole main_v0_0).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(idx t).2.2.2.2.2.1.1]; dsimp only [t]; omega
  | ⟨1, _⟩ =>
    show win0_5.index t 1 * 1408 ≤ (i 1 : Nat) ∧ (i 1 : Nat) < win0_5.index t 1 * 1408 + 1408
    rw [(idx t).2.2.2.2.2.1.2]; dsimp only [t]; omega

theorem final5 (c : Dev nD) : (dats m 0 c).arrAt 5 cfg0.N = G5 m c :=
  (dats m 0 c).arrAt_eq_of_cover 5 (G5 m c) (fun t _ => flushed5_eq m c t) cover5

def G6 (c : Dev nD) : Buf (Elt Ideal) ((c : Thread nD τ).loc main_v0_1) := (acts (A m c) (C m c) (D m c) : Mat 8192 5632)

set_option maxRecDepth 100000 in
theorem flushed6_eq (c : Dev nD) (t : Fin cfg0.N) :
    (dats m 0 c).flushed 6 t = ((cfg0.win 6).blk t).view.read (Elt Ideal) (G6 m c) := by
  have e : IsBlk (t.val % 16 * 512) (t.val / 16 * 1408) (act (grid0.coords t) (b0 m c t) (b1 m c t) (b3 m c t) (b4 m c t) : Mat 512 1408) (G6 m c : Mat 8192 5632) := by
    exact blkAct m c t
  have hf : (dats m 0 c).flushed 6 t = (cfg0.win 6).cut (grid0.coords t) (act (grid0.coords t) (b0 m c t) (b1 m c t) (b3 m c t) (b4 m c t) : Mat 512 1408) := by
    rw [Value.flushed6 m c t, out6]
  rw [hf]
  funext y
  rw [View.read_apply]
  refine e y ((win0_6.rect t).emb y) ?_ ?_
  · rw [win0_6.rect_emb_val, (idx t).2.2.2.2.2.2.1.1]; show t.val % 16 * 512 + (y 0).val = _; omega
  · rw [win0_6.rect_emb_val, (idx t).2.2.2.2.2.2.1.2]; show t.val / 16 * 1408 + (y 1).val = _; omega

theorem cover6 (i : S8192x5632.Idx) : ∃ t : Fin cfg0.N, (cfg0.win 6).flush t = true ∧ i ∈ ((cfg0.win 6).blk t).view.set := by
  have h0 : (i 0).val < 8192 := (i 0).isLt
  have h1 : (i 1).val < 5632 := (i 1).isLt
  have hN : cfg0.N = 64 := N_0
  let t : Fin cfg0.N := ⟨(i 1).val / 1408 * 16 + (i 0).val / 512, by omega⟩
  refine ⟨t, flush0_6 t, ?_⟩
  show i ∈ ((View.whole main_v0_1).slice (win0_6.rect t)).set
  rw [View.set_slice_whole, Rect.mem_set_unit]
  intro a
  match a with
  | ⟨0, _⟩ =>
    show win0_6.index t 0 * 512 ≤ (i 0 : Nat) ∧ (i 0 : Nat) < win0_6.index t 0 * 512 + 512
    rw [(idx t).2.2.2.2.2.2.1.1]; dsimp only [t]; omega
  | ⟨1, _⟩ =>
    show win0_6.index t 1 * 1408 ≤ (i 1 : Nat) ∧ (i 1 : Nat) < win0_6.index t 1 * 1408 + 1408
    rw [(idx t).2.2.2.2.2.2.1.2]; dsimp only [t]; omega

theorem final6 (c : Dev nD) : (dats m 0 c).arrAt 6 cfg0.N = G6 m c :=
  (dats m 0 c).arrAt_eq_of_cover 6 (G6 m c) (fun t _ => flushed6_eq m c t) cover6

theorem reference_frame : Cert.quiescent_FfnFwdReferenceIdeal := fun m ρ _ =>
  (θ_run (Cert.FfnFwdReferenceIdeal.defs (F := Ideal)) _ _).mono
    (fun r h => ⟨fun c => (h c).2.2, Idealize.ShloMosaic.sem_eq_zero_of_no_sems (by decide) r.2⟩) (Cert.FfnFwdReferenceIdeal.Value.run m ρ)

theorem claim : Cert.algebraic_FfnFwdIdeal_FfnFwdReferenceIdeal := by
  intro m ρ m' ρ' _ hagree
  refine ⟨fun c => G5 m c, fun c => G6 m c, (θ_run defs _ _).mono (fun _ h c => ⟨(h c).1.trans (final5 m c), (h c).2.1.trans (final6 m c), (h c).2.2⟩) (Value.run_blocks m ρ),
    (θ_run Cert.FfnFwdReferenceIdeal.defs _ _).mono (fun _ h c => ⟨(h c).1.trans ?_, (h c).2.1.trans ?_, (h c).2.2⟩) (Cert.FfnFwdReferenceIdeal.Value.run m' ρ')⟩
  · refine (Reference.gated _ (Reference.B m' c) _ (Reference.act (Reference.A m' c) _ _ (Reference.C m' c) (Reference.D m' c) (Reference.two _) (Reference.one _))).trans ?_
    dsimp only [Reference.A, Reference.B, Reference.C, Reference.D]
    rw [(hagree c).1, (hagree c).2.1, (hagree c).2.2.1, (hagree c).2.2.2]
    rfl
  · refine ((Reference.act (Reference.A m' c) _ _ (Reference.C m' c) (Reference.D m' c) (Reference.two _) (Reference.one _))).trans ?_
    dsimp only [Reference.A, Reference.B, Reference.C, Reference.D]
    rw [(hagree c).1, (hagree c).2.2.1, (hagree c).2.2.2]
    rfl

end Cert.Convs.FfnFwd

end
-- ==== Proof.Convs.SconvBwd.lean ====
module

public import proofs.«01_k».proof.Proof.Gen.SconvBwdIdeal.Value
public import proofs.«01_k».proof.Proof.Gen.SconvBwdReferenceIdeal.Run
public import proofs.«01_k».proof.Defs
public import proofs.«01_k».proof.Proof.Convs.Grads

@[expose] public section

noncomputable section

/-! The gradient of the gated convolution, written into the last four groups of an array, and of the taps. -/

namespace Cert.Convs.SconvBwd

open Idealize.ShloMosaic
open Cert.Norms (Mat plus times hz acc_sum)

abbrev Cube (k m n : ℕ) : Type := (⟨3, ![k, m, n]⟩ : Shape).Idx → EReal
/-- A matrix as a cube of one. -/
def lift {m n : ℕ} (x : Mat m n) : Cube 1 m n := fun i => x (ix2 (i 1) (i 2))
/-- Three matrices and zeros. -/
def four {m n : ℕ} (a b d : Mat m n) : Cube 4 m n := fun i =>
  if (i 0).val = 0 then a (ix2 (i 1) (i 2)) else if (i 0).val = 1 then b (ix2 (i 1) (i 2)) else if (i 0).val = 2 then d (ix2 (i 1) (i 2)) else 0
/-- The first four matrices of `p`, and `q`. -/
def after4 {m n : ℕ} (p : Cube 8 m n) (q : Cube 4 m n) : Cube 8 m n := fun i =>
  if h : (i 0).val < 4 then p i
  else q (ix3 ⟨(i 0).val - 4, by have := (i 0).isLt; change _ < 8 at this; omega⟩ (i 1) (i 2))

/-- Four stores of a matrix each. -/
theorem canon_four {m n : ℕ} (p q r s) (a b d : Mat m n) (L : List (View.Piece (Elt Ideal) (⟨3, ![4, m, n]⟩ : Shape) .bf16)) :
    View.canon (⟨Rect.unit ![3, 0, 0] ![1, m, n] p, fun _ => (0 : EReal)⟩ :: ⟨Rect.unit ![2, 0, 0] ![1, m, n] q, lift d⟩ :: ⟨Rect.unit ![1, 0, 0] ![1, m, n] r, lift b⟩
        :: ⟨Rect.unit ![0, 0, 0] ![1, m, n] s, lift a⟩ :: L)
      = (four a b d : Vec Ideal (⟨3, ![4, m, n]⟩ : Shape) .bf16) := by
  funext y
  refine View.canon_append_of_piecesOf (Val := Elt Ideal) (four a b d : Vec Ideal (⟨3, ![4, m, n]⟩ : Shape) .bf16) L
    [⟨Rect.unit ![3, 0, 0] ![1, m, n] p, fun _ => (0 : EReal)⟩, ⟨Rect.unit ![2, 0, 0] ![1, m, n] q, lift d⟩, ⟨Rect.unit ![1, 0, 0] ![1, m, n] r, lift b⟩,
      ⟨Rect.unit ![0, 0, 0] ![1, m, n] s, lift a⟩] ⟨?_, ?_, ?_, ?_, trivial⟩ y ?_
  · intro x
    have hx : (x 0).val < 1 := (x 0).isLt
    have key : ∀ z : (⟨3, ![4, m, n]⟩ : Shape).Idx, (z 0).val = 3 + 1 * (x 0).val → (z 1).val = 0 + 1 * (x 1).val → (z 2).val = 0 + 1 * (x 2).val → (0 : EReal) = four a b d z := by
      intro z h0 h1 h2
      unfold four
      rw [if_neg (by omega), if_neg (by omega), if_neg (by omega)]
    exact key _ rfl rfl rfl
  · intro x
    have hx : (x 0).val < 1 := (x 0).isLt
    have key : ∀ z : (⟨3, ![4, m, n]⟩ : Shape).Idx, (z 0).val = 2 + 1 * (x 0).val → (z 1).val = 0 + 1 * (x 1).val → (z 2).val = 0 + 1 * (x 2).val → lift d x = four a b d z := by
      intro z h0 h1 h2
      unfold four
      rw [if_neg (by omega), if_neg (by omega), if_pos (by omega)]
      refine congrArg d (funext fun k => Fin.ext ?_)
      match k with
      | ⟨0, _⟩ => show (x 1).val = (z 1).val; omega
      | ⟨1, _⟩ => show (x 2).val = (z 2).val; omega
    exact key _ rfl rfl rfl
  · intro x
    have hx : (x 0).val < 1 := (x 0).isLt
    have key : ∀ z : (⟨3, ![4, m, n]⟩ : Shape).Idx, (z 0).val = 1 + 1 * (x 0).val → (z 1).val = 0 + 1 * (x 1).val → (z 2).val = 0 + 1 * (x 2).val → lift b x = four a b d z := by
      intro z h0 h1 h2
      unfold four
      rw [if_neg (by omega), if_pos (by omega)]
      refine congrArg b (funext fun k => Fin.ext ?_)
      match k with
      | ⟨0, _⟩ => show (x 1).val = (z 1).val; omega
      | ⟨1, _⟩ => show (x 2).val = (z 2).val; omega
    exact key _ rfl rfl rfl
  · intro x
    have hx : (x 0).val < 1 := (x 0).isLt
    have key : ∀ z : (⟨3, ![4, m, n]⟩ : Shape).Idx, (z 0).val = 0 + 1 * (x 0).val → (z 1).val = 0 + 1 * (x 1).val → (z 2).val = 0 + 1 * (x 2).val → lift a x = four a b d z := by
      intro z h0 h1 h2
      unfold four
      rw [if_pos (by omega)]
      refine congrArg a (funext fun k => Fin.ext ?_)
      match k with
      | ⟨0, _⟩ => show (x 1).val = (z 1).val; omega
      | ⟨1, _⟩ => show (x 2).val = (z 2).val; omega
    exact key _ rfl rfl rfl
  · have h0 : (y 0).val < 4 := (y 0).isLt
    have h1 : (y 1).val < m := (y 1).isLt
    have h2 : (y 2).val < n := (y 2).isLt
    have hk : ∀ k : ℕ, (y 0).val = k → ∀ (inb), y ∈ (Rect.unit (s := (⟨3, ![4, m, n]⟩ : Shape)) ![k, 0, 0] ![1, m, n] inb).set := by
      intro k hk inb
      rw [Rect.mem_set_unit]
      intro a
      match a with
      | ⟨0, _⟩ => show k ≤ (y 0).val ∧ (y 0).val < k + 1; omega
      | ⟨1, _⟩ => show 0 ≤ (y 1).val ∧ (y 1).val < 0 + m; omega
      | ⟨2, _⟩ => show 0 ≤ (y 2).val ∧ (y 2).val < 0 + n; omega
    by_cases e3 : (y 0).val = 3
    · exact ⟨_, List.mem_cons_self, hk 3 e3 p⟩
    · by_cases e2 : (y 0).val = 2
      · exact ⟨_, List.mem_cons_of_mem _ List.mem_cons_self, hk 2 e2 q⟩
      · by_cases e1 : (y 0).val = 1
        · exact ⟨_, List.mem_cons_of_mem _ (List.mem_cons_of_mem _ List.mem_cons_self), hk 1 e1 r⟩
        · exact ⟨_, List.mem_cons_of_mem _ (List.mem_cons_of_mem _ (List.mem_cons_of_mem _ List.mem_cons_self)), hk 0 (by omega) s⟩

namespace Reference
open Idealize.ShloMosaic Idealize.ShloMosaic.TcCoe Idealize.SL.Sem
open Cert.SconvBwdReferenceIdeal Cert.SconvBwdReferenceIdeal.Gen Cert.SconvBwdReferenceIdeal.Value

theorem two (x y : FVec Ideal S8192x1024 .f32) (h : x = y) :
    concatenate S8192x1024 0 [⟨S2x1024, (broadcastInDim S2x1024 ![] bcast_S_S2x1024 (constant S_ .f32 0x00000000#32))⟩, ⟨S8190x1024, (extractStridedSlice S8190x1024 ![0, 0] x slices_S8192x1024_S8190x1024_0_0)⟩] concatenates_S2x1024_S8190x1024_S8192x1024_d0
      = (downs (m := 8192) 2 y : FVec Ideal S8192x1024 .f32) := by
  subst h
  funext j
  idx_vars j
  pointwise [downs]
  rfl

theorem one (x y : FVec Ideal S8192x1024 .f32) (h : x = y) :
    concatenate S8192x1024 0 [⟨S1x1024, (broadcastInDim S1x1024 ![] bcast_S_S1x1024 (constant S_ .f32 0x00000000#32))⟩, ⟨S8191x1024, (extractStridedSlice S8191x1024 ![0, 0] x slices_S8192x1024_S8191x1024_0_0)⟩] concatenates_S1x1024_S8191x1024_S8192x1024_d0
      = (downs (m := 8192) 1 y : FVec Ideal S8192x1024 .f32) := by
  subst h
  funext j
  idx_vars j
  pointwise [downs]
  rfl

theorem product (p : FVec Ideal S8192x7168 .bf16) :
    (mulf (extf .f32 (extractStridedSlice S8192x1024 ![0, 5120] p slices_S8192x7168_S8192x1024_0_5120) bitsLt_bf16_f32) (extf .f32 (extractStridedSlice S8192x1024 ![0, 6144] p slices_S8192x7168_S8192x1024_0_6144) bitsLt_bf16_f32)) = (times (M := 8192) (N := 1024) (group p 5120 (by omega)) (group p 6144 (by omega)) : FVec Ideal S8192x1024 .f32) := by
  funext j
  idx_vars j
  pointwise [times, group]

theorem inner (p : FVec Ideal S8192x7168 .bf16) (q : FVec Ideal S8192x2048 .bf16) :
    (mulf (extf .f32 (extractStridedSlice S8192x1024 ![0, 4096] p slices_S8192x7168_S8192x1024_0_4096) bitsLt_bf16_f32) (extf .f32 (extractStridedSlice S8192x1024 ![0, 1024] q slices_S8192x2048_S8192x1024_0_1024) bitsLt_bf16_f32)) = (times (M := 8192) (N := 1024) (group q 1024 (by omega)) (group p 4096 (by omega)) : FVec Ideal S8192x1024 .f32) := by
  funext j
  idx_vars j
  pointwise [times, group]
  exact mul_comm (_ : EReal) _

theorem left (q : FVec Ideal S8192x2048 .bf16) (x : FVec Ideal S8192x1024 .f32) (y : Mat 8192 1024) (h : x = (y : FVec Ideal S8192x1024 .f32)) :
    truncf .bf16 (mulf (extf .f32 (extractStridedSlice S8192x1024 ![0, 1024] q slices_S8192x2048_S8192x1024_0_1024) bitsLt_bf16_f32) x) bitsLt_bf16_f32 = (times (M := 8192) (N := 1024) (group q 1024 (by omega)) y : FVec Ideal S8192x1024 .bf16) := by
  subst h
  funext j
  idx_vars j
  pointwise [times, group]

theorem toCh (p : FVec Ideal S8192x7168 .bf16) (x : FVec Ideal S8192x1024 .f32) (y : Mat 8192 1024) (h : x = (y : FVec Ideal S8192x1024 .f32)) :
    truncf .bf16 (mulf x (extf .f32 (extractStridedSlice S8192x1024 ![0, 6144] p slices_S8192x7168_S8192x1024_0_6144) bitsLt_bf16_f32)) bitsLt_bf16_f32 = (times (M := 8192) (N := 1024) y (group p 6144 (by omega)) : FVec Ideal S8192x1024 .bf16) := by
  subst h
  funext j
  idx_vars j
  pointwise [times, group]

theorem toCc (p : FVec Ideal S8192x7168 .bf16) (x : FVec Ideal S8192x1024 .f32) (y : Mat 8192 1024) (h : x = (y : FVec Ideal S8192x1024 .f32)) :
    truncf .bf16 (mulf (extf .f32 (extractStridedSlice S8192x1024 ![0, 5120] p slices_S8192x7168_S8192x1024_0_5120) bitsLt_bf16_f32) x) bitsLt_bf16_f32 = (times (M := 8192) (N := 1024) y (group p 5120 (by omega)) : FVec Ideal S8192x1024 .bf16) := by
  subst h
  funext j
  idx_vars j
  pointwise [times, group]
  exact mul_comm (_ : EReal) _

theorem conv (x y z : FVec Ideal S8192x1024 .f32) (w : FVec Ideal S8x1024 .f32) (a b d : Mat 8192 1024) (ha : x = (a : FVec Ideal S8192x1024 .f32)) (hb : y = (b : FVec Ideal S8192x1024 .f32)) (hd : z = (d : FVec Ideal S8192x1024 .f32)) :
    addf (addf (shapeCast _ (mulf (shapeCast _ x shapeCasts_S8192x1024_S1024x8x1024) (broadcastInDim S1024x8x1024 ![0, 1, 2] bcast_S1x8x1024_S1024x8x1024_0_1_2 (broadcastInDim S1x8x1024 ![1, 2] bcast_S8x1024_S1x8x1024_1_2 (shapeCast _ (broadcastInDim S8x1x1x1024 ![0, 1, 2, 3] bcast_S1x1x1x1024_S8x1x1x1024_0_1_2_3 (shapeCast _ (extractStridedSlice S1x1024 ![0, 0] w slices_S8x1024_S1x1024_0_0) shapeCasts_S1x1024_S1x1x1x1024)) shapeCasts_S8x1x1x1024_S8x1024)))) shapeCasts_S1024x8x1024_S8192x1024) (shapeCast _ (mulf (shapeCast _ y shapeCasts_S8192x1024_S1024x8x1024) (broadcastInDim S1024x8x1024 ![0, 1, 2] bcast_S1x8x1024_S1024x8x1024_0_1_2 (broadcastInDim S1x8x1024 ![1, 2] bcast_S8x1024_S1x8x1024_1_2 (shapeCast _ (broadcastInDim S8x1x1x1024 ![0, 1, 2, 3] bcast_S1x1x1x1024_S8x1x1x1024_0_1_2_3 (shapeCast _ (extractStridedSlice S1x1024 ![1, 0] w slices_S8x1024_S1x1024_1_0) shapeCasts_S1x1024_S1x1x1x1024)) shapeCasts_S8x1x1x1024_S8x1024)))) shapeCasts_S1024x8x1024_S8192x1024)) (shapeCast _ (mulf (shapeCast _ z shapeCasts_S8192x1024_S1024x8x1024) (broadcastInDim S1024x8x1024 ![0, 1, 2] bcast_S1x8x1024_S1024x8x1024_0_1_2 (broadcastInDim S1x8x1024 ![1, 2] bcast_S8x1024_S1x8x1024_1_2 (shapeCast _ (broadcastInDim S8x1x1x1024 ![0, 1, 2, 3] bcast_S1x1x1x1024_S8x1x1x1024_0_1_2_3 (shapeCast _ (extractStridedSlice S1x1024 ![2, 0] w slices_S8x1024_S1x1024_2_0) shapeCasts_S1x1024_S1x1x1x1024)) shapeCasts_S8x1x1x1024_S8x1024)))) shapeCasts_S1024x8x1024_S8192x1024) = (conv3 a b d w : FVec Ideal S8192x1024 .f32) := by
  subst ha hb hd
  funext j
  idx_vars j
  pointwise [conv3]

theorem upw2 (x : FVec Ideal S8192x1024 .f32) (w : FVec Ideal S8x1024 .f32) :
    (pad S8192x1024 ![0, 0] ![2, 0] ![0, 0] (extractStridedSlice S8190x1024 ![2, 0] (shapeCast _ (mulf (shapeCast _ x shapeCasts_S8192x1024_S1024x8x1024) (broadcastInDim S1024x8x1024 ![0, 1, 2] bcast_S1x8x1024_S1024x8x1024_0_1_2 (broadcastInDim S1x8x1024 ![1, 2] bcast_S8x1024_S1x8x1024_1_2 (shapeCast _ (broadcastInDim S8x1x1x1024 ![0, 1, 2, 3] bcast_S1x1x1x1024_S8x1x1x1024_0_1_2_3 (shapeCast _ (extractStridedSlice S1x1024 ![0, 0] w slices_S8x1024_S1x1024_0_0) shapeCasts_S1x1024_S1x1x1x1024)) shapeCasts_S8x1x1x1024_S8x1024)))) shapeCasts_S1024x8x1024_S8192x1024) slices_S8192x1024_S8190x1024_2_0) (constant S_ .f32 0x00000000#32) pads_S8190x1024_S8192x1024_020_000 h_S_)
      = ((fun i => ups (m := 8192) (n := 1024) 2 x i * w (ix2 0 (i 1))) : FVec Ideal S8192x1024 .f32) := by
  funext j
  idx_vars j
  pointwise [ups]
  by_cases hj : j0.val + 2 < 8192
  · rw [dif_pos hj, dif_pos (show j0.val < 8192 - 2 by omega)]
    exact congrArg (fun r => x (ix2 r j1) * w (ix2 0 j1)) (Fin.ext (by show (2 + j0.val) / 8 * 8 + (2 + j0.val) % 8 = j0.val + 2; omega))
  · rw [dif_neg hj, dif_neg (show ¬j0.val < 8192 - 2 by omega)]
    exact (zero_mul _).symm

theorem upw1 (x : FVec Ideal S8192x1024 .f32) (w : FVec Ideal S8x1024 .f32) :
    (pad S8192x1024 ![0, 0] ![1, 0] ![0, 0] (extractStridedSlice S8191x1024 ![1, 0] (shapeCast _ (mulf (shapeCast _ x shapeCasts_S8192x1024_S1024x8x1024) (broadcastInDim S1024x8x1024 ![0, 1, 2] bcast_S1x8x1024_S1024x8x1024_0_1_2 (broadcastInDim S1x8x1024 ![1, 2] bcast_S8x1024_S1x8x1024_1_2 (shapeCast _ (broadcastInDim S8x1x1x1024 ![0, 1, 2, 3] bcast_S1x1x1x1024_S8x1x1x1024_0_1_2_3 (shapeCast _ (extractStridedSlice S1x1024 ![1, 0] w slices_S8x1024_S1x1024_1_0) shapeCasts_S1x1024_S1x1x1x1024)) shapeCasts_S8x1x1x1024_S8x1024)))) shapeCasts_S1024x8x1024_S8192x1024) slices_S8192x1024_S8191x1024_1_0) (constant S_ .f32 0x00000000#32) pads_S8191x1024_S8192x1024_010_000 h_S_)
      = ((fun i => ups (m := 8192) (n := 1024) 1 x i * w (ix2 1 (i 1))) : FVec Ideal S8192x1024 .f32) := by
  funext j
  idx_vars j
  pointwise [ups]
  by_cases hj : j0.val + 1 < 8192
  · rw [dif_pos hj, dif_pos (show j0.val < 8192 - 1 by omega)]
    exact congrArg (fun r => x (ix2 r j1) * w (ix2 1 j1)) (Fin.ext (by show (1 + j0.val) / 8 * 8 + (1 + j0.val) % 8 = j0.val + 1; omega))
  · rw [dif_neg hj, dif_neg (show ¬j0.val < 8192 - 1 by omega)]
    exact (zero_mul _).symm

theorem taps (x : FVec Ideal S8192x1024 .f32) (w : FVec Ideal S8x1024 .f32) (a : Mat 8192 1024) (y z : FVec Ideal S8192x1024 .f32) (ha : x = (a : FVec Ideal S8192x1024 .f32))
    (hy : y = ((fun i => ups (m := 8192) (n := 1024) 1 x i * w (ix2 1 (i 1))) : FVec Ideal S8192x1024 .f32)) (hz : z = ((fun i => ups (m := 8192) (n := 1024) 2 x i * w (ix2 0 (i 1))) : FVec Ideal S8192x1024 .f32)) :
    addf (addf (shapeCast _ (mulf (shapeCast _ x shapeCasts_S8192x1024_S1024x8x1024) (broadcastInDim S1024x8x1024 ![0, 1, 2] bcast_S1x8x1024_S1024x8x1024_0_1_2 (broadcastInDim S1x8x1024 ![1, 2] bcast_S8x1024_S1x8x1024_1_2 (shapeCast _ (broadcastInDim S8x1x1x1024 ![0, 1, 2, 3] bcast_S1x1x1x1024_S8x1x1x1024_0_1_2_3 (shapeCast _ (extractStridedSlice S1x1024 ![2, 0] w slices_S8x1024_S1x1024_2_0) shapeCasts_S1x1024_S1x1x1x1024)) shapeCasts_S8x1x1x1024_S8x1024)))) shapeCasts_S1024x8x1024_S8192x1024) y) z = (conv3r a (ups 1 a) (ups 2 a) w : FVec Ideal S8192x1024 .f32) := by
  subst hy hz ha
  generalize ups (m := 8192) (n := 1024) 1 x = y
  generalize ups (m := 8192) (n := 1024) 2 x = z
  funext j
  idx_vars j
  pointwise [conv3r]

theorem products (x y : FVec Ideal S8192x1024 .f32) (a b : Mat 8192 1024) (ha : x = (a : FVec Ideal S8192x1024 .f32)) (hb : y = (b : FVec Ideal S8192x1024 .f32)) :
    Host.reduceAdd (shapeCast _ (Host.reduceAdd (mulf (shapeCast _ x shapeCasts_S8192x1024_S1024x8x1024) (shapeCast _ y shapeCasts_S8192x1024_S1024x8x1024)) (constant S_ .f32 0x00000000#32) reducesTo_S1024x8x1024_S8x1024_d0 h_S_) shapeCasts_S8x1024_S1x8x1024) (constant S_ .f32 0x00000000#32) reducesTo_S1x8x1024_S8x1024_d0 h_S_ = (sums8 (M := 8192) (N := 1024) 1024 rfl (times b a) : FVec Ideal S8x1024 .f32) := by
  subst ha hb
  funext j
  idx_vars j
  pointwise [sums8, times]
  simp only [Fin.sum_univ_one]
  exact Finset.sum_congr rfl fun k _ => mul_comm (_ : EReal) _

theorem three (x y z : FVec Ideal S8x1024 .f32) (a b d : Mat 8 1024) (ha : x = (a : FVec Ideal S8x1024 .f32)) (hb : y = (b : FVec Ideal S8x1024 .f32))
    (hd : z = (d : FVec Ideal S8x1024 .f32)) :
    concatenate S24x1024 0 [⟨S8x1024, x⟩, ⟨S8x1024, y⟩, ⟨S8x1024, z⟩] concatenates_S8x1024_S8x1024_S8x1024_S24x1024_d0 = (stack a b d : FVec Ideal S24x1024 .f32) := by
  subst ha hb hd
  funext j
  idx_vars j
  pointwise [stack]
  by_cases h0 : j0.val < 8
  · rw [dif_pos h0, dif_pos h0]
  · rw [dif_neg h0, dif_neg h0]
    by_cases h1 : j0.val < 16
    · rw [dif_pos h1, dif_pos (show j0.val - 8 < 8 by omega)]
    · rw [dif_neg h1, dif_neg (show ¬j0.val - 8 < 8 by omega)]
      exact congrArg (fun r => z (ix2 r j1)) (Fin.ext (Nat.sub_sub _ _ _))

theorem groups (x y z : FVec Ideal S8192x1024 .bf16) (a b d : Mat 8192 1024) (ha : x = (a : FVec Ideal S8192x1024 .bf16)) (hb : y = (b : FVec Ideal S8192x1024 .bf16))
    (hd : z = (d : FVec Ideal S8192x1024 .bf16)) :
    concatenate S4x8192x1024 0 [⟨S1x8192x1024, (broadcastInDim S1x8192x1024 ![1, 2] bcast_S8192x1024_S1x8192x1024_1_2 x)⟩, ⟨S1x8192x1024, (broadcastInDim S1x8192x1024 ![1, 2] bcast_S8192x1024_S1x8192x1024_1_2 y)⟩, ⟨S1x8192x1024, (broadcastInDim S1x8192x1024 ![1, 2] bcast_S8192x1024_S1x8192x1024_1_2 z)⟩, ⟨S1x8192x1024, (broadcastInDim S1x8192x1024 ![1, 2] bcast_S8192x1024_S1x8192x1024_1_2 (broadcastInDim S8192x1024 ![] bcast_S_S8192x1024 (constant S_ .bf16 0x0000#16)))⟩] concatenates_S1x8192x1024_S1x8192x1024_S1x8192x1024_S1x8192x1024_S4x8192x1024_d0
      = (four a b d : FVec Ideal S4x8192x1024 .bf16) := by
  subst ha hb hd
  funext j
  idx_vars j
  pointwise [four]
  by_cases h0 : j0.val = 0
  · rw [dif_pos (by omega), if_pos h0]
  · rw [dif_neg (by omega), if_neg h0]
    by_cases h1 : j0.val = 1
    · rw [dif_pos (by omega), if_pos h1]
    · rw [dif_neg (by omega), if_neg h1]
      by_cases h2 : j0.val = 2
      · rw [dif_pos (by omega), if_pos h2]
      · rw [dif_neg (by omega), if_neg h2]

theorem joint (p : FVec Ideal S8x8192x1024 .bf16) (x : FVec Ideal S4x8192x1024 .bf16) (y : Cube 4 8192 1024) (h : x = (y : FVec Ideal S4x8192x1024 .bf16)) :
    concatenate S8x8192x1024 0 [⟨S4x8192x1024, (extractStridedSlice S4x8192x1024 ![0, 0, 0] p slices_S8x8192x1024_S4x8192x1024_0_0_0)⟩, ⟨S4x8192x1024, x⟩] concatenates_S4x8192x1024_S4x8192x1024_S8x8192x1024_d0
      = (after4 p y : FVec Ideal S8x8192x1024 .bf16) := by
  subst h
  funext j
  idx_vars j
  pointwise [after4]

variable (m : (ℓ : Loc nD τ sig) → Buf (Elt Ideal) ℓ) (c : Dev nD)
abbrev A : Mat 8192 7168 := m (c.tc.loc main_arg0)
abbrev B : Mat 8 1024 := m (c.tc.loc main_arg1)
abbrev C : Mat 8192 2048 := m (c.tc.loc main_arg2)
abbrev D : Cube 8 8192 1024 := m (c.tc.loc main_arg3)

theorem ref9 : res_main_v93 m c = (after4 (D m c) (four (times (group (C m c) 1024 (by omega)) (conv3 (downs 2 (times (group (A m c) 5120 (by omega)) (group (A m c) 6144 (by omega)))) (downs 1 (times (group (A m c) 5120 (by omega)) (group (A m c) 6144 (by omega)))) (times (group (A m c) 5120 (by omega)) (group (A m c) 6144 (by omega))) (B m c))) (times (conv3r (times (group (C m c) 1024 (by omega)) (group (A m c) 4096 (by omega))) (ups 1 (times (group (C m c) 1024 (by omega)) (group (A m c) 4096 (by omega)))) (ups 2 (times (group (C m c) 1024 (by omega)) (group (A m c) 4096 (by omega)))) (B m c)) (group (A m c) 6144 (by omega))) (times (conv3r (times (group (C m c) 1024 (by omega)) (group (A m c) 4096 (by omega))) (ups 1 (times (group (C m c) 1024 (by omega)) (group (A m c) 4096 (by omega)))) (ups 2 (times (group (C m c) 1024 (by omega)) (group (A m c) 4096 (by omega)))) (B m c)) (group (A m c) 5120 (by omega)))) : FVec Ideal S8x8192x1024 .bf16) :=
  joint _ _ _ (groups _ _ _ _ _ _ (left _ _ _ (conv _ _ _ _ _ _ _ (two _ _ (product _)) (one _ _ (product _)) (product _)))
    (toCh _ _ _ (taps _ _ _ _ _ (inner _ _) (upw1 _ _) (upw2 _ _))) (toCc _ _ _ (taps _ _ _ _ _ (inner _ _) (upw1 _ _) (upw2 _ _))))

end Reference

open Cert.SconvBwdIdeal Cert.SconvBwdIdeal.Gen Idealize.ShloMosaic Idealize.ShloMosaic.TcCoe Idealize.SL.Sem
open Idealize.ShloMosaic.Pipeline (Dat)

section payloads
/-- The first rows of the block after, or zeros after the last block. -/
abbrev next (b : ℕ) (x y : Mat 16 1024) : Mat 8 1024 := fun j => if b = 15 then 0 else rowsFrom (M := 16) 0 (by omega) (times x y) j
abbrev dgs (d : Mat 512 1024) (h : Mat 8 1024) (w : Mat 8 1024) : Mat 512 1024 := conv3r d (up 1 (by omega) False h d) (up 2 (by omega) False h d) w
/-- What a block adds to the taps' gradients. -/
abbrev dws (i : grid0.Coords) (d : Mat 512 1024) (h : Mat 16 1024) (u : Mat 512 1024) : Mat 24 1024 :=
  stack (sums8 64 rfl (times d (down 2 (by omega) ((i 0).val = 0) h u))) (sums8 64 rfl (times d (down 1 (by omega) ((i 0).val = 0) h u))) (sums8 64 rfl (times d u))

theorem pay6 (x : Vec Ideal S512x1024 .bf16) : k0_pay6 (F := Ideal) x = x := rfl
theorem pay7 (x : Vec Ideal S512x1024 .bf16) : k0_pay7 (F := Ideal) x = x := rfl
theorem pay8 (x : Vec Ideal S512x1024 .bf16) : k0_pay8 (F := Ideal) x = x := rfl
theorem pay9 (x y : Vec Ideal S512x1024 .bf16) : k0_pay9 (F := Ideal) x y = (times (M := 512) (N := 1024) x y : FVec Ideal S512x1024 .f32) := rfl
theorem pay15 (x : Vec Ideal S512x1024 .f32) (y : Vec Ideal S512x1024 .bf16) : k0_pay15 (F := Ideal) x y = (times (M := 512) (N := 1024) y x : FVec Ideal S512x1024 .f32) := rfl
theorem pay11 (i : grid0.Coords) (x1 x2 : Vec Ideal S512x1024 .bf16) (x3 x4 : Vec Ideal S16x1024 .bf16) :
    k0_pay11 i x1 x2 x3 x4 = (down (m := 512) (n := 1024) 2 (by omega) ((i 0).val = 0) (times x3 x4) (times x1 x2) : FVec Ideal S512x1024 .f32) := by
  funext j
  idx_vars j
  unfold_payloads
  pointwise [down, times]
  have hb : (i 0).val < 16 := (i 0).isLt
  exact select_down 2 (Or.inr rfl) _ hb (fun r => x3 (ix2 r j1) * x4 (ix2 r j1)) (fun r => x1 (ix2 r j1) * x2 (ix2 r j1)) j0 _ _ _
theorem pay12 (i : grid0.Coords) (x1 x2 : Vec Ideal S512x1024 .bf16) (x3 x4 : Vec Ideal S16x1024 .bf16) :
    k0_pay12 i x1 x2 x3 x4 = (down (m := 512) (n := 1024) 1 (by omega) ((i 0).val = 0) (times x3 x4) (times x1 x2) : FVec Ideal S512x1024 .f32) := by
  funext j
  idx_vars j
  unfold_payloads
  pointwise [down, times]
  have hb : (i 0).val < 16 := (i 0).isLt
  exact select_down 1 (Or.inl rfl) _ hb (fun r => x3 (ix2 r j1) * x4 (ix2 r j1)) (fun r => x1 (ix2 r j1) * x2 (ix2 r j1)) j0 _ _ _
theorem pay16 (b : ℕ) (hb : b < 16) (x y : Vec Ideal S16x1024 .bf16) : k0_pay16 (BitVec.ofNat 32 b) x y = (next b x y : FVec Ideal S8x1024 .f32) := by
  funext j
  idx_vars j
  unfold_payloads
  pointwise [next, rowsFrom, times]
  exact eq_select b 15 hb (by omega) _ _
theorem pay14 (u u2 u1 : Vec Ideal S512x1024 .f32) (y : Vec Ideal S512x1024 .bf16) (w : Vec Ideal S8x1024 .f32) (p q r) :
    k0_pay14 u u2 u1 (View.ld w (Rect.unit ![0, 0] ![1, 1024] p)) (View.ld w (Rect.unit ![1, 0] ![1, 1024] q)) (View.ld w (Rect.unit ![2, 0] ![1, 1024] r)) y
      = (lift (times (M := 512) (N := 1024) y (conv3 u2 u1 u w)) : FVec Ideal S1x512x1024 .bf16) := by
  rw [ld_row (M := 8) (n := 1024) 2 (by omega), ld_row (M := 8) (n := 1024) 1 (by omega), ld_row (M := 8) (n := 1024) 0 (by omega)]
  funext j
  idx_vars j
  unfold_payloads
  pointwise [conv3, times, lift]
theorem pay17 (x z : Vec Ideal S512x1024 .f32) (y : Vec Ideal S512x1024 .bf16) (o : Vec Ideal S8x1024 .f32) :
    k0_pay17 x z y o = (plus (M := 8) (N := 1024) o (sums8 64 rfl (times (M := 512) (N := 1024) (times y x) z)) : FVec Ideal S8x1024 .f32) := by
  funext j
  idx_vars j
  unfold_payloads
  pointwise [plus, sums8, times]
theorem pay18 (x y : Vec Ideal S512x1024 .f32) (o : Vec Ideal S8x1024 .f32) :
    k0_pay18 x y o = (plus (M := 8) (N := 1024) o (sums8 64 rfl (times (M := 512) (N := 1024) y x)) : FVec Ideal S8x1024 .f32) := by
  funext j
  idx_vars j
  unfold_payloads
  pointwise [plus, sums8, times]
theorem pay19 (x y : Vec Ideal S512x1024 .f32) (o : Vec Ideal S8x1024 .f32) :
    k0_pay19 x y o = (plus (M := 8) (N := 1024) o (sums8 64 rfl (times (M := 512) (N := 1024) y x)) : FVec Ideal S8x1024 .f32) := by
  funext j
  idx_vars j
  unfold_payloads
  pointwise [plus, sums8, times]
theorem pay20 (d : Vec Ideal S512x1024 .f32) (h : Vec Ideal S8x1024 .f32) (w w' : Vec Ideal S1x1024 .f32) :
    k0_pay20 d h w w' = ((fun i => d i * w (ix2 0 (i 1)) + up (m := 512) (n := 1024) (k := 8) 1 (by omega) False h d i * w' (ix2 0 (i 1))) : FVec Ideal S512x1024 .f32) := by
  funext j
  idx_vars j
  unfold_payloads
  pointwise [up]
  exact congrArg (fun z : EReal => d (ix2 j0 j1) * w (ix2 0 j1) + z * w' (ix2 0 j1)) (select_up 1 7 511 (Or.inl ⟨rfl, rfl, rfl⟩) (fun r => h (ix2 r j1)) (fun r => d (ix2 r j1)) j0 _ _ _)
theorem pay1 (x d : Vec Ideal S512x1024 .f32) (h : Vec Ideal S8x1024 .f32) (w' : Vec Ideal S1x1024 .f32) :
    k0_pay1 x (k0_pay22 d h) (k0_pay23 d) w' = ((fun i => x i + up (m := 512) (n := 1024) (k := 8) 2 (by omega) False h d i * w' (ix2 0 (i 1))) : FVec Ideal S512x1024 .f32) := by
  funext j
  idx_vars j
  unfold_payloads
  pointwise [up]
  exact congrArg (fun z : EReal => x (ix2 j0 j1) + z * w' (ix2 0 j1)) (select_up 2 6 510 (Or.inr ⟨rfl, rfl, rfl⟩) (fun r => h (ix2 r j1)) (fun r => d (ix2 r j1)) j0 _ _ _)
theorem all (d : Vec Ideal S512x1024 .f32) (h : Vec Ideal S8x1024 .f32) (w : Vec Ideal S8x1024 .f32) (p q r) :
    k0_pay1 (k0_pay20 d h (View.ld w (Rect.unit ![2, 0] ![1, 1024] p)) (View.ld w (Rect.unit ![1, 0] ![1, 1024] q))) (k0_pay22 d h) (k0_pay23 d) (View.ld w (Rect.unit ![0, 0] ![1, 1024] r))
      = (dgs d h w : FVec Ideal S512x1024 .f32) := by
  rw [pay1, pay20, ld_row (M := 8) (n := 1024) 2 (by omega), ld_row (M := 8) (n := 1024) 1 (by omega), ld_row (M := 8) (n := 1024) 0 (by omega)]
  rfl
theorem pay2 (d : Vec Ideal S512x1024 .f32) (h : Vec Ideal S8x1024 .f32) (w : Vec Ideal S8x1024 .f32) (y : Vec Ideal S512x1024 .f32) (p q r) :
    k0_pay2 y (k0_pay20 d h (View.ld w (Rect.unit ![2, 0] ![1, 1024] p)) (View.ld w (Rect.unit ![1, 0] ![1, 1024] q))) (k0_pay22 d h) (k0_pay23 d) (View.ld w (Rect.unit ![0, 0] ![1, 1024] r))
      = (lift (times (dgs d h w) y) : FVec Ideal S1x512x1024 .bf16) := by
  unfold k0_pay2
  rw [all]
  generalize dgs d h w = z
  funext j
  idx_vars j
  pointwise [lift, times]
theorem pay3 (d : Vec Ideal S512x1024 .f32) (h : Vec Ideal S8x1024 .f32) (w : Vec Ideal S8x1024 .f32) (y : Vec Ideal S512x1024 .f32) (p q r) :
    k0_pay3 y (k0_pay20 d h (View.ld w (Rect.unit ![2, 0] ![1, 1024] p)) (View.ld w (Rect.unit ![1, 0] ![1, 1024] q))) (k0_pay22 d h) (k0_pay23 d) (View.ld w (Rect.unit ![0, 0] ![1, 1024] r))
      = (lift (times (dgs d h w) y) : FVec Ideal S1x512x1024 .bf16) := by
  unfold k0_pay3
  rw [all]
  generalize dgs d h w = z
  funext j
  idx_vars j
  pointwise [lift, times]
theorem pay4 : k0_pay4 (F := Ideal) = ((fun _ => (0 : EReal)) : FVec Ideal S1x512x1024 .bf16) := by
  funext j
  idx_vars j
  unfold_payloads
  pointwise []
theorem pay5 : k0_pay5 (F := Ideal) = ((fun _ => 0) : FVec Ideal S24x1024 .f32) := by
  funext j
  idx_vars j
  unfold_payloads
  pointwise []
theorem apart0_8 (p q) : LoadRect.disj (s := S24x1024) (Rect.unit ![0, 0] ![8, 1024] p) (Rect.unit ![8, 0] ![8, 1024] q).toLoadRect = true := by
  unfold LoadRect.disj
  refine decide_eq_true ⟨(0 : Fin 2), Or.inr (Or.inr (Or.inl ?_))⟩
  show 0 + 1 * (8 - 1) < 8
  omega
theorem apart8_16 (p q) : LoadRect.disj (s := S24x1024) (Rect.unit ![8, 0] ![8, 1024] p) (Rect.unit ![16, 0] ![8, 1024] q).toLoadRect = true := by
  unfold LoadRect.disj
  refine decide_eq_true ⟨(0 : Fin 2), Or.inr (Or.inr (Or.inl ?_))⟩
  show 8 + 1 * (8 - 1) < 16
  omega
theorem apart0_16 (p q) : LoadRect.disj (s := S24x1024) (Rect.unit ![0, 0] ![8, 1024] p) (Rect.unit ![16, 0] ![8, 1024] q).toLoadRect = true := by
  unfold LoadRect.disj
  refine decide_eq_true ⟨(0 : Fin 2), Or.inr (Or.inr (Or.inl ?_))⟩
  show 0 + 1 * (8 - 1) < 16
  omega
end payloads

section body
variable (c : Dev nD) (i : grid0.Coords) (a0 : Memref sig .tc .vmem S512x1024 .bf16) (h0 : a0.IsWhole) (a1 : Memref sig .tc .vmem S512x1024 .bf16) (h1 : a1.IsWhole) (a2 : Memref sig .tc .vmem S512x1024 .bf16) (h2 : a2.IsWhole) (a3 : Memref sig .tc .vmem S16x1024 .bf16) (h3 : a3.IsWhole) (a4 : Memref sig .tc .vmem S16x1024 .bf16) (h4 : a4.IsWhole) (a5 : Memref sig .tc .vmem S16x1024 .bf16) (h5 : a5.IsWhole) (a6 : Memref sig .tc .vmem S512x1024 .bf16) (h6 : a6.IsWhole) (a7 : Memref sig .tc .vmem S16x1024 .bf16) (h7 : a7.IsWhole) (a8 : Memref sig .tc .vmem S8x1024 .f32) (h8 : a8.IsWhole) (a11 : Memref sig .tc .vmem S4x512x1024 .bf16) (h11 : a11.IsWhole) (a12 : Memref sig .tc .vmem S24x1024 .f32) (h12 : a12.IsWhole)
  (x0 : Vec Ideal S512x1024 .bf16) (x1 : Vec Ideal S512x1024 .bf16) (x2 : Vec Ideal S512x1024 .bf16) (x3 : Vec Ideal S16x1024 .bf16) (x4 : Vec Ideal S16x1024 .bf16) (x5 : Vec Ideal S16x1024 .bf16) (x6 : Vec Ideal S512x1024 .bf16) (x7 : Vec Ideal S16x1024 .bf16) (x8 : Vec Ideal S8x1024 .f32)
/-- What a point leaves in window 9. -/
theorem out9A (hc : cond0_0 i) : out0_A_9 c i a0 h0 a1 h1 a2 h2 a3 h3 a4 h4 a5 h5 a6 h6 a7 h7 a8 h8 a11 h11 a12 h12 hc x0 x1 x2 x3 x4 x5 x6 x7 x8 = four (times (M := 512) (N := 1024) x6 (conv3 (down 2 (by omega) ((i 0).val = 0) (times (M := 16) (N := 1024) x3 x4) (times (M := 512) (N := 1024) x1 x2)) (down 1 (by omega) ((i 0).val = 0) (times (M := 16) (N := 1024) x3 x4) (times (M := 512) (N := 1024) x1 x2)) (times (M := 512) (N := 1024) x1 x2) x8)) (times (dgs (times (M := 512) (N := 1024) x6 x0) (next (i 0).val x7 x5) x8) x2) (times (dgs (times (M := 512) (N := 1024) x6 x0) (next (i 0).val x7 x5) x8) x1) := by
  unfold out0_A_9
  rw [View.read_writes_eq_canon _ _ _ (cover0_A_9 c i a0 h0 a1 h1 a2 h2 a3 h3 a4 h4 a5 h5 a6 h6 a7 h7 a8 h8 a11 h11 a12 h12 hc x0 x1 x2 x3 x4 x5 x6 x7 x8)]
  unfold kernelRun0_A
  dsimp only
  simp only [kernelRun0_A.sl.r_10, kernelRun0_A.sl.r_9, kernelRun0_A.sl.r_8, kernelRun0_A.sl.r_7, kernelRun0_A.sl.r_6, kernelRun0_A.sl.r_5, kernelRun0_A.sl.r_4, kernelRun0_A.sl.r_3, kernelRun0_A.sl.r_2, kernelRun0_A.sl.r_1, kernelRun0_A.sl.r]
  simp only [View.readAt_eq_ld, h0.read_unread, h1.read_unread, h2.read_unread, h3.read_unread, h4.read_unread, h5.read_unread, h6.read_unread, h7.read_unread, h8.read_unread, h12.read_unread, View.ld_unit_zero (S := S512x1024) hz, View.ld_unit_zero (S := S16x1024) hz, View.ld_unit_zero (S := S8x1024) hz, shapeCast_self, pay11, pay12, pay6, pay7, pay8, pay9, pay15, pay16 (i 0).val (i 0).isLt, pay14, pay2, pay3, pay4]
  exact canon_four ..
/-- What a point leaves in window 9. -/
theorem out9B (hc : ¬cond0_0 i) (o10 : Vec Ideal S24x1024 .f32) : out0_B_9 c i a0 h0 a1 h1 a2 h2 a3 h3 a4 h4 a5 h5 a6 h6 a7 h7 a8 h8 a11 h11 a12 h12 hc x0 x1 x2 x3 x4 x5 x6 x7 x8 o10 = four (times (M := 512) (N := 1024) x6 (conv3 (down 2 (by omega) ((i 0).val = 0) (times (M := 16) (N := 1024) x3 x4) (times (M := 512) (N := 1024) x1 x2)) (down 1 (by omega) ((i 0).val = 0) (times (M := 16) (N := 1024) x3 x4) (times (M := 512) (N := 1024) x1 x2)) (times (M := 512) (N := 1024) x1 x2) x8)) (times (dgs (times (M := 512) (N := 1024) x6 x0) (next (i 0).val x7 x5) x8) x2) (times (dgs (times (M := 512) (N := 1024) x6 x0) (next (i 0).val x7 x5) x8) x1) := by
  unfold out0_B_9
  rw [View.read_writes_eq_canon _ _ _ (cover0_B_9 c i a0 h0 a1 h1 a2 h2 a3 h3 a4 h4 a5 h5 a6 h6 a7 h7 a8 h8 a11 h11 a12 h12 hc x0 x1 x2 x3 x4 x5 x6 x7 x8 o10)]
  unfold kernelRun0_B
  dsimp only
  simp only [kernelRun0_B.sl.r_10, kernelRun0_B.sl.r_9, kernelRun0_B.sl.r_8, kernelRun0_B.sl.r_7, kernelRun0_B.sl.r_6, kernelRun0_B.sl.r_5, kernelRun0_B.sl.r_4, kernelRun0_B.sl.r_3, kernelRun0_B.sl.r_2, kernelRun0_B.sl.r_1, kernelRun0_B.sl.r]
  simp only [View.readAt_eq_ld, h0.read_unread, h1.read_unread, h2.read_unread, h3.read_unread, h4.read_unread, h5.read_unread, h6.read_unread, h7.read_unread, h8.read_unread, h12.read_unread, View.ld_unit_zero (S := S512x1024) hz, View.ld_unit_zero (S := S16x1024) hz, View.ld_unit_zero (S := S8x1024) hz, shapeCast_self, pay11, pay12, pay6, pay7, pay8, pay9, pay15, pay16 (i 0).val (i 0).isLt, pay14, pay2, pay3, pay4]
  exact canon_four ..
/-- What a first point leaves in window 10. -/
theorem out10A (hc : cond0_0 i) : out0_A_10 c i a0 h0 a1 h1 a2 h2 a3 h3 a4 h4 a5 h5 a6 h6 a7 h7 a8 h8 a11 h11 a12 h12 hc x0 x1 x2 x3 x4 x5 x6 x7 x8 = plus ((fun _ => 0) : Mat 24 1024) (dws i (times (M := 512) (N := 1024) x6 x0) (times (M := 16) (N := 1024) x3 x4) (times (M := 512) (N := 1024) x1 x2)) := by
  unfold out0_A_10
  rw [View.read_writes_eq_canon _ _ _ (cover0_A_10 c i a0 h0 a1 h1 a2 h2 a3 h3 a4 h4 a5 h5 a6 h6 a7 h7 a8 h8 a11 h11 a12 h12 hc x0 x1 x2 x3 x4 x5 x6 x7 x8)]
  unfold kernelRun0_A
  dsimp only
  simp only [kernelRun0_A.sl.H10_3, kernelRun0_A.sl.H10_2, kernelRun0_A.sl.H10_1, kernelRun0_A.sl.v81, kernelRun0_A.sl.v74, kernelRun0_A.sl.v67, kernelRun0_A.sl.r_2, kernelRun0_A.sl.r_3, kernelRun0_A.sl.r_4, kernelRun0_A.sl.r_5, kernelRun0_A.sl.r_6]
  simp only [View.readAt_eq_ld, h0.read_unread, h1.read_unread, h2.read_unread, h3.read_unread, h4.read_unread, h5.read_unread, h6.read_unread, h7.read_unread, h8.read_unread, h12.read_unread, View.ld_unit_zero (S := S512x1024) hz, View.ld_unit_zero (S := S16x1024) hz, View.ld_unit_zero (S := S8x1024) hz, shapeCast_self, pay11, pay12, pay6, pay7, pay8, pay9, pay15, pay16 (i 0).val (i 0).isLt, pay17, pay18, pay19]
  rw [canon_stack]
  rw [View.readCov_skip a12.view _ _ _ _ (apart8_16 _ _), View.readCov_skip a12.view _ _ _ _ (apart0_16 _ _), View.readCov_skip a12.view _ _ _ _ (apart0_8 _ _)]
  simp only [View.readCov_fill (s := S24x1024) _ _ _ _ _ (congrFun hz), pay5, ld_rows (M := 24) (n := 1024) 0 (by omega), ld_rows (M := 24) (n := 1024) 8 (by omega), ld_rows (M := 24) (n := 1024) 16 (by omega)]
  exact plus_stack (N := 1024) (fun _ => 0) _ _ _
/-- What a point leaves in window 10. -/
theorem out10B (hc : ¬cond0_0 i) (o10 : Vec Ideal S24x1024 .f32) : out0_B_10 c i a0 h0 a1 h1 a2 h2 a3 h3 a4 h4 a5 h5 a6 h6 a7 h7 a8 h8 a11 h11 a12 h12 hc x0 x1 x2 x3 x4 x5 x6 x7 x8 o10 = plus (M := 24) (N := 1024) o10 (dws i (times (M := 512) (N := 1024) x6 x0) (times (M := 16) (N := 1024) x3 x4) (times (M := 512) (N := 1024) x1 x2)) := by
  unfold out0_B_10
  rw [View.read_writes_eq_canon _ _ _ (cover0_B_10 c i a0 h0 a1 h1 a2 h2 a3 h3 a4 h4 a5 h5 a6 h6 a7 h7 a8 h8 a11 h11 a12 h12 hc x0 x1 x2 x3 x4 x5 x6 x7 x8 o10)]
  unfold kernelRun0_B
  dsimp only
  simp only [kernelRun0_B.sl.v81, kernelRun0_B.sl.v74, kernelRun0_B.sl.r_2, kernelRun0_B.sl.r_3, kernelRun0_B.sl.r_4, kernelRun0_B.sl.r_5, kernelRun0_B.sl.r_6]
  simp only [View.readAt_eq_ld, h0.read_unread, h1.read_unread, h2.read_unread, h3.read_unread, h4.read_unread, h5.read_unread, h6.read_unread, h7.read_unread, h8.read_unread, h12.read_unread, View.ld_unit_zero (S := S512x1024) hz, View.ld_unit_zero (S := S16x1024) hz, View.ld_unit_zero (S := S8x1024) hz, shapeCast_self, pay11, pay12, pay6, pay7, pay8, pay9, pay15, pay16 (i 0).val (i 0).isLt, pay17, pay18, pay19]
  rw [canon_stack, ld_rows (M := 24) (n := 1024) 0 (by omega), ld_rows (M := 24) (n := 1024) 8 (by omega), ld_rows (M := 24) (n := 1024) 16 (by omega)]
  exact plus_stack (N := 1024) o10 _ _ _
theorem blk_four {m n M r : ℕ} {a b d : Mat m n} {a' b' d' : Mat M n} (p : Cube 8 M n) (ha : IsBlk r 0 a a') (hb : IsBlk r 0 b b') (hd : IsBlk r 0 d d')
    (y : (⟨3, ![4, m, n]⟩ : Shape).Idx) (j : (⟨3, ![8, M, n]⟩ : Shape).Idx) (h0 : (j 0).val = 4 + (y 0).val) (h1 : (j 1).val = r + (y 1).val) (h2 : (j 2).val = (y 2).val) :
    four a b d y = after4 p (four a' b' d') j := by
  have ea := ha (ix2 (y 1) (y 2)) (ix2 (j 1) (j 2)) h1 (by show (j 2).val = 0 + (y 2).val; omega)
  have eb := hb (ix2 (y 1) (y 2)) (ix2 (j 1) (j 2)) h1 (by show (j 2).val = 0 + (y 2).val; omega)
  have ed := hd (ix2 (y 1) (y 2)) (ix2 (j 1) (j 2)) h1 (by show (j 2).val = 0 + (y 2).val; omega)
  unfold after4
  rw [dif_neg (by omega)]
  unfold four
  show _ = if (j 0).val - 4 = 0 then a' (ix2 (j 1) (j 2)) else if (j 0).val - 4 = 1 then b' (ix2 (j 1) (j 2)) else if (j 0).val - 4 = 2 then d' (ix2 (j 1) (j 2)) else 0
  rw [← ea, ← eb, ← ed, show (j 0).val - 4 = (y 0).val by omega]

end body

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 4)
    ∧ (win0_1.index t 0 = t.val ∧ win0_1.index t 1 = 5)
    ∧ (win0_2.index t 0 = t.val ∧ win0_2.index t 1 = 6)
    ∧ (win0_3.index t 0 = t.val * 32 - 1 ∧ win0_3.index t 1 = 5)
    ∧ (win0_4.index t 0 = t.val * 32 - 1 ∧ win0_4.index t 1 = 6)
    ∧ (win0_5.index t 0 = min ((t.val + 1) * 32) 511 ∧ win0_5.index t 1 = 4)
    ∧ (win0_6.index t 0 = t.val ∧ win0_6.index t 1 = 1)
    ∧ (win0_7.index t 0 = min ((t.val + 1) * 32) 511 ∧ win0_7.index t 1 = 1)
    ∧ (win0_8.index t 0 = 0 ∧ win0_8.index t 1 = 0)
    ∧ (win0_10.index t 0 = 0 ∧ win0_10.index t 1 = 0)
    ∧ (win0_9.index t 0 = 1 ∧ win0_9.index t 1 = t.val ∧ win0_9.index t 2 = 0)
    ∧ (grid0.coords t 0).val = t.val :=
  (by decide +kernel : ∀ t : Fin grid0.N, _)

abbrev A (c : Dev nD) : Mat 8192 7168 := m ((c : Thread nD τ).loc main_arg0)
abbrev B (c : Dev nD) : Mat 8 1024 := m ((c : Thread nD τ).loc main_arg1)
abbrev C (c : Dev nD) : Mat 8192 2048 := m ((c : Thread nD τ).loc main_arg2)

abbrev D (c : Dev nD) : Cube 8 8192 1024 := m ((c : Thread nD τ).loc main_arg3)

abbrev b0 (c : Dev nD) (t : Fin cfg0.N) : Mat 512 1024 := iblk m c 0 t
theorem blk0 (c : Dev nD) (t : Fin cfg0.N) : IsBlk (t.val * 512) (4096) (b0 m c t) (A m c) := by
  intro y j h0 h1
  unfold b0 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_0.index t 0 * 512 + 1 * (y 0).val = (j 0).val; rw [(idx t).1.1]; omega
  | ⟨1, _⟩ => show win0_0.index t 1 * 1024 + 1 * (y 1).val = (j 1).val; rw [(idx t).1.2]; omega

abbrev b1 (c : Dev nD) (t : Fin cfg0.N) : Mat 512 1024 := iblk m c 1 t
theorem blk1 (c : Dev nD) (t : Fin cfg0.N) : IsBlk (t.val * 512) (5120) (b1 m c t) (A m c) := by
  intro y j h0 h1
  unfold b1 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_1.index t 0 * 512 + 1 * (y 0).val = (j 0).val; rw [(idx t).2.1.1]; omega
  | ⟨1, _⟩ => show win0_1.index t 1 * 1024 + 1 * (y 1).val = (j 1).val; rw [(idx t).2.1.2]; omega

abbrev b2 (c : Dev nD) (t : Fin cfg0.N) : Mat 512 1024 := iblk m c 2 t
theorem blk2 (c : Dev nD) (t : Fin cfg0.N) : IsBlk (t.val * 512) (6144) (b2 m c t) (A m c) := by
  intro y j h0 h1
  unfold b2 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_2.index t 0 * 512 + 1 * (y 0).val = (j 0).val; rw [(idx t).2.2.1.1]; omega
  | ⟨1, _⟩ => show win0_2.index t 1 * 1024 + 1 * (y 1).val = (j 1).val; rw [(idx t).2.2.1.2]; omega

abbrev b3 (c : Dev nD) (t : Fin cfg0.N) : Mat 16 1024 := iblk m c 3 t
theorem blk3 (c : Dev nD) (t : Fin cfg0.N) : IsBlk (t.val * 512 - 16) (5120) (b3 m c t) (A m c) := by
  intro y j h0 h1
  unfold b3 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_3.index t 0 * 16 + 1 * (y 0).val = (j 0).val; rw [(idx t).2.2.2.1.1]; omega
  | ⟨1, _⟩ => show win0_3.index t 1 * 1024 + 1 * (y 1).val = (j 1).val; rw [(idx t).2.2.2.1.2]; omega

abbrev b4 (c : Dev nD) (t : Fin cfg0.N) : Mat 16 1024 := iblk m c 4 t
theorem blk4 (c : Dev nD) (t : Fin cfg0.N) : IsBlk (t.val * 512 - 16) (6144) (b4 m c t) (A m c) := by
  intro y j h0 h1
  unfold b4 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_4.index t 0 * 16 + 1 * (y 0).val = (j 0).val; rw [(idx t).2.2.2.2.1.1]; omega
  | ⟨1, _⟩ => show win0_4.index t 1 * 1024 + 1 * (y 1).val = (j 1).val; rw [(idx t).2.2.2.2.1.2]; omega

abbrev b5 (c : Dev nD) (t : Fin cfg0.N) : Mat 16 1024 := iblk m c 5 t
theorem blk5 (c : Dev nD) (t : Fin cfg0.N) : IsBlk (min ((t.val + 1) * 32) 511 * 16) (4096) (b5 m c t) (A m c) := by
  intro y j h0 h1
  unfold b5 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_5.index t 0 * 16 + 1 * (y 0).val = (j 0).val; rw [(idx t).2.2.2.2.2.1.1]; omega
  | ⟨1, _⟩ => show win0_5.index t 1 * 1024 + 1 * (y 1).val = (j 1).val; rw [(idx t).2.2.2.2.2.1.2]; omega

abbrev b6 (c : Dev nD) (t : Fin cfg0.N) : Mat 512 1024 := iblk m c 6 t
theorem blk6 (c : Dev nD) (t : Fin cfg0.N) : IsBlk (t.val * 512) (1024) (b6 m c t) (C m c) := by
  intro y j h0 h1
  unfold b6 iblk
  rw [View.read_apply]
  show V m c main_arg2 _ = m (c.tc.loc main_arg2) _
  refine (congrFun (show V m c main_arg2 = m (c.tc.loc main_arg2) from rfl) _).trans ?_
  congr 1
  funext a
  apply Fin.ext
  match a with
  | ⟨0, _⟩ => show win0_6.index t 0 * 512 + 1 * (y 0).val = (j 0).val; rw [(idx t).2.2.2.2.2.2.1.1]; omega
  | ⟨1, _⟩ => show win0_6.index t 1 * 1024 + 1 * (y 1).val = (j 1).val; rw [(idx t).2.2.2.2.2.2.1.2]; omega

abbrev b7 (c : Dev nD) (t : Fin cfg0.N) : Mat 16 1024 := iblk m c 7 t
theorem blk7 (c : Dev nD) (t : Fin cfg0.N) : IsBlk (min ((t.val + 1) * 32) 511 * 16) (1024) (b7 m c t) (C m c) := by
  intro y j h0 h1
  unfold b7 iblk
  rw [View.read_apply]
  show V m c main_arg2 _ = m (c.tc.loc main_arg2) _
  refine (congrFun (show V m c main_arg2 = m (c.tc.loc main_arg2) from rfl) _).trans ?_
  congr 1
  funext a
  apply Fin.ext
  match a with
  | ⟨0, _⟩ => show win0_7.index t 0 * 16 + 1 * (y 0).val = (j 0).val; rw [(idx t).2.2.2.2.2.2.2.1.1]; omega
  | ⟨1, _⟩ => show win0_7.index t 1 * 1024 + 1 * (y 1).val = (j 1).val; rw [(idx t).2.2.2.2.2.2.2.1.2]; omega

abbrev b8 (c : Dev nD) (t : Fin cfg0.N) : Mat 8 1024 := iblk m c 8 t
theorem blk8 (c : Dev nD) (t : Fin cfg0.N) : IsBlk (0) (0) (b8 m c t) (B m c) := by
  intro y j h0 h1
  unfold b8 iblk
  rw [View.read_apply]
  show V m c main_arg1 _ = m (c.tc.loc main_arg1) _
  refine (congrFun (show V m c main_arg1 = m (c.tc.loc main_arg1) from rfl) _).trans ?_
  congr 1
  funext a
  apply Fin.ext
  match a with
  | ⟨0, _⟩ => show win0_8.index t 0 * 8 + 1 * (y 0).val = (j 0).val; rw [(idx t).2.2.2.2.2.2.2.2.1.1]; omega
  | ⟨1, _⟩ => show win0_8.index t 1 * 1024 + 1 * (y 1).val = (j 1).val; rw [(idx t).2.2.2.2.2.2.2.2.1.2]; omega

abbrev dcs (c : Dev nD) (t : Fin cfg0.N) : Mat 512 1024 := times (b6 m c t) (b0 m c t)
abbrev ins (c : Dev nD) (t : Fin cfg0.N) : Mat 512 1024 := times (b1 m c t) (b2 m c t)
abbrev nxs (c : Dev nD) (t : Fin cfg0.N) : Mat 8 1024 := next (grid0.coords t 0).val (b7 m c t) (b5 m c t)
abbrev ins1 (c : Dev nD) (t : Fin cfg0.N) : Mat 512 1024 := down 1 (by omega) ((grid0.coords t 0).val = 0) (times (b3 m c t) (b4 m c t)) (ins m c t)
abbrev ins2 (c : Dev nD) (t : Fin cfg0.N) : Mat 512 1024 := down 2 (by omega) ((grid0.coords t 0).val = 0) (times (b3 m c t) (b4 m c t)) (ins m c t)
abbrev dus (c : Dev nD) (t : Fin cfg0.N) : Mat 512 1024 := dgs (dcs m c t) (nxs m c t) (b8 m c t)
/-- The convolution's input, its gradient and the output's. -/
abbrev U (c : Dev nD) : Mat 8192 1024 := (times (group (A m c) 5120 (by omega)) (group (A m c) 6144 (by omega)))
abbrev DC (c : Dev nD) : Mat 8192 1024 := (times (group (C m c) 1024 (by omega)) (group (A m c) 4096 (by omega)))
abbrev DU (c : Dev nD) : Mat 8192 1024 := (conv3r (times (group (C m c) 1024 (by omega)) (group (A m c) 4096 (by omega))) (ups 1 (times (group (C m c) 1024 (by omega)) (group (A m c) 4096 (by omega)))) (ups 2 (times (group (C m c) 1024 (by omega)) (group (A m c) 4096 (by omega)))) (B m c))
theorem at_point (t : Fin cfg0.N) : (grid0.coords t 0).val = t.val := (idx t).2.2.2.2.2.2.2.2.2.2.2
theorem blkDc (c : Dev nD) (t : Fin cfg0.N) : IsBlk (t.val * 512) 0 (dcs m c t) (DC m c) := ((blk6 m c t).group (p := 1024) (h := by omega) rfl).times ((blk0 m c t).group (p := 4096) (h := by omega) rfl)
theorem blkU (c : Dev nD) (t : Fin cfg0.N) : IsBlk (t.val * 512) 0 (ins m c t) (U m c) := ((blk1 m c t).group (p := 5120) (h := by omega) rfl).times ((blk2 m c t).group (p := 6144) (h := by omega) rfl)
theorem blkUh (c : Dev nD) (t : Fin cfg0.N) : IsBlk (t.val * 512 - 16) 0 (times (b3 m c t) (b4 m c t)) (U m c) := ((blk3 m c t).group (p := 5120) (h := by omega) rfl).times ((blk4 m c t).group (p := 6144) (h := by omega) rfl)
theorem blkU1 (c : Dev nD) (t : Fin cfg0.N) : IsBlk (t.val * 512) 0 (ins1 m c t) (downs 1 (U m c)) :=
  (blkU m c t).down 1 _ _ (by rw [at_point]; omega) (by omega) (blkUh m c t)
theorem blkU2 (c : Dev nD) (t : Fin cfg0.N) : IsBlk (t.val * 512) 0 (ins2 m c t) (downs 2 (U m c)) :=
  (blkU m c t).down 2 _ _ (by rw [at_point]; omega) (by omega) (blkUh m c t)
theorem blkNx (c : Dev nD) (t : Fin cfg0.N) : IsBlk (t.val * 512 + 512) 0 (nxs m c t) (DC m c) := by
  have hN : t.val < 16 := lt_of_lt_of_eq t.isLt (show cfg0.N = 16 from N_0)
  have e := (((blk7 m c t).group (p := 1024) (h := by omega) rfl).times ((blk5 m c t).group (p := 4096) (h := by omega) rfl)).first (h := by omega)
  intro y j h0 h1
  have hj : (j 0).val < 8192 := (j 0).isLt
  dsimp only [nxs, next]
  rw [if_neg (by rw [at_point]; omega)]
  exact e y j (by omega) h1
theorem nx_last (c : Dev nD) (t : Fin cfg0.N) (h : t.val * 512 + 512 = 8192) (y) : nxs m c t y = 0 := by
  dsimp only [nxs, next]
  rw [if_pos (by rw [at_point]; omega)]
theorem blkDu (c : Dev nD) (t : Fin cfg0.N) : IsBlk (t.val * 512) 0 (dus m c t) (DU m c) := by
  have hN : t.val < 16 := lt_of_lt_of_eq t.isLt (show cfg0.N = 16 from N_0)
  exact (blkDc m c t).conv3r ((blkDc m c t).upz 1 _ (by omega) (blkNx m c t) (nx_last m c t)) ((blkDc m c t).upz 2 _ (by omega) (blkNx m c t) (nx_last m c t)) (blk8 m c t)

theorem step9 (c : Dev nD) (t : Fin cfg0.N) : (outsAt0 m c t.val t.isLt).1
    = (four (times (b6 m c t) (conv3 (ins2 m c t) (ins1 m c t) (ins m c t) (b8 m c t))) (times (dus m c t) (b2 m c t)) (times (dus m c t) (b1 m c t)) : Cube 4 512 1024) := by
  by_cases h0 : t.val % 16 = 0
  · rw [outsAt0_A m c t h0]
    dsimp only
    exact out9A ..
  · rw [outsAt0_B m c t h0]
    dsimp only
    exact out9B ..

/-- The block of the point `n`. -/
def nth (f : Fin cfg0.N → Mat 512 1024) (n : ℕ) : Mat 512 1024 := if h : n < cfg0.N then f ⟨n, h⟩ else fun _ => 0
theorem blkNth {a : Mat 8192 1024} {f : Fin cfg0.N → Mat 512 1024} (hf : ∀ t : Fin cfg0.N, IsBlk (t.val * 512) 0 (f t) a) :
    ∀ n < 16, IsBlk ((16 - 1 - n) * 512) 0 (nth f (16 - 1 - n)) a := by
  intro n hn
  have h : 16 - 1 - n < cfg0.N := by rw [show cfg0.N = 16 from N_0]; omega
  rw [nth, dif_pos h]
  exact hf ⟨16 - 1 - n, h⟩
def part10 (c : Dev nD) (n : ℕ) : Mat 24 1024 :=
  stack (sums8 64 rfl (nth (fun t => times (dcs m c t) (ins2 m c t)) n)) (sums8 64 rfl (nth (fun t => times (dcs m c t) (ins1 m c t)) n))
    (sums8 64 rfl (nth (fun t => times (dcs m c t) (ins m c t)) n))

/-- What the first points leave in the taps' gradients. -/
theorem acc10 (c : Dev nD) : ∀ n h i,
    ((outsAt0 m c n (by rw [show cfg0.N = 16 from N_0]; exact h)).2 : Mat 24 1024) i = ∑ t ∈ Finset.range (n + 1), part10 m c t i := by
  have hN : cfg0.N = 16 := N_0
  refine acc_sum (N := 16) (fun n h => ((outsAt0 m c n (by omega)).2 : Mat 24 1024)) (part10 m c) ?_ ?_
  · intro h
    have h' : 0 < cfg0.N := by omega
    rw [outsAt0_A m c ⟨0, h'⟩ (by show 0 % 16 = 0; omega)]
    dsimp only
    rw [part10, nth, nth, nth, dif_pos h', dif_pos h', dif_pos h']
    exact (out10A ..).trans (zero_plus _)
  · intro n h
    have h' : n + 1 < cfg0.N := by omega
    rw [outsAt0_B m c ⟨n + 1, h'⟩ (by show ¬(n + 1) % 16 = 0; omega)]
    dsimp only
    rw [part10, nth, nth, nth, dif_pos h', dif_pos h', dif_pos h']
    exact out10B ..

def G9 (c : Dev nD) : Buf (Elt Ideal) ((c : Thread nD τ).loc main_v0_0) := (after4 (D m c) (four (times (group (C m c) 1024 (by omega)) (conv3 (downs 2 (times (group (A m c) 5120 (by omega)) (group (A m c) 6144 (by omega)))) (downs 1 (times (group (A m c) 5120 (by omega)) (group (A m c) 6144 (by omega)))) (times (group (A m c) 5120 (by omega)) (group (A m c) 6144 (by omega))) (B m c))) (times (conv3r (times (group (C m c) 1024 (by omega)) (group (A m c) 4096 (by omega))) (ups 1 (times (group (C m c) 1024 (by omega)) (group (A m c) 4096 (by omega)))) (ups 2 (times (group (C m c) 1024 (by omega)) (group (A m c) 4096 (by omega)))) (B m c)) (group (A m c) 6144 (by omega))) (times (conv3r (times (group (C m c) 1024 (by omega)) (group (A m c) 4096 (by omega))) (ups 1 (times (group (C m c) 1024 (by omega)) (group (A m c) 4096 (by omega)))) (ups 2 (times (group (C m c) 1024 (by omega)) (group (A m c) 4096 (by omega)))) (B m c)) (group (A m c) 5120 (by omega)))) : Cube 8 8192 1024)
set_option maxRecDepth 100000 in
theorem flushed9_eq (c : Dev nD) (t : Fin cfg0.N) :
    (dats m 0 c).flushed 9 t = ((cfg0.win 9).blk t).view.read (Elt Ideal) (G9 m c) := by
  rw [Value.flushed9 m c t, step9]
  funext y
  rw [View.read_apply]
  refine blk_four (r := t.val * 512) (D m c) (((blk6 m c t).group (p := 1024) (h := by omega) rfl).times ((blkU2 m c t).conv3 (blkU1 m c t) (blkU m c t) (blk8 m c t))) ((blkDu m c t).times ((blk2 m c t).group (p := 6144) (h := by omega) rfl)) ((blkDu m c t).times ((blk1 m c t).group (p := 5120) (h := by omega) rfl))
    y ((win0_9.rect t).emb y) ?_ ?_ ?_
  · rw [win0_9.rect_emb_val, (idx t).2.2.2.2.2.2.2.2.2.2.1.1]; show 1 * 4 + (y 0).val = _; omega
  · rw [win0_9.rect_emb_val, (idx t).2.2.2.2.2.2.2.2.2.2.1.2.1]; show t.val * 512 + (y 1).val = _; omega
  · rw [win0_9.rect_emb_val, (idx t).2.2.2.2.2.2.2.2.2.2.1.2.2]; show 0 * 1024 + (y 2).val = _; omega

theorem final9 (c : Dev nD) : (dats m 0 c).arrAt 9 cfg0.N = G9 m c := by
  funext i
  rw [(dats m 0 c).arrAt_eq_piecewise 9 (G9 m c) (fun t _ => flushed9_eq m c t) i]
  split
  · rfl
  · rename_i h
    have h0 : (i 0).val < 8 := (i 0).isLt
    have h1 : (i 1).val < 8192 := (i 1).isLt
    have h2 : (i 2).val < 1024 := (i 2).isLt
    have hN : cfg0.N = 16 := N_0
    have hl : (i 0).val < 4 := by
      by_contra hc
      let t : Fin cfg0.N := ⟨(i 1).val / 512, by omega⟩
      refine h ⟨t, flush0_9 t, ?_⟩
      show i ∈ ((View.whole main_v0_0).slice (win0_9.rect t)).set
      rw [View.set_slice_whole, Rect.mem_set_unit]
      intro a
      match a with
      | ⟨0, _⟩ =>
        show win0_9.index t 0 * 4 ≤ (i 0 : Nat) ∧ (i 0 : Nat) < win0_9.index t 0 * 4 + 4
        rw [(idx t).2.2.2.2.2.2.2.2.2.2.1.1]; omega
      | ⟨1, _⟩ =>
        show win0_9.index t 1 * 512 ≤ (i 1 : Nat) ∧ (i 1 : Nat) < win0_9.index t 1 * 512 + 512
        rw [(idx t).2.2.2.2.2.2.2.2.2.2.1.2.1]; dsimp only [t]; omega
      | ⟨2, _⟩ =>
        show win0_9.index t 2 * 1024 ≤ (i 2 : Nat) ∧ (i 2 : Nat) < win0_9.index t 2 * 1024 + 1024
        rw [(idx t).2.2.2.2.2.2.2.2.2.2.1.2.2]; omega
    rw [A_eq]
    have e : (G9 m c : Cube 8 8192 1024) i = D m c i := dif_pos hl
    exact Eq.trans (by rfl) e.symm

def G10 (c : Dev nD) : Buf (Elt Ideal) ((c : Thread nD τ).loc main_v0_1) := (stack (sums8 1024 rfl (times (times (group (C m c) 1024 (by omega)) (group (A m c) 4096 (by omega))) (downs 2 (times (group (A m c) 5120 (by omega)) (group (A m c) 6144 (by omega)))))) (sums8 1024 rfl (times (times (group (C m c) 1024 (by omega)) (group (A m c) 4096 (by omega))) (downs 1 (times (group (A m c) 5120 (by omega)) (group (A m c) 6144 (by omega)))))) (sums8 1024 rfl (times (times (group (C m c) 1024 (by omega)) (group (A m c) 4096 (by omega))) (times (group (A m c) 5120 (by omega)) (group (A m c) 6144 (by omega))))) : Mat 24 1024)

set_option maxRecDepth 100000 in
theorem flushed10_eq (c : Dev nD) (t : Fin cfg0.N) (ht : t.val % 16 = 15) :
    (dats m 0 c).flushed 10 t = ((cfg0.win 10).blk t).view.read (Elt Ideal) (G10 m c) := by
  have e : IsBlk (0) (0) ((outsAt0 m c t.val t.isLt).2 : Mat 24 1024) (G10 m c : Mat 24 1024) := by
    have hN : cfg0.N = 16 := N_0
    intro y j h0 h1
    have ho : ∀ (n : ℕ) (h : n < cfg0.N), t.val = n → (outsAt0 m c t.val t.isLt) = outsAt0 m c n h := fun n h e => by subst e; rfl
    rw [ho 15 (by omega) (by have := t.isLt; omega)]
    refine (acc10 m c 15 (by omega) y).trans ?_
    show ∑ t ∈ Finset.range 16, part10 m c t y = _
    rw [← Finset.sum_range_reflect]
    exact (stack_blocks 16 _ _ _ _ _ _ (fun y j h0 h1 => sums8_blocks 16 rfl rfl rfl _ _ (blkNth (fun t => (blkDc m c t).times (blkU2 m c t))) y j h0 h1) (fun y j h0 h1 => sums8_blocks 16 rfl rfl rfl _ _ (blkNth (fun t => (blkDc m c t).times (blkU1 m c t))) y j h0 h1) (fun y j h0 h1 => sums8_blocks 16 rfl rfl rfl _ _ (blkNth (fun t => (blkDc m c t).times (blkU m c t))) y j h0 h1) y j (by omega) h1).symm
  have hf : (dats m 0 c).flushed 10 t = (cfg0.win 10).cut (grid0.coords t) ((outsAt0 m c t.val t.isLt).2 : Mat 24 1024) := by
    rw [Value.flushed10 m c t]
  rw [hf]
  funext y
  rw [View.read_apply]
  refine e y ((win0_10.rect t).emb y) ?_ ?_
  · rw [win0_10.rect_emb_val, (idx t).2.2.2.2.2.2.2.2.2.1.1]; show 0 * 24 + (y 0).val = _; omega
  · rw [win0_10.rect_emb_val, (idx t).2.2.2.2.2.2.2.2.2.1.2]; show 0 * 1024 + (y 1).val = _; omega

theorem cover10 (i : S24x1024.Idx) : ∃ t : Fin cfg0.N, (cfg0.win 10).flush t = true ∧ i ∈ ((cfg0.win 10).blk t).view.set := by
  have h0 : (i 0).val < 24 := (i 0).isLt
  have h1 : (i 1).val < 1024 := (i 1).isLt
  have hN : cfg0.N = 16 := N_0
  let t : Fin cfg0.N := ⟨15, by omega⟩
  refine ⟨t, (flush0_10 t).mpr (by dsimp only [t]), ?_⟩
  show i ∈ ((View.whole main_v0_1).slice (win0_10.rect t)).set
  rw [View.set_slice_whole, Rect.mem_set_unit]
  intro a
  match a with
  | ⟨0, _⟩ =>
    show win0_10.index t 0 * 24 ≤ (i 0 : Nat) ∧ (i 0 : Nat) < win0_10.index t 0 * 24 + 24
    rw [(idx t).2.2.2.2.2.2.2.2.2.1.1]; dsimp only [t]; omega
  | ⟨1, _⟩ =>
    show win0_10.index t 1 * 1024 ≤ (i 1 : Nat) ∧ (i 1 : Nat) < win0_10.index t 1 * 1024 + 1024
    rw [(idx t).2.2.2.2.2.2.2.2.2.1.2]; dsimp only [t]; omega

theorem final10 (c : Dev nD) : (dats m 0 c).arrAt 10 cfg0.N = G10 m c :=
  (dats m 0 c).arrAt_eq_of_cover 10 (G10 m c) (fun t hf => flushed10_eq m c t ((flush0_10 t).mp hf)) cover10

theorem reference_frame : Cert.quiescent_SconvBwdReferenceIdeal := fun m ρ _ =>
  (θ_run (Cert.SconvBwdReferenceIdeal.defs (F := Ideal)) _ _).mono
    (fun r h => ⟨fun c => (h c).2.2, Idealize.ShloMosaic.sem_eq_zero_of_no_sems (by decide) r.2⟩) (Cert.SconvBwdReferenceIdeal.Value.run m ρ)

theorem claim : Cert.algebraic_SconvBwdIdeal_SconvBwdReferenceIdeal := by
  intro m ρ m' ρ' _ hagree
  refine ⟨fun c => G9 m c, fun c => G10 m c, (θ_run defs _ _).mono (fun _ h c => ⟨(h c).1.trans (final9 m c), (h c).2.1.trans (final10 m c), (h c).2.2⟩) (Value.run_blocks m ρ),
    (θ_run Cert.SconvBwdReferenceIdeal.defs _ _).mono (fun _ h c => ⟨(h c).1.trans ?_, (h c).2.1.trans ?_, (h c).2.2⟩) (Cert.SconvBwdReferenceIdeal.Value.run m' ρ')⟩
  · refine (Reference.ref9 m' c).trans ?_
    dsimp only [Reference.A, Reference.B, Reference.C, Reference.D]
    rw [(hagree c).1, (hagree c).2.1, (hagree c).2.2.1, (hagree c).2.2.2]
    rfl
  · refine (Reference.three _ _ _ _ _ _ (Reference.products _ _ _ _ (Reference.two _ _ (Reference.product (Reference.A m' c))) (Reference.inner (Reference.A m' c) (Reference.C m' c))) (Reference.products _ _ _ _ (Reference.one _ _ (Reference.product (Reference.A m' c))) (Reference.inner (Reference.A m' c) (Reference.C m' c))) (Reference.products _ _ _ _ (Reference.product (Reference.A m' c)) (Reference.inner (Reference.A m' c) (Reference.C m' c)))).trans ?_
    dsimp only [Reference.A, Reference.B, Reference.C, Reference.D]
    rw [(hagree c).1, (hagree c).2.2.1]
    rfl

end Cert.Convs.SconvBwd

end
-- ==== Proof.Convs.SconvFwd.lean ====
module

public import proofs.«01_k».proof.Proof.Gen.SconvFwdIdeal.Value
public import proofs.«01_k».proof.Proof.Gen.SconvFwdReferenceIdeal.Run
public import proofs.«01_k».proof.Defs
public import proofs.«01_k».proof.Proof.Convs.Common

@[expose] public section

noncomputable section

/-! The gated convolution, written into the second half of an array. -/

namespace Cert.Convs.SconvFwd

open Cert.Norms (Mat plus times hz acc_sum)

namespace Reference
open Idealize.ShloMosaic Idealize.ShloMosaic.TcCoe Idealize.SL.Sem
open Cert.SconvFwdReferenceIdeal Cert.SconvFwdReferenceIdeal.Gen Cert.SconvFwdReferenceIdeal.Value

theorem two (x : FVec Ideal S8192x1024 .f32) :
    concatenate S8192x1024 0 [⟨S2x1024, (broadcastInDim S2x1024 ![] bcast_S_S2x1024 (constant S_ .f32 0x00000000#32))⟩, ⟨S8190x1024, (extractStridedSlice S8190x1024 ![0, 0] x slices_S8192x1024_S8190x1024_0_0)⟩] concatenates_S2x1024_S8190x1024_S8192x1024_d0
      = (downs (m := 8192) 2 x : FVec Ideal S8192x1024 .f32) := by
  funext j
  idx_vars j
  pointwise [downs]
  rfl

theorem one (x : FVec Ideal S8192x1024 .f32) :
    concatenate S8192x1024 0 [⟨S1x1024, (broadcastInDim S1x1024 ![] bcast_S_S1x1024 (constant S_ .f32 0x00000000#32))⟩, ⟨S8191x1024, (extractStridedSlice S8191x1024 ![0, 0] x slices_S8192x1024_S8191x1024_0_0)⟩] concatenates_S1x1024_S8191x1024_S8192x1024_d0
      = (downs (m := 8192) 1 x : FVec Ideal S8192x1024 .f32) := by
  funext j
  idx_vars j
  pointwise [downs]
  rfl

theorem product (p : FVec Ideal S8192x7168 .bf16) :
    (mulf (extf .f32 (extractStridedSlice S8192x1024 ![0, 5120] p slices_S8192x7168_S8192x1024_0_5120) bitsLt_bf16_f32) (extf .f32 (extractStridedSlice S8192x1024 ![0, 6144] p slices_S8192x7168_S8192x1024_0_6144) bitsLt_bf16_f32)) = (times (M := 8192) (N := 1024) (group p 5120 (by omega)) (group p 6144 (by omega)) : FVec Ideal S8192x1024 .f32) := by
  funext j
  idx_vars j
  pointwise [times, group]

theorem out (p : FVec Ideal S8192x7168 .bf16) (x y z : FVec Ideal S8192x1024 .f32) (w : FVec Ideal S8x1024 .f32) (mix : FVec Ideal S8192x2048 .bf16) (u : Mat 8192 1024)
    (hx : x = (u : FVec Ideal S8192x1024 .f32))
    (hy : y = (downs (m := 8192) 2 x : FVec Ideal S8192x1024 .f32)) (hz : z = (downs (m := 8192) 1 x : FVec Ideal S8192x1024 .f32)) :
    concatenate S8192x2048 1 [⟨S8192x1024, (extractStridedSlice S8192x1024 ![0, 0] mix slices_S8192x2048_S8192x1024_0_0)⟩, ⟨S8192x1024, (truncf .bf16 (mulf (extf .f32 (extractStridedSlice S8192x1024 ![0, 4096] p slices_S8192x7168_S8192x1024_0_4096) bitsLt_bf16_f32) (addf (addf (mulf y (broadcastInDim S8192x1024 ![0, 1] bcast_S1x1024_S8192x1024_0_1 (extractStridedSlice S1x1024 ![0, 0] w slices_S8x1024_S1x1024_0_0))) (mulf z (broadcastInDim S8192x1024 ![0, 1] bcast_S1x1024_S8192x1024_0_1 (extractStridedSlice S1x1024 ![1, 0] w slices_S8x1024_S1x1024_1_0)))) (mulf x (broadcastInDim S8192x1024 ![0, 1] bcast_S1x1024_S8192x1024_0_1 (extractStridedSlice S1x1024 ![2, 0] w slices_S8x1024_S1x1024_2_0))))) bitsLt_bf16_f32)⟩] concatenates_S8192x1024_S8192x1024_S8192x2048_d1
      = (joined mix (times (M := 8192) (N := 1024) (group p 4096 (by omega)) (conv3 (downs 2 u) (downs 1 u) u w)) : FVec Ideal S8192x2048 .bf16) := by
  subst hx hy hz
  funext j
  idx_vars j
  pointwise [joined, times, conv3, group]

variable (m : (ℓ : Loc nD τ sig) → Buf (Elt Ideal) ℓ) (c : Dev nD)
abbrev A : Mat 8192 7168 := m (c.tc.loc main_arg0)
abbrev B : Mat 8 1024 := m (c.tc.loc main_arg1)
abbrev C : Mat 8192 2048 := m (c.tc.loc main_arg2)

end Reference

open Cert.SconvFwdIdeal Cert.SconvFwdIdeal.Gen Idealize.ShloMosaic Idealize.ShloMosaic.TcCoe Idealize.SL.Sem
open Idealize.ShloMosaic.Pipeline (Dat)

section body
variable (c : Dev nD) (i : grid0.Coords) (a0 : Memref sig .tc .vmem S512x1024 .bf16) (h0 : a0.IsWhole) (a1 : Memref sig .tc .vmem S512x1024 .bf16) (h1 : a1.IsWhole) (a2 : Memref sig .tc .vmem S512x1024 .bf16) (h2 : a2.IsWhole) (a3 : Memref sig .tc .vmem S16x1024 .bf16) (h3 : a3.IsWhole) (a4 : Memref sig .tc .vmem S16x1024 .bf16) (h4 : a4.IsWhole) (a5 : Memref sig .tc .vmem S8x1024 .f32) (h5 : a5.IsWhole) (a6 : Memref sig .tc .vmem S512x1024 .bf16) (h6 : a6.IsWhole)
  (x0 : Vec Ideal S512x1024 .bf16) (x1 : Vec Ideal S512x1024 .bf16) (x2 : Vec Ideal S512x1024 .bf16) (x3 : Vec Ideal S16x1024 .bf16) (x4 : Vec Ideal S16x1024 .bf16) (x5 : Vec Ideal S8x1024 .f32)

abbrev conv (i : grid0.Coords) (x1 x2 : Mat 512 1024) (x3 x4 : Mat 16 1024) (x5 : Mat 8 1024) : Mat 512 1024 :=
  conv3 (down 2 (by omega) ((i 0).val = 0) (times x3 x4) (times x1 x2)) (down 1 (by omega) ((i 0).val = 0) (times x3 x4) (times x1 x2)) (times x1 x2) x5

theorem out6 : out0_A_6 c i a0 h0 a1 h1 a2 h2 a3 h3 a4 h4 a5 h5 a6 h6 x0 x1 x2 x3 x4 x5 = times (M := 512) (N := 1024) x0 (conv i x1 x2 x3 x4 x5) := by
  unfold out0_A_6
  rw [View.read_writes_eq_canon _ _ _ (cover0_A_6 c i a0 h0 a1 h1 a2 h2 a3 h3 a4 h4 a5 h5 a6 h6 x0 x1 x2 x3 x4 x5)]
  unfold kernelRun0_A
  dsimp only
  rw [View.canon_unit_zero (S := S512x1024) hz]
  simp only [kernelRun0_A.sl.r_1, kernelRun0_A.sl.r_2, kernelRun0_A.sl.r, View.readAt_eq_ld, h0.read_unread, h1.read_unread, h2.read_unread, h3.read_unread, h4.read_unread, h5.read_unread, View.ld_unit_zero (S := S512x1024) hz, View.ld_unit_zero (S := S16x1024) hz, shapeCast_self]
  funext j
  idx_vars j
  unfold_payloads
  pointwise [conv3, down, times]
  have hb : (i 0).val < 16 := (i 0).isLt
  refine congrArg (_ * ·) ?_
  exact congrArg₂ (· + ·) (congrArg₂ (· + ·)
    (congrArg (· * _) (select_down 2 (Or.inr rfl) _ hb (fun r => x3 (ix2 r j1) * x4 (ix2 r j1)) (fun r => x1 (ix2 r j1) * x2 (ix2 r j1)) j0 _ _ _))
    (congrArg (· * _) (select_down 1 (Or.inl rfl) _ hb (fun r => x3 (ix2 r j1) * x4 (ix2 r j1)) (fun r => x1 (ix2 r j1) * x2 (ix2 r j1)) j0 _ _ _))) rfl
end body

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 4)
    ∧ (win0_1.index t 0 = t.val ∧ win0_1.index t 1 = 5)
    ∧ (win0_2.index t 0 = t.val ∧ win0_2.index t 1 = 6)
    ∧ (win0_3.index t 0 = t.val * 32 - 1 ∧ win0_3.index t 1 = 5)
    ∧ (win0_4.index t 0 = t.val * 32 - 1 ∧ win0_4.index t 1 = 6)
    ∧ (win0_5.index t 0 = 0 ∧ win0_5.index t 1 = 0)
    ∧ (win0_6.index t 0 = t.val ∧ win0_6.index t 1 = 1)
    ∧ (grid0.coords t 0).val = t.val :=
  (by decide +kernel : ∀ t : Fin grid0.N, _)

abbrev A (c : Dev nD) : Mat 8192 7168 := m ((c : Thread nD τ).loc main_arg0)
abbrev B (c : Dev nD) : Mat 8 1024 := m ((c : Thread nD τ).loc main_arg1)
abbrev C (c : Dev nD) : Mat 8192 2048 := m ((c : Thread nD τ).loc main_arg2)

abbrev b0 (c : Dev nD) (t : Fin cfg0.N) : Mat 512 1024 := iblk m c 0 t
theorem blk0 (c : Dev nD) (t : Fin cfg0.N) : IsBlk (t.val * 512) (4096) (b0 m c t) (A m c) := by
  intro y j h0 h1
  unfold b0 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_0.index t 0 * 512 + 1 * (y 0).val = (j 0).val; rw [(idx t).1.1]; omega
  | ⟨1, _⟩ => show win0_0.index t 1 * 1024 + 1 * (y 1).val = (j 1).val; rw [(idx t).1.2]; omega

abbrev b1 (c : Dev nD) (t : Fin cfg0.N) : Mat 512 1024 := iblk m c 1 t
theorem blk1 (c : Dev nD) (t : Fin cfg0.N) : IsBlk (t.val * 512) (5120) (b1 m c t) (A m c) := by
  intro y j h0 h1
  unfold b1 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_1.index t 0 * 512 + 1 * (y 0).val = (j 0).val; rw [(idx t).2.1.1]; omega
  | ⟨1, _⟩ => show win0_1.index t 1 * 1024 + 1 * (y 1).val = (j 1).val; rw [(idx t).2.1.2]; omega

abbrev b2 (c : Dev nD) (t : Fin cfg0.N) : Mat 512 1024 := iblk m c 2 t
theorem blk2 (c : Dev nD) (t : Fin cfg0.N) : IsBlk (t.val * 512) (6144) (b2 m c t) (A m c) := by
  intro y j h0 h1
  unfold b2 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_2.index t 0 * 512 + 1 * (y 0).val = (j 0).val; rw [(idx t).2.2.1.1]; omega
  | ⟨1, _⟩ => show win0_2.index t 1 * 1024 + 1 * (y 1).val = (j 1).val; rw [(idx t).2.2.1.2]; omega

abbrev b3 (c : Dev nD) (t : Fin cfg0.N) : Mat 16 1024 := iblk m c 3 t
theorem blk3 (c : Dev nD) (t : Fin cfg0.N) : IsBlk (t.val * 512 - 16) (5120) (b3 m c t) (A m c) := by
  intro y j h0 h1
  unfold b3 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_3.index t 0 * 16 + 1 * (y 0).val = (j 0).val; rw [(idx t).2.2.2.1.1]; omega
  | ⟨1, _⟩ => show win0_3.index t 1 * 1024 + 1 * (y 1).val = (j 1).val; rw [(idx t).2.2.2.1.2]; omega

abbrev b4 (c : Dev nD) (t : Fin cfg0.N) : Mat 16 1024 := iblk m c 4 t
theorem blk4 (c : Dev nD) (t : Fin cfg0.N) : IsBlk (t.val * 512 - 16) (6144) (b4 m c t) (A m c) := by
  intro y j h0 h1
  unfold b4 iblk
  rw [View.read_apply]
  show V m c main_arg0 _ = m (c.tc.loc main_arg0) _
  refine (congrFun (show V m c main_arg0 = m (c.tc.loc main_arg0) from rfl) _).trans ?_
  congr 1
  funext a
  apply Fin.ext
  match a with
  | ⟨0, _⟩ => show win0_4.index t 0 * 16 + 1 * (y 0).val = (j 0).val; rw [(idx t).2.2.2.2.1.1]; omega
  | ⟨1, _⟩ => show win0_4.index t 1 * 1024 + 1 * (y 1).val = (j 1).val; rw [(idx t).2.2.2.2.1.2]; omega

abbrev b5 (c : Dev nD) (t : Fin cfg0.N) : Mat 8 1024 := iblk m c 5 t
theorem blk5 (c : Dev nD) (t : Fin cfg0.N) : IsBlk (0) (0) (b5 m c t) (B m c) := by
  intro y j h0 h1
  unfold b5 iblk
  rw [View.read_apply]
  show V m c main_arg1 _ = m (c.tc.loc main_arg1) _
  refine (congrFun (show V m c main_arg1 = m (c.tc.loc main_arg1) from rfl) _).trans ?_
  congr 1
  funext a
  apply Fin.ext
  match a with
  | ⟨0, _⟩ => show win0_5.index t 0 * 8 + 1 * (y 0).val = (j 0).val; rw [(idx t).2.2.2.2.2.1.1]; omega
  | ⟨1, _⟩ => show win0_5.index t 1 * 1024 + 1 * (y 1).val = (j 1).val; rw [(idx t).2.2.2.2.2.1.2]; omega

def G6 (c : Dev nD) : Buf (Elt Ideal) ((c : Thread nD τ).loc main_v0) := (joined (C m c) (times (group (A m c) 4096 (by omega)) (conv3 (downs 2 (times (group (A m c) 5120 (by omega)) (group (A m c) 6144 (by omega)))) (downs 1 (times (group (A m c) 5120 (by omega)) (group (A m c) 6144 (by omega)))) (times (group (A m c) 5120 (by omega)) (group (A m c) 6144 (by omega))) (B m c))) : Mat 8192 2048)

set_option maxRecDepth 100000 in
theorem flushed6_eq (c : Dev nD) (t : Fin cfg0.N) :
    (dats m 0 c).flushed 6 t = ((cfg0.win 6).blk t).view.read (Elt Ideal) (G6 m c) := by
  have e : IsBlk (t.val * 512) (1024) (times (M := 512) (N := 1024) (b0 m c t) (conv (grid0.coords t) (b1 m c t) (b2 m c t) (b3 m c t) (b4 m c t) (b5 m c t)) : Mat 512 1024) (G6 m c : Mat 8192 2048) := by
    have ht : (grid0.coords t 0).val = 0 ↔ t.val * 512 = 0 := by rw [(idx t).2.2.2.2.2.2.2]; omega
    refine IsBlk.joined ?_
    have hx := ((blk1 m c t).group (p := 5120) (h := by omega) rfl).times ((blk2 m c t).group (p := 6144) (h := by omega) rfl)
    have hh := ((blk3 m c t).group (p := 5120) (h := by omega) rfl).times ((blk4 m c t).group (p := 6144) (h := by omega) rfl)
    exact ((blk0 m c t).group (p := 4096) (h := by omega) rfl).times ((hx.down 2 _ _ ht (by omega) hh).conv3 (hx.down 1 _ _ ht (by omega) hh) hx (blk5 m c t))
  have hf : (dats m 0 c).flushed 6 t = (cfg0.win 6).cut (grid0.coords t) (times (M := 512) (N := 1024) (b0 m c t) (conv (grid0.coords t) (b1 m c t) (b2 m c t) (b3 m c t) (b4 m c t) (b5 m c t)) : Mat 512 1024) := by
    rw [Value.flushed6_A m c t, out6]
  rw [hf]
  funext y
  rw [View.read_apply]
  refine e y ((win0_6.rect t).emb y) ?_ ?_
  · rw [win0_6.rect_emb_val, (idx t).2.2.2.2.2.2.1.1]; show t.val * 512 + (y 0).val = _; omega
  · rw [win0_6.rect_emb_val, (idx t).2.2.2.2.2.2.1.2]; show 1 * 1024 + (y 1).val = _; omega

theorem final6 (c : Dev nD) : (dats m 0 c).arrAt 6 cfg0.N = G6 m c := by
  funext i
  rw [(dats m 0 c).arrAt_eq_piecewise 6 (G6 m c) (fun t _ => flushed6_eq m c t) i]
  split
  · rfl
  · rename_i h
    have h0 : (i 0).val < 8192 := (i 0).isLt
    have h1 : (i 1).val < 2048 := (i 1).isLt
    have hN : cfg0.N = 16 := N_0
    have hl : (i 1).val < 1024 := by
      by_contra hc
      let t : Fin cfg0.N := ⟨(i 0).val / 512, by omega⟩
      refine h ⟨t, flush0_6 t, ?_⟩
      show i ∈ ((View.whole main_v0).slice (win0_6.rect t)).set
      rw [View.set_slice_whole, Rect.mem_set_unit]
      intro a
      match a with
      | ⟨0, _⟩ =>
        show win0_6.index t 0 * 512 ≤ (i 0 : Nat) ∧ (i 0 : Nat) < win0_6.index t 0 * 512 + 512
        rw [(idx t).2.2.2.2.2.2.1.1]; dsimp only [t]; omega
      | ⟨1, _⟩ =>
        show win0_6.index t 1 * 1024 ≤ (i 1 : Nat) ∧ (i 1 : Nat) < win0_6.index t 1 * 1024 + 1024
        rw [(idx t).2.2.2.2.2.2.1.2]; omega
    rw [A_eq]
    have e : (G6 m c : Mat 8192 2048) i = C m c i := dif_pos hl
    exact Eq.trans (by rfl) e.symm

theorem reference_frame : Cert.quiescent_SconvFwdReferenceIdeal := fun m ρ _ =>
  (θ_run (Cert.SconvFwdReferenceIdeal.defs (F := Ideal)) _ _).mono
    (fun r h => ⟨fun c => (h c).2, Idealize.ShloMosaic.sem_eq_zero_of_no_sems (by decide) r.2⟩) (Cert.SconvFwdReferenceIdeal.Value.run m ρ)

theorem claim : Cert.algebraic_SconvFwdIdeal_SconvFwdReferenceIdeal := by
  intro m ρ m' ρ' _ hagree
  refine ⟨fun c => G6 m c, (θ_run defs _ _).mono (fun _ h c => ⟨(h c).1.trans (final6 m c), (h c).2⟩) (Value.run_blocks m ρ),
    (θ_run Cert.SconvFwdReferenceIdeal.defs _ _).mono (fun _ h c => ⟨(h c).1.trans ?_, (h c).2⟩) (Cert.SconvFwdReferenceIdeal.Value.run m' ρ')⟩
  · refine (Reference.out (Reference.A m' c) _ _ _ (Reference.B m' c) (Reference.C m' c) _ (Reference.product _) (Reference.two _) (Reference.one _)).trans ?_
    dsimp only [Reference.A, Reference.B, Reference.C]
    rw [(hagree c).1, (hagree c).2.1, (hagree c).2.2]
    rfl

end Cert.Convs.SconvFwd

end
-- ==== Proof.Norms.LossBwd.lean ====
module

public import proofs.«01_k».proof.Proof.Gen.LossBwdIdeal.Value
public import proofs.«01_k».proof.Proof.Gen.LossBwdReferenceIdeal.Run
public import proofs.«01_k».proof.Defs
public import proofs.«01_k».proof.Proof.Norms.Common

@[expose] public section

noncomputable section

/-! The last norm, the loss, and the gradient of both. -/

namespace Cert.Norms.LossBwd

namespace Reference
open Idealize.ShloMosaic Idealize.ShloMosaic.TcCoe Idealize.SL.Sem
open Cert.LossBwdReferenceIdeal Cert.LossBwdReferenceIdeal.Gen Cert.LossBwdReferenceIdeal.Value

theorem weighted (dh : FVec Ideal S8192x2048 .f32) (w : FVec Ideal S1x2048 .f32) :
    (shapeCast S8192x2048 (mulf (shapeCast _ dh shapeCasts_S8192x2048_S1024x8x2048) (broadcastInDim S1024x8x2048 ![0, 1, 2] bcast_S1x8x2048_S1024x8x2048_0_1_2 (broadcastInDim S1x8x2048 ![1, 2] bcast_S8x2048_S1x8x2048_1_2 (shapeCast _ (broadcastInDim S8x1x1x2048 ![0, 1, 2, 3] bcast_S1x1x1x2048_S8x1x1x2048_0_1_2_3 (shapeCast _ w shapeCasts_S1x2048_S1x1x1x2048)) shapeCasts_S8x1x1x2048_S8x2048)))) shapeCasts_S1024x8x2048_S8192x2048)
      = (scaled (M := 8192) dh w : FVec Ideal S8192x2048 .f32) := by
  funext j
  idx_vars j
  pointwise [scaled]

theorem variance (x : FVec Ideal S8192x2048 .f32) :
    (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))
      = (vars (M := 8192) x : FVec Ideal S8192x1 .f32) := by
  funext j
  idx_vars j
  pointwise [vars, row, var]

theorem gradient (dy x : FVec Ideal S8192x2048 .f32) (v : FVec Ideal S8192x1 .f32) (g : Mat 8192 2048) (hg : dy = (g : FVec Ideal S8192x2048 .f32))
    (hv : v = (vars (M := 8192) x : FVec Ideal S8192x1 .f32)) :
    addf (addf (mulf dy (broadcastInDim S8192x2048 ![0, 1] bcast_S8192x1_S8192x2048_0_1 (Host.rsqrt v))) (mulf x (broadcastInDim S8192x2048 ![0] bcast_S8192_S8192x2048_0 (Host.reduceAdd (Host.divf (mulf (shapeCast _ (Host.reduceAdd (mulf x dy) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt v) v))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x dy) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt v) v))) (broadcastInDim S8192x1 ![] bcast_S_S8192x1 (constant S_ .f32 0x45000000#32))) (constant S_ .f32 0x00000000#32) reducesTo_S8192x1_S8192_d1 h_S_)) x)
      = (grads (M := 8192) g x : FVec Ideal S8192x2048 .f32) := by
  subst hg
  refine Eq.trans ?_ (funext fun j => vjp_eq (M := 8192) dy x j)
  rw [← hv]
  funext j
  idx_vars j
  pointwise [vjp]
  simp only [Fin.sum_univ_one]

theorem normed (x : FVec Ideal S8192x2048 .f32) (v : FVec Ideal S8192x1 .f32) (hv : v = (vars (M := 8192) x : FVec Ideal S8192x1 .f32)) :
    mulf x (broadcastInDim S8192x2048 ![0, 1] bcast_S8192x1_S8192x2048_0_1 (Host.rsqrt v)) = (hats (M := 8192) x : FVec Ideal S8192x2048 .f32) := by
  subst hv
  funext j
  idx_vars j
  pointwise [hats, hat, inv, vars, row]

theorem eighths (y : FVec Ideal S8192x2048 .f32) (g : FVec Ideal S1024x8x2048 .f32) (h : Mat 8192 2048) (hy : y = (h : FVec Ideal S8192x2048 .f32))
    (d : FVec Ideal S8192x2048 .f32) (hg : g = shapeCast _ d shapeCasts_S8192x2048_S1024x8x2048) :
    Host.reduceAdd (shapeCast _ (Host.reduceAdd (mulf (shapeCast _ y shapeCasts_S8192x2048_S1024x8x2048) g) (constant S_ .f32 0x00000000#32) reducesTo_S1024x8x2048_S8x2048_d0 h_S_) shapeCasts_S8x2048_S1x8x2048) (constant S_ .f32 0x00000000#32) reducesTo_S1x8x2048_S8x2048_d0 h_S_
      = (rows8 (M := 8192) 1024 rfl (times (M := 8192) (N := 2048) d h) : FVec Ideal S8x2048 .f32) := by
  subst hy hg
  funext j
  idx_vars j
  pointwise [rows8, times]
  simp only [Fin.sum_univ_one]
  exact Finset.sum_congr rfl fun k _ => mul_comm (_ : EReal) _

variable (m : (ℓ : Loc nD τ sig) → Buf (Elt Ideal) ℓ) (c : Dev nD)
abbrev A : Mat 8192 2048 := m (c.tc.loc main_arg0)
abbrev B : Mat 8192 2048 := m (c.tc.loc main_arg1)
abbrev C : Mat 1 2048 := m (c.tc.loc main_arg2)

theorem diff (h t : FVec Ideal S8192x2048 .f32) (w : FVec Ideal S1x2048 .f32) (y : FVec Ideal S8192x2048 .f32) (g : Mat 8192 2048)
    (hh : h = (g : FVec Ideal S8192x2048 .f32)) (hy : y = (scaled (M := 8192) h w : FVec Ideal S8192x2048 .f32)) :
    subf y t = (minus (M := 8192) (N := 2048) (scaled g w) t : FVec Ideal S8192x2048 .f32) := by
  subst hh hy
  rfl

theorem pulled (e : FVec Ideal S8192x2048 .f32) (g : Mat 8192 2048) (h : e = (g : FVec Ideal S8192x2048 .f32)) :
    mulf (broadcastInDim S8192x2048 ![0] bcast_S8192_S8192x2048_0 (Host.divf (broadcastInDim S8192 ![] bcast_S_S8192 (mulf (constant S_ .f32 0x3F000000#32) (constant S_ .f32 0x3F800000#32))) (broadcastInDim S8192 ![] bcast_S_S8192 (constant S_ .f32 0x45000000#32)))) (mulf (broadcastInDim S8192x2048 ![] bcast_S_S8192x2048 (constant S_ .f32 0x40000000#32)) e)
      = (byConst (M := 8192) (N := 2048) (Ideal.ofBits .f32 0x3A000000#32) g : FVec Ideal S8192x2048 .f32) := by
  subst h
  funext j
  idx_vars j
  pointwise [byConst]
  exact diff_eq _

theorem reweighted (dh : FVec Ideal S8192x2048 .f32) (w : FVec Ideal S1x2048 .f32) (g : Mat 8192 2048) (h : dh = (g : FVec Ideal S8192x2048 .f32))
    (y : FVec Ideal S8192x2048 .f32) (hy : y = (scaled (M := 8192) dh w : FVec Ideal S8192x2048 .f32)) :
    y = (scaled (M := 8192) g w : FVec Ideal S8192x2048 .f32) := by
  subst h hy
  rfl

theorem summed (e : FVec Ideal S8192x2048 .f32) (g : Mat 8192 2048) (h : e = (g : FVec Ideal S8192x2048 .f32)) :
    pad S8x128 ![0, 0] ![7, 127] ![0, 0] (shapeCast _ (mulf (constant S_ .f32 0x3F000000#32) (Host.reduceAdd (Host.divf (Host.reduceAdd (mulf e e) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)) shapeCasts_S_S1x1) (sitofp .f32 (constantI S_ 32 0#32)) pads_S1x1_S8x128_070_01270 h_S_
      = (losses (M := 8192) g : FVec Ideal S8x128 .f32) := by
  subst h
  funext j
  idx_vars j
  pointwise [losses, row]
  by_cases hc : j0.val = 0 ∧ j1.val = 0
  · rw [dif_pos ⟨by omega, by omega⟩, if_pos hc, half]
    simp only [mul_comm (((1 / 2 : ℝ)) : EReal)]
    exact (sum_mul_coe _ _ (by norm_num)).symm
  · rw [dif_neg (fun h => hc ⟨by omega, by omega⟩), if_neg hc]
    show (((0#32 : BitVec 32).toInt : ℝ) : EReal) = 0
    simp

theorem eighths' (y : FVec Ideal S8192x2048 .f32) (g : FVec Ideal S1024x8x2048 .f32) (h : Mat 8192 2048) (hy : y = (h : FVec Ideal S8192x2048 .f32))
    (d : FVec Ideal S8192x2048 .f32) (f : Mat 8192 2048) (hd : d = (f : FVec Ideal S8192x2048 .f32)) (hg : g = shapeCast _ d shapeCasts_S8192x2048_S1024x8x2048) :
    Host.reduceAdd (shapeCast _ (Host.reduceAdd (mulf (shapeCast _ y shapeCasts_S8192x2048_S1024x8x2048) g) (constant S_ .f32 0x00000000#32) reducesTo_S1024x8x2048_S8x2048_d0 h_S_) shapeCasts_S8x2048_S1x8x2048) (constant S_ .f32 0x00000000#32) reducesTo_S1x8x2048_S8x2048_d0 h_S_
      = (rows8 (M := 8192) 1024 rfl (times (M := 8192) (N := 2048) f h) : FVec Ideal S8x2048 .f32) := by
  subst hd
  exact eighths y g h hy d hg

theorem ref3 : res_main_v57 m c = (grads (M := 8192) (scaled (M := 8192) (byConst (M := 8192) (N := 2048) (Ideal.ofBits .f32 0x3A000000#32) (minus (M := 8192) (N := 2048) (scaled (M := 8192) (hats (M := 8192) (A m c)) (C m c)) (B m c))) (C m c)) (A m c) : FVec Ideal S8192x2048 .f32) :=
  gradient _ _ _ _ (reweighted _ _ _ (pulled _ _ (diff _ _ _ _ _ (normed _ _ (variance _)) (weighted _ _))) _ (weighted _ _)) (variance _)

theorem ref4 : res_main_v58 m c = (grads (M := 8192) (scaled (M := 8192) (byConst (M := 8192) (N := 2048) (Ideal.ofBits .f32 0x3A000000#32) (minus (M := 8192) (N := 2048) (scaled (M := 8192) (hats (M := 8192) (A m c)) (C m c)) (B m c))) (C m c)) (A m c) : FVec Ideal S8192x2048 .bf16) :=
  congrArg (fun z : FVec Ideal S8192x2048 .f32 => truncf .bf16 z bitsLt_bf16_f32) (ref3 m c)

end Reference

open Cert.LossBwdIdeal Cert.LossBwdIdeal.Gen Idealize.ShloMosaic Idealize.ShloMosaic.TcCoe Idealize.SL.Sem
open Idealize.ShloMosaic.Pipeline (Dat)

section body
variable (c : Dev nD) (i : grid0.Coords) (a0 : Memref sig .tc .vmem S512x2048 .f32) (h0 : a0.IsWhole) (a1 : Memref sig .tc .vmem S512x2048 .f32) (h1 : a1.IsWhole) (a2 : Memref sig .tc .vmem S1x2048 .f32) (h2 : a2.IsWhole) (a3 : Memref sig .tc .vmem S512x2048 .f32) (h3 : a3.IsWhole) (a4 : Memref sig .tc .vmem S512x2048 .bf16) (h4 : a4.IsWhole) (a5 : Memref sig .tc .vmem S8x2048 .f32) (h5 : a5.IsWhole) (a6 : Memref sig .tc .vmem S8x128 .f32) (h6 : a6.IsWhole)
  (x0 : Vec Ideal S512x2048 .f32) (x1 : Vec Ideal S512x2048 .f32) (x2 : Vec Ideal S1x2048 .f32)
/-- What a point leaves in window 3. -/
theorem out3A (hc0 : cond0_0 i) :
    out0_A_3 c i a0 h0 a1 h1 a2 h2 a3 h3 a4 h4 a5 h5 a6 h6 hc0 x0 x1 x2 = grads (M := 512) (scaled (M := 512) (byConst (M := 512) (N := 2048) (Ideal.ofBits .f32 0x3A000000#32) (minus (M := 512) (N := 2048) (scaled (M := 512) (hats (M := 512) x0) x2) x1)) x2) x0 := by
  unfold out0_A_3
  rw [View.read_writes_eq_canon _ _ _ (cover0_A_3 c i a0 h0 a1 h1 a2 h2 a3 h3 a4 h4 a5 h5 a6 h6 hc0 x0 x1 x2)]
  unfold kernelRun0_A
  dsimp only
  rw [View.canon_cons_unit_zero hz]
  simp only [kernelRun0_A.sl.r, kernelRun0_A.sl.r_1, kernelRun0_A.sl.r_2]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
/-- What a point leaves in window 4. -/
theorem out4A (hc0 : cond0_0 i) :
    out0_A_4 c i a0 h0 a1 h1 a2 h2 a3 h3 a4 h4 a5 h5 a6 h6 hc0 x0 x1 x2 = grads (M := 512) (scaled (M := 512) (byConst (M := 512) (N := 2048) (Ideal.ofBits .f32 0x3A000000#32) (minus (M := 512) (N := 2048) (scaled (M := 512) (hats (M := 512) x0) x2) x1)) x2) x0 := by
  unfold out0_A_4
  rw [View.read_writes_eq_canon _ _ _ (cover0_A_4 c i a0 h0 a1 h1 a2 h2 a3 h3 a4 h4 a5 h5 a6 h6 hc0 x0 x1 x2)]
  unfold kernelRun0_A
  dsimp only
  rw [View.canon_cons_unit_zero hz]
  simp only [kernelRun0_A.sl.r, kernelRun0_A.sl.r_1, kernelRun0_A.sl.r_2]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
/-- What a point adds up. -/
theorem out5A (hc0 : cond0_0 i) :
    out0_A_5 c i a0 h0 a1 h1 a2 h2 a3 h3 a4 h4 a5 h5 a6 h6 hc0 x0 x1 x2 = rows8 (M := 512) 64 rfl (times (M := 512) (N := 2048) (byConst (M := 512) (N := 2048) (Ideal.ofBits .f32 0x3A000000#32) (minus (M := 512) (N := 2048) (scaled (M := 512) (hats (M := 512) x0) x2) x1)) (hats (M := 512) x0)) := by
  unfold out0_A_5
  rw [View.read_writes_eq_canon _ _ _ (cover0_A_5 c i a0 h0 a1 h1 a2 h2 a3 h3 a4 h4 a5 h5 a6 h6 hc0 x0 x1 x2)]
  unfold kernelRun0_A
  dsimp only
  rw [View.canon_cons_unit_zero hz]
  simp only [kernelRun0_A.sl.r_1, kernelRun0_A.sl.r_2, kernelRun0_A.sl.v45, kernelRun0_A.sl.H5_1, View.readCov_unit_zero (S := S8x2048) _ hz]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
/-- What a point adds up. -/
theorem out6A (hc0 : cond0_0 i) :
    out0_A_6 c i a0 h0 a1 h1 a2 h2 a3 h3 a4 h4 a5 h5 a6 h6 hc0 x0 x1 x2 = losses (M := 512) (minus (M := 512) (N := 2048) (scaled (M := 512) (hats (M := 512) x0) x2) x1) := by
  unfold out0_A_6
  rw [View.read_writes_eq_canon _ _ _ (cover0_A_6 c i a0 h0 a1 h1 a2 h2 a3 h3 a4 h4 a5 h5 a6 h6 hc0 x0 x1 x2)]
  unfold kernelRun0_A
  dsimp only
  rw [View.canon_cons_unit_zero hz]
  simp only [kernelRun0_A.sl.r_3, kernelRun0_A.sl.r_4, kernelRun0_A.sl.cst_16, kernelRun0_A.sl.v30, kernelRun0_A.sl.H6_1, View.readCov_unit_zero (S := S8x128) _ hz]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
  rw [select_first]
/-- What a point leaves in window 3. -/
theorem out3B (hc0 : ¬cond0_0 i) (s5 : Vec Ideal S8x2048 .f32) (s6 : Vec Ideal S8x128 .f32) :
    out0_B_3 c i a0 h0 a1 h1 a2 h2 a3 h3 a4 h4 a5 h5 a6 h6 hc0 x0 x1 x2 s5 s6 = grads (M := 512) (scaled (M := 512) (byConst (M := 512) (N := 2048) (Ideal.ofBits .f32 0x3A000000#32) (minus (M := 512) (N := 2048) (scaled (M := 512) (hats (M := 512) x0) x2) x1)) x2) x0 := by
  unfold out0_B_3
  rw [View.read_writes_eq_canon _ _ _ (cover0_B_3 c i a0 h0 a1 h1 a2 h2 a3 h3 a4 h4 a5 h5 a6 h6 hc0 x0 x1 x2 s5 s6)]
  unfold kernelRun0_B
  dsimp only
  rw [View.canon_cons_unit_zero hz]
  simp only [kernelRun0_B.sl.r, kernelRun0_B.sl.r_1, kernelRun0_B.sl.r_2]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
/-- What a point leaves in window 4. -/
theorem out4B (hc0 : ¬cond0_0 i) (s5 : Vec Ideal S8x2048 .f32) (s6 : Vec Ideal S8x128 .f32) :
    out0_B_4 c i a0 h0 a1 h1 a2 h2 a3 h3 a4 h4 a5 h5 a6 h6 hc0 x0 x1 x2 s5 s6 = grads (M := 512) (scaled (M := 512) (byConst (M := 512) (N := 2048) (Ideal.ofBits .f32 0x3A000000#32) (minus (M := 512) (N := 2048) (scaled (M := 512) (hats (M := 512) x0) x2) x1)) x2) x0 := by
  unfold out0_B_4
  rw [View.read_writes_eq_canon _ _ _ (cover0_B_4 c i a0 h0 a1 h1 a2 h2 a3 h3 a4 h4 a5 h5 a6 h6 hc0 x0 x1 x2 s5 s6)]
  unfold kernelRun0_B
  dsimp only
  rw [View.canon_cons_unit_zero hz]
  simp only [kernelRun0_B.sl.r, kernelRun0_B.sl.r_1, kernelRun0_B.sl.r_2]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
/-- What a point adds up. -/
theorem out5B (hc0 : ¬cond0_0 i) (s5 : Vec Ideal S8x2048 .f32) (s6 : Vec Ideal S8x128 .f32) :
    out0_B_5 c i a0 h0 a1 h1 a2 h2 a3 h3 a4 h4 a5 h5 a6 h6 hc0 x0 x1 x2 s5 s6 = plus (M := 8) (N := 2048) s5 (rows8 (M := 512) 64 rfl (times (M := 512) (N := 2048) (byConst (M := 512) (N := 2048) (Ideal.ofBits .f32 0x3A000000#32) (minus (M := 512) (N := 2048) (scaled (M := 512) (hats (M := 512) x0) x2) x1)) (hats (M := 512) x0))) := by
  unfold out0_B_5
  rw [View.read_writes_eq_canon _ _ _ (cover0_B_5 c i a0 h0 a1 h1 a2 h2 a3 h3 a4 h4 a5 h5 a6 h6 hc0 x0 x1 x2 s5 s6)]
  unfold kernelRun0_B
  dsimp only
  rw [View.canon_cons_unit_zero hz]
  simp only [kernelRun0_B.sl.r_1, kernelRun0_B.sl.r_2]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
/-- What a point adds up. -/
theorem out6B (hc0 : ¬cond0_0 i) (s5 : Vec Ideal S8x2048 .f32) (s6 : Vec Ideal S8x128 .f32) :
    out0_B_6 c i a0 h0 a1 h1 a2 h2 a3 h3 a4 h4 a5 h5 a6 h6 hc0 x0 x1 x2 s5 s6 = plus (M := 8) (N := 128) s6 (losses (M := 512) (minus (M := 512) (N := 2048) (scaled (M := 512) (hats (M := 512) x0) x2) x1)) := by
  unfold out0_B_6
  rw [View.read_writes_eq_canon _ _ _ (cover0_B_6 c i a0 h0 a1 h1 a2 h2 a3 h3 a4 h4 a5 h5 a6 h6 hc0 x0 x1 x2 s5 s6)]
  unfold kernelRun0_B
  dsimp only
  rw [View.canon_cons_unit_zero hz]
  simp only [kernelRun0_B.sl.r_3, kernelRun0_B.sl.r_4, kernelRun0_B.sl.cst_16]
  simp only [View.readAt_eq_ld, h0.read_unread, h1.read_unread, h2.read_unread, h5.read_unread, h6.read_unread, View.ld_unit_zero (S := S1x2048) hz, View.ld_unit_zero (S := S8x128) hz, View.ld_unit_zero (S := S8x2048) hz, View.ld_unit_zero (S := S512x2048) hz, shapeCast_self]
  funext j
  idx_vars j
  unfold_payloads
  pointwise [plus, times, scaled, rows8, hats, grads, row, grad, hat, inv, var, minus, byConst, losses]
  rw [select_first]
end body

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0)
    ∧ (win0_6.index t 0 = 0 ∧ win0_6.index t 1 = 0) :=
  (by decide +kernel : ∀ t : Fin grid0.N, _)

abbrev A (c : Dev nD) : Mat 8192 2048 := m ((c : Thread nD τ).loc main_arg0)
abbrev b0 (c : Dev nD) (t : Fin cfg0.N) : Mat 512 2048 := iblk m c 0 t

theorem blk0 (c : Dev nD) (t : Fin cfg0.N) : IsBlock t.val (b0 m c t) (A m c) := by
  intro y j h0 h1
  unfold b0 iblk
  rw [View.read_apply]
  show V m c main_arg0 _ = m (c.tc.loc main_arg0) _
  unfold V
  congr 1
  funext a
  apply Fin.ext
  match a with
  | ⟨0, _⟩ => show win0_0.index t 0 * 512 + 1 * (y 0).val = (j 0).val; rw [(idx t).1.1]; omega
  | ⟨1, _⟩ => show win0_0.index t 1 * 2048 + 1 * (y 1).val = (j 1).val; rw [(idx t).1.2]; omega

abbrev B (c : Dev nD) : Mat 8192 2048 := m ((c : Thread nD τ).loc main_arg1)
abbrev b1 (c : Dev nD) (t : Fin cfg0.N) : Mat 512 2048 := iblk m c 1 t

theorem blk1 (c : Dev nD) (t : Fin cfg0.N) : IsBlock t.val (b1 m c t) (B m c) := by
  intro y j h0 h1
  unfold b1 iblk
  rw [View.read_apply]
  show V m c main_arg1 _ = m (c.tc.loc main_arg1) _
  unfold V
  congr 1
  funext a
  apply Fin.ext
  match a with
  | ⟨0, _⟩ => show win0_1.index t 0 * 512 + 1 * (y 0).val = (j 0).val; rw [(idx t).2.1.1]; omega
  | ⟨1, _⟩ => show win0_1.index t 1 * 2048 + 1 * (y 1).val = (j 1).val; rw [(idx t).2.1.2]; omega

abbrev C (c : Dev nD) : Mat 1 2048 := m ((c : Thread nD τ).loc main_arg2)
abbrev b2 (c : Dev nD) (t : Fin cfg0.N) : Mat 1 2048 := iblk m c 2 t

theorem blk2 (c : Dev nD) (t : Fin cfg0.N) : b2 m c t = C m c := by
  funext j
  have h0 : (j 0).val = (j 0).val := rfl
  have h1 : (j 1).val = (j 1).val := rfl
  unfold b2 iblk
  rw [View.read_apply]
  show V m c main_arg2 _ = m (c.tc.loc main_arg2) _
  unfold V
  congr 1
  funext a
  apply Fin.ext
  match a with
  | ⟨0, _⟩ => show win0_2.index t 0 * 1 + 1 * (j 0).val = (j 0).val; rw [(idx t).2.2.1.1]; omega
  | ⟨1, _⟩ => show win0_2.index t 1 * 2048 + 1 * (j 1).val = (j 1).val; rw [(idx t).2.2.1.2]; omega

def G3 (c : Dev nD) : Buf (Elt Ideal) ((c : Thread nD τ).loc main_v0_0) := (grads (M := 8192) (scaled (M := 8192) (byConst (M := 8192) (N := 2048) (Ideal.ofBits .f32 0x3A000000#32) (minus (M := 8192) (N := 2048) (scaled (M := 8192) (hats (M := 8192) (A m c)) (C m c)) (B m c))) (C m c)) (A m c) : Mat 8192 2048)

set_option maxRecDepth 100000 in
theorem flushed3_eq (c : Dev nD) (t : Fin cfg0.N) :
    (dats m 0 c).flushed 3 t = ((cfg0.win 3).blk t).view.read (Elt Ideal) (G3 m c) := by
  have e : IsBlock t.val (grads (M := 512) (scaled (M := 512) (byConst (M := 512) (N := 2048) (Ideal.ofBits .f32 0x3A000000#32) (minus (M := 512) (N := 2048) (scaled (M := 512) (hats (M := 512) (b0 m c t)) (b2 m c t)) (b1 m c t))) (b2 m c t)) (b0 m c t) : Mat 512 2048) (G3 m c : Mat 8192 2048) := by
    rw [blk2 m c t]
    exact (((((blk0 m c t).hats.scaled _).minus (blk1 m c t)).byConst _).scaled _).grads (blk0 m c t)
  have hf : (dats m 0 c).flushed 3 t = (cfg0.win 3).cut (grid0.coords t) (grads (M := 512) (scaled (M := 512) (byConst (M := 512) (N := 2048) (Ideal.ofBits .f32 0x3A000000#32) (minus (M := 512) (N := 2048) (scaled (M := 512) (hats (M := 512) (b0 m c t)) (b2 m c t)) (b1 m c t))) (b2 m c t)) (b0 m c t) : Mat 512 2048) := by
    by_cases h0 : t.val % 16 = 0
    · rw [Value.flushed3_A m c t h0, out3A]
    · rw [Value.flushed3_B m c t h0, out3B]
  rw [hf]
  funext y
  rw [View.read_apply]
  refine e y ((win0_3.rect t).emb y) ?_ ?_
  · rw [win0_3.rect_emb_val, (idx t).2.2.2.1.1]; rfl
  · rw [win0_3.rect_emb_val, (idx t).2.2.2.1.2]; exact Nat.zero_add _

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 16 := N_0
  let t : Fin cfg0.N := ⟨(i 0).val / 512, by omega⟩
  refine ⟨t, flush0_3 t, ?_⟩
  show i ∈ ((View.whole main_v0_0).slice (win0_3.rect t)).set
  rw [View.set_slice_whole, Rect.mem_set_unit]
  intro a
  match a with
  | ⟨0, _⟩ =>
    show win0_3.index t 0 * 512 ≤ (i 0 : Nat) ∧ (i 0 : Nat) < win0_3.index t 0 * 512 + 512
    rw [(idx t).2.2.2.1.1]; dsimp only [t]; omega
  | ⟨1, _⟩ =>
    show win0_3.index t 1 * 2048 ≤ (i 1 : Nat) ∧ (i 1 : Nat) < win0_3.index t 1 * 2048 + 2048
    rw [(idx t).2.2.2.1.2]; omega

theorem final3 (c : Dev nD) : (dats m 0 c).arrAt 3 cfg0.N = G3 m c :=
  (dats m 0 c).arrAt_eq_of_cover 3 (G3 m c) (fun t _ => flushed3_eq m c t) cover3

def G4 (c : Dev nD) : Buf (Elt Ideal) ((c : Thread nD τ).loc main_v0_1) := (grads (M := 8192) (scaled (M := 8192) (byConst (M := 8192) (N := 2048) (Ideal.ofBits .f32 0x3A000000#32) (minus (M := 8192) (N := 2048) (scaled (M := 8192) (hats (M := 8192) (A m c)) (C m c)) (B m c))) (C m c)) (A m c) : Mat 8192 2048)

set_option maxRecDepth 100000 in
theorem flushed4_eq (c : Dev nD) (t : Fin cfg0.N) :
    (dats m 0 c).flushed 4 t = ((cfg0.win 4).blk t).view.read (Elt Ideal) (G4 m c) := by
  have e : IsBlock t.val (grads (M := 512) (scaled (M := 512) (byConst (M := 512) (N := 2048) (Ideal.ofBits .f32 0x3A000000#32) (minus (M := 512) (N := 2048) (scaled (M := 512) (hats (M := 512) (b0 m c t)) (b2 m c t)) (b1 m c t))) (b2 m c t)) (b0 m c t) : Mat 512 2048) (G4 m c : Mat 8192 2048) := by
    rw [blk2 m c t]
    exact (((((blk0 m c t).hats.scaled _).minus (blk1 m c t)).byConst _).scaled _).grads (blk0 m c t)
  have hf : (dats m 0 c).flushed 4 t = (cfg0.win 4).cut (grid0.coords t) (grads (M := 512) (scaled (M := 512) (byConst (M := 512) (N := 2048) (Ideal.ofBits .f32 0x3A000000#32) (minus (M := 512) (N := 2048) (scaled (M := 512) (hats (M := 512) (b0 m c t)) (b2 m c t)) (b1 m c t))) (b2 m c t)) (b0 m c t) : Mat 512 2048) := by
    by_cases h0 : t.val % 16 = 0
    · rw [Value.flushed4_A m c t h0, out4A]
    · rw [Value.flushed4_B m c t h0, out4B]
  rw [hf]
  funext y
  rw [View.read_apply]
  refine e y ((win0_4.rect t).emb y) ?_ ?_
  · rw [win0_4.rect_emb_val, (idx t).2.2.2.2.1.1]; rfl
  · rw [win0_4.rect_emb_val, (idx t).2.2.2.2.1.2]; exact Nat.zero_add _

theorem cover4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hN : cfg0.N = 16 := N_0
  let t : Fin cfg0.N := ⟨(i 0).val / 512, by omega⟩
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [(idx t).2.2.2.2.1.1]; dsimp only [t]; omega
  | ⟨1, _⟩ =>
    show win0_4.index t 1 * 2048 ≤ (i 1 : Nat) ∧ (i 1 : Nat) < win0_4.index t 1 * 2048 + 2048
    rw [(idx t).2.2.2.2.1.2]; omega

theorem final4 (c : Dev nD) : (dats m 0 c).arrAt 4 cfg0.N = G4 m c :=
  (dats m 0 c).arrAt_eq_of_cover 4 (G4 m c) (fun t _ => flushed4_eq m c t) cover4

/-- What point `t` adds to the sums. -/
def part5 (c : Dev nD) (t : Fin cfg0.N) : Mat 8 2048 := rows8 (M := 512) 64 rfl (times (M := 512) (N := 2048) (byConst (M := 512) (N := 2048) (Ideal.ofBits .f32 0x3A000000#32) (minus (M := 512) (N := 2048) (scaled (M := 512) (hats (M := 512) (b0 m c t)) (b2 m c t)) (b1 m c t))) (hats (M := 512) (b0 m c t)))
def parts5 (c : Dev nD) (n : ℕ) : Mat 8 2048 := if h : n < cfg0.N then part5 m c ⟨n, h⟩ else fun _ => 0
def G5 (c : Dev nD) : Buf (Elt Ideal) ((c : Thread nD τ).loc main_v0_2) := (rows8 (M := 8192) 1024 rfl (times (M := 8192) (N := 2048) (byConst (M := 8192) (N := 2048) (Ideal.ofBits .f32 0x3A000000#32) (minus (M := 8192) (N := 2048) (scaled (M := 8192) (hats (M := 8192) (A m c)) (C m c)) (B m c))) (hats (A m c))) : Mat 8 2048)

theorem whole5 (c : Dev nD) (i : S8x2048.Idx) : (G5 m c : Mat 8 2048) i = ∑ t ∈ Finset.range 16, parts5 m c t i := by
  have hN : cfg0.N = 16 := N_0
  refine (rows8_blocks (m := 512) (k := 64) 16 rfl rfl rfl _ (fun n => if h : n < cfg0.N then times (M := 512) (N := 2048) (byConst (M := 512) (N := 2048) (Ideal.ofBits .f32 0x3A000000#32) (minus (M := 512) (N := 2048) (scaled (M := 512) (hats (M := 512) (b0 m c ⟨n, h⟩)) (b2 m c ⟨n, h⟩)) (b1 m c ⟨n, h⟩))) (hats (M := 512) (b0 m c ⟨n, h⟩)) else fun _ => 0) (fun t ht => ?_) i).trans ?_
  · rw [dif_pos (hN.symm ▸ ht : t < cfg0.N)]
    exact by
      rw [blk2 m c ⟨t, _⟩]
      exact (((blk0 m c ⟨t, _⟩).hats.scaled _).minus (blk1 m c ⟨t, _⟩)).byConst _ |>.times (blk0 m c ⟨t, _⟩).hats
  · refine Finset.sum_congr rfl fun t ht => ?_
    have h : t < cfg0.N := hN.symm ▸ Finset.mem_range.mp ht
    rw [parts5, dif_pos h, dif_pos h]
    rfl

/-- What the points up to `n` leave in the sums. -/
theorem acc5 (c : Dev nD) : ∀ n h i, ((outsAt0 m c n h).2.2.1 : Mat 8 2048) i = ∑ t ∈ Finset.range (n + 1), parts5 m c t i := by
  have hN : cfg0.N = 16 := N_0
  refine acc_sum (N := cfg0.N) (fun n h => ((outsAt0 m c n h).2.2.1 : Mat 8 2048)) (parts5 m c) ?_ ?_
  · intro h
    rw [outsAt0_A m c ⟨0, h⟩ rfl]
    dsimp only
    rw [out5A, parts5, dif_pos h]
    rfl
  · intro n h
    rw [outsAt0_B m c ⟨n + 1, h⟩ (by show ¬(n + 1) % 16 = 0; omega)]
    dsimp only
    rw [out5B, parts5, dif_pos h]
    rfl

set_option maxRecDepth 100000 in
theorem flushed5_eq (c : Dev nD) (t : Fin cfg0.N) (h : t.val % 16 = 15) :
    (dats m 0 c).flushed 5 t = ((cfg0.win 5).blk t).view.read (Elt Ideal) (G5 m c) := by
  have hN : t.val < 16 := lt_of_lt_of_eq t.isLt (show cfg0.N = 16 from N_0)
  rw [Value.flushed5 m c t]
  funext y
  rw [View.read_apply]
  show ((outsAt0 m c t.val t.isLt).2.2.1 : Mat 8 2048) y = (G5 m c : Mat 8 2048) ((win0_5.rect t).emb y)
  rw [show (win0_5.rect t).emb y = y from funext fun a => Fin.ext (by
    match a with
    | ⟨0, _⟩ => show ((win0_5.rect t).emb y 0 : Nat) = (y 0).val; rw [win0_5.rect_emb_val, (idx t).2.2.2.2.2.1.1]; exact Nat.zero_add _
    | ⟨1, _⟩ => show ((win0_5.rect t).emb y 1 : Nat) = (y 1).val; rw [win0_5.rect_emb_val, (idx t).2.2.2.2.2.1.2]; exact Nat.zero_add _)]
  rw [acc5 m c t.val t.isLt y, whole5, show t.val + 1 = 16 by omega]

theorem cover5 (i : S8x2048.Idx) : ∃ t : Fin cfg0.N, (cfg0.win 5).flush t = true ∧ i ∈ ((cfg0.win 5).blk t).view.set := by
  have h0 : (i 0).val < 8 := (i 0).isLt
  have h1 : (i 1).val < 2048 := (i 1).isLt
  have hN : cfg0.N = 16 := N_0
  let t : Fin cfg0.N := ⟨15, by omega⟩
  refine ⟨t, (flush0_5 t).mpr (by dsimp only [t]), ?_⟩
  show i ∈ ((View.whole main_v0_2).slice (win0_5.rect t)).set
  rw [View.set_slice_whole, Rect.mem_set_unit]
  intro a
  match a with
  | ⟨0, _⟩ =>
    show win0_5.index t 0 * 8 ≤ (i 0 : Nat) ∧ (i 0 : Nat) < win0_5.index t 0 * 8 + 8
    rw [(idx t).2.2.2.2.2.1.1]; omega
  | ⟨1, _⟩ =>
    show win0_5.index t 1 * 2048 ≤ (i 1 : Nat) ∧ (i 1 : Nat) < win0_5.index t 1 * 2048 + 2048
    rw [(idx t).2.2.2.2.2.1.2]; omega

theorem final5 (c : Dev nD) : (dats m 0 c).arrAt 5 cfg0.N = G5 m c :=
  (dats m 0 c).arrAt_eq_of_cover 5 (G5 m c) (fun t hf => flushed5_eq m c t ((flush0_5 t).mp hf)) cover5

/-- What point `t` adds to the sums. -/
def part6 (c : Dev nD) (t : Fin cfg0.N) : Mat 8 128 := losses (M := 512) (minus (M := 512) (N := 2048) (scaled (M := 512) (hats (M := 512) (b0 m c t)) (b2 m c t)) (b1 m c t))
def parts6 (c : Dev nD) (n : ℕ) : Mat 8 128 := if h : n < cfg0.N then part6 m c ⟨n, h⟩ else fun _ => 0
def G6 (c : Dev nD) : Buf (Elt Ideal) ((c : Thread nD τ).loc main_v0_3) := (losses (M := 8192) (minus (M := 8192) (N := 2048) (scaled (M := 8192) (hats (M := 8192) (A m c)) (C m c)) (B m c)) : Mat 8 128)

theorem whole6 (c : Dev nD) (i : S8x128.Idx) : (G6 m c : Mat 8 128) i = ∑ t ∈ Finset.range 16, parts6 m c t i := by
  have hN : cfg0.N = 16 := N_0
  refine (losses_blocks (m := 512) 16 rfl _ (fun n => if h : n < cfg0.N then (minus (M := 512) (N := 2048) (scaled (M := 512) (hats (M := 512) (b0 m c ⟨n, h⟩)) (b2 m c ⟨n, h⟩)) (b1 m c ⟨n, h⟩)) else fun _ => 0) (fun t ht => ?_) i).trans ?_
  · rw [dif_pos (hN.symm ▸ ht : t < cfg0.N)]
    exact by
      rw [blk2 m c ⟨t, _⟩]
      exact ((blk0 m c ⟨t, _⟩).hats.scaled _).minus (blk1 m c ⟨t, _⟩)
  · refine Finset.sum_congr rfl fun t ht => ?_
    have h : t < cfg0.N := hN.symm ▸ Finset.mem_range.mp ht
    rw [parts6, dif_pos h, dif_pos h]
    rfl

/-- What the points up to `n` leave in the sums. -/
theorem acc6 (c : Dev nD) : ∀ n h i, ((outsAt0 m c n h).2.2.2 : Mat 8 128) i = ∑ t ∈ Finset.range (n + 1), parts6 m c t i := by
  have hN : cfg0.N = 16 := N_0
  refine acc_sum (N := cfg0.N) (fun n h => ((outsAt0 m c n h).2.2.2 : Mat 8 128)) (parts6 m c) ?_ ?_
  · intro h
    rw [outsAt0_A m c ⟨0, h⟩ rfl]
    dsimp only
    rw [out6A, parts6, dif_pos h]
    rfl
  · intro n h
    rw [outsAt0_B m c ⟨n + 1, h⟩ (by show ¬(n + 1) % 16 = 0; omega)]
    dsimp only
    rw [out6B, parts6, dif_pos h]
    rfl

set_option maxRecDepth 100000 in
theorem flushed6_eq (c : Dev nD) (t : Fin cfg0.N) (h : t.val % 16 = 15) :
    (dats m 0 c).flushed 6 t = ((cfg0.win 6).blk t).view.read (Elt Ideal) (G6 m c) := by
  have hN : t.val < 16 := lt_of_lt_of_eq t.isLt (show cfg0.N = 16 from N_0)
  rw [Value.flushed6 m c t]
  funext y
  rw [View.read_apply]
  show ((outsAt0 m c t.val t.isLt).2.2.2 : Mat 8 128) y = (G6 m c : Mat 8 128) ((win0_6.rect t).emb y)
  rw [show (win0_6.rect t).emb y = y from funext fun a => Fin.ext (by
    match a with
    | ⟨0, _⟩ => show ((win0_6.rect t).emb y 0 : Nat) = (y 0).val; rw [win0_6.rect_emb_val, (idx t).2.2.2.2.2.2.1]; exact Nat.zero_add _
    | ⟨1, _⟩ => show ((win0_6.rect t).emb y 1 : Nat) = (y 1).val; rw [win0_6.rect_emb_val, (idx t).2.2.2.2.2.2.2]; exact Nat.zero_add _)]
  rw [acc6 m c t.val t.isLt y, whole6, show t.val + 1 = 16 by omega]

theorem cover6 (i : S8x128.Idx) : ∃ t : Fin cfg0.N, (cfg0.win 6).flush t = true ∧ i ∈ ((cfg0.win 6).blk t).view.set := by
  have h0 : (i 0).val < 8 := (i 0).isLt
  have h1 : (i 1).val < 128 := (i 1).isLt
  have hN : cfg0.N = 16 := N_0
  let t : Fin cfg0.N := ⟨15, by omega⟩
  refine ⟨t, (flush0_6 t).mpr (by dsimp only [t]), ?_⟩
  show i ∈ ((View.whole main_v0_3).slice (win0_6.rect t)).set
  rw [View.set_slice_whole, Rect.mem_set_unit]
  intro a
  match a with
  | ⟨0, _⟩ =>
    show win0_6.index t 0 * 8 ≤ (i 0 : Nat) ∧ (i 0 : Nat) < win0_6.index t 0 * 8 + 8
    rw [(idx t).2.2.2.2.2.2.1]; omega
  | ⟨1, _⟩ =>
    show win0_6.index t 1 * 128 ≤ (i 1 : Nat) ∧ (i 1 : Nat) < win0_6.index t 1 * 128 + 128
    rw [(idx t).2.2.2.2.2.2.2]; omega

theorem final6 (c : Dev nD) : (dats m 0 c).arrAt 6 cfg0.N = G6 m c :=
  (dats m 0 c).arrAt_eq_of_cover 6 (G6 m c) (fun t hf => flushed6_eq m c t ((flush0_6 t).mp hf)) cover6

theorem reference_frame : Cert.quiescent_LossBwdReferenceIdeal := fun m ρ _ =>
  (θ_run (Cert.LossBwdReferenceIdeal.defs (F := Ideal)) _ _).mono
    (fun r h => ⟨fun c => (h c).2.2.2.2, Idealize.ShloMosaic.sem_eq_zero_of_no_sems (by decide) r.2⟩) (Cert.LossBwdReferenceIdeal.Value.run m ρ)

theorem claim : Cert.algebraic_LossBwdIdeal_LossBwdReferenceIdeal := by
  intro m ρ m' ρ' _ hagree
  refine ⟨fun c => G3 m c, fun c => G4 m c, fun c => G5 m c, fun c => G6 m c, (θ_run defs _ _).mono (fun _ h c => ⟨(h c).1.trans (final3 m c), (h c).2.1.trans (final4 m c), (h c).2.2.1.trans (final5 m c), (h c).2.2.2.1.trans (final6 m c), (h c).2.2.2.2⟩) (Value.run_blocks m ρ),
    (θ_run Cert.LossBwdReferenceIdeal.defs _ _).mono (fun _ h c => ⟨(h c).1.trans ?_, (h c).2.1.trans ?_, (h c).2.2.1.trans ?_, (h c).2.2.2.1.trans ?_, (h c).2.2.2.2⟩) (Cert.LossBwdReferenceIdeal.Value.run m' ρ')⟩
  · refine (Reference.ref3 m' c).trans ?_
    dsimp only [Reference.A, Reference.B, Reference.C]
    rw [(hagree c).1]
    rw [(hagree c).2.1]
    rw [(hagree c).2.2]
    rfl
  · refine (Reference.ref4 m' c).trans ?_
    dsimp only [Reference.A, Reference.B, Reference.C]
    rw [(hagree c).1]
    rw [(hagree c).2.1]
    rw [(hagree c).2.2]
    rfl
  · refine (Reference.eighths' _ _ _ (Reference.normed _ _ (Reference.variance _)) _ _ (Reference.pulled _ _ (Reference.diff _ _ _ _ _ (Reference.normed _ _ (Reference.variance _)) (Reference.weighted _ _))) rfl).trans ?_
    rw [(hagree c).1]
    rw [(hagree c).2.1]
    rw [(hagree c).2.2]
    rfl
  · refine (Reference.summed _ _ (Reference.diff _ _ _ _ _ (Reference.normed _ _ (Reference.variance _)) (Reference.weighted _ _))).trans ?_
    rw [(hagree c).1]
    rw [(hagree c).2.1]
    rw [(hagree c).2.2]
    rfl

end Cert.Norms.LossBwd

end
-- ==== Proof.Norms.NormBwd.lean ====
module

public import proofs.«01_k».proof.Proof.Gen.NormBwdIdeal.Value
public import proofs.«01_k».proof.Proof.Gen.NormBwdReferenceIdeal.Run
public import proofs.«01_k».proof.Defs
public import proofs.«01_k».proof.Proof.Norms.Common

@[expose] public section

noncomputable section

/-! The gradient of a norm, added to the gradient that goes past it. -/

namespace Cert.Norms.NormBwd

namespace Reference
open Idealize.ShloMosaic Idealize.ShloMosaic.TcCoe Idealize.SL.Sem
open Cert.NormBwdReferenceIdeal Cert.NormBwdReferenceIdeal.Gen Cert.NormBwdReferenceIdeal.Value

theorem weighted (dh : FVec Ideal S8192x2048 .bf16) (w : FVec Ideal S1x2048 .f32) :
    (shapeCast S8192x2048 (mulf (shapeCast _ (extf .f32 dh bitsLt_bf16_f32) shapeCasts_S8192x2048_S1024x8x2048) (broadcastInDim S1024x8x2048 ![0, 1, 2] bcast_S1x8x2048_S1024x8x2048_0_1_2 (broadcastInDim S1x8x2048 ![1, 2] bcast_S8x2048_S1x8x2048_1_2 (shapeCast _ (broadcastInDim S8x1x1x2048 ![0, 1, 2, 3] bcast_S1x1x1x2048_S8x1x1x2048_0_1_2_3 (shapeCast _ w shapeCasts_S1x2048_S1x1x1x2048)) shapeCasts_S8x1x1x2048_S8x2048)))) shapeCasts_S1024x8x2048_S8192x2048)
      = (scaled (M := 8192) dh w : FVec Ideal S8192x2048 .f32) := by
  funext j
  idx_vars j
  pointwise [scaled]

theorem variance (x : FVec Ideal S8192x2048 .f32) :
    (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))
      = (vars (M := 8192) x : FVec Ideal S8192x1 .f32) := by
  funext j
  idx_vars j
  pointwise [vars, row, var]

theorem gradient (dy x : FVec Ideal S8192x2048 .f32) (v : FVec Ideal S8192x1 .f32) (g : Mat 8192 2048) (hg : dy = (g : FVec Ideal S8192x2048 .f32))
    (hv : v = (vars (M := 8192) x : FVec Ideal S8192x1 .f32)) :
    addf (addf (mulf dy (broadcastInDim S8192x2048 ![0, 1] bcast_S8192x1_S8192x2048_0_1 (Host.rsqrt v))) (mulf x (broadcastInDim S8192x2048 ![0] bcast_S8192_S8192x2048_0 (Host.reduceAdd (Host.divf (mulf (shapeCast _ (Host.reduceAdd (mulf x dy) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt v) v))) (broadcastInDim S8192x1 ![] bcast_S_S8192x1 (constant S_ .f32 0x45000000#32))) (constant S_ .f32 0x00000000#32) reducesTo_S8192x1_S8192_d1 h_S_)))) (mulf (broadcastInDim S8192x2048 ![0] bcast_S8192_S8192x2048_0 (Host.reduceAdd (Host.divf (mulf (shapeCast _ (Host.reduceAdd (mulf x dy) (constant S_ .f32 0x00000000#32) reducesTo_S8192x2048_S8192_d1 h_S_) shapeCasts_S8192_S8192x1) (mulf (broadcastInDim S8192x1 ![] bcast_S_S8192x1 (constant S_ .f32 0xBF000000#32)) (Host.divf (Host.rsqrt v) v))) (broadcastInDim S8192x1 ![] bcast_S_S8192x1 (constant S_ .f32 0x45000000#32))) (constant S_ .f32 0x00000000#32) reducesTo_S8192x1_S8192_d1 h_S_)) x)
      = (grads (M := 8192) g x : FVec Ideal S8192x2048 .f32) := by
  subst hg
  refine Eq.trans ?_ (funext fun j => vjp_eq (M := 8192) dy x j)
  rw [← hv]
  funext j
  idx_vars j
  pointwise [vjp]
  simp only [Fin.sum_univ_one]

theorem normed (x : FVec Ideal S8192x2048 .f32) (v : FVec Ideal S8192x1 .f32) (hv : v = (vars (M := 8192) x : FVec Ideal S8192x1 .f32)) :
    mulf x (broadcastInDim S8192x2048 ![0, 1] bcast_S8192x1_S8192x2048_0_1 (Host.rsqrt v)) = (hats (M := 8192) x : FVec Ideal S8192x2048 .f32) := by
  subst hv
  funext j
  idx_vars j
  pointwise [hats, hat, inv, vars, row]

theorem eighths (y : FVec Ideal S8192x2048 .f32) (g : FVec Ideal S1024x8x2048 .f32) (h : Mat 8192 2048) (hy : y = (h : FVec Ideal S8192x2048 .f32))
    (d : FVec Ideal S8192x2048 .f32) (hg : g = shapeCast _ d shapeCasts_S8192x2048_S1024x8x2048) :
    Host.reduceAdd (shapeCast _ (Host.reduceAdd (mulf (shapeCast _ y shapeCasts_S8192x2048_S1024x8x2048) g) (constant S_ .f32 0x00000000#32) reducesTo_S1024x8x2048_S8x2048_d0 h_S_) shapeCasts_S8x2048_S1x8x2048) (constant S_ .f32 0x00000000#32) reducesTo_S1x8x2048_S8x2048_d0 h_S_
      = (rows8 (M := 8192) 1024 rfl (times (M := 8192) (N := 2048) d h) : FVec Ideal S8x2048 .f32) := by
  subst hy hg
  funext j
  idx_vars j
  pointwise [rows8, times]
  simp only [Fin.sum_univ_one]
  exact Finset.sum_congr rfl fun k _ => mul_comm (_ : EReal) _

theorem added (d z : FVec Ideal S8192x2048 .f32) (g : Mat 8192 2048) (h : z = (g : FVec Ideal S8192x2048 .f32)) :
    addf d z = (plus (M := 8192) (N := 2048) d g : FVec Ideal S8192x2048 .f32) := by
  subst h
  rfl

variable (m : (ℓ : Loc nD τ sig) → Buf (Elt Ideal) ℓ) (c : Dev nD)
abbrev A : Mat 8192 2048 := m (c.tc.loc main_arg0)
abbrev B : Mat 8192 2048 := m (c.tc.loc main_arg1)
abbrev C : Mat 1 2048 := m (c.tc.loc main_arg2)
abbrev D : Mat 8192 2048 := m (c.tc.loc main_arg3)

theorem ref4 : res_main_v44 m c = (plus (D m c) (grads (scaled (A m c) (C m c)) (B m c)) : FVec Ideal S8192x2048 .f32) :=
  added _ _ _ (gradient _ _ _ _ (weighted _ _) (variance _))

theorem ref5 : res_main_v46 m c = (plus (D m c) (grads (scaled (A m c) (C m c)) (B m c)) : FVec Ideal S8192x2048 .bf16) :=
  congrArg (fun z : FVec Ideal S8192x2048 .f32 => truncf .bf16 z bitsLt_bf16_f32) (ref4 m c)

end Reference

open Cert.NormBwdIdeal Cert.NormBwdIdeal.Gen Idealize.ShloMosaic Idealize.ShloMosaic.TcCoe Idealize.SL.Sem
open Idealize.ShloMosaic.Pipeline (Dat)

section body
variable (c : Dev nD) (i : grid0.Coords) (a0 : Memref sig .tc .vmem S512x2048 .bf16) (h0 : a0.IsWhole) (a1 : Memref sig .tc .vmem S512x2048 .f32) (h1 : a1.IsWhole) (a2 : Memref sig .tc .vmem S1x2048 .f32) (h2 : a2.IsWhole) (a3 : Memref sig .tc .vmem S512x2048 .f32) (h3 : a3.IsWhole) (a4 : Memref sig .tc .vmem S512x2048 .f32) (h4 : a4.IsWhole) (a5 : Memref sig .tc .vmem S512x2048 .bf16) (h5 : a5.IsWhole) (a6 : Memref sig .tc .vmem S8x2048 .f32) (h6 : a6.IsWhole)
  (x0 : Vec Ideal S512x2048 .bf16) (x1 : Vec Ideal S512x2048 .f32) (x2 : Vec Ideal S1x2048 .f32) (x3 : Vec Ideal S512x2048 .f32)
/-- What a point leaves in window 4. -/
theorem out4A (hc0 : cond0_0 i) :
    out0_A_4 c i a0 h0 a1 h1 a2 h2 a3 h3 a4 h4 a5 h5 a6 h6 hc0 x0 x1 x2 x3 = plus (M := 512) (N := 2048) x3 (grads (M := 512) (scaled (M := 512) x0 x2) x1) := by
  unfold out0_A_4
  rw [View.read_writes_eq_canon _ _ _ (cover0_A_4 c i a0 h0 a1 h1 a2 h2 a3 h3 a4 h4 a5 h5 a6 h6 hc0 x0 x1 x2 x3)]
  unfold kernelRun0_A
  dsimp only
  rw [View.canon_cons_unit_zero hz]
  simp only [kernelRun0_A.sl.r, kernelRun0_A.sl.r_1]
  simp only [View.readAt_eq_ld, h0.read_unread, h1.read_unread, h2.read_unread, h3.read_unread, h6.read_unread, View.ld_unit_zero (S := S1x2048) hz, View.ld_unit_zero (S := S8x2048) hz, View.ld_unit_zero (S := S512x2048) hz, shapeCast_self]
  funext j
  idx_vars j
  unfold_payloads
  pointwise [plus, times, scaled, rows8, hats, grads, row, grad, hat, inv, var]
/-- What a point leaves in window 5. -/
theorem out5A (hc0 : cond0_0 i) :
    out0_A_5 c i a0 h0 a1 h1 a2 h2 a3 h3 a4 h4 a5 h5 a6 h6 hc0 x0 x1 x2 x3 = plus (M := 512) (N := 2048) x3 (grads (M := 512) (scaled (M := 512) x0 x2) x1) := by
  unfold out0_A_5
  rw [View.read_writes_eq_canon _ _ _ (cover0_A_5 c i a0 h0 a1 h1 a2 h2 a3 h3 a4 h4 a5 h5 a6 h6 hc0 x0 x1 x2 x3)]
  unfold kernelRun0_A
  dsimp only
  rw [View.canon_cons_unit_zero hz]
  simp only [kernelRun0_A.sl.r, kernelRun0_A.sl.r_1]
  simp only [View.readAt_eq_ld, h0.read_unread, h1.read_unread, h2.read_unread, h3.read_unread, h6.read_unread, View.ld_unit_zero (S := S1x2048) hz, View.ld_unit_zero (S := S8x2048) hz, View.ld_unit_zero (S := S512x2048) hz, shapeCast_self]
  funext j
  idx_vars j
  unfold_payloads
  pointwise [plus, times, scaled, rows8, hats, grads, row, grad, hat, inv, var]
/-- What a point adds up. -/
theorem out6A (hc0 : cond0_0 i) :
    out0_A_6 c i a0 h0 a1 h1 a2 h2 a3 h3 a4 h4 a5 h5 a6 h6 hc0 x0 x1 x2 x3 = rows8 (M := 512) 64 rfl (times (M := 512) (N := 2048) x0 (hats (M := 512) x1)) := by
  unfold out0_A_6
  rw [View.read_writes_eq_canon _ _ _ (cover0_A_6 c i a0 h0 a1 h1 a2 h2 a3 h3 a4 h4 a5 h5 a6 h6 hc0 x0 x1 x2 x3)]
  unfold kernelRun0_A
  dsimp only
  rw [View.canon_cons_unit_zero hz]
  simp only [kernelRun0_A.sl.v16, kernelRun0_A.sl.H6_1, View.readCov_unit_zero (S := S8x2048) _ hz]
  simp only [View.readAt_eq_ld, h0.read_unread, h1.read_unread, h2.read_unread, h3.read_unread, h6.read_unread, View.ld_unit_zero (S := S1x2048) hz, View.ld_unit_zero (S := S8x2048) hz, View.ld_unit_zero (S := S512x2048) hz, shapeCast_self]
  funext j
  idx_vars j
  unfold_payloads
  pointwise [plus, times, scaled, rows8, hats, grads, row, grad, hat, inv, var]
/-- What a point leaves in window 4. -/
theorem out4B (hc0 : ¬cond0_0 i) (s6 : Vec Ideal S8x2048 .f32) :
    out0_B_4 c i a0 h0 a1 h1 a2 h2 a3 h3 a4 h4 a5 h5 a6 h6 hc0 x0 x1 x2 x3 s6 = plus (M := 512) (N := 2048) x3 (grads (M := 512) (scaled (M := 512) x0 x2) x1) := by
  unfold out0_B_4
  rw [View.read_writes_eq_canon _ _ _ (cover0_B_4 c i a0 h0 a1 h1 a2 h2 a3 h3 a4 h4 a5 h5 a6 h6 hc0 x0 x1 x2 x3 s6)]
  unfold kernelRun0_B
  dsimp only
  rw [View.canon_cons_unit_zero hz]
  simp only [kernelRun0_B.sl.r, kernelRun0_B.sl.r_1]
  simp only [View.readAt_eq_ld, h0.read_unread, h1.read_unread, h2.read_unread, h3.read_unread, h6.read_unread, View.ld_unit_zero (S := S1x2048) hz, View.ld_unit_zero (S := S8x2048) hz, View.ld_unit_zero (S := S512x2048) hz, shapeCast_self]
  funext j
  idx_vars j
  unfold_payloads
  pointwise [plus, times, scaled, rows8, hats, grads, row, grad, hat, inv, var]
/-- What a point leaves in window 5. -/
theorem out5B (hc0 : ¬cond0_0 i) (s6 : Vec Ideal S8x2048 .f32) :
    out0_B_5 c i a0 h0 a1 h1 a2 h2 a3 h3 a4 h4 a5 h5 a6 h6 hc0 x0 x1 x2 x3 s6 = plus (M := 512) (N := 2048) x3 (grads (M := 512) (scaled (M := 512) x0 x2) x1) := by
  unfold out0_B_5
  rw [View.read_writes_eq_canon _ _ _ (cover0_B_5 c i a0 h0 a1 h1 a2 h2 a3 h3 a4 h4 a5 h5 a6 h6 hc0 x0 x1 x2 x3 s6)]
  unfold kernelRun0_B
  dsimp only
  rw [View.canon_cons_unit_zero hz]
  simp only [kernelRun0_B.sl.r, kernelRun0_B.sl.r_1]
  simp only [View.readAt_eq_ld, h0.read_unread, h1.read_unread, h2.read_unread, h3.read_unread, h6.read_unread, View.ld_unit_zero (S := S1x2048) hz, View.ld_unit_zero (S := S8x2048) hz, View.ld_unit_zero (S := S512x2048) hz, shapeCast_self]
  funext j
  idx_vars j
  unfold_payloads
  pointwise [plus, times, scaled, rows8, hats, grads, row, grad, hat, inv, var]
/-- What a point adds up. -/
theorem out6B (hc0 : ¬cond0_0 i) (s6 : Vec Ideal S8x2048 .f32) :
    out0_B_6 c i a0 h0 a1 h1 a2 h2 a3 h3 a4 h4 a5 h5 a6 h6 hc0 x0 x1 x2 x3 s6 = plus (M := 8) (N := 2048) s6 (rows8 (M := 512) 64 rfl (times (M := 512) (N := 2048) x0 (hats (M := 512) x1))) := by
  unfold out0_B_6
  rw [View.read_writes_eq_canon _ _ _ (cover0_B_6 c i a0 h0 a1 h1 a2 h2 a3 h3 a4 h4 a5 h5 a6 h6 hc0 x0 x1 x2 x3 s6)]
  unfold kernelRun0_B
  dsimp only
  rw [View.canon_cons_unit_zero hz]
  simp only [View.readAt_eq_ld, h0.read_unread, h1.read_unread, h2.read_unread, h3.read_unread, h6.read_unread, View.ld_unit_zero (S := S1x2048) hz, View.ld_unit_zero (S := S8x2048) hz, View.ld_unit_zero (S := S512x2048) hz, shapeCast_self]
  funext j
  idx_vars j
  unfold_payloads
  pointwise [plus, times, scaled, rows8, hats, grads, row, grad, hat, inv, var]
end body

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = t.val ∧ win0_5.index t 1 = 0)
    ∧ (win0_6.index t 0 = 0 ∧ win0_6.index t 1 = 0) :=
  (by decide +kernel : ∀ t : Fin grid0.N, _)

abbrev A (c : Dev nD) : Mat 8192 2048 := m ((c : Thread nD τ).loc main_arg0)
abbrev b0 (c : Dev nD) (t : Fin cfg0.N) : Mat 512 2048 := iblk m c 0 t

theorem blk0 (c : Dev nD) (t : Fin cfg0.N) : IsBlock t.val (b0 m c t) (A m c) := by
  intro y j h0 h1
  unfold b0 iblk
  rw [View.read_apply]
  show V m c main_arg0 _ = m (c.tc.loc main_arg0) _
  unfold V
  congr 1
  funext a
  apply Fin.ext
  match a with
  | ⟨0, _⟩ => show win0_0.index t 0 * 512 + 1 * (y 0).val = (j 0).val; rw [(idx t).1.1]; omega
  | ⟨1, _⟩ => show win0_0.index t 1 * 2048 + 1 * (y 1).val = (j 1).val; rw [(idx t).1.2]; omega

abbrev B (c : Dev nD) : Mat 8192 2048 := m ((c : Thread nD τ).loc main_arg1)
abbrev b1 (c : Dev nD) (t : Fin cfg0.N) : Mat 512 2048 := iblk m c 1 t

theorem blk1 (c : Dev nD) (t : Fin cfg0.N) : IsBlock t.val (b1 m c t) (B m c) := by
  intro y j h0 h1
  unfold b1 iblk
  rw [View.read_apply]
  show V m c main_arg1 _ = m (c.tc.loc main_arg1) _
  unfold V
  congr 1
  funext a
  apply Fin.ext
  match a with
  | ⟨0, _⟩ => show win0_1.index t 0 * 512 + 1 * (y 0).val = (j 0).val; rw [(idx t).2.1.1]; omega
  | ⟨1, _⟩ => show win0_1.index t 1 * 2048 + 1 * (y 1).val = (j 1).val; rw [(idx t).2.1.2]; omega

abbrev C (c : Dev nD) : Mat 1 2048 := m ((c : Thread nD τ).loc main_arg2)
abbrev b2 (c : Dev nD) (t : Fin cfg0.N) : Mat 1 2048 := iblk m c 2 t

theorem blk2 (c : Dev nD) (t : Fin cfg0.N) : b2 m c t = C m c := by
  funext j
  have h0 : (j 0).val = (j 0).val := rfl
  have h1 : (j 1).val = (j 1).val := rfl
  unfold b2 iblk
  rw [View.read_apply]
  show V m c main_arg2 _ = m (c.tc.loc main_arg2) _
  unfold V
  congr 1
  funext a
  apply Fin.ext
  match a with
  | ⟨0, _⟩ => show win0_2.index t 0 * 1 + 1 * (j 0).val = (j 0).val; rw [(idx t).2.2.1.1]; omega
  | ⟨1, _⟩ => show win0_2.index t 1 * 2048 + 1 * (j 1).val = (j 1).val; rw [(idx t).2.2.1.2]; omega

abbrev D (c : Dev nD) : Mat 8192 2048 := m ((c : Thread nD τ).loc main_arg3)
abbrev b3 (c : Dev nD) (t : Fin cfg0.N) : Mat 512 2048 := iblk m c 3 t

theorem blk3 (c : Dev nD) (t : Fin cfg0.N) : IsBlock t.val (b3 m c t) (D m c) := by
  intro y j h0 h1
  unfold b3 iblk
  rw [View.read_apply]
  show V m c main_arg3 _ = m (c.tc.loc main_arg3) _
  unfold V
  congr 1
  funext a
  apply Fin.ext
  match a with
  | ⟨0, _⟩ => show win0_3.index t 0 * 512 + 1 * (y 0).val = (j 0).val; rw [(idx t).2.2.2.1.1]; omega
  | ⟨1, _⟩ => show win0_3.index t 1 * 2048 + 1 * (y 1).val = (j 1).val; rw [(idx t).2.2.2.1.2]; omega

def G4 (c : Dev nD) : Buf (Elt Ideal) ((c : Thread nD τ).loc main_v0_0) := (plus (D m c) (grads (scaled (A m c) (C m c)) (B m c)) : Mat 8192 2048)

set_option maxRecDepth 100000 in
theorem flushed4_eq (c : Dev nD) (t : Fin cfg0.N) :
    (dats m 0 c).flushed 4 t = ((cfg0.win 4).blk t).view.read (Elt Ideal) (G4 m c) := by
  have e : IsBlock t.val (plus (M := 512) (N := 2048) (b3 m c t) (grads (M := 512) (scaled (M := 512) (b0 m c t) (b2 m c t)) (b1 m c t)) : Mat 512 2048) (G4 m c : Mat 8192 2048) := by
    rw [blk2 m c t]
    exact (blk3 m c t).plus (((blk0 m c t).scaled _).grads (blk1 m c t))
  have hf : (dats m 0 c).flushed 4 t = (cfg0.win 4).cut (grid0.coords t) (plus (M := 512) (N := 2048) (b3 m c t) (grads (M := 512) (scaled (M := 512) (b0 m c t) (b2 m c t)) (b1 m c t)) : Mat 512 2048) := by
    by_cases h0 : t.val % 16 = 0
    · rw [Value.flushed4_A m c t h0, out4A]
    · rw [Value.flushed4_B m c t h0, out4B]
  rw [hf]
  funext y
  rw [View.read_apply]
  refine e y ((win0_4.rect t).emb y) ?_ ?_
  · rw [win0_4.rect_emb_val, (idx t).2.2.2.2.1.1]; rfl
  · rw [win0_4.rect_emb_val, (idx t).2.2.2.2.1.2]; exact Nat.zero_add _

theorem cover4 (i : S8192x2048.Idx) : ∃ t : Fin cfg0.N, (cfg0.win 4).flush t = true ∧ i ∈ ((cfg0.win 4).blk t).view.set := by
  have h0 : (i 0).val < 8192 := (i 0).isLt
  have h1 : (i 1).val < 2048 := (i 1).isLt
  have hN : cfg0.N = 16 := N_0
  let t : Fin cfg0.N := ⟨(i 0).val / 512, by omega⟩
  refine ⟨t, flush0_4 t, ?_⟩
  show i ∈ ((View.whole main_v0_0).slice (win0_4.rect t)).set
  rw [View.set_slice_whole, Rect.mem_set_unit]
  intro a
  match a with
  | ⟨0, _⟩ =>
    show win0_4.index t 0 * 512 ≤ (i 0 : Nat) ∧ (i 0 : Nat) < win0_4.index t 0 * 512 + 512
    rw [(idx t).2.2.2.2.1.1]; dsimp only [t]; omega
  | ⟨1, _⟩ =>
    show win0_4.index t 1 * 2048 ≤ (i 1 : Nat) ∧ (i 1 : Nat) < win0_4.index t 1 * 2048 + 2048
    rw [(idx t).2.2.2.2.1.2]; omega

theorem final4 (c : Dev nD) : (dats m 0 c).arrAt 4 cfg0.N = G4 m c :=
  (dats m 0 c).arrAt_eq_of_cover 4 (G4 m c) (fun t _ => flushed4_eq m c t) cover4

def G5 (c : Dev nD) : Buf (Elt Ideal) ((c : Thread nD τ).loc main_v0_1) := (plus (D m c) (grads (scaled (A m c) (C m c)) (B m c)) : Mat 8192 2048)

set_option maxRecDepth 100000 in
theorem flushed5_eq (c : Dev nD) (t : Fin cfg0.N) :
    (dats m 0 c).flushed 5 t = ((cfg0.win 5).blk t).view.read (Elt Ideal) (G5 m c) := by
  have e : IsBlock t.val (plus (M := 512) (N := 2048) (b3 m c t) (grads (M := 512) (scaled (M := 512) (b0 m c t) (b2 m c t)) (b1 m c t)) : Mat 512 2048) (G5 m c : Mat 8192 2048) := by
    rw [blk2 m c t]
    exact (blk3 m c t).plus (((blk0 m c t).scaled _).grads (blk1 m c t))
  have hf : (dats m 0 c).flushed 5 t = (cfg0.win 5).cut (grid0.coords t) (plus (M := 512) (N := 2048) (b3 m c t) (grads (M := 512) (scaled (M := 512) (b0 m c t) (b2 m c t)) (b1 m c t)) : Mat 512 2048) := by
    by_cases h0 : t.val % 16 = 0
    · rw [Value.flushed5_A m c t h0, out5A]
    · rw [Value.flushed5_B m c t h0, out5B]
  rw [hf]
  funext y
  rw [View.read_apply]
  refine e y ((win0_5.rect t).emb y) ?_ ?_
  · rw [win0_5.rect_emb_val, (idx t).2.2.2.2.2.1.1]; rfl
  · rw [win0_5.rect_emb_val, (idx t).2.2.2.2.2.1.2]; exact Nat.zero_add _

theorem cover5 (i : S8192x2048.Idx) : ∃ t : Fin cfg0.N, (cfg0.win 5).flush t = true ∧ i ∈ ((cfg0.win 5).blk t).view.set := by
  have h0 : (i 0).val < 8192 := (i 0).isLt
  have h1 : (i 1).val < 2048 := (i 1).isLt
  have hN : cfg0.N = 16 := N_0
  let t : Fin cfg0.N := ⟨(i 0).val / 512, by omega⟩
  refine ⟨t, flush0_5 t, ?_⟩
  show i ∈ ((View.whole main_v0_1).slice (win0_5.rect t)).set
  rw [View.set_slice_whole, Rect.mem_set_unit]
  intro a
  match a with
  | ⟨0, _⟩ =>
    show win0_5.index t 0 * 512 ≤ (i 0 : Nat) ∧ (i 0 : Nat) < win0_5.index t 0 * 512 + 512
    rw [(idx t).2.2.2.2.2.1.1]; dsimp only [t]; omega
  | ⟨1, _⟩ =>
    show win0_5.index t 1 * 2048 ≤ (i 1 : Nat) ∧ (i 1 : Nat) < win0_5.index t 1 * 2048 + 2048
    rw [(idx t).2.2.2.2.2.1.2]; omega

theorem final5 (c : Dev nD) : (dats m 0 c).arrAt 5 cfg0.N = G5 m c :=
  (dats m 0 c).arrAt_eq_of_cover 5 (G5 m c) (fun t _ => flushed5_eq m c t) cover5

/-- What point `t` adds to the sums. -/
def part6 (c : Dev nD) (t : Fin cfg0.N) : Mat 8 2048 := rows8 (M := 512) 64 rfl (times (M := 512) (N := 2048) (b0 m c t) (hats (M := 512) (b1 m c t)))
def parts6 (c : Dev nD) (n : ℕ) : Mat 8 2048 := if h : n < cfg0.N then part6 m c ⟨n, h⟩ else fun _ => 0
def G6 (c : Dev nD) : Buf (Elt Ideal) ((c : Thread nD τ).loc main_v0_2) := (rows8 (M := 8192) 1024 rfl (times (A m c) (hats (B m c))) : Mat 8 2048)

theorem whole6 (c : Dev nD) (i : S8x2048.Idx) : (G6 m c : Mat 8 2048) i = ∑ t ∈ Finset.range 16, parts6 m c t i := by
  have hN : cfg0.N = 16 := N_0
  refine (rows8_blocks (m := 512) (k := 64) 16 rfl rfl rfl _ (fun n => if h : n < cfg0.N then times (M := 512) (N := 2048) (b0 m c ⟨n, h⟩) (hats (M := 512) (b1 m c ⟨n, h⟩)) else fun _ => 0) (fun t ht => ?_) i).trans ?_
  · rw [dif_pos (hN.symm ▸ ht : t < cfg0.N)]
    exact (blk0 m c ⟨t, _⟩).times (blk1 m c ⟨t, _⟩).hats
  · refine Finset.sum_congr rfl fun t ht => ?_
    have h : t < cfg0.N := hN.symm ▸ Finset.mem_range.mp ht
    rw [parts6, dif_pos h, dif_pos h]
    rfl

/-- What the points up to `n` leave in the sums. -/
theorem acc6 (c : Dev nD) : ∀ n h i, ((outsAt0 m c n h).2.2 : Mat 8 2048) i = ∑ t ∈ Finset.range (n + 1), parts6 m c t i := by
  have hN : cfg0.N = 16 := N_0
  refine acc_sum (N := cfg0.N) (fun n h => ((outsAt0 m c n h).2.2 : Mat 8 2048)) (parts6 m c) ?_ ?_
  · intro h
    rw [outsAt0_A m c ⟨0, h⟩ rfl]
    dsimp only
    rw [out6A, parts6, dif_pos h]
    rfl
  · intro n h
    rw [outsAt0_B m c ⟨n + 1, h⟩ (by show ¬(n + 1) % 16 = 0; omega)]
    dsimp only
    rw [out6B, parts6, dif_pos h]
    rfl

set_option maxRecDepth 100000 in
theorem flushed6_eq (c : Dev nD) (t : Fin cfg0.N) (h : t.val % 16 = 15) :
    (dats m 0 c).flushed 6 t = ((cfg0.win 6).blk t).view.read (Elt Ideal) (G6 m c) := by
  have hN : t.val < 16 := lt_of_lt_of_eq t.isLt (show cfg0.N = 16 from N_0)
  rw [Value.flushed6 m c t]
  funext y
  rw [View.read_apply]
  show ((outsAt0 m c t.val t.isLt).2.2 : Mat 8 2048) y = (G6 m c : Mat 8 2048) ((win0_6.rect t).emb y)
  rw [show (win0_6.rect t).emb y = y from funext fun a => Fin.ext (by
    match a with
    | ⟨0, _⟩ => show ((win0_6.rect t).emb y 0 : Nat) = (y 0).val; rw [win0_6.rect_emb_val, (idx t).2.2.2.2.2.2.1]; exact Nat.zero_add _
    | ⟨1, _⟩ => show ((win0_6.rect t).emb y 1 : Nat) = (y 1).val; rw [win0_6.rect_emb_val, (idx t).2.2.2.2.2.2.2]; exact Nat.zero_add _)]
  rw [acc6 m c t.val t.isLt y, whole6, show t.val + 1 = 16 by omega]

theorem cover6 (i : S8x2048.Idx) : ∃ t : Fin cfg0.N, (cfg0.win 6).flush t = true ∧ i ∈ ((cfg0.win 6).blk t).view.set := by
  have h0 : (i 0).val < 8 := (i 0).isLt
  have h1 : (i 1).val < 2048 := (i 1).isLt
  have hN : cfg0.N = 16 := N_0
  let t : Fin cfg0.N := ⟨15, by omega⟩
  refine ⟨t, (flush0_6 t).mpr (by dsimp only [t]), ?_⟩
  show i ∈ ((View.whole main_v0_2).slice (win0_6.rect t)).set
  rw [View.set_slice_whole, Rect.mem_set_unit]
  intro a
  match a with
  | ⟨0, _⟩ =>
    show win0_6.index t 0 * 8 ≤ (i 0 : Nat) ∧ (i 0 : Nat) < win0_6.index t 0 * 8 + 8
    rw [(idx t).2.2.2.2.2.2.1]; omega
  | ⟨1, _⟩ =>
    show win0_6.index t 1 * 2048 ≤ (i 1 : Nat) ∧ (i 1 : Nat) < win0_6.index t 1 * 2048 + 2048
    rw [(idx t).2.2.2.2.2.2.2]; omega

theorem final6 (c : Dev nD) : (dats m 0 c).arrAt 6 cfg0.N = G6 m c :=
  (dats m 0 c).arrAt_eq_of_cover 6 (G6 m c) (fun t hf => flushed6_eq m c t ((flush0_6 t).mp hf)) cover6

theorem reference_frame : Cert.quiescent_NormBwdReferenceIdeal := fun m ρ _ =>
  (θ_run (Cert.NormBwdReferenceIdeal.defs (F := Ideal)) _ _).mono
    (fun r h => ⟨fun c => (h c).2.2.2, Idealize.ShloMosaic.sem_eq_zero_of_no_sems (by decide) r.2⟩) (Cert.NormBwdReferenceIdeal.Value.run m ρ)

theorem claim : Cert.algebraic_NormBwdIdeal_NormBwdReferenceIdeal := by
  intro m ρ m' ρ' _ hagree
  refine ⟨fun c => G4 m c, fun c => G5 m c, fun c => G6 m c, (θ_run defs _ _).mono (fun _ h c => ⟨(h c).1.trans (final4 m c), (h c).2.1.trans (final5 m c), (h c).2.2.1.trans (final6 m c), (h c).2.2.2⟩) (Value.run_blocks m ρ),
    (θ_run Cert.NormBwdReferenceIdeal.defs _ _).mono (fun _ h c => ⟨(h c).1.trans ?_, (h c).2.1.trans ?_, (h c).2.2.1.trans ?_, (h c).2.2.2⟩) (Cert.NormBwdReferenceIdeal.Value.run m' ρ')⟩
  · refine (Reference.ref4 m' c).trans ?_
    dsimp only [Reference.A, Reference.B, Reference.C, Reference.D]
    rw [(hagree c).1]
    rw [(hagree c).2.1]
    rw [(hagree c).2.2.1]
    rw [(hagree c).2.2.2]
    rfl
  · refine (Reference.ref5 m' c).trans ?_
    dsimp only [Reference.A, Reference.B, Reference.C, Reference.D]
    rw [(hagree c).1]
    rw [(hagree c).2.1]
    rw [(hagree c).2.2.1]
    rw [(hagree c).2.2.2]
    rfl
  · refine (Reference.eighths _ _ _ (Reference.normed _ _ (Reference.variance _)) _ rfl).trans ?_
    rw [(hagree c).1]
    rw [(hagree c).2.1]
    rfl

end Cert.Norms.NormBwd

end
-- ==== Proof.Norms.NormFwd.lean ====
module

public import proofs.«01_k».proof.Proof.Gen.NormFwdIdeal.Value
public import proofs.«01_k».proof.Proof.Gen.NormFwdReferenceIdeal.Run
public import proofs.«01_k».proof.Defs
public import proofs.«01_k».proof.Proof.Norms.Common

@[expose] public section

noncomputable section

/-! A norm of the forward pass. -/

namespace Cert.Norms.NormFwd

namespace Reference
open Idealize.ShloMosaic Idealize.ShloMosaic.TcCoe Idealize.SL.Sem
open Cert.NormFwdReferenceIdeal Cert.NormFwdReferenceIdeal.Gen Cert.NormFwdReferenceIdeal.Value

theorem variance (x : FVec Ideal S8192x2048 .f32) :
    (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))
      = (vars (M := 8192) x : FVec Ideal S8192x1 .f32) := by
  funext j
  idx_vars j
  pointwise [vars, row, var]

theorem normed (x : FVec Ideal S8192x2048 .f32) (w : FVec Ideal S1x2048 .f32) (v : FVec Ideal S8192x1 .f32) (hv : v = (vars (M := 8192) x : FVec Ideal S8192x1 .f32)) :
    truncf .bf16 (shapeCast _ (mulf (shapeCast _ (mulf x (broadcastInDim S8192x2048 ![0, 1] bcast_S8192x1_S8192x2048_0_1 (Host.rsqrt v))) shapeCasts_S8192x2048_S8192x1x2048) (broadcastInDim S8192x1x2048 ![0, 1, 2] bcast_S1x1x2048_S8192x1x2048_0_1_2 (broadcastInDim S1x1x2048 ![1, 2] bcast_S1x2048_S1x1x2048_1_2 w))) shapeCasts_S8192x1x2048_S8192x2048) bitsLt_bf16_f32
      = (scaled (M := 8192) (hats (M := 8192) x) w : FVec Ideal S8192x2048 .bf16) := by
  subst hv
  funext j
  idx_vars j
  pointwise [scaled, hats, hat, inv, vars, row]

end Reference

open Cert.NormFwdIdeal Cert.NormFwdIdeal.Gen Idealize.ShloMosaic Idealize.ShloMosaic.TcCoe Idealize.SL.Sem
open Idealize.ShloMosaic.Pipeline (Dat)

/-- What a point leaves in window 2. -/
theorem out2 (x0 : Vec Ideal S512x2048 .f32) (x1 : Vec Ideal S1x2048 .f32) :
    out0_2 x0 x1 = scaled (M := 512) (hats (M := 512) x0) x1 := by
  unfold out0_2
  rw [View.canon_unit_zero (S := S512x2048) hz]
  simp only [r0_0, r0_1, View.ld_unit_zero (S := S512x2048) hz, View.ld_unit_zero (S := S1x2048) hz]
  funext j
  idx_vars j
  unfold_payloads
  pointwise [plus, times, scaled, rows8, hats, grads, row, grad, hat, inv, var]

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

abbrev A (c : Dev nD) : Mat 8192 2048 := m ((c : Thread nD τ).loc main_arg0)
abbrev b0 (c : Dev nD) (t : Fin cfg0.N) : Mat 512 2048 := iblk m c 0 t

theorem blk0 (c : Dev nD) (t : Fin cfg0.N) : IsBlock t.val (b0 m c t) (A m c) := by
  intro y j h0 h1
  unfold b0 iblk
  rw [View.read_apply]
  show V m c main_arg0 _ = m (c.tc.loc main_arg0) _
  unfold V
  congr 1
  funext a
  apply Fin.ext
  match a with
  | ⟨0, _⟩ => show win0_0.index t 0 * 512 + 1 * (y 0).val = (j 0).val; rw [(idx t).1.1]; omega
  | ⟨1, _⟩ => show win0_0.index t 1 * 2048 + 1 * (y 1).val = (j 1).val; rw [(idx t).1.2]; omega

abbrev B (c : Dev nD) : Mat 1 2048 := m ((c : Thread nD τ).loc main_arg1)
abbrev b1 (c : Dev nD) (t : Fin cfg0.N) : Mat 1 2048 := iblk m c 1 t

theorem blk1 (c : Dev nD) (t : Fin cfg0.N) : b1 m c t = B m c := by
  funext j
  have h0 : (j 0).val = (j 0).val := rfl
  have h1 : (j 1).val = (j 1).val := rfl
  unfold b1 iblk
  rw [View.read_apply]
  show V m c main_arg1 _ = m (c.tc.loc main_arg1) _
  unfold V
  congr 1
  funext a
  apply Fin.ext
  match a with
  | ⟨0, _⟩ => show win0_1.index t 0 * 1 + 1 * (j 0).val = (j 0).val; rw [(idx t).2.1.1]; omega
  | ⟨1, _⟩ => show win0_1.index t 1 * 2048 + 1 * (j 1).val = (j 1).val; rw [(idx t).2.1.2]; omega

def G2 (c : Dev nD) : Buf (Elt Ideal) ((c : Thread nD τ).loc main_v0) := (scaled (hats (A m c)) (B m c) : Mat 8192 2048)

set_option maxRecDepth 100000 in
theorem flushed2_eq (c : Dev nD) (t : Fin cfg0.N) :
    (dats m 0 c).flushed 2 t = ((cfg0.win 2).blk t).view.read (Elt Ideal) (G2 m c) := by
  have e : IsBlock t.val (scaled (M := 512) (hats (M := 512) (b0 m c t)) (b1 m c t) : Mat 512 2048) (G2 m c : Mat 8192 2048) := by
    rw [blk1 m c t]
    exact (blk0 m c t).hats.scaled _
  rw [Value.flushed2 m c t, out2]
  funext y
  rw [View.read_apply]
  refine e y ((win0_2.rect t).emb y) ?_ ?_
  · rw [win0_2.rect_emb_val, (idx t).2.2.1]; rfl
  · rw [win0_2.rect_emb_val, (idx t).2.2.2]; exact Nat.zero_add _

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 16 := N_0
  let t : Fin cfg0.N := ⟨(i 0).val / 512, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 512 ≤ (i 0 : Nat) ∧ (i 0 : Nat) < win0_2.index t 0 * 512 + 512
    rw [(idx t).2.2.1]; dsimp only [t]; omega
  | ⟨1, _⟩ =>
    show win0_2.index t 1 * 2048 ≤ (i 1 : Nat) ∧ (i 1 : Nat) < win0_2.index t 1 * 2048 + 2048
    rw [(idx t).2.2.2]; omega

theorem final2 (c : Dev nD) : (dats m 0 c).arrAt 2 cfg0.N = G2 m c :=
  (dats m 0 c).arrAt_eq_of_cover 2 (G2 m c) (fun t _ => flushed2_eq m c t) cover2

theorem reference_frame : Cert.quiescent_NormFwdReferenceIdeal := fun m ρ _ =>
  (θ_run (Cert.NormFwdReferenceIdeal.defs (F := Ideal)) _ _).mono
    (fun r h => ⟨fun c => (h c).2, Idealize.ShloMosaic.sem_eq_zero_of_no_sems (by decide) r.2⟩) (Cert.NormFwdReferenceIdeal.Value.run m ρ)

theorem claim : Cert.algebraic_NormFwdIdeal_NormFwdReferenceIdeal := by
  intro m ρ m' ρ' _ hagree
  refine ⟨fun c => G2 m c, (θ_run defs _ _).mono (fun _ h c => ⟨(h c).1.trans (final2 m c), (h c).2⟩) (Value.run_blocks m ρ),
    (θ_run Cert.NormFwdReferenceIdeal.defs _ _).mono (fun _ h c => ⟨(h c).1.trans ?_, (h c).2⟩) (Cert.NormFwdReferenceIdeal.Value.run m' ρ')⟩
  · refine (Reference.normed _ _ _ (Reference.variance _)).trans ?_
    rw [(hagree c).1]
    rw [(hagree c).2]
    rfl

end Cert.Norms.NormFwd

end
-- ==== Proof.Norms.NormMem.lean ====
module

public import proofs.«01_k».proof.Proof.Gen.NormMemIdeal.Value
public import proofs.«01_k».proof.Proof.Gen.NormMemReferenceIdeal.Run
public import proofs.«01_k».proof.Defs
public import proofs.«01_k».proof.Proof.Norms.Common

@[expose] public section

noncomputable section

/-! The norm of the memory rows. -/

namespace Cert.Norms.NormMem

namespace Reference
open Idealize.ShloMosaic Idealize.ShloMosaic.TcCoe Idealize.SL.Sem
open Cert.NormMemReferenceIdeal Cert.NormMemReferenceIdeal.Gen Cert.NormMemReferenceIdeal.Value

theorem variance (x : FVec Ideal S256x2048 .f32) :
    (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))
      = (vars (M := 256) x : FVec Ideal S256x1 .f32) := by
  funext j
  idx_vars j
  pointwise [vars, row, var]

theorem normed (x : FVec Ideal S256x2048 .f32) (w : FVec Ideal S1x2048 .f32) (v : FVec Ideal S256x1 .f32) (hv : v = (vars (M := 256) x : FVec Ideal S256x1 .f32)) :
    truncf .bf16 (shapeCast _ (mulf (shapeCast _ (mulf x (broadcastInDim S256x2048 ![0, 1] bcast_S256x1_S256x2048_0_1 (Host.rsqrt v))) shapeCasts_S256x2048_S256x1x2048) (broadcastInDim S256x1x2048 ![0, 1, 2] bcast_S1x1x2048_S256x1x2048_0_1_2 (broadcastInDim S1x1x2048 ![1, 2] bcast_S1x2048_S1x1x2048_1_2 w))) shapeCasts_S256x1x2048_S256x2048) bitsLt_bf16_f32
      = (scaled (M := 256) (hats (M := 256) x) w : FVec Ideal S256x2048 .bf16) := by
  subst hv
  funext j
  idx_vars j
  pointwise [scaled, hats, hat, inv, vars, row]

end Reference

open Cert.NormMemIdeal Cert.NormMemIdeal.Gen Idealize.ShloMosaic Idealize.ShloMosaic.TcCoe Idealize.SL.Sem
open Idealize.ShloMosaic.Pipeline (Dat)

/-- What a point leaves in window 2. -/
theorem out2 (x0 : Vec Ideal S256x2048 .f32) (x1 : Vec Ideal S1x2048 .f32) :
    out0_2 x0 x1 = scaled (M := 256) (hats (M := 256) x0) x1 := by
  unfold out0_2
  rw [View.canon_unit_zero (S := S256x2048) hz]
  simp only [r0_0, r0_1, View.ld_unit_zero (S := S256x2048) hz, View.ld_unit_zero (S := S1x2048) hz]
  funext j
  idx_vars j
  unfold_payloads
  pointwise [plus, times, scaled, rows8, hats, grads, row, grad, hat, inv, var]

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, _)

abbrev A (c : Dev nD) : Mat 256 2048 := m ((c : Thread nD τ).loc main_arg0)
abbrev b0 (c : Dev nD) (t : Fin cfg0.N) : Mat 256 2048 := iblk m c 0 t

theorem blk0 (c : Dev nD) (t : Fin cfg0.N) : IsBlock t.val (b0 m c t) (A m c) := by
  intro y j h0 h1
  unfold b0 iblk
  rw [View.read_apply]
  show V m c main_arg0 _ = m (c.tc.loc main_arg0) _
  unfold V
  congr 1
  funext a
  apply Fin.ext
  match a with
  | ⟨0, _⟩ => show win0_0.index t 0 * 256 + 1 * (y 0).val = (j 0).val; rw [(idx t).1.1]; omega
  | ⟨1, _⟩ => show win0_0.index t 1 * 2048 + 1 * (y 1).val = (j 1).val; rw [(idx t).1.2]; omega

abbrev B (c : Dev nD) : Mat 1 2048 := m ((c : Thread nD τ).loc main_arg1)
abbrev b1 (c : Dev nD) (t : Fin cfg0.N) : Mat 1 2048 := iblk m c 1 t

theorem blk1 (c : Dev nD) (t : Fin cfg0.N) : b1 m c t = B m c := by
  funext j
  have h0 : (j 0).val = (j 0).val := rfl
  have h1 : (j 1).val = (j 1).val := rfl
  unfold b1 iblk
  rw [View.read_apply]
  show V m c main_arg1 _ = m (c.tc.loc main_arg1) _
  unfold V
  congr 1
  funext a
  apply Fin.ext
  match a with
  | ⟨0, _⟩ => show win0_1.index t 0 * 1 + 1 * (j 0).val = (j 0).val; rw [(idx t).2.1.1]; omega
  | ⟨1, _⟩ => show win0_1.index t 1 * 2048 + 1 * (j 1).val = (j 1).val; rw [(idx t).2.1.2]; omega

def G2 (c : Dev nD) : Buf (Elt Ideal) ((c : Thread nD τ).loc main_v0) := (scaled (hats (A m c)) (B m c) : Mat 256 2048)

set_option maxRecDepth 100000 in
theorem flushed2_eq (c : Dev nD) (t : Fin cfg0.N) :
    (dats m 0 c).flushed 2 t = ((cfg0.win 2).blk t).view.read (Elt Ideal) (G2 m c) := by
  have e : IsBlock t.val (scaled (M := 256) (hats (M := 256) (b0 m c t)) (b1 m c t) : Mat 256 2048) (G2 m c : Mat 256 2048) := by
    rw [blk1 m c t]
    exact (blk0 m c t).hats.scaled _
  rw [Value.flushed2 m c t, out2]
  funext y
  rw [View.read_apply]
  refine e y ((win0_2.rect t).emb y) ?_ ?_
  · rw [win0_2.rect_emb_val, (idx t).2.2.1]; rfl
  · rw [win0_2.rect_emb_val, (idx t).2.2.2]; exact Nat.zero_add _

theorem cover2 (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have hN : cfg0.N = 1 := N_0
  let t : Fin cfg0.N := ⟨(i 0).val / 256, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [(idx t).2.2.1]; dsimp only [t]; omega
  | ⟨1, _⟩ =>
    show win0_2.index t 1 * 2048 ≤ (i 1 : Nat) ∧ (i 1 : Nat) < win0_2.index t 1 * 2048 + 2048
    rw [(idx t).2.2.2]; omega

theorem final2 (c : Dev nD) : (dats m 0 c).arrAt 2 cfg0.N = G2 m c :=
  (dats m 0 c).arrAt_eq_of_cover 2 (G2 m c) (fun t _ => flushed2_eq m c t) cover2

theorem reference_frame : Cert.quiescent_NormMemReferenceIdeal := fun m ρ _ =>
  (θ_run (Cert.NormMemReferenceIdeal.defs (F := Ideal)) _ _).mono
    (fun r h => ⟨fun c => (h c).2, Idealize.ShloMosaic.sem_eq_zero_of_no_sems (by decide) r.2⟩) (Cert.NormMemReferenceIdeal.Value.run m ρ)

theorem claim : Cert.algebraic_NormMemIdeal_NormMemReferenceIdeal := by
  intro m ρ m' ρ' _ hagree
  refine ⟨fun c => G2 m c, (θ_run defs _ _).mono (fun _ h c => ⟨(h c).1.trans (final2 m c), (h c).2⟩) (Value.run_blocks m ρ),
    (θ_run Cert.NormMemReferenceIdeal.defs _ _).mono (fun _ h c => ⟨(h c).1.trans ?_, (h c).2⟩) (Cert.NormMemReferenceIdeal.Value.run m' ρ')⟩
  · refine (Reference.normed _ _ _ (Reference.variance _)).trans ?_
    rw [(hagree c).1]
    rw [(hagree c).2]
    rfl

end Cert.Norms.NormMem

end
-- ==== Proof.Norms.NormMemBwd.lean ====
module

public import proofs.«01_k».proof.Proof.Gen.NormMemBwdIdeal.Value
public import proofs.«01_k».proof.Proof.Gen.NormMemBwdReferenceIdeal.Run
public import proofs.«01_k».proof.Defs
public import proofs.«01_k».proof.Proof.Norms.Common

@[expose] public section

noncomputable section

/-! The gradient of the norm of the memory rows. -/

namespace Cert.Norms.NormMemBwd

namespace Reference
open Idealize.ShloMosaic Idealize.ShloMosaic.TcCoe Idealize.SL.Sem
open Cert.NormMemBwdReferenceIdeal Cert.NormMemBwdReferenceIdeal.Gen Cert.NormMemBwdReferenceIdeal.Value

theorem weighted (dh : FVec Ideal S256x2048 .f32) (w : FVec Ideal S1x2048 .f32) :
    (shapeCast S256x2048 (mulf (shapeCast _ dh shapeCasts_S256x2048_S32x8x2048) (broadcastInDim S32x8x2048 ![0, 1, 2] bcast_S1x8x2048_S32x8x2048_0_1_2 (broadcastInDim S1x8x2048 ![1, 2] bcast_S8x2048_S1x8x2048_1_2 (shapeCast _ (broadcastInDim S8x1x1x2048 ![0, 1, 2, 3] bcast_S1x1x1x2048_S8x1x1x2048_0_1_2_3 (shapeCast _ w shapeCasts_S1x2048_S1x1x1x2048)) shapeCasts_S8x1x1x2048_S8x2048)))) shapeCasts_S32x8x2048_S256x2048)
      = (scaled (M := 256) dh w : FVec Ideal S256x2048 .f32) := by
  funext j
  idx_vars j
  pointwise [scaled]

theorem variance (x : FVec Ideal S256x2048 .f32) :
    (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))
      = (vars (M := 256) x : FVec Ideal S256x1 .f32) := by
  funext j
  idx_vars j
  pointwise [vars, row, var]

theorem gradient (dy x : FVec Ideal S256x2048 .f32) (v : FVec Ideal S256x1 .f32) (g : Mat 256 2048) (hg : dy = (g : FVec Ideal S256x2048 .f32))
    (hv : v = (vars (M := 256) x : FVec Ideal S256x1 .f32)) :
    addf (addf (mulf dy (broadcastInDim S256x2048 ![0, 1] bcast_S256x1_S256x2048_0_1 (Host.rsqrt v))) (mulf x (broadcastInDim S256x2048 ![0] bcast_S256_S256x2048_0 (Host.reduceAdd (Host.divf (mulf (shapeCast _ (Host.reduceAdd (mulf x dy) (constant S_ .f32 0x00000000#32) reducesTo_S256x2048_S256_d1 h_S_) shapeCasts_S256_S256x1) (mulf (broadcastInDim S256x1 ![] bcast_S_S256x1 (constant S_ .f32 0xBF000000#32)) (Host.divf (Host.rsqrt v) v))) (broadcastInDim S256x1 ![] bcast_S_S256x1 (constant S_ .f32 0x45000000#32))) (constant S_ .f32 0x00000000#32) reducesTo_S256x1_S256_d1 h_S_)))) (mulf (broadcastInDim S256x2048 ![0] bcast_S256_S256x2048_0 (Host.reduceAdd (Host.divf (mulf (shapeCast _ (Host.reduceAdd (mulf x dy) (constant S_ .f32 0x00000000#32) reducesTo_S256x2048_S256_d1 h_S_) shapeCasts_S256_S256x1) (mulf (broadcastInDim S256x1 ![] bcast_S_S256x1 (constant S_ .f32 0xBF000000#32)) (Host.divf (Host.rsqrt v) v))) (broadcastInDim S256x1 ![] bcast_S_S256x1 (constant S_ .f32 0x45000000#32))) (constant S_ .f32 0x00000000#32) reducesTo_S256x1_S256_d1 h_S_)) x)
      = (grads (M := 256) g x : FVec Ideal S256x2048 .f32) := by
  subst hg
  refine Eq.trans ?_ (funext fun j => vjp_eq (M := 256) dy x j)
  rw [← hv]
  funext j
  idx_vars j
  pointwise [vjp]
  simp only [Fin.sum_univ_one]

theorem normed (x : FVec Ideal S256x2048 .f32) (v : FVec Ideal S256x1 .f32) (hv : v = (vars (M := 256) x : FVec Ideal S256x1 .f32)) :
    mulf x (broadcastInDim S256x2048 ![0, 1] bcast_S256x1_S256x2048_0_1 (Host.rsqrt v)) = (hats (M := 256) x : FVec Ideal S256x2048 .f32) := by
  subst hv
  funext j
  idx_vars j
  pointwise [hats, hat, inv, vars, row]

theorem eighths (y : FVec Ideal S256x2048 .f32) (g : FVec Ideal S32x8x2048 .f32) (h : Mat 256 2048) (hy : y = (h : FVec Ideal S256x2048 .f32))
    (d : FVec Ideal S256x2048 .f32) (hg : g = shapeCast _ d shapeCasts_S256x2048_S32x8x2048) :
    Host.reduceAdd (shapeCast _ (Host.reduceAdd (mulf (shapeCast _ y shapeCasts_S256x2048_S32x8x2048) g) (constant S_ .f32 0x00000000#32) reducesTo_S32x8x2048_S8x2048_d0 h_S_) shapeCasts_S8x2048_S1x8x2048) (constant S_ .f32 0x00000000#32) reducesTo_S1x8x2048_S8x2048_d0 h_S_
      = (rows8 (M := 256) 32 rfl (times (M := 256) (N := 2048) d h) : FVec Ideal S8x2048 .f32) := by
  subst hy hg
  funext j
  idx_vars j
  pointwise [rows8, times]
  simp only [Fin.sum_univ_one]
  exact Finset.sum_congr rfl fun k _ => mul_comm (_ : EReal) _

variable (m : (ℓ : Loc nD τ sig) → Buf (Elt Ideal) ℓ) (c : Dev nD)
abbrev A : Mat 256 2048 := m (c.tc.loc main_arg0)
abbrev B : Mat 256 2048 := m (c.tc.loc main_arg1)
abbrev C : Mat 1 2048 := m (c.tc.loc main_arg2)

theorem ref3 : res_main_v42 m c = (grads (scaled (A m c) (C m c)) (B m c) : FVec Ideal S256x2048 .f32) :=
  gradient _ _ _ _ (weighted _ _) (variance _)

theorem ref4 : res_main_v43 m c = (grads (scaled (A m c) (C m c)) (B m c) : FVec Ideal S256x2048 .bf16) :=
  congrArg (fun z : FVec Ideal S256x2048 .f32 => truncf .bf16 z bitsLt_bf16_f32) (ref3 m c)

end Reference

open Cert.NormMemBwdIdeal Cert.NormMemBwdIdeal.Gen Idealize.ShloMosaic Idealize.ShloMosaic.TcCoe Idealize.SL.Sem
open Idealize.ShloMosaic.Pipeline (Dat)

section body
variable (c : Dev nD) (i : grid0.Coords) (a0 : Memref sig .tc .vmem S256x2048 .f32) (h0 : a0.IsWhole) (a1 : Memref sig .tc .vmem S256x2048 .f32) (h1 : a1.IsWhole) (a2 : Memref sig .tc .vmem S1x2048 .f32) (h2 : a2.IsWhole) (a3 : Memref sig .tc .vmem S256x2048 .f32) (h3 : a3.IsWhole) (a4 : Memref sig .tc .vmem S256x2048 .bf16) (h4 : a4.IsWhole) (a5 : Memref sig .tc .vmem S8x2048 .f32) (h5 : a5.IsWhole)
  (x0 : Vec Ideal S256x2048 .f32) (x1 : Vec Ideal S256x2048 .f32) (x2 : Vec Ideal S1x2048 .f32)
/-- What a point leaves in window 3. -/
theorem out3A (hc0 : cond0_0 i) :
    out0_A_3 c i a0 h0 a1 h1 a2 h2 a3 h3 a4 h4 a5 h5 hc0 x0 x1 x2 = grads (M := 256) (scaled (M := 256) x0 x2) x1 := by
  unfold out0_A_3
  rw [View.read_writes_eq_canon _ _ _ (cover0_A_3 c i a0 h0 a1 h1 a2 h2 a3 h3 a4 h4 a5 h5 hc0 x0 x1 x2)]
  unfold kernelRun0_A
  dsimp only
  rw [View.canon_cons_unit_zero hz]
  simp only [View.readAt_eq_ld, h0.read_unread, h1.read_unread, h2.read_unread, h5.read_unread, View.ld_unit_zero (S := S1x2048) hz, View.ld_unit_zero (S := S8x2048) hz, View.ld_unit_zero (S := S256x2048) hz, shapeCast_self]
  funext j
  idx_vars j
  unfold_payloads
  pointwise [plus, times, scaled, rows8, hats, grads, row, grad, hat, inv, var]
/-- What a point leaves in window 4. -/
theorem out4A (hc0 : cond0_0 i) :
    out0_A_4 c i a0 h0 a1 h1 a2 h2 a3 h3 a4 h4 a5 h5 hc0 x0 x1 x2 = grads (M := 256) (scaled (M := 256) x0 x2) x1 := by
  unfold out0_A_4
  rw [View.read_writes_eq_canon _ _ _ (cover0_A_4 c i a0 h0 a1 h1 a2 h2 a3 h3 a4 h4 a5 h5 hc0 x0 x1 x2)]
  unfold kernelRun0_A
  dsimp only
  rw [View.canon_cons_unit_zero hz]
  simp only [kernelRun0_A.sl.r]
  simp only [View.readAt_eq_ld, h0.read_unread, h1.read_unread, h2.read_unread, h5.read_unread, View.ld_unit_zero (S := S1x2048) hz, View.ld_unit_zero (S := S8x2048) hz, View.ld_unit_zero (S := S256x2048) hz, shapeCast_self]
  funext j
  idx_vars j
  unfold_payloads
  pointwise [plus, times, scaled, rows8, hats, grads, row, grad, hat, inv, var]
/-- What a point adds up. -/
theorem out5A (hc0 : cond0_0 i) :
    out0_A_5 c i a0 h0 a1 h1 a2 h2 a3 h3 a4 h4 a5 h5 hc0 x0 x1 x2 = rows8 (M := 256) 32 rfl (times (M := 256) (N := 2048) x0 (hats (M := 256) x1)) := by
  unfold out0_A_5
  rw [View.read_writes_eq_canon _ _ _ (cover0_A_5 c i a0 h0 a1 h1 a2 h2 a3 h3 a4 h4 a5 h5 hc0 x0 x1 x2)]
  unfold kernelRun0_A
  dsimp only
  rw [View.canon_cons_unit_zero hz]
  simp only [kernelRun0_A.sl.v15, kernelRun0_A.sl.H5_1, View.readCov_unit_zero (S := S8x2048) _ hz]
  simp only [View.readAt_eq_ld, h0.read_unread, h1.read_unread, h2.read_unread, h5.read_unread, View.ld_unit_zero (S := S1x2048) hz, View.ld_unit_zero (S := S8x2048) hz, View.ld_unit_zero (S := S256x2048) hz, shapeCast_self]
  funext j
  idx_vars j
  unfold_payloads
  pointwise [plus, times, scaled, rows8, hats, grads, row, grad, hat, inv, var]
end body

variable (m : (ℓ : Loc nD τ sig) → Buf (Elt Ideal) ℓ) (ρ : Dev nD → PrngReg)

/-- The block index of each window at a point. -/
theorem idx : ∀ t : Fin cfg0.N, (win0_0.index t 0 = t.val ∧ win0_0.index t 1 = 0)
    ∧ (win0_1.index t 0 = t.val ∧ win0_1.index t 1 = 0)
    ∧ (win0_2.index t 0 = 0 ∧ win0_2.index t 1 = 0)
    ∧ (win0_3.index t 0 = t.val ∧ win0_3.index t 1 = 0)
    ∧ (win0_4.index t 0 = t.val ∧ win0_4.index t 1 = 0)
    ∧ (win0_5.index t 0 = 0 ∧ win0_5.index t 1 = 0) :=
  (by decide +kernel : ∀ t : Fin grid0.N, _)

abbrev A (c : Dev nD) : Mat 256 2048 := m ((c : Thread nD τ).loc main_arg0)
abbrev b0 (c : Dev nD) (t : Fin cfg0.N) : Mat 256 2048 := iblk m c 0 t

theorem blk0 (c : Dev nD) (t : Fin cfg0.N) : IsBlock t.val (b0 m c t) (A m c) := by
  intro y j h0 h1
  unfold b0 iblk
  rw [View.read_apply]
  show V m c main_arg0 _ = m (c.tc.loc main_arg0) _
  unfold V
  congr 1
  funext a
  apply Fin.ext
  match a with
  | ⟨0, _⟩ => show win0_0.index t 0 * 256 + 1 * (y 0).val = (j 0).val; rw [(idx t).1.1]; omega
  | ⟨1, _⟩ => show win0_0.index t 1 * 2048 + 1 * (y 1).val = (j 1).val; rw [(idx t).1.2]; omega

abbrev B (c : Dev nD) : Mat 256 2048 := m ((c : Thread nD τ).loc main_arg1)
abbrev b1 (c : Dev nD) (t : Fin cfg0.N) : Mat 256 2048 := iblk m c 1 t

theorem blk1 (c : Dev nD) (t : Fin cfg0.N) : IsBlock t.val (b1 m c t) (B m c) := by
  intro y j h0 h1
  unfold b1 iblk
  rw [View.read_apply]
  show V m c main_arg1 _ = m (c.tc.loc main_arg1) _
  unfold V
  congr 1
  funext a
  apply Fin.ext
  match a with
  | ⟨0, _⟩ => show win0_1.index t 0 * 256 + 1 * (y 0).val = (j 0).val; rw [(idx t).2.1.1]; omega
  | ⟨1, _⟩ => show win0_1.index t 1 * 2048 + 1 * (y 1).val = (j 1).val; rw [(idx t).2.1.2]; omega

abbrev C (c : Dev nD) : Mat 1 2048 := m ((c : Thread nD τ).loc main_arg2)
abbrev b2 (c : Dev nD) (t : Fin cfg0.N) : Mat 1 2048 := iblk m c 2 t

theorem blk2 (c : Dev nD) (t : Fin cfg0.N) : b2 m c t = C m c := by
  funext j
  have h0 : (j 0).val = (j 0).val := rfl
  have h1 : (j 1).val = (j 1).val := rfl
  unfold b2 iblk
  rw [View.read_apply]
  show V m c main_arg2 _ = m (c.tc.loc main_arg2) _
  unfold V
  congr 1
  funext a
  apply Fin.ext
  match a with
  | ⟨0, _⟩ => show win0_2.index t 0 * 1 + 1 * (j 0).val = (j 0).val; rw [(idx t).2.2.1.1]; omega
  | ⟨1, _⟩ => show win0_2.index t 1 * 2048 + 1 * (j 1).val = (j 1).val; rw [(idx t).2.2.1.2]; omega

def G3 (c : Dev nD) : Buf (Elt Ideal) ((c : Thread nD τ).loc main_v0_0) := (grads (scaled (A m c) (C m c)) (B m c) : Mat 256 2048)

set_option maxRecDepth 100000 in
theorem flushed3_eq (c : Dev nD) (t : Fin cfg0.N) :
    (dats m 0 c).flushed 3 t = ((cfg0.win 3).blk t).view.read (Elt Ideal) (G3 m c) := by
  have e : IsBlock t.val (grads (M := 256) (scaled (M := 256) (b0 m c t) (b2 m c t)) (b1 m c t) : Mat 256 2048) (G3 m c : Mat 256 2048) := by
    rw [blk2 m c t]
    exact ((blk0 m c t).scaled _).grads (blk1 m c t)
  rw [Value.flushed3_A m c t, out3A]
  funext y
  rw [View.read_apply]
  refine e y ((win0_3.rect t).emb y) ?_ ?_
  · rw [win0_3.rect_emb_val, (idx t).2.2.2.1.1]; rfl
  · rw [win0_3.rect_emb_val, (idx t).2.2.2.1.2]; exact Nat.zero_add _

theorem cover3 (i : S256x2048.Idx) : ∃ t : Fin cfg0.N, (cfg0.win 3).flush t = true ∧ i ∈ ((cfg0.win 3).blk t).view.set := by
  have h0 : (i 0).val < 256 := (i 0).isLt
  have h1 : (i 1).val < 2048 := (i 1).isLt
  have hN : cfg0.N = 1 := N_0
  let t : Fin cfg0.N := ⟨(i 0).val / 256, by omega⟩
  refine ⟨t, flush0_3 t, ?_⟩
  show i ∈ ((View.whole main_v0_0).slice (win0_3.rect t)).set
  rw [View.set_slice_whole, Rect.mem_set_unit]
  intro a
  match a with
  | ⟨0, _⟩ =>
    show win0_3.index t 0 * 256 ≤ (i 0 : Nat) ∧ (i 0 : Nat) < win0_3.index t 0 * 256 + 256
    rw [(idx t).2.2.2.1.1]; dsimp only [t]; omega
  | ⟨1, _⟩ =>
    show win0_3.index t 1 * 2048 ≤ (i 1 : Nat) ∧ (i 1 : Nat) < win0_3.index t 1 * 2048 + 2048
    rw [(idx t).2.2.2.1.2]; omega

theorem final3 (c : Dev nD) : (dats m 0 c).arrAt 3 cfg0.N = G3 m c :=
  (dats m 0 c).arrAt_eq_of_cover 3 (G3 m c) (fun t _ => flushed3_eq m c t) cover3

def G4 (c : Dev nD) : Buf (Elt Ideal) ((c : Thread nD τ).loc main_v0_1) := (grads (scaled (A m c) (C m c)) (B m c) : Mat 256 2048)

set_option maxRecDepth 100000 in
theorem flushed4_eq (c : Dev nD) (t : Fin cfg0.N) :
    (dats m 0 c).flushed 4 t = ((cfg0.win 4).blk t).view.read (Elt Ideal) (G4 m c) := by
  have e : IsBlock t.val (grads (M := 256) (scaled (M := 256) (b0 m c t) (b2 m c t)) (b1 m c t) : Mat 256 2048) (G4 m c : Mat 256 2048) := by
    rw [blk2 m c t]
    exact ((blk0 m c t).scaled _).grads (blk1 m c t)
  rw [Value.flushed4_A m c t, out4A]
  funext y
  rw [View.read_apply]
  refine e y ((win0_4.rect t).emb y) ?_ ?_
  · rw [win0_4.rect_emb_val, (idx t).2.2.2.2.1.1]; rfl
  · rw [win0_4.rect_emb_val, (idx t).2.2.2.2.1.2]; exact Nat.zero_add _

theorem cover4 (i : S256x2048.Idx) : ∃ t : Fin cfg0.N, (cfg0.win 4).flush t = true ∧ i ∈ ((cfg0.win 4).blk t).view.set := by
  have h0 : (i 0).val < 256 := (i 0).isLt
  have h1 : (i 1).val < 2048 := (i 1).isLt
  have hN : cfg0.N = 1 := N_0
  let t : Fin cfg0.N := ⟨(i 0).val / 256, by omega⟩
  refine ⟨t, flush0_4 t, ?_⟩
  show i ∈ ((View.whole main_v0_1).slice (win0_4.rect t)).set
  rw [View.set_slice_whole, Rect.mem_set_unit]
  intro a
  match a with
  | ⟨0, _⟩ =>
    show win0_4.index t 0 * 256 ≤ (i 0 : Nat) ∧ (i 0 : Nat) < win0_4.index t 0 * 256 + 256
    rw [(idx t).2.2.2.2.1.1]; dsimp only [t]; omega
  | ⟨1, _⟩ =>
    show win0_4.index t 1 * 2048 ≤ (i 1 : Nat) ∧ (i 1 : Nat) < win0_4.index t 1 * 2048 + 2048
    rw [(idx t).2.2.2.2.1.2]; omega

theorem final4 (c : Dev nD) : (dats m 0 c).arrAt 4 cfg0.N = G4 m c :=
  (dats m 0 c).arrAt_eq_of_cover 4 (G4 m c) (fun t _ => flushed4_eq m c t) cover4

/-- What point `t` adds to the sums. -/
def part5 (c : Dev nD) (t : Fin cfg0.N) : Mat 8 2048 := rows8 (M := 256) 32 rfl (times (M := 256) (N := 2048) (b0 m c t) (hats (M := 256) (b1 m c t)))
def parts5 (c : Dev nD) (n : ℕ) : Mat 8 2048 := if h : n < cfg0.N then part5 m c ⟨n, h⟩ else fun _ => 0
def G5 (c : Dev nD) : Buf (Elt Ideal) ((c : Thread nD τ).loc main_v0_2) := (rows8 (M := 256) 32 rfl (times (A m c) (hats (B m c))) : Mat 8 2048)

theorem whole5 (c : Dev nD) (i : S8x2048.Idx) : (G5 m c : Mat 8 2048) i = ∑ t ∈ Finset.range 1, parts5 m c t i := by
  have hN : cfg0.N = 1 := N_0
  refine (rows8_blocks (m := 256) (k := 32) 1 rfl rfl rfl _ (fun n => if h : n < cfg0.N then times (M := 256) (N := 2048) (b0 m c ⟨n, h⟩) (hats (M := 256) (b1 m c ⟨n, h⟩)) else fun _ => 0) (fun t ht => ?_) i).trans ?_
  · rw [dif_pos (hN.symm ▸ ht : t < cfg0.N)]
    exact (blk0 m c ⟨t, _⟩).times (blk1 m c ⟨t, _⟩).hats
  · refine Finset.sum_congr rfl fun t ht => ?_
    have h : t < cfg0.N := hN.symm ▸ Finset.mem_range.mp ht
    rw [parts5, dif_pos h, dif_pos h]
    rfl

set_option maxRecDepth 100000 in
theorem flushed5_eq (c : Dev nD) (t : Fin cfg0.N) :
    (dats m 0 c).flushed 5 t = ((cfg0.win 5).blk t).view.read (Elt Ideal) (G5 m c) := by
  have hN : t.val < 1 := lt_of_lt_of_eq t.isLt (show cfg0.N = 1 from N_0)
  rw [Value.flushed5_A m c t, out5A]
  funext y
  rw [View.read_apply]
  show part5 m c t y = (G5 m c : Mat 8 2048) ((win0_5.rect t).emb y)
  rw [show (win0_5.rect t).emb y = y from funext fun a => Fin.ext (by
    match a with
    | ⟨0, _⟩ => show ((win0_5.rect t).emb y 0 : Nat) = (y 0).val; rw [win0_5.rect_emb_val, (idx t).2.2.2.2.2.1]; exact Nat.zero_add _
    | ⟨1, _⟩ => show ((win0_5.rect t).emb y 1 : Nat) = (y 1).val; rw [win0_5.rect_emb_val, (idx t).2.2.2.2.2.2]; exact Nat.zero_add _)]
  rw [whole5, Finset.sum_range_one, parts5, dif_pos (show 0 < cfg0.N from lt_of_le_of_lt (Nat.zero_le _) t.isLt),
    show t = ⟨0, lt_of_le_of_lt (Nat.zero_le _) t.isLt⟩ from Fin.ext (by show t.val = 0; omega)]

theorem cover5 (i : S8x2048.Idx) : ∃ t : Fin cfg0.N, (cfg0.win 5).flush t = true ∧ i ∈ ((cfg0.win 5).blk t).view.set := by
  have h0 : (i 0).val < 8 := (i 0).isLt
  have h1 : (i 1).val < 2048 := (i 1).isLt
  have hN : cfg0.N = 1 := N_0
  let t : Fin cfg0.N := ⟨0, by omega⟩
  refine ⟨t, flush0_5 t, ?_⟩
  show i ∈ ((View.whole main_v0_2).slice (win0_5.rect t)).set
  rw [View.set_slice_whole, Rect.mem_set_unit]
  intro a
  match a with
  | ⟨0, _⟩ =>
    show win0_5.index t 0 * 8 ≤ (i 0 : Nat) ∧ (i 0 : Nat) < win0_5.index t 0 * 8 + 8
    rw [(idx t).2.2.2.2.2.1]; omega
  | ⟨1, _⟩ =>
    show win0_5.index t 1 * 2048 ≤ (i 1 : Nat) ∧ (i 1 : Nat) < win0_5.index t 1 * 2048 + 2048
    rw [(idx t).2.2.2.2.2.2]; omega

theorem final5 (c : Dev nD) : (dats m 0 c).arrAt 5 cfg0.N = G5 m c :=
  (dats m 0 c).arrAt_eq_of_cover 5 (G5 m c) (fun t hf => flushed5_eq m c t) cover5

theorem reference_frame : Cert.quiescent_NormMemBwdReferenceIdeal := fun m ρ _ =>
  (θ_run (Cert.NormMemBwdReferenceIdeal.defs (F := Ideal)) _ _).mono
    (fun r h => ⟨fun c => (h c).2.2.2, Idealize.ShloMosaic.sem_eq_zero_of_no_sems (by decide) r.2⟩) (Cert.NormMemBwdReferenceIdeal.Value.run m ρ)

theorem claim : Cert.algebraic_NormMemBwdIdeal_NormMemBwdReferenceIdeal := by
  intro m ρ m' ρ' _ hagree
  refine ⟨fun c => G3 m c, fun c => G4 m c, fun c => G5 m c, (θ_run defs _ _).mono (fun _ h c => ⟨(h c).1.trans (final3 m c), (h c).2.1.trans (final4 m c), (h c).2.2.1.trans (final5 m c), (h c).2.2.2⟩) (Value.run_blocks m ρ),
    (θ_run Cert.NormMemBwdReferenceIdeal.defs _ _).mono (fun _ h c => ⟨(h c).1.trans ?_, (h c).2.1.trans ?_, (h c).2.2.1.trans ?_, (h c).2.2.2⟩) (Cert.NormMemBwdReferenceIdeal.Value.run m' ρ')⟩
  · refine (Reference.ref3 m' c).trans ?_
    dsimp only [Reference.A, Reference.B, Reference.C]
    rw [(hagree c).1]
    rw [(hagree c).2.1]
    rw [(hagree c).2.2]
    rfl
  · refine (Reference.ref4 m' c).trans ?_
    dsimp only [Reference.A, Reference.B, Reference.C]
    rw [(hagree c).1]
    rw [(hagree c).2.1]
    rw [(hagree c).2.2]
    rfl
  · refine (Reference.eighths _ _ _ (Reference.normed _ _ (Reference.variance _)) _ rfl).trans ?_
    rw [(hagree c).1]
    rw [(hagree c).2.1]
    rfl

end Cert.Norms.NormMemBwd

end
-- ==== Proof.Optimizer.AdamDown.lean ====
module

public import proofs.«01_k».proof.Proof.Gen.AdamDownIdeal.Value
public import proofs.«01_k».proof.Proof.Gen.AdamDownReferenceIdeal.Run
public import proofs.«01_k».proof.Defs
public import Idealize.ShloMosaic.Lib.Pointwise
public import Idealize.ShloMosaic.Lib.Tactic

@[expose] public section

noncomputable section

/-! The optimizer's step of a device's rows of the down projection: the gradient, the change, and the two moments. -/

namespace Cert.Optimizer.AdamDown

open Cert.AdamDownIdeal Cert.AdamDownIdeal.Gen Idealize.ShloMosaic Idealize.ShloMosaic.TcCoe Idealize.SL.Sem

theorem reference_frame : Cert.quiescent_AdamDownReferenceIdeal := fun m ρ _ =>
  (θ_run (Cert.AdamDownReferenceIdeal.defs (F := Ideal)) _ _).mono
    (fun r h => ⟨fun c => (h c).2.2.2.2, Idealize.ShloMosaic.sem_eq_zero_of_no_sems (by decide) r.2⟩) (Cert.AdamDownReferenceIdeal.Value.run m ρ)

theorem claim : Cert.algebraic_AdamDownIdeal_AdamDownReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamDownReferenceIdeal.defs _ _).mono (fun _ h c => ⟨(h c).1.trans ?_, (h c).2.1.trans ?_, (h c).2.2.1.trans ?_, (h c).2.2.2.1.trans ?_, (h c).2.2.2.2⟩) (Cert.AdamDownReferenceIdeal.Value.run m' ρ')⟩
  all_goals
    try rw [(hagree c).1]
    try rw [(hagree c).2.1]
    try rw [(hagree c).2.2.1]
    try rw [(hagree c).2.2.2.1]
    try rw [(hagree c).2.2.2.2]
  all_goals
    funext j
    idx_vars j
    pointwise

end Cert.Optimizer.AdamDown

end
-- ==== Proof.Optimizer.AdamFbias.lean ====
module

public import proofs.«01_k».proof.Proof.Gen.AdamFbiasIdeal.Value
public import proofs.«01_k».proof.Proof.Gen.AdamFbiasReferenceIdeal.Run
public import proofs.«01_k».proof.Defs
public import Idealize.ShloMosaic.Lib.Pointwise
public import Idealize.ShloMosaic.Lib.Tactic

@[expose] public section

noncomputable section

/-! The optimizer's step of the feed-forward convolution's bias: the gradient, the change, and the two moments. -/

namespace Cert.Optimizer.AdamFbias

open Cert.AdamFbiasIdeal Cert.AdamFbiasIdeal.Gen Idealize.ShloMosaic Idealize.ShloMosaic.TcCoe Idealize.SL.Sem

theorem reference_frame : Cert.quiescent_AdamFbiasReferenceIdeal := fun m ρ _ =>
  (θ_run (Cert.AdamFbiasReferenceIdeal.defs (F := Ideal)) _ _).mono
    (fun r h => ⟨fun c => (h c).2.2.2.2, Idealize.ShloMosaic.sem_eq_zero_of_no_sems (by decide) r.2⟩) (Cert.AdamFbiasReferenceIdeal.Value.run m ρ)

theorem claim : Cert.algebraic_AdamFbiasIdeal_AdamFbiasReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamFbiasReferenceIdeal.defs _ _).mono (fun _ h c => ⟨(h c).1.trans ?_, (h c).2.1.trans ?_, (h c).2.2.1.trans ?_, (h c).2.2.2.1.trans ?_, (h c).2.2.2.2⟩) (Cert.AdamFbiasReferenceIdeal.Value.run m' ρ')⟩
  all_goals
    try rw [(hagree c).1]
    try rw [(hagree c).2.1]
    try rw [(hagree c).2.2.1]
    try rw [(hagree c).2.2.2]
  all_goals
    funext j
    idx_vars j
    try dsimp only [Value.G4]
    try dsimp only [Value.G5]
    try dsimp only [Value.G6]
    try dsimp only [Value.G7]
    unfold_payloads
    pointwise

end Cert.Optimizer.AdamFbias

end
-- ==== Proof.Optimizer.AdamFconv.lean ====
module

public import proofs.«01_k».proof.Proof.Gen.AdamFconvIdeal.Value
public import proofs.«01_k».proof.Proof.Gen.AdamFconvReferenceIdeal.Run
public import proofs.«01_k».proof.Defs
public import Idealize.ShloMosaic.Lib.Pointwise
public import Idealize.ShloMosaic.Lib.Tactic

@[expose] public section

noncomputable section

/-! The optimizer's step of a device's columns of the feed-forward convolution: the gradient, the change, and the two moments. -/

namespace Cert.Optimizer.AdamFconv

open Cert.AdamFconvIdeal Cert.AdamFconvIdeal.Gen Idealize.ShloMosaic Idealize.ShloMosaic.TcCoe Idealize.SL.Sem

theorem reference_frame : Cert.quiescent_AdamFconvReferenceIdeal := fun m ρ _ =>
  (θ_run (Cert.AdamFconvReferenceIdeal.defs (F := Ideal)) _ _).mono
    (fun r h => ⟨fun c => (h c).2.2.2.2, Idealize.ShloMosaic.sem_eq_zero_of_no_sems (by decide) r.2⟩) (Cert.AdamFconvReferenceIdeal.Value.run m ρ)

theorem claim : Cert.algebraic_AdamFconvIdeal_AdamFconvReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamFconvReferenceIdeal.defs _ _).mono (fun _ h c => ⟨(h c).1.trans ?_, (h c).2.1.trans ?_, (h c).2.2.1.trans ?_, (h c).2.2.2.1.trans ?_, (h c).2.2.2.2⟩) (Cert.AdamFconvReferenceIdeal.Value.run m' ρ')⟩
  all_goals
    try rw [(hagree c).1]
    try rw [(hagree c).2.1]
    try rw [(hagree c).2.2.1]
    try rw [(hagree c).2.2.2]
  all_goals
    funext j
    idx_vars j
    try dsimp only [Value.G4]
    try dsimp only [Value.G5]
    try dsimp only [Value.G6]
    try dsimp only [Value.G7]
    unfold_payloads
    pointwise

end Cert.Optimizer.AdamFconv

end
-- ==== Proof.Optimizer.AdamFfn.lean ====
module

public import proofs.«01_k».proof.Proof.Gen.AdamFfnIdeal.Value
public import proofs.«01_k».proof.Proof.Gen.AdamFfnReferenceIdeal.Run
public import proofs.«01_k».proof.Defs
public import Idealize.ShloMosaic.Lib.Pointwise
public import Idealize.ShloMosaic.Lib.Tactic

@[expose] public section

noncomputable section

/-! The optimizer's step of a device's columns of the gate or up projection: the gradient, the change, and the two moments. -/

namespace Cert.Optimizer.AdamFfn

open Cert.AdamFfnIdeal Cert.AdamFfnIdeal.Gen Idealize.ShloMosaic Idealize.ShloMosaic.TcCoe Idealize.SL.Sem

theorem reference_frame : Cert.quiescent_AdamFfnReferenceIdeal := fun m ρ _ =>
  (θ_run (Cert.AdamFfnReferenceIdeal.defs (F := Ideal)) _ _).mono
    (fun r h => ⟨fun c => (h c).2.2.2.2, Idealize.ShloMosaic.sem_eq_zero_of_no_sems (by decide) r.2⟩) (Cert.AdamFfnReferenceIdeal.Value.run m ρ)

theorem claim : Cert.algebraic_AdamFfnIdeal_AdamFfnReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamFfnReferenceIdeal.defs _ _).mono (fun _ h c => ⟨(h c).1.trans ?_, (h c).2.1.trans ?_, (h c).2.2.1.trans ?_, (h c).2.2.2.1.trans ?_, (h c).2.2.2.2⟩) (Cert.AdamFfnReferenceIdeal.Value.run m' ρ')⟩
  all_goals
    try rw [(hagree c).1]
    try rw [(hagree c).2.1]
    try rw [(hagree c).2.2.1]
    try rw [(hagree c).2.2.2.1]
    try rw [(hagree c).2.2.2.2]
  all_goals
    funext j
    idx_vars j
    pointwise

end Cert.Optimizer.AdamFfn

end
-- ==== Proof.Optimizer.AdamHead.lean ====
module

public import proofs.«01_k».proof.Proof.Gen.AdamHeadIdeal.Value
public import proofs.«01_k».proof.Proof.Gen.AdamHeadReferenceIdeal.Run
public import proofs.«01_k».proof.Defs
public import Idealize.ShloMosaic.Lib.Pointwise
public import Idealize.ShloMosaic.Lib.Tactic

@[expose] public section

noncomputable section

/-! The optimizer's step of the norm of a head's output: the gradient, the change, and the two moments. -/

namespace Cert.Optimizer.AdamHead

open Cert.AdamHeadIdeal Cert.AdamHeadIdeal.Gen Idealize.ShloMosaic Idealize.ShloMosaic.TcCoe Idealize.SL.Sem

theorem reference_frame : Cert.quiescent_AdamHeadReferenceIdeal := fun m ρ _ =>
  (θ_run (Cert.AdamHeadReferenceIdeal.defs (F := Ideal)) _ _).mono
    (fun r h => ⟨fun c => (h c).2.2.2.2, Idealize.ShloMosaic.sem_eq_zero_of_no_sems (by decide) r.2⟩) (Cert.AdamHeadReferenceIdeal.Value.run m ρ)

theorem claim : Cert.algebraic_AdamHeadIdeal_AdamHeadReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamHeadReferenceIdeal.defs _ _).mono (fun _ h c => ⟨(h c).1.trans ?_, (h c).2.1.trans ?_, (h c).2.2.1.trans ?_, (h c).2.2.2.1.trans ?_, (h c).2.2.2.2⟩) (Cert.AdamHeadReferenceIdeal.Value.run m' ρ')⟩
  all_goals
    try rw [(hagree c).1]
    try rw [(hagree c).2.1]
    try rw [(hagree c).2.2.1]
    try rw [(hagree c).2.2.2]
  all_goals
    funext j
    idx_vars j
    try dsimp only [Value.G4]
    try dsimp only [Value.G5]
    try dsimp only [Value.G6]
    try dsimp only [Value.G7]
    unfold_payloads
    pointwise

end Cert.Optimizer.AdamHead

end
-- ==== Proof.Optimizer.AdamIn.lean ====
module

public import proofs.«01_k».proof.Proof.Gen.AdamInIdeal.Value
public import proofs.«01_k».proof.Proof.Gen.AdamInReferenceIdeal.Run
public import proofs.«01_k».proof.Defs
public import Idealize.ShloMosaic.Lib.Pointwise
public import Idealize.ShloMosaic.Lib.Tactic

@[expose] public section

noncomputable section

/-! The optimizer's step of a device's columns of the combined projection: the gradient, the change, and the two moments. -/

namespace Cert.Optimizer.AdamIn

open Cert.AdamInIdeal Cert.AdamInIdeal.Gen Idealize.ShloMosaic Idealize.ShloMosaic.TcCoe Idealize.SL.Sem

theorem reference_frame : Cert.quiescent_AdamInReferenceIdeal := fun m ρ _ =>
  (θ_run (Cert.AdamInReferenceIdeal.defs (F := Ideal)) _ _).mono
    (fun r h => ⟨fun c => (h c).2.2.2.2, Idealize.ShloMosaic.sem_eq_zero_of_no_sems (by decide) r.2⟩) (Cert.AdamInReferenceIdeal.Value.run m ρ)

theorem claim : Cert.algebraic_AdamInIdeal_AdamInReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamInReferenceIdeal.defs _ _).mono (fun _ h c => ⟨(h c).1.trans ?_, (h c).2.1.trans ?_, (h c).2.2.1.trans ?_, (h c).2.2.2.1.trans ?_, (h c).2.2.2.2⟩) (Cert.AdamInReferenceIdeal.Value.run m' ρ')⟩
  all_goals
    try rw [(hagree c).1]
    try rw [(hagree c).2.1]
    try rw [(hagree c).2.2.1]
    try rw [(hagree c).2.2.2.1]
    try rw [(hagree c).2.2.2.2]
  all_goals
    funext j
    idx_vars j
    pointwise

end Cert.Optimizer.AdamIn

end
-- ==== Proof.Optimizer.AdamLb.lean ====
module

public import proofs.«01_k».proof.Proof.Gen.AdamLbIdeal.Value
public import proofs.«01_k».proof.Proof.Gen.AdamLbReferenceIdeal.Run
public import proofs.«01_k».proof.Defs
public import Idealize.ShloMosaic.Lib.Pointwise
public import Idealize.ShloMosaic.Lib.Tactic

@[expose] public section

noncomputable section

/-! The optimizer's step of the recurrence's lower bounds: the gradient, the change, and the two moments. -/

namespace Cert.Optimizer.AdamLb

open Cert.AdamLbIdeal Cert.AdamLbIdeal.Gen Idealize.ShloMosaic Idealize.ShloMosaic.TcCoe Idealize.SL.Sem

theorem reference_frame : Cert.quiescent_AdamLbReferenceIdeal := fun m ρ _ =>
  (θ_run (Cert.AdamLbReferenceIdeal.defs (F := Ideal)) _ _).mono
    (fun r h => ⟨fun c => (h c).2.2.2.2, Idealize.ShloMosaic.sem_eq_zero_of_no_sems (by decide) r.2⟩) (Cert.AdamLbReferenceIdeal.Value.run m ρ)

theorem claim : Cert.algebraic_AdamLbIdeal_AdamLbReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamLbReferenceIdeal.defs _ _).mono (fun _ h c => ⟨(h c).1.trans ?_, (h c).2.1.trans ?_, (h c).2.2.1.trans ?_, (h c).2.2.2.1.trans ?_, (h c).2.2.2.2⟩) (Cert.AdamLbReferenceIdeal.Value.run m' ρ')⟩
  all_goals
    try rw [(hagree c).1]
    try rw [(hagree c).2.1]
    try rw [(hagree c).2.2.1]
    try rw [(hagree c).2.2.2]
  all_goals
    funext j
    idx_vars j
    try dsimp only [Value.G4]
    try dsimp only [Value.G5]
    try dsimp only [Value.G6]
    try dsimp only [Value.G7]
    unfold_payloads
    pointwise

end Cert.Optimizer.AdamLb

end
-- ==== Proof.Optimizer.AdamNorm.lean ====
module

public import proofs.«01_k».proof.Proof.Gen.AdamNormIdeal.Value
public import proofs.«01_k».proof.Proof.Gen.AdamNormReferenceIdeal.Run
public import proofs.«01_k».proof.Defs
public import Idealize.ShloMosaic.Lib.Pointwise
public import Idealize.ShloMosaic.Lib.Tactic

@[expose] public section

noncomputable section

/-! The optimizer's step of a norm's weight: the gradient, the change, and the two moments. -/

namespace Cert.Optimizer.AdamNorm

open Cert.AdamNormIdeal Cert.AdamNormIdeal.Gen Idealize.ShloMosaic Idealize.ShloMosaic.TcCoe Idealize.SL.Sem

theorem reference_frame : Cert.quiescent_AdamNormReferenceIdeal := fun m ρ _ =>
  (θ_run (Cert.AdamNormReferenceIdeal.defs (F := Ideal)) _ _).mono
    (fun r h => ⟨fun c => (h c).2.2.2.2, Idealize.ShloMosaic.sem_eq_zero_of_no_sems (by decide) r.2⟩) (Cert.AdamNormReferenceIdeal.Value.run m ρ)

theorem claim : Cert.algebraic_AdamNormIdeal_AdamNormReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamNormReferenceIdeal.defs _ _).mono (fun _ h c => ⟨(h c).1.trans ?_, (h c).2.1.trans ?_, (h c).2.2.1.trans ?_, (h c).2.2.2.1.trans ?_, (h c).2.2.2.2⟩) (Cert.AdamNormReferenceIdeal.Value.run m' ρ')⟩
  all_goals
    try rw [(hagree c).1]
    try rw [(hagree c).2.1]
    try rw [(hagree c).2.2.1]
    try rw [(hagree c).2.2.2]
  all_goals
    funext j
    idx_vars j
    try dsimp only [Value.G4]
    try dsimp only [Value.G5]
    try dsimp only [Value.G6]
    try dsimp only [Value.G7]
    unfold_payloads
    pointwise

end Cert.Optimizer.AdamNorm

end
-- ==== Proof.Optimizer.AdamSconv.lean ====
module

public import proofs.«01_k».proof.Proof.Gen.AdamSconvIdeal.Value
public import proofs.«01_k».proof.Proof.Gen.AdamSconvReferenceIdeal.Run
public import proofs.«01_k».proof.Defs
public import Idealize.ShloMosaic.Lib.Pointwise
public import Idealize.ShloMosaic.Lib.Tactic

@[expose] public section

noncomputable section

/-! The optimizer's step of a device's columns of the short convolution: the gradient, the change, and the two moments. -/

namespace Cert.Optimizer.AdamSconv

open Cert.AdamSconvIdeal Cert.AdamSconvIdeal.Gen Idealize.ShloMosaic Idealize.ShloMosaic.TcCoe Idealize.SL.Sem

theorem reference_frame : Cert.quiescent_AdamSconvReferenceIdeal := fun m ρ _ =>
  (θ_run (Cert.AdamSconvReferenceIdeal.defs (F := Ideal)) _ _).mono
    (fun r h => ⟨fun c => (h c).2.2.2.2, Idealize.ShloMosaic.sem_eq_zero_of_no_sems (by decide) r.2⟩) (Cert.AdamSconvReferenceIdeal.Value.run m ρ)

theorem claim : Cert.algebraic_AdamSconvIdeal_AdamSconvReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamSconvReferenceIdeal.defs _ _).mono (fun _ h c => ⟨(h c).1.trans ?_, (h c).2.1.trans ?_, (h c).2.2.1.trans ?_, (h c).2.2.2.1.trans ?_, (h c).2.2.2.2⟩) (Cert.AdamSconvReferenceIdeal.Value.run m' ρ')⟩
  all_goals
    try rw [(hagree c).1]
    try rw [(hagree c).2.1]
    try rw [(hagree c).2.2.1]
    try rw [(hagree c).2.2.2]
  all_goals
    funext j
    idx_vars j
    try dsimp only [Value.G4]
    try dsimp only [Value.G5]
    try dsimp only [Value.G6]
    try dsimp only [Value.G7]
    unfold_payloads
    pointwise

end Cert.Optimizer.AdamSconv

end
-- ==== Proof.Optimizer.AdamSquare.lean ====
module

public import proofs.«01_k».proof.Proof.Gen.AdamSquareIdeal.Value
public import proofs.«01_k».proof.Proof.Gen.AdamSquareReferenceIdeal.Run
public import proofs.«01_k».proof.Defs
public import Idealize.ShloMosaic.Lib.Pointwise
public import Idealize.ShloMosaic.Lib.Tactic

@[expose] public section

noncomputable section

/-! The optimizer's step of a device's rows of a square projection: the gradient, the change, and the two moments. -/

namespace Cert.Optimizer.AdamSquare

open Cert.AdamSquareIdeal Cert.AdamSquareIdeal.Gen Idealize.ShloMosaic Idealize.ShloMosaic.TcCoe Idealize.SL.Sem

theorem reference_frame : Cert.quiescent_AdamSquareReferenceIdeal := fun m ρ _ =>
  (θ_run (Cert.AdamSquareReferenceIdeal.defs (F := Ideal)) _ _).mono
    (fun r h => ⟨fun c => (h c).2.2.2.2, Idealize.ShloMosaic.sem_eq_zero_of_no_sems (by decide) r.2⟩) (Cert.AdamSquareReferenceIdeal.Value.run m ρ)

theorem claim : Cert.algebraic_AdamSquareIdeal_AdamSquareReferenceIdeal := by
  intro m ρ m' ρ' _ hagree
  refine ⟨_, _, _, _, (θ_run defs _ _).mono (fun _ h c => ⟨(h c).1, (h c).2.1, (h c).2.2.1, (h c).2.2.2.1, (h c).2.2.2.2⟩) (Value.run m ρ),
    (θ_run Cert.AdamSquareReferenceIdeal.defs _ _).mono (fun _ h c => ⟨(h c).1.trans ?_, (h c).2.1.trans ?_, (h c).2.2.1.trans ?_, (h c).2.2.2.1.trans ?_, (h c).2.2.2.2⟩) (Cert.AdamSquareReferenceIdeal.Value.run m' ρ')⟩
  all_goals
    try rw [(hagree c).1]
    try rw [(hagree c).2.1]
    try rw [(hagree c).2.2.1]
    try rw [(hagree c).2.2.2.1]
    try rw [(hagree c).2.2.2.2]
  all_goals
    funext j
    idx_vars j
    pointwise

end Cert.Optimizer.AdamSquare

end
-- ==== Proof.Products.Common.lean ====
module

public import Idealize.ShloMosaic.Lib.Pointwise
public import Idealize.ShloMosaic.Lib.Pipeline.Value
public import Idealize.ShloMosaic.Lib.Tactic

@[expose] public section

noncomputable section

/-! The three matrix products, element by element over the extended reals: `nn` of two matrices, `nt` with the right one
    transposed, `tn` with the left one transposed. Every product of the step is compared with one of them. -/

namespace Cert.Products

open Idealize.ShloMosaic

abbrev Mat (M N : ℕ) : Type := (⟨2, ![M, N]⟩ : Shape).Idx → EReal

def nn {M K N : ℕ} (a : Mat M K) (b : Mat K N) : Mat M N := fun i => ∑ k : Fin K, a (ix2 (i 0) k) * b (ix2 k (i 1))
def nt {M K N : ℕ} (a : Mat M K) (b : Mat N K) : Mat M N := fun i => ∑ k : Fin K, a (ix2 (i 0) k) * b (ix2 (i 1) k)
def tn {M K N : ℕ} (a : Mat K M) (b : Mat K N) : Mat M N := fun i => ∑ k : Fin K, a (ix2 k (i 0)) * b (ix2 k (i 1))

/-- Zero offsets, as the bodies print them. -/
theorem hz : (![0, 0] : Fin 2 → Nat) = fun _ => 0 := funext fun a => by fin_cases a <;> rfl

theorem hz3 : (![0, 0, 0] : Fin 3 → Nat) = fun _ => 0 := funext fun a => by fin_cases a <;> rfl

abbrev Cube (G M N : ℕ) : Type := (⟨3, ![G, M, N]⟩ : Shape).Idx → EReal

/-- The only sheet of a block that holds one group. -/
def sheet {M N : ℕ} (x : Cube 1 M N) : Mat M N := fun i => x (ix3 0 (i 0) (i 1))

/-- The first `G` groups of columns side by side. -/
def joined (G N : ℕ) {G' M W : ℕ} (h : G * N = W) (hG : G ≤ G') (x : Cube G' M N) : Mat M W := fun i =>
  x (ix3 ⟨(i 1).val / N, lt_of_lt_of_le (Nat.div_lt_of_lt_mul (by rw [Nat.mul_comm, h]; exact (i 1).isLt)) hG⟩ (i 0)
    ⟨(i 1).val % N, Nat.mod_lt _ (Nat.pos_of_ne_zero fun h0 => by
      subst h0; subst h; exact absurd (i 1).isLt (Nat.not_lt_zero _))⟩)

theorem tile_lt {J T K : ℕ} (hK : J * T = K) (j : Fin J) (k : Fin T) : j.val * T + k.val < K := by
  have h : (j.val + 1) * T ≤ J * T := Nat.mul_le_mul_right _ j.isLt
  have := k.isLt
  rw [Nat.succ_mul] at h
  omega

/-- Tile `j` of the contraction of `nn`: its terms `j * T` to `j * T + T - 1`. -/
def nnTile {M K N : ℕ} (T : ℕ) (a : Mat M K) (b : Mat K N) (j : ℕ) : Mat M N := fun i =>
  ∑ k : Fin T, if h : j * T + k.val < K then a (ix2 (i 0) ⟨j * T + k.val, h⟩) * b (ix2 ⟨j * T + k.val, h⟩ (i 1)) else 0

theorem nn_tiles {M K N : ℕ} (J T : ℕ) (hK : J * T = K) (a : Mat M K) (b : Mat K N) (i : (⟨2, ![M, N]⟩ : Shape).Idx) :
    nn a b i = ∑ j : Fin J, nnTile T a b j.val i := by
  rw [nn, Fin.sum_univ_tiles J T hK]
  refine Finset.sum_congr rfl fun j _ => Finset.sum_congr rfl fun k _ => ?_
  rw [dif_pos (tile_lt hK j k)]

/-- Tile `j` of the contraction of `nt`: its terms `j * T` to `j * T + T - 1`. -/
def ntTile {M K N : ℕ} (T : ℕ) (a : Mat M K) (b : Mat N K) (j : ℕ) : Mat M N := fun i =>
  ∑ k : Fin T, if h : j * T + k.val < K then a (ix2 (i 0) ⟨j * T + k.val, h⟩) * b (ix2 (i 1) ⟨j * T + k.val, h⟩) else 0

theorem nt_tiles {M K N : ℕ} (J T : ℕ) (hK : J * T = K) (a : Mat M K) (b : Mat N K) (i : (⟨2, ![M, N]⟩ : Shape).Idx) :
    nt a b i = ∑ j : Fin J, ntTile T a b j.val i := by
  rw [nt, Fin.sum_univ_tiles J T hK]
  refine Finset.sum_congr rfl fun j _ => Finset.sum_congr rfl fun k _ => ?_
  rw [dif_pos (tile_lt hK j k)]

/-- Tile `j` of the contraction of `tn`: its terms `j * T` to `j * T + T - 1`. -/
def tnTile {M K N : ℕ} (T : ℕ) (a : Mat K M) (b : Mat K N) (j : ℕ) : Mat M N := fun i =>
  ∑ k : Fin T, if h : j * T + k.val < K then a (ix2 ⟨j * T + k.val, h⟩ (i 0)) * b (ix2 ⟨j * T + k.val, h⟩ (i 1)) else 0

theorem tn_tiles {M K N : ℕ} (J T : ℕ) (hK : J * T = K) (a : Mat K M) (b : Mat K N) (i : (⟨2, ![M, N]⟩ : Shape).Idx) :
    tn a b i = ∑ j : Fin J, tnTile T a b j.val i := by
  rw [tn, Fin.sum_univ_tiles J T hK]
  refine Finset.sum_congr rfl fun j _ => Finset.sum_congr rfl fun k _ => ?_
  rw [dif_pos (tile_lt hK j k)]

end Cert.Products

end
-- ==== Proof.Products.AttnK.lean ====
module

public import proofs.«01_k».proof.Proof.Gen.AttnKIdeal.Value
public import proofs.«01_k».proof.Proof.Gen.AttnKReferenceIdeal.Run
public import proofs.«01_k».proof.Defs
public import proofs.«01_k».proof.Proof.Products.Common

@[expose] public section

noncomputable section

/-! The key projection. -/

namespace Cert.Products.AttnK

open Cert.AttnKIdeal Cert.AttnKIdeal.Gen Idealize.ShloMosaic Idealize.ShloMosaic.TcCoe Idealize.SL.Sem
open Idealize.ShloMosaic.Pipeline (Dat)

section body
variable (c : Dev nD) (i : grid0.Coords) (a0 : Memref sig .tc .vmem S256x2048 .bf16) (h0 : a0.IsWhole) (a1 : Memref sig .tc .vmem S2048x1024 .bf16) (h1 : a1.IsWhole) (a2 : Memref sig .tc .vmem S256x1024 .bf16) (h2 : a2.IsWhole) (a3 : Memref sig .tc .vmem S8x128 .f32) (h3 : a3.IsWhole)
  (x0 : Vec Ideal S256x2048 .bf16) (x1 : Vec Ideal S2048x1024 .bf16)
/-- What the point that finishes a block leaves in window 2. -/
theorem out2  :
    out0_A_2 c i a0 h0 a1 h1 a2 h2 a3 h3 x0 x1 = nn (M := 256) (K := 2048) (N := 1024) x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S2048x1024) hz, View.ld_unit_zero (S := S256x1024) hz, View.ld_unit_zero (S := S256x2048) hz, shapeCast_self]
  funext j
  idx_vars j
  unfold_payloads
  pointwise [nn]
end body

variable (m : (ℓ : Loc nD τ sig) → Buf (Elt Ideal) ℓ) (ρ : Dev nD → PrngReg)

/-- The block index of each window at a point. -/
theorem idx : ∀ t : Fin cfg0.N, (win0_0.index t 0 = 0 ∧ win0_0.index t 1 = 0)
    ∧ (win0_1.index t 0 = 0 ∧ win0_1.index t 1 = t.val)
    ∧ (win0_2.index t 0 = 0 ∧ win0_2.index t 1 = t.val) :=
  (by decide +kernel : ∀ t : Fin grid0.N, _)

abbrev A (c : Dev nD) : Mat 256 2048 := m ((c : Thread nD τ).loc main_arg0)

theorem blk0 (c : Dev nD) (t : Fin cfg0.N) (y : (⟨2, ![256, 2048]⟩ : Shape).Idx) (j : (⟨2, ![256, 2048]⟩ : Shape).Idx)
    (h0 : (j 0).val = 0 * 256 + (y 0).val) (h1 : (j 1).val = 0 * 2048 + (y 1).val) :
    (iblk m c 0 t : Mat 256 2048) y = A m c j := by
  unfold iblk
  rw [View.read_apply]
  show V m c main_arg0 _ = m (c.tc.loc main_arg0) _
  unfold V
  congr 1
  funext a
  apply Fin.ext
  match a with
  | ⟨0, _⟩ => show win0_0.index t 0 * 256 + 1 * (y 0).val = (j 0).val; rw [(idx t).1.1]; omega
  | ⟨1, _⟩ => show win0_0.index t 1 * 2048 + 1 * (y 1).val = (j 1).val; rw [(idx t).1.2]; omega

abbrev B (c : Dev nD) : Mat 2048 2048 := m ((c : Thread nD τ).loc main_arg1)

theorem blk1 (c : Dev nD) (t : Fin cfg0.N) (y : (⟨2, ![2048, 1024]⟩ : Shape).Idx) (j : (⟨2, ![2048, 2048]⟩ : Shape).Idx)
    (h0 : (j 0).val = 0 * 2048 + (y 0).val) (h1 : (j 1).val = t.val * 1024 + (y 1).val) :
    (iblk m c 1 t : Mat 2048 1024) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1024 + 1 * (y 1).val = (j 1).val; rw [(idx t).2.1.2]; omega

/-- The whole result array. -/
def G2 (c : Dev nD) : Buf (Elt Ideal) ((c : Thread nD τ).loc main_v0) := (nn (A m c) (B m c) : Mat 256 2048)

/-- The product of a point's blocks is one tile of the contraction. -/
theorem part (c : Dev nD) (t : Fin cfg0.N) (y : S256x1024.Idx) (i : S256x2048.Idx)
    (h0 : (i 0).val = 0 * 256 + (y 0).val) (h1 : (i 1).val = t.val * 1024 + (y 1).val) :
    nn (iblk m c 0 t : Mat 256 2048) (iblk m c 1 t : Mat 2048 1024) y = nnTile 2048 (A m c) (B m c) (0) i := by
  have hN : t.val < 2 := lt_of_lt_of_eq t.isLt (show cfg0.N = 2 from N_0)
  refine Finset.sum_congr rfl fun k _ => ?_
  have hk := k.isLt
  rw [dif_pos (show 0 * 2048 + k.val < 2048 by omega)]
  exact congrArg₂ (· * ·) (blk0 m c t _ _ h0 rfl) (blk1 m c t _ _ rfl h1)

theorem flushed2_eq (c : Dev nD) (t : Fin cfg0.N) :
    (dats m 0 c).flushed 2 t = ((cfg0.win 2).blk t).view.read (Elt Ideal) (G2 m c) := by
  have hN : t.val < 2 := lt_of_lt_of_eq t.isLt (show cfg0.N = 2 from N_0)
  rw [Value.flushed2_A, out2]
  funext y
  rw [View.read_apply]
  show nn (iblk m c 0 t : Mat 256 2048) (iblk m c 1 t : Mat 2048 1024) y = nn (A m c) (B m c) ((win0_2.rect t).emb y)
  have e0 : ((win0_2.rect t).emb y 0 : Nat) = 0 * 256 + (y 0).val := by
    rw [win0_2.rect_emb_val, (idx t).2.2.1]; rfl
  have e1 : ((win0_2.rect t).emb y 1 : Nat) = t.val * 1024 + (y 1).val := by
    rw [win0_2.rect_emb_val, (idx t).2.2.2]; rfl
  rw [nn_tiles 1 2048 rfl (A m c) (B m c), Fin.sum_univ_one]

  exact part m c t y _ e0 e1

theorem cover2 (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have hN : cfg0.N = 2 := N_0
  let t : Fin cfg0.N := ⟨(i 1).val / 1024 * 1 + (i 0).val / 256 * 1 + 0, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [(idx t).2.2.1]; dsimp only [t]; omega
  | ⟨1, _⟩ =>
    show win0_2.index t 1 * 1024 ≤ (i 1 : Nat) ∧ (i 1 : Nat) < win0_2.index t 1 * 1024 + 1024
    rw [(idx t).2.2.2]; dsimp only [t]; omega

theorem final2 (c : Dev nD) : (dats m 0 c).arrAt 2 cfg0.N = G2 m c :=
  (dats m 0 c).arrAt_eq_of_cover 2 (G2 m c) (fun t _ => flushed2_eq m c t) cover2

theorem reference_frame : Cert.quiescent_AttnKReferenceIdeal := fun m ρ _ =>
  (θ_run (Cert.AttnKReferenceIdeal.defs (F := Ideal)) _ _).mono
    (fun r h => ⟨fun c => (h c).2, Idealize.ShloMosaic.sem_eq_zero_of_no_sems (by decide) r.2⟩) (Cert.AttnKReferenceIdeal.Value.run m ρ)

theorem claim : Cert.algebraic_AttnKIdeal_AttnKReferenceIdeal := by
  intro m ρ m' ρ' _ hagree
  refine ⟨fun c => G2 m c, (θ_run defs _ _).mono (fun _ h c => ⟨(h c).1.trans (final2 m c), (h c).2⟩) (Value.run_blocks m ρ),
    (θ_run Cert.AttnKReferenceIdeal.defs _ _).mono (fun _ h c => ⟨(h c).1.trans ?_, (h c).2⟩) (Cert.AttnKReferenceIdeal.Value.run m' ρ')⟩
  all_goals
    rw [(hagree c).1, (hagree c).2]
  show _ = (nn (A m c) (B m c) : Mat 256 2048)
  funext j
  idx_vars j
  pointwise [nn]

end Cert.Products.AttnK

end
-- ==== Proof.Products.AttnQ.lean ====
module

public import proofs.«01_k».proof.Proof.Gen.AttnQIdeal.Value
public import proofs.«01_k».proof.Proof.Gen.AttnQReferenceIdeal.Run
public import proofs.«01_k».proof.Defs
public import proofs.«01_k».proof.Proof.Products.Common

@[expose] public section

noncomputable section

/-! The query projection. -/

namespace Cert.Products.AttnQ

open Cert.AttnQIdeal Cert.AttnQIdeal.Gen Idealize.ShloMosaic Idealize.ShloMosaic.TcCoe Idealize.SL.Sem
open Idealize.ShloMosaic.Pipeline (Dat)

section body
variable (c : Dev nD) (i : grid0.Coords) (a0 : Memref sig .tc .vmem S2048x2048 .bf16) (h0 : a0.IsWhole) (a1 : Memref sig .tc .vmem S2048x1024 .bf16) (h1 : a1.IsWhole) (a2 : Memref sig .tc .vmem S2048x1024 .bf16) (h2 : a2.IsWhole) (a3 : Memref sig .tc .vmem S8x128 .f32) (h3 : a3.IsWhole)
  (x0 : Vec Ideal S2048x2048 .bf16) (x1 : Vec Ideal S2048x1024 .bf16)
/-- What the point that finishes a block leaves in window 2. -/
theorem out2  :
    out0_A_2 c i a0 h0 a1 h1 a2 h2 a3 h3 x0 x1 = nn (M := 2048) (K := 2048) (N := 1024) x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S2048x1024) hz, View.ld_unit_zero (S := S2048x2048) hz, shapeCast_self]
  funext j
  idx_vars j
  unfold_payloads
  pointwise [nn]
end body

variable (m : (ℓ : Loc nD τ sig) → Buf (Elt Ideal) ℓ) (ρ : Dev nD → PrngReg)

/-- The block index of each window at a point. -/
theorem idx : ∀ t : Fin cfg0.N, (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2) :=
  (by decide +kernel : ∀ t : Fin grid0.N, _)

abbrev A (c : Dev nD) : Mat 8192 2048 := m ((c : Thread nD τ).loc main_arg0)

theorem blk0 (c : Dev nD) (t : Fin cfg0.N) (y : (⟨2, ![2048, 2048]⟩ : Shape).Idx) (j : (⟨2, ![8192, 2048]⟩ : Shape).Idx)
    (h0 : (j 0).val = t.val / 2 * 2048 + (y 0).val) (h1 : (j 1).val = 0 * 2048 + (y 1).val) :
    (iblk m c 0 t : Mat 2048 2048) y = A m c j := by
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (j 0).val; rw [(idx t).1.1]; omega
  | ⟨1, _⟩ => show win0_0.index t 1 * 2048 + 1 * (y 1).val = (j 1).val; rw [(idx t).1.2]; omega

abbrev B (c : Dev nD) : Mat 2048 2048 := m ((c : Thread nD τ).loc main_arg1)

theorem blk1 (c : Dev nD) (t : Fin cfg0.N) (y : (⟨2, ![2048, 1024]⟩ : Shape).Idx) (j : (⟨2, ![2048, 2048]⟩ : Shape).Idx)
    (h0 : (j 0).val = 0 * 2048 + (y 0).val) (h1 : (j 1).val = t.val % 2 * 1024 + (y 1).val) :
    (iblk m c 1 t : Mat 2048 1024) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1024 + 1 * (y 1).val = (j 1).val; rw [(idx t).2.1.2]; omega

/-- The whole result array. -/
def G2 (c : Dev nD) : Buf (Elt Ideal) ((c : Thread nD τ).loc main_v0) := (nn (A m c) (B m c) : Mat 8192 2048)

/-- The product of a point's blocks is one tile of the contraction. -/
theorem part (c : Dev nD) (t : Fin cfg0.N) (y : S2048x1024.Idx) (i : S8192x2048.Idx)
    (h0 : (i 0).val = t.val / 2 * 2048 + (y 0).val) (h1 : (i 1).val = t.val % 2 * 1024 + (y 1).val) :
    nn (iblk m c 0 t : Mat 2048 2048) (iblk m c 1 t : Mat 2048 1024) y = nnTile 2048 (A m c) (B m c) (0) i := by
  have hN : t.val < 8 := lt_of_lt_of_eq t.isLt (show cfg0.N = 8 from N_0)
  refine Finset.sum_congr rfl fun k _ => ?_
  have hk := k.isLt
  rw [dif_pos (show 0 * 2048 + k.val < 2048 by omega)]
  exact congrArg₂ (· * ·) (blk0 m c t _ _ h0 rfl) (blk1 m c t _ _ rfl h1)

theorem flushed2_eq (c : Dev nD) (t : Fin cfg0.N) :
    (dats m 0 c).flushed 2 t = ((cfg0.win 2).blk t).view.read (Elt Ideal) (G2 m c) := by
  have hN : t.val < 8 := lt_of_lt_of_eq t.isLt (show cfg0.N = 8 from N_0)
  rw [Value.flushed2_A, out2]
  funext y
  rw [View.read_apply]
  show nn (iblk m c 0 t : Mat 2048 2048) (iblk m c 1 t : Mat 2048 1024) y = nn (A m c) (B m c) ((win0_2.rect t).emb y)
  have e0 : ((win0_2.rect t).emb y 0 : Nat) = t.val / 2 * 2048 + (y 0).val := by
    rw [win0_2.rect_emb_val, (idx t).2.2.1]; rfl
  have e1 : ((win0_2.rect t).emb y 1 : Nat) = t.val % 2 * 1024 + (y 1).val := by
    rw [win0_2.rect_emb_val, (idx t).2.2.2]; rfl
  rw [nn_tiles 1 2048 rfl (A m c) (B m c), Fin.sum_univ_one]

  exact part m c t y _ e0 e1

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 8 := N_0
  let t : Fin cfg0.N := ⟨(i 0).val / 2048 * 2 + (i 1).val / 1024 * 1 + 0, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(idx t).2.2.1]; dsimp only [t]; omega
  | ⟨1, _⟩ =>
    show win0_2.index t 1 * 1024 ≤ (i 1 : Nat) ∧ (i 1 : Nat) < win0_2.index t 1 * 1024 + 1024
    rw [(idx t).2.2.2]; dsimp only [t]; omega

theorem final2 (c : Dev nD) : (dats m 0 c).arrAt 2 cfg0.N = G2 m c :=
  (dats m 0 c).arrAt_eq_of_cover 2 (G2 m c) (fun t _ => flushed2_eq m c t) cover2

theorem reference_frame : Cert.quiescent_AttnQReferenceIdeal := fun m ρ _ =>
  (θ_run (Cert.AttnQReferenceIdeal.defs (F := Ideal)) _ _).mono
    (fun r h => ⟨fun c => (h c).2, Idealize.ShloMosaic.sem_eq_zero_of_no_sems (by decide) r.2⟩) (Cert.AttnQReferenceIdeal.Value.run m ρ)

theorem claim : Cert.algebraic_AttnQIdeal_AttnQReferenceIdeal := by
  intro m ρ m' ρ' _ hagree
  refine ⟨fun c => G2 m c, (θ_run defs _ _).mono (fun _ h c => ⟨(h c).1.trans (final2 m c), (h c).2⟩) (Value.run_blocks m ρ),
    (θ_run Cert.AttnQReferenceIdeal.defs _ _).mono (fun _ h c => ⟨(h c).1.trans ?_, (h c).2⟩) (Cert.AttnQReferenceIdeal.Value.run m' ρ')⟩
  all_goals
    rw [(hagree c).1, (hagree c).2]
  show _ = (nn (A m c) (B m c) : Mat 8192 2048)
  funext j
  idx_vars j
  pointwise [nn]

end Cert.Products.AttnQ

end
-- ==== Proof.Products.DAtt.lean ====
module

public import proofs.«01_k».proof.Proof.Gen.DAttIdeal.Value
public import proofs.«01_k».proof.Proof.Gen.DAttReferenceIdeal.Run
public import proofs.«01_k».proof.Defs
public import proofs.«01_k».proof.Proof.Products.Common

@[expose] public section

noncomputable section

/-! The gradient of the attention's output. -/

namespace Cert.Products.DAtt

open Cert.DAttIdeal Cert.DAttIdeal.Gen Idealize.ShloMosaic Idealize.ShloMosaic.TcCoe Idealize.SL.Sem
open Idealize.ShloMosaic.Pipeline (Dat)

section body
variable (c : Dev nD) (i : grid0.Coords) (a0 : Memref sig .tc .vmem S2048x2048 .bf16) (h0 : a0.IsWhole) (a1 : Memref sig .tc .vmem S1024x2048 .bf16) (h1 : a1.IsWhole) (a2 : Memref sig .tc .vmem S2048x1024 .bf16) (h2 : a2.IsWhole) (a3 : Memref sig .tc .vmem S8x128 .f32) (h3 : a3.IsWhole)
  (x0 : Vec Ideal S2048x2048 .bf16) (x1 : Vec Ideal S1024x2048 .bf16)
/-- What the point that finishes a block leaves in window 2. -/
theorem out2  :
    out0_A_2 c i a0 h0 a1 h1 a2 h2 a3 h3 x0 x1 = nt (M := 2048) (K := 2048) (N := 1024) x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x2048) hz, View.ld_unit_zero (S := S2048x1024) hz, View.ld_unit_zero (S := S2048x2048) hz, shapeCast_self]
  funext j
  idx_vars j
  unfold_payloads
  pointwise [nt]
end body

variable (m : (ℓ : Loc nD τ sig) → Buf (Elt Ideal) ℓ) (ρ : Dev nD → PrngReg)

/-- The block index of each window at a point. -/
theorem idx : ∀ t : Fin cfg0.N, (win0_0.index t 0 = t.val / 2 ∧ win0_0.index t 1 = 0)
    ∧ (win0_1.index t 0 = t.val % 2 ∧ win0_1.index t 1 = 0)
    ∧ (win0_2.index t 0 = t.val / 2 ∧ win0_2.index t 1 = t.val % 2) :=
  (by decide +kernel : ∀ t : Fin grid0.N, _)

abbrev A (c : Dev nD) : Mat 8192 2048 := m ((c : Thread nD τ).loc main_arg0)

theorem blk0 (c : Dev nD) (t : Fin cfg0.N) (y : (⟨2, ![2048, 2048]⟩ : Shape).Idx) (j : (⟨2, ![8192, 2048]⟩ : Shape).Idx)
    (h0 : (j 0).val = t.val / 2 * 2048 + (y 0).val) (h1 : (j 1).val = 0 * 2048 + (y 1).val) :
    (iblk m c 0 t : Mat 2048 2048) y = A m c j := by
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (j 0).val; rw [(idx t).1.1]; omega
  | ⟨1, _⟩ => show win0_0.index t 1 * 2048 + 1 * (y 1).val = (j 1).val; rw [(idx t).1.2]; omega

abbrev B (c : Dev nD) : Mat 2048 2048 := m ((c : Thread nD τ).loc main_arg1)

theorem blk1 (c : Dev nD) (t : Fin cfg0.N) (y : (⟨2, ![1024, 2048]⟩ : Shape).Idx) (j : (⟨2, ![2048, 2048]⟩ : Shape).Idx)
    (h0 : (j 0).val = t.val % 2 * 1024 + (y 0).val) (h1 : (j 1).val = 0 * 2048 + (y 1).val) :
    (iblk m c 1 t : Mat 1024 2048) y = B m c j := by
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (j 0).val; rw [(idx t).2.1.1]; omega
  | ⟨1, _⟩ => show win0_1.index t 1 * 2048 + 1 * (y 1).val = (j 1).val; rw [(idx t).2.1.2]; omega

/-- The whole result array. -/
def G2 (c : Dev nD) : Buf (Elt Ideal) ((c : Thread nD τ).loc main_v0) := (nt (A m c) (B m c) : Mat 8192 2048)

/-- The product of a point's blocks is one tile of the contraction. -/
theorem part (c : Dev nD) (t : Fin cfg0.N) (y : S2048x1024.Idx) (i : S8192x2048.Idx)
    (h0 : (i 0).val = t.val / 2 * 2048 + (y 0).val) (h1 : (i 1).val = t.val % 2 * 1024 + (y 1).val) :
    nt (iblk m c 0 t : Mat 2048 2048) (iblk m c 1 t : Mat 1024 2048) y = ntTile 2048 (A m c) (B m c) (0) i := by
  have hN : t.val < 8 := lt_of_lt_of_eq t.isLt (show cfg0.N = 8 from N_0)
  refine Finset.sum_congr rfl fun k _ => ?_
  have hk := k.isLt
  rw [dif_pos (show 0 * 2048 + k.val < 2048 by omega)]
  exact congrArg₂ (· * ·) (blk0 m c t _ _ h0 rfl) (blk1 m c t _ _ h1 rfl)

theorem flushed2_eq (c : Dev nD) (t : Fin cfg0.N) :
    (dats m 0 c).flushed 2 t = ((cfg0.win 2).blk t).view.read (Elt Ideal) (G2 m c) := by
  have hN : t.val < 8 := lt_of_lt_of_eq t.isLt (show cfg0.N = 8 from N_0)
  rw [Value.flushed2_A, out2]
  funext y
  rw [View.read_apply]
  show nt (iblk m c 0 t : Mat 2048 2048) (iblk m c 1 t : Mat 1024 2048) y = nt (A m c) (B m c) ((win0_2.rect t).emb y)
  have e0 : ((win0_2.rect t).emb y 0 : Nat) = t.val / 2 * 2048 + (y 0).val := by
    rw [win0_2.rect_emb_val, (idx t).2.2.1]; rfl
  have e1 : ((win0_2.rect t).emb y 1 : Nat) = t.val % 2 * 1024 + (y 1).val := by
    rw [win0_2.rect_emb_val, (idx t).2.2.2]; rfl
  rw [nt_tiles 1 2048 rfl (A m c) (B m c), Fin.sum_univ_one]

  exact part m c t y _ e0 e1

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 8 := N_0
  let t : Fin cfg0.N := ⟨(i 0).val / 2048 * 2 + (i 1).val / 1024 * 1 + 0, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(idx t).2.2.1]; dsimp only [t]; omega
  | ⟨1, _⟩ =>
    show win0_2.index t 1 * 1024 ≤ (i 1 : Nat) ∧ (i 1 : Nat) < win0_2.index t 1 * 1024 + 1024
    rw [(idx t).2.2.2]; dsimp only [t]; omega

theorem final2 (c : Dev nD) : (dats m 0 c).arrAt 2 cfg0.N = G2 m c :=
  (dats m 0 c).arrAt_eq_of_cover 2 (G2 m c) (fun t _ => flushed2_eq m c t) cover2

theorem reference_frame : Cert.quiescent_DAttReferenceIdeal := fun m ρ _ =>
  (θ_run (Cert.DAttReferenceIdeal.defs (F := Ideal)) _ _).mono
    (fun r h => ⟨fun c => (h c).2, Idealize.ShloMosaic.sem_eq_zero_of_no_sems (by decide) r.2⟩) (Cert.DAttReferenceIdeal.Value.run m ρ)

theorem claim : Cert.algebraic_DAttIdeal_DAttReferenceIdeal := by
  intro m ρ m' ρ' _ hagree
  refine ⟨fun c => G2 m c, (θ_run defs _ _).mono (fun _ h c => ⟨(h c).1.trans (final2 m c), (h c).2⟩) (Value.run_blocks m ρ),
    (θ_run Cert.DAttReferenceIdeal.defs _ _).mono (fun _ h c => ⟨(h c).1.trans ?_, (h c).2⟩) (Cert.DAttReferenceIdeal.Value.run m' ρ')⟩
  all_goals
    rw [(hagree c).1, (hagree c).2]
  show _ = (nt (A m c) (B m c) : Mat 8192 2048)
  funext j
  idx_vars j
  pointwise [nt]

end Cert.Products.DAtt

end
-- ==== Proof.Products.DH1.lean ====
module

public import proofs.«01_k».proof.Proof.Gen.DH1Ideal.Value
public import proofs.«01_k».proof.Proof.Gen.DH1ReferenceIdeal.Run
public import proofs.«01_k».proof.Defs
public import proofs.«01_k».proof.Proof.Products.Common

@[expose] public section

noncomputable section

/-! The gradient of the first norm's output: the left operand comes as seven groups of columns. -/

namespace Cert.Products.DH1

open Cert.DH1Ideal Cert.DH1Ideal.Gen Idealize.ShloMosaic Idealize.ShloMosaic.TcCoe Idealize.SL.Sem
open Idealize.ShloMosaic.Pipeline (Dat)

section body
variable (c : Dev nD) (i : grid0.Coords) (a0 : Memref sig .tc .vmem S1x1024x1024 .bf16) (h0 : a0.IsWhole) (a1 : Memref sig .tc .vmem S2048x1024 .bf16) (h1 : a1.IsWhole) (a2 : Memref sig .tc .vmem S1024x2048 .bf16) (h2 : a2.IsWhole) (a3 : Memref sig .tc .vmem S1024x2048 .f32) (h3 : a3.IsWhole)
  (x0 : Vec Ideal S1x1024x1024 .bf16) (x1 : Vec Ideal S2048x1024 .bf16)
/-- What the point that finishes a block leaves in window 2. -/
theorem out2 (hc0 : ¬cond0_0 i) (hc1 : ¬cond0_1 i) (hc2 : cond0_2 i) (s : Vec Ideal S1024x2048 .f32) :
    out0_C_2 c i a0 h0 a1 h1 a2 h2 a3 h3 hc0 hc1 hc2 x0 x1 s = fun j => s j + nt (M := 1024) (K := 1024) (N := 2048) (sheet x0) x1 j := by
  unfold out0_C_2
  rw [View.read_writes_eq_canon _ _ _ (cover0_C_2 c i a0 h0 a1 h1 a2 h2 a3 h3 hc0 hc1 hc2 x0 x1 s)]
  unfold kernelRun0_C
  dsimp only
  rw [View.canon_unit_zero hz]
  simp only [View.readAt_eq_ld, h0.read_unread, h1.read_unread, h3.read_unread, View.ld_unit_zero (S := S1024x2048) hz, View.ld_unit_zero (S := S1x1024x1024) hz3, View.ld_unit_zero (S := S2048x1024) hz, shapeCast_self]
  funext j
  idx_vars j
  unfold_payloads
  pointwise [nt, sheet]
/-- What the first point of a block leaves in the accumulator. -/
theorem accA (hc0 : cond0_0 i) (hc1 : ¬cond0_1 i) (hc2 : ¬cond0_2 i) :
    sout0_A_0 c i a0 h0 a1 h1 a2 h2 a3 h3 hc0 hc1 hc2 x0 x1 = nt (M := 1024) (K := 1024) (N := 2048) (sheet x0) x1 := by
  unfold sout0_A_0
  rw [View.read_writes_eq_canon _ _ _ (scover0_A_0 c i a0 h0 a1 h1 a2 h2 a3 h3 hc0 hc1 hc2 x0 x1)]
  unfold kernelRun0_A
  dsimp only
  rw [View.canon_unit_zero hz]
  simp only [View.readAt_eq_ld, h0.read_unread, h1.read_unread, View.ld_unit_zero (S := S1024x2048) hz, View.ld_unit_zero (S := S1x1024x1024) hz3, View.ld_unit_zero (S := S2048x1024) hz, shapeCast_self]
  funext j
  idx_vars j
  unfold_payloads
  pointwise [nt, sheet]
/-- What a point in the middle of a block leaves in the accumulator. -/
theorem accB (hc0 : ¬cond0_0 i) (hc1 : cond0_1 i) (hc2 : ¬cond0_2 i) (s : Vec Ideal S1024x2048 .f32) :
    sout0_B_0 c i a0 h0 a1 h1 a2 h2 a3 h3 hc0 hc1 hc2 x0 x1 s = fun j => s j + nt (M := 1024) (K := 1024) (N := 2048) (sheet x0) x1 j := by
  unfold sout0_B_0
  rw [View.read_writes_eq_canon _ _ _ (scover0_B_0 c i a0 h0 a1 h1 a2 h2 a3 h3 hc0 hc1 hc2 x0 x1 s)]
  unfold kernelRun0_B
  dsimp only
  rw [View.canon_unit_zero hz]
  simp only [View.readAt_eq_ld, h0.read_unread, h1.read_unread, h3.read_unread, View.ld_unit_zero (S := S1024x2048) hz, View.ld_unit_zero (S := S1x1024x1024) hz3, View.ld_unit_zero (S := S2048x1024) hz, shapeCast_self]
  funext j
  idx_vars j
  unfold_payloads
  pointwise [nt, sheet]
end body

variable (m : (ℓ : Loc nD τ sig) → Buf (Elt Ideal) ℓ) (ρ : Dev nD → PrngReg)

/-- The block index of each window at a point. -/
theorem idx : ∀ t : Fin cfg0.N, (win0_0.index t 0 = t.val % 7 ∧ win0_0.index t 1 = t.val / 7 ∧ win0_0.index t 2 = 0)
    ∧ (win0_1.index t 0 = 0 ∧ win0_1.index t 1 = t.val % 7)
    ∧ (win0_2.index t 0 = t.val / 7 ∧ win0_2.index t 1 = 0) :=
  (by decide +kernel : ∀ t : Fin grid0.N, _)

abbrev A (c : Dev nD) : Mat 8192 7168 := joined 7 1024 rfl (by decide : 7 ≤ 8) (m ((c : Thread nD τ).loc main_arg0))

theorem blk0 (c : Dev nD) (t : Fin cfg0.N) (y : (⟨2, ![1024, 1024]⟩ : Shape).Idx) (j : (⟨2, ![8192, 7168]⟩ : Shape).Idx)
    (h0 : (j 0).val = t.val / 7 * 1024 + (y 0).val) (h1 : (j 1).val = t.val % 7 * 1024 + (y 1).val) :
    (sheet (iblk m c 0 t : Cube 1 1024 1024)) y = A m c j := by
  have hy : (y 1).val < 1024 := (y 1).isLt
  unfold iblk
  unfold sheet
  rw [View.read_apply]
  show V m c main_arg0 _ = m (c.tc.loc main_arg0) _
  unfold V
  congr 1
  funext a
  apply Fin.ext
  match a with
  | ⟨0, _⟩ => show win0_0.index t 0 * 1 + 1 * 0 = (j 1).val / 1024; rw [(idx t).1.1]; omega
  | ⟨1, _⟩ => show win0_0.index t 1 * 1024 + 1 * (y 0).val = (j 0).val; rw [(idx t).1.2.1]; omega
  | ⟨2, _⟩ => show win0_0.index t 2 * 1024 + 1 * (y 1).val = (j 1).val % 1024; rw [(idx t).1.2.2]; omega

abbrev B (c : Dev nD) : Mat 2048 7168 := m ((c : Thread nD τ).loc main_arg1)

theorem blk1 (c : Dev nD) (t : Fin cfg0.N) (y : (⟨2, ![2048, 1024]⟩ : Shape).Idx) (j : (⟨2, ![2048, 7168]⟩ : Shape).Idx)
    (h0 : (j 0).val = 0 * 2048 + (y 0).val) (h1 : (j 1).val = t.val % 7 * 1024 + (y 1).val) :
    (iblk m c 1 t : Mat 2048 1024) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1024 + 1 * (y 1).val = (j 1).val; rw [(idx t).2.1.2]; omega

/-- The whole result array. -/
def G2 (c : Dev nD) : Buf (Elt Ideal) ((c : Thread nD τ).loc main_v0) := (nt (A m c) (B m c) : Mat 8192 2048)

/-- The product of a point's blocks is one tile of the contraction. -/
theorem part (c : Dev nD) (t : Fin cfg0.N) (y : S1024x2048.Idx) (i : S8192x2048.Idx)
    (h0 : (i 0).val = t.val / 7 * 1024 + (y 0).val) (h1 : (i 1).val = 0 * 2048 + (y 1).val) :
    nt (sheet (iblk m c 0 t : Cube 1 1024 1024)) (iblk m c 1 t : Mat 2048 1024) y = ntTile 1024 (A m c) (B m c) (t.val % 7) i := by
  have hN : t.val < 56 := lt_of_lt_of_eq t.isLt (show cfg0.N = 56 from N_0)
  refine Finset.sum_congr rfl fun k _ => ?_
  have hk := k.isLt
  rw [dif_pos (show t.val % 7 * 1024 + k.val < 7168 by omega)]
  exact congrArg₂ (· * ·) (blk0 m c t _ _ h0 rfl) (blk1 m c t _ _ h1 rfl)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 7 = 6) :
    (outsAt0 m c (t.val - 1) (Nat.lt_of_le_of_lt (Nat.sub_le _ _) t.isLt)).2
      = fun y => nt (sheet (iblk m c 0 (before t 6) : Cube 1 1024 1024)) (iblk m c 1 (before t 6) : Mat 2048 1024) y + nt (sheet (iblk m c 0 (before t 5) : Cube 1 1024 1024)) (iblk m c 1 (before t 5) : Mat 2048 1024) y + nt (sheet (iblk m c 0 (before t 4) : Cube 1 1024 1024)) (iblk m c 1 (before t 4) : Mat 2048 1024) y + nt (sheet (iblk m c 0 (before t 3) : Cube 1 1024 1024)) (iblk m c 1 (before t 3) : Mat 2048 1024) y + nt (sheet (iblk m c 0 (before t 2) : Cube 1 1024 1024)) (iblk m c 1 (before t 2) : Mat 2048 1024) y + nt (sheet (iblk m c 0 (before t 1) : Cube 1 1024 1024)) (iblk m c 1 (before t 1) : Mat 2048 1024) y := by
  have s6 : (outsAt0 m c (before t 6).val (before t 6).isLt).2 = nt (sheet (iblk m c 0 (before t 6) : Cube 1 1024 1024)) (iblk m c 1 (before t 6) : Mat 2048 1024) := by
    rw [outsAt0_A m c (before t 6) (by simp only [before] <;> omega) (by simp only [before] <;> omega) (by simp only [before] <;> omega)]
    dsimp only
    rw [accA]
  have s5 : (outsAt0 m c (before t 5).val (before t 5).isLt).2 = fun y => (outsAt0 m c (before t 6).val (before t 6).isLt).2 y + nt (sheet (iblk m c 0 (before t 5) : Cube 1 1024 1024)) (iblk m c 1 (before t 5) : Mat 2048 1024) y := by
    rw [outsAt0_B m c (before t 5) (by simp only [before] <;> omega) (by simp only [before] <;> omega) (by simp only [before] <;> omega)]
    dsimp only
    rw [accB]
    rfl
  have s4 : (outsAt0 m c (before t 4).val (before t 4).isLt).2 = fun y => (outsAt0 m c (before t 5).val (before t 5).isLt).2 y + nt (sheet (iblk m c 0 (before t 4) : Cube 1 1024 1024)) (iblk m c 1 (before t 4) : Mat 2048 1024) y := by
    rw [outsAt0_B m c (before t 4) (by simp only [before] <;> omega) (by simp only [before] <;> omega) (by simp only [before] <;> omega)]
    dsimp only
    rw [accB]
    rfl
  have s3 : (outsAt0 m c (before t 3).val (before t 3).isLt).2 = fun y => (outsAt0 m c (before t 4).val (before t 4).isLt).2 y + nt (sheet (iblk m c 0 (before t 3) : Cube 1 1024 1024)) (iblk m c 1 (before t 3) : Mat 2048 1024) y := by
    rw [outsAt0_B m c (before t 3) (by simp only [before] <;> omega) (by simp only [before] <;> omega) (by simp only [before] <;> omega)]
    dsimp only
    rw [accB]
    rfl
  have s2 : (outsAt0 m c (before t 2).val (before t 2).isLt).2 = fun y => (outsAt0 m c (before t 3).val (before t 3).isLt).2 y + nt (sheet (iblk m c 0 (before t 2) : Cube 1 1024 1024)) (iblk m c 1 (before t 2) : Mat 2048 1024) y := by
    rw [outsAt0_B m c (before t 2) (by simp only [before] <;> omega) (by simp only [before] <;> omega) (by simp only [before] <;> omega)]
    dsimp only
    rw [accB]
    rfl
  have s1 : (outsAt0 m c (before t 1).val (before t 1).isLt).2 = fun y => (outsAt0 m c (before t 2).val (before t 2).isLt).2 y + nt (sheet (iblk m c 0 (before t 1) : Cube 1 1024 1024)) (iblk m c 1 (before t 1) : Mat 2048 1024) y := by
    rw [outsAt0_B m c (before t 1) (by simp only [before] <;> omega) (by simp only [before] <;> omega) (by simp only [before] <;> omega)]
    dsimp only
    rw [accB]
    rfl
  rw [s2, s3, s4, s5, s6] at s1
  exact s1

set_option maxRecDepth 100000 in
theorem flushed2_eq (c : Dev nD) (t : Fin cfg0.N) (h : t.val % 7 = 6) :
    (dats m 0 c).flushed 2 t = ((cfg0.win 2).blk t).view.read (Elt Ideal) (G2 m c) := by
  have hN : t.val < 56 := lt_of_lt_of_eq t.isLt (show cfg0.N = 56 from N_0)
  rw [Value.flushed2_C m c t (by omega) (by omega) h, out2]
  rw [acc m c t h]
  funext y
  rw [View.read_apply]
  show nt (sheet (iblk m c 0 (before t 6) : Cube 1 1024 1024)) (iblk m c 1 (before t 6) : Mat 2048 1024) y + nt (sheet (iblk m c 0 (before t 5) : Cube 1 1024 1024)) (iblk m c 1 (before t 5) : Mat 2048 1024) y + nt (sheet (iblk m c 0 (before t 4) : Cube 1 1024 1024)) (iblk m c 1 (before t 4) : Mat 2048 1024) y + nt (sheet (iblk m c 0 (before t 3) : Cube 1 1024 1024)) (iblk m c 1 (before t 3) : Mat 2048 1024) y + nt (sheet (iblk m c 0 (before t 2) : Cube 1 1024 1024)) (iblk m c 1 (before t 2) : Mat 2048 1024) y + nt (sheet (iblk m c 0 (before t 1) : Cube 1 1024 1024)) (iblk m c 1 (before t 1) : Mat 2048 1024) y + nt (sheet (iblk m c 0 t : Cube 1 1024 1024)) (iblk m c 1 t : Mat 2048 1024) y = nt (A m c) (B m c) ((win0_2.rect t).emb y)
  have e0 : ((win0_2.rect t).emb y 0 : Nat) = t.val / 7 * 1024 + (y 0).val := by
    rw [win0_2.rect_emb_val, (idx t).2.2.1]; rfl
  have e1 : ((win0_2.rect t).emb y 1 : Nat) = 0 * 2048 + (y 1).val := by
    rw [win0_2.rect_emb_val, (idx t).2.2.2]; rfl
  rw [nt_tiles 7 1024 rfl (A m c) (B m c), Fin.sum_univ_seven]
  have p0 := part m c (before t 6) y _ (e0.trans (by simp only [before] <;> omega)) (e1.trans (by simp only [before] <;> omega))
  rw [show (before t 6).val % 7 = 0 by simp only [before]; omega] at p0
  have p1 := part m c (before t 5) y _ (e0.trans (by simp only [before] <;> omega)) (e1.trans (by simp only [before] <;> omega))
  rw [show (before t 5).val % 7 = 1 by simp only [before]; omega] at p1
  have p2 := part m c (before t 4) y _ (e0.trans (by simp only [before] <;> omega)) (e1.trans (by simp only [before] <;> omega))
  rw [show (before t 4).val % 7 = 2 by simp only [before]; omega] at p2
  have p3 := part m c (before t 3) y _ (e0.trans (by simp only [before] <;> omega)) (e1.trans (by simp only [before] <;> omega))
  rw [show (before t 3).val % 7 = 3 by simp only [before]; omega] at p3
  have p4 := part m c (before t 2) y _ (e0.trans (by simp only [before] <;> omega)) (e1.trans (by simp only [before] <;> omega))
  rw [show (before t 2).val % 7 = 4 by simp only [before]; omega] at p4
  have p5 := part m c (before t 1) y _ (e0.trans (by simp only [before] <;> omega)) (e1.trans (by simp only [before] <;> omega))
  rw [show (before t 1).val % 7 = 5 by simp only [before]; omega] at p5
  have p6 := part m c t y _ e0 e1
  rw [show t.val % 7 = 6 by omega] at p6
  rw [p0, p1, p2, p3, p4, p5, p6]
  rfl

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 56 := N_0
  let t : Fin cfg0.N := ⟨(i 0).val / 1024 * 7 + (i 1).val / 2048 * 7 + 6, by omega⟩
  refine ⟨t, (flush0_2 t).mpr (by dsimp only [t]; omega), ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1]; dsimp only [t]; omega
  | ⟨1, _⟩ =>
    show win0_2.index t 1 * 2048 ≤ (i 1 : Nat) ∧ (i 1 : Nat) < win0_2.index t 1 * 2048 + 2048
    rw [(idx t).2.2.2]; dsimp only [t]; omega

theorem final2 (c : Dev nD) : (dats m 0 c).arrAt 2 cfg0.N = G2 m c :=
  (dats m 0 c).arrAt_eq_of_cover 2 (G2 m c) (fun t hf => flushed2_eq m c t ((flush0_2 t).mp hf)) cover2

theorem reference_frame : Cert.quiescent_DH1ReferenceIdeal := fun m ρ _ =>
  (θ_run (Cert.DH1ReferenceIdeal.defs (F := Ideal)) _ _).mono
    (fun r h => ⟨fun c => (h c).2, Idealize.ShloMosaic.sem_eq_zero_of_no_sems (by decide) r.2⟩) (Cert.DH1ReferenceIdeal.Value.run m ρ)

theorem claim : Cert.algebraic_DH1Ideal_DH1ReferenceIdeal := by
  intro m ρ m' ρ' _ hagree
  refine ⟨fun c => G2 m c, (θ_run defs _ _).mono (fun _ h c => ⟨(h c).1.trans (final2 m c), (h c).2⟩) (Value.run_blocks m ρ),
    (θ_run Cert.DH1ReferenceIdeal.defs _ _).mono (fun _ h c => ⟨(h c).1.trans ?_, (h c).2⟩) (Cert.DH1ReferenceIdeal.Value.run m' ρ')⟩
  all_goals
    rw [(hagree c).1, (hagree c).2]
  show _ = (nt (A m c) (B m c) : Mat 8192 2048)
  funext j
  idx_vars j
  pointwise [nt, joined]

end Cert.Products.DH1

end
-- ==== Proof.Products.DH3Gate.lean ====
module

public import proofs.«01_k».proof.Proof.Gen.DH3GateIdeal.Value
public import proofs.«01_k».proof.Proof.Gen.DH3GateReferenceIdeal.Run
public import proofs.«01_k».proof.Defs
public import proofs.«01_k».proof.Proof.Products.Common

@[expose] public section

noncomputable section

/-! The gradient of the feed-forward input, through the gate projection. -/

namespace Cert.Products.DH3Gate

open Cert.DH3GateIdeal Cert.DH3GateIdeal.Gen Idealize.ShloMosaic Idealize.ShloMosaic.TcCoe Idealize.SL.Sem
open Idealize.ShloMosaic.Pipeline (Dat)

section body
variable (c : Dev nD) (i : grid0.Coords) (a0 : Memref sig .tc .vmem S1024x2816 .bf16) (h0 : a0.IsWhole) (a1 : Memref sig .tc .vmem S1024x2816 .bf16) (h1 : a1.IsWhole) (a2 : Memref sig .tc .vmem S1024x1024 .f32) (h2 : a2.IsWhole) (a3 : Memref sig .tc .vmem S1024x1024 .f32) (h3 : a3.IsWhole)
  (x0 : Vec Ideal S1024x2816 .bf16) (x1 : Vec Ideal S1024x2816 .bf16)
/-- What the point that finishes a block leaves in window 2. -/
theorem out2 (hc0 : ¬cond0_0 i) (hc1 : cond0_1 i) (s : Vec Ideal S1024x1024 .f32) :
    out0_B_2 c i a0 h0 a1 h1 a2 h2 a3 h3 hc0 hc1 x0 x1 s = fun j => s j + nt (M := 1024) (K := 2816) (N := 1024) x0 x1 j := by
  unfold out0_B_2
  rw [View.read_writes_eq_canon _ _ _ (cover0_B_2 c i a0 h0 a1 h1 a2 h2 a3 h3 hc0 hc1 x0 x1 s)]
  unfold kernelRun0_B
  dsimp only
  rw [View.canon_unit_zero hz]
  simp only [View.readAt_eq_ld, h0.read_unread, h1.read_unread, h3.read_unread, View.ld_unit_zero (S := S1024x1024) hz, View.ld_unit_zero (S := S1024x2816) hz, shapeCast_self]
  funext j
  idx_vars j
  unfold_payloads
  pointwise [nt]
/-- What the first point of a block leaves in the accumulator. -/
theorem accA (hc0 : cond0_0 i) (hc1 : ¬cond0_1 i) :
    sout0_A_0 c i a0 h0 a1 h1 a2 h2 a3 h3 hc0 hc1 x0 x1 = nt (M := 1024) (K := 2816) (N := 1024) x0 x1 := by
  unfold sout0_A_0
  rw [View.read_writes_eq_canon _ _ _ (scover0_A_0 c i a0 h0 a1 h1 a2 h2 a3 h3 hc0 hc1 x0 x1)]
  unfold kernelRun0_A
  dsimp only
  rw [View.canon_unit_zero hz]
  simp only [View.readAt_eq_ld, h0.read_unread, h1.read_unread, View.ld_unit_zero (S := S1024x1024) hz, View.ld_unit_zero (S := S1024x2816) hz, shapeCast_self]
  funext j
  idx_vars j
  unfold_payloads
  pointwise [nt]
end body

variable (m : (ℓ : Loc nD τ sig) → Buf (Elt Ideal) ℓ) (ρ : Dev nD → PrngReg)

/-- The block index of each window at a point. -/
theorem idx : ∀ t : Fin cfg0.N, (win0_0.index t 0 = t.val / 4 ∧ win0_0.index t 1 = t.val % 2)
    ∧ (win0_1.index t 0 = t.val / 2 % 2 ∧ win0_1.index t 1 = t.val % 2)
    ∧ (win0_2.index t 0 = t.val / 4 ∧ win0_2.index t 1 = t.val / 2 % 2) :=
  (by decide +kernel : ∀ t : Fin grid0.N, _)

abbrev A (c : Dev nD) : Mat 8192 5632 := m ((c : Thread nD τ).loc main_arg0)

theorem blk0 (c : Dev nD) (t : Fin cfg0.N) (y : (⟨2, ![1024, 2816]⟩ : Shape).Idx) (j : (⟨2, ![8192, 5632]⟩ : Shape).Idx)
    (h0 : (j 0).val = t.val / 4 * 1024 + (y 0).val) (h1 : (j 1).val = t.val % 2 * 2816 + (y 1).val) :
    (iblk m c 0 t : Mat 1024 2816) y = A m c j := by
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (j 0).val; rw [(idx t).1.1]; omega
  | ⟨1, _⟩ => show win0_0.index t 1 * 2816 + 1 * (y 1).val = (j 1).val; rw [(idx t).1.2]; omega

abbrev B (c : Dev nD) : Mat 2048 5632 := m ((c : Thread nD τ).loc main_arg1)

theorem blk1 (c : Dev nD) (t : Fin cfg0.N) (y : (⟨2, ![1024, 2816]⟩ : Shape).Idx) (j : (⟨2, ![2048, 5632]⟩ : Shape).Idx)
    (h0 : (j 0).val = t.val / 2 % 2 * 1024 + (y 0).val) (h1 : (j 1).val = t.val % 2 * 2816 + (y 1).val) :
    (iblk m c 1 t : Mat 1024 2816) y = B m c j := by
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (j 0).val; rw [(idx t).2.1.1]; omega
  | ⟨1, _⟩ => show win0_1.index t 1 * 2816 + 1 * (y 1).val = (j 1).val; rw [(idx t).2.1.2]; omega

/-- The whole result array. -/
def G2 (c : Dev nD) : Buf (Elt Ideal) ((c : Thread nD τ).loc main_v0) := (nt (A m c) (B m c) : Mat 8192 2048)

/-- The product of a point's blocks is one tile of the contraction. -/
theorem part (c : Dev nD) (t : Fin cfg0.N) (y : S1024x1024.Idx) (i : S8192x2048.Idx)
    (h0 : (i 0).val = t.val / 4 * 1024 + (y 0).val) (h1 : (i 1).val = t.val / 2 % 2 * 1024 + (y 1).val) :
    nt (iblk m c 0 t : Mat 1024 2816) (iblk m c 1 t : Mat 1024 2816) y = ntTile 2816 (A m c) (B m c) (t.val % 2) i := by
  have hN : t.val < 32 := lt_of_lt_of_eq t.isLt (show cfg0.N = 32 from N_0)
  refine Finset.sum_congr rfl fun k _ => ?_
  have hk := k.isLt
  rw [dif_pos (show t.val % 2 * 2816 + k.val < 5632 by omega)]
  exact congrArg₂ (· * ·) (blk0 m c t _ _ h0 rfl) (blk1 m c t _ _ h1 rfl)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 2 = 1) :
    (outsAt0 m c (t.val - 1) (Nat.lt_of_le_of_lt (Nat.sub_le _ _) t.isLt)).2 = nt (iblk m c 0 (before t 1) : Mat 1024 2816) (iblk m c 1 (before t 1) : Mat 1024 2816) := by
  have s1 : (outsAt0 m c (before t 1).val (before t 1).isLt).2 = nt (iblk m c 0 (before t 1) : Mat 1024 2816) (iblk m c 1 (before t 1) : Mat 1024 2816) := by
    rw [outsAt0_A m c (before t 1) (by simp only [before] <;> omega) (by simp only [before] <;> omega)]
    dsimp only
    rw [accA]
  exact s1

set_option maxRecDepth 100000 in
theorem flushed2_eq (c : Dev nD) (t : Fin cfg0.N) (h : t.val % 2 = 1) :
    (dats m 0 c).flushed 2 t = ((cfg0.win 2).blk t).view.read (Elt Ideal) (G2 m c) := by
  have hN : t.val < 32 := lt_of_lt_of_eq t.isLt (show cfg0.N = 32 from N_0)
  rw [Value.flushed2_B m c t (by omega) h, out2]
  rw [acc m c t h]
  funext y
  rw [View.read_apply]
  show nt (iblk m c 0 (before t 1) : Mat 1024 2816) (iblk m c 1 (before t 1) : Mat 1024 2816) y + nt (iblk m c 0 t : Mat 1024 2816) (iblk m c 1 t : Mat 1024 2816) y = nt (A m c) (B m c) ((win0_2.rect t).emb y)
  have e0 : ((win0_2.rect t).emb y 0 : Nat) = t.val / 4 * 1024 + (y 0).val := by
    rw [win0_2.rect_emb_val, (idx t).2.2.1]; rfl
  have e1 : ((win0_2.rect t).emb y 1 : Nat) = t.val / 2 % 2 * 1024 + (y 1).val := by
    rw [win0_2.rect_emb_val, (idx t).2.2.2]; rfl
  rw [nt_tiles 2 2816 rfl (A m c) (B m c), Fin.sum_univ_two]
  have p0 := part m c (before t 1) y _ (e0.trans (by simp only [before] <;> omega)) (e1.trans (by simp only [before] <;> omega))
  rw [show (before t 1).val % 2 = 0 by simp only [before]; omega] at p0
  have p1 := part m c t y _ e0 e1
  rw [show t.val % 2 = 1 by omega] at p1
  rw [p0, p1]
  rfl

theorem cover2 (i : S8192x2048.Idx) : ∃ t : Fin cfg0.N, (cfg0.win 2).flush t = true ∧ i ∈ ((cfg0.win 2).blk t).view.set := by
  have h0 : (i 0).val < 8192 := (i 0).isLt
  have h1 : (i 1).val < 2048 := (i 1).isLt
  have hN : cfg0.N = 32 := N_0
  let t : Fin cfg0.N := ⟨(i 0).val / 1024 * 4 + (i 1).val / 1024 * 2 + 1, by omega⟩
  refine ⟨t, (flush0_2 t).mpr (by dsimp only [t]; omega), ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1]; dsimp only [t]; omega
  | ⟨1, _⟩ =>
    show win0_2.index t 1 * 1024 ≤ (i 1 : Nat) ∧ (i 1 : Nat) < win0_2.index t 1 * 1024 + 1024
    rw [(idx t).2.2.2]; dsimp only [t]; omega

theorem final2 (c : Dev nD) : (dats m 0 c).arrAt 2 cfg0.N = G2 m c :=
  (dats m 0 c).arrAt_eq_of_cover 2 (G2 m c) (fun t hf => flushed2_eq m c t ((flush0_2 t).mp hf)) cover2

theorem reference_frame : Cert.quiescent_DH3GateReferenceIdeal := fun m ρ _ =>
  (θ_run (Cert.DH3GateReferenceIdeal.defs (F := Ideal)) _ _).mono
    (fun r h => ⟨fun c => (h c).2, Idealize.ShloMosaic.sem_eq_zero_of_no_sems (by decide) r.2⟩) (Cert.DH3GateReferenceIdeal.Value.run m ρ)

theorem claim : Cert.algebraic_DH3GateIdeal_DH3GateReferenceIdeal := by
  intro m ρ m' ρ' _ hagree
  refine ⟨fun c => G2 m c, (θ_run defs _ _).mono (fun _ h c => ⟨(h c).1.trans (final2 m c), (h c).2⟩) (Value.run_blocks m ρ),
    (θ_run Cert.DH3GateReferenceIdeal.defs _ _).mono (fun _ h c => ⟨(h c).1.trans ?_, (h c).2⟩) (Cert.DH3GateReferenceIdeal.Value.run m' ρ')⟩
  all_goals
    rw [(hagree c).1, (hagree c).2]
  show _ = (nt (A m c) (B m c) : Mat 8192 2048)
  funext j
  idx_vars j
  pointwise [nt]

end Cert.Products.DH3Gate

end
-- ==== Proof.Products.DH3Up.lean ====
module

public import proofs.«01_k».proof.Proof.Gen.DH3UpIdeal.Value
public import proofs.«01_k».proof.Proof.Gen.DH3UpReferenceIdeal.Run
public import proofs.«01_k».proof.Defs
public import proofs.«01_k».proof.Proof.Products.Common

@[expose] public section

noncomputable section

/-! The gradient of the feed-forward input, through the up projection, added to the one through the gate. -/

namespace Cert.Products.DH3Up

open Cert.DH3UpIdeal Cert.DH3UpIdeal.Gen Idealize.ShloMosaic Idealize.ShloMosaic.TcCoe Idealize.SL.Sem
open Idealize.ShloMosaic.Pipeline (Dat)

section body
variable (c : Dev nD) (i : grid0.Coords) (a0 : Memref sig .tc .vmem S1024x2816 .bf16) (h0 : a0.IsWhole) (a1 : Memref sig .tc .vmem S1024x2816 .bf16) (h1 : a1.IsWhole) (a2 : Memref sig .tc .vmem S1024x1024 .f32) (h2 : a2.IsWhole) (a3 : Memref sig .tc .vmem S1024x1024 .bf16) (h3 : a3.IsWhole) (a4 : Memref sig .tc .vmem S1024x1024 .f32) (h4 : a4.IsWhole)
  (x0 : Vec Ideal S1024x2816 .bf16) (x1 : Vec Ideal S1024x2816 .bf16) (x2 : Vec Ideal S1024x1024 .f32)
/-- What the point that finishes a block leaves in window 3. -/
theorem out3 (hc0 : ¬cond0_0 i) (hc1 : cond0_1 i) (s : Vec Ideal S1024x1024 .f32) :
    out0_B_3 c i a0 h0 a1 h1 a2 h2 a3 h3 a4 h4 hc0 hc1 x0 x1 x2 s = fun j => x2 j + (s j + nt (M := 1024) (K := 2816) (N := 1024) x0 x1 j) := by
  unfold out0_B_3
  rw [View.read_writes_eq_canon _ _ _ (cover0_B_3 c i a0 h0 a1 h1 a2 h2 a3 h3 a4 h4 hc0 hc1 x0 x1 x2 s)]
  unfold kernelRun0_B
  dsimp only
  rw [View.canon_unit_zero hz]
  simp only [View.readAt_eq_ld, h0.read_unread, h1.read_unread, h2.read_unread, h4.read_unread, View.ld_unit_zero (S := S1024x1024) hz, View.ld_unit_zero (S := S1024x2816) hz, shapeCast_self]
  funext j
  idx_vars j
  unfold_payloads
  pointwise [nt]
/-- What the first point of a block leaves in the accumulator. -/
theorem accA (hc0 : cond0_0 i) (hc1 : ¬cond0_1 i) :
    sout0_A_0 c i a0 h0 a1 h1 a2 h2 a3 h3 a4 h4 hc0 hc1 x0 x1 x2 = nt (M := 1024) (K := 2816) (N := 1024) x0 x1 := by
  unfold sout0_A_0
  rw [View.read_writes_eq_canon _ _ _ (scover0_A_0 c i a0 h0 a1 h1 a2 h2 a3 h3 a4 h4 hc0 hc1 x0 x1 x2)]
  unfold kernelRun0_A
  dsimp only
  rw [View.canon_unit_zero hz]
  simp only [View.readAt_eq_ld, h0.read_unread, h1.read_unread, h2.read_unread, View.ld_unit_zero (S := S1024x1024) hz, View.ld_unit_zero (S := S1024x2816) hz, shapeCast_self]
  funext j
  idx_vars j
  unfold_payloads
  pointwise [nt]
end body

variable (m : (ℓ : Loc nD τ sig) → Buf (Elt Ideal) ℓ) (ρ : Dev nD → PrngReg)

/-- The block index of each window at a point. -/
theorem idx : ∀ t : Fin cfg0.N, (win0_0.index t 0 = t.val / 4 ∧ win0_0.index t 1 = t.val % 2)
    ∧ (win0_1.index t 0 = t.val / 2 % 2 ∧ win0_1.index t 1 = t.val % 2)
    ∧ (win0_2.index t 0 = t.val / 4 ∧ win0_2.index t 1 = t.val / 2 % 2)
    ∧ (win0_3.index t 0 = t.val / 4 ∧ win0_3.index t 1 = t.val / 2 % 2) :=
  (by decide +kernel : ∀ t : Fin grid0.N, _)

abbrev A (c : Dev nD) : Mat 8192 5632 := m ((c : Thread nD τ).loc main_arg0)

theorem blk0 (c : Dev nD) (t : Fin cfg0.N) (y : (⟨2, ![1024, 2816]⟩ : Shape).Idx) (j : (⟨2, ![8192, 5632]⟩ : Shape).Idx)
    (h0 : (j 0).val = t.val / 4 * 1024 + (y 0).val) (h1 : (j 1).val = t.val % 2 * 2816 + (y 1).val) :
    (iblk m c 0 t : Mat 1024 2816) y = A m c j := by
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (j 0).val; rw [(idx t).1.1]; omega
  | ⟨1, _⟩ => show win0_0.index t 1 * 2816 + 1 * (y 1).val = (j 1).val; rw [(idx t).1.2]; omega

abbrev B (c : Dev nD) : Mat 2048 5632 := m ((c : Thread nD τ).loc main_arg1)

theorem blk1 (c : Dev nD) (t : Fin cfg0.N) (y : (⟨2, ![1024, 2816]⟩ : Shape).Idx) (j : (⟨2, ![2048, 5632]⟩ : Shape).Idx)
    (h0 : (j 0).val = t.val / 2 % 2 * 1024 + (y 0).val) (h1 : (j 1).val = t.val % 2 * 2816 + (y 1).val) :
    (iblk m c 1 t : Mat 1024 2816) y = B m c j := by
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (j 0).val; rw [(idx t).2.1.1]; omega
  | ⟨1, _⟩ => show win0_1.index t 1 * 2816 + 1 * (y 1).val = (j 1).val; rw [(idx t).2.1.2]; omega

abbrev R (c : Dev nD) : Mat 8192 2048 := m ((c : Thread nD τ).loc main_arg2)

theorem blk2 (c : Dev nD) (t : Fin cfg0.N) (y : (⟨2, ![1024, 1024]⟩ : Shape).Idx) (j : (⟨2, ![8192, 2048]⟩ : Shape).Idx)
    (h0 : (j 0).val = t.val / 4 * 1024 + (y 0).val) (h1 : (j 1).val = t.val / 2 % 2 * 1024 + (y 1).val) :
    (iblk m c 2 t : Mat 1024 1024) y = R m c j := by
  unfold iblk
  rw [View.read_apply]
  show V m c main_arg2 _ = m (c.tc.loc main_arg2) _
  unfold V
  congr 1
  funext a
  apply Fin.ext
  match a with
  | ⟨0, _⟩ => show win0_2.index t 0 * 1024 + 1 * (y 0).val = (j 0).val; rw [(idx t).2.2.1.1]; omega
  | ⟨1, _⟩ => show win0_2.index t 1 * 1024 + 1 * (y 1).val = (j 1).val; rw [(idx t).2.2.1.2]; omega

/-- The whole result array. -/
def G3 (c : Dev nD) : Buf (Elt Ideal) ((c : Thread nD τ).loc main_v0) := (fun i => R m c i + nt (A m c) (B m c) i : Mat 8192 2048)

/-- The product of a point's blocks is one tile of the contraction. -/
theorem part (c : Dev nD) (t : Fin cfg0.N) (y : S1024x1024.Idx) (i : S8192x2048.Idx)
    (h0 : (i 0).val = t.val / 4 * 1024 + (y 0).val) (h1 : (i 1).val = t.val / 2 % 2 * 1024 + (y 1).val) :
    nt (iblk m c 0 t : Mat 1024 2816) (iblk m c 1 t : Mat 1024 2816) y = ntTile 2816 (A m c) (B m c) (t.val % 2) i := by
  have hN : t.val < 32 := lt_of_lt_of_eq t.isLt (show cfg0.N = 32 from N_0)
  refine Finset.sum_congr rfl fun k _ => ?_
  have hk := k.isLt
  rw [dif_pos (show t.val % 2 * 2816 + k.val < 5632 by omega)]
  exact congrArg₂ (· * ·) (blk0 m c t _ _ h0 rfl) (blk1 m c t _ _ h1 rfl)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 2 = 1) :
    (outsAt0 m c (t.val - 1) (Nat.lt_of_le_of_lt (Nat.sub_le _ _) t.isLt)).2 = nt (iblk m c 0 (before t 1) : Mat 1024 2816) (iblk m c 1 (before t 1) : Mat 1024 2816) := by
  have s1 : (outsAt0 m c (before t 1).val (before t 1).isLt).2 = nt (iblk m c 0 (before t 1) : Mat 1024 2816) (iblk m c 1 (before t 1) : Mat 1024 2816) := by
    rw [outsAt0_A m c (before t 1) (by simp only [before] <;> omega) (by simp only [before] <;> omega)]
    dsimp only
    rw [accA]
  exact s1

set_option maxRecDepth 100000 in
theorem flushed3_eq (c : Dev nD) (t : Fin cfg0.N) (h : t.val % 2 = 1) :
    (dats m 0 c).flushed 3 t = ((cfg0.win 3).blk t).view.read (Elt Ideal) (G3 m c) := by
  have hN : t.val < 32 := lt_of_lt_of_eq t.isLt (show cfg0.N = 32 from N_0)
  rw [Value.flushed3_B m c t (by omega) h, out3]
  rw [acc m c t h]
  funext y
  rw [View.read_apply]
  show @HAdd.hAdd EReal EReal EReal _ ((iblk m c 2 t : Mat 1024 1024) y) (nt (iblk m c 0 (before t 1) : Mat 1024 2816) (iblk m c 1 (before t 1) : Mat 1024 2816) y + nt (iblk m c 0 t : Mat 1024 2816) (iblk m c 1 t : Mat 1024 2816) y) = R m c ((win0_3.rect t).emb y) + nt (A m c) (B m c) ((win0_3.rect t).emb y)
  have e0 : ((win0_3.rect t).emb y 0 : Nat) = t.val / 4 * 1024 + (y 0).val := by
    rw [win0_3.rect_emb_val, (idx t).2.2.2.1]; rfl
  have e1 : ((win0_3.rect t).emb y 1 : Nat) = t.val / 2 % 2 * 1024 + (y 1).val := by
    rw [win0_3.rect_emb_val, (idx t).2.2.2.2]; rfl
  rw [blk2 m c t y _ e0 e1, nt_tiles 2 2816 rfl (A m c) (B m c), Fin.sum_univ_two]
  have p0 := part m c (before t 1) y _ (e0.trans (by simp only [before] <;> omega)) (e1.trans (by simp only [before] <;> omega))
  rw [show (before t 1).val % 2 = 0 by simp only [before]; omega] at p0
  have p1 := part m c t y _ e0 e1
  rw [show t.val % 2 = 1 by omega] at p1
  rw [p0, p1]
  rfl

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 32 := N_0
  let t : Fin cfg0.N := ⟨(i 0).val / 1024 * 4 + (i 1).val / 1024 * 2 + 1, by omega⟩
  refine ⟨t, (flush0_3 t).mpr (by dsimp only [t]; omega), ?_⟩
  show i ∈ ((View.whole main_v0).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t hf => flushed3_eq m c t ((flush0_3 t).mp hf)) cover3

theorem reference_frame : Cert.quiescent_DH3UpReferenceIdeal := fun m ρ _ =>
  (θ_run (Cert.DH3UpReferenceIdeal.defs (F := Ideal)) _ _).mono
    (fun r h => ⟨fun c => (h c).2, Idealize.ShloMosaic.sem_eq_zero_of_no_sems (by decide) r.2⟩) (Cert.DH3UpReferenceIdeal.Value.run m ρ)

theorem claim : Cert.algebraic_DH3UpIdeal_DH3UpReferenceIdeal := by
  intro m ρ m' ρ' _ hagree
  refine ⟨fun c => G3 m c, (θ_run defs _ _).mono (fun _ h c => ⟨(h c).1.trans (final3 m c), (h c).2⟩) (Value.run_blocks m ρ),
    (θ_run Cert.DH3UpReferenceIdeal.defs _ _).mono (fun _ h c => ⟨(h c).1.trans ?_, (h c).2⟩) (Cert.DH3UpReferenceIdeal.Value.run m' ρ')⟩
  all_goals
    rw [(hagree c).1, (hagree c).2.1, (hagree c).2.2]
  show _ = (fun i => R m c i + nt (A m c) (B m c) i : Mat 8192 2048)
  funext j
  idx_vars j
  pointwise [nt]

end Cert.Products.DH3Up

end
-- ==== Proof.Products.DMemK.lean ====
module

public import proofs.«01_k».proof.Proof.Gen.DMemKIdeal.Value
public import proofs.«01_k».proof.Proof.Gen.DMemKReferenceIdeal.Run
public import proofs.«01_k».proof.Defs
public import proofs.«01_k».proof.Proof.Products.Common

@[expose] public section

noncomputable section

/-! The gradient of the normed memory, through the keys. -/

namespace Cert.Products.DMemK

open Cert.DMemKIdeal Cert.DMemKIdeal.Gen Idealize.ShloMosaic Idealize.ShloMosaic.TcCoe Idealize.SL.Sem
open Idealize.ShloMosaic.Pipeline (Dat)

section body
variable (c : Dev nD) (i : grid0.Coords) (a0 : Memref sig .tc .vmem S256x2048 .f32) (h0 : a0.IsWhole) (a1 : Memref sig .tc .vmem S1024x2048 .bf16) (h1 : a1.IsWhole) (a2 : Memref sig .tc .vmem S256x1024 .f32) (h2 : a2.IsWhole) (a3 : Memref sig .tc .vmem S8x128 .f32) (h3 : a3.IsWhole)
  (x0 : Vec Ideal S256x2048 .f32) (x1 : Vec Ideal S1024x2048 .bf16)
/-- What the point that finishes a block leaves in window 2. -/
theorem out2  :
    out0_A_2 c i a0 h0 a1 h1 a2 h2 a3 h3 x0 x1 = nt (M := 256) (K := 2048) (N := 1024) x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x2048) hz, View.ld_unit_zero (S := S256x1024) hz, View.ld_unit_zero (S := S256x2048) hz, shapeCast_self]
  funext j
  idx_vars j
  unfold_payloads
  pointwise [nt]
end body

variable (m : (ℓ : Loc nD τ sig) → Buf (Elt Ideal) ℓ) (ρ : Dev nD → PrngReg)

/-- The block index of each window at a point. -/
theorem idx : ∀ t : Fin cfg0.N, (win0_0.index t 0 = 0 ∧ win0_0.index t 1 = 0)
    ∧ (win0_1.index t 0 = t.val ∧ win0_1.index t 1 = 0)
    ∧ (win0_2.index t 0 = 0 ∧ win0_2.index t 1 = t.val) :=
  (by decide +kernel : ∀ t : Fin grid0.N, _)

abbrev A (c : Dev nD) : Mat 256 2048 := m ((c : Thread nD τ).loc main_arg0)

theorem blk0 (c : Dev nD) (t : Fin cfg0.N) (y : (⟨2, ![256, 2048]⟩ : Shape).Idx) (j : (⟨2, ![256, 2048]⟩ : Shape).Idx)
    (h0 : (j 0).val = 0 * 256 + (y 0).val) (h1 : (j 1).val = 0 * 2048 + (y 1).val) :
    (iblk m c 0 t : Mat 256 2048) y = A m c j := by
  unfold iblk
  rw [View.read_apply]
  show V m c main_arg0 _ = m (c.tc.loc main_arg0) _
  unfold V
  congr 1
  funext a
  apply Fin.ext
  match a with
  | ⟨0, _⟩ => show win0_0.index t 0 * 256 + 1 * (y 0).val = (j 0).val; rw [(idx t).1.1]; omega
  | ⟨1, _⟩ => show win0_0.index t 1 * 2048 + 1 * (y 1).val = (j 1).val; rw [(idx t).1.2]; omega

abbrev B (c : Dev nD) : Mat 2048 2048 := m ((c : Thread nD τ).loc main_arg1)

theorem blk1 (c : Dev nD) (t : Fin cfg0.N) (y : (⟨2, ![1024, 2048]⟩ : Shape).Idx) (j : (⟨2, ![2048, 2048]⟩ : Shape).Idx)
    (h0 : (j 0).val = t.val * 1024 + (y 0).val) (h1 : (j 1).val = 0 * 2048 + (y 1).val) :
    (iblk m c 1 t : Mat 1024 2048) y = B m c j := by
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (j 0).val; rw [(idx t).2.1.1]; omega
  | ⟨1, _⟩ => show win0_1.index t 1 * 2048 + 1 * (y 1).val = (j 1).val; rw [(idx t).2.1.2]; omega

/-- The whole result array. -/
def G2 (c : Dev nD) : Buf (Elt Ideal) ((c : Thread nD τ).loc main_v0) := (nt (A m c) (B m c) : Mat 256 2048)

/-- The product of a point's blocks is one tile of the contraction. -/
theorem part (c : Dev nD) (t : Fin cfg0.N) (y : S256x1024.Idx) (i : S256x2048.Idx)
    (h0 : (i 0).val = 0 * 256 + (y 0).val) (h1 : (i 1).val = t.val * 1024 + (y 1).val) :
    nt (iblk m c 0 t : Mat 256 2048) (iblk m c 1 t : Mat 1024 2048) y = ntTile 2048 (A m c) (B m c) (0) i := by
  have hN : t.val < 2 := lt_of_lt_of_eq t.isLt (show cfg0.N = 2 from N_0)
  refine Finset.sum_congr rfl fun k _ => ?_
  have hk := k.isLt
  rw [dif_pos (show 0 * 2048 + k.val < 2048 by omega)]
  exact congrArg₂ (· * ·) (blk0 m c t _ _ h0 rfl) (blk1 m c t _ _ h1 rfl)

theorem flushed2_eq (c : Dev nD) (t : Fin cfg0.N) :
    (dats m 0 c).flushed 2 t = ((cfg0.win 2).blk t).view.read (Elt Ideal) (G2 m c) := by
  have hN : t.val < 2 := lt_of_lt_of_eq t.isLt (show cfg0.N = 2 from N_0)
  rw [Value.flushed2_A, out2]
  funext y
  rw [View.read_apply]
  show nt (iblk m c 0 t : Mat 256 2048) (iblk m c 1 t : Mat 1024 2048) y = nt (A m c) (B m c) ((win0_2.rect t).emb y)
  have e0 : ((win0_2.rect t).emb y 0 : Nat) = 0 * 256 + (y 0).val := by
    rw [win0_2.rect_emb_val, (idx t).2.2.1]; rfl
  have e1 : ((win0_2.rect t).emb y 1 : Nat) = t.val * 1024 + (y 1).val := by
    rw [win0_2.rect_emb_val, (idx t).2.2.2]; rfl
  rw [nt_tiles 1 2048 rfl (A m c) (B m c), Fin.sum_univ_one]

  exact part m c t y _ e0 e1

theorem cover2 (i : S256x2048.Idx) : ∃ t : Fin cfg0.N, (cfg0.win 2).flush t = true ∧ i ∈ ((cfg0.win 2).blk t).view.set := by
  have h0 : (i 0).val < 256 := (i 0).isLt
  have h1 : (i 1).val < 2048 := (i 1).isLt
  have hN : cfg0.N = 2 := N_0
  let t : Fin cfg0.N := ⟨(i 1).val / 1024 * 1 + (i 0).val / 256 * 1 + 0, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 256 ≤ (i 0 : Nat) ∧ (i 0 : Nat) < win0_2.index t 0 * 256 + 256
    rw [(idx t).2.2.1]; dsimp only [t]; omega
  | ⟨1, _⟩ =>
    show win0_2.index t 1 * 1024 ≤ (i 1 : Nat) ∧ (i 1 : Nat) < win0_2.index t 1 * 1024 + 1024
    rw [(idx t).2.2.2]; dsimp only [t]; omega

theorem final2 (c : Dev nD) : (dats m 0 c).arrAt 2 cfg0.N = G2 m c :=
  (dats m 0 c).arrAt_eq_of_cover 2 (G2 m c) (fun t _ => flushed2_eq m c t) cover2

theorem reference_frame : Cert.quiescent_DMemKReferenceIdeal := fun m ρ _ =>
  (θ_run (Cert.DMemKReferenceIdeal.defs (F := Ideal)) _ _).mono
    (fun r h => ⟨fun c => (h c).2, Idealize.ShloMosaic.sem_eq_zero_of_no_sems (by decide) r.2⟩) (Cert.DMemKReferenceIdeal.Value.run m ρ)

theorem claim : Cert.algebraic_DMemKIdeal_DMemKReferenceIdeal := by
  intro m ρ m' ρ' _ hagree
  refine ⟨fun c => G2 m c, (θ_run defs _ _).mono (fun _ h c => ⟨(h c).1.trans (final2 m c), (h c).2⟩) (Value.run_blocks m ρ),
    (θ_run Cert.DMemKReferenceIdeal.defs _ _).mono (fun _ h c => ⟨(h c).1.trans ?_, (h c).2⟩) (Cert.DMemKReferenceIdeal.Value.run m' ρ')⟩
  all_goals
    rw [(hagree c).1, (hagree c).2]
  show _ = (nt (A m c) (B m c) : Mat 256 2048)
  funext j
  idx_vars j
  pointwise [nt]

end Cert.Products.DMemK

end
-- ==== Proof.Products.DMemV.lean ====
module

public import proofs.«01_k».proof.Proof.Gen.DMemVIdeal.Value
public import proofs.«01_k».proof.Proof.Gen.DMemVReferenceIdeal.Run
public import proofs.«01_k».proof.Defs
public import proofs.«01_k».proof.Proof.Products.Common

@[expose] public section

noncomputable section

/-! The gradient of the normed memory, through the values, added to the one through the keys. -/

namespace Cert.Products.DMemV

open Cert.DMemVIdeal Cert.DMemVIdeal.Gen Idealize.ShloMosaic Idealize.ShloMosaic.TcCoe Idealize.SL.Sem
open Idealize.ShloMosaic.Pipeline (Dat)

section body
variable (c : Dev nD) (i : grid0.Coords) (a0 : Memref sig .tc .vmem S256x2048 .f32) (h0 : a0.IsWhole) (a1 : Memref sig .tc .vmem S1024x2048 .bf16) (h1 : a1.IsWhole) (a2 : Memref sig .tc .vmem S256x1024 .f32) (h2 : a2.IsWhole) (a3 : Memref sig .tc .vmem S256x1024 .f32) (h3 : a3.IsWhole) (a4 : Memref sig .tc .vmem S8x128 .f32) (h4 : a4.IsWhole)
  (x0 : Vec Ideal S256x2048 .f32) (x1 : Vec Ideal S1024x2048 .bf16) (x2 : Vec Ideal S256x1024 .f32)
/-- What the point that finishes a block leaves in window 3. -/
theorem out3  :
    out0_A_3 c i a0 h0 a1 h1 a2 h2 a3 h3 a4 h4 x0 x1 x2 = fun j => x2 j + nt (M := 256) (K := 2048) (N := 1024) x0 x1 j := by
  unfold out0_A_3
  rw [View.read_writes_eq_canon _ _ _ (cover0_A_3 c i a0 h0 a1 h1 a2 h2 a3 h3 a4 h4 x0 x1 x2)]
  unfold kernelRun0_A
  dsimp only
  rw [View.canon_unit_zero hz]
  simp only [View.readAt_eq_ld, h0.read_unread, h1.read_unread, h2.read_unread, View.ld_unit_zero (S := S1024x2048) hz, View.ld_unit_zero (S := S256x1024) hz, View.ld_unit_zero (S := S256x2048) hz, shapeCast_self]
  funext j
  idx_vars j
  unfold_payloads
  pointwise [nt]
end body

variable (m : (ℓ : Loc nD τ sig) → Buf (Elt Ideal) ℓ) (ρ : Dev nD → PrngReg)

/-- The block index of each window at a point. -/
theorem idx : ∀ t : Fin cfg0.N, (win0_0.index t 0 = 0 ∧ win0_0.index t 1 = 0)
    ∧ (win0_1.index t 0 = t.val ∧ win0_1.index t 1 = 0)
    ∧ (win0_2.index t 0 = 0 ∧ win0_2.index t 1 = t.val)
    ∧ (win0_3.index t 0 = 0 ∧ win0_3.index t 1 = t.val) :=
  (by decide +kernel : ∀ t : Fin grid0.N, _)

abbrev A (c : Dev nD) : Mat 256 2048 := m ((c : Thread nD τ).loc main_arg0)

theorem blk0 (c : Dev nD) (t : Fin cfg0.N) (y : (⟨2, ![256, 2048]⟩ : Shape).Idx) (j : (⟨2, ![256, 2048]⟩ : Shape).Idx)
    (h0 : (j 0).val = 0 * 256 + (y 0).val) (h1 : (j 1).val = 0 * 2048 + (y 1).val) :
    (iblk m c 0 t : Mat 256 2048) y = A m c j := by
  unfold iblk
  rw [View.read_apply]
  show V m c main_arg0 _ = m (c.tc.loc main_arg0) _
  unfold V
  congr 1
  funext a
  apply Fin.ext
  match a with
  | ⟨0, _⟩ => show win0_0.index t 0 * 256 + 1 * (y 0).val = (j 0).val; rw [(idx t).1.1]; omega
  | ⟨1, _⟩ => show win0_0.index t 1 * 2048 + 1 * (y 1).val = (j 1).val; rw [(idx t).1.2]; omega

abbrev B (c : Dev nD) : Mat 2048 2048 := m ((c : Thread nD τ).loc main_arg1)

theorem blk1 (c : Dev nD) (t : Fin cfg0.N) (y : (⟨2, ![1024, 2048]⟩ : Shape).Idx) (j : (⟨2, ![2048, 2048]⟩ : Shape).Idx)
    (h0 : (j 0).val = t.val * 1024 + (y 0).val) (h1 : (j 1).val = 0 * 2048 + (y 1).val) :
    (iblk m c 1 t : Mat 1024 2048) y = B m c j := by
  unfold iblk
  rw [View.read_apply]
  show V m c main_arg1 _ = m (c.tc.loc main_arg1) _
  unfold V
  congr 1
  funext a
  apply Fin.ext
  match a with
  | ⟨0, _⟩ => show win0_1.index t 0 * 1024 + 1 * (y 0).val = (j 0).val; rw [(idx t).2.1.1]; omega
  | ⟨1, _⟩ => show win0_1.index t 1 * 2048 + 1 * (y 1).val = (j 1).val; rw [(idx t).2.1.2]; omega

abbrev R (c : Dev nD) : Mat 256 2048 := m ((c : Thread nD τ).loc main_arg2)

theorem blk2 (c : Dev nD) (t : Fin cfg0.N) (y : (⟨2, ![256, 1024]⟩ : Shape).Idx) (j : (⟨2, ![256, 2048]⟩ : Shape).Idx)
    (h0 : (j 0).val = 0 * 256 + (y 0).val) (h1 : (j 1).val = t.val * 1024 + (y 1).val) :
    (iblk m c 2 t : Mat 256 1024) y = R m c j := by
  unfold iblk
  rw [View.read_apply]
  show V m c main_arg2 _ = m (c.tc.loc main_arg2) _
  unfold V
  congr 1
  funext a
  apply Fin.ext
  match a with
  | ⟨0, _⟩ => show win0_2.index t 0 * 256 + 1 * (y 0).val = (j 0).val; rw [(idx t).2.2.1.1]; omega
  | ⟨1, _⟩ => show win0_2.index t 1 * 1024 + 1 * (y 1).val = (j 1).val; rw [(idx t).2.2.1.2]; omega

/-- The whole result array. -/
def G3 (c : Dev nD) : Buf (Elt Ideal) ((c : Thread nD τ).loc main_v0) := (fun i => R m c i + nt (A m c) (B m c) i : Mat 256 2048)

/-- The product of a point's blocks is one tile of the contraction. -/
theorem part (c : Dev nD) (t : Fin cfg0.N) (y : S256x1024.Idx) (i : S256x2048.Idx)
    (h0 : (i 0).val = 0 * 256 + (y 0).val) (h1 : (i 1).val = t.val * 1024 + (y 1).val) :
    nt (iblk m c 0 t : Mat 256 2048) (iblk m c 1 t : Mat 1024 2048) y = ntTile 2048 (A m c) (B m c) (0) i := by
  have hN : t.val < 2 := lt_of_lt_of_eq t.isLt (show cfg0.N = 2 from N_0)
  refine Finset.sum_congr rfl fun k _ => ?_
  have hk := k.isLt
  rw [dif_pos (show 0 * 2048 + k.val < 2048 by omega)]
  exact congrArg₂ (· * ·) (blk0 m c t _ _ h0 rfl) (blk1 m c t _ _ h1 rfl)

theorem flushed3_eq (c : Dev nD) (t : Fin cfg0.N) :
    (dats m 0 c).flushed 3 t = ((cfg0.win 3).blk t).view.read (Elt Ideal) (G3 m c) := by
  have hN : t.val < 2 := lt_of_lt_of_eq t.isLt (show cfg0.N = 2 from N_0)
  rw [Value.flushed3_A, out3]
  funext y
  rw [View.read_apply]
  show @HAdd.hAdd EReal EReal EReal _ ((iblk m c 2 t : Mat 256 1024) y) (nt (iblk m c 0 t : Mat 256 2048) (iblk m c 1 t : Mat 1024 2048) y) = R m c ((win0_3.rect t).emb y) + nt (A m c) (B m c) ((win0_3.rect t).emb y)
  have e0 : ((win0_3.rect t).emb y 0 : Nat) = 0 * 256 + (y 0).val := by
    rw [win0_3.rect_emb_val, (idx t).2.2.2.1]; rfl
  have e1 : ((win0_3.rect t).emb y 1 : Nat) = t.val * 1024 + (y 1).val := by
    rw [win0_3.rect_emb_val, (idx t).2.2.2.2]; rfl
  rw [blk2 m c t y _ e0 e1, nt_tiles 1 2048 rfl (A m c) (B m c), Fin.sum_univ_one]
  refine congrArg _ ?_
  exact part m c t y _ e0 e1

theorem cover3 (i : S256x2048.Idx) : ∃ t : Fin cfg0.N, (cfg0.win 3).flush t = true ∧ i ∈ ((cfg0.win 3).blk t).view.set := by
  have h0 : (i 0).val < 256 := (i 0).isLt
  have h1 : (i 1).val < 2048 := (i 1).isLt
  have hN : cfg0.N = 2 := N_0
  let t : Fin cfg0.N := ⟨(i 1).val / 1024 * 1 + (i 0).val / 256 * 1 + 0, by omega⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 256 ≤ (i 0 : Nat) ∧ (i 0 : Nat) < win0_3.index t 0 * 256 + 256
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t _ => flushed3_eq m c t) cover3

theorem reference_frame : Cert.quiescent_DMemVReferenceIdeal := fun m ρ _ =>
  (θ_run (Cert.DMemVReferenceIdeal.defs (F := Ideal)) _ _).mono
    (fun r h => ⟨fun c => (h c).2, Idealize.ShloMosaic.sem_eq_zero_of_no_sems (by decide) r.2⟩) (Cert.DMemVReferenceIdeal.Value.run m ρ)

theorem claim : Cert.algebraic_DMemVIdeal_DMemVReferenceIdeal := by
  intro m ρ m' ρ' _ hagree
  refine ⟨fun c => G3 m c, (θ_run defs _ _).mono (fun _ h c => ⟨(h c).1.trans (final3 m c), (h c).2⟩) (Value.run_blocks m ρ),
    (θ_run Cert.DMemVReferenceIdeal.defs _ _).mono (fun _ h c => ⟨(h c).1.trans ?_, (h c).2⟩) (Cert.DMemVReferenceIdeal.Value.run m' ρ')⟩
  all_goals
    rw [(hagree c).1, (hagree c).2.1, (hagree c).2.2]
  show _ = (fun i => R m c i + nt (A m c) (B m c) i : Mat 256 2048)
  funext j
  idx_vars j
  pointwise [nt]

end Cert.Products.DMemV

end
-- ==== Proof.Products.DZ.lean ====
module

public import proofs.«01_k».proof.Proof.Gen.DZIdeal.Value
public import proofs.«01_k».proof.Proof.Gen.DZReferenceIdeal.Run
public import proofs.«01_k».proof.Defs
public import proofs.«01_k».proof.Proof.Products.Common

@[expose] public section

noncomputable section

/-! The gradient of the gated features, through the down projection. -/

namespace Cert.Products.DZ

open Cert.DZIdeal Cert.DZIdeal.Gen Idealize.ShloMosaic Idealize.ShloMosaic.TcCoe Idealize.SL.Sem
open Idealize.ShloMosaic.Pipeline (Dat)

section body
variable (c : Dev nD) (i : grid0.Coords) (a0 : Memref sig .tc .vmem S1024x2048 .bf16) (h0 : a0.IsWhole) (a1 : Memref sig .tc .vmem S1408x2048 .bf16) (h1 : a1.IsWhole) (a2 : Memref sig .tc .vmem S1024x1408 .bf16) (h2 : a2.IsWhole) (a3 : Memref sig .tc .vmem S8x128 .f32) (h3 : a3.IsWhole)
  (x0 : Vec Ideal S1024x2048 .bf16) (x1 : Vec Ideal S1408x2048 .bf16)
/-- What the point that finishes a block leaves in window 2. -/
theorem out2  :
    out0_A_2 c i a0 h0 a1 h1 a2 h2 a3 h3 x0 x1 = nt (M := 1024) (K := 2048) (N := 1408) x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x1408) hz, View.ld_unit_zero (S := S1024x2048) hz, View.ld_unit_zero (S := S1408x2048) hz, shapeCast_self]
  funext j
  idx_vars j
  unfold_payloads
  pointwise [nt]
end body

variable (m : (ℓ : Loc nD τ sig) → Buf (Elt Ideal) ℓ) (ρ : Dev nD → PrngReg)

/-- The block index of each window at a point. -/
theorem idx : ∀ t : Fin cfg0.N, (win0_0.index t 0 = t.val % 8 ∧ win0_0.index t 1 = 0)
    ∧ (win0_1.index t 0 = t.val / 8 ∧ win0_1.index t 1 = 0)
    ∧ (win0_2.index t 0 = t.val % 8 ∧ win0_2.index t 1 = t.val / 8) :=
  (by decide +kernel : ∀ t : Fin grid0.N, _)

abbrev A (c : Dev nD) : Mat 8192 2048 := m ((c : Thread nD τ).loc main_arg0)

theorem blk0 (c : Dev nD) (t : Fin cfg0.N) (y : (⟨2, ![1024, 2048]⟩ : Shape).Idx) (j : (⟨2, ![8192, 2048]⟩ : Shape).Idx)
    (h0 : (j 0).val = t.val % 8 * 1024 + (y 0).val) (h1 : (j 1).val = 0 * 2048 + (y 1).val) :
    (iblk m c 0 t : Mat 1024 2048) y = A m c j := by
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (j 0).val; rw [(idx t).1.1]; omega
  | ⟨1, _⟩ => show win0_0.index t 1 * 2048 + 1 * (y 1).val = (j 1).val; rw [(idx t).1.2]; omega

abbrev B (c : Dev nD) : Mat 5632 2048 := m ((c : Thread nD τ).loc main_arg1)

theorem blk1 (c : Dev nD) (t : Fin cfg0.N) (y : (⟨2, ![1408, 2048]⟩ : Shape).Idx) (j : (⟨2, ![5632, 2048]⟩ : Shape).Idx)
    (h0 : (j 0).val = t.val / 8 * 1408 + (y 0).val) (h1 : (j 1).val = 0 * 2048 + (y 1).val) :
    (iblk m c 1 t : Mat 1408 2048) y = B m c j := by
  unfold iblk
  rw [View.read_apply]
  show V m c main_arg1 _ = m (c.tc.loc main_arg1) _
  unfold V
  congr 1
  funext a
  apply Fin.ext
  match a with
  | ⟨0, _⟩ => show win0_1.index t 0 * 1408 + 1 * (y 0).val = (j 0).val; rw [(idx t).2.1.1]; omega
  | ⟨1, _⟩ => show win0_1.index t 1 * 2048 + 1 * (y 1).val = (j 1).val; rw [(idx t).2.1.2]; omega

/-- The whole result array. -/
def G2 (c : Dev nD) : Buf (Elt Ideal) ((c : Thread nD τ).loc main_v0) := (nt (A m c) (B m c) : Mat 8192 5632)

/-- The product of a point's blocks is one tile of the contraction. -/
theorem part (c : Dev nD) (t : Fin cfg0.N) (y : S1024x1408.Idx) (i : S8192x5632.Idx)
    (h0 : (i 0).val = t.val % 8 * 1024 + (y 0).val) (h1 : (i 1).val = t.val / 8 * 1408 + (y 1).val) :
    nt (iblk m c 0 t : Mat 1024 2048) (iblk m c 1 t : Mat 1408 2048) y = ntTile 2048 (A m c) (B m c) (0) i := by
  have hN : t.val < 32 := lt_of_lt_of_eq t.isLt (show cfg0.N = 32 from N_0)
  refine Finset.sum_congr rfl fun k _ => ?_
  have hk := k.isLt
  rw [dif_pos (show 0 * 2048 + k.val < 2048 by omega)]
  exact congrArg₂ (· * ·) (blk0 m c t _ _ h0 rfl) (blk1 m c t _ _ h1 rfl)

theorem flushed2_eq (c : Dev nD) (t : Fin cfg0.N) :
    (dats m 0 c).flushed 2 t = ((cfg0.win 2).blk t).view.read (Elt Ideal) (G2 m c) := by
  have hN : t.val < 32 := lt_of_lt_of_eq t.isLt (show cfg0.N = 32 from N_0)
  rw [Value.flushed2_A, out2]
  funext y
  rw [View.read_apply]
  show nt (iblk m c 0 t : Mat 1024 2048) (iblk m c 1 t : Mat 1408 2048) y = nt (A m c) (B m c) ((win0_2.rect t).emb y)
  have e0 : ((win0_2.rect t).emb y 0 : Nat) = t.val % 8 * 1024 + (y 0).val := by
    rw [win0_2.rect_emb_val, (idx t).2.2.1]; rfl
  have e1 : ((win0_2.rect t).emb y 1 : Nat) = t.val / 8 * 1408 + (y 1).val := by
    rw [win0_2.rect_emb_val, (idx t).2.2.2]; rfl
  rw [nt_tiles 1 2048 rfl (A m c) (B m c), Fin.sum_univ_one]

  exact part m c t y _ e0 e1

theorem cover2 (i : S8192x5632.Idx) : ∃ t : Fin cfg0.N, (cfg0.win 2).flush t = true ∧ i ∈ ((cfg0.win 2).blk t).view.set := by
  have h0 : (i 0).val < 8192 := (i 0).isLt
  have h1 : (i 1).val < 5632 := (i 1).isLt
  have hN : cfg0.N = 32 := N_0
  let t : Fin cfg0.N := ⟨(i 1).val / 1408 * 8 + (i 0).val / 1024 * 1 + 0, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1]; dsimp only [t]; omega
  | ⟨1, _⟩ =>
    show win0_2.index t 1 * 1408 ≤ (i 1 : Nat) ∧ (i 1 : Nat) < win0_2.index t 1 * 1408 + 1408
    rw [(idx t).2.2.2]; dsimp only [t]; omega

theorem final2 (c : Dev nD) : (dats m 0 c).arrAt 2 cfg0.N = G2 m c :=
  (dats m 0 c).arrAt_eq_of_cover 2 (G2 m c) (fun t _ => flushed2_eq m c t) cover2

theorem reference_frame : Cert.quiescent_DZReferenceIdeal := fun m ρ _ =>
  (θ_run (Cert.DZReferenceIdeal.defs (F := Ideal)) _ _).mono
    (fun r h => ⟨fun c => (h c).2, Idealize.ShloMosaic.sem_eq_zero_of_no_sems (by decide) r.2⟩) (Cert.DZReferenceIdeal.Value.run m ρ)

theorem claim : Cert.algebraic_DZIdeal_DZReferenceIdeal := by
  intro m ρ m' ρ' _ hagree
  refine ⟨fun c => G2 m c, (θ_run defs _ _).mono (fun _ h c => ⟨(h c).1.trans (final2 m c), (h c).2⟩) (Value.run_blocks m ρ),
    (θ_run Cert.DZReferenceIdeal.defs _ _).mono (fun _ h c => ⟨(h c).1.trans ?_, (h c).2⟩) (Cert.DZReferenceIdeal.Value.run m' ρ')⟩
  all_goals
    rw [(hagree c).1, (hagree c).2]
  show _ = (nt (A m c) (B m c) : Mat 8192 5632)
  funext j
  idx_vars j
  pointwise [nt]

end Cert.Products.DZ

end
-- ==== Proof.Products.FfnDown.lean ====
module

public import proofs.«01_k».proof.Proof.Gen.FfnDownIdeal.Value
public import proofs.«01_k».proof.Proof.Gen.FfnDownReferenceIdeal.Run
public import proofs.«01_k».proof.Defs
public import proofs.«01_k».proof.Proof.Products.Common

@[expose] public section

noncomputable section

/-! The down projection, added to its input. -/

namespace Cert.Products.FfnDown

open Cert.FfnDownIdeal Cert.FfnDownIdeal.Gen Idealize.ShloMosaic Idealize.ShloMosaic.TcCoe Idealize.SL.Sem
open Idealize.ShloMosaic.Pipeline (Dat)

section body
variable (c : Dev nD) (i : grid0.Coords) (a0 : Memref sig .tc .vmem S1024x2816 .bf16) (h0 : a0.IsWhole) (a1 : Memref sig .tc .vmem S2816x1024 .bf16) (h1 : a1.IsWhole) (a2 : Memref sig .tc .vmem S1024x1024 .f32) (h2 : a2.IsWhole) (a3 : Memref sig .tc .vmem S1024x1024 .f32) (h3 : a3.IsWhole) (a4 : Memref sig .tc .vmem S1024x1024 .f32) (h4 : a4.IsWhole)
  (x0 : Vec Ideal S1024x2816 .bf16) (x1 : Vec Ideal S2816x1024 .bf16) (x2 : Vec Ideal S1024x1024 .f32)
/-- What the point that finishes a block leaves in window 3. -/
theorem out3 (hc0 : ¬cond0_0 i) (hc1 : cond0_1 i) (s : Vec Ideal S1024x1024 .f32) :
    out0_B_3 c i a0 h0 a1 h1 a2 h2 a3 h3 a4 h4 hc0 hc1 x0 x1 x2 s = fun j => x2 j + (s j + nn (M := 1024) (K := 2816) (N := 1024) x0 x1 j) := by
  unfold out0_B_3
  rw [View.read_writes_eq_canon _ _ _ (cover0_B_3 c i a0 h0 a1 h1 a2 h2 a3 h3 a4 h4 hc0 hc1 x0 x1 x2 s)]
  unfold kernelRun0_B
  dsimp only
  rw [View.canon_unit_zero hz]
  simp only [View.readAt_eq_ld, h0.read_unread, h1.read_unread, h2.read_unread, h4.read_unread, View.ld_unit_zero (S := S1024x1024) hz, View.ld_unit_zero (S := S1024x2816) hz, View.ld_unit_zero (S := S2816x1024) hz, shapeCast_self]
  funext j
  idx_vars j
  unfold_payloads
  pointwise [nn]
/-- What the first point of a block leaves in the accumulator. -/
theorem accA (hc0 : cond0_0 i) (hc1 : ¬cond0_1 i) :
    sout0_A_0 c i a0 h0 a1 h1 a2 h2 a3 h3 a4 h4 hc0 hc1 x0 x1 x2 = nn (M := 1024) (K := 2816) (N := 1024) x0 x1 := by
  unfold sout0_A_0
  rw [View.read_writes_eq_canon _ _ _ (scover0_A_0 c i a0 h0 a1 h1 a2 h2 a3 h3 a4 h4 hc0 hc1 x0 x1 x2)]
  unfold kernelRun0_A
  dsimp only
  rw [View.canon_unit_zero hz]
  simp only [View.readAt_eq_ld, h0.read_unread, h1.read_unread, h2.read_unread, View.ld_unit_zero (S := S1024x1024) hz, View.ld_unit_zero (S := S1024x2816) hz, View.ld_unit_zero (S := S2816x1024) hz, shapeCast_self]
  funext j
  idx_vars j
  unfold_payloads
  pointwise [nn]
end body

variable (m : (ℓ : Loc nD τ sig) → Buf (Elt Ideal) ℓ) (ρ : Dev nD → PrngReg)

/-- The block index of each window at a point. -/
theorem idx : ∀ t : Fin cfg0.N, (win0_0.index t 0 = t.val / 4 ∧ win0_0.index t 1 = t.val % 2)
    ∧ (win0_1.index t 0 = t.val % 2 ∧ win0_1.index t 1 = t.val / 2 % 2)
    ∧ (win0_2.index t 0 = t.val / 4 ∧ win0_2.index t 1 = t.val / 2 % 2)
    ∧ (win0_3.index t 0 = t.val / 4 ∧ win0_3.index t 1 = t.val / 2 % 2) :=
  (by decide +kernel : ∀ t : Fin grid0.N, _)

abbrev A (c : Dev nD) : Mat 8192 5632 := m ((c : Thread nD τ).loc main_arg0)

theorem blk0 (c : Dev nD) (t : Fin cfg0.N) (y : (⟨2, ![1024, 2816]⟩ : Shape).Idx) (j : (⟨2, ![8192, 5632]⟩ : Shape).Idx)
    (h0 : (j 0).val = t.val / 4 * 1024 + (y 0).val) (h1 : (j 1).val = t.val % 2 * 2816 + (y 1).val) :
    (iblk m c 0 t : Mat 1024 2816) y = A m c j := by
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (j 0).val; rw [(idx t).1.1]; omega
  | ⟨1, _⟩ => show win0_0.index t 1 * 2816 + 1 * (y 1).val = (j 1).val; rw [(idx t).1.2]; omega

abbrev B (c : Dev nD) : Mat 5632 2048 := m ((c : Thread nD τ).loc main_arg1)

theorem blk1 (c : Dev nD) (t : Fin cfg0.N) (y : (⟨2, ![2816, 1024]⟩ : Shape).Idx) (j : (⟨2, ![5632, 2048]⟩ : Shape).Idx)
    (h0 : (j 0).val = t.val % 2 * 2816 + (y 0).val) (h1 : (j 1).val = t.val / 2 % 2 * 1024 + (y 1).val) :
    (iblk m c 1 t : Mat 2816 1024) y = B m c j := by
  unfold iblk
  rw [View.read_apply]
  show V m c main_arg1 _ = m (c.tc.loc main_arg1) _
  unfold V
  congr 1
  funext a
  apply Fin.ext
  match a with
  | ⟨0, _⟩ => show win0_1.index t 0 * 2816 + 1 * (y 0).val = (j 0).val; rw [(idx t).2.1.1]; omega
  | ⟨1, _⟩ => show win0_1.index t 1 * 1024 + 1 * (y 1).val = (j 1).val; rw [(idx t).2.1.2]; omega

abbrev R (c : Dev nD) : Mat 8192 2048 := m ((c : Thread nD τ).loc main_arg2)

theorem blk2 (c : Dev nD) (t : Fin cfg0.N) (y : (⟨2, ![1024, 1024]⟩ : Shape).Idx) (j : (⟨2, ![8192, 2048]⟩ : Shape).Idx)
    (h0 : (j 0).val = t.val / 4 * 1024 + (y 0).val) (h1 : (j 1).val = t.val / 2 % 2 * 1024 + (y 1).val) :
    (iblk m c 2 t : Mat 1024 1024) y = R m c j := by
  unfold iblk
  rw [View.read_apply]
  show V m c main_arg2 _ = m (c.tc.loc main_arg2) _
  unfold V
  congr 1
  funext a
  apply Fin.ext
  match a with
  | ⟨0, _⟩ => show win0_2.index t 0 * 1024 + 1 * (y 0).val = (j 0).val; rw [(idx t).2.2.1.1]; omega
  | ⟨1, _⟩ => show win0_2.index t 1 * 1024 + 1 * (y 1).val = (j 1).val; rw [(idx t).2.2.1.2]; omega

/-- The whole result array. -/
def G3 (c : Dev nD) : Buf (Elt Ideal) ((c : Thread nD τ).loc main_v0) := (fun i => R m c i + nn (A m c) (B m c) i : Mat 8192 2048)

/-- The product of a point's blocks is one tile of the contraction. -/
theorem part (c : Dev nD) (t : Fin cfg0.N) (y : S1024x1024.Idx) (i : S8192x2048.Idx)
    (h0 : (i 0).val = t.val / 4 * 1024 + (y 0).val) (h1 : (i 1).val = t.val / 2 % 2 * 1024 + (y 1).val) :
    nn (iblk m c 0 t : Mat 1024 2816) (iblk m c 1 t : Mat 2816 1024) y = nnTile 2816 (A m c) (B m c) (t.val % 2) i := by
  have hN : t.val < 32 := lt_of_lt_of_eq t.isLt (show cfg0.N = 32 from N_0)
  refine Finset.sum_congr rfl fun k _ => ?_
  have hk := k.isLt
  rw [dif_pos (show t.val % 2 * 2816 + k.val < 5632 by omega)]
  exact congrArg₂ (· * ·) (blk0 m c t _ _ h0 rfl) (blk1 m c t _ _ rfl h1)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 2 = 1) :
    (outsAt0 m c (t.val - 1) (Nat.lt_of_le_of_lt (Nat.sub_le _ _) t.isLt)).2 = nn (iblk m c 0 (before t 1) : Mat 1024 2816) (iblk m c 1 (before t 1) : Mat 2816 1024) := by
  have s1 : (outsAt0 m c (before t 1).val (before t 1).isLt).2 = nn (iblk m c 0 (before t 1) : Mat 1024 2816) (iblk m c 1 (before t 1) : Mat 2816 1024) := by
    rw [outsAt0_A m c (before t 1) (by simp only [before] <;> omega) (by simp only [before] <;> omega)]
    dsimp only
    rw [accA]
  exact s1

set_option maxRecDepth 100000 in
theorem flushed3_eq (c : Dev nD) (t : Fin cfg0.N) (h : t.val % 2 = 1) :
    (dats m 0 c).flushed 3 t = ((cfg0.win 3).blk t).view.read (Elt Ideal) (G3 m c) := by
  have hN : t.val < 32 := lt_of_lt_of_eq t.isLt (show cfg0.N = 32 from N_0)
  rw [Value.flushed3_B m c t (by omega) h, out3]
  rw [acc m c t h]
  funext y
  rw [View.read_apply]
  show @HAdd.hAdd EReal EReal EReal _ ((iblk m c 2 t : Mat 1024 1024) y) (nn (iblk m c 0 (before t 1) : Mat 1024 2816) (iblk m c 1 (before t 1) : Mat 2816 1024) y + nn (iblk m c 0 t : Mat 1024 2816) (iblk m c 1 t : Mat 2816 1024) y) = R m c ((win0_3.rect t).emb y) + nn (A m c) (B m c) ((win0_3.rect t).emb y)
  have e0 : ((win0_3.rect t).emb y 0 : Nat) = t.val / 4 * 1024 + (y 0).val := by
    rw [win0_3.rect_emb_val, (idx t).2.2.2.1]; rfl
  have e1 : ((win0_3.rect t).emb y 1 : Nat) = t.val / 2 % 2 * 1024 + (y 1).val := by
    rw [win0_3.rect_emb_val, (idx t).2.2.2.2]; rfl
  rw [blk2 m c t y _ e0 e1, nn_tiles 2 2816 rfl (A m c) (B m c), Fin.sum_univ_two]
  have p0 := part m c (before t 1) y _ (e0.trans (by simp only [before] <;> omega)) (e1.trans (by simp only [before] <;> omega))
  rw [show (before t 1).val % 2 = 0 by simp only [before]; omega] at p0
  have p1 := part m c t y _ e0 e1
  rw [show t.val % 2 = 1 by omega] at p1
  rw [p0, p1]
  rfl

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 32 := N_0
  let t : Fin cfg0.N := ⟨(i 0).val / 1024 * 4 + (i 1).val / 1024 * 2 + 1, by omega⟩
  refine ⟨t, (flush0_3 t).mpr (by dsimp only [t]; omega), ?_⟩
  show i ∈ ((View.whole main_v0).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t hf => flushed3_eq m c t ((flush0_3 t).mp hf)) cover3

theorem reference_frame : Cert.quiescent_FfnDownReferenceIdeal := fun m ρ _ =>
  (θ_run (Cert.FfnDownReferenceIdeal.defs (F := Ideal)) _ _).mono
    (fun r h => ⟨fun c => (h c).2, Idealize.ShloMosaic.sem_eq_zero_of_no_sems (by decide) r.2⟩) (Cert.FfnDownReferenceIdeal.Value.run m ρ)

theorem claim : Cert.algebraic_FfnDownIdeal_FfnDownReferenceIdeal := by
  intro m ρ m' ρ' _ hagree
  refine ⟨fun c => G3 m c, (θ_run defs _ _).mono (fun _ h c => ⟨(h c).1.trans (final3 m c), (h c).2⟩) (Value.run_blocks m ρ),
    (θ_run Cert.FfnDownReferenceIdeal.defs _ _).mono (fun _ h c => ⟨(h c).1.trans ?_, (h c).2⟩) (Cert.FfnDownReferenceIdeal.Value.run m' ρ')⟩
  all_goals
    rw [(hagree c).1, (hagree c).2.1, (hagree c).2.2]
  show _ = (fun i => R m c i + nn (A m c) (B m c) i : Mat 8192 2048)
  funext j
  idx_vars j
  pointwise [nn]

end Cert.Products.FfnDown

end
-- ==== Proof.Products.FfnGate.lean ====
module

public import proofs.«01_k».proof.Proof.Gen.FfnGateIdeal.Value
public import proofs.«01_k».proof.Proof.Gen.FfnGateReferenceIdeal.Run
public import proofs.«01_k».proof.Defs
public import proofs.«01_k».proof.Proof.Products.Common

@[expose] public section

noncomputable section

/-! The gate projection. -/

namespace Cert.Products.FfnGate

open Cert.FfnGateIdeal Cert.FfnGateIdeal.Gen Idealize.ShloMosaic Idealize.ShloMosaic.TcCoe Idealize.SL.Sem
open Idealize.ShloMosaic.Pipeline (Dat)

section body
variable (c : Dev nD) (i : grid0.Coords) (a0 : Memref sig .tc .vmem S1024x2048 .bf16) (h0 : a0.IsWhole) (a1 : Memref sig .tc .vmem S2048x1408 .bf16) (h1 : a1.IsWhole) (a2 : Memref sig .tc .vmem S1024x1408 .bf16) (h2 : a2.IsWhole) (a3 : Memref sig .tc .vmem S8x128 .f32) (h3 : a3.IsWhole)
  (x0 : Vec Ideal S1024x2048 .bf16) (x1 : Vec Ideal S2048x1408 .bf16)
/-- What the point that finishes a block leaves in window 2. -/
theorem out2  :
    out0_A_2 c i a0 h0 a1 h1 a2 h2 a3 h3 x0 x1 = nn (M := 1024) (K := 2048) (N := 1408) x0 x1 := by
  unfold out0_A_2
  rw [View.read_writes_eq_canon _ _ _ (cover0_A_2 c i a0 h0 a1 h1 a2 h2 a3 h3 x0 x1)]
  unfold kernelRun0_A
  dsimp only
  rw [View.canon_unit_zero hz]
  simp only [View.readAt_eq_ld, h0.read_unread, h1.read_unread, View.ld_unit_zero (S := S1024x1408) hz, View.ld_unit_zero (S := S1024x2048) hz, View.ld_unit_zero (S := S2048x1408) hz, shapeCast_self]
  funext j
  idx_vars j
  unfold_payloads
  pointwise [nn]
end body

variable (m : (ℓ : Loc nD τ sig) → Buf (Elt Ideal) ℓ) (ρ : Dev nD → PrngReg)

/-- The block index of each window at a point. -/
theorem idx : ∀ t : Fin cfg0.N, (win0_0.index t 0 = t.val % 8 ∧ win0_0.index t 1 = 0)
    ∧ (win0_1.index t 0 = 0 ∧ win0_1.index t 1 = t.val / 8)
    ∧ (win0_2.index t 0 = t.val % 8 ∧ win0_2.index t 1 = t.val / 8) :=
  (by decide +kernel : ∀ t : Fin grid0.N, _)

abbrev A (c : Dev nD) : Mat 8192 2048 := m ((c : Thread nD τ).loc main_arg0)

theorem blk0 (c : Dev nD) (t : Fin cfg0.N) (y : (⟨2, ![1024, 2048]⟩ : Shape).Idx) (j : (⟨2, ![8192, 2048]⟩ : Shape).Idx)
    (h0 : (j 0).val = t.val % 8 * 1024 + (y 0).val) (h1 : (j 1).val = 0 * 2048 + (y 1).val) :
    (iblk m c 0 t : Mat 1024 2048) y = A m c j := by
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (j 0).val; rw [(idx t).1.1]; omega
  | ⟨1, _⟩ => show win0_0.index t 1 * 2048 + 1 * (y 1).val = (j 1).val; rw [(idx t).1.2]; omega

abbrev B (c : Dev nD) : Mat 2048 5632 := m ((c : Thread nD τ).loc main_arg1)

theorem blk1 (c : Dev nD) (t : Fin cfg0.N) (y : (⟨2, ![2048, 1408]⟩ : Shape).Idx) (j : (⟨2, ![2048, 5632]⟩ : Shape).Idx)
    (h0 : (j 0).val = 0 * 2048 + (y 0).val) (h1 : (j 1).val = t.val / 8 * 1408 + (y 1).val) :
    (iblk m c 1 t : Mat 2048 1408) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1408 + 1 * (y 1).val = (j 1).val; rw [(idx t).2.1.2]; omega

/-- The whole result array. -/
def G2 (c : Dev nD) : Buf (Elt Ideal) ((c : Thread nD τ).loc main_v0) := (nn (A m c) (B m c) : Mat 8192 5632)

/-- The product of a point's blocks is one tile of the contraction. -/
theorem part (c : Dev nD) (t : Fin cfg0.N) (y : S1024x1408.Idx) (i : S8192x5632.Idx)
    (h0 : (i 0).val = t.val % 8 * 1024 + (y 0).val) (h1 : (i 1).val = t.val / 8 * 1408 + (y 1).val) :
    nn (iblk m c 0 t : Mat 1024 2048) (iblk m c 1 t : Mat 2048 1408) y = nnTile 2048 (A m c) (B m c) (0) i := by
  have hN : t.val < 32 := lt_of_lt_of_eq t.isLt (show cfg0.N = 32 from N_0)
  refine Finset.sum_congr rfl fun k _ => ?_
  have hk := k.isLt
  rw [dif_pos (show 0 * 2048 + k.val < 2048 by omega)]
  exact congrArg₂ (· * ·) (blk0 m c t _ _ h0 rfl) (blk1 m c t _ _ rfl h1)

theorem flushed2_eq (c : Dev nD) (t : Fin cfg0.N) :
    (dats m 0 c).flushed 2 t = ((cfg0.win 2).blk t).view.read (Elt Ideal) (G2 m c) := by
  have hN : t.val < 32 := lt_of_lt_of_eq t.isLt (show cfg0.N = 32 from N_0)
  rw [Value.flushed2_A, out2]
  funext y
  rw [View.read_apply]
  show nn (iblk m c 0 t : Mat 1024 2048) (iblk m c 1 t : Mat 2048 1408) y = nn (A m c) (B m c) ((win0_2.rect t).emb y)
  have e0 : ((win0_2.rect t).emb y 0 : Nat) = t.val % 8 * 1024 + (y 0).val := by
    rw [win0_2.rect_emb_val, (idx t).2.2.1]; rfl
  have e1 : ((win0_2.rect t).emb y 1 : Nat) = t.val / 8 * 1408 + (y 1).val := by
    rw [win0_2.rect_emb_val, (idx t).2.2.2]; rfl
  rw [nn_tiles 1 2048 rfl (A m c) (B m c), Fin.sum_univ_one]

  exact part m c t y _ e0 e1

theorem cover2 (i : S8192x5632.Idx) : ∃ t : Fin cfg0.N, (cfg0.win 2).flush t = true ∧ i ∈ ((cfg0.win 2).blk t).view.set := by
  have h0 : (i 0).val < 8192 := (i 0).isLt
  have h1 : (i 1).val < 5632 := (i 1).isLt
  have hN : cfg0.N = 32 := N_0
  let t : Fin cfg0.N := ⟨(i 1).val / 1408 * 8 + (i 0).val / 1024 * 1 + 0, by omega⟩
  refine ⟨t, flush0_2 t, ?_⟩
  show i ∈ ((View.whole main_v0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1]; dsimp only [t]; omega
  | ⟨1, _⟩ =>
    show win0_2.index t 1 * 1408 ≤ (i 1 : Nat) ∧ (i 1 : Nat) < win0_2.index t 1 * 1408 + 1408
    rw [(idx t).2.2.2]; dsimp only [t]; omega

theorem final2 (c : Dev nD) : (dats m 0 c).arrAt 2 cfg0.N = G2 m c :=
  (dats m 0 c).arrAt_eq_of_cover 2 (G2 m c) (fun t _ => flushed2_eq m c t) cover2

theorem reference_frame : Cert.quiescent_FfnGateReferenceIdeal := fun m ρ _ =>
  (θ_run (Cert.FfnGateReferenceIdeal.defs (F := Ideal)) _ _).mono
    (fun r h => ⟨fun c => (h c).2, Idealize.ShloMosaic.sem_eq_zero_of_no_sems (by decide) r.2⟩) (Cert.FfnGateReferenceIdeal.Value.run m ρ)

theorem claim : Cert.algebraic_FfnGateIdeal_FfnGateReferenceIdeal := by
  intro m ρ m' ρ' _ hagree
  refine ⟨fun c => G2 m c, (θ_run defs _ _).mono (fun _ h c => ⟨(h c).1.trans (final2 m c), (h c).2⟩) (Value.run_blocks m ρ),
    (θ_run Cert.FfnGateReferenceIdeal.defs _ _).mono (fun _ h c => ⟨(h c).1.trans ?_, (h c).2⟩) (Cert.FfnGateReferenceIdeal.Value.run m' ρ')⟩
  all_goals
    rw [(hagree c).1, (hagree c).2]
  show _ = (nn (A m c) (B m c) : Mat 8192 5632)
  funext j
  idx_vars j
  pointwise [nn]

end Cert.Products.FfnGate

end
-- ==== Proof.Products.GWDown.lean ====
module

public import proofs.«01_k».proof.Proof.Gen.GWDownIdeal.Value
public import proofs.«01_k».proof.Proof.Gen.GWDownReferenceIdeal.Run
public import proofs.«01_k».proof.Defs
public import proofs.«01_k».proof.Proof.Products.Common

@[expose] public section

noncomputable section

/-! The gradient of the down projection's weight. -/

namespace Cert.Products.GWDown

open Cert.GWDownIdeal Cert.GWDownIdeal.Gen Idealize.ShloMosaic Idealize.ShloMosaic.TcCoe Idealize.SL.Sem
open Idealize.ShloMosaic.Pipeline (Dat)

section body
variable (c : Dev nD) (i : grid0.Coords) (a0 : Memref sig .tc .vmem S2048x1408 .bf16) (h0 : a0.IsWhole) (a1 : Memref sig .tc .vmem S2048x1024 .bf16) (h1 : a1.IsWhole) (a2 : Memref sig .tc .vmem S1408x1024 .f32) (h2 : a2.IsWhole) (a3 : Memref sig .tc .vmem S1408x1024 .bf16) (h3 : a3.IsWhole) (a4 : Memref sig .tc .vmem S1408x1024 .f32) (h4 : a4.IsWhole)
  (x0 : Vec Ideal S2048x1408 .bf16) (x1 : Vec Ideal S2048x1024 .bf16)
/-- What the point that finishes a block leaves in window 2. -/
theorem out2 (hc0 : ¬cond0_0 i) (hc1 : ¬cond0_1 i) (hc2 : cond0_2 i) (s : Vec Ideal S1408x1024 .f32) :
    out0_C_2 c i a0 h0 a1 h1 a2 h2 a3 h3 a4 h4 hc0 hc1 hc2 x0 x1 s = fun j => s j + tn (M := 1408) (K := 2048) (N := 1024) x0 x1 j := by
  unfold out0_C_2
  rw [View.read_writes_eq_canon _ _ _ (cover0_C_2 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1408x1024) hz, View.ld_unit_zero (S := S2048x1024) hz, View.ld_unit_zero (S := S2048x1408) hz, shapeCast_self]
  funext j
  idx_vars j
  unfold_payloads
  pointwise [tn]
/-- What the point that finishes a block leaves in window 3. -/
theorem out3 (hc0 : ¬cond0_0 i) (hc1 : ¬cond0_1 i) (hc2 : cond0_2 i) (s : Vec Ideal S1408x1024 .f32) :
    out0_C_3 c i a0 h0 a1 h1 a2 h2 a3 h3 a4 h4 hc0 hc1 hc2 x0 x1 s = fun j => s j + tn (M := 1408) (K := 2048) (N := 1024) x0 x1 j := by
  unfold out0_C_3
  rw [View.read_writes_eq_canon _ _ _ (cover0_C_3 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1408x1024) hz, View.ld_unit_zero (S := S2048x1024) hz, View.ld_unit_zero (S := S2048x1408) hz, shapeCast_self]
  funext j
  idx_vars j
  unfold_payloads
  pointwise [tn]
/-- What the first point of a block leaves in the accumulator. -/
theorem accA (hc0 : cond0_0 i) (hc1 : ¬cond0_1 i) (hc2 : ¬cond0_2 i) :
    sout0_A_0 c i a0 h0 a1 h1 a2 h2 a3 h3 a4 h4 hc0 hc1 hc2 x0 x1 = tn (M := 1408) (K := 2048) (N := 1024) x0 x1 := by
  unfold sout0_A_0
  rw [View.read_writes_eq_canon _ _ _ (scover0_A_0 c i a0 h0 a1 h1 a2 h2 a3 h3 a4 h4 hc0 hc1 hc2 x0 x1)]
  unfold kernelRun0_A
  dsimp only
  rw [View.canon_unit_zero hz]
  simp only [View.readAt_eq_ld, h0.read_unread, h1.read_unread, View.ld_unit_zero (S := S1408x1024) hz, View.ld_unit_zero (S := S2048x1024) hz, View.ld_unit_zero (S := S2048x1408) hz, shapeCast_self]
  funext j
  idx_vars j
  unfold_payloads
  pointwise [tn]
/-- What a point in the middle of a block leaves in the accumulator. -/
theorem accB (hc0 : ¬cond0_0 i) (hc1 : cond0_1 i) (hc2 : ¬cond0_2 i) (s : Vec Ideal S1408x1024 .f32) :
    sout0_B_0 c i a0 h0 a1 h1 a2 h2 a3 h3 a4 h4 hc0 hc1 hc2 x0 x1 s = fun j => s j + tn (M := 1408) (K := 2048) (N := 1024) x0 x1 j := by
  unfold sout0_B_0
  rw [View.read_writes_eq_canon _ _ _ (scover0_B_0 c i a0 h0 a1 h1 a2 h2 a3 h3 a4 h4 hc0 hc1 hc2 x0 x1 s)]
  unfold kernelRun0_B
  dsimp only
  rw [View.canon_unit_zero hz]
  simp only [View.readAt_eq_ld, h0.read_unread, h1.read_unread, h4.read_unread, View.ld_unit_zero (S := S1408x1024) hz, View.ld_unit_zero (S := S2048x1024) hz, View.ld_unit_zero (S := S2048x1408) hz, shapeCast_self]
  funext j
  idx_vars j
  unfold_payloads
  pointwise [tn]
end body

variable (m : (ℓ : Loc nD τ sig) → Buf (Elt Ideal) ℓ) (ρ : Dev nD → PrngReg)

/-- The block index of each window at a point. -/
theorem idx : ∀ t : Fin cfg0.N, (win0_0.index t 0 = t.val % 4 ∧ win0_0.index t 1 = t.val / 8)
    ∧ (win0_1.index t 0 = t.val % 4 ∧ win0_1.index t 1 = t.val / 4 % 2)
    ∧ (win0_2.index t 0 = t.val / 8 ∧ win0_2.index t 1 = t.val / 4 % 2)
    ∧ (win0_3.index t 0 = t.val / 8 ∧ win0_3.index t 1 = t.val / 4 % 2) :=
  (by decide +kernel : ∀ t : Fin grid0.N, _)

abbrev A (c : Dev nD) : Mat 8192 5632 := m ((c : Thread nD τ).loc main_arg0)

theorem blk0 (c : Dev nD) (t : Fin cfg0.N) (y : (⟨2, ![2048, 1408]⟩ : Shape).Idx) (j : (⟨2, ![8192, 5632]⟩ : Shape).Idx)
    (h0 : (j 0).val = t.val % 4 * 2048 + (y 0).val) (h1 : (j 1).val = t.val / 8 * 1408 + (y 1).val) :
    (iblk m c 0 t : Mat 2048 1408) y = A m c j := by
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (j 0).val; rw [(idx t).1.1]; omega
  | ⟨1, _⟩ => show win0_0.index t 1 * 1408 + 1 * (y 1).val = (j 1).val; rw [(idx t).1.2]; omega

abbrev B (c : Dev nD) : Mat 8192 2048 := m ((c : Thread nD τ).loc main_arg1)

theorem blk1 (c : Dev nD) (t : Fin cfg0.N) (y : (⟨2, ![2048, 1024]⟩ : Shape).Idx) (j : (⟨2, ![8192, 2048]⟩ : Shape).Idx)
    (h0 : (j 0).val = t.val % 4 * 2048 + (y 0).val) (h1 : (j 1).val = t.val / 4 % 2 * 1024 + (y 1).val) :
    (iblk m c 1 t : Mat 2048 1024) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1024 + 1 * (y 1).val = (j 1).val; rw [(idx t).2.1.2]; omega

/-- The whole result array. -/
def G2 (c : Dev nD) : Buf (Elt Ideal) ((c : Thread nD τ).loc main_v0_0) := (tn (A m c) (B m c) : Mat 5632 2048)

/-- The whole result array. -/
def G3 (c : Dev nD) : Buf (Elt Ideal) ((c : Thread nD τ).loc main_v0_1) := (tn (A m c) (B m c) : Mat 5632 2048)

/-- The product of a point's blocks is one tile of the contraction. -/
theorem part (c : Dev nD) (t : Fin cfg0.N) (y : S1408x1024.Idx) (i : S5632x2048.Idx)
    (h0 : (i 0).val = t.val / 8 * 1408 + (y 0).val) (h1 : (i 1).val = t.val / 4 % 2 * 1024 + (y 1).val) :
    tn (iblk m c 0 t : Mat 2048 1408) (iblk m c 1 t : Mat 2048 1024) y = tnTile 2048 (A m c) (B m c) (t.val % 4) i := by
  have hN : t.val < 32 := lt_of_lt_of_eq t.isLt (show cfg0.N = 32 from N_0)
  refine Finset.sum_congr rfl fun k _ => ?_
  have hk := k.isLt
  rw [dif_pos (show t.val % 4 * 2048 + k.val < 8192 by omega)]
  exact congrArg₂ (· * ·) (blk0 m c t _ _ rfl h0) (blk1 m c t _ _ rfl h1)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 4 = 3) :
    (outsAt0 m c (t.val - 1) (Nat.lt_of_le_of_lt (Nat.sub_le _ _) t.isLt)).2.2
      = fun y => tn (iblk m c 0 (before t 3) : Mat 2048 1408) (iblk m c 1 (before t 3) : Mat 2048 1024) y + tn (iblk m c 0 (before t 2) : Mat 2048 1408) (iblk m c 1 (before t 2) : Mat 2048 1024) y + tn (iblk m c 0 (before t 1) : Mat 2048 1408) (iblk m c 1 (before t 1) : Mat 2048 1024) y := by
  have s3 : (outsAt0 m c (before t 3).val (before t 3).isLt).2.2 = tn (iblk m c 0 (before t 3) : Mat 2048 1408) (iblk m c 1 (before t 3) : Mat 2048 1024) := by
    rw [outsAt0_A m c (before t 3) (by simp only [before] <;> omega) (by simp only [before] <;> omega) (by simp only [before] <;> omega)]
    dsimp only
    rw [accA]
  have s2 : (outsAt0 m c (before t 2).val (before t 2).isLt).2.2 = fun y => (outsAt0 m c (before t 3).val (before t 3).isLt).2.2 y + tn (iblk m c 0 (before t 2) : Mat 2048 1408) (iblk m c 1 (before t 2) : Mat 2048 1024) y := by
    rw [outsAt0_B m c (before t 2) (by simp only [before] <;> omega) (by simp only [before] <;> omega) (by simp only [before] <;> omega)]
    dsimp only
    rw [accB]
    rfl
  have s1 : (outsAt0 m c (before t 1).val (before t 1).isLt).2.2 = fun y => (outsAt0 m c (before t 2).val (before t 2).isLt).2.2 y + tn (iblk m c 0 (before t 1) : Mat 2048 1408) (iblk m c 1 (before t 1) : Mat 2048 1024) y := by
    rw [outsAt0_B m c (before t 1) (by simp only [before] <;> omega) (by simp only [before] <;> omega) (by simp only [before] <;> omega)]
    dsimp only
    rw [accB]
    rfl
  rw [s2, s3] at s1
  exact s1

set_option maxRecDepth 100000 in
theorem flushed2_eq (c : Dev nD) (t : Fin cfg0.N) (h : t.val % 4 = 3) :
    (dats m 0 c).flushed 2 t = ((cfg0.win 2).blk t).view.read (Elt Ideal) (G2 m c) := by
  have hN : t.val < 32 := lt_of_lt_of_eq t.isLt (show cfg0.N = 32 from N_0)
  rw [Value.flushed2_C m c t (by omega) (by omega) h, out2]
  rw [acc m c t h]
  funext y
  rw [View.read_apply]
  show tn (iblk m c 0 (before t 3) : Mat 2048 1408) (iblk m c 1 (before t 3) : Mat 2048 1024) y + tn (iblk m c 0 (before t 2) : Mat 2048 1408) (iblk m c 1 (before t 2) : Mat 2048 1024) y + tn (iblk m c 0 (before t 1) : Mat 2048 1408) (iblk m c 1 (before t 1) : Mat 2048 1024) y + tn (iblk m c 0 t : Mat 2048 1408) (iblk m c 1 t : Mat 2048 1024) y = tn (A m c) (B m c) ((win0_2.rect t).emb y)
  have e0 : ((win0_2.rect t).emb y 0 : Nat) = t.val / 8 * 1408 + (y 0).val := by
    rw [win0_2.rect_emb_val, (idx t).2.2.1.1]; rfl
  have e1 : ((win0_2.rect t).emb y 1 : Nat) = t.val / 4 % 2 * 1024 + (y 1).val := by
    rw [win0_2.rect_emb_val, (idx t).2.2.1.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

set_option maxRecDepth 100000 in
theorem flushed3_eq (c : Dev nD) (t : Fin cfg0.N) (h : t.val % 4 = 3) :
    (dats m 0 c).flushed 3 t = ((cfg0.win 3).blk t).view.read (Elt Ideal) (G3 m c) := by
  have hN : t.val < 32 := lt_of_lt_of_eq t.isLt (show cfg0.N = 32 from N_0)
  rw [Value.flushed3_C m c t (by omega) (by omega) h, out3]
  rw [acc m c t h]
  funext y
  rw [View.read_apply]
  show tn (iblk m c 0 (before t 3) : Mat 2048 1408) (iblk m c 1 (before t 3) : Mat 2048 1024) y + tn (iblk m c 0 (before t 2) : Mat 2048 1408) (iblk m c 1 (before t 2) : Mat 2048 1024) y + tn (iblk m c 0 (before t 1) : Mat 2048 1408) (iblk m c 1 (before t 1) : Mat 2048 1024) y + tn (iblk m c 0 t : Mat 2048 1408) (iblk m c 1 t : Mat 2048 1024) y = tn (A m c) (B m c) ((win0_3.rect t).emb y)
  have e0 : ((win0_3.rect t).emb y 0 : Nat) = t.val / 8 * 1408 + (y 0).val := by
    rw [win0_3.rect_emb_val, (idx t).2.2.2.1]; rfl
  have e1 : ((win0_3.rect t).emb y 1 : Nat) = t.val / 4 % 2 * 1024 + (y 1).val := by
    rw [win0_3.rect_emb_val, (idx t).2.2.2.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

theorem cover2 (i : S5632x2048.Idx) : ∃ t : Fin cfg0.N, (cfg0.win 2).flush t = true ∧ i ∈ ((cfg0.win 2).blk t).view.set := by
  have h0 : (i 0).val < 5632 := (i 0).isLt
  have h1 : (i 1).val < 2048 := (i 1).isLt
  have hN : cfg0.N = 32 := N_0
  let t : Fin cfg0.N := ⟨(i 0).val / 1408 * 8 + (i 1).val / 1024 * 4 + 3, by omega⟩
  refine ⟨t, (flush0_2 t).mpr (by dsimp only [t]; omega), ?_⟩
  show i ∈ ((View.whole main_v0_0).slice (win0_2.rect t)).set
  rw [View.set_slice_whole, Rect.mem_set_unit]
  intro a
  match a with
  | ⟨0, _⟩ =>
    show win0_2.index t 0 * 1408 ≤ (i 0 : Nat) ∧ (i 0 : Nat) < win0_2.index t 0 * 1408 + 1408
    rw [(idx t).2.2.1.1]; dsimp only [t]; omega
  | ⟨1, _⟩ =>
    show win0_2.index t 1 * 1024 ≤ (i 1 : Nat) ∧ (i 1 : Nat) < win0_2.index t 1 * 1024 + 1024
    rw [(idx t).2.2.1.2]; dsimp only [t]; omega

theorem final2 (c : Dev nD) : (dats m 0 c).arrAt 2 cfg0.N = G2 m c :=
  (dats m 0 c).arrAt_eq_of_cover 2 (G2 m c) (fun t hf => flushed2_eq m c t ((flush0_2 t).mp hf)) cover2

theorem cover3 (i : S5632x2048.Idx) : ∃ t : Fin cfg0.N, (cfg0.win 3).flush t = true ∧ i ∈ ((cfg0.win 3).blk t).view.set := by
  have h0 : (i 0).val < 5632 := (i 0).isLt
  have h1 : (i 1).val < 2048 := (i 1).isLt
  have hN : cfg0.N = 32 := N_0
  let t : Fin cfg0.N := ⟨(i 0).val / 1408 * 8 + (i 1).val / 1024 * 4 + 3, by omega⟩
  refine ⟨t, (flush0_3 t).mpr (by dsimp only [t]; omega), ?_⟩
  show i ∈ ((View.whole main_v0_1).slice (win0_3.rect t)).set
  rw [View.set_slice_whole, Rect.mem_set_unit]
  intro a
  match a with
  | ⟨0, _⟩ =>
    show win0_3.index t 0 * 1408 ≤ (i 0 : Nat) ∧ (i 0 : Nat) < win0_3.index t 0 * 1408 + 1408
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t hf => flushed3_eq m c t ((flush0_3 t).mp hf)) cover3

theorem reference_frame : Cert.quiescent_GWDownReferenceIdeal := fun m ρ _ =>
  (θ_run (Cert.GWDownReferenceIdeal.defs (F := Ideal)) _ _).mono
    (fun r h => ⟨fun c => (h c).2.2, Idealize.ShloMosaic.sem_eq_zero_of_no_sems (by decide) r.2⟩) (Cert.GWDownReferenceIdeal.Value.run m ρ)

theorem claim : Cert.algebraic_GWDownIdeal_GWDownReferenceIdeal := by
  intro m ρ m' ρ' _ hagree
  refine ⟨fun c => G2 m c, fun c => G3 m c, (θ_run defs _ _).mono (fun _ h c => ⟨(h c).1.trans (final2 m c), (h c).2.1.trans (final3 m c), (h c).2.2⟩) (Value.run_blocks m ρ),
    (θ_run Cert.GWDownReferenceIdeal.defs _ _).mono (fun _ h c => ⟨(h c).1.trans ?_, (h c).2.1.trans ?_, (h c).2.2⟩) (Cert.GWDownReferenceIdeal.Value.run m' ρ')⟩
  all_goals
    rw [(hagree c).1, (hagree c).2]
  all_goals
    show _ = (tn (A m c) (B m c) : Mat 5632 2048)
    funext j
    idx_vars j
    pointwise [tn]
    exact Finset.sum_congr rfl fun k _ => mul_comm (_ : EReal) _

end Cert.Products.GWDown

end
-- ==== Proof.Products.GWGate.lean ====
module

public import proofs.«01_k».proof.Proof.Gen.GWGateIdeal.Value
public import proofs.«01_k».proof.Proof.Gen.GWGateReferenceIdeal.Run
public import proofs.«01_k».proof.Defs
public import proofs.«01_k».proof.Proof.Products.Common

@[expose] public section

noncomputable section

/-! The gradient of the gate projection's weight. -/

namespace Cert.Products.GWGate

open Cert.GWGateIdeal Cert.GWGateIdeal.Gen Idealize.ShloMosaic Idealize.ShloMosaic.TcCoe Idealize.SL.Sem
open Idealize.ShloMosaic.Pipeline (Dat)

section body
variable (c : Dev nD) (i : grid0.Coords) (a0 : Memref sig .tc .vmem S2048x1024 .bf16) (h0 : a0.IsWhole) (a1 : Memref sig .tc .vmem S2048x1408 .bf16) (h1 : a1.IsWhole) (a2 : Memref sig .tc .vmem S1024x1408 .f32) (h2 : a2.IsWhole) (a3 : Memref sig .tc .vmem S1024x1408 .bf16) (h3 : a3.IsWhole) (a4 : Memref sig .tc .vmem S1024x1408 .f32) (h4 : a4.IsWhole)
  (x0 : Vec Ideal S2048x1024 .bf16) (x1 : Vec Ideal S2048x1408 .bf16)
/-- What the point that finishes a block leaves in window 2. -/
theorem out2 (hc0 : ¬cond0_0 i) (hc1 : ¬cond0_1 i) (hc2 : cond0_2 i) (s : Vec Ideal S1024x1408 .f32) :
    out0_C_2 c i a0 h0 a1 h1 a2 h2 a3 h3 a4 h4 hc0 hc1 hc2 x0 x1 s = fun j => s j + tn (M := 1024) (K := 2048) (N := 1408) x0 x1 j := by
  unfold out0_C_2
  rw [View.read_writes_eq_canon _ _ _ (cover0_C_2 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1024x1408) hz, View.ld_unit_zero (S := S2048x1024) hz, View.ld_unit_zero (S := S2048x1408) hz, shapeCast_self]
  funext j
  idx_vars j
  unfold_payloads
  pointwise [tn]
/-- What the point that finishes a block leaves in window 3. -/
theorem out3 (hc0 : ¬cond0_0 i) (hc1 : ¬cond0_1 i) (hc2 : cond0_2 i) (s : Vec Ideal S1024x1408 .f32) :
    out0_C_3 c i a0 h0 a1 h1 a2 h2 a3 h3 a4 h4 hc0 hc1 hc2 x0 x1 s = fun j => s j + tn (M := 1024) (K := 2048) (N := 1408) x0 x1 j := by
  unfold out0_C_3
  rw [View.read_writes_eq_canon _ _ _ (cover0_C_3 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1024x1408) hz, View.ld_unit_zero (S := S2048x1024) hz, View.ld_unit_zero (S := S2048x1408) hz, shapeCast_self]
  funext j
  idx_vars j
  unfold_payloads
  pointwise [tn]
/-- What the first point of a block leaves in the accumulator. -/
theorem accA (hc0 : cond0_0 i) (hc1 : ¬cond0_1 i) (hc2 : ¬cond0_2 i) :
    sout0_A_0 c i a0 h0 a1 h1 a2 h2 a3 h3 a4 h4 hc0 hc1 hc2 x0 x1 = tn (M := 1024) (K := 2048) (N := 1408) x0 x1 := by
  unfold sout0_A_0
  rw [View.read_writes_eq_canon _ _ _ (scover0_A_0 c i a0 h0 a1 h1 a2 h2 a3 h3 a4 h4 hc0 hc1 hc2 x0 x1)]
  unfold kernelRun0_A
  dsimp only
  rw [View.canon_unit_zero hz]
  simp only [View.readAt_eq_ld, h0.read_unread, h1.read_unread, View.ld_unit_zero (S := S1024x1408) hz, View.ld_unit_zero (S := S2048x1024) hz, View.ld_unit_zero (S := S2048x1408) hz, shapeCast_self]
  funext j
  idx_vars j
  unfold_payloads
  pointwise [tn]
/-- What a point in the middle of a block leaves in the accumulator. -/
theorem accB (hc0 : ¬cond0_0 i) (hc1 : cond0_1 i) (hc2 : ¬cond0_2 i) (s : Vec Ideal S1024x1408 .f32) :
    sout0_B_0 c i a0 h0 a1 h1 a2 h2 a3 h3 a4 h4 hc0 hc1 hc2 x0 x1 s = fun j => s j + tn (M := 1024) (K := 2048) (N := 1408) x0 x1 j := by
  unfold sout0_B_0
  rw [View.read_writes_eq_canon _ _ _ (scover0_B_0 c i a0 h0 a1 h1 a2 h2 a3 h3 a4 h4 hc0 hc1 hc2 x0 x1 s)]
  unfold kernelRun0_B
  dsimp only
  rw [View.canon_unit_zero hz]
  simp only [View.readAt_eq_ld, h0.read_unread, h1.read_unread, h4.read_unread, View.ld_unit_zero (S := S1024x1408) hz, View.ld_unit_zero (S := S2048x1024) hz, View.ld_unit_zero (S := S2048x1408) hz, shapeCast_self]
  funext j
  idx_vars j
  unfold_payloads
  pointwise [tn]
end body

variable (m : (ℓ : Loc nD τ sig) → Buf (Elt Ideal) ℓ) (ρ : Dev nD → PrngReg)

/-- The block index of each window at a point. -/
theorem idx : ∀ t : Fin cfg0.N, (win0_0.index t 0 = t.val % 4 ∧ win0_0.index t 1 = t.val / 16)
    ∧ (win0_1.index t 0 = t.val % 4 ∧ win0_1.index t 1 = t.val / 4 % 4)
    ∧ (win0_2.index t 0 = t.val / 16 ∧ win0_2.index t 1 = t.val / 4 % 4)
    ∧ (win0_3.index t 0 = t.val / 16 ∧ win0_3.index t 1 = t.val / 4 % 4) :=
  (by decide +kernel : ∀ t : Fin grid0.N, _)

abbrev A (c : Dev nD) : Mat 8192 2048 := m ((c : Thread nD τ).loc main_arg0)

theorem blk0 (c : Dev nD) (t : Fin cfg0.N) (y : (⟨2, ![2048, 1024]⟩ : Shape).Idx) (j : (⟨2, ![8192, 2048]⟩ : Shape).Idx)
    (h0 : (j 0).val = t.val % 4 * 2048 + (y 0).val) (h1 : (j 1).val = t.val / 16 * 1024 + (y 1).val) :
    (iblk m c 0 t : Mat 2048 1024) y = A m c j := by
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (j 0).val; rw [(idx t).1.1]; omega
  | ⟨1, _⟩ => show win0_0.index t 1 * 1024 + 1 * (y 1).val = (j 1).val; rw [(idx t).1.2]; omega

abbrev B (c : Dev nD) : Mat 8192 5632 := m ((c : Thread nD τ).loc main_arg1)

theorem blk1 (c : Dev nD) (t : Fin cfg0.N) (y : (⟨2, ![2048, 1408]⟩ : Shape).Idx) (j : (⟨2, ![8192, 5632]⟩ : Shape).Idx)
    (h0 : (j 0).val = t.val % 4 * 2048 + (y 0).val) (h1 : (j 1).val = t.val / 4 % 4 * 1408 + (y 1).val) :
    (iblk m c 1 t : Mat 2048 1408) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1408 + 1 * (y 1).val = (j 1).val; rw [(idx t).2.1.2]; omega

/-- The whole result array. -/
def G2 (c : Dev nD) : Buf (Elt Ideal) ((c : Thread nD τ).loc main_v0_0) := (tn (A m c) (B m c) : Mat 2048 5632)

/-- The whole result array. -/
def G3 (c : Dev nD) : Buf (Elt Ideal) ((c : Thread nD τ).loc main_v0_1) := (tn (A m c) (B m c) : Mat 2048 5632)

/-- The product of a point's blocks is one tile of the contraction. -/
theorem part (c : Dev nD) (t : Fin cfg0.N) (y : S1024x1408.Idx) (i : S2048x5632.Idx)
    (h0 : (i 0).val = t.val / 16 * 1024 + (y 0).val) (h1 : (i 1).val = t.val / 4 % 4 * 1408 + (y 1).val) :
    tn (iblk m c 0 t : Mat 2048 1024) (iblk m c 1 t : Mat 2048 1408) y = tnTile 2048 (A m c) (B m c) (t.val % 4) i := by
  have hN : t.val < 32 := lt_of_lt_of_eq t.isLt (show cfg0.N = 32 from N_0)
  refine Finset.sum_congr rfl fun k _ => ?_
  have hk := k.isLt
  rw [dif_pos (show t.val % 4 * 2048 + k.val < 8192 by omega)]
  exact congrArg₂ (· * ·) (blk0 m c t _ _ rfl h0) (blk1 m c t _ _ rfl h1)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 4 = 3) :
    (outsAt0 m c (t.val - 1) (Nat.lt_of_le_of_lt (Nat.sub_le _ _) t.isLt)).2.2
      = fun y => tn (iblk m c 0 (before t 3) : Mat 2048 1024) (iblk m c 1 (before t 3) : Mat 2048 1408) y + tn (iblk m c 0 (before t 2) : Mat 2048 1024) (iblk m c 1 (before t 2) : Mat 2048 1408) y + tn (iblk m c 0 (before t 1) : Mat 2048 1024) (iblk m c 1 (before t 1) : Mat 2048 1408) y := by
  have s3 : (outsAt0 m c (before t 3).val (before t 3).isLt).2.2 = tn (iblk m c 0 (before t 3) : Mat 2048 1024) (iblk m c 1 (before t 3) : Mat 2048 1408) := by
    rw [outsAt0_A m c (before t 3) (by simp only [before] <;> omega) (by simp only [before] <;> omega) (by simp only [before] <;> omega)]
    dsimp only
    rw [accA]
  have s2 : (outsAt0 m c (before t 2).val (before t 2).isLt).2.2 = fun y => (outsAt0 m c (before t 3).val (before t 3).isLt).2.2 y + tn (iblk m c 0 (before t 2) : Mat 2048 1024) (iblk m c 1 (before t 2) : Mat 2048 1408) y := by
    rw [outsAt0_B m c (before t 2) (by simp only [before] <;> omega) (by simp only [before] <;> omega) (by simp only [before] <;> omega)]
    dsimp only
    rw [accB]
    rfl
  have s1 : (outsAt0 m c (before t 1).val (before t 1).isLt).2.2 = fun y => (outsAt0 m c (before t 2).val (before t 2).isLt).2.2 y + tn (iblk m c 0 (before t 1) : Mat 2048 1024) (iblk m c 1 (before t 1) : Mat 2048 1408) y := by
    rw [outsAt0_B m c (before t 1) (by simp only [before] <;> omega) (by simp only [before] <;> omega) (by simp only [before] <;> omega)]
    dsimp only
    rw [accB]
    rfl
  rw [s2, s3] at s1
  exact s1

set_option maxRecDepth 100000 in
theorem flushed2_eq (c : Dev nD) (t : Fin cfg0.N) (h : t.val % 4 = 3) :
    (dats m 0 c).flushed 2 t = ((cfg0.win 2).blk t).view.read (Elt Ideal) (G2 m c) := by
  have hN : t.val < 32 := lt_of_lt_of_eq t.isLt (show cfg0.N = 32 from N_0)
  rw [Value.flushed2_C m c t (by omega) (by omega) h, out2]
  rw [acc m c t h]
  funext y
  rw [View.read_apply]
  show tn (iblk m c 0 (before t 3) : Mat 2048 1024) (iblk m c 1 (before t 3) : Mat 2048 1408) y + tn (iblk m c 0 (before t 2) : Mat 2048 1024) (iblk m c 1 (before t 2) : Mat 2048 1408) y + tn (iblk m c 0 (before t 1) : Mat 2048 1024) (iblk m c 1 (before t 1) : Mat 2048 1408) y + tn (iblk m c 0 t : Mat 2048 1024) (iblk m c 1 t : Mat 2048 1408) y = tn (A m c) (B m c) ((win0_2.rect t).emb y)
  have e0 : ((win0_2.rect t).emb y 0 : Nat) = t.val / 16 * 1024 + (y 0).val := by
    rw [win0_2.rect_emb_val, (idx t).2.2.1.1]; rfl
  have e1 : ((win0_2.rect t).emb y 1 : Nat) = t.val / 4 % 4 * 1408 + (y 1).val := by
    rw [win0_2.rect_emb_val, (idx t).2.2.1.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

set_option maxRecDepth 100000 in
theorem flushed3_eq (c : Dev nD) (t : Fin cfg0.N) (h : t.val % 4 = 3) :
    (dats m 0 c).flushed 3 t = ((cfg0.win 3).blk t).view.read (Elt Ideal) (G3 m c) := by
  have hN : t.val < 32 := lt_of_lt_of_eq t.isLt (show cfg0.N = 32 from N_0)
  rw [Value.flushed3_C m c t (by omega) (by omega) h, out3]
  rw [acc m c t h]
  funext y
  rw [View.read_apply]
  show tn (iblk m c 0 (before t 3) : Mat 2048 1024) (iblk m c 1 (before t 3) : Mat 2048 1408) y + tn (iblk m c 0 (before t 2) : Mat 2048 1024) (iblk m c 1 (before t 2) : Mat 2048 1408) y + tn (iblk m c 0 (before t 1) : Mat 2048 1024) (iblk m c 1 (before t 1) : Mat 2048 1408) y + tn (iblk m c 0 t : Mat 2048 1024) (iblk m c 1 t : Mat 2048 1408) y = tn (A m c) (B m c) ((win0_3.rect t).emb y)
  have e0 : ((win0_3.rect t).emb y 0 : Nat) = t.val / 16 * 1024 + (y 0).val := by
    rw [win0_3.rect_emb_val, (idx t).2.2.2.1]; rfl
  have e1 : ((win0_3.rect t).emb y 1 : Nat) = t.val / 4 % 4 * 1408 + (y 1).val := by
    rw [win0_3.rect_emb_val, (idx t).2.2.2.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

theorem cover2 (i : S2048x5632.Idx) : ∃ t : Fin cfg0.N, (cfg0.win 2).flush t = true ∧ i ∈ ((cfg0.win 2).blk t).view.set := by
  have h0 : (i 0).val < 2048 := (i 0).isLt
  have h1 : (i 1).val < 5632 := (i 1).isLt
  have hN : cfg0.N = 32 := N_0
  let t : Fin cfg0.N := ⟨(i 0).val / 1024 * 16 + (i 1).val / 1408 * 4 + 3, by omega⟩
  refine ⟨t, (flush0_2 t).mpr (by dsimp only [t]; omega), ?_⟩
  show i ∈ ((View.whole main_v0_0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1.1]; dsimp only [t]; omega
  | ⟨1, _⟩ =>
    show win0_2.index t 1 * 1408 ≤ (i 1 : Nat) ∧ (i 1 : Nat) < win0_2.index t 1 * 1408 + 1408
    rw [(idx t).2.2.1.2]; dsimp only [t]; omega

theorem final2 (c : Dev nD) : (dats m 0 c).arrAt 2 cfg0.N = G2 m c :=
  (dats m 0 c).arrAt_eq_of_cover 2 (G2 m c) (fun t hf => flushed2_eq m c t ((flush0_2 t).mp hf)) cover2

theorem cover3 (i : S2048x5632.Idx) : ∃ t : Fin cfg0.N, (cfg0.win 3).flush t = true ∧ i ∈ ((cfg0.win 3).blk t).view.set := by
  have h0 : (i 0).val < 2048 := (i 0).isLt
  have h1 : (i 1).val < 5632 := (i 1).isLt
  have hN : cfg0.N = 32 := N_0
  let t : Fin cfg0.N := ⟨(i 0).val / 1024 * 16 + (i 1).val / 1408 * 4 + 3, by omega⟩
  refine ⟨t, (flush0_3 t).mpr (by dsimp only [t]; omega), ?_⟩
  show i ∈ ((View.whole main_v0_1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 1408 ≤ (i 1 : Nat) ∧ (i 1 : Nat) < win0_3.index t 1 * 1408 + 1408
    rw [(idx t).2.2.2.2]; dsimp only [t]; omega

theorem final3 (c : Dev nD) : (dats m 0 c).arrAt 3 cfg0.N = G3 m c :=
  (dats m 0 c).arrAt_eq_of_cover 3 (G3 m c) (fun t hf => flushed3_eq m c t ((flush0_3 t).mp hf)) cover3

theorem reference_frame : Cert.quiescent_GWGateReferenceIdeal := fun m ρ _ =>
  (θ_run (Cert.GWGateReferenceIdeal.defs (F := Ideal)) _ _).mono
    (fun r h => ⟨fun c => (h c).2.2, Idealize.ShloMosaic.sem_eq_zero_of_no_sems (by decide) r.2⟩) (Cert.GWGateReferenceIdeal.Value.run m ρ)

theorem claim : Cert.algebraic_GWGateIdeal_GWGateReferenceIdeal := by
  intro m ρ m' ρ' _ hagree
  refine ⟨fun c => G2 m c, fun c => G3 m c, (θ_run defs _ _).mono (fun _ h c => ⟨(h c).1.trans (final2 m c), (h c).2.1.trans (final3 m c), (h c).2.2⟩) (Value.run_blocks m ρ),
    (θ_run Cert.GWGateReferenceIdeal.defs _ _).mono (fun _ h c => ⟨(h c).1.trans ?_, (h c).2.1.trans ?_, (h c).2.2⟩) (Cert.GWGateReferenceIdeal.Value.run m' ρ')⟩
  all_goals
    rw [(hagree c).1, (hagree c).2]
  all_goals
    show _ = (tn (A m c) (B m c) : Mat 2048 5632)
    funext j
    idx_vars j
    pointwise [tn]
    exact Finset.sum_congr rfl fun k _ => mul_comm (_ : EReal) _

end Cert.Products.GWGate

end
-- ==== Proof.Products.GWIn.lean ====
module

public import proofs.«01_k».proof.Proof.Gen.GWInIdeal.Value
public import proofs.«01_k».proof.Proof.Gen.GWInReferenceIdeal.Run
public import proofs.«01_k».proof.Defs
public import proofs.«01_k».proof.Proof.Products.Common

@[expose] public section

noncomputable section

/-! The gradient of the combined projection's weight: the right operand comes as seven groups of columns. -/

namespace Cert.Products.GWIn

open Cert.GWInIdeal Cert.GWInIdeal.Gen Idealize.ShloMosaic Idealize.ShloMosaic.TcCoe Idealize.SL.Sem
open Idealize.ShloMosaic.Pipeline (Dat)

section body
variable (c : Dev nD) (i : grid0.Coords) (a0 : Memref sig .tc .vmem S2048x1024 .bf16) (h0 : a0.IsWhole) (a1 : Memref sig .tc .vmem S1x2048x1024 .bf16) (h1 : a1.IsWhole) (a2 : Memref sig .tc .vmem S1024x1024 .f32) (h2 : a2.IsWhole) (a3 : Memref sig .tc .vmem S1024x1024 .bf16) (h3 : a3.IsWhole) (a4 : Memref sig .tc .vmem S1024x1024 .f32) (h4 : a4.IsWhole)
  (x0 : Vec Ideal S2048x1024 .bf16) (x1 : Vec Ideal S1x2048x1024 .bf16)
/-- What the point that finishes a block leaves in window 2. -/
theorem out2 (hc0 : ¬cond0_0 i) (hc1 : ¬cond0_1 i) (hc2 : cond0_2 i) (s : Vec Ideal S1024x1024 .f32) :
    out0_C_2 c i a0 h0 a1 h1 a2 h2 a3 h3 a4 h4 hc0 hc1 hc2 x0 x1 s = fun j => s j + tn (M := 1024) (K := 2048) (N := 1024) x0 (sheet x1) j := by
  unfold out0_C_2
  rw [View.read_writes_eq_canon _ _ _ (cover0_C_2 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1024x1024) hz, View.ld_unit_zero (S := S1x2048x1024) hz3, View.ld_unit_zero (S := S2048x1024) hz, shapeCast_self]
  funext j
  idx_vars j
  unfold_payloads
  pointwise [tn, sheet]
/-- What the point that finishes a block leaves in window 3. -/
theorem out3 (hc0 : ¬cond0_0 i) (hc1 : ¬cond0_1 i) (hc2 : cond0_2 i) (s : Vec Ideal S1024x1024 .f32) :
    out0_C_3 c i a0 h0 a1 h1 a2 h2 a3 h3 a4 h4 hc0 hc1 hc2 x0 x1 s = fun j => s j + tn (M := 1024) (K := 2048) (N := 1024) x0 (sheet x1) j := by
  unfold out0_C_3
  rw [View.read_writes_eq_canon _ _ _ (cover0_C_3 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1024x1024) hz, View.ld_unit_zero (S := S1x2048x1024) hz3, View.ld_unit_zero (S := S2048x1024) hz, shapeCast_self]
  funext j
  idx_vars j
  unfold_payloads
  pointwise [tn, sheet]
/-- What the first point of a block leaves in the accumulator. -/
theorem accA (hc0 : cond0_0 i) (hc1 : ¬cond0_1 i) (hc2 : ¬cond0_2 i) :
    sout0_A_0 c i a0 h0 a1 h1 a2 h2 a3 h3 a4 h4 hc0 hc1 hc2 x0 x1 = tn (M := 1024) (K := 2048) (N := 1024) x0 (sheet x1) := by
  unfold sout0_A_0
  rw [View.read_writes_eq_canon _ _ _ (scover0_A_0 c i a0 h0 a1 h1 a2 h2 a3 h3 a4 h4 hc0 hc1 hc2 x0 x1)]
  unfold kernelRun0_A
  dsimp only
  rw [View.canon_unit_zero hz]
  simp only [View.readAt_eq_ld, h0.read_unread, h1.read_unread, View.ld_unit_zero (S := S1024x1024) hz, View.ld_unit_zero (S := S1x2048x1024) hz3, View.ld_unit_zero (S := S2048x1024) hz, shapeCast_self]
  funext j
  idx_vars j
  unfold_payloads
  pointwise [tn, sheet]
/-- What a point in the middle of a block leaves in the accumulator. -/
theorem accB (hc0 : ¬cond0_0 i) (hc1 : cond0_1 i) (hc2 : ¬cond0_2 i) (s : Vec Ideal S1024x1024 .f32) :
    sout0_B_0 c i a0 h0 a1 h1 a2 h2 a3 h3 a4 h4 hc0 hc1 hc2 x0 x1 s = fun j => s j + tn (M := 1024) (K := 2048) (N := 1024) x0 (sheet x1) j := by
  unfold sout0_B_0
  rw [View.read_writes_eq_canon _ _ _ (scover0_B_0 c i a0 h0 a1 h1 a2 h2 a3 h3 a4 h4 hc0 hc1 hc2 x0 x1 s)]
  unfold kernelRun0_B
  dsimp only
  rw [View.canon_unit_zero hz]
  simp only [View.readAt_eq_ld, h0.read_unread, h1.read_unread, h4.read_unread, View.ld_unit_zero (S := S1024x1024) hz, View.ld_unit_zero (S := S1x2048x1024) hz3, View.ld_unit_zero (S := S2048x1024) hz, shapeCast_self]
  funext j
  idx_vars j
  unfold_payloads
  pointwise [tn, sheet]
end body

variable (m : (ℓ : Loc nD τ sig) → Buf (Elt Ideal) ℓ) (ρ : Dev nD → PrngReg)

/-- The block index of each window at a point. -/
theorem idx : ∀ t : Fin cfg0.N, (win0_0.index t 0 = t.val % 4 ∧ win0_0.index t 1 = t.val / 28)
    ∧ (win0_1.index t 0 = t.val / 4 % 7 ∧ win0_1.index t 1 = t.val % 4 ∧ win0_1.index t 2 = 0)
    ∧ (win0_2.index t 0 = t.val / 28 ∧ win0_2.index t 1 = t.val / 4 % 7)
    ∧ (win0_3.index t 0 = t.val / 28 ∧ win0_3.index t 1 = t.val / 4 % 7) :=
  (by decide +kernel : ∀ t : Fin grid0.N, _)

abbrev A (c : Dev nD) : Mat 8192 2048 := m ((c : Thread nD τ).loc main_arg0)

theorem blk0 (c : Dev nD) (t : Fin cfg0.N) (y : (⟨2, ![2048, 1024]⟩ : Shape).Idx) (j : (⟨2, ![8192, 2048]⟩ : Shape).Idx)
    (h0 : (j 0).val = t.val % 4 * 2048 + (y 0).val) (h1 : (j 1).val = t.val / 28 * 1024 + (y 1).val) :
    (iblk m c 0 t : Mat 2048 1024) y = A m c j := by
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (j 0).val; rw [(idx t).1.1]; omega
  | ⟨1, _⟩ => show win0_0.index t 1 * 1024 + 1 * (y 1).val = (j 1).val; rw [(idx t).1.2]; omega

abbrev B (c : Dev nD) : Mat 8192 7168 := joined 7 1024 rfl (by decide : 7 ≤ 8) (m ((c : Thread nD τ).loc main_arg1))

theorem blk1 (c : Dev nD) (t : Fin cfg0.N) (y : (⟨2, ![2048, 1024]⟩ : Shape).Idx) (j : (⟨2, ![8192, 7168]⟩ : Shape).Idx)
    (h0 : (j 0).val = t.val % 4 * 2048 + (y 0).val) (h1 : (j 1).val = t.val / 4 % 7 * 1024 + (y 1).val) :
    (sheet (iblk m c 1 t : Cube 1 2048 1024)) y = B m c j := by
  have hy : (y 1).val < 1024 := (y 1).isLt
  unfold iblk
  unfold sheet
  rw [View.read_apply]
  show V m c main_arg1 _ = m (c.tc.loc main_arg1) _
  unfold V
  congr 1
  funext a
  apply Fin.ext
  match a with
  | ⟨0, _⟩ => show win0_1.index t 0 * 1 + 1 * 0 = (j 1).val / 1024; rw [(idx t).2.1.1]; omega
  | ⟨1, _⟩ => show win0_1.index t 1 * 2048 + 1 * (y 0).val = (j 0).val; rw [(idx t).2.1.2.1]; omega
  | ⟨2, _⟩ => show win0_1.index t 2 * 1024 + 1 * (y 1).val = (j 1).val % 1024; rw [(idx t).2.1.2.2]; omega

/-- The whole result array. -/
def G2 (c : Dev nD) : Buf (Elt Ideal) ((c : Thread nD τ).loc main_v0_0) := (tn (A m c) (B m c) : Mat 2048 7168)

/-- The whole result array. -/
def G3 (c : Dev nD) : Buf (Elt Ideal) ((c : Thread nD τ).loc main_v0_1) := (tn (A m c) (B m c) : Mat 2048 7168)

/-- The product of a point's blocks is one tile of the contraction. -/
theorem part (c : Dev nD) (t : Fin cfg0.N) (y : S1024x1024.Idx) (i : S2048x7168.Idx)
    (h0 : (i 0).val = t.val / 28 * 1024 + (y 0).val) (h1 : (i 1).val = t.val / 4 % 7 * 1024 + (y 1).val) :
    tn (iblk m c 0 t : Mat 2048 1024) (sheet (iblk m c 1 t : Cube 1 2048 1024)) y = tnTile 2048 (A m c) (B m c) (t.val % 4) i := by
  have hN : t.val < 56 := lt_of_lt_of_eq t.isLt (show cfg0.N = 56 from N_0)
  refine Finset.sum_congr rfl fun k _ => ?_
  have hk := k.isLt
  rw [dif_pos (show t.val % 4 * 2048 + k.val < 8192 by omega)]
  exact congrArg₂ (· * ·) (blk0 m c t _ _ rfl h0) (blk1 m c t _ _ rfl h1)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 4 = 3) :
    (outsAt0 m c (t.val - 1) (Nat.lt_of_le_of_lt (Nat.sub_le _ _) t.isLt)).2.2
      = fun y => tn (iblk m c 0 (before t 3) : Mat 2048 1024) (sheet (iblk m c 1 (before t 3) : Cube 1 2048 1024)) y + tn (iblk m c 0 (before t 2) : Mat 2048 1024) (sheet (iblk m c 1 (before t 2) : Cube 1 2048 1024)) y + tn (iblk m c 0 (before t 1) : Mat 2048 1024) (sheet (iblk m c 1 (before t 1) : Cube 1 2048 1024)) y := by
  have s3 : (outsAt0 m c (before t 3).val (before t 3).isLt).2.2 = tn (iblk m c 0 (before t 3) : Mat 2048 1024) (sheet (iblk m c 1 (before t 3) : Cube 1 2048 1024)) := by
    rw [outsAt0_A m c (before t 3) (by simp only [before] <;> omega) (by simp only [before] <;> omega) (by simp only [before] <;> omega)]
    dsimp only
    rw [accA]
  have s2 : (outsAt0 m c (before t 2).val (before t 2).isLt).2.2 = fun y => (outsAt0 m c (before t 3).val (before t 3).isLt).2.2 y + tn (iblk m c 0 (before t 2) : Mat 2048 1024) (sheet (iblk m c 1 (before t 2) : Cube 1 2048 1024)) y := by
    rw [outsAt0_B m c (before t 2) (by simp only [before] <;> omega) (by simp only [before] <;> omega) (by simp only [before] <;> omega)]
    dsimp only
    rw [accB]
    rfl
  have s1 : (outsAt0 m c (before t 1).val (before t 1).isLt).2.2 = fun y => (outsAt0 m c (before t 2).val (before t 2).isLt).2.2 y + tn (iblk m c 0 (before t 1) : Mat 2048 1024) (sheet (iblk m c 1 (before t 1) : Cube 1 2048 1024)) y := by
    rw [outsAt0_B m c (before t 1) (by simp only [before] <;> omega) (by simp only [before] <;> omega) (by simp only [before] <;> omega)]
    dsimp only
    rw [accB]
    rfl
  rw [s2, s3] at s1
  exact s1

set_option maxRecDepth 100000 in
theorem flushed2_eq (c : Dev nD) (t : Fin cfg0.N) (h : t.val % 4 = 3) :
    (dats m 0 c).flushed 2 t = ((cfg0.win 2).blk t).view.read (Elt Ideal) (G2 m c) := by
  have hN : t.val < 56 := lt_of_lt_of_eq t.isLt (show cfg0.N = 56 from N_0)
  rw [Value.flushed2_C m c t (by omega) (by omega) h, out2]
  rw [acc m c t h]
  funext y
  rw [View.read_apply]
  show tn (iblk m c 0 (before t 3) : Mat 2048 1024) (sheet (iblk m c 1 (before t 3) : Cube 1 2048 1024)) y + tn (iblk m c 0 (before t 2) : Mat 2048 1024) (sheet (iblk m c 1 (before t 2) : Cube 1 2048 1024)) y + tn (iblk m c 0 (before t 1) : Mat 2048 1024) (sheet (iblk m c 1 (before t 1) : Cube 1 2048 1024)) y + tn (iblk m c 0 t : Mat 2048 1024) (sheet (iblk m c 1 t : Cube 1 2048 1024)) y = tn (A m c) (B m c) ((win0_2.rect t).emb y)
  have e0 : ((win0_2.rect t).emb y 0 : Nat) = t.val / 28 * 1024 + (y 0).val := by
    rw [win0_2.rect_emb_val, (idx t).2.2.1.1]; rfl
  have e1 : ((win0_2.rect t).emb y 1 : Nat) = t.val / 4 % 7 * 1024 + (y 1).val := by
    rw [win0_2.rect_emb_val, (idx t).2.2.1.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

set_option maxRecDepth 100000 in
theorem flushed3_eq (c : Dev nD) (t : Fin cfg0.N) (h : t.val % 4 = 3) :
    (dats m 0 c).flushed 3 t = ((cfg0.win 3).blk t).view.read (Elt Ideal) (G3 m c) := by
  have hN : t.val < 56 := lt_of_lt_of_eq t.isLt (show cfg0.N = 56 from N_0)
  rw [Value.flushed3_C m c t (by omega) (by omega) h, out3]
  rw [acc m c t h]
  funext y
  rw [View.read_apply]
  show tn (iblk m c 0 (before t 3) : Mat 2048 1024) (sheet (iblk m c 1 (before t 3) : Cube 1 2048 1024)) y + tn (iblk m c 0 (before t 2) : Mat 2048 1024) (sheet (iblk m c 1 (before t 2) : Cube 1 2048 1024)) y + tn (iblk m c 0 (before t 1) : Mat 2048 1024) (sheet (iblk m c 1 (before t 1) : Cube 1 2048 1024)) y + tn (iblk m c 0 t : Mat 2048 1024) (sheet (iblk m c 1 t : Cube 1 2048 1024)) y = tn (A m c) (B m c) ((win0_3.rect t).emb y)
  have e0 : ((win0_3.rect t).emb y 0 : Nat) = t.val / 28 * 1024 + (y 0).val := by
    rw [win0_3.rect_emb_val, (idx t).2.2.2.1]; rfl
  have e1 : ((win0_3.rect t).emb y 1 : Nat) = t.val / 4 % 7 * 1024 + (y 1).val := by
    rw [win0_3.rect_emb_val, (idx t).2.2.2.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

theorem cover2 (i : S2048x7168.Idx) : ∃ t : Fin cfg0.N, (cfg0.win 2).flush t = true ∧ i ∈ ((cfg0.win 2).blk t).view.set := by
  have h0 : (i 0).val < 2048 := (i 0).isLt
  have h1 : (i 1).val < 7168 := (i 1).isLt
  have hN : cfg0.N = 56 := N_0
  let t : Fin cfg0.N := ⟨(i 0).val / 1024 * 28 + (i 1).val / 1024 * 4 + 3, by omega⟩
  refine ⟨t, (flush0_2 t).mpr (by dsimp only [t]; omega), ?_⟩
  show i ∈ ((View.whole main_v0_0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1.1]; dsimp only [t]; omega
  | ⟨1, _⟩ =>
    show win0_2.index t 1 * 1024 ≤ (i 1 : Nat) ∧ (i 1 : Nat) < win0_2.index t 1 * 1024 + 1024
    rw [(idx t).2.2.1.2]; dsimp only [t]; omega

theorem final2 (c : Dev nD) : (dats m 0 c).arrAt 2 cfg0.N = G2 m c :=
  (dats m 0 c).arrAt_eq_of_cover 2 (G2 m c) (fun t hf => flushed2_eq m c t ((flush0_2 t).mp hf)) cover2

theorem cover3 (i : S2048x7168.Idx) : ∃ t : Fin cfg0.N, (cfg0.win 3).flush t = true ∧ i ∈ ((cfg0.win 3).blk t).view.set := by
  have h0 : (i 0).val < 2048 := (i 0).isLt
  have h1 : (i 1).val < 7168 := (i 1).isLt
  have hN : cfg0.N = 56 := N_0
  let t : Fin cfg0.N := ⟨(i 0).val / 1024 * 28 + (i 1).val / 1024 * 4 + 3, by omega⟩
  refine ⟨t, (flush0_3 t).mpr (by dsimp only [t]; omega), ?_⟩
  show i ∈ ((View.whole main_v0_1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t hf => flushed3_eq m c t ((flush0_3 t).mp hf)) cover3

theorem reference_frame : Cert.quiescent_GWInReferenceIdeal := fun m ρ _ =>
  (θ_run (Cert.GWInReferenceIdeal.defs (F := Ideal)) _ _).mono
    (fun r h => ⟨fun c => (h c).2.2, Idealize.ShloMosaic.sem_eq_zero_of_no_sems (by decide) r.2⟩) (Cert.GWInReferenceIdeal.Value.run m ρ)

theorem claim : Cert.algebraic_GWInIdeal_GWInReferenceIdeal := by
  intro m ρ m' ρ' _ hagree
  refine ⟨fun c => G2 m c, fun c => G3 m c, (θ_run defs _ _).mono (fun _ h c => ⟨(h c).1.trans (final2 m c), (h c).2.1.trans (final3 m c), (h c).2.2⟩) (Value.run_blocks m ρ),
    (θ_run Cert.GWInReferenceIdeal.defs _ _).mono (fun _ h c => ⟨(h c).1.trans ?_, (h c).2.1.trans ?_, (h c).2.2⟩) (Cert.GWInReferenceIdeal.Value.run m' ρ')⟩
  all_goals
    rw [(hagree c).1, (hagree c).2]
  all_goals
    show _ = (tn (A m c) (B m c) : Mat 2048 7168)
    funext j
    idx_vars j
    pointwise [tn, joined]
    exact Finset.sum_congr rfl fun k _ => mul_comm (_ : EReal) _

end Cert.Products.GWIn

end
-- ==== Proof.Products.GWk.lean ====
module

public import proofs.«01_k».proof.Proof.Gen.GWkIdeal.Value
public import proofs.«01_k».proof.Proof.Gen.GWkReferenceIdeal.Run
public import proofs.«01_k».proof.Defs
public import proofs.«01_k».proof.Proof.Products.Common

@[expose] public section

noncomputable section

/-! The gradient of the key projection's weight. -/

namespace Cert.Products.GWk

open Cert.GWkIdeal Cert.GWkIdeal.Gen Idealize.ShloMosaic Idealize.ShloMosaic.TcCoe Idealize.SL.Sem
open Idealize.ShloMosaic.Pipeline (Dat)

section body
variable (c : Dev nD) (i : grid0.Coords) (a0 : Memref sig .tc .vmem S256x2048 .bf16) (h0 : a0.IsWhole) (a1 : Memref sig .tc .vmem S256x1024 .f32) (h1 : a1.IsWhole) (a2 : Memref sig .tc .vmem S2048x1024 .f32) (h2 : a2.IsWhole) (a3 : Memref sig .tc .vmem S2048x1024 .bf16) (h3 : a3.IsWhole) (a4 : Memref sig .tc .vmem S8x128 .f32) (h4 : a4.IsWhole)
  (x0 : Vec Ideal S256x2048 .bf16) (x1 : Vec Ideal S256x1024 .f32)
/-- What the point that finishes a block leaves in window 2. -/
theorem out2  :
    out0_A_2 c i a0 h0 a1 h1 a2 h2 a3 h3 a4 h4 x0 x1 = tn (M := 2048) (K := 256) (N := 1024) x0 x1 := by
  unfold out0_A_2
  rw [View.read_writes_eq_canon _ _ _ (cover0_A_2 c i a0 h0 a1 h1 a2 h2 a3 h3 a4 h4 x0 x1)]
  unfold kernelRun0_A
  dsimp only
  rw [View.canon_unit_zero hz]
  simp only [View.readAt_eq_ld, h0.read_unread, h1.read_unread, View.ld_unit_zero (S := S2048x1024) hz, View.ld_unit_zero (S := S256x1024) hz, View.ld_unit_zero (S := S256x2048) hz, shapeCast_self]
  funext j
  idx_vars j
  unfold_payloads
  pointwise [tn]
/-- What the point that finishes a block leaves in window 3. -/
theorem out3  :
    out0_A_3 c i a0 h0 a1 h1 a2 h2 a3 h3 a4 h4 x0 x1 = tn (M := 2048) (K := 256) (N := 1024) x0 x1 := by
  unfold out0_A_3
  rw [View.read_writes_eq_canon _ _ _ (cover0_A_3 c i a0 h0 a1 h1 a2 h2 a3 h3 a4 h4 x0 x1)]
  unfold kernelRun0_A
  dsimp only
  rw [View.canon_unit_zero hz]
  simp only [View.readAt_eq_ld, h0.read_unread, h1.read_unread, View.ld_unit_zero (S := S2048x1024) hz, View.ld_unit_zero (S := S256x1024) hz, View.ld_unit_zero (S := S256x2048) hz, shapeCast_self]
  funext j
  idx_vars j
  unfold_payloads
  pointwise [tn]
end body

variable (m : (ℓ : Loc nD τ sig) → Buf (Elt Ideal) ℓ) (ρ : Dev nD → PrngReg)

/-- The block index of each window at a point. -/
theorem idx : ∀ t : Fin cfg0.N, (win0_0.index t 0 = 0 ∧ win0_0.index t 1 = 0)
    ∧ (win0_1.index t 0 = 0 ∧ win0_1.index t 1 = t.val)
    ∧ (win0_2.index t 0 = 0 ∧ win0_2.index t 1 = t.val)
    ∧ (win0_3.index t 0 = 0 ∧ win0_3.index t 1 = t.val) :=
  (by decide +kernel : ∀ t : Fin grid0.N, _)

abbrev A (c : Dev nD) : Mat 256 2048 := m ((c : Thread nD τ).loc main_arg0)

theorem blk0 (c : Dev nD) (t : Fin cfg0.N) (y : (⟨2, ![256, 2048]⟩ : Shape).Idx) (j : (⟨2, ![256, 2048]⟩ : Shape).Idx)
    (h0 : (j 0).val = 0 * 256 + (y 0).val) (h1 : (j 1).val = 0 * 2048 + (y 1).val) :
    (iblk m c 0 t : Mat 256 2048) y = A m c j := by
  unfold iblk
  rw [View.read_apply]
  show V m c main_arg0 _ = m (c.tc.loc main_arg0) _
  unfold V
  congr 1
  funext a
  apply Fin.ext
  match a with
  | ⟨0, _⟩ => show win0_0.index t 0 * 256 + 1 * (y 0).val = (j 0).val; rw [(idx t).1.1]; omega
  | ⟨1, _⟩ => show win0_0.index t 1 * 2048 + 1 * (y 1).val = (j 1).val; rw [(idx t).1.2]; omega

abbrev B (c : Dev nD) : Mat 256 2048 := m ((c : Thread nD τ).loc main_arg1)

theorem blk1 (c : Dev nD) (t : Fin cfg0.N) (y : (⟨2, ![256, 1024]⟩ : Shape).Idx) (j : (⟨2, ![256, 2048]⟩ : Shape).Idx)
    (h0 : (j 0).val = 0 * 256 + (y 0).val) (h1 : (j 1).val = t.val * 1024 + (y 1).val) :
    (iblk m c 1 t : Mat 256 1024) y = B m c j := by
  unfold iblk
  rw [View.read_apply]
  show V m c main_arg1 _ = m (c.tc.loc main_arg1) _
  unfold V
  congr 1
  funext a
  apply Fin.ext
  match a with
  | ⟨0, _⟩ => show win0_1.index t 0 * 256 + 1 * (y 0).val = (j 0).val; rw [(idx t).2.1.1]; omega
  | ⟨1, _⟩ => show win0_1.index t 1 * 1024 + 1 * (y 1).val = (j 1).val; rw [(idx t).2.1.2]; omega

/-- The whole result array. -/
def G2 (c : Dev nD) : Buf (Elt Ideal) ((c : Thread nD τ).loc main_v0_0) := (tn (A m c) (B m c) : Mat 2048 2048)

/-- The whole result array. -/
def G3 (c : Dev nD) : Buf (Elt Ideal) ((c : Thread nD τ).loc main_v0_1) := (tn (A m c) (B m c) : Mat 2048 2048)

/-- The product of a point's blocks is one tile of the contraction. -/
theorem part (c : Dev nD) (t : Fin cfg0.N) (y : S2048x1024.Idx) (i : S2048x2048.Idx)
    (h0 : (i 0).val = 0 * 2048 + (y 0).val) (h1 : (i 1).val = t.val * 1024 + (y 1).val) :
    tn (iblk m c 0 t : Mat 256 2048) (iblk m c 1 t : Mat 256 1024) y = tnTile 256 (A m c) (B m c) (0) i := by
  have hN : t.val < 2 := lt_of_lt_of_eq t.isLt (show cfg0.N = 2 from N_0)
  refine Finset.sum_congr rfl fun k _ => ?_
  have hk := k.isLt
  rw [dif_pos (show 0 * 256 + k.val < 256 by omega)]
  exact congrArg₂ (· * ·) (blk0 m c t _ _ rfl h0) (blk1 m c t _ _ rfl h1)

theorem flushed2_eq (c : Dev nD) (t : Fin cfg0.N) :
    (dats m 0 c).flushed 2 t = ((cfg0.win 2).blk t).view.read (Elt Ideal) (G2 m c) := by
  have hN : t.val < 2 := lt_of_lt_of_eq t.isLt (show cfg0.N = 2 from N_0)
  rw [Value.flushed2_A, out2]
  funext y
  rw [View.read_apply]
  show tn (iblk m c 0 t : Mat 256 2048) (iblk m c 1 t : Mat 256 1024) y = tn (A m c) (B m c) ((win0_2.rect t).emb y)
  have e0 : ((win0_2.rect t).emb y 0 : Nat) = 0 * 2048 + (y 0).val := by
    rw [win0_2.rect_emb_val, (idx t).2.2.1.1]; rfl
  have e1 : ((win0_2.rect t).emb y 1 : Nat) = t.val * 1024 + (y 1).val := by
    rw [win0_2.rect_emb_val, (idx t).2.2.1.2]; rfl
  rw [tn_tiles 1 256 rfl (A m c) (B m c), Fin.sum_univ_one]

  exact part m c t y _ e0 e1

theorem flushed3_eq (c : Dev nD) (t : Fin cfg0.N) :
    (dats m 0 c).flushed 3 t = ((cfg0.win 3).blk t).view.read (Elt Ideal) (G3 m c) := by
  have hN : t.val < 2 := lt_of_lt_of_eq t.isLt (show cfg0.N = 2 from N_0)
  rw [Value.flushed3_A, out3]
  funext y
  rw [View.read_apply]
  show tn (iblk m c 0 t : Mat 256 2048) (iblk m c 1 t : Mat 256 1024) y = tn (A m c) (B m c) ((win0_3.rect t).emb y)
  have e0 : ((win0_3.rect t).emb y 0 : Nat) = 0 * 2048 + (y 0).val := by
    rw [win0_3.rect_emb_val, (idx t).2.2.2.1]; rfl
  have e1 : ((win0_3.rect t).emb y 1 : Nat) = t.val * 1024 + (y 1).val := by
    rw [win0_3.rect_emb_val, (idx t).2.2.2.2]; rfl
  rw [tn_tiles 1 256 rfl (A m c) (B m c), Fin.sum_univ_one]

  exact part m c t y _ e0 e1

theorem cover2 (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN : cfg0.N = 2 := N_0
  let t : Fin cfg0.N := ⟨(i 0).val / 2048 * 2 + (i 1).val / 1024 * 1 + 0, by omega⟩
  refine ⟨t, flush0_2 t, ?_⟩
  show i ∈ ((View.whole main_v0_0).slice (win0_2.rect t)).set
  rw [View.set_slice_whole, Rect.mem_set_unit]
  intro a
  match a with
  | ⟨0, _⟩ =>
    show win0_2.index t 0 * 2048 ≤ (i 0 : Nat) ∧ (i 0 : Nat) < win0_2.index t 0 * 2048 + 2048
    rw [(idx t).2.2.1.1]; dsimp only [t]; omega
  | ⟨1, _⟩ =>
    show win0_2.index t 1 * 1024 ≤ (i 1 : Nat) ∧ (i 1 : Nat) < win0_2.index t 1 * 1024 + 1024
    rw [(idx t).2.2.1.2]; dsimp only [t]; omega

theorem final2 (c : Dev nD) : (dats m 0 c).arrAt 2 cfg0.N = G2 m c :=
  (dats m 0 c).arrAt_eq_of_cover 2 (G2 m c) (fun t _ => flushed2_eq m c t) cover2

theorem cover3 (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  have hN : cfg0.N = 2 := N_0
  let t : Fin cfg0.N := ⟨(i 0).val / 2048 * 2 + (i 1).val / 1024 * 1 + 0, by omega⟩
  refine ⟨t, flush0_3 t, ?_⟩
  show i ∈ ((View.whole main_v0_1).slice (win0_3.rect t)).set
  rw [View.set_slice_whole, Rect.mem_set_unit]
  intro a
  match a with
  | ⟨0, _⟩ =>
    show win0_3.index t 0 * 2048 ≤ (i 0 : Nat) ∧ (i 0 : Nat) < win0_3.index t 0 * 2048 + 2048
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t _ => flushed3_eq m c t) cover3

theorem reference_frame : Cert.quiescent_GWkReferenceIdeal := fun m ρ _ =>
  (θ_run (Cert.GWkReferenceIdeal.defs (F := Ideal)) _ _).mono
    (fun r h => ⟨fun c => (h c).2.2, Idealize.ShloMosaic.sem_eq_zero_of_no_sems (by decide) r.2⟩) (Cert.GWkReferenceIdeal.Value.run m ρ)

theorem claim : Cert.algebraic_GWkIdeal_GWkReferenceIdeal := by
  intro m ρ m' ρ' _ hagree
  refine ⟨fun c => G2 m c, fun c => G3 m c, (θ_run defs _ _).mono (fun _ h c => ⟨(h c).1.trans (final2 m c), (h c).2.1.trans (final3 m c), (h c).2.2⟩) (Value.run_blocks m ρ),
    (θ_run Cert.GWkReferenceIdeal.defs _ _).mono (fun _ h c => ⟨(h c).1.trans ?_, (h c).2.1.trans ?_, (h c).2.2⟩) (Cert.GWkReferenceIdeal.Value.run m' ρ')⟩
  all_goals
    rw [(hagree c).1, (hagree c).2]
  all_goals
    show _ = (tn (A m c) (B m c) : Mat 2048 2048)
    funext j
    idx_vars j
    pointwise [tn]
    exact Finset.sum_congr rfl fun k _ => mul_comm (_ : EReal) _

end Cert.Products.GWk

end
-- ==== Proof.Products.GWo.lean ====
module

public import proofs.«01_k».proof.Proof.Gen.GWoIdeal.Value
public import proofs.«01_k».proof.Proof.Gen.GWoReferenceIdeal.Run
public import proofs.«01_k».proof.Defs
public import proofs.«01_k».proof.Proof.Products.Common

@[expose] public section

noncomputable section

/-! The gradient of the output projection's weight. -/

namespace Cert.Products.GWo

open Cert.GWoIdeal Cert.GWoIdeal.Gen Idealize.ShloMosaic Idealize.ShloMosaic.TcCoe Idealize.SL.Sem
open Idealize.ShloMosaic.Pipeline (Dat)

section body
variable (c : Dev nD) (i : grid0.Coords) (a0 : Memref sig .tc .vmem S2048x1024 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .bf16) (h3 : a3.IsWhole) (a4 : Memref sig .tc .vmem S1024x1024 .f32) (h4 : a4.IsWhole)
  (x0 : Vec Ideal S2048x1024 .bf16) (x1 : Vec Ideal S2048x1024 .bf16)
/-- What the point that finishes a block leaves in window 2. -/
theorem out2 (hc0 : ¬cond0_0 i) (hc1 : ¬cond0_1 i) (hc2 : cond0_2 i) (s : Vec Ideal S1024x1024 .f32) :
    out0_C_2 c i a0 h0 a1 h1 a2 h2 a3 h3 a4 h4 hc0 hc1 hc2 x0 x1 s = fun j => s j + tn (M := 1024) (K := 2048) (N := 1024) x0 x1 j := by
  unfold out0_C_2
  rw [View.read_writes_eq_canon _ _ _ (cover0_C_2 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1024x1024) hz, View.ld_unit_zero (S := S2048x1024) hz, shapeCast_self]
  funext j
  idx_vars j
  unfold_payloads
  pointwise [tn]
/-- What the point that finishes a block leaves in window 3. -/
theorem out3 (hc0 : ¬cond0_0 i) (hc1 : ¬cond0_1 i) (hc2 : cond0_2 i) (s : Vec Ideal S1024x1024 .f32) :
    out0_C_3 c i a0 h0 a1 h1 a2 h2 a3 h3 a4 h4 hc0 hc1 hc2 x0 x1 s = fun j => s j + tn (M := 1024) (K := 2048) (N := 1024) x0 x1 j := by
  unfold out0_C_3
  rw [View.read_writes_eq_canon _ _ _ (cover0_C_3 c i a0 h0 a1 h1 a2 h2 a3 h3 a4 h4 hc0 hc1 hc2 x0 x1 s)]
  unfold kernelRun0_C
  dsimp only
  rw [View.canon_unit_zero hz]
  simp only [View.readAt_eq_ld, h0.read_unread, h1.read_unread, h4.read_unread, View.ld_unit_zero (S := S1024x1024) hz, View.ld_unit_zero (S := S2048x1024) hz, shapeCast_self]
  funext j
  idx_vars j
  unfold_payloads
  pointwise [tn]
/-- What the first point of a block leaves in the accumulator. -/
theorem accA (hc0 : cond0_0 i) (hc1 : ¬cond0_1 i) (hc2 : ¬cond0_2 i) :
    sout0_A_0 c i a0 h0 a1 h1 a2 h2 a3 h3 a4 h4 hc0 hc1 hc2 x0 x1 = tn (M := 1024) (K := 2048) (N := 1024) x0 x1 := by
  unfold sout0_A_0
  rw [View.read_writes_eq_canon _ _ _ (scover0_A_0 c i a0 h0 a1 h1 a2 h2 a3 h3 a4 h4 hc0 hc1 hc2 x0 x1)]
  unfold kernelRun0_A
  dsimp only
  rw [View.canon_unit_zero hz]
  simp only [View.readAt_eq_ld, h0.read_unread, h1.read_unread, View.ld_unit_zero (S := S1024x1024) hz, View.ld_unit_zero (S := S2048x1024) hz, shapeCast_self]
  funext j
  idx_vars j
  unfold_payloads
  pointwise [tn]
/-- What a point in the middle of a block leaves in the accumulator. -/
theorem accB (hc0 : ¬cond0_0 i) (hc1 : cond0_1 i) (hc2 : ¬cond0_2 i) (s : Vec Ideal S1024x1024 .f32) :
    sout0_B_0 c i a0 h0 a1 h1 a2 h2 a3 h3 a4 h4 hc0 hc1 hc2 x0 x1 s = fun j => s j + tn (M := 1024) (K := 2048) (N := 1024) x0 x1 j := by
  unfold sout0_B_0
  rw [View.read_writes_eq_canon _ _ _ (scover0_B_0 c i a0 h0 a1 h1 a2 h2 a3 h3 a4 h4 hc0 hc1 hc2 x0 x1 s)]
  unfold kernelRun0_B
  dsimp only
  rw [View.canon_unit_zero hz]
  simp only [View.readAt_eq_ld, h0.read_unread, h1.read_unread, h4.read_unread, View.ld_unit_zero (S := S1024x1024) hz, View.ld_unit_zero (S := S2048x1024) hz, shapeCast_self]
  funext j
  idx_vars j
  unfold_payloads
  pointwise [tn]
end body

variable (m : (ℓ : Loc nD τ sig) → Buf (Elt Ideal) ℓ) (ρ : Dev nD → PrngReg)

/-- The block index of each window at a point. -/
theorem idx : ∀ t : Fin cfg0.N, (win0_0.index t 0 = t.val % 4 ∧ win0_0.index t 1 = t.val / 8)
    ∧ (win0_1.index t 0 = t.val % 4 ∧ win0_1.index t 1 = t.val / 4 % 2)
    ∧ (win0_2.index t 0 = t.val / 8 ∧ win0_2.index t 1 = t.val / 4 % 2)
    ∧ (win0_3.index t 0 = t.val / 8 ∧ win0_3.index t 1 = t.val / 4 % 2) :=
  (by decide +kernel : ∀ t : Fin grid0.N, _)

abbrev A (c : Dev nD) : Mat 8192 2048 := m ((c : Thread nD τ).loc main_arg0)

theorem blk0 (c : Dev nD) (t : Fin cfg0.N) (y : (⟨2, ![2048, 1024]⟩ : Shape).Idx) (j : (⟨2, ![8192, 2048]⟩ : Shape).Idx)
    (h0 : (j 0).val = t.val % 4 * 2048 + (y 0).val) (h1 : (j 1).val = t.val / 8 * 1024 + (y 1).val) :
    (iblk m c 0 t : Mat 2048 1024) y = A m c j := by
  unfold iblk
  rw [View.read_apply]
  show V m c main_arg0 _ = m (c.tc.loc main_arg0) _
  unfold V
  congr 1
  funext a
  apply Fin.ext
  match a with
  | ⟨0, _⟩ => show win0_0.index t 0 * 2048 + 1 * (y 0).val = (j 0).val; rw [(idx t).1.1]; omega
  | ⟨1, _⟩ => show win0_0.index t 1 * 1024 + 1 * (y 1).val = (j 1).val; rw [(idx t).1.2]; omega

abbrev B (c : Dev nD) : Mat 8192 2048 := m ((c : Thread nD τ).loc main_arg1)

theorem blk1 (c : Dev nD) (t : Fin cfg0.N) (y : (⟨2, ![2048, 1024]⟩ : Shape).Idx) (j : (⟨2, ![8192, 2048]⟩ : Shape).Idx)
    (h0 : (j 0).val = t.val % 4 * 2048 + (y 0).val) (h1 : (j 1).val = t.val / 4 % 2 * 1024 + (y 1).val) :
    (iblk m c 1 t : Mat 2048 1024) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1024 + 1 * (y 1).val = (j 1).val; rw [(idx t).2.1.2]; omega

/-- The whole result array. -/
def G2 (c : Dev nD) : Buf (Elt Ideal) ((c : Thread nD τ).loc main_v0_0) := (tn (A m c) (B m c) : Mat 2048 2048)

/-- The whole result array. -/
def G3 (c : Dev nD) : Buf (Elt Ideal) ((c : Thread nD τ).loc main_v0_1) := (tn (A m c) (B m c) : Mat 2048 2048)

/-- The product of a point's blocks is one tile of the contraction. -/
theorem part (c : Dev nD) (t : Fin cfg0.N) (y : S1024x1024.Idx) (i : S2048x2048.Idx)
    (h0 : (i 0).val = t.val / 8 * 1024 + (y 0).val) (h1 : (i 1).val = t.val / 4 % 2 * 1024 + (y 1).val) :
    tn (iblk m c 0 t : Mat 2048 1024) (iblk m c 1 t : Mat 2048 1024) y = tnTile 2048 (A m c) (B m c) (t.val % 4) i := by
  have hN : t.val < 16 := lt_of_lt_of_eq t.isLt (show cfg0.N = 16 from N_0)
  refine Finset.sum_congr rfl fun k _ => ?_
  have hk := k.isLt
  rw [dif_pos (show t.val % 4 * 2048 + k.val < 8192 by omega)]
  exact congrArg₂ (· * ·) (blk0 m c t _ _ rfl h0) (blk1 m c t _ _ rfl h1)

/-- The point `n` places before `t`. -/
def before (t : Fin cfg0.N) (n : ℕ) : Fin cfg0.N := ⟨t.val - n, Nat.lt_of_le_of_lt (Nat.sub_le _ _) t.isLt⟩

/-- What the accumulator holds when the last point of a block begins. -/
theorem acc (c : Dev nD) (t : Fin cfg0.N) (h : t.val % 4 = 3) :
    (outsAt0 m c (t.val - 1) (Nat.lt_of_le_of_lt (Nat.sub_le _ _) t.isLt)).2.2
      = fun y => tn (iblk m c 0 (before t 3) : Mat 2048 1024) (iblk m c 1 (before t 3) : Mat 2048 1024) y + tn (iblk m c 0 (before t 2) : Mat 2048 1024) (iblk m c 1 (before t 2) : Mat 2048 1024) y + tn (iblk m c 0 (before t 1) : Mat 2048 1024) (iblk m c 1 (before t 1) : Mat 2048 1024) y := by
  have s3 : (outsAt0 m c (before t 3).val (before t 3).isLt).2.2 = tn (iblk m c 0 (before t 3) : Mat 2048 1024) (iblk m c 1 (before t 3) : Mat 2048 1024) := by
    rw [outsAt0_A m c (before t 3) (by simp only [before] <;> omega) (by simp only [before] <;> omega) (by simp only [before] <;> omega)]
    dsimp only
    rw [accA]
  have s2 : (outsAt0 m c (before t 2).val (before t 2).isLt).2.2 = fun y => (outsAt0 m c (before t 3).val (before t 3).isLt).2.2 y + tn (iblk m c 0 (before t 2) : Mat 2048 1024) (iblk m c 1 (before t 2) : Mat 2048 1024) y := by
    rw [outsAt0_B m c (before t 2) (by simp only [before] <;> omega) (by simp only [before] <;> omega) (by simp only [before] <;> omega)]
    dsimp only
    rw [accB]
    rfl
  have s1 : (outsAt0 m c (before t 1).val (before t 1).isLt).2.2 = fun y => (outsAt0 m c (before t 2).val (before t 2).isLt).2.2 y + tn (iblk m c 0 (before t 1) : Mat 2048 1024) (iblk m c 1 (before t 1) : Mat 2048 1024) y := by
    rw [outsAt0_B m c (before t 1) (by simp only [before] <;> omega) (by simp only [before] <;> omega) (by simp only [before] <;> omega)]
    dsimp only
    rw [accB]
    rfl
  rw [s2, s3] at s1
  exact s1

set_option maxRecDepth 100000 in
theorem flushed2_eq (c : Dev nD) (t : Fin cfg0.N) (h : t.val % 4 = 3) :
    (dats m 0 c).flushed 2 t = ((cfg0.win 2).blk t).view.read (Elt Ideal) (G2 m c) := by
  have hN : t.val < 16 := lt_of_lt_of_eq t.isLt (show cfg0.N = 16 from N_0)
  rw [Value.flushed2_C m c t (by omega) (by omega) h, out2]
  rw [acc m c t h]
  funext y
  rw [View.read_apply]
  show tn (iblk m c 0 (before t 3) : Mat 2048 1024) (iblk m c 1 (before t 3) : Mat 2048 1024) y + tn (iblk m c 0 (before t 2) : Mat 2048 1024) (iblk m c 1 (before t 2) : Mat 2048 1024) y + tn (iblk m c 0 (before t 1) : Mat 2048 1024) (iblk m c 1 (before t 1) : Mat 2048 1024) y + tn (iblk m c 0 t : Mat 2048 1024) (iblk m c 1 t : Mat 2048 1024) y = tn (A m c) (B m c) ((win0_2.rect t).emb y)
  have e0 : ((win0_2.rect t).emb y 0 : Nat) = t.val / 8 * 1024 + (y 0).val := by
    rw [win0_2.rect_emb_val, (idx t).2.2.1.1]; rfl
  have e1 : ((win0_2.rect t).emb y 1 : Nat) = t.val / 4 % 2 * 1024 + (y 1).val := by
    rw [win0_2.rect_emb_val, (idx t).2.2.1.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

set_option maxRecDepth 100000 in
theorem flushed3_eq (c : Dev nD) (t : Fin cfg0.N) (h : t.val % 4 = 3) :
    (dats m 0 c).flushed 3 t = ((cfg0.win 3).blk t).view.read (Elt Ideal) (G3 m c) := by
  have hN : t.val < 16 := lt_of_lt_of_eq t.isLt (show cfg0.N = 16 from N_0)
  rw [Value.flushed3_C m c t (by omega) (by omega) h, out3]
  rw [acc m c t h]
  funext y
  rw [View.read_apply]
  show tn (iblk m c 0 (before t 3) : Mat 2048 1024) (iblk m c 1 (before t 3) : Mat 2048 1024) y + tn (iblk m c 0 (before t 2) : Mat 2048 1024) (iblk m c 1 (before t 2) : Mat 2048 1024) y + tn (iblk m c 0 (before t 1) : Mat 2048 1024) (iblk m c 1 (before t 1) : Mat 2048 1024) y + tn (iblk m c 0 t : Mat 2048 1024) (iblk m c 1 t : Mat 2048 1024) y = tn (A m c) (B m c) ((win0_3.rect t).emb y)
  have e0 : ((win0_3.rect t).emb y 0 : Nat) = t.val / 8 * 1024 + (y 0).val := by
    rw [win0_3.rect_emb_val, (idx t).2.2.2.1]; rfl
  have e1 : ((win0_3.rect t).emb y 1 : Nat) = t.val / 4 % 2 * 1024 + (y 1).val := by
    rw [win0_3.rect_emb_val, (idx t).2.2.2.2]; rfl
  rw [tn_tiles 4 2048 rfl (A m c) (B m c), Fin.sum_univ_four]
  have p0 := part m c (before t 3) y _ (e0.trans (by simp only [before] <;> omega)) (e1.trans (by simp only [before] <;> omega))
  rw [show (before t 3).val % 4 = 0 by simp only [before]; omega] at p0
  have p1 := part m c (before t 2) y _ (e0.trans (by simp only [before] <;> omega)) (e1.trans (by simp only [before] <;> omega))
  rw [show (before t 2).val % 4 = 1 by simp only [before]; omega] at p1
  have p2 := part m c (before t 1) y _ (e0.trans (by simp only [before] <;> omega)) (e1.trans (by simp only [before] <;> omega))
  rw [show (before t 1).val % 4 = 2 by simp only [before]; omega] at p2
  have p3 := part m c t y _ e0 e1
  rw [show t.val % 4 = 3 by omega] at p3
  rw [p0, p1, p2, p3]
  rfl

theorem cover2 (i : S2048x2048.Idx) : ∃ t : Fin cfg0.N, (cfg0.win 2).flush t = true ∧ i ∈ ((cfg0.win 2).blk t).view.set := by
  have h0 : (i 0).val < 2048 := (i 0).isLt
  have h1 : (i 1).val < 2048 := (i 1).isLt
  have hN : cfg0.N = 16 := N_0
  let t : Fin cfg0.N := ⟨(i 0).val / 1024 * 8 + (i 1).val / 1024 * 4 + 3, by omega⟩
  refine ⟨t, (flush0_2 t).mpr (by dsimp only [t]; omega), ?_⟩
  show i ∈ ((View.whole main_v0_0).slice (win0_2.rect t)).set
  rw [View.set_slice_whole, Rect.mem_set_unit]
  intro a
  match a with
  | ⟨0, _⟩ =>
    show win0_2.index t 0 * 1024 ≤ (i 0 : Nat) ∧ (i 0 : Nat) < win0_2.index t 0 * 1024 + 1024
    rw [(idx t).2.2.1.1]; dsimp only [t]; omega
  | ⟨1, _⟩ =>
    show win0_2.index t 1 * 1024 ≤ (i 1 : Nat) ∧ (i 1 : Nat) < win0_2.index t 1 * 1024 + 1024
    rw [(idx t).2.2.1.2]; dsimp only [t]; omega

theorem final2 (c : Dev nD) : (dats m 0 c).arrAt 2 cfg0.N = G2 m c :=
  (dats m 0 c).arrAt_eq_of_cover 2 (G2 m c) (fun t hf => flushed2_eq m c t ((flush0_2 t).mp hf)) cover2

theorem cover3 (i : S2048x2048.Idx) : ∃ t : Fin cfg0.N, (cfg0.win 3).flush t = true ∧ i ∈ ((cfg0.win 3).blk t).view.set := by
  have h0 : (i 0).val < 2048 := (i 0).isLt
  have h1 : (i 1).val < 2048 := (i 1).isLt
  have hN : cfg0.N = 16 := N_0
  let t : Fin cfg0.N := ⟨(i 0).val / 1024 * 8 + (i 1).val / 1024 * 4 + 3, by omega⟩
  refine ⟨t, (flush0_3 t).mpr (by dsimp only [t]; omega), ?_⟩
  show i ∈ ((View.whole main_v0_1).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t hf => flushed3_eq m c t ((flush0_3 t).mp hf)) cover3

theorem reference_frame : Cert.quiescent_GWoReferenceIdeal := fun m ρ _ =>
  (θ_run (Cert.GWoReferenceIdeal.defs (F := Ideal)) _ _).mono
    (fun r h => ⟨fun c => (h c).2.2, Idealize.ShloMosaic.sem_eq_zero_of_no_sems (by decide) r.2⟩) (Cert.GWoReferenceIdeal.Value.run m ρ)

theorem claim : Cert.algebraic_GWoIdeal_GWoReferenceIdeal := by
  intro m ρ m' ρ' _ hagree
  refine ⟨fun c => G2 m c, fun c => G3 m c, (θ_run defs _ _).mono (fun _ h c => ⟨(h c).1.trans (final2 m c), (h c).2.1.trans (final3 m c), (h c).2.2⟩) (Value.run_blocks m ρ),
    (θ_run Cert.GWoReferenceIdeal.defs _ _).mono (fun _ h c => ⟨(h c).1.trans ?_, (h c).2.1.trans ?_, (h c).2.2⟩) (Cert.GWoReferenceIdeal.Value.run m' ρ')⟩
  all_goals
    rw [(hagree c).1, (hagree c).2]
  all_goals
    show _ = (tn (A m c) (B m c) : Mat 2048 2048)
    funext j
    idx_vars j
    pointwise [tn]
    exact Finset.sum_congr rfl fun k _ => mul_comm (_ : EReal) _

end Cert.Products.GWo

end
-- ==== Proof.Products.ProjIn.lean ====
module

public import proofs.«01_k».proof.Proof.Gen.ProjIn.Frame
public import proofs.«01_k».proof.Proof.Gen.ProjInIdeal.Frame
public import proofs.«01_k».proof.Proof.Gen.ProjInIdeal.Points
public import proofs.«01_k».proof.Proof.Gen.ProjInReferenceIdeal.Run
public import proofs.«01_k».proof.Proof.Gen.Pre_proj_in_windows
public import proofs.«01_k».proof.Defs
public import proofs.«01_k».proof.Proof.Products.Common

@[expose] public section

noncomputable section

/-! The combined input projection for the windows of columns that a table names, put into an array that keeps the others. -/

namespace Cert.Products.ProjIn

open Idealize.ShloMosaic Idealize.ShloMosaic.TcCoe Idealize.SL.Sem
open Idealize.ShloMosaic.Pipeline (Dat)

namespace Reference

open Cert.ProjInReferenceIdeal Cert.ProjInReferenceIdeal.Gen Cert.ProjInReferenceIdeal.Value

theorem prod (a : FVec Ideal S8192x2048 .bf16) (b : FVec Ideal S2048x7168 .bf16) :
    (truncf .bf16 (Host.dotGeneral dot_S8192x2048_S2048x7168_S8192x7168_1_0_0_1_n_n none (extf .f32 a bitsLt_bf16_f32) (extf .f32 b bitsLt_bf16_f32)) bitsLt_bf16_f32) = (nn (M := 8192) (K := 2048) (N := 7168) a b : FVec Ideal S8192x7168 .bf16) := by
  funext j
  idx_vars j
  pointwise [nn]

theorem at_col (y : FVec Ideal S8192x7168 .bf16) (r : Fin 8192) {k k' : Fin 7168} (h : k.val = k'.val) : y (ix2 r k) = y (ix2 r k') :=
  congrArg (fun k => y (ix2 r k)) (Fin.ext h)

/-- The choice by the comparisons of the three words with a constant is the one by whether some word is that constant. -/
theorem named (win : IVec S3 32) (g : BitVec 32) (n : ℕ) {u v : EReal} (u' v' : EReal) (hn : g.toNat = n) (hu : u = u') (hv : v = v') :
    Scalar.select (IntOp.ori (IntOp.ori (IntOp.cmpi .eq (win (ix1 0)) g) (IntOp.cmpi .eq (win (ix1 1)) g)) (IntOp.cmpi .eq (win (ix1 2)) g)) u v
      = if ∃ k : Fin 3, (win (ix1 k)).toNat = n then u' else v' := by
  subst hu hv hn
  have ori_ofBool (p q : Bool) : IntOp.ori (BitVec.ofBool p) (BitVec.ofBool q) = BitVec.ofBool (p || q) := by
    cases p <;> cases q <;> decide
  have ofBool_eq_one (p : Bool) : (BitVec.ofBool p = 1#1) ↔ p = true := by cases p <;> decide
  have h : (IntOp.ori (IntOp.ori (IntOp.cmpi .eq (win (ix1 0)) g) (IntOp.cmpi .eq (win (ix1 1)) g)) (IntOp.cmpi .eq (win (ix1 2)) g) = 1#1)
      ↔ ∃ k : Fin 3, (win (ix1 k)).toNat = g.toNat := by
    simp only [IntOp.cmpi, ori_ofBool, ofBool_eq_one, Bool.or_eq_true, beq_iff_eq, ← BitVec.toNat_inj]
    constructor
    · rintro ((h | h) | h)
      exacts [⟨0, h⟩, ⟨1, h⟩, ⟨2, h⟩]
    · rintro ⟨k, h⟩
      match k, h with
      | ⟨0, _⟩, h => exact .inl (.inl h)
      | ⟨1, _⟩, h => exact .inl (.inr h)
      | ⟨2, _⟩, h => exact .inr h
  unfold Scalar.select
  exact if_congr h rfl rfl

theorem columns (win : IVec S3 32) (y old : FVec Ideal S8192x7168 .bf16) :
    concatenate S8192x7168 1 [⟨S8192x1792, ((select (broadcastInDim S8192x1792 ![] bcast_S_S8192x1792 (ori (ori (cmpi .eq (shapeCast _ (extractStridedSlice S1 ![0] win slices_S3_S1_0) shapeCasts_S1_S_) (constantI S_ 32 0#32)) (cmpi .eq (shapeCast _ (extractStridedSlice S1 ![1] win slices_S3_S1_1) shapeCasts_S1_S_) (constantI S_ 32 0#32))) (cmpi .eq (shapeCast _ (extractStridedSlice S1 ![2] win slices_S3_S1_2) shapeCasts_S1_S_) (constantI S_ 32 0#32)))) (extractStridedSlice S8192x1792 ![0, 0] y slices_S8192x7168_S8192x1792_0_0) (extractStridedSlice S8192x1792 ![0, 0] old slices_S8192x7168_S8192x1792_0_0)) : (⟨S8192x1792, .bf16⟩ : BufTy).Contents (Elt Ideal))⟩, ⟨S8192x1792, ((select (broadcastInDim S8192x1792 ![] bcast_S_S8192x1792 (ori (ori (cmpi .eq (shapeCast _ (extractStridedSlice S1 ![0] win slices_S3_S1_0) shapeCasts_S1_S_) (constantI S_ 32 1#32)) (cmpi .eq (shapeCast _ (extractStridedSlice S1 ![1] win slices_S3_S1_1) shapeCasts_S1_S_) (constantI S_ 32 1#32))) (cmpi .eq (shapeCast _ (extractStridedSlice S1 ![2] win slices_S3_S1_2) shapeCasts_S1_S_) (constantI S_ 32 1#32)))) (extractStridedSlice S8192x1792 ![0, 1792] y slices_S8192x7168_S8192x1792_0_1792) (extractStridedSlice S8192x1792 ![0, 1792] old slices_S8192x7168_S8192x1792_0_1792)) : (⟨S8192x1792, .bf16⟩ : BufTy).Contents (Elt Ideal))⟩, ⟨S8192x1792, ((select (broadcastInDim S8192x1792 ![] bcast_S_S8192x1792 (ori (ori (cmpi .eq (shapeCast _ (extractStridedSlice S1 ![0] win slices_S3_S1_0) shapeCasts_S1_S_) (constantI S_ 32 2#32)) (cmpi .eq (shapeCast _ (extractStridedSlice S1 ![1] win slices_S3_S1_1) shapeCasts_S1_S_) (constantI S_ 32 2#32))) (cmpi .eq (shapeCast _ (extractStridedSlice S1 ![2] win slices_S3_S1_2) shapeCasts_S1_S_) (constantI S_ 32 2#32)))) (extractStridedSlice S8192x1792 ![0, 3584] y slices_S8192x7168_S8192x1792_0_3584) (extractStridedSlice S8192x1792 ![0, 3584] old slices_S8192x7168_S8192x1792_0_3584)) : (⟨S8192x1792, .bf16⟩ : BufTy).Contents (Elt Ideal))⟩, ⟨S8192x1792, ((select (broadcastInDim S8192x1792 ![] bcast_S_S8192x1792 (ori (ori (cmpi .eq (shapeCast _ (extractStridedSlice S1 ![0] win slices_S3_S1_0) shapeCasts_S1_S_) (constantI S_ 32 3#32)) (cmpi .eq (shapeCast _ (extractStridedSlice S1 ![1] win slices_S3_S1_1) shapeCasts_S1_S_) (constantI S_ 32 3#32))) (cmpi .eq (shapeCast _ (extractStridedSlice S1 ![2] win slices_S3_S1_2) shapeCasts_S1_S_) (constantI S_ 32 3#32)))) (extractStridedSlice S8192x1792 ![0, 5376] y slices_S8192x7168_S8192x1792_0_5376) (extractStridedSlice S8192x1792 ![0, 5376] old slices_S8192x7168_S8192x1792_0_5376)) : (⟨S8192x1792, .bf16⟩ : BufTy).Contents (Elt Ideal))⟩] concatenates_S8192x1792_S8192x1792_S8192x1792_S8192x1792_S8192x7168_d1
      = (fun i => if ∃ k : Fin 3, BitVec.toNat (win (ix1 k)) = (i 1).val / 1792 then y i else old i : FVec Ideal S8192x7168 .bf16) := by
  funext j
  idx_vars j
  pointwise []
  have hj : j1.val < 7168 := j1.isLt
  by_cases c0 : j1.val < 1792
  · rw [dif_pos c0]
    exact named win 0#32 _ _ _ (by show 0 = j1.val / 1792; omega) rfl rfl
  rw [dif_neg c0]
  by_cases c1 : j1.val - 1792 < 1792
  · rw [dif_pos c1]
    refine named win 1#32 _ _ _ (by show 1 = j1.val / 1792; omega) (at_col y j0 ?_) (at_col old j0 ?_) <;> (dsimp only; omega)
  rw [dif_neg c1]
  by_cases c2 : j1.val - 1792 - 1792 < 1792
  · rw [dif_pos c2]
    refine named win 2#32 _ _ _ (by show 2 = j1.val / 1792; omega) (at_col y j0 ?_) (at_col old j0 ?_) <;> (dsimp only; omega)
  rw [dif_neg c2]
  refine named win 3#32 _ _ _ (by show 3 = j1.val / 1792; omega) (at_col y j0 ?_) (at_col old j0 ?_) <;> (dsimp only; omega)

end Reference

/-! ## The precondition: each word of the table is one of the four windows -/

theorem lt_of_cmp (v : BitVec 32) (h : IntOp.cmpi .sge v 0#32 = 1#1) (h' : IntOp.cmpi .slt v 4#32 = 1#1) : v.toNat < 4 := by
  have ofBool_eq_one (p : Bool) : (BitVec.ofBool p = 1#1) ↔ p = true := by cases p <;> decide
  simp only [IntOp.cmpi, ofBool_eq_one, BitVec.sle_eq_decide, BitVec.slt_eq_decide, decide_eq_true_eq, BitVec.toInt_eq_toNat_cond,
    BitVec.toNat_ofNat, Nat.reducePow, Nat.reduceMod] at h h'
  omega

theorem ok_of_pre_bits (m : (ℓ : Loc Cert.ProjIn.nD Cert.ProjIn.τ Cert.ProjIn.sig) → Buf (Elt Bits) ℓ) (h : Cert.Pre_ProjIn m) :
    Cert.ProjIn.Gen.Ok m := by
  have hw (x) : (Cert.ProjIn.Gen.tbl m 0 x).toNat < 4 := lt_of_cmp _ (congrFun (h 0).1 x) (congrFun (h 0).2 x)
  refine ⟨fun i => ⟨fun a => ?_, .inr (Affine.block_words_dvd (of_decide_eq_true rfl) (by decide))⟩,
    fun i => ⟨fun a => ?_, .inr (Affine.block_words_dvd (of_decide_eq_true rfl) (by decide))⟩⟩
  · match a with
    | ⟨0, _⟩ => exact Nat.mul_le_mul_right 2048 (show (0#32).toNat + 1 ≤ 1 from Nat.le_refl 1)
    | ⟨1, _⟩ => exact Nat.mul_le_mul_right 1792 (hw _)
  · match a with
    | ⟨0, _⟩ => exact Nat.le_trans (Nat.mul_le_mul_right 1024 (show (BitVec.ofNat 32 (i 0).val).toNat + 1 ≤ 8 from by
        have : (i 0).val < 8 := (i 0).isLt
        rw [BitVec.toNat_ofNat]; omega)) (Nat.le_refl (8 * 1024))
    | ⟨1, _⟩ => exact Nat.mul_le_mul_right 1792 (hw _)

theorem frame_bits : Cert.quiescent_ProjIn := fun m ρ h => Cert.ProjIn.Gen.frame m ρ (ok_of_pre_bits m h)

open Cert.ProjInIdeal Cert.ProjInIdeal.Gen

variable (m : (ℓ : Loc nD τ sig) → Buf (Elt Ideal) ℓ) (ρ : Dev nD → PrngReg)

theorem word_lt (h : Cert.Pre_ProjInIdeal m) (x) : (tbl m 0 x).toNat < 4 := lt_of_cmp _ (congrFun (h 0).1 x) (congrFun (h 0).2 x)

theorem ok_of_pre (h : Cert.Pre_ProjInIdeal m) : Ok m := by
  refine ⟨fun i => ⟨fun a => ?_, .inr (Affine.block_words_dvd (of_decide_eq_true rfl) (by decide))⟩,
    fun i => ⟨fun a => ?_, .inr (Affine.block_words_dvd (of_decide_eq_true rfl) (by decide))⟩⟩
  · match a with
    | ⟨0, _⟩ => exact Nat.mul_le_mul_right 2048 (show (0#32).toNat + 1 ≤ 1 from Nat.le_refl 1)
    | ⟨1, _⟩ => exact Nat.mul_le_mul_right 1792 (word_lt m h _)
  · match a with
    | ⟨0, _⟩ => exact Nat.le_trans (Nat.mul_le_mul_right 1024 (show (BitVec.ofNat 32 (i 0).val).toNat + 1 ≤ 8 from by
        have : (i 0).val < 8 := (i 0).isLt
        rw [BitVec.toNat_ofNat]; omega)) (Nat.le_refl (8 * 1024))
    | ⟨1, _⟩ => exact Nat.mul_le_mul_right 1792 (word_lt m h _)

theorem frame_ideal : Cert.quiescent_ProjInIdeal := fun m ρ h => Cert.ProjInIdeal.Gen.frame m ρ (ok_of_pre m h)

section body
variable (c : Dev nD) (i : grid0.Coords) (a0 : Memref sig .tc .vmem S1024x2048 .bf16) (h0 : a0.IsWhole) (a1 : Memref sig .tc .vmem S2048x1792 .bf16) (h1 : a1.IsWhole) (a2 : Memref sig .tc .vmem S1024x1792 .bf16) (h2 : a2.IsWhole)
  (x0 : Vec Ideal S1024x2048 .bf16) (x1 : Vec Ideal S2048x1792 .bf16) (xt : TbBuf0 (F := Ideal) c tbM0_0)
/-- What a point leaves in the result's block. -/
theorem out2  :
    out0_A_2 c i a0 h0 a1 h1 a2 h2 x0 x1 xt = nn (M := 1024) (K := 2048) (N := 1792) x0 x1 := by
  unfold out0_A_2
  rw [View.read_writes_eq_canon _ _ _ (cover0_A_2 c i a0 h0 a1 h1 a2 h2 x0 x1 xt)]
  unfold kernelRun0_A
  dsimp only
  rw [View.canon_unit_zero hz]
  simp only [View.readAt_eq_ld, h0.read_unread, h1.read_unread, View.ld_unit_zero (S := S1024x2048) hz, View.ld_unit_zero (S := S2048x1792) hz, shapeCast_self]
  funext j
  idx_vars j
  unfold_payloads
  pointwise [nn]
end body

theorem hNm (hO : Ok m) : (cfgM m hO).N = 24 := by
  have h : ∀ a : (pcfg0 (F := Ideal)).Adm, (cfg0 a).N = 24 := fun _ => rfl
  exact h _

/-- The window that word `k` of the table names. -/
def wd (k : Fin 3) : ℕ := BitVec.toNat ((tbl m 0 : IVec S3 32) (ix1 k))

theorem coords_val : ∀ t : Fin grid0.N, (grid0.coords t 0).val = t.val / 3 ∧ (grid0.coords t 1).val = t.val % 3 := by decide +kernel

theorem cast_val : ∀ n : Fin 3, (Scalar.indexCast (BitVec.ofNat 32 n.val)).toNat = n.val := by decide +kernel

abbrev col (t : ℕ) : Fin 3 := ⟨t % 3, Nat.mod_lt _ (by decide)⟩

theorem word (i : grid0.Coords) (k : Fin 3) (hk : (i 1).val = k.val) : cc0_transform_1 k0_off1_inb numel1_S1 (tbl m) i 1 = wd m k := by
  refine congrArg (fun x : S3.Idx => BitVec.toNat ((tbl m 0 : IVec S3 32) x)) (?_ : (_ : S3.Idx) = ix1 k)
  refine funext fun (a : Fin 1) => ?_
  obtain rfl : a = 0 := Subsingleton.elim _ _
  apply Fin.ext
  show (Scalar.indexCast (BitVec.ofNat 32 (i 1).val)).toNat + 1 * 0 = k.val
  rw [hk, cast_val k]
  rfl

/-- The block index of each window at a point. -/
theorem idx (hO : Ok m) (t : Fin (cfgM m hO).N) : (((cfgM m hO).win 0).index t (0 : Fin 2) = t.val / 3 ∧ ((cfgM m hO).win 0).index t (1 : Fin 2) = 0)
    ∧ (((cfgM m hO).win 1).index t (0 : Fin 2) = 0 ∧ ((cfgM m hO).win 1).index t (1 : Fin 2) = wd m (col t))
    ∧ (((cfgM m hO).win 2).index t (0 : Fin 2) = t.val / 3 ∧ ((cfgM m hO).win 2).index t (1 : Fin 2) = wd m (col t)) := by
  have ht : t.val < 24 := lt_of_lt_of_eq t.isLt (hNm m hO)
  have hc := coords_val t
  have h0 : (BitVec.ofNat 32 (grid0.coords t 0).val).toNat = t.val / 3 := by rw [hc.1, BitVec.toNat_ofNat]; omega
  exact ⟨⟨h0, rfl⟩, ⟨rfl, word m (grid0.coords t) (col t) hc.2⟩, ⟨h0, word m (grid0.coords t) (col t) hc.2⟩⟩

abbrev A (c : Dev nD) : Mat 8192 2048 := m ((c : Thread nD τ).loc main_arg0)
abbrev B (c : Dev nD) : Mat 2048 7168 := m ((c : Thread nD τ).loc main_arg1)
abbrev Old (c : Dev nD) : Mat 8192 7168 := m ((c : Thread nD τ).loc main_arg3)

/-- Where element `y` of window 0's block at a point lies in the array. -/
def at0 (hO : Ok m) (t : Fin (cfgM m hO).N) (y : (⟨2, ![1024, 2048]⟩ : Shape).Idx) : (⟨2, ![8192, 2048]⟩ : Shape).Idx :=
  (((cfgM m hO).win 0).rect t).emb y
theorem at0_val (hO : Ok m) (t : Fin (cfgM m hO).N) (y : (⟨2, ![1024, 2048]⟩ : Shape).Idx) :
    (at0 m hO t y 0).val = t.val / 3 * 1024 + (y 0).val ∧ (at0 m hO t y 1).val = 0 * 2048 + (y 1).val :=
  ⟨(((cfgM m hO).win 0).rect_emb_val t y (0 : Fin 2)).trans (congrArg (· * 1024 + (y 0).val) (idx m hO t).1.1),
    (((cfgM m hO).win 0).rect_emb_val t y (1 : Fin 2)).trans (congrArg (· * 2048 + (y 1).val) (idx m hO t).1.2)⟩

theorem blk0 (hO : Ok m) (c : Dev nD) (t : Fin (cfgM m hO).N) (y : (⟨2, ![1024, 2048]⟩ : Shape).Idx) :
    (iblk m hO c 0 t : Mat 1024 2048) y = A m c (at0 m hO t y) := by
  rfl

/-- Where element `y` of window 1's block at a point lies in the array. -/
def at1 (hO : Ok m) (t : Fin (cfgM m hO).N) (y : (⟨2, ![2048, 1792]⟩ : Shape).Idx) : (⟨2, ![2048, 7168]⟩ : Shape).Idx :=
  (((cfgM m hO).win 1).rect t).emb y
theorem at1_val (hO : Ok m) (t : Fin (cfgM m hO).N) (y : (⟨2, ![2048, 1792]⟩ : Shape).Idx) :
    (at1 m hO t y 0).val = 0 * 2048 + (y 0).val ∧ (at1 m hO t y 1).val = wd m (col t) * 1792 + (y 1).val :=
  ⟨(((cfgM m hO).win 1).rect_emb_val t y (0 : Fin 2)).trans (congrArg (· * 2048 + (y 0).val) (idx m hO t).2.1.1),
    (((cfgM m hO).win 1).rect_emb_val t y (1 : Fin 2)).trans (congrArg (· * 1792 + (y 1).val) (idx m hO t).2.1.2)⟩

theorem blk1 (hO : Ok m) (c : Dev nD) (t : Fin (cfgM m hO).N) (y : (⟨2, ![2048, 1792]⟩ : Shape).Idx) :
    (iblk m hO c 1 t : Mat 2048 1792) y = B m c (at1 m hO t y) := by
  rfl

/-- Where element `y` of window 2's block at a point lies in the array. -/
def at2 (hO : Ok m) (t : Fin (cfgM m hO).N) (y : (⟨2, ![1024, 1792]⟩ : Shape).Idx) : (⟨2, ![8192, 7168]⟩ : Shape).Idx :=
  (((cfgM m hO).win 2).rect t).emb y
theorem at2_val (hO : Ok m) (t : Fin (cfgM m hO).N) (y : (⟨2, ![1024, 1792]⟩ : Shape).Idx) :
    (at2 m hO t y 0).val = t.val / 3 * 1024 + (y 0).val ∧ (at2 m hO t y 1).val = wd m (col t) * 1792 + (y 1).val :=
  ⟨(((cfgM m hO).win 2).rect_emb_val t y (0 : Fin 2)).trans (congrArg (· * 1024 + (y 0).val) (idx m hO t).2.2.1),
    (((cfgM m hO).win 2).rect_emb_val t y (1 : Fin 2)).trans (congrArg (· * 1792 + (y 1).val) (idx m hO t).2.2.2)⟩

/-- The product in the columns of the windows `w` names, the old array in the others. -/
def put (w : Fin 3 → ℕ) (a : Mat 8192 2048) (b : Mat 2048 7168) (old : Mat 8192 7168) : Mat 8192 7168 := fun i =>
  if ∃ k, w k = (i 1).val / 1792 then nn a b i else old i

def G2 (c : Dev nD) : Buf (Elt Ideal) ((c : Thread nD τ).loc main_v0) := (put (wd m) (A m c) (B m c) (Old m c) : Mat 8192 7168)

theorem part (hO : Ok m) (c : Dev nD) (t : Fin (cfgM m hO).N) (y : (⟨2, ![1024, 1792]⟩ : Shape).Idx) :
    nn (iblk m hO c 0 t : Mat 1024 2048) (iblk m hO c 1 t : Mat 2048 1792) y = put (wd m) (A m c) (B m c) (Old m c) (at2 m hO t y) := by
  have h2 := at2_val m hO t y
  have hy : (y 1).val < 1792 := (y 1).isLt
  unfold put
  rw [if_pos ⟨col t, by rw [h2.2]; omega⟩]
  refine Finset.sum_congr rfl fun k _ => ?_
  rw [blk0, blk1]
  have h0 := at0_val m hO t (ix2 (y 0) k)
  have h1 := at1_val m hO t (ix2 k (y 1))
  refine congrArg₂ (· * ·) (congrArg (A m c) ?_) (congrArg (B m c) ?_)
  · funext a
    apply Fin.ext
    match a with
    | ⟨0, _⟩ => exact h0.1.trans h2.1.symm
    | ⟨1, _⟩ => exact h0.2.trans (by show 0 * 2048 + k.val = k.val; omega)
  · funext a
    apply Fin.ext
    match a with
    | ⟨0, _⟩ => exact h1.1.trans (by show 0 * 2048 + k.val = k.val; omega)
    | ⟨1, _⟩ => exact h1.2.trans h2.2.symm

theorem flushed2_eq (hO : Ok m) (c : Dev nD) (t : Fin (cfgM m hO).N) :
    (dats m hO 0 c).flushed 2 t = (((cfgM m hO).win 2).blk t).view.read (Elt Ideal) (G2 m c) := by
  have hf : (dats m hO 0 c).flushed 2 t = ((cfgM m hO).win 2).cut ((cfgM m hO).grid.coords t) (nn (M := 1024) (K := 2048) (N := 1792) (iblk m hO c 0 t) (iblk m hO c 1 t)) :=
    congrArg (((cfgM m hO).win 2).cut ((cfgM m hO).grid.coords t)) ((after0_2 m hO c t).trans (out2 c (grid0.coords t) _ _ _ _ _ _ _ _ _))
  rw [hf]
  funext y
  exact part m hO c t y

theorem last (w : Fin 3 → ℕ) (g : ℕ) (h : ∃ k, w k = g) : ∃ k : Fin 3, w k = g ∧ ∀ k' : Fin 3, k'.val = k.val + 1 → w k' ≠ g := by
  by_cases h2 : w 2 = g
  · exact ⟨2, h2, fun k' e => absurd k'.isLt (by rw [e]; decide)⟩
  by_cases h1 : w 1 = g
  · exact ⟨1, h1, fun k' e => (Fin.ext e : k' = 2) ▸ h2⟩
  obtain ⟨k, hk⟩ := h
  match k, hk with
  | ⟨0, _⟩, hk => exact ⟨0, hk, fun k' e => (Fin.ext e : k' = 1) ▸ h1⟩
  | ⟨1, _⟩, hk => exact absurd hk h1
  | ⟨2, _⟩, hk => exact absurd hk h2

/-- Every element in the columns of a named window is in the block of a point that writes its block back. -/
theorem cover2 (hO : Ok m) (i : S8192x7168.Idx) (h : ∃ k, wd m k = (i 1).val / 1792) :
    ∃ t : Fin (cfgM m hO).N, ((cfgM m hO).win 2).flush t = true ∧ i ∈ (((cfgM m hO).win 2).blk t).view.set := by
  have h0 : (i 0).val < 8192 := (i 0).isLt
  have h1 : (i 1).val < 7168 := (i 1).isLt
  have hN := hNm m hO
  obtain ⟨k, hk, hl⟩ := last _ _ h
  have hk3 := k.isLt
  let t : Fin (cfgM m hO).N := ⟨(i 0).val / 1024 * 3 + k.val, by rw [hN]; omega⟩
  have hc : col t.val = k := Fin.ext (by show ((i 0).val / 1024 * 3 + k.val) % 3 = k.val; omega)
  have ht : t.val / 3 = (i 0).val / 1024 := by show ((i 0).val / 1024 * 3 + k.val) / 3 = _; omega
  have hx := (idx m hO t).2.2
  refine ⟨t, ?_, ?_⟩
  · unfold Pipeline.Window.flush
    rw [Bool.and_eq_true]
    refine ⟨rfl, ?_⟩
    rw [Bool.or_eq_true, decide_eq_true_eq, decide_eq_true_eq]
    by_cases hlast : t.val + 1 = 24
    · exact .inl (hlast.trans hN.symm)
    · have hlt : t.val + 1 < (cfgM m hO).N := by have := t.isLt; omega
      refine .inr ⟨hlt, fun e => ?_⟩
      have hx' := (idx m hO ⟨t.val + 1, hlt⟩).2.2
      have e0 : (t.val + 1) / 3 = t.val / 3 := hx'.1.symm.trans ((congrFun e (0 : Fin 2)).trans hx.1)
      have e1 : wd m (col (t.val + 1)) = wd m (col t.val) := hx'.2.symm.trans ((congrFun e (1 : Fin 2)).trans hx.2)
      rw [hc, hk] at e1
      refine hl (col (t.val + 1)) ?_ e1
      have := congrArg Fin.val hc
      show (t.val + 1) % 3 = k.val + 1
      have : t.val % 3 = k.val := this
      omega
  · refine Eq.mpr (congrArg (i ∈ ·) (View.set_slice_whole main_v0 (((cfgM m hO).win 2).rect t))) ?_
    refine (Rect.mem_set_unit (s := S8192x7168)).mpr ?_
    intro a
    match a with
    | ⟨0, _⟩ =>
      show ((cfgM m hO).win 2).index t (0 : Fin 2) * 1024 ≤ (i 0 : Nat) ∧ (i 0 : Nat) < ((cfgM m hO).win 2).index t (0 : Fin 2) * 1024 + 1024
      rw [hx.1, ht]; omega
    | ⟨1, _⟩ =>
      show ((cfgM m hO).win 2).index t (1 : Fin 2) * 1792 ≤ (i 1 : Nat) ∧ (i 1 : Nat) < ((cfgM m hO).win 2).index t (1 : Fin 2) * 1792 + 1792
      rw [hx.2, hc, hk]; omega

theorem final2 (hO : Ok m) (c : Dev nD) : (dats m hO 0 c).arrAt 2 (cfgM m hO).N = G2 m c := by
  refine funext fun (i : S8192x7168.Idx) => ?_
  refine ((dats m hO 0 c).arrAt_eq_piecewise 2 (G2 m c) (fun t _ => flushed2_eq m hO c t) i).trans ?_
  by_cases h : ∃ t : Fin (cfgM m hO).N, ((cfgM m hO).win 2).flush t = true ∧ i ∈ (((cfgM m hO).win 2).blk t).view.set
  · exact if_pos h
  · have hn : ¬ ∃ k, wd m k = (i 1).val / 1792 := fun hk => h (cover2 m hO i hk)
    refine (if_neg h).trans ?_
    have e : put (wd m) (A m c) (B m c) (Old m c) i = Old m c i := if_neg hn
    exact Eq.trans (by rfl) e.symm

theorem reference_frame : Cert.quiescent_ProjInReferenceIdeal := fun m ρ _ =>
  (θ_run (Cert.ProjInReferenceIdeal.defs (F := Ideal)) _ _).mono
    (fun r h => ⟨fun c => (h c).2, Idealize.ShloMosaic.sem_eq_zero_of_no_sems (by decide) r.2⟩) (Cert.ProjInReferenceIdeal.Value.run m ρ)

theorem reference_frame_pre : Cert.quiescent_ProjInReferenceIdeal_pre_proj_in_windows := fun m ρ _ => reference_frame m ρ trivial

theorem claim : Cert.algebraic_ProjInIdeal_ProjInReferenceIdeal := by
  intro m ρ m' ρ' hpre hagree
  have hO := ok_of_pre m hpre
  refine ⟨fun c => G2 m c, (θ_run defs _ _).mono (fun _ h c => ⟨((h.1 c).1 2).trans (final2 m hO c), h.2 c⟩)
      (θ_run_and (run_main m ρ hO) (unchanged m ρ hO)),
    (θ_run Cert.ProjInReferenceIdeal.defs _ _).mono (fun _ h c => ⟨(h c).1.trans ?_, (h c).2⟩) (Cert.ProjInReferenceIdeal.Value.run m' ρ')⟩
  unfold Cert.ProjInReferenceIdeal.Value.res_main_v60
  rw [(hagree c).1, (hagree c).2.1, (hagree c).2.2.1, (hagree c).2.2.2]
  obtain rfl : c = 0 := Subsingleton.elim _ _
  refine (Reference.columns _ _ _).trans ?_
  rw [Reference.prod]
  rfl

end Cert.Products.ProjIn

end
-- ==== Proof.Products.ProjOut.lean ====
module

public import proofs.«01_k».proof.Proof.Gen.ProjOutIdeal.Value
public import proofs.«01_k».proof.Proof.Gen.ProjOutReferenceIdeal.Run
public import proofs.«01_k».proof.Defs
public import proofs.«01_k».proof.Proof.Products.Common

@[expose] public section

noncomputable section

/-! The mixer's output projection, added to its input. -/

namespace Cert.Products.ProjOut

open Cert.ProjOutIdeal Cert.ProjOutIdeal.Gen Idealize.ShloMosaic Idealize.ShloMosaic.TcCoe Idealize.SL.Sem
open Idealize.ShloMosaic.Pipeline (Dat)

section body
variable (c : Dev nD) (i : grid0.Coords) (a0 : Memref sig .tc .vmem S1024x2048 .bf16) (h0 : a0.IsWhole) (a1 : Memref sig .tc .vmem S2048x1024 .bf16) (h1 : a1.IsWhole) (a2 : Memref sig .tc .vmem S1024x1024 .f32) (h2 : a2.IsWhole) (a3 : Memref sig .tc .vmem S1024x1024 .f32) (h3 : a3.IsWhole) (a4 : Memref sig .tc .vmem S8x128 .f32) (h4 : a4.IsWhole)
  (x0 : Vec Ideal S1024x2048 .bf16) (x1 : Vec Ideal S2048x1024 .bf16) (x2 : Vec Ideal S1024x1024 .f32)
/-- What the point that finishes a block leaves in window 3. -/
theorem out3  :
    out0_A_3 c i a0 h0 a1 h1 a2 h2 a3 h3 a4 h4 x0 x1 x2 = fun j => x2 j + nn (M := 1024) (K := 2048) (N := 1024) x0 x1 j := by
  unfold out0_A_3
  rw [View.read_writes_eq_canon _ _ _ (cover0_A_3 c i a0 h0 a1 h1 a2 h2 a3 h3 a4 h4 x0 x1 x2)]
  unfold kernelRun0_A
  dsimp only
  rw [View.canon_unit_zero hz]
  simp only [View.readAt_eq_ld, h0.read_unread, h1.read_unread, h2.read_unread, View.ld_unit_zero (S := S1024x1024) hz, View.ld_unit_zero (S := S1024x2048) hz, View.ld_unit_zero (S := S2048x1024) hz, shapeCast_self]
  funext j
  idx_vars j
  unfold_payloads
  pointwise [nn]
end body

variable (m : (ℓ : Loc nD τ sig) → Buf (Elt Ideal) ℓ) (ρ : Dev nD → PrngReg)

/-- The block index of each window at a point. -/
theorem idx : ∀ t : Fin cfg0.N, (win0_0.index t 0 = t.val / 2 ∧ win0_0.index t 1 = 0)
    ∧ (win0_1.index t 0 = 0 ∧ win0_1.index t 1 = t.val % 2)
    ∧ (win0_2.index t 0 = t.val / 2 ∧ win0_2.index t 1 = t.val % 2)
    ∧ (win0_3.index t 0 = t.val / 2 ∧ win0_3.index t 1 = t.val % 2) :=
  (by decide +kernel : ∀ t : Fin grid0.N, _)

abbrev A (c : Dev nD) : Mat 8192 2048 := m ((c : Thread nD τ).loc main_arg0)

theorem blk0 (c : Dev nD) (t : Fin cfg0.N) (y : (⟨2, ![1024, 2048]⟩ : Shape).Idx) (j : (⟨2, ![8192, 2048]⟩ : Shape).Idx)
    (h0 : (j 0).val = t.val / 2 * 1024 + (y 0).val) (h1 : (j 1).val = 0 * 2048 + (y 1).val) :
    (iblk m c 0 t : Mat 1024 2048) y = A m c j := by
  unfold iblk
  rw [View.read_apply]
  show V m c main_arg0 _ = m (c.tc.loc main_arg0) _
  unfold V
  congr 1
  funext a
  apply Fin.ext
  match a with
  | ⟨0, _⟩ => show win0_0.index t 0 * 1024 + 1 * (y 0).val = (j 0).val; rw [(idx t).1.1]; omega
  | ⟨1, _⟩ => show win0_0.index t 1 * 2048 + 1 * (y 1).val = (j 1).val; rw [(idx t).1.2]; omega

abbrev B (c : Dev nD) : Mat 2048 2048 := m ((c : Thread nD τ).loc main_arg1)

theorem blk1 (c : Dev nD) (t : Fin cfg0.N) (y : (⟨2, ![2048, 1024]⟩ : Shape).Idx) (j : (⟨2, ![2048, 2048]⟩ : Shape).Idx)
    (h0 : (j 0).val = 0 * 2048 + (y 0).val) (h1 : (j 1).val = t.val % 2 * 1024 + (y 1).val) :
    (iblk m c 1 t : Mat 2048 1024) y = B m c j := by
  unfold iblk
  rw [View.read_apply]
  show V m c main_arg1 _ = m (c.tc.loc main_arg1) _
  unfold V
  congr 1
  funext a
  apply Fin.ext
  match a with
  | ⟨0, _⟩ => show win0_1.index t 0 * 2048 + 1 * (y 0).val = (j 0).val; rw [(idx t).2.1.1]; omega
  | ⟨1, _⟩ => show win0_1.index t 1 * 1024 + 1 * (y 1).val = (j 1).val; rw [(idx t).2.1.2]; omega

abbrev R (c : Dev nD) : Mat 8192 2048 := m ((c : Thread nD τ).loc main_arg2)

theorem blk2 (c : Dev nD) (t : Fin cfg0.N) (y : (⟨2, ![1024, 1024]⟩ : Shape).Idx) (j : (⟨2, ![8192, 2048]⟩ : Shape).Idx)
    (h0 : (j 0).val = t.val / 2 * 1024 + (y 0).val) (h1 : (j 1).val = t.val % 2 * 1024 + (y 1).val) :
    (iblk m c 2 t : Mat 1024 1024) y = R m c j := by
  unfold iblk
  rw [View.read_apply]
  show V m c main_arg2 _ = m (c.tc.loc main_arg2) _
  unfold V
  congr 1
  funext a
  apply Fin.ext
  match a with
  | ⟨0, _⟩ => show win0_2.index t 0 * 1024 + 1 * (y 0).val = (j 0).val; rw [(idx t).2.2.1.1]; omega
  | ⟨1, _⟩ => show win0_2.index t 1 * 1024 + 1 * (y 1).val = (j 1).val; rw [(idx t).2.2.1.2]; omega

/-- The whole result array. -/
def G3 (c : Dev nD) : Buf (Elt Ideal) ((c : Thread nD τ).loc main_v0) := (fun i => R m c i + nn (A m c) (B m c) i : Mat 8192 2048)

/-- The product of a point's blocks is one tile of the contraction. -/
theorem part (c : Dev nD) (t : Fin cfg0.N) (y : S1024x1024.Idx) (i : S8192x2048.Idx)
    (h0 : (i 0).val = t.val / 2 * 1024 + (y 0).val) (h1 : (i 1).val = t.val % 2 * 1024 + (y 1).val) :
    nn (iblk m c 0 t : Mat 1024 2048) (iblk m c 1 t : Mat 2048 1024) y = nnTile 2048 (A m c) (B m c) (0) i := by
  have hN : t.val < 16 := lt_of_lt_of_eq t.isLt (show cfg0.N = 16 from N_0)
  refine Finset.sum_congr rfl fun k _ => ?_
  have hk := k.isLt
  rw [dif_pos (show 0 * 2048 + k.val < 2048 by omega)]
  exact congrArg₂ (· * ·) (blk0 m c t _ _ h0 rfl) (blk1 m c t _ _ rfl h1)

theorem flushed3_eq (c : Dev nD) (t : Fin cfg0.N) :
    (dats m 0 c).flushed 3 t = ((cfg0.win 3).blk t).view.read (Elt Ideal) (G3 m c) := by
  have hN : t.val < 16 := lt_of_lt_of_eq t.isLt (show cfg0.N = 16 from N_0)
  rw [Value.flushed3_A, out3]
  funext y
  rw [View.read_apply]
  show @HAdd.hAdd EReal EReal EReal _ ((iblk m c 2 t : Mat 1024 1024) y) (nn (iblk m c 0 t : Mat 1024 2048) (iblk m c 1 t : Mat 2048 1024) y) = R m c ((win0_3.rect t).emb y) + nn (A m c) (B m c) ((win0_3.rect t).emb y)
  have e0 : ((win0_3.rect t).emb y 0 : Nat) = t.val / 2 * 1024 + (y 0).val := by
    rw [win0_3.rect_emb_val, (idx t).2.2.2.1]; rfl
  have e1 : ((win0_3.rect t).emb y 1 : Nat) = t.val % 2 * 1024 + (y 1).val := by
    rw [win0_3.rect_emb_val, (idx t).2.2.2.2]; rfl
  rw [blk2 m c t y _ e0 e1, nn_tiles 1 2048 rfl (A m c) (B m c), Fin.sum_univ_one]
  refine congrArg _ ?_
  exact part m c t y _ e0 e1

theorem cover3 (i : S8192x2048.Idx) : ∃ t : Fin cfg0.N, (cfg0.win 3).flush t = true ∧ i ∈ ((cfg0.win 3).blk t).view.set := by
  have h0 : (i 0).val < 8192 := (i 0).isLt
  have h1 : (i 1).val < 2048 := (i 1).isLt
  have hN : cfg0.N = 16 := N_0
  let t : Fin cfg0.N := ⟨(i 0).val / 1024 * 2 + (i 1).val / 1024 * 1 + 0, by omega⟩
  refine ⟨t, flush0_3 t, ?_⟩
  show i ∈ ((View.whole main_v0).slice (win0_3.rect t)).set
  rw [View.set_slice_whole, Rect.mem_set_unit]
  intro a
  match a with
  | ⟨0, _⟩ =>
    show win0_3.index t 0 * 1024 ≤ (i 0 : Nat) ∧ (i 0 : Nat) < win0_3.index t 0 * 1024 + 1024
    rw [(idx t).2.2.2.1]; dsimp only [t]; omega
  | ⟨1, _⟩ =>
    show win0_3.index t 1 * 1024 ≤ (i 1 : Nat) ∧ (i 1 : Nat) < win0_3.index t 1 * 1024 + 1024
    rw [(idx t).2.2.2.2]; dsimp only [t]; omega

theorem final3 (c : Dev nD) : (dats m 0 c).arrAt 3 cfg0.N = G3 m c :=
  (dats m 0 c).arrAt_eq_of_cover 3 (G3 m c) (fun t _ => flushed3_eq m c t) cover3

theorem reference_frame : Cert.quiescent_ProjOutReferenceIdeal := fun m ρ _ =>
  (θ_run (Cert.ProjOutReferenceIdeal.defs (F := Ideal)) _ _).mono
    (fun r h => ⟨fun c => (h c).2, Idealize.ShloMosaic.sem_eq_zero_of_no_sems (by decide) r.2⟩) (Cert.ProjOutReferenceIdeal.Value.run m ρ)

theorem claim : Cert.algebraic_ProjOutIdeal_ProjOutReferenceIdeal := by
  intro m ρ m' ρ' _ hagree
  refine ⟨fun c => G3 m c, (θ_run defs _ _).mono (fun _ h c => ⟨(h c).1.trans (final3 m c), (h c).2⟩) (Value.run_blocks m ρ),
    (θ_run Cert.ProjOutReferenceIdeal.defs _ _).mono (fun _ h c => ⟨(h c).1.trans ?_, (h c).2⟩) (Cert.ProjOutReferenceIdeal.Value.run m' ρ')⟩
  all_goals
    rw [(hagree c).1, (hagree c).2.1, (hagree c).2.2]
  show _ = (fun i => R m c i + nn (A m c) (B m c) i : Mat 8192 2048)
  funext j
  idx_vars j
  pointwise [nn]

end Cert.Products.ProjOut

end
-- ==== Proof.lean ====
/- The claim of this certificate: for each call the frames, the idealization step and the comparison with the
   reference; the comparisons are proved in the modules beside this one. -/
module

public import proofs.«01_k».proof.Defs
public import proofs.«01_k».proof.Proof.Gen.HgrnBwd
public import proofs.«01_k».proof.Proof.Gen.HgrnBwd.Skeleton
public import proofs.«01_k».proof.Proof.Gen.HgrnBwd.Launch
public import proofs.«01_k».proof.Proof.Gen.HgrnBwd.Points
public import proofs.«01_k».proof.Proof.Gen.HgrnBwd.Frame
public import proofs.«01_k».proof.Proof.Gen.HgrnBwdIdeal
public import proofs.«01_k».proof.Proof.Gen.HgrnBwdIdeal.Skeleton
public import proofs.«01_k».proof.Proof.Gen.HgrnBwdIdeal.Launch
public import proofs.«01_k».proof.Proof.Gen.HgrnBwdIdeal.Points
public import proofs.«01_k».proof.Proof.Gen.HgrnBwdIdeal.Frame
public import proofs.«01_k».proof.Proof.Gen.DZ
public import proofs.«01_k».proof.Proof.Gen.DZ.Skeleton
public import proofs.«01_k».proof.Proof.Gen.DZ.Launch
public import proofs.«01_k».proof.Proof.Gen.DZ.Points
public import proofs.«01_k».proof.Proof.Gen.DZ.Frame
public import proofs.«01_k».proof.Proof.Gen.DZIdeal
public import proofs.«01_k».proof.Proof.Gen.DZIdeal.Skeleton
public import proofs.«01_k».proof.Proof.Gen.DZIdeal.Launch
public import proofs.«01_k».proof.Proof.Gen.DZIdeal.Points
public import proofs.«01_k».proof.Proof.Gen.DZIdeal.Frame
public import proofs.«01_k».proof.Proof.Gen.DZIdeal.Value
public import proofs.«01_k».proof.Proof.Gen.DZReferenceIdeal
public import proofs.«01_k».proof.Proof.Gen.DZReferenceIdeal.Run
public import proofs.«01_k».proof.Proof.Gen.GWDown
public import proofs.«01_k».proof.Proof.Gen.GWDown.Skeleton
public import proofs.«01_k».proof.Proof.Gen.GWDown.Launch
public import proofs.«01_k».proof.Proof.Gen.GWDown.Points
public import proofs.«01_k».proof.Proof.Gen.GWDown.Frame
public import proofs.«01_k».proof.Proof.Gen.GWDownIdeal
public import proofs.«01_k».proof.Proof.Gen.GWDownIdeal.Skeleton
public import proofs.«01_k».proof.Proof.Gen.GWDownIdeal.Launch
public import proofs.«01_k».proof.Proof.Gen.GWDownIdeal.Points
public import proofs.«01_k».proof.Proof.Gen.GWDownIdeal.Frame
public import proofs.«01_k».proof.Proof.Gen.GWDownIdeal.Value
public import proofs.«01_k».proof.Proof.Gen.GWDownReferenceIdeal
public import proofs.«01_k».proof.Proof.Gen.GWDownReferenceIdeal.Run
public import proofs.«01_k».proof.Proof.Gen.DH3Gate
public import proofs.«01_k».proof.Proof.Gen.DH3Gate.Skeleton
public import proofs.«01_k».proof.Proof.Gen.DH3Gate.Launch
public import proofs.«01_k».proof.Proof.Gen.DH3Gate.Points
public import proofs.«01_k».proof.Proof.Gen.DH3Gate.Frame
public import proofs.«01_k».proof.Proof.Gen.DH3GateIdeal
public import proofs.«01_k».proof.Proof.Gen.DH3GateIdeal.Skeleton
public import proofs.«01_k».proof.Proof.Gen.DH3GateIdeal.Launch
public import proofs.«01_k».proof.Proof.Gen.DH3GateIdeal.Points
public import proofs.«01_k».proof.Proof.Gen.DH3GateIdeal.Frame
public import proofs.«01_k».proof.Proof.Gen.DH3GateIdeal.Value
public import proofs.«01_k».proof.Proof.Gen.DH3GateReferenceIdeal
public import proofs.«01_k».proof.Proof.Gen.DH3GateReferenceIdeal.Run
public import proofs.«01_k».proof.Proof.Gen.DH3Up
public import proofs.«01_k».proof.Proof.Gen.DH3Up.Skeleton
public import proofs.«01_k».proof.Proof.Gen.DH3Up.Launch
public import proofs.«01_k».proof.Proof.Gen.DH3Up.Points
public import proofs.«01_k».proof.Proof.Gen.DH3Up.Frame
public import proofs.«01_k».proof.Proof.Gen.DH3UpIdeal
public import proofs.«01_k».proof.Proof.Gen.DH3UpIdeal.Skeleton
public import proofs.«01_k».proof.Proof.Gen.DH3UpIdeal.Launch
public import proofs.«01_k».proof.Proof.Gen.DH3UpIdeal.Points
public import proofs.«01_k».proof.Proof.Gen.DH3UpIdeal.Frame
public import proofs.«01_k».proof.Proof.Gen.DH3UpIdeal.Value
public import proofs.«01_k».proof.Proof.Gen.DH3UpReferenceIdeal
public import proofs.«01_k».proof.Proof.Gen.DH3UpReferenceIdeal.Run
public import proofs.«01_k».proof.Proof.Gen.GWGate
public import proofs.«01_k».proof.Proof.Gen.GWGate.Skeleton
public import proofs.«01_k».proof.Proof.Gen.GWGate.Launch
public import proofs.«01_k».proof.Proof.Gen.GWGate.Points
public import proofs.«01_k».proof.Proof.Gen.GWGate.Frame
public import proofs.«01_k».proof.Proof.Gen.GWGateIdeal
public import proofs.«01_k».proof.Proof.Gen.GWGateIdeal.Skeleton
public import proofs.«01_k».proof.Proof.Gen.GWGateIdeal.Launch
public import proofs.«01_k».proof.Proof.Gen.GWGateIdeal.Points
public import proofs.«01_k».proof.Proof.Gen.GWGateIdeal.Frame
public import proofs.«01_k».proof.Proof.Gen.GWGateIdeal.Value
public import proofs.«01_k».proof.Proof.Gen.GWGateReferenceIdeal
public import proofs.«01_k».proof.Proof.Gen.GWGateReferenceIdeal.Run
public import proofs.«01_k».proof.Proof.Gen.DAtt
public import proofs.«01_k».proof.Proof.Gen.DAtt.Skeleton
public import proofs.«01_k».proof.Proof.Gen.DAtt.Launch
public import proofs.«01_k».proof.Proof.Gen.DAtt.Points
public import proofs.«01_k».proof.Proof.Gen.DAtt.Frame
public import proofs.«01_k».proof.Proof.Gen.DAttIdeal
public import proofs.«01_k».proof.Proof.Gen.DAttIdeal.Skeleton
public import proofs.«01_k».proof.Proof.Gen.DAttIdeal.Launch
public import proofs.«01_k».proof.Proof.Gen.DAttIdeal.Points
public import proofs.«01_k».proof.Proof.Gen.DAttIdeal.Frame
public import proofs.«01_k».proof.Proof.Gen.DAttIdeal.Value
public import proofs.«01_k».proof.Proof.Gen.DAttReferenceIdeal
public import proofs.«01_k».proof.Proof.Gen.DAttReferenceIdeal.Run
public import proofs.«01_k».proof.Proof.Gen.GWo
public import proofs.«01_k».proof.Proof.Gen.GWo.Skeleton
public import proofs.«01_k».proof.Proof.Gen.GWo.Launch
public import proofs.«01_k».proof.Proof.Gen.GWo.Points
public import proofs.«01_k».proof.Proof.Gen.GWo.Frame
public import proofs.«01_k».proof.Proof.Gen.GWoIdeal
public import proofs.«01_k».proof.Proof.Gen.GWoIdeal.Skeleton
public import proofs.«01_k».proof.Proof.Gen.GWoIdeal.Launch
public import proofs.«01_k».proof.Proof.Gen.GWoIdeal.Points
public import proofs.«01_k».proof.Proof.Gen.GWoIdeal.Frame
public import proofs.«01_k».proof.Proof.Gen.GWoIdeal.Value
public import proofs.«01_k».proof.Proof.Gen.GWoReferenceIdeal
public import proofs.«01_k».proof.Proof.Gen.GWoReferenceIdeal.Run
public import proofs.«01_k».proof.Proof.Gen.GWk
public import proofs.«01_k».proof.Proof.Gen.GWk.Skeleton
public import proofs.«01_k».proof.Proof.Gen.GWk.Launch
public import proofs.«01_k».proof.Proof.Gen.GWk.Points
public import proofs.«01_k».proof.Proof.Gen.GWk.Frame
public import proofs.«01_k».proof.Proof.Gen.GWkIdeal
public import proofs.«01_k».proof.Proof.Gen.GWkIdeal.Skeleton
public import proofs.«01_k».proof.Proof.Gen.GWkIdeal.Launch
public import proofs.«01_k».proof.Proof.Gen.GWkIdeal.Points
public import proofs.«01_k».proof.Proof.Gen.GWkIdeal.Frame
public import proofs.«01_k».proof.Proof.Gen.GWkIdeal.Value
public import proofs.«01_k».proof.Proof.Gen.GWkReferenceIdeal
public import proofs.«01_k».proof.Proof.Gen.GWkReferenceIdeal.Run
public import proofs.«01_k».proof.Proof.Gen.DMemK
public import proofs.«01_k».proof.Proof.Gen.DMemK.Skeleton
public import proofs.«01_k».proof.Proof.Gen.DMemK.Launch
public import proofs.«01_k».proof.Proof.Gen.DMemK.Points
public import proofs.«01_k».proof.Proof.Gen.DMemK.Frame
public import proofs.«01_k».proof.Proof.Gen.DMemKIdeal
public import proofs.«01_k».proof.Proof.Gen.DMemKIdeal.Skeleton
public import proofs.«01_k».proof.Proof.Gen.DMemKIdeal.Launch
public import proofs.«01_k».proof.Proof.Gen.DMemKIdeal.Points
public import proofs.«01_k».proof.Proof.Gen.DMemKIdeal.Frame
public import proofs.«01_k».proof.Proof.Gen.DMemKIdeal.Value
public import proofs.«01_k».proof.Proof.Gen.DMemKReferenceIdeal
public import proofs.«01_k».proof.Proof.Gen.DMemKReferenceIdeal.Run
public import proofs.«01_k».proof.Proof.Gen.DMemV
public import proofs.«01_k».proof.Proof.Gen.DMemV.Skeleton
public import proofs.«01_k».proof.Proof.Gen.DMemV.Launch
public import proofs.«01_k».proof.Proof.Gen.DMemV.Points
public import proofs.«01_k».proof.Proof.Gen.DMemV.Frame
public import proofs.«01_k».proof.Proof.Gen.DMemVIdeal
public import proofs.«01_k».proof.Proof.Gen.DMemVIdeal.Skeleton
public import proofs.«01_k».proof.Proof.Gen.DMemVIdeal.Launch
public import proofs.«01_k».proof.Proof.Gen.DMemVIdeal.Points
public import proofs.«01_k».proof.Proof.Gen.DMemVIdeal.Frame
public import proofs.«01_k».proof.Proof.Gen.DMemVIdeal.Value
public import proofs.«01_k».proof.Proof.Gen.DMemVReferenceIdeal
public import proofs.«01_k».proof.Proof.Gen.DMemVReferenceIdeal.Run
public import proofs.«01_k».proof.Proof.Gen.GWIn
public import proofs.«01_k».proof.Proof.Gen.GWIn.Skeleton
public import proofs.«01_k».proof.Proof.Gen.GWIn.Launch
public import proofs.«01_k».proof.Proof.Gen.GWIn.Points
public import proofs.«01_k».proof.Proof.Gen.GWIn.Frame
public import proofs.«01_k».proof.Proof.Gen.GWInIdeal
public import proofs.«01_k».proof.Proof.Gen.GWInIdeal.Skeleton
public import proofs.«01_k».proof.Proof.Gen.GWInIdeal.Launch
public import proofs.«01_k».proof.Proof.Gen.GWInIdeal.Points
public import proofs.«01_k».proof.Proof.Gen.GWInIdeal.Frame
public import proofs.«01_k».proof.Proof.Gen.GWInIdeal.Value
public import proofs.«01_k».proof.Proof.Gen.GWInReferenceIdeal
public import proofs.«01_k».proof.Proof.Gen.GWInReferenceIdeal.Run
public import proofs.«01_k».proof.Proof.Gen.DH1
public import proofs.«01_k».proof.Proof.Gen.DH1.Skeleton
public import proofs.«01_k».proof.Proof.Gen.DH1.Launch
public import proofs.«01_k».proof.Proof.Gen.DH1.Points
public import proofs.«01_k».proof.Proof.Gen.DH1.Frame
public import proofs.«01_k».proof.Proof.Gen.DH1Ideal
public import proofs.«01_k».proof.Proof.Gen.DH1Ideal.Skeleton
public import proofs.«01_k».proof.Proof.Gen.DH1Ideal.Launch
public import proofs.«01_k».proof.Proof.Gen.DH1Ideal.Points
public import proofs.«01_k».proof.Proof.Gen.DH1Ideal.Frame
public import proofs.«01_k».proof.Proof.Gen.DH1Ideal.Value
public import proofs.«01_k».proof.Proof.Gen.DH1ReferenceIdeal
public import proofs.«01_k».proof.Proof.Gen.DH1ReferenceIdeal.Run
public import proofs.«01_k».proof.Proof.Gen.FfnGate
public import proofs.«01_k».proof.Proof.Gen.FfnGate.Skeleton
public import proofs.«01_k».proof.Proof.Gen.FfnGate.Launch
public import proofs.«01_k».proof.Proof.Gen.FfnGate.Points
public import proofs.«01_k».proof.Proof.Gen.FfnGate.Frame
public import proofs.«01_k».proof.Proof.Gen.FfnGateIdeal
public import proofs.«01_k».proof.Proof.Gen.FfnGateIdeal.Skeleton
public import proofs.«01_k».proof.Proof.Gen.FfnGateIdeal.Launch
public import proofs.«01_k».proof.Proof.Gen.FfnGateIdeal.Points
public import proofs.«01_k».proof.Proof.Gen.FfnGateIdeal.Frame
public import proofs.«01_k».proof.Proof.Gen.FfnGateIdeal.Value
public import proofs.«01_k».proof.Proof.Gen.FfnGateReferenceIdeal
public import proofs.«01_k».proof.Proof.Gen.FfnGateReferenceIdeal.Run
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownIdeal.Value
public import proofs.«01_k».proof.Proof.Gen.FfnDownReferenceIdeal
public import proofs.«01_k».proof.Proof.Gen.FfnDownReferenceIdeal.Run
public import proofs.«01_k».proof.Proof.Gen.ProjOut
public import proofs.«01_k».proof.Proof.Gen.ProjOut.Skeleton
public import proofs.«01_k».proof.Proof.Gen.ProjOut.Launch
public import proofs.«01_k».proof.Proof.Gen.ProjOut.Points
public import proofs.«01_k».proof.Proof.Gen.ProjOut.Frame
public import proofs.«01_k».proof.Proof.Gen.ProjOutIdeal
public import proofs.«01_k».proof.Proof.Gen.ProjOutIdeal.Skeleton
public import proofs.«01_k».proof.Proof.Gen.ProjOutIdeal.Launch
public import proofs.«01_k».proof.Proof.Gen.ProjOutIdeal.Points
public import proofs.«01_k».proof.Proof.Gen.ProjOutIdeal.Frame
public import proofs.«01_k».proof.Proof.Gen.ProjOutIdeal.Value
public import proofs.«01_k».proof.Proof.Gen.ProjOutReferenceIdeal
public import proofs.«01_k».proof.Proof.Gen.ProjOutReferenceIdeal.Run
public import proofs.«01_k».proof.Proof.Gen.AttnQ
public import proofs.«01_k».proof.Proof.Gen.AttnQ.Skeleton
public import proofs.«01_k».proof.Proof.Gen.AttnQ.Launch
public import proofs.«01_k».proof.Proof.Gen.AttnQ.Points
public import proofs.«01_k».proof.Proof.Gen.AttnQ.Frame
public import proofs.«01_k».proof.Proof.Gen.AttnQIdeal
public import proofs.«01_k».proof.Proof.Gen.AttnQIdeal.Skeleton
public import proofs.«01_k».proof.Proof.Gen.AttnQIdeal.Launch
public import proofs.«01_k».proof.Proof.Gen.AttnQIdeal.Points
public import proofs.«01_k».proof.Proof.Gen.AttnQIdeal.Frame
public import proofs.«01_k».proof.Proof.Gen.AttnQIdeal.Value
public import proofs.«01_k».proof.Proof.Gen.AttnQReferenceIdeal
public import proofs.«01_k».proof.Proof.Gen.AttnQReferenceIdeal.Run
public import proofs.«01_k».proof.Proof.Gen.AttnK
public import proofs.«01_k».proof.Proof.Gen.AttnK.Skeleton
public import proofs.«01_k».proof.Proof.Gen.AttnK.Launch
public import proofs.«01_k».proof.Proof.Gen.AttnK.Points
public import proofs.«01_k».proof.Proof.Gen.AttnK.Frame
public import proofs.«01_k».proof.Proof.Gen.AttnKIdeal
public import proofs.«01_k».proof.Proof.Gen.AttnKIdeal.Skeleton
public import proofs.«01_k».proof.Proof.Gen.AttnKIdeal.Launch
public import proofs.«01_k».proof.Proof.Gen.AttnKIdeal.Points
public import proofs.«01_k».proof.Proof.Gen.AttnKIdeal.Frame
public import proofs.«01_k».proof.Proof.Gen.AttnKIdeal.Value
public import proofs.«01_k».proof.Proof.Gen.AttnKReferenceIdeal
public import proofs.«01_k».proof.Proof.Gen.AttnKReferenceIdeal.Run
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdIdeal.Value
public import proofs.«01_k».proof.Proof.Gen.NormFwdReferenceIdeal
public import proofs.«01_k».proof.Proof.Gen.NormFwdReferenceIdeal.Run
public import proofs.«01_k».proof.Proof.Gen.NormMem
public import proofs.«01_k».proof.Proof.Gen.NormMem.Skeleton
public import proofs.«01_k».proof.Proof.Gen.NormMem.Launch
public import proofs.«01_k».proof.Proof.Gen.NormMem.Points
public import proofs.«01_k».proof.Proof.Gen.NormMem.Frame
public import proofs.«01_k».proof.Proof.Gen.NormMemIdeal
public import proofs.«01_k».proof.Proof.Gen.NormMemIdeal.Skeleton
public import proofs.«01_k».proof.Proof.Gen.NormMemIdeal.Launch
public import proofs.«01_k».proof.Proof.Gen.NormMemIdeal.Points
public import proofs.«01_k».proof.Proof.Gen.NormMemIdeal.Frame
public import proofs.«01_k».proof.Proof.Gen.NormMemIdeal.Value
public import proofs.«01_k».proof.Proof.Gen.NormMemReferenceIdeal
public import proofs.«01_k».proof.Proof.Gen.NormMemReferenceIdeal.Run
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdIdeal.Value
public import proofs.«01_k».proof.Proof.Gen.NormBwdReferenceIdeal
public import proofs.«01_k».proof.Proof.Gen.NormBwdReferenceIdeal.Run
public import proofs.«01_k».proof.Proof.Gen.NormMemBwd
public import proofs.«01_k».proof.Proof.Gen.NormMemBwd.Skeleton
public import proofs.«01_k».proof.Proof.Gen.NormMemBwd.Launch
public import proofs.«01_k».proof.Proof.Gen.NormMemBwd.Points
public import proofs.«01_k».proof.Proof.Gen.NormMemBwd.Frame
public import proofs.«01_k».proof.Proof.Gen.NormMemBwdIdeal
public import proofs.«01_k».proof.Proof.Gen.NormMemBwdIdeal.Skeleton
public import proofs.«01_k».proof.Proof.Gen.NormMemBwdIdeal.Launch
public import proofs.«01_k».proof.Proof.Gen.NormMemBwdIdeal.Points
public import proofs.«01_k».proof.Proof.Gen.NormMemBwdIdeal.Frame
public import proofs.«01_k».proof.Proof.Gen.NormMemBwdIdeal.Value
public import proofs.«01_k».proof.Proof.Gen.NormMemBwdReferenceIdeal
public import proofs.«01_k».proof.Proof.Gen.NormMemBwdReferenceIdeal.Run
public import proofs.«01_k».proof.Proof.Gen.LossBwd
public import proofs.«01_k».proof.Proof.Gen.LossBwd.Skeleton
public import proofs.«01_k».proof.Proof.Gen.LossBwd.Launch
public import proofs.«01_k».proof.Proof.Gen.LossBwd.Points
public import proofs.«01_k».proof.Proof.Gen.LossBwd.Frame
public import proofs.«01_k».proof.Proof.Gen.LossBwdIdeal
public import proofs.«01_k».proof.Proof.Gen.LossBwdIdeal.Skeleton
public import proofs.«01_k».proof.Proof.Gen.LossBwdIdeal.Launch
public import proofs.«01_k».proof.Proof.Gen.LossBwdIdeal.Points
public import proofs.«01_k».proof.Proof.Gen.LossBwdIdeal.Frame
public import proofs.«01_k».proof.Proof.Gen.LossBwdIdeal.Value
public import proofs.«01_k».proof.Proof.Gen.LossBwdReferenceIdeal
public import proofs.«01_k».proof.Proof.Gen.LossBwdReferenceIdeal.Run
public import proofs.«01_k».proof.Proof.Gen.FfnFwd
public import proofs.«01_k».proof.Proof.Gen.FfnFwd.Skeleton
public import proofs.«01_k».proof.Proof.Gen.FfnFwd.Launch
public import proofs.«01_k».proof.Proof.Gen.FfnFwd.Points
public import proofs.«01_k».proof.Proof.Gen.FfnFwd.Frame
public import proofs.«01_k».proof.Proof.Gen.FfnFwdIdeal
public import proofs.«01_k».proof.Proof.Gen.FfnFwdIdeal.Skeleton
public import proofs.«01_k».proof.Proof.Gen.FfnFwdIdeal.Launch
public import proofs.«01_k».proof.Proof.Gen.FfnFwdIdeal.Points
public import proofs.«01_k».proof.Proof.Gen.FfnFwdIdeal.Frame
public import proofs.«01_k».proof.Proof.Gen.FfnFwdIdeal.Value
public import proofs.«01_k».proof.Proof.Gen.FfnFwdReferenceIdeal
public import proofs.«01_k».proof.Proof.Gen.FfnFwdReferenceIdeal.Run
public import proofs.«01_k».proof.Proof.Gen.FfnBwd
public import proofs.«01_k».proof.Proof.Gen.FfnBwd.Skeleton
public import proofs.«01_k».proof.Proof.Gen.FfnBwd.Launch
public import proofs.«01_k».proof.Proof.Gen.FfnBwd.Points
public import proofs.«01_k».proof.Proof.Gen.FfnBwd.Frame
public import proofs.«01_k».proof.Proof.Gen.FfnBwdIdeal
public import proofs.«01_k».proof.Proof.Gen.FfnBwdIdeal.Skeleton
public import proofs.«01_k».proof.Proof.Gen.FfnBwdIdeal.Launch
public import proofs.«01_k».proof.Proof.Gen.FfnBwdIdeal.Points
public import proofs.«01_k».proof.Proof.Gen.FfnBwdIdeal.Frame
public import proofs.«01_k».proof.Proof.Gen.FfnBwdIdeal.Value
public import proofs.«01_k».proof.Proof.Gen.FfnBwdReferenceIdeal
public import proofs.«01_k».proof.Proof.Gen.FfnBwdReferenceIdeal.Run
public import proofs.«01_k».proof.Proof.Gen.SconvFwd
public import proofs.«01_k».proof.Proof.Gen.SconvFwd.Skeleton
public import proofs.«01_k».proof.Proof.Gen.SconvFwd.Launch
public import proofs.«01_k».proof.Proof.Gen.SconvFwd.Points
public import proofs.«01_k».proof.Proof.Gen.SconvFwd.Frame
public import proofs.«01_k».proof.Proof.Gen.SconvFwdIdeal
public import proofs.«01_k».proof.Proof.Gen.SconvFwdIdeal.Skeleton
public import proofs.«01_k».proof.Proof.Gen.SconvFwdIdeal.Launch
public import proofs.«01_k».proof.Proof.Gen.SconvFwdIdeal.Points
public import proofs.«01_k».proof.Proof.Gen.SconvFwdIdeal.Frame
public import proofs.«01_k».proof.Proof.Gen.SconvFwdIdeal.Value
public import proofs.«01_k».proof.Proof.Gen.SconvFwdReferenceIdeal
public import proofs.«01_k».proof.Proof.Gen.SconvFwdReferenceIdeal.Run
public import proofs.«01_k».proof.Proof.Gen.SconvBwd
public import proofs.«01_k».proof.Proof.Gen.SconvBwd.Skeleton
public import proofs.«01_k».proof.Proof.Gen.SconvBwd.Launch
public import proofs.«01_k».proof.Proof.Gen.SconvBwd.Points
public import proofs.«01_k».proof.Proof.Gen.SconvBwd.Frame
public import proofs.«01_k».proof.Proof.Gen.SconvBwdIdeal
public import proofs.«01_k».proof.Proof.Gen.SconvBwdIdeal.Skeleton
public import proofs.«01_k».proof.Proof.Gen.SconvBwdIdeal.Launch
public import proofs.«01_k».proof.Proof.Gen.SconvBwdIdeal.Points
public import proofs.«01_k».proof.Proof.Gen.SconvBwdIdeal.Frame
public import proofs.«01_k».proof.Proof.Gen.SconvBwdIdeal.Value
public import proofs.«01_k».proof.Proof.Gen.SconvBwdReferenceIdeal
public import proofs.«01_k».proof.Proof.Gen.SconvBwdReferenceIdeal.Run
public import proofs.«01_k».proof.Proof.Gen.AttnFwd
public import proofs.«01_k».proof.Proof.Gen.AttnFwd.Skeleton
public import proofs.«01_k».proof.Proof.Gen.AttnFwd.Launch
public import proofs.«01_k».proof.Proof.Gen.AttnFwd.Points
public import proofs.«01_k».proof.Proof.Gen.AttnFwd.Frame
public import proofs.«01_k».proof.Proof.Gen.AttnFwdIdeal
public import proofs.«01_k».proof.Proof.Gen.AttnFwdIdeal.Skeleton
public import proofs.«01_k».proof.Proof.Gen.AttnFwdIdeal.Launch
public import proofs.«01_k».proof.Proof.Gen.AttnFwdIdeal.Points
public import proofs.«01_k».proof.Proof.Gen.AttnFwdIdeal.Frame
public import proofs.«01_k».proof.Proof.Gen.AttnFwdIdeal.Value
public import proofs.«01_k».proof.Proof.Gen.AttnFwdReferenceIdeal
public import proofs.«01_k».proof.Proof.Gen.AttnFwdReferenceIdeal.Run
public import proofs.«01_k».proof.Proof.Gen.AdamLb
public import proofs.«01_k».proof.Proof.Gen.AdamLb.Skeleton
public import proofs.«01_k».proof.Proof.Gen.AdamLb.Launch
public import proofs.«01_k».proof.Proof.Gen.AdamLb.Points
public import proofs.«01_k».proof.Proof.Gen.AdamLb.Frame
public import proofs.«01_k».proof.Proof.Gen.AdamLbIdeal
public import proofs.«01_k».proof.Proof.Gen.AdamLbIdeal.Skeleton
public import proofs.«01_k».proof.Proof.Gen.AdamLbIdeal.Launch
public import proofs.«01_k».proof.Proof.Gen.AdamLbIdeal.Points
public import proofs.«01_k».proof.Proof.Gen.AdamLbIdeal.Frame
public import proofs.«01_k».proof.Proof.Gen.AdamLbIdeal.Value
public import proofs.«01_k».proof.Proof.Gen.AdamLbReferenceIdeal
public import proofs.«01_k».proof.Proof.Gen.AdamLbReferenceIdeal.Run
public import proofs.«01_k».proof.Proof.Gen.AdamNorm
public import proofs.«01_k».proof.Proof.Gen.AdamNorm.Skeleton
public import proofs.«01_k».proof.Proof.Gen.AdamNorm.Launch
public import proofs.«01_k».proof.Proof.Gen.AdamNorm.Points
public import proofs.«01_k».proof.Proof.Gen.AdamNorm.Frame
public import proofs.«01_k».proof.Proof.Gen.AdamNormIdeal
public import proofs.«01_k».proof.Proof.Gen.AdamNormIdeal.Skeleton
public import proofs.«01_k».proof.Proof.Gen.AdamNormIdeal.Launch
public import proofs.«01_k».proof.Proof.Gen.AdamNormIdeal.Points
public import proofs.«01_k».proof.Proof.Gen.AdamNormIdeal.Frame
public import proofs.«01_k».proof.Proof.Gen.AdamNormIdeal.Value
public import proofs.«01_k».proof.Proof.Gen.AdamNormReferenceIdeal
public import proofs.«01_k».proof.Proof.Gen.AdamNormReferenceIdeal.Run
public import proofs.«01_k».proof.Proof.Gen.AdamHead
public import proofs.«01_k».proof.Proof.Gen.AdamHead.Skeleton
public import proofs.«01_k».proof.Proof.Gen.AdamHead.Launch
public import proofs.«01_k».proof.Proof.Gen.AdamHead.Points
public import proofs.«01_k».proof.Proof.Gen.AdamHead.Frame
public import proofs.«01_k».proof.Proof.Gen.AdamHeadIdeal
public import proofs.«01_k».proof.Proof.Gen.AdamHeadIdeal.Skeleton
public import proofs.«01_k».proof.Proof.Gen.AdamHeadIdeal.Launch
public import proofs.«01_k».proof.Proof.Gen.AdamHeadIdeal.Points
public import proofs.«01_k».proof.Proof.Gen.AdamHeadIdeal.Frame
public import proofs.«01_k».proof.Proof.Gen.AdamHeadIdeal.Value
public import proofs.«01_k».proof.Proof.Gen.AdamHeadReferenceIdeal
public import proofs.«01_k».proof.Proof.Gen.AdamHeadReferenceIdeal.Run
public import proofs.«01_k».proof.Proof.Gen.AdamSconv
public import proofs.«01_k».proof.Proof.Gen.AdamSconv.Skeleton
public import proofs.«01_k».proof.Proof.Gen.AdamSconv.Launch
public import proofs.«01_k».proof.Proof.Gen.AdamSconv.Points
public import proofs.«01_k».proof.Proof.Gen.AdamSconv.Frame
public import proofs.«01_k».proof.Proof.Gen.AdamSconvIdeal
public import proofs.«01_k».proof.Proof.Gen.AdamSconvIdeal.Skeleton
public import proofs.«01_k».proof.Proof.Gen.AdamSconvIdeal.Launch
public import proofs.«01_k».proof.Proof.Gen.AdamSconvIdeal.Points
public import proofs.«01_k».proof.Proof.Gen.AdamSconvIdeal.Frame
public import proofs.«01_k».proof.Proof.Gen.AdamSconvIdeal.Value
public import proofs.«01_k».proof.Proof.Gen.AdamSconvReferenceIdeal
public import proofs.«01_k».proof.Proof.Gen.AdamSconvReferenceIdeal.Run
public import proofs.«01_k».proof.Proof.Gen.AdamFconv
public import proofs.«01_k».proof.Proof.Gen.AdamFconv.Skeleton
public import proofs.«01_k».proof.Proof.Gen.AdamFconv.Launch
public import proofs.«01_k».proof.Proof.Gen.AdamFconv.Points
public import proofs.«01_k».proof.Proof.Gen.AdamFconv.Frame
public import proofs.«01_k».proof.Proof.Gen.AdamFconvIdeal
public import proofs.«01_k».proof.Proof.Gen.AdamFconvIdeal.Skeleton
public import proofs.«01_k».proof.Proof.Gen.AdamFconvIdeal.Launch
public import proofs.«01_k».proof.Proof.Gen.AdamFconvIdeal.Points
public import proofs.«01_k».proof.Proof.Gen.AdamFconvIdeal.Frame
public import proofs.«01_k».proof.Proof.Gen.AdamFconvIdeal.Value
public import proofs.«01_k».proof.Proof.Gen.AdamFconvReferenceIdeal
public import proofs.«01_k».proof.Proof.Gen.AdamFconvReferenceIdeal.Run
public import proofs.«01_k».proof.Proof.Gen.AdamFbias
public import proofs.«01_k».proof.Proof.Gen.AdamFbias.Skeleton
public import proofs.«01_k».proof.Proof.Gen.AdamFbias.Launch
public import proofs.«01_k».proof.Proof.Gen.AdamFbias.Points
public import proofs.«01_k».proof.Proof.Gen.AdamFbias.Frame
public import proofs.«01_k».proof.Proof.Gen.AdamFbiasIdeal
public import proofs.«01_k».proof.Proof.Gen.AdamFbiasIdeal.Skeleton
public import proofs.«01_k».proof.Proof.Gen.AdamFbiasIdeal.Launch
public import proofs.«01_k».proof.Proof.Gen.AdamFbiasIdeal.Points
public import proofs.«01_k».proof.Proof.Gen.AdamFbiasIdeal.Frame
public import proofs.«01_k».proof.Proof.Gen.AdamFbiasIdeal.Value
public import proofs.«01_k».proof.Proof.Gen.AdamFbiasReferenceIdeal
public import proofs.«01_k».proof.Proof.Gen.AdamFbiasReferenceIdeal.Run
public import proofs.«01_k».proof.Proof.Gen.AdamIn
public import proofs.«01_k».proof.Proof.Gen.AdamIn.Skeleton
public import proofs.«01_k».proof.Proof.Gen.AdamIn.Launch
public import proofs.«01_k».proof.Proof.Gen.AdamIn.Points
public import proofs.«01_k».proof.Proof.Gen.AdamIn.Frame
public import proofs.«01_k».proof.Proof.Gen.AdamInIdeal
public import proofs.«01_k».proof.Proof.Gen.AdamInIdeal.Skeleton
public import proofs.«01_k».proof.Proof.Gen.AdamInIdeal.Launch
public import proofs.«01_k».proof.Proof.Gen.AdamInIdeal.Points
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamSquare
public import proofs.«01_k».proof.Proof.Gen.AdamSquare.Skeleton
public import proofs.«01_k».proof.Proof.Gen.AdamSquare.Launch
public import proofs.«01_k».proof.Proof.Gen.AdamSquare.Points
public import proofs.«01_k».proof.Proof.Gen.AdamSquare.Frame
public import proofs.«01_k».proof.Proof.Gen.AdamSquareIdeal
public import proofs.«01_k».proof.Proof.Gen.AdamSquareIdeal.Skeleton
public import proofs.«01_k».proof.Proof.Gen.AdamSquareIdeal.Launch
public import proofs.«01_k».proof.Proof.Gen.AdamSquareIdeal.Points
public import proofs.«01_k».proof.Proof.Gen.AdamSquareIdeal.Frame
public import proofs.«01_k».proof.Proof.Gen.AdamSquareIdeal.Value
public import proofs.«01_k».proof.Proof.Gen.AdamSquareReferenceIdeal
public import proofs.«01_k».proof.Proof.Gen.AdamSquareReferenceIdeal.Run
public import proofs.«01_k».proof.Proof.Gen.AdamFfn
public import proofs.«01_k».proof.Proof.Gen.AdamFfn.Skeleton
public import proofs.«01_k».proof.Proof.Gen.AdamFfn.Launch
public import proofs.«01_k».proof.Proof.Gen.AdamFfn.Points
public import proofs.«01_k».proof.Proof.Gen.AdamFfn.Frame
public import proofs.«01_k».proof.Proof.Gen.AdamFfnIdeal
public import proofs.«01_k».proof.Proof.Gen.AdamFfnIdeal.Skeleton
public import proofs.«01_k».proof.Proof.Gen.AdamFfnIdeal.Launch
public import proofs.«01_k».proof.Proof.Gen.AdamFfnIdeal.Points
public import proofs.«01_k».proof.Proof.Gen.AdamFfnIdeal.Frame
public import proofs.«01_k».proof.Proof.Gen.AdamFfnIdeal.Value
public import proofs.«01_k».proof.Proof.Gen.AdamFfnReferenceIdeal
public import proofs.«01_k».proof.Proof.Gen.AdamFfnReferenceIdeal.Run
public import proofs.«01_k».proof.Proof.Gen.AdamDown
public import proofs.«01_k».proof.Proof.Gen.AdamDown.Skeleton
public import proofs.«01_k».proof.Proof.Gen.AdamDown.Launch
public import proofs.«01_k».proof.Proof.Gen.AdamDown.Points
public import proofs.«01_k».proof.Proof.Gen.AdamDown.Frame
public import proofs.«01_k».proof.Proof.Gen.AdamDownIdeal
public import proofs.«01_k».proof.Proof.Gen.AdamDownIdeal.Skeleton
public import proofs.«01_k».proof.Proof.Gen.AdamDownIdeal.Launch
public import proofs.«01_k».proof.Proof.Gen.AdamDownIdeal.Points
public import proofs.«01_k».proof.Proof.Gen.AdamDownIdeal.Frame
public import proofs.«01_k».proof.Proof.Gen.AdamDownIdeal.Value
public import proofs.«01_k».proof.Proof.Gen.AdamDownReferenceIdeal
public import proofs.«01_k».proof.Proof.Gen.AdamDownReferenceIdeal.Run
public import proofs.«01_k».proof.Proof.Gen.ProjIn
public import proofs.«01_k».proof.Proof.Gen.ProjIn.Skeleton
public import proofs.«01_k».proof.Proof.Gen.ProjIn.Launch
public import proofs.«01_k».proof.Proof.Gen.ProjIn.Points
public import proofs.«01_k».proof.Proof.Gen.ProjIn.Frame
public import proofs.«01_k».proof.Proof.Gen.ProjInIdeal
public import proofs.«01_k».proof.Proof.Gen.ProjInIdeal.Skeleton
public import proofs.«01_k».proof.Proof.Gen.ProjInIdeal.Launch
public import proofs.«01_k».proof.Proof.Gen.ProjInIdeal.Points
public import proofs.«01_k».proof.Proof.Gen.ProjInIdeal.Frame
public import proofs.«01_k».proof.Proof.Gen.ProjInReferenceIdeal
public import proofs.«01_k».proof.Proof.Gen.ProjInReferenceIdeal.Run
public import proofs.«01_k».proof.Proof.Gen.Pre_ffn_bwd_finite
public import proofs.«01_k».proof.Proof.Gen.Pre_proj_in_windows
public import proofs.«01_k».proof.Proof.Convs.AttnFwd
public import proofs.«01_k».proof.Proof.Convs.FfnBwd
public import proofs.«01_k».proof.Proof.Convs.FfnFwd
public import proofs.«01_k».proof.Proof.Convs.SconvBwd
public import proofs.«01_k».proof.Proof.Convs.SconvFwd
public import proofs.«01_k».proof.Proof.Norms.LossBwd
public import proofs.«01_k».proof.Proof.Norms.NormBwd
public import proofs.«01_k».proof.Proof.Norms.NormFwd
public import proofs.«01_k».proof.Proof.Norms.NormMem
public import proofs.«01_k».proof.Proof.Norms.NormMemBwd
public import proofs.«01_k».proof.Proof.Optimizer.AdamDown
public import proofs.«01_k».proof.Proof.Optimizer.AdamFbias
public import proofs.«01_k».proof.Proof.Optimizer.AdamFconv
public import proofs.«01_k».proof.Proof.Optimizer.AdamFfn
public import proofs.«01_k».proof.Proof.Optimizer.AdamHead
public import proofs.«01_k».proof.Proof.Optimizer.AdamIn
public import proofs.«01_k».proof.Proof.Optimizer.AdamLb
public import proofs.«01_k».proof.Proof.Optimizer.AdamNorm
public import proofs.«01_k».proof.Proof.Optimizer.AdamSconv
public import proofs.«01_k».proof.Proof.Optimizer.AdamSquare
public import proofs.«01_k».proof.Proof.Products.AttnK
public import proofs.«01_k».proof.Proof.Products.AttnQ
public import proofs.«01_k».proof.Proof.Products.DAtt
public import proofs.«01_k».proof.Proof.Products.DH1
public import proofs.«01_k».proof.Proof.Products.DH3Gate
public import proofs.«01_k».proof.Proof.Products.DH3Up
public import proofs.«01_k».proof.Proof.Products.DMemK
public import proofs.«01_k».proof.Proof.Products.DMemV
public import proofs.«01_k».proof.Proof.Products.DZ
public import proofs.«01_k».proof.Proof.Products.FfnDown
public import proofs.«01_k».proof.Proof.Products.FfnGate
public import proofs.«01_k».proof.Proof.Products.GWDown
public import proofs.«01_k».proof.Proof.Products.GWGate
public import proofs.«01_k».proof.Proof.Products.GWIn
public import proofs.«01_k».proof.Proof.Products.GWk
public import proofs.«01_k».proof.Proof.Products.GWo
public import proofs.«01_k».proof.Proof.Products.ProjIn
public import proofs.«01_k».proof.Proof.Products.ProjOut
public import Idealize.ShloMosaic.Adequacy
public import Idealize.ShloMosaic.Init

@[expose] public section

noncomputable section

namespace Cert.Proof

open Idealize.ShloMosaic Idealize.SL.Sem

theorem claim : Cert.Claim := ⟨Cert.HgrnBwd.Gen.facts,
  Cert.HgrnBwdIdeal.Gen.facts,
  Cert.DZ.Gen.facts,
  Cert.DZIdeal.Gen.facts,
  Cert.DZReferenceIdeal.Gen.facts,
  Cert.GWDown.Gen.facts,
  Cert.GWDownIdeal.Gen.facts,
  Cert.GWDownReferenceIdeal.Gen.facts,
  Cert.DH3Gate.Gen.facts,
  Cert.DH3GateIdeal.Gen.facts,
  Cert.DH3GateReferenceIdeal.Gen.facts,
  Cert.DH3Up.Gen.facts,
  Cert.DH3UpIdeal.Gen.facts,
  Cert.DH3UpReferenceIdeal.Gen.facts,
  Cert.GWGate.Gen.facts,
  Cert.GWGateIdeal.Gen.facts,
  Cert.GWGateReferenceIdeal.Gen.facts,
  Cert.DAtt.Gen.facts,
  Cert.DAttIdeal.Gen.facts,
  Cert.DAttReferenceIdeal.Gen.facts,
  Cert.GWo.Gen.facts,
  Cert.GWoIdeal.Gen.facts,
  Cert.GWoReferenceIdeal.Gen.facts,
  Cert.GWk.Gen.facts,
  Cert.GWkIdeal.Gen.facts,
  Cert.GWkReferenceIdeal.Gen.facts,
  Cert.DMemK.Gen.facts,
  Cert.DMemKIdeal.Gen.facts,
  Cert.DMemKReferenceIdeal.Gen.facts,
  Cert.DMemV.Gen.facts,
  Cert.DMemVIdeal.Gen.facts,
  Cert.DMemVReferenceIdeal.Gen.facts,
  Cert.GWIn.Gen.facts,
  Cert.GWInIdeal.Gen.facts,
  Cert.GWInReferenceIdeal.Gen.facts,
  Cert.DH1.Gen.facts,
  Cert.DH1Ideal.Gen.facts,
  Cert.DH1ReferenceIdeal.Gen.facts,
  Cert.FfnGate.Gen.facts,
  Cert.FfnGateIdeal.Gen.facts,
  Cert.FfnGateReferenceIdeal.Gen.facts,
  Cert.FfnDown.Gen.facts,
  Cert.FfnDownIdeal.Gen.facts,
  Cert.FfnDownReferenceIdeal.Gen.facts,
  Cert.ProjOut.Gen.facts,
  Cert.ProjOutIdeal.Gen.facts,
  Cert.ProjOutReferenceIdeal.Gen.facts,
  Cert.AttnQ.Gen.facts,
  Cert.AttnQIdeal.Gen.facts,
  Cert.AttnQReferenceIdeal.Gen.facts,
  Cert.AttnK.Gen.facts,
  Cert.AttnKIdeal.Gen.facts,
  Cert.AttnKReferenceIdeal.Gen.facts,
  Cert.NormFwd.Gen.facts,
  Cert.NormFwdIdeal.Gen.facts,
  Cert.NormFwdReferenceIdeal.Gen.facts,
  Cert.NormMem.Gen.facts,
  Cert.NormMemIdeal.Gen.facts,
  Cert.NormMemReferenceIdeal.Gen.facts,
  Cert.NormBwd.Gen.facts,
  Cert.NormBwdIdeal.Gen.facts,
  Cert.NormBwdReferenceIdeal.Gen.facts,
  Cert.NormMemBwd.Gen.facts,
  Cert.NormMemBwdIdeal.Gen.facts,
  Cert.NormMemBwdReferenceIdeal.Gen.facts,
  Cert.LossBwd.Gen.facts,
  Cert.LossBwdIdeal.Gen.facts,
  Cert.LossBwdReferenceIdeal.Gen.facts,
  Cert.FfnFwd.Gen.facts,
  Cert.FfnFwdIdeal.Gen.facts,
  Cert.FfnFwdReferenceIdeal.Gen.facts,
  Cert.FfnBwd.Gen.facts,
  Cert.FfnBwdIdeal.Gen.facts,
  Cert.FfnBwdReferenceIdeal.Gen.facts,
  Cert.SconvFwd.Gen.facts,
  Cert.SconvFwdIdeal.Gen.facts,
  Cert.SconvFwdReferenceIdeal.Gen.facts,
  Cert.SconvBwd.Gen.facts,
  Cert.SconvBwdIdeal.Gen.facts,
  Cert.SconvBwdReferenceIdeal.Gen.facts,
  Cert.AttnFwd.Gen.facts,
  Cert.AttnFwdIdeal.Gen.facts,
  Cert.AttnFwdReferenceIdeal.Gen.facts,
  Cert.AdamLb.Gen.facts,
  Cert.AdamLbIdeal.Gen.facts,
  Cert.AdamLbReferenceIdeal.Gen.facts,
  Cert.AdamNorm.Gen.facts,
  Cert.AdamNormIdeal.Gen.facts,
  Cert.AdamNormReferenceIdeal.Gen.facts,
  Cert.AdamHead.Gen.facts,
  Cert.AdamHeadIdeal.Gen.facts,
  Cert.AdamHeadReferenceIdeal.Gen.facts,
  Cert.AdamSconv.Gen.facts,
  Cert.AdamSconvIdeal.Gen.facts,
  Cert.AdamSconvReferenceIdeal.Gen.facts,
  Cert.AdamFconv.Gen.facts,
  Cert.AdamFconvIdeal.Gen.facts,
  Cert.AdamFconvReferenceIdeal.Gen.facts,
  Cert.AdamFbias.Gen.facts,
  Cert.AdamFbiasIdeal.Gen.facts,
  Cert.AdamFbiasReferenceIdeal.Gen.facts,
  Cert.AdamIn.Gen.facts,
  Cert.AdamInIdeal.Gen.facts,
  Cert.AdamInReferenceIdeal.Gen.facts,
  Cert.AdamSquare.Gen.facts,
  Cert.AdamSquareIdeal.Gen.facts,
  Cert.AdamSquareReferenceIdeal.Gen.facts,
  Cert.AdamFfn.Gen.facts,
  Cert.AdamFfnIdeal.Gen.facts,
  Cert.AdamFfnReferenceIdeal.Gen.facts,
  Cert.AdamDown.Gen.facts,
  Cert.AdamDownIdeal.Gen.facts,
  Cert.AdamDownReferenceIdeal.Gen.facts,
  Cert.ProjIn.Gen.facts,
  Cert.ProjInIdeal.Gen.facts,
  Cert.ProjInReferenceIdeal.Gen.facts,
  Cert.Pre_ffn_bwd_finite.Gen.facts,
  Cert.Pre_proj_in_windows.Gen.facts,
  fun m ρ _ => Cert.HgrnBwd.Gen.frame m ρ,
  fun m ρ _ => Cert.HgrnBwdIdeal.Gen.frame m ρ,
  fun m ρ _ => Cert.DZ.Gen.frame m ρ,
  fun m ρ _ => Cert.DZIdeal.Gen.frame m ρ,
  Cert.Products.DZ.reference_frame,
  fun m ρ _ => Cert.GWDown.Gen.frame m ρ,
  fun m ρ _ => Cert.GWDownIdeal.Gen.frame m ρ,
  Cert.Products.GWDown.reference_frame,
  fun m ρ _ => Cert.DH3Gate.Gen.frame m ρ,
  fun m ρ _ => Cert.DH3GateIdeal.Gen.frame m ρ,
  Cert.Products.DH3Gate.reference_frame,
  fun m ρ _ => Cert.DH3Up.Gen.frame m ρ,
  fun m ρ _ => Cert.DH3UpIdeal.Gen.frame m ρ,
  Cert.Products.DH3Up.reference_frame,
  fun m ρ _ => Cert.GWGate.Gen.frame m ρ,
  fun m ρ _ => Cert.GWGateIdeal.Gen.frame m ρ,
  Cert.Products.GWGate.reference_frame,
  fun m ρ _ => Cert.DAtt.Gen.frame m ρ,
  fun m ρ _ => Cert.DAttIdeal.Gen.frame m ρ,
  Cert.Products.DAtt.reference_frame,
  fun m ρ _ => Cert.GWo.Gen.frame m ρ,
  fun m ρ _ => Cert.GWoIdeal.Gen.frame m ρ,
  Cert.Products.GWo.reference_frame,
  fun m ρ _ => Cert.GWk.Gen.frame m ρ,
  fun m ρ _ => Cert.GWkIdeal.Gen.frame m ρ,
  Cert.Products.GWk.reference_frame,
  fun m ρ _ => Cert.DMemK.Gen.frame m ρ,
  fun m ρ _ => Cert.DMemKIdeal.Gen.frame m ρ,
  Cert.Products.DMemK.reference_frame,
  fun m ρ _ => Cert.DMemV.Gen.frame m ρ,
  fun m ρ _ => Cert.DMemVIdeal.Gen.frame m ρ,
  Cert.Products.DMemV.reference_frame,
  fun m ρ _ => Cert.GWIn.Gen.frame m ρ,
  fun m ρ _ => Cert.GWInIdeal.Gen.frame m ρ,
  Cert.Products.GWIn.reference_frame,
  fun m ρ _ => Cert.DH1.Gen.frame m ρ,
  fun m ρ _ => Cert.DH1Ideal.Gen.frame m ρ,
  Cert.Products.DH1.reference_frame,
  fun m ρ _ => Cert.FfnGate.Gen.frame m ρ,
  fun m ρ _ => Cert.FfnGateIdeal.Gen.frame m ρ,
  Cert.Products.FfnGate.reference_frame,
  fun m ρ _ => Cert.FfnDown.Gen.frame m ρ,
  fun m ρ _ => Cert.FfnDownIdeal.Gen.frame m ρ,
  Cert.Products.FfnDown.reference_frame,
  fun m ρ _ => Cert.ProjOut.Gen.frame m ρ,
  fun m ρ _ => Cert.ProjOutIdeal.Gen.frame m ρ,
  Cert.Products.ProjOut.reference_frame,
  fun m ρ _ => Cert.AttnQ.Gen.frame m ρ,
  fun m ρ _ => Cert.AttnQIdeal.Gen.frame m ρ,
  Cert.Products.AttnQ.reference_frame,
  fun m ρ _ => Cert.AttnK.Gen.frame m ρ,
  fun m ρ _ => Cert.AttnKIdeal.Gen.frame m ρ,
  Cert.Products.AttnK.reference_frame,
  fun m ρ _ => Cert.NormFwd.Gen.frame m ρ,
  fun m ρ _ => Cert.NormFwdIdeal.Gen.frame m ρ,
  Cert.Norms.NormFwd.reference_frame,
  fun m ρ _ => Cert.NormMem.Gen.frame m ρ,
  fun m ρ _ => Cert.NormMemIdeal.Gen.frame m ρ,
  Cert.Norms.NormMem.reference_frame,
  fun m ρ _ => Cert.NormBwd.Gen.frame m ρ,
  fun m ρ _ => Cert.NormBwdIdeal.Gen.frame m ρ,
  Cert.Norms.NormBwd.reference_frame,
  fun m ρ _ => Cert.NormMemBwd.Gen.frame m ρ,
  fun m ρ _ => Cert.NormMemBwdIdeal.Gen.frame m ρ,
  Cert.Norms.NormMemBwd.reference_frame,
  fun m ρ _ => Cert.LossBwd.Gen.frame m ρ,
  fun m ρ _ => Cert.LossBwdIdeal.Gen.frame m ρ,
  Cert.Norms.LossBwd.reference_frame,
  fun m ρ _ => Cert.FfnFwd.Gen.frame m ρ,
  fun m ρ _ => Cert.FfnFwdIdeal.Gen.frame m ρ,
  Cert.Convs.FfnFwd.reference_frame,
  fun m ρ _ => Cert.FfnBwd.Gen.frame m ρ,
  fun m ρ _ => Cert.FfnBwdIdeal.Gen.frame m ρ,
  fun m ρ _ => Cert.FfnBwdIdeal.Gen.frame m ρ,
  Cert.Convs.FfnBwd.reference_frame,
  Cert.Convs.FfnBwd.reference_frame_pre,
  fun m ρ _ => Cert.SconvFwd.Gen.frame m ρ,
  fun m ρ _ => Cert.SconvFwdIdeal.Gen.frame m ρ,
  Cert.Convs.SconvFwd.reference_frame,
  fun m ρ _ => Cert.SconvBwd.Gen.frame m ρ,
  fun m ρ _ => Cert.SconvBwdIdeal.Gen.frame m ρ,
  Cert.Convs.SconvBwd.reference_frame,
  fun m ρ _ => Cert.AttnFwd.Gen.frame m ρ,
  fun m ρ _ => Cert.AttnFwdIdeal.Gen.frame m ρ,
  Cert.Convs.AttnFwd.reference_frame,
  fun m ρ _ => Cert.AdamLb.Gen.frame m ρ,
  fun m ρ _ => Cert.AdamLbIdeal.Gen.frame m ρ,
  Cert.Optimizer.AdamLb.reference_frame,
  fun m ρ _ => Cert.AdamNorm.Gen.frame m ρ,
  fun m ρ _ => Cert.AdamNormIdeal.Gen.frame m ρ,
  Cert.Optimizer.AdamNorm.reference_frame,
  fun m ρ _ => Cert.AdamHead.Gen.frame m ρ,
  fun m ρ _ => Cert.AdamHeadIdeal.Gen.frame m ρ,
  Cert.Optimizer.AdamHead.reference_frame,
  fun m ρ _ => Cert.AdamSconv.Gen.frame m ρ,
  fun m ρ _ => Cert.AdamSconvIdeal.Gen.frame m ρ,
  Cert.Optimizer.AdamSconv.reference_frame,
  fun m ρ _ => Cert.AdamFconv.Gen.frame m ρ,
  fun m ρ _ => Cert.AdamFconvIdeal.Gen.frame m ρ,
  Cert.Optimizer.AdamFconv.reference_frame,
  fun m ρ _ => Cert.AdamFbias.Gen.frame m ρ,
  fun m ρ _ => Cert.AdamFbiasIdeal.Gen.frame m ρ,
  Cert.Optimizer.AdamFbias.reference_frame,
  fun m ρ _ => Cert.AdamIn.Gen.frame m ρ,
  fun m ρ _ => Cert.AdamInIdeal.Gen.frame m ρ,
  Cert.Optimizer.AdamIn.reference_frame,
  fun m ρ _ => Cert.AdamSquare.Gen.frame m ρ,
  fun m ρ _ => Cert.AdamSquareIdeal.Gen.frame m ρ,
  Cert.Optimizer.AdamSquare.reference_frame,
  fun m ρ _ => Cert.AdamFfn.Gen.frame m ρ,
  fun m ρ _ => Cert.AdamFfnIdeal.Gen.frame m ρ,
  Cert.Optimizer.AdamFfn.reference_frame,
  fun m ρ _ => Cert.AdamDown.Gen.frame m ρ,
  fun m ρ _ => Cert.AdamDownIdeal.Gen.frame m ρ,
  Cert.Optimizer.AdamDown.reference_frame,
  Cert.Products.ProjIn.frame_bits,
  Cert.Products.ProjIn.frame_ideal,
  Cert.Products.ProjIn.reference_frame,
  Cert.Products.ProjIn.reference_frame_pre,
  trivial,
  trivial,
  Cert.Products.DZ.claim,
  trivial,
  Cert.Products.GWDown.claim,
  trivial,
  Cert.Products.DH3Gate.claim,
  trivial,
  Cert.Products.DH3Up.claim,
  trivial,
  Cert.Products.GWGate.claim,
  trivial,
  Cert.Products.DAtt.claim,
  trivial,
  Cert.Products.GWo.claim,
  trivial,
  Cert.Products.GWk.claim,
  trivial,
  Cert.Products.DMemK.claim,
  trivial,
  Cert.Products.DMemV.claim,
  trivial,
  Cert.Products.GWIn.claim,
  trivial,
  Cert.Products.DH1.claim,
  trivial,
  Cert.Products.FfnGate.claim,
  trivial,
  Cert.Products.FfnDown.claim,
  trivial,
  Cert.Products.ProjOut.claim,
  trivial,
  Cert.Products.AttnQ.claim,
  trivial,
  Cert.Products.AttnK.claim,
  trivial,
  Cert.Norms.NormFwd.claim,
  trivial,
  Cert.Norms.NormMem.claim,
  trivial,
  Cert.Norms.NormBwd.claim,
  trivial,
  Cert.Norms.NormMemBwd.claim,
  trivial,
  Cert.Norms.LossBwd.claim,
  trivial,
  Cert.Convs.FfnFwd.claim,
  trivial,
  Cert.Convs.FfnBwd.claim,
  trivial,
  Cert.Convs.SconvFwd.claim,
  trivial,
  Cert.Convs.SconvBwd.claim,
  IdealRules.named_const.statement Cert.AttnFwdIdeal.κ "s" .f32 0x3D3504F3#32 (((Real.sqrt 512)⁻¹ : ℝ) : EReal) rfl,
  Cert.Convs.AttnFwd.claim,
  trivial,
  Cert.Optimizer.AdamLb.claim,
  trivial,
  Cert.Optimizer.AdamNorm.claim,
  trivial,
  Cert.Optimizer.AdamHead.claim,
  trivial,
  Cert.Optimizer.AdamSconv.claim,
  trivial,
  Cert.Optimizer.AdamFconv.claim,
  trivial,
  Cert.Optimizer.AdamFbias.claim,
  trivial,
  Cert.Optimizer.AdamIn.claim,
  trivial,
  Cert.Optimizer.AdamSquare.claim,
  trivial,
  Cert.Optimizer.AdamFfn.claim,
  trivial,
  Cert.Optimizer.AdamDown.claim,
  trivial,
  Cert.Products.ProjIn.claim⟩

end Cert.Proof

end
